-- ==== Defs.lean ====
def Pre_Kernel (m : (ℓ : Loc Cert.Kernel.nD Cert.Kernel.τ Cert.Kernel.sig) → Buf (Elt Bits) ℓ) : Prop :=
  True

def Pre_KernelWords (m : (ℓ : Loc Cert.KernelWords.nD Cert.KernelWords.τ Cert.KernelWords.sig) → Buf (Elt Bits) ℓ) : Prop :=
  True

def Pre_KernelWordsIdeal (m : (ℓ : Loc Cert.KernelWordsIdeal.nD Cert.KernelWordsIdeal.τ Cert.KernelWordsIdeal.sig) → Buf (Elt Ideal) ℓ) : Prop :=
  True

def Pre_KernelWordsIdeal_valid [hPre_valid : Cert.Pre_valid.Facts] (m : (ℓ : Loc Cert.KernelWordsIdeal.nD Cert.KernelWordsIdeal.τ Cert.KernelWordsIdeal.sig) → Buf (Elt Ideal) ℓ) : Prop :=
  ∀ c : Dev Cert.KernelWordsIdeal.nD,
    (Cert.Pre_valid.fn (F := Ideal) (m ((c.tc : Thread Cert.KernelWordsIdeal.nD Cert.KernelWordsIdeal.τ).loc Cert.KernelWordsIdeal.main_arg0)) (m ((c.tc : Thread Cert.KernelWordsIdeal.nD Cert.KernelWordsIdeal.τ).loc Cert.KernelWordsIdeal.main_arg1)) (m ((c.tc : Thread Cert.KernelWordsIdeal.nD Cert.KernelWordsIdeal.τ).loc Cert.KernelWordsIdeal.main_arg2)) (m ((c.tc : Thread Cert.KernelWordsIdeal.nD Cert.KernelWordsIdeal.τ).loc Cert.KernelWordsIdeal.main_arg3)) (m ((c.tc : Thread Cert.KernelWordsIdeal.nD Cert.KernelWordsIdeal.τ).loc Cert.KernelWordsIdeal.main_arg4)) (m ((c.tc : Thread Cert.KernelWordsIdeal.nD Cert.KernelWordsIdeal.τ).loc Cert.KernelWordsIdeal.main_arg5)) (m ((c.tc : Thread Cert.KernelWordsIdeal.nD Cert.KernelWordsIdeal.τ).loc Cert.KernelWordsIdeal.main_arg6)) (m ((c.tc : Thread Cert.KernelWordsIdeal.nD Cert.KernelWordsIdeal.τ).loc Cert.KernelWordsIdeal.main_arg7)) (m ((c.tc : Thread Cert.KernelWordsIdeal.nD Cert.KernelWordsIdeal.τ).loc Cert.KernelWordsIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid [hPre_valid : Cert.Pre_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_valid_attn [hPre_valid_attn : Cert.Pre_valid_attn.Facts] (m : (ℓ : Loc Cert.AttnIdeal.nD Cert.AttnIdeal.τ Cert.AttnIdeal.sig) → Buf (Elt Ideal) ℓ) : Prop :=
  ∀ c : Dev Cert.AttnIdeal.nD,
    (Cert.Pre_valid_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_valid_attn [hPre_valid_attn : Cert.Pre_valid_attn.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_valid_attn.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelWords [hKernelWords : Cert.KernelWords.Facts] : Prop :=
  ∀ (m : (ℓ : Loc Cert.KernelWords.nD Cert.KernelWords.τ Cert.KernelWords.sig) → Buf (Elt Bits) ℓ) (g : Dev Cert.KernelWords.nD → PrngReg), Pre_KernelWords m →
    θ_run (Cert.KernelWords.defs (F := Bits)) (onTc (τ := Cert.KernelWords.τ) (Cert.KernelWords.main (F := Bits))) ⟨m, fun _ => 0, g⟩ (fun r => (∀ c : Dev Cert.KernelWords.nD,
      r.2.mem ((c.tc : Thread Cert.KernelWords.nD Cert.KernelWords.τ).loc Cert.KernelWords.main_arg0) = m ((c.tc : Thread Cert.KernelWords.nD Cert.KernelWords.τ).loc Cert.KernelWords.main_arg0)
      ∧ r.2.mem ((c.tc : Thread Cert.KernelWords.nD Cert.KernelWords.τ).loc Cert.KernelWords.main_arg1) = m ((c.tc : Thread Cert.KernelWords.nD Cert.KernelWords.τ).loc Cert.KernelWords.main_arg1)
      ∧ r.2.mem ((c.tc : Thread Cert.KernelWords.nD Cert.KernelWords.τ).loc Cert.KernelWords.main_arg2) = m ((c.tc : Thread Cert.KernelWords.nD Cert.KernelWords.τ).loc Cert.KernelWords.main_arg2)
      ∧ r.2.mem ((c.tc : Thread Cert.KernelWords.nD Cert.KernelWords.τ).loc Cert.KernelWords.main_arg3) = m ((c.tc : Thread Cert.KernelWords.nD Cert.KernelWords.τ).loc Cert.KernelWords.main_arg3)
      ∧ r.2.mem ((c.tc : Thread Cert.KernelWords.nD Cert.KernelWords.τ).loc Cert.KernelWords.main_arg4) = m ((c.tc : Thread Cert.KernelWords.nD Cert.KernelWords.τ).loc Cert.KernelWords.main_arg4)
      ∧ r.2.mem ((c.tc : Thread Cert.KernelWords.nD Cert.KernelWords.τ).loc Cert.KernelWords.main_arg5) = m ((c.tc : Thread Cert.KernelWords.nD Cert.KernelWords.τ).loc Cert.KernelWords.main_arg5)
      ∧ r.2.mem ((c.tc : Thread Cert.KernelWords.nD Cert.KernelWords.τ).loc Cert.KernelWords.main_arg6) = m ((c.tc : Thread Cert.KernelWords.nD Cert.KernelWords.τ).loc Cert.KernelWords.main_arg6)
      ∧ r.2.mem ((c.tc : Thread Cert.KernelWords.nD Cert.KernelWords.τ).loc Cert.KernelWords.main_arg7) = m ((c.tc : Thread Cert.KernelWords.nD Cert.KernelWords.τ).loc Cert.KernelWords.main_arg7)
      ∧ r.2.mem ((c.tc : Thread Cert.KernelWords.nD Cert.KernelWords.τ).loc Cert.KernelWords.main_arg8) = m ((c.tc : Thread Cert.KernelWords.nD Cert.KernelWords.τ).loc Cert.KernelWords.main_arg8))
      ∧ r.2.sem = fun _ => 0)

def quiescent_KernelWordsIdeal [hKernelWordsIdeal : Cert.KernelWordsIdeal.Facts] : Prop :=
  ∀ (m : (ℓ : Loc Cert.KernelWordsIdeal.nD Cert.KernelWordsIdeal.τ Cert.KernelWordsIdeal.sig) → Buf (Elt Ideal) ℓ) (g : Dev Cert.KernelWordsIdeal.nD → PrngReg), Pre_KernelWordsIdeal m →
    θ_run (Cert.KernelWordsIdeal.defs (F := Ideal)) (onTc (τ := Cert.KernelWordsIdeal.τ) (Cert.KernelWordsIdeal.main (F := Ideal))) ⟨m, fun _ => 0, g⟩ (fun r => (∀ c : Dev Cert.KernelWordsIdeal.nD,
      r.2.mem ((c.tc : Thread Cert.KernelWordsIdeal.nD Cert.KernelWordsIdeal.τ).loc Cert.KernelWordsIdeal.main_arg0) = m ((c.tc : Thread Cert.KernelWordsIdeal.nD Cert.KernelWordsIdeal.τ).loc Cert.KernelWordsIdeal.main_arg0)
      ∧ r.2.mem ((c.tc : Thread Cert.KernelWordsIdeal.nD Cert.KernelWordsIdeal.τ).loc Cert.KernelWordsIdeal.main_arg1) = m ((c.tc : Thread Cert.KernelWordsIdeal.nD Cert.KernelWordsIdeal.τ).loc Cert.KernelWordsIdeal.main_arg1)
      ∧ r.2.mem ((c.tc : Thread Cert.KernelWordsIdeal.nD Cert.KernelWordsIdeal.τ).loc Cert.KernelWordsIdeal.main_arg2) = m ((c.tc : Thread Cert.KernelWordsIdeal.nD Cert.KernelWordsIdeal.τ).loc Cert.KernelWordsIdeal.main_arg2)
      ∧ r.2.mem ((c.tc : Thread Cert.KernelWordsIdeal.nD Cert.KernelWordsIdeal.τ).loc Cert.KernelWordsIdeal.main_arg3) = m ((c.tc : Thread Cert.KernelWordsIdeal.nD Cert.KernelWordsIdeal.τ).loc Cert.KernelWordsIdeal.main_arg3)
      ∧ r.2.mem ((c.tc : Thread Cert.KernelWordsIdeal.nD Cert.KernelWordsIdeal.τ).loc Cert.KernelWordsIdeal.main_arg4) = m ((c.tc : Thread Cert.KernelWordsIdeal.nD Cert.KernelWordsIdeal.τ).loc Cert.KernelWordsIdeal.main_arg4)
      ∧ r.2.mem ((c.tc : Thread Cert.KernelWordsIdeal.nD Cert.KernelWordsIdeal.τ).loc Cert.KernelWordsIdeal.main_arg5) = m ((c.tc : Thread Cert.KernelWordsIdeal.nD Cert.KernelWordsIdeal.τ).loc Cert.KernelWordsIdeal.main_arg5)
      ∧ r.2.mem ((c.tc : Thread Cert.KernelWordsIdeal.nD Cert.KernelWordsIdeal.τ).loc Cert.KernelWordsIdeal.main_arg6) = m ((c.tc : Thread Cert.KernelWordsIdeal.nD Cert.KernelWordsIdeal.τ).loc Cert.KernelWordsIdeal.main_arg6)
      ∧ r.2.mem ((c.tc : Thread Cert.KernelWordsIdeal.nD Cert.KernelWordsIdeal.τ).loc Cert.KernelWordsIdeal.main_arg7) = m ((c.tc : Thread Cert.KernelWordsIdeal.nD Cert.KernelWordsIdeal.τ).loc Cert.KernelWordsIdeal.main_arg7)
      ∧ r.2.mem ((c.tc : Thread Cert.KernelWordsIdeal.nD Cert.KernelWordsIdeal.τ).loc Cert.KernelWordsIdeal.main_arg8) = m ((c.tc : Thread Cert.KernelWordsIdeal.nD Cert.KernelWordsIdeal.τ).loc Cert.KernelWordsIdeal.main_arg8))
      ∧ r.2.sem = fun _ => 0)

def quiescent_KernelWordsIdeal_pre_valid [hKernelWordsIdeal : Cert.KernelWordsIdeal.Facts] [hPre_valid : Cert.Pre_valid.Facts] : Prop :=
  ∀ (m : (ℓ : Loc Cert.KernelWordsIdeal.nD Cert.KernelWordsIdeal.τ Cert.KernelWordsIdeal.sig) → Buf (Elt Ideal) ℓ) (g : Dev Cert.KernelWordsIdeal.nD → PrngReg), Pre_KernelWordsIdeal_valid m →
    θ_run (Cert.KernelWordsIdeal.defs (F := Ideal)) (onTc (τ := Cert.KernelWordsIdeal.τ) (Cert.KernelWordsIdeal.main (F := Ideal))) ⟨m, fun _ => 0, g⟩ (fun r => (∀ c : Dev Cert.KernelWordsIdeal.nD,
      r.2.mem ((c.tc : Thread Cert.KernelWordsIdeal.nD Cert.KernelWordsIdeal.τ).loc Cert.KernelWordsIdeal.main_arg0) = m ((c.tc : Thread Cert.KernelWordsIdeal.nD Cert.KernelWordsIdeal.τ).loc Cert.KernelWordsIdeal.main_arg0)
      ∧ r.2.mem ((c.tc : Thread Cert.KernelWordsIdeal.nD Cert.KernelWordsIdeal.τ).loc Cert.KernelWordsIdeal.main_arg1) = m ((c.tc : Thread Cert.KernelWordsIdeal.nD Cert.KernelWordsIdeal.τ).loc Cert.KernelWordsIdeal.main_arg1)
      ∧ r.2.mem ((c.tc : Thread Cert.KernelWordsIdeal.nD Cert.KernelWordsIdeal.τ).loc Cert.KernelWordsIdeal.main_arg2) = m ((c.tc : Thread Cert.KernelWordsIdeal.nD Cert.KernelWordsIdeal.τ).loc Cert.KernelWordsIdeal.main_arg2)
      ∧ r.2.mem ((c.tc : Thread Cert.KernelWordsIdeal.nD Cert.KernelWordsIdeal.τ).loc Cert.KernelWordsIdeal.main_arg3) = m ((c.tc : Thread Cert.KernelWordsIdeal.nD Cert.KernelWordsIdeal.τ).loc Cert.KernelWordsIdeal.main_arg3)
      ∧ r.2.mem ((c.tc : Thread Cert.KernelWordsIdeal.nD Cert.KernelWordsIdeal.τ).loc Cert.KernelWordsIdeal.main_arg4) = m ((c.tc : Thread Cert.KernelWordsIdeal.nD Cert.KernelWordsIdeal.τ).loc Cert.KernelWordsIdeal.main_arg4)
      ∧ r.2.mem ((c.tc : Thread Cert.KernelWordsIdeal.nD Cert.KernelWordsIdeal.τ).loc Cert.KernelWordsIdeal.main_arg5) = m ((c.tc : Thread Cert.KernelWordsIdeal.nD Cert.KernelWordsIdeal.τ).loc Cert.KernelWordsIdeal.main_arg5)
      ∧ r.2.mem ((c.tc : Thread Cert.KernelWordsIdeal.nD Cert.KernelWordsIdeal.τ).loc Cert.KernelWordsIdeal.main_arg6) = m ((c.tc : Thread Cert.KernelWordsIdeal.nD Cert.KernelWordsIdeal.τ).loc Cert.KernelWordsIdeal.main_arg6)
      ∧ r.2.mem ((c.tc : Thread Cert.KernelWordsIdeal.nD Cert.KernelWordsIdeal.τ).loc Cert.KernelWordsIdeal.main_arg7) = m ((c.tc : Thread Cert.KernelWordsIdeal.nD Cert.KernelWordsIdeal.τ).loc Cert.KernelWordsIdeal.main_arg7)
      ∧ r.2.mem ((c.tc : Thread Cert.KernelWordsIdeal.nD Cert.KernelWordsIdeal.τ).loc Cert.KernelWordsIdeal.main_arg8) = m ((c.tc : Thread Cert.KernelWordsIdeal.nD Cert.KernelWordsIdeal.τ).loc Cert.KernelWordsIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_valid [hReferenceIdeal : Cert.ReferenceIdeal.Facts] [hPre_valid : Cert.Pre_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_valid_attn [hAttnIdeal : Cert.AttnIdeal.Facts] [hPre_valid_attn : Cert.Pre_valid_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_valid_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3))
      ∧ r.2.sem = fun _ => 0)

def quiescent_AttnReferenceIdeal_pre_valid_attn [hAttnReferenceIdeal : Cert.AttnReferenceIdeal.Facts] [hPre_valid_attn : Cert.Pre_valid_attn.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_valid_attn m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3))
      ∧ r.2.sem = fun _ => 0)

def preserves_KernelWords_KernelWordsIdeal : Prop :=
  IdealRules.bf16_pair.BufferStatement Cert.KernelWordsIdeal.S36864x2x128 Cert.KernelWordsIdeal.S36864x1x128
  ∧ IdealRules.bf16_pair.PackStatement Cert.KernelWordsIdeal.S64x128
  ∧ IdealRules.bf16_pair.Statement Cert.KernelWordsIdeal.S64x2x128 Cert.KernelWordsIdeal.S64x1x128
  ∧ IdealRules.bf16_pair.Statement Cert.KernelWordsIdeal.S512x2x128 Cert.KernelWordsIdeal.S512x1x128
  ∧ IdealRules.bf16_pair.Statement Cert.KernelWordsIdeal.S1024x128 Cert.KernelWordsIdeal.S512x128

def algebraic_KernelWordsIdeal_ReferenceIdeal_pre_valid [hKernelWordsIdeal : Cert.KernelWordsIdeal.Facts] [hReferenceIdeal : Cert.ReferenceIdeal.Facts] [hPre_valid : Cert.Pre_valid.Facts] : Prop :=
  ∀ (m : (ℓ : Loc Cert.KernelWordsIdeal.nD Cert.KernelWordsIdeal.τ Cert.KernelWordsIdeal.sig) → Buf (Elt Ideal) ℓ) (g : Dev Cert.KernelWordsIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelWordsIdeal_valid m →
    (∀ c : Dev Cert.KernelWordsIdeal.nD,
      m' ((c.tc : Thread Cert.ReferenceIdeal.nD Cert.ReferenceIdeal.τ).loc Cert.ReferenceIdeal.main_arg0) = m ((c.tc : Thread Cert.KernelWordsIdeal.nD Cert.KernelWordsIdeal.τ).loc Cert.KernelWordsIdeal.main_arg0)
      ∧ m' ((c.tc : Thread Cert.ReferenceIdeal.nD Cert.ReferenceIdeal.τ).loc Cert.ReferenceIdeal.main_arg1) = m ((c.tc : Thread Cert.KernelWordsIdeal.nD Cert.KernelWordsIdeal.τ).loc Cert.KernelWordsIdeal.main_arg1)
      ∧ m' ((c.tc : Thread Cert.ReferenceIdeal.nD Cert.ReferenceIdeal.τ).loc Cert.ReferenceIdeal.main_arg2) = m ((c.tc : Thread Cert.KernelWordsIdeal.nD Cert.KernelWordsIdeal.τ).loc Cert.KernelWordsIdeal.main_arg2)
      ∧ m' ((c.tc : Thread Cert.ReferenceIdeal.nD Cert.ReferenceIdeal.τ).loc Cert.ReferenceIdeal.main_arg3) = m ((c.tc : Thread Cert.KernelWordsIdeal.nD Cert.KernelWordsIdeal.τ).loc Cert.KernelWordsIdeal.main_arg3)
      ∧ m' ((c.tc : Thread Cert.ReferenceIdeal.nD Cert.ReferenceIdeal.τ).loc Cert.ReferenceIdeal.main_arg4) = m ((c.tc : Thread Cert.KernelWordsIdeal.nD Cert.KernelWordsIdeal.τ).loc Cert.KernelWordsIdeal.main_arg4)
      ∧ m' ((c.tc : Thread Cert.ReferenceIdeal.nD Cert.ReferenceIdeal.τ).loc Cert.ReferenceIdeal.main_arg5) = m ((c.tc : Thread Cert.KernelWordsIdeal.nD Cert.KernelWordsIdeal.τ).loc Cert.KernelWordsIdeal.main_arg5)
      ∧ m' ((c.tc : Thread Cert.ReferenceIdeal.nD Cert.ReferenceIdeal.τ).loc Cert.ReferenceIdeal.main_arg6) = m ((c.tc : Thread Cert.KernelWordsIdeal.nD Cert.KernelWordsIdeal.τ).loc Cert.KernelWordsIdeal.main_arg6)
      ∧ m' ((c.tc : Thread Cert.ReferenceIdeal.nD Cert.ReferenceIdeal.τ).loc Cert.ReferenceIdeal.main_arg7) = m ((c.tc : Thread Cert.KernelWordsIdeal.nD Cert.KernelWordsIdeal.τ).loc Cert.KernelWordsIdeal.main_arg7)
      ∧ m' ((c.tc : Thread Cert.ReferenceIdeal.nD Cert.ReferenceIdeal.τ).loc Cert.ReferenceIdeal.main_arg8) = m ((c.tc : Thread Cert.KernelWordsIdeal.nD Cert.KernelWordsIdeal.τ).loc Cert.KernelWordsIdeal.main_arg8)) →
    ∃ (v0 : (c : Dev Cert.KernelWordsIdeal.nD) → Buf (Elt Ideal) ((c.tc : Thread Cert.KernelWordsIdeal.nD Cert.KernelWordsIdeal.τ).loc Cert.KernelWordsIdeal.main_v8)),
      θ_run (Cert.KernelWordsIdeal.defs (F := Ideal)) (onTc (τ := Cert.KernelWordsIdeal.τ) (Cert.KernelWordsIdeal.main (F := Ideal))) ⟨m, fun _ => 0, g⟩ (fun r => ∀ c : Dev Cert.KernelWordsIdeal.nD,
          r.2.mem ((c.tc : Thread Cert.KernelWordsIdeal.nD Cert.KernelWordsIdeal.τ).loc Cert.KernelWordsIdeal.main_v8) = v0 c
          ∧ r.2.mem ((c.tc : Thread Cert.KernelWordsIdeal.nD Cert.KernelWordsIdeal.τ).loc Cert.KernelWordsIdeal.main_arg0) = m ((c.tc : Thread Cert.KernelWordsIdeal.nD Cert.KernelWordsIdeal.τ).loc Cert.KernelWordsIdeal.main_arg0)
          ∧ r.2.mem ((c.tc : Thread Cert.KernelWordsIdeal.nD Cert.KernelWordsIdeal.τ).loc Cert.KernelWordsIdeal.main_arg1) = m ((c.tc : Thread Cert.KernelWordsIdeal.nD Cert.KernelWordsIdeal.τ).loc Cert.KernelWordsIdeal.main_arg1)
          ∧ r.2.mem ((c.tc : Thread Cert.KernelWordsIdeal.nD Cert.KernelWordsIdeal.τ).loc Cert.KernelWordsIdeal.main_arg2) = m ((c.tc : Thread Cert.KernelWordsIdeal.nD Cert.KernelWordsIdeal.τ).loc Cert.KernelWordsIdeal.main_arg2)
          ∧ r.2.mem ((c.tc : Thread Cert.KernelWordsIdeal.nD Cert.KernelWordsIdeal.τ).loc Cert.KernelWordsIdeal.main_arg3) = m ((c.tc : Thread Cert.KernelWordsIdeal.nD Cert.KernelWordsIdeal.τ).loc Cert.KernelWordsIdeal.main_arg3)
          ∧ r.2.mem ((c.tc : Thread Cert.KernelWordsIdeal.nD Cert.KernelWordsIdeal.τ).loc Cert.KernelWordsIdeal.main_arg4) = m ((c.tc : Thread Cert.KernelWordsIdeal.nD Cert.KernelWordsIdeal.τ).loc Cert.KernelWordsIdeal.main_arg4)
          ∧ r.2.mem ((c.tc : Thread Cert.KernelWordsIdeal.nD Cert.KernelWordsIdeal.τ).loc Cert.KernelWordsIdeal.main_arg5) = m ((c.tc : Thread Cert.KernelWordsIdeal.nD Cert.KernelWordsIdeal.τ).loc Cert.KernelWordsIdeal.main_arg5)
          ∧ r.2.mem ((c.tc : Thread Cert.KernelWordsIdeal.nD Cert.KernelWordsIdeal.τ).loc Cert.KernelWordsIdeal.main_arg6) = m ((c.tc : Thread Cert.KernelWordsIdeal.nD Cert.KernelWordsIdeal.τ).loc Cert.KernelWordsIdeal.main_arg6)
          ∧ r.2.mem ((c.tc : Thread Cert.KernelWordsIdeal.nD Cert.KernelWordsIdeal.τ).loc Cert.KernelWordsIdeal.main_arg7) = m ((c.tc : Thread Cert.KernelWordsIdeal.nD Cert.KernelWordsIdeal.τ).loc Cert.KernelWordsIdeal.main_arg7)
          ∧ r.2.mem ((c.tc : Thread Cert.KernelWordsIdeal.nD Cert.KernelWordsIdeal.τ).loc Cert.KernelWordsIdeal.main_arg8) = m ((c.tc : Thread Cert.KernelWordsIdeal.nD Cert.KernelWordsIdeal.τ).loc Cert.KernelWordsIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Inproj_InprojIdeal : Prop :=
  True

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v11_0)) (v1 : (c : Dev Cert.InprojIdeal.nD) → Buf (Elt Ideal) ((c.tc : Thread Cert.InprojIdeal.nD Cert.InprojIdeal.τ).loc Cert.InprojIdeal.main_v11_1)) (v2 : (c : Dev Cert.InprojIdeal.nD) → Buf (Elt Ideal) ((c.tc : Thread Cert.InprojIdeal.nD Cert.InprojIdeal.τ).loc Cert.InprojIdeal.main_v11_2)) (v3 : (c : Dev Cert.InprojIdeal.nD) → Buf (Elt Ideal) ((c.tc : Thread Cert.InprojIdeal.nD Cert.InprojIdeal.τ).loc Cert.InprojIdeal.main_v11_3)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v11_0) = v0 c
          ∧ r.2.mem ((c.tc : Thread Cert.InprojIdeal.nD Cert.InprojIdeal.τ).loc Cert.InprojIdeal.main_v11_1) = v1 c
          ∧ r.2.mem ((c.tc : Thread Cert.InprojIdeal.nD Cert.InprojIdeal.τ).loc Cert.InprojIdeal.main_v11_2) = v2 c
          ∧ r.2.mem ((c.tc : Thread Cert.InprojIdeal.nD Cert.InprojIdeal.τ).loc Cert.InprojIdeal.main_v11_3) = v3 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v22) = v0 c
          ∧ r.2.mem ((c.tc : Thread Cert.InprojReferenceIdeal.nD Cert.InprojReferenceIdeal.τ).loc Cert.InprojReferenceIdeal.main_v26) = v1 c
          ∧ r.2.mem ((c.tc : Thread Cert.InprojReferenceIdeal.nD Cert.InprojReferenceIdeal.τ).loc Cert.InprojReferenceIdeal.main_v27) = v2 c
          ∧ r.2.mem ((c.tc : Thread Cert.InprojReferenceIdeal.nD Cert.InprojReferenceIdeal.τ).loc Cert.InprojReferenceIdeal.main_v25) = v3 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
      ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)
      ∧ m' ((c.tc : Thread Cert.MixReferenceIdeal.nD Cert.MixReferenceIdeal.τ).loc Cert.MixReferenceIdeal.main_arg9) = m ((c.tc : Thread Cert.MixIdeal.nD Cert.MixIdeal.τ).loc Cert.MixIdeal.main_arg9)) →
    ∃ (v0 : (c : Dev Cert.MixIdeal.nD) → Buf (Elt Ideal) ((c.tc : Thread Cert.MixIdeal.nD Cert.MixIdeal.τ).loc Cert.MixIdeal.main_v8_0)) (v1 : (c : Dev Cert.MixIdeal.nD) → Buf (Elt Ideal) ((c.tc : Thread Cert.MixIdeal.nD Cert.MixIdeal.τ).loc Cert.MixIdeal.main_v8_1)) (v2 : (c : Dev Cert.MixIdeal.nD) → Buf (Elt Ideal) ((c.tc : Thread Cert.MixIdeal.nD Cert.MixIdeal.τ).loc Cert.MixIdeal.main_v8_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v8_0) = v0 c
          ∧ r.2.mem ((c.tc : Thread Cert.MixIdeal.nD Cert.MixIdeal.τ).loc Cert.MixIdeal.main_v8_1) = v1 c
          ∧ r.2.mem ((c.tc : Thread Cert.MixIdeal.nD Cert.MixIdeal.τ).loc Cert.MixIdeal.main_v8_2) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v23) = v0 c
          ∧ r.2.mem ((c.tc : Thread Cert.MixReferenceIdeal.nD Cert.MixReferenceIdeal.τ).loc Cert.MixReferenceIdeal.main_v43) = v1 c
          ∧ r.2.mem ((c.tc : Thread Cert.MixReferenceIdeal.nD Cert.MixReferenceIdeal.τ).loc Cert.MixReferenceIdeal.main_v44) = v2 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9))

def preserves_Attn_AttnIdeal : Prop :=
  True

def algebraic_AttnIdeal_AttnReferenceIdeal_pre_valid_attn [hAttnIdeal : Cert.AttnIdeal.Facts] [hAttnReferenceIdeal : Cert.AttnReferenceIdeal.Facts] [hPre_valid_attn : Cert.Pre_valid_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnIdeal_valid_attn m →
    (∀ c : Dev Cert.AttnIdeal.nD,
      m' ((c.tc : Thread Cert.AttnReferenceIdeal.nD Cert.AttnReferenceIdeal.τ).loc Cert.AttnReferenceIdeal.main_arg0) = m ((c.tc : Thread Cert.AttnIdeal.nD Cert.AttnIdeal.τ).loc Cert.AttnIdeal.main_arg0)
      ∧ m' ((c.tc : Thread Cert.AttnReferenceIdeal.nD Cert.AttnReferenceIdeal.τ).loc Cert.AttnReferenceIdeal.main_arg1) = m ((c.tc : Thread Cert.AttnIdeal.nD Cert.AttnIdeal.τ).loc Cert.AttnIdeal.main_arg1)
      ∧ m' ((c.tc : Thread Cert.AttnReferenceIdeal.nD Cert.AttnReferenceIdeal.τ).loc Cert.AttnReferenceIdeal.main_arg2) = m ((c.tc : Thread Cert.AttnIdeal.nD Cert.AttnIdeal.τ).loc Cert.AttnIdeal.main_arg2)
      ∧ m' ((c.tc : Thread Cert.AttnReferenceIdeal.nD Cert.AttnReferenceIdeal.τ).loc Cert.AttnReferenceIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v28)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v28) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v27) = v0 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3))

def Claim : Prop :=
  ∃ (hKernel : Cert.Kernel.Facts) (hKernelWords : Cert.KernelWords.Facts) (hKernelWordsIdeal : Cert.KernelWordsIdeal.Facts) (hReferenceIdeal : Cert.ReferenceIdeal.Facts) (hInproj : Cert.Inproj.Facts) (hInprojIdeal : Cert.InprojIdeal.Facts) (hInprojReferenceIdeal : Cert.InprojReferenceIdeal.Facts) (hMix : Cert.Mix.Facts) (hMixIdeal : Cert.MixIdeal.Facts) (hMixReferenceIdeal : Cert.MixReferenceIdeal.Facts) (hAttn : Cert.Attn.Facts) (hAttnIdeal : Cert.AttnIdeal.Facts) (hAttnReferenceIdeal : Cert.AttnReferenceIdeal.Facts) (hPre_valid : Cert.Pre_valid.Facts) (hPre_valid_attn : Cert.Pre_valid_attn.Facts),
    quiescent_Kernel (hKernel := hKernel)
    ∧ quiescent_KernelWords (hKernelWords := hKernelWords)
    ∧ quiescent_KernelWordsIdeal (hKernelWordsIdeal := hKernelWordsIdeal)
    ∧ quiescent_KernelWordsIdeal_pre_valid (hKernelWordsIdeal := hKernelWordsIdeal) (hPre_valid := hPre_valid)
    ∧ quiescent_ReferenceIdeal (hReferenceIdeal := hReferenceIdeal)
    ∧ quiescent_ReferenceIdeal_pre_valid (hReferenceIdeal := hReferenceIdeal) (hPre_valid := hPre_valid)
    ∧ quiescent_Inproj (hInproj := hInproj)
    ∧ quiescent_InprojIdeal (hInprojIdeal := hInprojIdeal)
    ∧ quiescent_InprojReferenceIdeal (hInprojReferenceIdeal := hInprojReferenceIdeal)
    ∧ quiescent_Mix (hMix := hMix)
    ∧ quiescent_MixIdeal (hMixIdeal := hMixIdeal)
    ∧ quiescent_MixReferenceIdeal (hMixReferenceIdeal := hMixReferenceIdeal)
    ∧ quiescent_Attn (hAttn := hAttn)
    ∧ quiescent_AttnIdeal (hAttnIdeal := hAttnIdeal)
    ∧ quiescent_AttnIdeal_pre_valid_attn (hAttnIdeal := hAttnIdeal) (hPre_valid_attn := hPre_valid_attn)
    ∧ quiescent_AttnReferenceIdeal (hAttnReferenceIdeal := hAttnReferenceIdeal)
    ∧ quiescent_AttnReferenceIdeal_pre_valid_attn (hAttnReferenceIdeal := hAttnReferenceIdeal) (hPre_valid_attn := hPre_valid_attn)
    ∧ preserves_KernelWords_KernelWordsIdeal
    ∧ algebraic_KernelWordsIdeal_ReferenceIdeal_pre_valid (hKernelWordsIdeal := hKernelWordsIdeal) (hReferenceIdeal := hReferenceIdeal) (hPre_valid := hPre_valid)
    ∧ preserves_Inproj_InprojIdeal
    ∧ algebraic_InprojIdeal_InprojReferenceIdeal (hInprojIdeal := hInprojIdeal) (hInprojReferenceIdeal := hInprojReferenceIdeal)
    ∧ preserves_Mix_MixIdeal
    ∧ algebraic_MixIdeal_MixReferenceIdeal (hMixIdeal := hMixIdeal) (hMixReferenceIdeal := hMixReferenceIdeal)
    ∧ preserves_Attn_AttnIdeal
    ∧ algebraic_AttnIdeal_AttnReferenceIdeal_pre_valid_attn (hAttnIdeal := hAttnIdeal) (hAttnReferenceIdeal := hAttnReferenceIdeal) (hPre_valid_attn := hPre_valid_attn)
-- ==== Pre_valid.lean ====
abbrev S16384x1024 : Shape := ⟨2, ![16384, 1024]⟩
abbrev S1x16384x1024 : Shape := ⟨3, ![1, 16384, 1024]⟩
abbrev S512x128 : Shape := ⟨2, ![512, 128]⟩
abbrev S16x128x16384 : Shape := ⟨3, ![16, 128, 16384]⟩
abbrev S1024 : Shape := ⟨1, ![1024]⟩
abbrev S_ : Shape := ⟨0, ![]⟩

class Facts : Prop where
  bcast_S_S512x128 : S_.BroadcastsInDim S512x128 (![] : Fin 0 → Fin S512x128.rank)
  reducesTo_S512x128_S_d0_1 : S512x128.ReducesTo [0, 1] S_
  h_S_ : 0 < S_.numel

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S16384x1024 .bf16) (main_arg1 : FVec F S1x16384x1024 .f32) (main_arg2 : FVec F S1x16384x1024 .f32) (main_arg3 : IVec S512x128 32) (main_arg4 : IVec S512x128 32) (main_arg5 : FVec F S512x128 .f32) (main_arg6 : FVec F S16x128x16384 .f32) (main_arg7 : FVec F S16384x1024 .f32) (main_arg8 : FVec F S1024 .f32) : IVec S_ 1 :=
  let main_c : IVec S_ 32 := constantI S_ 32 0#32
  let main_v0 : IVec S512x128 32 := broadcastInDim S512x128 ![] bcast_S_S512x128 main_c
  let main_v1 : IVec S512x128 1 := cmpi .sge main_arg3 main_v0
  let main_c_0 : IVec S_ 32 := constantI S_ 32 128#32
  let main_v2 : IVec S512x128 32 := broadcastInDim S512x128 ![] bcast_S_S512x128 main_c_0
  let main_v3 : IVec S512x128 1 := cmpi .slt main_arg3 main_v2
  let main_v4 : IVec S512x128 1 := andi main_v1 main_v3
  let main_c_1 : IVec S_ 1 := constantI S_ 1 1#1
  let main_v5 : IVec S_ 1 := (fun x v => Host.reduce IntOp.andi x v reducesTo_S512x128_S_d0_1 h_S_) main_v4 main_c_1
  let main_c_2 : IVec S_ 32 := constantI S_ 32 0#32
  let main_v6 : IVec S512x128 32 := broadcastInDim S512x128 ![] bcast_S_S512x128 main_c_2
  let main_v7 : IVec S512x128 1 := cmpi .sge main_arg4 main_v6
  let main_c_3 : IVec S_ 32 := constantI S_ 32 128#32
  let main_v8 : IVec S512x128 32 := broadcastInDim S512x128 ![] bcast_S_S512x128 main_c_3
  let main_v9 : IVec S512x128 1 := cmpi .slt main_arg4 main_v8
  let main_v10 : IVec S512x128 1 := andi main_v7 main_v9
  let main_c_4 : IVec S_ 1 := constantI S_ 1 1#1
  let main_v11 : IVec S_ 1 := (fun x v => Host.reduce IntOp.andi x v reducesTo_S512x128_S_d0_1 h_S_) main_v10 main_c_4
  let main_v12 : IVec S_ 1 := andi main_v5 main_v11
  let main_cst : FVec F S_ .f32 := constant S_ .f32 0x00000000#32
  let main_v13 : FVec F S512x128 .f32 := broadcastInDim S512x128 ![] bcast_S_S512x128 main_cst
  let main_v14 : IVec S512x128 1 := cmpf .oge main_arg5 main_v13
  let main_c_5 : IVec S_ 1 := constantI S_ 1 1#1
  let main_v15 : IVec S_ 1 := (fun x v => Host.reduce IntOp.andi x v reducesTo_S512x128_S_d0_1 h_S_) main_v14 main_c_5
  fn_part1 (F := F) main_v12 main_v15
-- ==== Pre_valid_attn.lean ====
abbrev S16384x4x192 : Shape := ⟨3, ![16384, 4, 192]⟩
abbrev S16384x128 : Shape := ⟨2, ![16384, 128]⟩
abbrev S16384x64 : Shape := ⟨2, ![16384, 64]⟩
abbrev S1x128x1024 : Shape := ⟨3, ![1, 128, 1024]⟩
abbrev S_ : Shape := ⟨0, ![]⟩

class Facts : Prop where
  bcast_S_S16384x4x192 : S_.BroadcastsInDim S16384x4x192 (![] : Fin 0 → Fin S16384x4x192.rank)
  reducesTo_S16384x4x192_S_d0_1_2 : S16384x4x192.ReducesTo [0, 1, 2] S_
  h_S_ : 0 < S_.numel
  bcast_S_S16384x128 : S_.BroadcastsInDim S16384x128 (![] : Fin 0 → Fin S16384x128.rank)
  reducesTo_S16384x128_S_d0_1 : S16384x128.ReducesTo [0, 1] S_
  bcast_S_S16384x64 : S_.BroadcastsInDim S16384x64 (![] : Fin 0 → Fin S16384x64.rank)
  reducesTo_S16384x64_S_d0_1 : S16384x64.ReducesTo [0, 1] S_
  bcast_S_S1x128x1024 : S_.BroadcastsInDim S1x128x1024 (![] : Fin 0 → Fin S1x128x1024.rank)
  reducesTo_S1x128x1024_S_d0_1_2 : S1x128x1024.ReducesTo [0, 1, 2] S_

variable [Facts]

def fn_part1 {F : FTy → Type} [FloatOps F] (main_v13 : IVec S_ 1) (main_v16 : IVec S1x128x1024 1) : IVec S_ 1 :=
  let main_c_5 : IVec S_ 1 := constantI S_ 1 1#1
  let main_v17 : IVec S_ 1 := (fun x v => Host.reduce IntOp.andi x v reducesTo_S1x128x1024_S_d0_1_2 h_S_) main_v16 main_c_5
  let main_v18 : IVec S_ 1 := andi main_v13 main_v17
  main_v18

def fn {F : FTy → Type} [FloatOps F] (main_arg0 : FVec F S16384x4x192 .f32) (main_arg1 : FVec F S16384x128 .f32) (main_arg2 : FVec F S16384x64 .f32) (main_arg3 : FVec F S1x128x1024 .f32) : IVec S_ 1 :=
  let main_v0 : FVec F S16384x4x192 .f32 := Host.absf main_arg0
  let main_cst : FVec F S_ .f32 := constant S_ .f32 0x7F800000#32
  let main_v1 : FVec F S16384x4x192 .f32 := broadcastInDim S16384x4x192 ![] bcast_S_S16384x4x192 main_cst
  let main_v2 : IVec S16384x4x192 1 := cmpf .olt main_v0 main_v1
  let main_c : IVec S_ 1 := constantI S_ 1 1#1
  let main_v3 : IVec S_ 1 := (fun x v => Host.reduce IntOp.andi x v reducesTo_S16384x4x192_S_d0_1_2 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S16384x64 .f32 := Host.absf main_arg2
  let main_cst_2 : FVec F S_ .f32 := constant S_ .f32 0x7F800000#32
  let main_v10 : FVec F S16384x64 .f32 := broadcastInDim S16384x64 ![] bcast_S_S16384x64 main_cst_2
  let main_v11 : IVec S16384x64 1 := cmpf .olt main_v9 main_v10
  let main_c_3 : IVec S_ 1 := constantI S_ 1 1#1
  let main_v12 : IVec S_ 1 := (fun x v => Host.reduce IntOp.andi x v reducesTo_S16384x64_S_d0_1 h_S_) main_v11 main_c_3
  let main_v13 : IVec S_ 1 := andi main_v8 main_v12
  let main_v14 : FVec F S1x128x1024 .f32 := Host.absf main_arg3
  let main_cst_4 : FVec F S_ .f32 := constant S_ .f32 0x7F800000#32
  let main_v15 : FVec F S1x128x1024 .f32 := broadcastInDim S1x128x1024 ![] bcast_S_S1x128x1024 main_cst_4
  let main_v16 : IVec S1x128x1024 1 := cmpf .olt main_v14 main_v15
  fn_part1 (F := F) main_v13 main_v16
-- ==== Kernel.lean ====
abbrev S16384x1024 : Shape := ⟨2, ![16384, 1024]⟩
abbrev S1x16384x1024 : Shape := ⟨3, ![1, 16384, 1024]⟩
abbrev S512x128 : Shape := ⟨2, ![512, 128]⟩
abbrev S16x128x16384 : Shape := ⟨3, ![16, 128, 16384]⟩
abbrev S1024 : Shape := ⟨1, ![1024]⟩
abbrev S1x1024 : Shape := ⟨2, ![1, 1024]⟩
abbrev S512x1024 : Shape := ⟨2, ![512, 1024]⟩
abbrev S2048x1024 : Shape := ⟨2, ![2048, 1024]⟩
abbrev S8x128x128 : Shape := ⟨3, ![8, 128, 128]⟩
abbrev S36864x128 : Shape := ⟨2, ![36864, 128]⟩
abbrev S3x512x128 : Shape := ⟨3, ![3, 512, 128]⟩
abbrev S3x4x128x128 : Shape := ⟨4, ![3, 4, 128, 128]⟩
abbrev S1x512x128 : Shape := ⟨3, ![1, 512, 128]⟩
abbrev S1x1x128x128 : Shape := ⟨4, ![1, 1, 128, 128]⟩
abbrev S128x128 : Shape := ⟨2, ![128, 128]⟩
abbrev S1x128x128 : Shape := ⟨3, ![1, 128, 128]⟩
abbrev S1x64x128 : Shape := ⟨3, ![1, 64, 128]⟩
abbrev S64x128 : Shape := ⟨2, ![64, 128]⟩
abbrev S1x128 : Shape := ⟨2, ![1, 128]⟩
abbrev S16x128 : Shape := ⟨2, ![16, 128]⟩
abbrev S8x128 : Shape := ⟨2, ![8, 128]⟩
abbrev S80x128 : Shape := ⟨2, ![80, 128]⟩
abbrev S128 : Shape := ⟨1, ![128]⟩
abbrev S1x1x16x128 : Shape := ⟨4, ![1, 1, 16, 128]⟩
abbrev S1024x1024 : Shape := ⟨2, ![1024, 1024]⟩
abbrev S512 : Shape := ⟨1, ![512]⟩
abbrev S512x1 : Shape := ⟨2, ![512, 1]⟩

abbrev nBuf : Space → Nat
  | .hbm => 17
  | .vmem => 19
  | .smem => 0
  | _ => 0

abbrev bufTy : (tb : Table) → Fin (tcTables nBuf tb) → BufTy
  | .hbm, ⟨0, _⟩ => ⟨S16384x1024, .bf16⟩
  | .hbm, ⟨1, _⟩ => ⟨S1x16384x1024, .f32⟩
  | .hbm, ⟨2, _⟩ => ⟨S1x16384x1024, .f32⟩
  | .hbm, ⟨3, _⟩ => ⟨S512x128, .i32⟩
  | .hbm, ⟨4, _⟩ => ⟨S512x128, .i32⟩
  | .hbm, ⟨5, _⟩ => ⟨S512x128, .f32⟩
  | .hbm, ⟨6, _⟩ => ⟨S16x128x16384, .f32⟩
  | .hbm, ⟨7, _⟩ => ⟨S16384x1024, .f32⟩
  | .hbm, ⟨8, _⟩ => ⟨S1024, .f32⟩
  | .hbm, ⟨9, _⟩ => ⟨S16384x1024, .f32⟩
  | .hbm, ⟨10, _⟩ => ⟨S16384x1024, .bf16⟩
  | .hbm, ⟨11, _⟩ => ⟨S16384x1024, .f32⟩
  | .hbm, ⟨12, _⟩ => ⟨S16384x1024, .bf16⟩
  | .hbm, ⟨13, _⟩ => ⟨S512x128, .f32⟩
  | .hbm, ⟨14, _⟩ => ⟨S512x128, .f32⟩
  | .hbm, ⟨15, _⟩ => ⟨S1x1024, .f32⟩
  | .hbm, ⟨16, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S8x128x128, .f32⟩
  | .local _ .vmem, ⟨10, _⟩ => ⟨S8x128x128, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S36864x128, .i32⟩
  | .local _ .vmem, ⟨17, _⟩ => ⟨S3x512x128, .f32⟩
  | .local _ .vmem, ⟨18, _⟩ => ⟨S3x4x128x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [BitOps F]

abbrev grid0 : Pipeline.Grid := ⟨2, ![32, 8], ![false, false]⟩

def k0_cond3 (i : grid0.Coords) : BitVec 1 :=
  let arg1 : BitVec 32 := BitVec.ofNat 32 (i 1).val
  let c0_i32_5 : BitVec 32 := 0#32
  let v10 : BitVec 1 := Scalar.cmpi .eq arg1 c0_i32_5
  let v11 : BitVec 32 := Scalar.extui v10
  let c0_i32_6 : BitVec 32 := 0#32
  let v12 : BitVec 1 := Scalar.cmpi .ne v11 c0_i32_6
  v12

@[reducible] def k0_t1_loop : Scf.Loop 32 :=
  let c0_i32_20 : BitVec 32 := 0#32
  let c8_i32 : BitVec 32 := 8#32
  let v41 : BitVec 32 := Scalar.addi c0_i32_20 c8_i32
  let c1_i32_21 : BitVec 32 := 1#32
  ⟨c0_i32_20, v41, c1_i32_21⟩
def k0_mult1 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  v42
def k0_off1 (k0_t1 : Fin k0_t1_loop.trips) : Fin 3 → Nat :=
  let c0_24 : Index := 0#32
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let v44 : Index := Scalar.indexCast v43
  let c0_25 : Index := 0#32
  ![0, v44.toNat, 0]
def k0_off2 (k0_t1 : Fin k0_t1_loop.trips) : Fin 3 → Nat :=
  let c1 : Index := 1#32
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let v47 : Index := Scalar.indexCast v43
  let c0_26 : Index := 0#32
  ![1, v47.toNat, 0]
def k0_off3 (k0_t1 : Fin k0_t1_loop.trips) : Fin 3 → Nat :=
  let c2 : Index := 2#32
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let v50 : Index := Scalar.indexCast v43
  let c0_27 : Index := 0#32
  ![2, v50.toNat, 0]
def k0_mult2 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c0_i32_30 : BitVec 32 := 0#32
  let v75 : BitVec 32 := Scalar.addi v43 c0_i32_30
  let c72_i32 : BitVec 32 := 72#32
  let v76 : BitVec 32 := Scalar.muli v75 c72_i32
  v76
def k0_off4 (k0_t1 : Fin k0_t1_loop.trips) (c0_i32_30 : BitVec 32) : Fin 2 → Nat :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let v75 : BitVec 32 := Scalar.addi v43 c0_i32_30
  let c72_i32 : BitVec 32 := 72#32
  let v76 : BitVec 32 := Scalar.muli v75 c72_i32
  let v77 : BitVec 32 := v76
  let v81 : Index := Scalar.indexCast v77
  let c0_31 : Index := 0#32
  ![v81.toNat, 0]
def k0_mult3 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c1_i32_33 : BitVec 32 := 1#32
  let v105 : BitVec 32 := Scalar.addi v43 c1_i32_33
  let c72_i32_34 : BitVec 32 := 72#32
  let v106 : BitVec 32 := Scalar.muli v105 c72_i32_34
  v106
def k0_mult4 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c2_i32_37 : BitVec 32 := 2#32
  let v135 : BitVec 32 := Scalar.addi v43 c2_i32_37
  let c72_i32_38 : BitVec 32 := 72#32
  let v136 : BitVec 32 := Scalar.muli v135 c72_i32_38
  v136
def k0_mult5 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c3_i32 : BitVec 32 := 3#32
  let v165 : BitVec 32 := Scalar.addi v43 c3_i32
  let c72_i32_41 : BitVec 32 := 72#32
  let v166 : BitVec 32 := Scalar.muli v165 c72_i32_41
  v166
def k0_mult6 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c4_i32 : BitVec 32 := 4#32
  let v195 : BitVec 32 := Scalar.addi v43 c4_i32
  let c72_i32_44 : BitVec 32 := 72#32
  let v196 : BitVec 32 := Scalar.muli v195 c72_i32_44
  v196
def k0_mult7 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c5_i32 : BitVec 32 := 5#32
  let v225 : BitVec 32 := Scalar.addi v43 c5_i32
  let c72_i32_47 : BitVec 32 := 72#32
  let v226 : BitVec 32 := Scalar.muli v225 c72_i32_47
  v226
def k0_mult8 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c6_i32 : BitVec 32 := 6#32
  let v255 : BitVec 32 := Scalar.addi v43 c6_i32
  let c72_i32_50 : BitVec 32 := 72#32
  let v256 : BitVec 32 := Scalar.muli v255 c72_i32_50
  v256
def k0_mult9 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c7_i32_53 : BitVec 32 := 7#32
  let v285 : BitVec 32 := Scalar.addi v43 c7_i32_53
  let c72_i32_54 : BitVec 32 := 72#32
  let v286 : BitVec 32 := Scalar.muli v285 c72_i32_54
  v286
def k0_mult10 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c8_i32_57 : BitVec 32 := 8#32
  let v315 : BitVec 32 := Scalar.addi v43 c8_i32_57
  let c72_i32_58 : BitVec 32 := 72#32
  let v316 : BitVec 32 := Scalar.muli v315 c72_i32_58
  v316
def k0_mult11 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c9_i32 : BitVec 32 := 9#32
  let v345 : BitVec 32 := Scalar.addi v43 c9_i32
  let c72_i32_61 : BitVec 32 := 72#32
  let v346 : BitVec 32 := Scalar.muli v345 c72_i32_61
  v346
def k0_mult12 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c10_i32 : BitVec 32 := 10#32
  let v375 : BitVec 32 := Scalar.addi v43 c10_i32
  let c72_i32_64 : BitVec 32 := 72#32
  let v376 : BitVec 32 := Scalar.muli v375 c72_i32_64
  v376
def k0_mult13 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c11_i32 : BitVec 32 := 11#32
  let v405 : BitVec 32 := Scalar.addi v43 c11_i32
  let c72_i32_67 : BitVec 32 := 72#32
  let v406 : BitVec 32 := Scalar.muli v405 c72_i32_67
  v406
def k0_mult14 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c12_i32 : BitVec 32 := 12#32
  let v435 : BitVec 32 := Scalar.addi v43 c12_i32
  let c72_i32_70 : BitVec 32 := 72#32
  let v436 : BitVec 32 := Scalar.muli v435 c72_i32_70
  v436
def k0_mult15 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c13_i32 : BitVec 32 := 13#32
  let v465 : BitVec 32 := Scalar.addi v43 c13_i32
  let c72_i32_73 : BitVec 32 := 72#32
  let v466 : BitVec 32 := Scalar.muli v465 c72_i32_73
  v466
def k0_mult16 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c14_i32 : BitVec 32 := 14#32
  let v495 : BitVec 32 := Scalar.addi v43 c14_i32
  let c72_i32_76 : BitVec 32 := 72#32
  let v496 : BitVec 32 := Scalar.muli v495 c72_i32_76
  v496
def k0_mult17 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c15_i32 : BitVec 32 := 15#32
  let v525 : BitVec 32 := Scalar.addi v43 c15_i32
  let c72_i32_79 : BitVec 32 := 72#32
  let v526 : BitVec 32 := Scalar.muli v525 c72_i32_79
  v526
def k0_mult18 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c16_i32 : BitVec 32 := 16#32
  let v555 : BitVec 32 := Scalar.addi v43 c16_i32
  let c72_i32_82 : BitVec 32 := 72#32
  let v556 : BitVec 32 := Scalar.muli v555 c72_i32_82
  v556
def k0_mult19 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c17_i32 : BitVec 32 := 17#32
  let v585 : BitVec 32 := Scalar.addi v43 c17_i32
  let c72_i32_85 : BitVec 32 := 72#32
  let v586 : BitVec 32 := Scalar.muli v585 c72_i32_85
  v586
def k0_mult20 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c18_i32 : BitVec 32 := 18#32
  let v615 : BitVec 32 := Scalar.addi v43 c18_i32
  let c72_i32_88 : BitVec 32 := 72#32
  let v616 : BitVec 32 := Scalar.muli v615 c72_i32_88
  v616
def k0_mult21 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c19_i32 : BitVec 32 := 19#32
  let v645 : BitVec 32 := Scalar.addi v43 c19_i32
  let c72_i32_91 : BitVec 32 := 72#32
  let v646 : BitVec 32 := Scalar.muli v645 c72_i32_91
  v646
def k0_mult22 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c20_i32 : BitVec 32 := 20#32
  let v675 : BitVec 32 := Scalar.addi v43 c20_i32
  let c72_i32_94 : BitVec 32 := 72#32
  let v676 : BitVec 32 := Scalar.muli v675 c72_i32_94
  v676
def k0_mult23 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c21_i32 : BitVec 32 := 21#32
  let v705 : BitVec 32 := Scalar.addi v43 c21_i32
  let c72_i32_97 : BitVec 32 := 72#32
  let v706 : BitVec 32 := Scalar.muli v705 c72_i32_97
  v706
def k0_mult24 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c22_i32 : BitVec 32 := 22#32
  let v735 : BitVec 32 := Scalar.addi v43 c22_i32
  let c72_i32_100 : BitVec 32 := 72#32
  let v736 : BitVec 32 := Scalar.muli v735 c72_i32_100
  v736
def k0_mult25 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c23_i32 : BitVec 32 := 23#32
  let v765 : BitVec 32 := Scalar.addi v43 c23_i32
  let c72_i32_103 : BitVec 32 := 72#32
  let v766 : BitVec 32 := Scalar.muli v765 c72_i32_103
  v766
def k0_mult26 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c24_i32 : BitVec 32 := 24#32
  let v795 : BitVec 32 := Scalar.addi v43 c24_i32
  let c72_i32_106 : BitVec 32 := 72#32
  let v796 : BitVec 32 := Scalar.muli v795 c72_i32_106
  v796
def k0_mult27 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c25_i32 : BitVec 32 := 25#32
  let v825 : BitVec 32 := Scalar.addi v43 c25_i32
  let c72_i32_109 : BitVec 32 := 72#32
  let v826 : BitVec 32 := Scalar.muli v825 c72_i32_109
  v826
def k0_mult28 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c26_i32 : BitVec 32 := 26#32
  let v855 : BitVec 32 := Scalar.addi v43 c26_i32
  let c72_i32_112 : BitVec 32 := 72#32
  let v856 : BitVec 32 := Scalar.muli v855 c72_i32_112
  v856
def k0_mult29 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c27_i32 : BitVec 32 := 27#32
  let v885 : BitVec 32 := Scalar.addi v43 c27_i32
  let c72_i32_115 : BitVec 32 := 72#32
  let v886 : BitVec 32 := Scalar.muli v885 c72_i32_115
  v886
def k0_mult30 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c28_i32 : BitVec 32 := 28#32
  let v915 : BitVec 32 := Scalar.addi v43 c28_i32
  let c72_i32_118 : BitVec 32 := 72#32
  let v916 : BitVec 32 := Scalar.muli v915 c72_i32_118
  v916
def k0_mult31 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c29_i32 : BitVec 32 := 29#32
  let v945 : BitVec 32 := Scalar.addi v43 c29_i32
  let c72_i32_121 : BitVec 32 := 72#32
  let v946 : BitVec 32 := Scalar.muli v945 c72_i32_121
  v946
def k0_mult32 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c30_i32 : BitVec 32 := 30#32
  let v975 : BitVec 32 := Scalar.addi v43 c30_i32
  let c72_i32_124 : BitVec 32 := 72#32
  let v976 : BitVec 32 := Scalar.muli v975 c72_i32_124
  v976
def k0_mult33 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c31_i32 : BitVec 32 := 31#32
  let v1005 : BitVec 32 := Scalar.addi v43 c31_i32
  let c72_i32_127 : BitVec 32 := 72#32
  let v1006 : BitVec 32 := Scalar.muli v1005 c72_i32_127
  v1006
def k0_mult34 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c32_i32 : BitVec 32 := 32#32
  let v1035 : BitVec 32 := Scalar.addi v43 c32_i32
  let c72_i32_130 : BitVec 32 := 72#32
  let v1036 : BitVec 32 := Scalar.muli v1035 c72_i32_130
  v1036
def k0_mult35 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c33_i32 : BitVec 32 := 33#32
  let v1065 : BitVec 32 := Scalar.addi v43 c33_i32
  let c72_i32_133 : BitVec 32 := 72#32
  let v1066 : BitVec 32 := Scalar.muli v1065 c72_i32_133
  v1066
def k0_mult36 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c34_i32 : BitVec 32 := 34#32
  let v1095 : BitVec 32 := Scalar.addi v43 c34_i32
  let c72_i32_136 : BitVec 32 := 72#32
  let v1096 : BitVec 32 := Scalar.muli v1095 c72_i32_136
  v1096
def k0_mult37 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c35_i32 : BitVec 32 := 35#32
  let v1125 : BitVec 32 := Scalar.addi v43 c35_i32
  let c72_i32_139 : BitVec 32 := 72#32
  let v1126 : BitVec 32 := Scalar.muli v1125 c72_i32_139
  v1126
def k0_mult38 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c36_i32 : BitVec 32 := 36#32
  let v1155 : BitVec 32 := Scalar.addi v43 c36_i32
  let c72_i32_142 : BitVec 32 := 72#32
  let v1156 : BitVec 32 := Scalar.muli v1155 c72_i32_142
  v1156
def k0_mult39 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c37_i32 : BitVec 32 := 37#32
  let v1185 : BitVec 32 := Scalar.addi v43 c37_i32
  let c72_i32_145 : BitVec 32 := 72#32
  let v1186 : BitVec 32 := Scalar.muli v1185 c72_i32_145
  v1186
def k0_mult40 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c38_i32 : BitVec 32 := 38#32
  let v1215 : BitVec 32 := Scalar.addi v43 c38_i32
  let c72_i32_148 : BitVec 32 := 72#32
  let v1216 : BitVec 32 := Scalar.muli v1215 c72_i32_148
  v1216
def k0_mult41 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c39_i32 : BitVec 32 := 39#32
  let v1245 : BitVec 32 := Scalar.addi v43 c39_i32
  let c72_i32_151 : BitVec 32 := 72#32
  let v1246 : BitVec 32 := Scalar.muli v1245 c72_i32_151
  v1246
def k0_mult42 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c40_i32 : BitVec 32 := 40#32
  let v1275 : BitVec 32 := Scalar.addi v43 c40_i32
  let c72_i32_154 : BitVec 32 := 72#32
  let v1276 : BitVec 32 := Scalar.muli v1275 c72_i32_154
  v1276
def k0_mult43 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c41_i32 : BitVec 32 := 41#32
  let v1305 : BitVec 32 := Scalar.addi v43 c41_i32
  let c72_i32_157 : BitVec 32 := 72#32
  let v1306 : BitVec 32 := Scalar.muli v1305 c72_i32_157
  v1306
def k0_mult44 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c42_i32 : BitVec 32 := 42#32
  let v1335 : BitVec 32 := Scalar.addi v43 c42_i32
  let c72_i32_160 : BitVec 32 := 72#32
  let v1336 : BitVec 32 := Scalar.muli v1335 c72_i32_160
  v1336
def k0_mult45 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c43_i32 : BitVec 32 := 43#32
  let v1365 : BitVec 32 := Scalar.addi v43 c43_i32
  let c72_i32_163 : BitVec 32 := 72#32
  let v1366 : BitVec 32 := Scalar.muli v1365 c72_i32_163
  v1366
def k0_mult46 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c44_i32 : BitVec 32 := 44#32
  let v1395 : BitVec 32 := Scalar.addi v43 c44_i32
  let c72_i32_166 : BitVec 32 := 72#32
  let v1396 : BitVec 32 := Scalar.muli v1395 c72_i32_166
  v1396
def k0_mult47 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c45_i32 : BitVec 32 := 45#32
  let v1425 : BitVec 32 := Scalar.addi v43 c45_i32
  let c72_i32_169 : BitVec 32 := 72#32
  let v1426 : BitVec 32 := Scalar.muli v1425 c72_i32_169
  v1426
def k0_mult48 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c46_i32 : BitVec 32 := 46#32
  let v1455 : BitVec 32 := Scalar.addi v43 c46_i32
  let c72_i32_172 : BitVec 32 := 72#32
  let v1456 : BitVec 32 := Scalar.muli v1455 c72_i32_172
  v1456
def k0_mult49 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c47_i32 : BitVec 32 := 47#32
  let v1485 : BitVec 32 := Scalar.addi v43 c47_i32
  let c72_i32_175 : BitVec 32 := 72#32
  let v1486 : BitVec 32 := Scalar.muli v1485 c72_i32_175
  v1486
def k0_mult50 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c48_i32 : BitVec 32 := 48#32
  let v1515 : BitVec 32 := Scalar.addi v43 c48_i32
  let c72_i32_178 : BitVec 32 := 72#32
  let v1516 : BitVec 32 := Scalar.muli v1515 c72_i32_178
  v1516
def k0_mult51 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c49_i32 : BitVec 32 := 49#32
  let v1545 : BitVec 32 := Scalar.addi v43 c49_i32
  let c72_i32_181 : BitVec 32 := 72#32
  let v1546 : BitVec 32 := Scalar.muli v1545 c72_i32_181
  v1546
def k0_mult52 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c50_i32 : BitVec 32 := 50#32
  let v1575 : BitVec 32 := Scalar.addi v43 c50_i32
  let c72_i32_184 : BitVec 32 := 72#32
  let v1576 : BitVec 32 := Scalar.muli v1575 c72_i32_184
  v1576
def k0_mult53 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c51_i32 : BitVec 32 := 51#32
  let v1605 : BitVec 32 := Scalar.addi v43 c51_i32
  let c72_i32_187 : BitVec 32 := 72#32
  let v1606 : BitVec 32 := Scalar.muli v1605 c72_i32_187
  v1606
def k0_mult54 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c52_i32 : BitVec 32 := 52#32
  let v1635 : BitVec 32 := Scalar.addi v43 c52_i32
  let c72_i32_190 : BitVec 32 := 72#32
  let v1636 : BitVec 32 := Scalar.muli v1635 c72_i32_190
  v1636
def k0_mult55 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c53_i32 : BitVec 32 := 53#32
  let v1665 : BitVec 32 := Scalar.addi v43 c53_i32
  let c72_i32_193 : BitVec 32 := 72#32
  let v1666 : BitVec 32 := Scalar.muli v1665 c72_i32_193
  v1666
def k0_mult56 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c54_i32 : BitVec 32 := 54#32
  let v1695 : BitVec 32 := Scalar.addi v43 c54_i32
  let c72_i32_196 : BitVec 32 := 72#32
  let v1696 : BitVec 32 := Scalar.muli v1695 c72_i32_196
  v1696
def k0_mult57 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c55_i32 : BitVec 32 := 55#32
  let v1725 : BitVec 32 := Scalar.addi v43 c55_i32
  let c72_i32_199 : BitVec 32 := 72#32
  let v1726 : BitVec 32 := Scalar.muli v1725 c72_i32_199
  v1726
def k0_mult58 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c56_i32 : BitVec 32 := 56#32
  let v1755 : BitVec 32 := Scalar.addi v43 c56_i32
  let c72_i32_202 : BitVec 32 := 72#32
  let v1756 : BitVec 32 := Scalar.muli v1755 c72_i32_202
  v1756
def k0_mult59 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c57_i32 : BitVec 32 := 57#32
  let v1785 : BitVec 32 := Scalar.addi v43 c57_i32
  let c72_i32_205 : BitVec 32 := 72#32
  let v1786 : BitVec 32 := Scalar.muli v1785 c72_i32_205
  v1786
def k0_mult60 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c58_i32 : BitVec 32 := 58#32
  let v1815 : BitVec 32 := Scalar.addi v43 c58_i32
  let c72_i32_208 : BitVec 32 := 72#32
  let v1816 : BitVec 32 := Scalar.muli v1815 c72_i32_208
  v1816
def k0_mult61 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c59_i32 : BitVec 32 := 59#32
  let v1845 : BitVec 32 := Scalar.addi v43 c59_i32
  let c72_i32_211 : BitVec 32 := 72#32
  let v1846 : BitVec 32 := Scalar.muli v1845 c72_i32_211
  v1846
def k0_mult62 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c60_i32 : BitVec 32 := 60#32
  let v1875 : BitVec 32 := Scalar.addi v43 c60_i32
  let c72_i32_214 : BitVec 32 := 72#32
  let v1876 : BitVec 32 := Scalar.muli v1875 c72_i32_214
  v1876
def k0_mult63 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c61_i32 : BitVec 32 := 61#32
  let v1905 : BitVec 32 := Scalar.addi v43 c61_i32
  let c72_i32_217 : BitVec 32 := 72#32
  let v1906 : BitVec 32 := Scalar.muli v1905 c72_i32_217
  v1906
def k0_mult64 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c62_i32 : BitVec 32 := 62#32
  let v1935 : BitVec 32 := Scalar.addi v43 c62_i32
  let c72_i32_220 : BitVec 32 := 72#32
  let v1936 : BitVec 32 := Scalar.muli v1935 c72_i32_220
  v1936
def k0_mult65 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c63_i32 : BitVec 32 := 63#32
  let v1965 : BitVec 32 := Scalar.addi v43 c63_i32
  let c72_i32_223 : BitVec 32 := 72#32
  let v1966 : BitVec 32 := Scalar.muli v1965 c72_i32_223
  v1966
@[reducible] def k0_t2_loop : Scf.Loop 32 :=
  let c0_i32_8 : BitVec 32 := 0#32
  let c2_i32 : BitVec 32 := 2#32
  let v17 : BitVec 32 := Scalar.addi c0_i32_8 c2_i32
  let c1_i32 : BitVec 32 := 1#32
  ⟨c0_i32_8, v17, c1_i32⟩
def k0_off5 (k0_t2 : Fin k0_t2_loop.trips) (c0_i32_25 : BitVec 32) : Fin 3 → Nat :=
  let c0_i32_8 : BitVec 32 := 0#32
  let c1_i32 : BitVec 32 := 1#32
  let arg15 : BitVec 32 := Scf.iv c0_i32_8 c1_i32 k0_t2
  let c4_i32_24 : BitVec 32 := 4#32
  let v50 : BitVec 32 := Scalar.muli arg15 c4_i32_24
  let v51 : BitVec 32 := Scalar.addi v50 c0_i32_25
  let v52 : Index := Scalar.indexCast v51
  let c0_26 : Index := 0#32
  let c0_27 : Index := 0#32
  ![v52.toNat, 0, 0]
def k0_mult66 (i : grid0.Coords) (k0_t2 : Fin k0_t2_loop.trips) : BitVec 32 :=
  let arg1 : BitVec 32 := BitVec.ofNat 32 (i 1).val
  let c2_i32_11 : BitVec 32 := 2#32
  let v21 : BitVec 32 := Scalar.muli arg1 c2_i32_11
  let c0_i32_8 : BitVec 32 := 0#32
  let c1_i32 : BitVec 32 := 1#32
  let arg15 : BitVec 32 := Scf.iv c0_i32_8 c1_i32 k0_t2
  let v22 : BitVec 32 := Scalar.addi v21 arg15
  let c4_i32 : BitVec 32 := 4#32
  let c0_i32_12 : BitVec 32 := 0#32
  let v23 : BitVec 1 := Scalar.cmpi .eq c4_i32 c0_i32_12
  let c1_i32_13 : BitVec 32 := 1#32
  let v24 : BitVec 32 := Scalar.select v23 c1_i32_13 c4_i32
  let v25 : BitVec 32 := Scalar.remsi v22 v24
  let c0_i32_15 : BitVec 32 := 0#32
  let v27 : BitVec 1 := Scalar.cmpi .slt v25 c0_i32_15
  let c0_i32_16 : BitVec 32 := 0#32
  let v28 : BitVec 1 := Scalar.cmpi .slt v24 c0_i32_16
  let v29 : BitVec 1 := Scalar.xori v27 v28
  let c0_i32_14 : BitVec 32 := 0#32
  let v26 : BitVec 1 := Scalar.cmpi .ne v25 c0_i32_14
  let v30 : BitVec 1 := Scalar.andi v29 v26
  let v31 : BitVec 32 := Scalar.addi v25 v24
  let v32 : BitVec 32 := Scalar.select v30 v31 v25
  let c2_i32_838 : BitVec 32 := 2#32
  let v8209 : BitVec 32 := Scalar.muli v32 c2_i32_838
  let c0_i32_839 : BitVec 32 := 0#32
  let v8210 : BitVec 32 := Scalar.addi v8209 c0_i32_839
  let c16_i32 : BitVec 32 := 16#32
  let v8211 : BitVec 32 := Scalar.muli v8210 c16_i32
  v8211
def k0_off6 (i : grid0.Coords) (k0_t2 : Fin k0_t2_loop.trips) (c0_i32_839 : BitVec 32) : Fin 4 → Nat :=
  let c0_840 : Index := 0#32
  let arg1 : BitVec 32 := BitVec.ofNat 32 (i 1).val
  let c2_i32_11 : BitVec 32 := 2#32
  let v21 : BitVec 32 := Scalar.muli arg1 c2_i32_11
  let c0_i32_8 : BitVec 32 := 0#32
  let c1_i32 : BitVec 32 := 1#32
  let arg15 : BitVec 32 := Scf.iv c0_i32_8 c1_i32 k0_t2
  let v22 : BitVec 32 := Scalar.addi v21 arg15
  let c0_i32_18 : BitVec 32 := 0#32
  let v34 : BitVec 1 := Scalar.cmpi .sgt v22 c0_i32_18
  let v35 : BitVec 32 := Scalar.extui v34
  let c0_i32_19 : BitVec 32 := 0#32
  let v36 : BitVec 1 := Scalar.cmpi .slt v22 c0_i32_19
  let v37 : BitVec 32 := Scalar.extui v36
  let v38 : BitVec 32 := Scalar.subi v35 v37
  let c4_i32_17 : BitVec 32 := 4#32
  let c0_i32_20 : BitVec 32 := 0#32
  let v39 : BitVec 1 := Scalar.cmpi .sgt c4_i32_17 c0_i32_20
  let v40 : BitVec 32 := Scalar.extui v39
  let c0_i32_21 : BitVec 32 := 0#32
  let v41 : BitVec 1 := Scalar.cmpi .slt c4_i32_17 c0_i32_21
  let v42 : BitVec 32 := Scalar.extui v41
  let v43 : BitVec 32 := Scalar.subi v40 v42
  let v44 : BitVec 1 := Scalar.cmpi .ne v38 v43
  let v45 : BitVec 32 := Scalar.remsi v22 c4_i32_17
  let c0_i32_22 : BitVec 32 := 0#32
  let v46 : BitVec 1 := Scalar.cmpi .ne v45 c0_i32_22
  let v47 : BitVec 1 := Scalar.andi v44 v46
  let v33 : BitVec 32 := Scalar.divsi v22 c4_i32_17
  let c1_i32_23 : BitVec 32 := 1#32
  let v48 : BitVec 32 := Scalar.subi v33 c1_i32_23
  let v49 : BitVec 32 := Scalar.select v47 v48 v33
  let v8213 : Index := Scalar.indexCast v49
  let c4_i32 : BitVec 32 := 4#32
  let c0_i32_12 : BitVec 32 := 0#32
  let v23 : BitVec 1 := Scalar.cmpi .eq c4_i32 c0_i32_12
  let c1_i32_13 : BitVec 32 := 1#32
  let v24 : BitVec 32 := Scalar.select v23 c1_i32_13 c4_i32
  let v25 : BitVec 32 := Scalar.remsi v22 v24
  let c0_i32_15 : BitVec 32 := 0#32
  let v27 : BitVec 1 := Scalar.cmpi .slt v25 c0_i32_15
  let c0_i32_16 : BitVec 32 := 0#32
  let v28 : BitVec 1 := Scalar.cmpi .slt v24 c0_i32_16
  let v29 : BitVec 1 := Scalar.xori v27 v28
  let c0_i32_14 : BitVec 32 := 0#32
  let v26 : BitVec 1 := Scalar.cmpi .ne v25 c0_i32_14
  let v30 : BitVec 1 := Scalar.andi v29 v26
  let v31 : BitVec 32 := Scalar.addi v25 v24
  let v32 : BitVec 32 := Scalar.select v30 v31 v25
  let c2_i32_838 : BitVec 32 := 2#32
  let v8209 : BitVec 32 := Scalar.muli v32 c2_i32_838
  let v8210 : BitVec 32 := Scalar.addi v8209 c0_i32_839
  let c16_i32 : BitVec 32 := 16#32
  let v8211 : BitVec 32 := Scalar.muli v8210 c16_i32
  let v8212 : BitVec 32 := v8211
  let v8214 : Index := Scalar.indexCast v8212
  let c0_841 : Index := 0#32
  ![0, v8213.toNat, v8214.toNat, 0]
def k0_off7 (i : grid0.Coords) (k0_t2 : Fin k0_t2_loop.trips) (c0_i32_839 : BitVec 32) : Fin 4 → Nat :=
  let c1 : Index := 1#32
  let arg1 : BitVec 32 := BitVec.ofNat 32 (i 1).val
  let c2_i32_11 : BitVec 32 := 2#32
  let v21 : BitVec 32 := Scalar.muli arg1 c2_i32_11
  let c0_i32_8 : BitVec 32 := 0#32
  let c1_i32 : BitVec 32 := 1#32
  let arg15 : BitVec 32 := Scf.iv c0_i32_8 c1_i32 k0_t2
  let v22 : BitVec 32 := Scalar.addi v21 arg15
  let c0_i32_18 : BitVec 32 := 0#32
  let v34 : BitVec 1 := Scalar.cmpi .sgt v22 c0_i32_18
  let v35 : BitVec 32 := Scalar.extui v34
  let c0_i32_19 : BitVec 32 := 0#32
  let v36 : BitVec 1 := Scalar.cmpi .slt v22 c0_i32_19
  let v37 : BitVec 32 := Scalar.extui v36
  let v38 : BitVec 32 := Scalar.subi v35 v37
  let c4_i32_17 : BitVec 32 := 4#32
  let c0_i32_20 : BitVec 32 := 0#32
  let v39 : BitVec 1 := Scalar.cmpi .sgt c4_i32_17 c0_i32_20
  let v40 : BitVec 32 := Scalar.extui v39
  let c0_i32_21 : BitVec 32 := 0#32
  let v41 : BitVec 1 := Scalar.cmpi .slt c4_i32_17 c0_i32_21
  let v42 : BitVec 32 := Scalar.extui v41
  let v43 : BitVec 32 := Scalar.subi v40 v42
  let v44 : BitVec 1 := Scalar.cmpi .ne v38 v43
  let v45 : BitVec 32 := Scalar.remsi v22 c4_i32_17
  let c0_i32_22 : BitVec 32 := 0#32
  let v46 : BitVec 1 := Scalar.cmpi .ne v45 c0_i32_22
  let v47 : BitVec 1 := Scalar.andi v44 v46
  let v33 : BitVec 32 := Scalar.divsi v22 c4_i32_17
  let c1_i32_23 : BitVec 32 := 1#32
  let v48 : BitVec 32 := Scalar.subi v33 c1_i32_23
  let v49 : BitVec 32 := Scalar.select v47 v48 v33
  let v8218 : Index := Scalar.indexCast v49
  let c4_i32 : BitVec 32 := 4#32
  let c0_i32_12 : BitVec 32 := 0#32
  let v23 : BitVec 1 := Scalar.cmpi .eq c4_i32 c0_i32_12
  let c1_i32_13 : BitVec 32 := 1#32
  let v24 : BitVec 32 := Scalar.select v23 c1_i32_13 c4_i32
  let v25 : BitVec 32 := Scalar.remsi v22 v24
  let c0_i32_15 : BitVec 32 := 0#32
  let v27 : BitVec 1 := Scalar.cmpi .slt v25 c0_i32_15
  let c0_i32_16 : BitVec 32 := 0#32
  let v28 : BitVec 1 := Scalar.cmpi .slt v24 c0_i32_16
  let v29 : BitVec 1 := Scalar.xori v27 v28
  let c0_i32_14 : BitVec 32 := 0#32
  let v26 : BitVec 1 := Scalar.cmpi .ne v25 c0_i32_14
  let v30 : BitVec 1 := Scalar.andi v29 v26
  let v31 : BitVec 32 := Scalar.addi v25 v24
  let v32 : BitVec 32 := Scalar.select v30 v31 v25
  let c2_i32_838 : BitVec 32 := 2#32
  let v8209 : BitVec 32 := Scalar.muli v32 c2_i32_838
  let v8210 : BitVec 32 := Scalar.addi v8209 c0_i32_839
  let c16_i32 : BitVec 32 := 16#32
  let v8211 : BitVec 32 := Scalar.muli v8210 c16_i32
  let v8212 : BitVec 32 := v8211
  let v8219 : Index := Scalar.indexCast v8212
  let c0_842 : Index := 0#32
  ![1, v8218.toNat, v8219.toNat, 0]
def k0_off8 (i : grid0.Coords) (k0_t2 : Fin k0_t2_loop.trips) (c0_i32_839 : BitVec 32) : Fin 4 → Nat :=
  let c2 : Index := 2#32
  let arg1 : BitVec 32 := BitVec.ofNat 32 (i 1).val
  let c2_i32_11 : BitVec 32 := 2#32
  let v21 : BitVec 32 := Scalar.muli arg1 c2_i32_11
  let c0_i32_8 : BitVec 32 := 0#32
  let c1_i32 : BitVec 32 := 1#32
  let arg15 : BitVec 32 := Scf.iv c0_i32_8 c1_i32 k0_t2
  let v22 : BitVec 32 := Scalar.addi v21 arg15
  let c0_i32_18 : BitVec 32 := 0#32
  let v34 : BitVec 1 := Scalar.cmpi .sgt v22 c0_i32_18
  let v35 : BitVec 32 := Scalar.extui v34
  let c0_i32_19 : BitVec 32 := 0#32
  let v36 : BitVec 1 := Scalar.cmpi .slt v22 c0_i32_19
  let v37 : BitVec 32 := Scalar.extui v36
  let v38 : BitVec 32 := Scalar.subi v35 v37
  let c4_i32_17 : BitVec 32 := 4#32
  let c0_i32_20 : BitVec 32 := 0#32
  let v39 : BitVec 1 := Scalar.cmpi .sgt c4_i32_17 c0_i32_20
  let v40 : BitVec 32 := Scalar.extui v39
  let c0_i32_21 : BitVec 32 := 0#32
  let v41 : BitVec 1 := Scalar.cmpi .slt c4_i32_17 c0_i32_21
  let v42 : BitVec 32 := Scalar.extui v41
  let v43 : BitVec 32 := Scalar.subi v40 v42
  let v44 : BitVec 1 := Scalar.cmpi .ne v38 v43
  let v45 : BitVec 32 := Scalar.remsi v22 c4_i32_17
  let c0_i32_22 : BitVec 32 := 0#32
  let v46 : BitVec 1 := Scalar.cmpi .ne v45 c0_i32_22
  let v47 : BitVec 1 := Scalar.andi v44 v46
  let v33 : BitVec 32 := Scalar.divsi v22 c4_i32_17
  let c1_i32_23 : BitVec 32 := 1#32
  let v48 : BitVec 32 := Scalar.subi v33 c1_i32_23
  let v49 : BitVec 32 := Scalar.select v47 v48 v33
  let v8223 : Index := Scalar.indexCast v49
  let c4_i32 : BitVec 32 := 4#32
  let c0_i32_12 : BitVec 32 := 0#32
  let v23 : BitVec 1 := Scalar.cmpi .eq c4_i32 c0_i32_12
  let c1_i32_13 : BitVec 32 := 1#32
  let v24 : BitVec 32 := Scalar.select v23 c1_i32_13 c4_i32
  let v25 : BitVec 32 := Scalar.remsi v22 v24
  let c0_i32_15 : BitVec 32 := 0#32
  let v27 : BitVec 1 := Scalar.cmpi .slt v25 c0_i32_15
  let c0_i32_16 : BitVec 32 := 0#32
  let v28 : BitVec 1 := Scalar.cmpi .slt v24 c0_i32_16
  let v29 : BitVec 1 := Scalar.xori v27 v28
  let c0_i32_14 : BitVec 32 := 0#32
  let v26 : BitVec 1 := Scalar.cmpi .ne v25 c0_i32_14
  let v30 : BitVec 1 := Scalar.andi v29 v26
  let v31 : BitVec 32 := Scalar.addi v25 v24
  let v32 : BitVec 32 := Scalar.select v30 v31 v25
  let c2_i32_838 : BitVec 32 := 2#32
  let v8209 : BitVec 32 := Scalar.muli v32 c2_i32_838
  let v8210 : BitVec 32 := Scalar.addi v8209 c0_i32_839
  let c16_i32 : BitVec 32 := 16#32
  let v8211 : BitVec 32 := Scalar.muli v8210 c16_i32
  let v8212 : BitVec 32 := v8211
  let v8224 : Index := Scalar.indexCast v8212
  let c0_843 : Index := 0#32
  ![2, v8223.toNat, v8224.toNat, 0]
def k0_mult67 (i : grid0.Coords) (k0_t2 : Fin k0_t2_loop.trips) : BitVec 32 :=
  let arg1 : BitVec 32 := BitVec.ofNat 32 (i 1).val
  let c2_i32_11 : BitVec 32 := 2#32
  let v21 : BitVec 32 := Scalar.muli arg1 c2_i32_11
  let c0_i32_8 : BitVec 32 := 0#32
  let c1_i32 : BitVec 32 := 1#32
  let arg15 : BitVec 32 := Scf.iv c0_i32_8 c1_i32 k0_t2
  let v22 : BitVec 32 := Scalar.addi v21 arg15
  let c4_i32 : BitVec 32 := 4#32
  let c0_i32_12 : BitVec 32 := 0#32
  let v23 : BitVec 1 := Scalar.cmpi .eq c4_i32 c0_i32_12
  let c1_i32_13 : BitVec 32 := 1#32
  let v24 : BitVec 32 := Scalar.select v23 c1_i32_13 c4_i32
  let v25 : BitVec 32 := Scalar.remsi v22 v24
  let c0_i32_15 : BitVec 32 := 0#32
  let v27 : BitVec 1 := Scalar.cmpi .slt v25 c0_i32_15
  let c0_i32_16 : BitVec 32 := 0#32
  let v28 : BitVec 1 := Scalar.cmpi .slt v24 c0_i32_16
  let v29 : BitVec 1 := Scalar.xori v27 v28
  let c0_i32_14 : BitVec 32 := 0#32
  let v26 : BitVec 1 := Scalar.cmpi .ne v25 c0_i32_14
  let v30 : BitVec 1 := Scalar.andi v29 v26
  let v31 : BitVec 32 := Scalar.addi v25 v24
  let v32 : BitVec 32 := Scalar.select v30 v31 v25
  let c2_i32_844 : BitVec 32 := 2#32
  let v8228 : BitVec 32 := Scalar.muli v32 c2_i32_844
  let c1_i32_845 : BitVec 32 := 1#32
  let v8229 : BitVec 32 := Scalar.addi v8228 c1_i32_845
  let c16_i32_846 : BitVec 32 := 16#32
  let v8230 : BitVec 32 := Scalar.muli v8229 c16_i32_846
  v8230
def k0_mult68 (k0_t2 : Fin k0_t2_loop.trips) : BitVec 32 :=
  let c0_i32_8 : BitVec 32 := 0#32
  let c1_i32 : BitVec 32 := 1#32
  let arg15 : BitVec 32 := Scf.iv c0_i32_8 c1_i32 k0_t2
  let c1024_i32 : BitVec 32 := 1024#32
  let v8247 : BitVec 32 := Scalar.muli arg15 c1024_i32
  v8247
def k0_off9 (k0_t2 : Fin k0_t2_loop.trips) : Fin 2 → Nat :=
  let c0_i32_8 : BitVec 32 := 0#32
  let c1_i32 : BitVec 32 := 1#32
  let arg15 : BitVec 32 := Scf.iv c0_i32_8 c1_i32 k0_t2
  let c1024_i32 : BitVec 32 := 1024#32
  let v8247 : BitVec 32 := Scalar.muli arg15 c1024_i32
  let v8248 : BitVec 32 := v8247
  let v8249 : Index := Scalar.indexCast v8248
  let c0_853 : Index := 0#32
  ![v8249.toNat, 0]
def k0_off10 (i : grid0.Coords) (k0_t2 : Fin k0_t2_loop.trips) (c0_i32_857 : BitVec 32) : Fin 2 → Nat :=
  let arg1 : BitVec 32 := BitVec.ofNat 32 (i 1).val
  let c2_i32_11 : BitVec 32 := 2#32
  let v21 : BitVec 32 := Scalar.muli arg1 c2_i32_11
  let c0_i32_8 : BitVec 32 := 0#32
  let c1_i32 : BitVec 32 := 1#32
  let arg15 : BitVec 32 := Scf.iv c0_i32_8 c1_i32 k0_t2
  let v22 : BitVec 32 := Scalar.addi v21 arg15
  let c4_i32_856 : BitVec 32 := 4#32
  let v8259 : BitVec 32 := Scalar.muli v22 c4_i32_856
  let v8260 : BitVec 32 := Scalar.addi v8259 c0_i32_857
  let v8261 : Index := Scalar.indexCast v8260
  let c0_858 : Index := 0#32
  ![v8261.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c1_i32_3 : BitVec 32 := 1#32
  let v10 : BitVec 32 := Scalar.addi arg0 c1_i32_3
  let c31_i32 : BitVec 32 := 31#32
  let v11 : BitVec 32 := Scalar.minsi v10 c31_i32
  let c4_i32 : BitVec 32 := 4#32
  let v12 : BitVec 32 := Scalar.muli v11 c4_i32
  let c2_i32_4 : BitVec 32 := 2#32
  let v13 : BitVec 32 := Scalar.divsi arg1 c2_i32_4
  let c0_i32_5 : BitVec 32 := 0#32
  let v14 : BitVec 1 := Scalar.cmpi .sgt arg1 c0_i32_5
  let v15 : BitVec 32 := Scalar.extui v14
  let c0_i32_6 : BitVec 32 := 0#32
  let v16 : BitVec 1 := Scalar.cmpi .slt arg1 c0_i32_6
  let v17 : BitVec 32 := Scalar.extui v16
  let v18 : BitVec 32 := Scalar.subi v15 v17
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi arg1 c2_i32_4
  let c0_i32_9 : BitVec 32 := 0#32
  let v26 : BitVec 1 := Scalar.cmpi .ne v25 c0_i32_9
  let v27 : BitVec 1 := Scalar.andi v24 v26
  let c1_i32_10 : BitVec 32 := 1#32
  let v28 : BitVec 32 := Scalar.subi v13 c1_i32_10
  let v29 : BitVec 32 := Scalar.select v27 v28 v13
  let v30 : BitVec 32 := Scalar.addi v12 v29
  let c0_i32_11 : BitVec 32 := 0#32
  let c0_i32_12 : BitVec 32 := 0#32
  ![v9.toNat, c0_i32_11.toNat, v30.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== KernelWords.lean ====
abbrev S16384x1024 : Shape := ⟨2, ![16384, 1024]⟩
abbrev S1x16384x1024 : Shape := ⟨3, ![1, 16384, 1024]⟩
abbrev S512x128 : Shape := ⟨2, ![512, 128]⟩
abbrev S16x128x16384 : Shape := ⟨3, ![16, 128, 16384]⟩
abbrev S1024 : Shape := ⟨1, ![1024]⟩
abbrev S1x1024 : Shape := ⟨2, ![1, 1024]⟩
abbrev S512x1024 : Shape := ⟨2, ![512, 1024]⟩
abbrev S2048x1024 : Shape := ⟨2, ![2048, 1024]⟩
abbrev S8x128x128 : Shape := ⟨3, ![8, 128, 128]⟩
abbrev S36864x128 : Shape := ⟨2, ![36864, 128]⟩
abbrev S3x512x128 : Shape := ⟨3, ![3, 512, 128]⟩
abbrev S3x4x128x128 : Shape := ⟨4, ![3, 4, 128, 128]⟩
abbrev S1x512x128 : Shape := ⟨3, ![1, 512, 128]⟩
abbrev S1x1x128x128 : Shape := ⟨4, ![1, 1, 128, 128]⟩
abbrev S128x128 : Shape := ⟨2, ![128, 128]⟩
abbrev S1x128x128 : Shape := ⟨3, ![1, 128, 128]⟩
abbrev S1x64x128 : Shape := ⟨3, ![1, 64, 128]⟩
abbrev S64x128 : Shape := ⟨2, ![64, 128]⟩
abbrev S1x128 : Shape := ⟨2, ![1, 128]⟩
abbrev S16x128 : Shape := ⟨2, ![16, 128]⟩
abbrev S8x128 : Shape := ⟨2, ![8, 128]⟩
abbrev S80x128 : Shape := ⟨2, ![80, 128]⟩
abbrev S128 : Shape := ⟨1, ![128]⟩
abbrev S1x1x16x128 : Shape := ⟨4, ![1, 1, 16, 128]⟩
abbrev S1024x1024 : Shape := ⟨2, ![1024, 1024]⟩
abbrev S512 : Shape := ⟨1, ![512]⟩
abbrev S512x1 : Shape := ⟨2, ![512, 1]⟩

abbrev nBuf : Space → Nat
  | .hbm => 18
  | .vmem => 19
  | .smem => 0
  | _ => 0

abbrev bufTy : (tb : Table) → Fin (tcTables nBuf tb) → BufTy
  | .hbm, ⟨0, _⟩ => ⟨S16384x1024, .bf16⟩
  | .hbm, ⟨1, _⟩ => ⟨S1x16384x1024, .f32⟩
  | .hbm, ⟨2, _⟩ => ⟨S1x16384x1024, .f32⟩
  | .hbm, ⟨3, _⟩ => ⟨S512x128, .i32⟩
  | .hbm, ⟨4, _⟩ => ⟨S512x128, .i32⟩
  | .hbm, ⟨5, _⟩ => ⟨S512x128, .f32⟩
  | .hbm, ⟨6, _⟩ => ⟨S16x128x16384, .f32⟩
  | .hbm, ⟨7, _⟩ => ⟨S16384x1024, .f32⟩
  | .hbm, ⟨8, _⟩ => ⟨S1024, .f32⟩
  | .hbm, ⟨9, _⟩ => ⟨S16384x1024, .f32⟩
  | .hbm, ⟨10, _⟩ => ⟨S16384x1024, .bf16⟩
  | .hbm, ⟨11, _⟩ => ⟨S16384x1024, .f32⟩
  | .hbm, ⟨12, _⟩ => ⟨S16384x1024, .bf16⟩
  | .hbm, ⟨13, _⟩ => ⟨S512x128, .f32⟩
  | .hbm, ⟨14, _⟩ => ⟨S512x128, .f32⟩
  | .hbm, ⟨15, _⟩ => ⟨S1x1024, .f32⟩
  | .hbm, ⟨16, _⟩ => ⟨S16384x1024, .f32⟩
  | .hbm, ⟨17, _⟩ => ⟨S512x1024, .f32⟩
  | .local _ .vmem, ⟨0, _⟩ => ⟨S512x1024, .bf16⟩
  | .local _ .vmem, ⟨1, _⟩ => ⟨S512x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S8x128x128, .f32⟩
  | .local _ .vmem, ⟨10, _⟩ => ⟨S8x128x128, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S36864x128, .i32⟩
  | .local _ .vmem, ⟨17, _⟩ => ⟨S3x512x128, .f32⟩
  | .local _ .vmem, ⟨18, _⟩ => ⟨S3x4x128x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [BitOps F]

abbrev grid0 : Pipeline.Grid := ⟨2, ![32, 8], ![false, false]⟩

def k0_cond3 (i : grid0.Coords) : BitVec 1 :=
  let arg1 : BitVec 32 := BitVec.ofNat 32 (i 1).val
  let c0_i32_5 : BitVec 32 := 0#32
  let v10 : BitVec 1 := Scalar.cmpi .eq arg1 c0_i32_5
  let v11 : BitVec 32 := Scalar.extui v10
  let c0_i32_6 : BitVec 32 := 0#32
  let v12 : BitVec 1 := Scalar.cmpi .ne v11 c0_i32_6
  v12

@[reducible] def k0_t1_loop : Scf.Loop 32 :=
  let c0_i32_20 : BitVec 32 := 0#32
  let c8_i32 : BitVec 32 := 8#32
  let v41 : BitVec 32 := Scalar.addi c0_i32_20 c8_i32
  let c1_i32_21 : BitVec 32 := 1#32
  ⟨c0_i32_20, v41, c1_i32_21⟩
def k0_mult1 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  v42
def k0_off1 (k0_t1 : Fin k0_t1_loop.trips) : Fin 3 → Nat :=
  let c0_24 : Index := 0#32
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let v44 : Index := Scalar.indexCast v43
  let c0_25 : Index := 0#32
  ![0, v44.toNat, 0]
def k0_off2 (k0_t1 : Fin k0_t1_loop.trips) : Fin 3 → Nat :=
  let c1 : Index := 1#32
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let v47 : Index := Scalar.indexCast v43
  let c0_26 : Index := 0#32
  ![1, v47.toNat, 0]
def k0_off3 (k0_t1 : Fin k0_t1_loop.trips) : Fin 3 → Nat :=
  let c2 : Index := 2#32
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let v50 : Index := Scalar.indexCast v43
  let c0_27 : Index := 0#32
  ![2, v50.toNat, 0]
def k0_mult2 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c0_i32_30 : BitVec 32 := 0#32
  let v75 : BitVec 32 := Scalar.addi v43 c0_i32_30
  let c72_i32 : BitVec 32 := 72#32
  let v76 : BitVec 32 := Scalar.muli v75 c72_i32
  v76
def k0_off4 (k0_t1 : Fin k0_t1_loop.trips) (c0_i32_30 : BitVec 32) : Fin 2 → Nat :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let v75 : BitVec 32 := Scalar.addi v43 c0_i32_30
  let c72_i32 : BitVec 32 := 72#32
  let v76 : BitVec 32 := Scalar.muli v75 c72_i32
  let v77 : BitVec 32 := v76
  let v81 : Index := Scalar.indexCast v77
  let c0_31 : Index := 0#32
  ![v81.toNat, 0]
def k0_mult3 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c1_i32_33 : BitVec 32 := 1#32
  let v105 : BitVec 32 := Scalar.addi v43 c1_i32_33
  let c72_i32_34 : BitVec 32 := 72#32
  let v106 : BitVec 32 := Scalar.muli v105 c72_i32_34
  v106
def k0_mult4 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c2_i32_37 : BitVec 32 := 2#32
  let v135 : BitVec 32 := Scalar.addi v43 c2_i32_37
  let c72_i32_38 : BitVec 32 := 72#32
  let v136 : BitVec 32 := Scalar.muli v135 c72_i32_38
  v136
def k0_mult5 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c3_i32 : BitVec 32 := 3#32
  let v165 : BitVec 32 := Scalar.addi v43 c3_i32
  let c72_i32_41 : BitVec 32 := 72#32
  let v166 : BitVec 32 := Scalar.muli v165 c72_i32_41
  v166
def k0_mult6 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c4_i32 : BitVec 32 := 4#32
  let v195 : BitVec 32 := Scalar.addi v43 c4_i32
  let c72_i32_44 : BitVec 32 := 72#32
  let v196 : BitVec 32 := Scalar.muli v195 c72_i32_44
  v196
def k0_mult7 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c5_i32 : BitVec 32 := 5#32
  let v225 : BitVec 32 := Scalar.addi v43 c5_i32
  let c72_i32_47 : BitVec 32 := 72#32
  let v226 : BitVec 32 := Scalar.muli v225 c72_i32_47
  v226
def k0_mult8 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c6_i32 : BitVec 32 := 6#32
  let v255 : BitVec 32 := Scalar.addi v43 c6_i32
  let c72_i32_50 : BitVec 32 := 72#32
  let v256 : BitVec 32 := Scalar.muli v255 c72_i32_50
  v256
def k0_mult9 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c7_i32_53 : BitVec 32 := 7#32
  let v285 : BitVec 32 := Scalar.addi v43 c7_i32_53
  let c72_i32_54 : BitVec 32 := 72#32
  let v286 : BitVec 32 := Scalar.muli v285 c72_i32_54
  v286
def k0_mult10 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c8_i32_57 : BitVec 32 := 8#32
  let v315 : BitVec 32 := Scalar.addi v43 c8_i32_57
  let c72_i32_58 : BitVec 32 := 72#32
  let v316 : BitVec 32 := Scalar.muli v315 c72_i32_58
  v316
def k0_mult11 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c9_i32 : BitVec 32 := 9#32
  let v345 : BitVec 32 := Scalar.addi v43 c9_i32
  let c72_i32_61 : BitVec 32 := 72#32
  let v346 : BitVec 32 := Scalar.muli v345 c72_i32_61
  v346
def k0_mult12 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c10_i32 : BitVec 32 := 10#32
  let v375 : BitVec 32 := Scalar.addi v43 c10_i32
  let c72_i32_64 : BitVec 32 := 72#32
  let v376 : BitVec 32 := Scalar.muli v375 c72_i32_64
  v376
def k0_mult13 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c11_i32 : BitVec 32 := 11#32
  let v405 : BitVec 32 := Scalar.addi v43 c11_i32
  let c72_i32_67 : BitVec 32 := 72#32
  let v406 : BitVec 32 := Scalar.muli v405 c72_i32_67
  v406
def k0_mult14 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c12_i32 : BitVec 32 := 12#32
  let v435 : BitVec 32 := Scalar.addi v43 c12_i32
  let c72_i32_70 : BitVec 32 := 72#32
  let v436 : BitVec 32 := Scalar.muli v435 c72_i32_70
  v436
def k0_mult15 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c13_i32 : BitVec 32 := 13#32
  let v465 : BitVec 32 := Scalar.addi v43 c13_i32
  let c72_i32_73 : BitVec 32 := 72#32
  let v466 : BitVec 32 := Scalar.muli v465 c72_i32_73
  v466
def k0_mult16 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c14_i32 : BitVec 32 := 14#32
  let v495 : BitVec 32 := Scalar.addi v43 c14_i32
  let c72_i32_76 : BitVec 32 := 72#32
  let v496 : BitVec 32 := Scalar.muli v495 c72_i32_76
  v496
def k0_mult17 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c15_i32 : BitVec 32 := 15#32
  let v525 : BitVec 32 := Scalar.addi v43 c15_i32
  let c72_i32_79 : BitVec 32 := 72#32
  let v526 : BitVec 32 := Scalar.muli v525 c72_i32_79
  v526
def k0_mult18 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c16_i32 : BitVec 32 := 16#32
  let v555 : BitVec 32 := Scalar.addi v43 c16_i32
  let c72_i32_82 : BitVec 32 := 72#32
  let v556 : BitVec 32 := Scalar.muli v555 c72_i32_82
  v556
def k0_mult19 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c17_i32 : BitVec 32 := 17#32
  let v585 : BitVec 32 := Scalar.addi v43 c17_i32
  let c72_i32_85 : BitVec 32 := 72#32
  let v586 : BitVec 32 := Scalar.muli v585 c72_i32_85
  v586
def k0_mult20 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c18_i32 : BitVec 32 := 18#32
  let v615 : BitVec 32 := Scalar.addi v43 c18_i32
  let c72_i32_88 : BitVec 32 := 72#32
  let v616 : BitVec 32 := Scalar.muli v615 c72_i32_88
  v616
def k0_mult21 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c19_i32 : BitVec 32 := 19#32
  let v645 : BitVec 32 := Scalar.addi v43 c19_i32
  let c72_i32_91 : BitVec 32 := 72#32
  let v646 : BitVec 32 := Scalar.muli v645 c72_i32_91
  v646
def k0_mult22 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c20_i32 : BitVec 32 := 20#32
  let v675 : BitVec 32 := Scalar.addi v43 c20_i32
  let c72_i32_94 : BitVec 32 := 72#32
  let v676 : BitVec 32 := Scalar.muli v675 c72_i32_94
  v676
def k0_mult23 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c21_i32 : BitVec 32 := 21#32
  let v705 : BitVec 32 := Scalar.addi v43 c21_i32
  let c72_i32_97 : BitVec 32 := 72#32
  let v706 : BitVec 32 := Scalar.muli v705 c72_i32_97
  v706
def k0_mult24 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c22_i32 : BitVec 32 := 22#32
  let v735 : BitVec 32 := Scalar.addi v43 c22_i32
  let c72_i32_100 : BitVec 32 := 72#32
  let v736 : BitVec 32 := Scalar.muli v735 c72_i32_100
  v736
def k0_mult25 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c23_i32 : BitVec 32 := 23#32
  let v765 : BitVec 32 := Scalar.addi v43 c23_i32
  let c72_i32_103 : BitVec 32 := 72#32
  let v766 : BitVec 32 := Scalar.muli v765 c72_i32_103
  v766
def k0_mult26 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c24_i32 : BitVec 32 := 24#32
  let v795 : BitVec 32 := Scalar.addi v43 c24_i32
  let c72_i32_106 : BitVec 32 := 72#32
  let v796 : BitVec 32 := Scalar.muli v795 c72_i32_106
  v796
def k0_mult27 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c25_i32 : BitVec 32 := 25#32
  let v825 : BitVec 32 := Scalar.addi v43 c25_i32
  let c72_i32_109 : BitVec 32 := 72#32
  let v826 : BitVec 32 := Scalar.muli v825 c72_i32_109
  v826
def k0_mult28 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c26_i32 : BitVec 32 := 26#32
  let v855 : BitVec 32 := Scalar.addi v43 c26_i32
  let c72_i32_112 : BitVec 32 := 72#32
  let v856 : BitVec 32 := Scalar.muli v855 c72_i32_112
  v856
def k0_mult29 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c27_i32 : BitVec 32 := 27#32
  let v885 : BitVec 32 := Scalar.addi v43 c27_i32
  let c72_i32_115 : BitVec 32 := 72#32
  let v886 : BitVec 32 := Scalar.muli v885 c72_i32_115
  v886
def k0_mult30 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c28_i32 : BitVec 32 := 28#32
  let v915 : BitVec 32 := Scalar.addi v43 c28_i32
  let c72_i32_118 : BitVec 32 := 72#32
  let v916 : BitVec 32 := Scalar.muli v915 c72_i32_118
  v916
def k0_mult31 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c29_i32 : BitVec 32 := 29#32
  let v945 : BitVec 32 := Scalar.addi v43 c29_i32
  let c72_i32_121 : BitVec 32 := 72#32
  let v946 : BitVec 32 := Scalar.muli v945 c72_i32_121
  v946
def k0_mult32 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c30_i32 : BitVec 32 := 30#32
  let v975 : BitVec 32 := Scalar.addi v43 c30_i32
  let c72_i32_124 : BitVec 32 := 72#32
  let v976 : BitVec 32 := Scalar.muli v975 c72_i32_124
  v976
def k0_mult33 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c31_i32 : BitVec 32 := 31#32
  let v1005 : BitVec 32 := Scalar.addi v43 c31_i32
  let c72_i32_127 : BitVec 32 := 72#32
  let v1006 : BitVec 32 := Scalar.muli v1005 c72_i32_127
  v1006
def k0_mult34 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c32_i32 : BitVec 32 := 32#32
  let v1035 : BitVec 32 := Scalar.addi v43 c32_i32
  let c72_i32_130 : BitVec 32 := 72#32
  let v1036 : BitVec 32 := Scalar.muli v1035 c72_i32_130
  v1036
def k0_mult35 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c33_i32 : BitVec 32 := 33#32
  let v1065 : BitVec 32 := Scalar.addi v43 c33_i32
  let c72_i32_133 : BitVec 32 := 72#32
  let v1066 : BitVec 32 := Scalar.muli v1065 c72_i32_133
  v1066
def k0_mult36 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c34_i32 : BitVec 32 := 34#32
  let v1095 : BitVec 32 := Scalar.addi v43 c34_i32
  let c72_i32_136 : BitVec 32 := 72#32
  let v1096 : BitVec 32 := Scalar.muli v1095 c72_i32_136
  v1096
def k0_mult37 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c35_i32 : BitVec 32 := 35#32
  let v1125 : BitVec 32 := Scalar.addi v43 c35_i32
  let c72_i32_139 : BitVec 32 := 72#32
  let v1126 : BitVec 32 := Scalar.muli v1125 c72_i32_139
  v1126
def k0_mult38 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c36_i32 : BitVec 32 := 36#32
  let v1155 : BitVec 32 := Scalar.addi v43 c36_i32
  let c72_i32_142 : BitVec 32 := 72#32
  let v1156 : BitVec 32 := Scalar.muli v1155 c72_i32_142
  v1156
def k0_mult39 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c37_i32 : BitVec 32 := 37#32
  let v1185 : BitVec 32 := Scalar.addi v43 c37_i32
  let c72_i32_145 : BitVec 32 := 72#32
  let v1186 : BitVec 32 := Scalar.muli v1185 c72_i32_145
  v1186
def k0_mult40 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c38_i32 : BitVec 32 := 38#32
  let v1215 : BitVec 32 := Scalar.addi v43 c38_i32
  let c72_i32_148 : BitVec 32 := 72#32
  let v1216 : BitVec 32 := Scalar.muli v1215 c72_i32_148
  v1216
def k0_mult41 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c39_i32 : BitVec 32 := 39#32
  let v1245 : BitVec 32 := Scalar.addi v43 c39_i32
  let c72_i32_151 : BitVec 32 := 72#32
  let v1246 : BitVec 32 := Scalar.muli v1245 c72_i32_151
  v1246
def k0_mult42 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c40_i32 : BitVec 32 := 40#32
  let v1275 : BitVec 32 := Scalar.addi v43 c40_i32
  let c72_i32_154 : BitVec 32 := 72#32
  let v1276 : BitVec 32 := Scalar.muli v1275 c72_i32_154
  v1276
def k0_mult43 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c41_i32 : BitVec 32 := 41#32
  let v1305 : BitVec 32 := Scalar.addi v43 c41_i32
  let c72_i32_157 : BitVec 32 := 72#32
  let v1306 : BitVec 32 := Scalar.muli v1305 c72_i32_157
  v1306
def k0_mult44 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c42_i32 : BitVec 32 := 42#32
  let v1335 : BitVec 32 := Scalar.addi v43 c42_i32
  let c72_i32_160 : BitVec 32 := 72#32
  let v1336 : BitVec 32 := Scalar.muli v1335 c72_i32_160
  v1336
def k0_mult45 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c43_i32 : BitVec 32 := 43#32
  let v1365 : BitVec 32 := Scalar.addi v43 c43_i32
  let c72_i32_163 : BitVec 32 := 72#32
  let v1366 : BitVec 32 := Scalar.muli v1365 c72_i32_163
  v1366
def k0_mult46 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c44_i32 : BitVec 32 := 44#32
  let v1395 : BitVec 32 := Scalar.addi v43 c44_i32
  let c72_i32_166 : BitVec 32 := 72#32
  let v1396 : BitVec 32 := Scalar.muli v1395 c72_i32_166
  v1396
def k0_mult47 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c45_i32 : BitVec 32 := 45#32
  let v1425 : BitVec 32 := Scalar.addi v43 c45_i32
  let c72_i32_169 : BitVec 32 := 72#32
  let v1426 : BitVec 32 := Scalar.muli v1425 c72_i32_169
  v1426
def k0_mult48 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c46_i32 : BitVec 32 := 46#32
  let v1455 : BitVec 32 := Scalar.addi v43 c46_i32
  let c72_i32_172 : BitVec 32 := 72#32
  let v1456 : BitVec 32 := Scalar.muli v1455 c72_i32_172
  v1456
def k0_mult49 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c47_i32 : BitVec 32 := 47#32
  let v1485 : BitVec 32 := Scalar.addi v43 c47_i32
  let c72_i32_175 : BitVec 32 := 72#32
  let v1486 : BitVec 32 := Scalar.muli v1485 c72_i32_175
  v1486
def k0_mult50 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c48_i32 : BitVec 32 := 48#32
  let v1515 : BitVec 32 := Scalar.addi v43 c48_i32
  let c72_i32_178 : BitVec 32 := 72#32
  let v1516 : BitVec 32 := Scalar.muli v1515 c72_i32_178
  v1516
def k0_mult51 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c49_i32 : BitVec 32 := 49#32
  let v1545 : BitVec 32 := Scalar.addi v43 c49_i32
  let c72_i32_181 : BitVec 32 := 72#32
  let v1546 : BitVec 32 := Scalar.muli v1545 c72_i32_181
  v1546
def k0_mult52 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c50_i32 : BitVec 32 := 50#32
  let v1575 : BitVec 32 := Scalar.addi v43 c50_i32
  let c72_i32_184 : BitVec 32 := 72#32
  let v1576 : BitVec 32 := Scalar.muli v1575 c72_i32_184
  v1576
def k0_mult53 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c51_i32 : BitVec 32 := 51#32
  let v1605 : BitVec 32 := Scalar.addi v43 c51_i32
  let c72_i32_187 : BitVec 32 := 72#32
  let v1606 : BitVec 32 := Scalar.muli v1605 c72_i32_187
  v1606
def k0_mult54 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c52_i32 : BitVec 32 := 52#32
  let v1635 : BitVec 32 := Scalar.addi v43 c52_i32
  let c72_i32_190 : BitVec 32 := 72#32
  let v1636 : BitVec 32 := Scalar.muli v1635 c72_i32_190
  v1636
def k0_mult55 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c53_i32 : BitVec 32 := 53#32
  let v1665 : BitVec 32 := Scalar.addi v43 c53_i32
  let c72_i32_193 : BitVec 32 := 72#32
  let v1666 : BitVec 32 := Scalar.muli v1665 c72_i32_193
  v1666
def k0_mult56 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c54_i32 : BitVec 32 := 54#32
  let v1695 : BitVec 32 := Scalar.addi v43 c54_i32
  let c72_i32_196 : BitVec 32 := 72#32
  let v1696 : BitVec 32 := Scalar.muli v1695 c72_i32_196
  v1696
def k0_mult57 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c55_i32 : BitVec 32 := 55#32
  let v1725 : BitVec 32 := Scalar.addi v43 c55_i32
  let c72_i32_199 : BitVec 32 := 72#32
  let v1726 : BitVec 32 := Scalar.muli v1725 c72_i32_199
  v1726
def k0_mult58 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c56_i32 : BitVec 32 := 56#32
  let v1755 : BitVec 32 := Scalar.addi v43 c56_i32
  let c72_i32_202 : BitVec 32 := 72#32
  let v1756 : BitVec 32 := Scalar.muli v1755 c72_i32_202
  v1756
def k0_mult59 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c57_i32 : BitVec 32 := 57#32
  let v1785 : BitVec 32 := Scalar.addi v43 c57_i32
  let c72_i32_205 : BitVec 32 := 72#32
  let v1786 : BitVec 32 := Scalar.muli v1785 c72_i32_205
  v1786
def k0_mult60 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c58_i32 : BitVec 32 := 58#32
  let v1815 : BitVec 32 := Scalar.addi v43 c58_i32
  let c72_i32_208 : BitVec 32 := 72#32
  let v1816 : BitVec 32 := Scalar.muli v1815 c72_i32_208
  v1816
def k0_mult61 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c59_i32 : BitVec 32 := 59#32
  let v1845 : BitVec 32 := Scalar.addi v43 c59_i32
  let c72_i32_211 : BitVec 32 := 72#32
  let v1846 : BitVec 32 := Scalar.muli v1845 c72_i32_211
  v1846
def k0_mult62 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c60_i32 : BitVec 32 := 60#32
  let v1875 : BitVec 32 := Scalar.addi v43 c60_i32
  let c72_i32_214 : BitVec 32 := 72#32
  let v1876 : BitVec 32 := Scalar.muli v1875 c72_i32_214
  v1876
def k0_mult63 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c61_i32 : BitVec 32 := 61#32
  let v1905 : BitVec 32 := Scalar.addi v43 c61_i32
  let c72_i32_217 : BitVec 32 := 72#32
  let v1906 : BitVec 32 := Scalar.muli v1905 c72_i32_217
  v1906
def k0_mult64 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c62_i32 : BitVec 32 := 62#32
  let v1935 : BitVec 32 := Scalar.addi v43 c62_i32
  let c72_i32_220 : BitVec 32 := 72#32
  let v1936 : BitVec 32 := Scalar.muli v1935 c72_i32_220
  v1936
def k0_mult65 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c63_i32 : BitVec 32 := 63#32
  let v1965 : BitVec 32 := Scalar.addi v43 c63_i32
  let c72_i32_223 : BitVec 32 := 72#32
  let v1966 : BitVec 32 := Scalar.muli v1965 c72_i32_223
  v1966
@[reducible] def k0_t2_loop : Scf.Loop 32 :=
  let c0_i32_8 : BitVec 32 := 0#32
  let c2_i32 : BitVec 32 := 2#32
  let v17 : BitVec 32 := Scalar.addi c0_i32_8 c2_i32
  let c1_i32 : BitVec 32 := 1#32
  ⟨c0_i32_8, v17, c1_i32⟩
def k0_off5 (k0_t2 : Fin k0_t2_loop.trips) (c0_i32_25 : BitVec 32) : Fin 3 → Nat :=
  let c0_i32_8 : BitVec 32 := 0#32
  let c1_i32 : BitVec 32 := 1#32
  let arg15 : BitVec 32 := Scf.iv c0_i32_8 c1_i32 k0_t2
  let c4_i32_24 : BitVec 32 := 4#32
  let v50 : BitVec 32 := Scalar.muli arg15 c4_i32_24
  let v51 : BitVec 32 := Scalar.addi v50 c0_i32_25
  let v52 : Index := Scalar.indexCast v51
  let c0_26 : Index := 0#32
  let c0_27 : Index := 0#32
  ![v52.toNat, 0, 0]
def k0_mult66 (i : grid0.Coords) (k0_t2 : Fin k0_t2_loop.trips) : BitVec 32 :=
  let arg1 : BitVec 32 := BitVec.ofNat 32 (i 1).val
  let c2_i32_11 : BitVec 32 := 2#32
  let v21 : BitVec 32 := Scalar.muli arg1 c2_i32_11
  let c0_i32_8 : BitVec 32 := 0#32
  let c1_i32 : BitVec 32 := 1#32
  let arg15 : BitVec 32 := Scf.iv c0_i32_8 c1_i32 k0_t2
  let v22 : BitVec 32 := Scalar.addi v21 arg15
  let c4_i32 : BitVec 32 := 4#32
  let c0_i32_12 : BitVec 32 := 0#32
  let v23 : BitVec 1 := Scalar.cmpi .eq c4_i32 c0_i32_12
  let c1_i32_13 : BitVec 32 := 1#32
  let v24 : BitVec 32 := Scalar.select v23 c1_i32_13 c4_i32
  let v25 : BitVec 32 := Scalar.remsi v22 v24
  let c0_i32_15 : BitVec 32 := 0#32
  let v27 : BitVec 1 := Scalar.cmpi .slt v25 c0_i32_15
  let c0_i32_16 : BitVec 32 := 0#32
  let v28 : BitVec 1 := Scalar.cmpi .slt v24 c0_i32_16
  let v29 : BitVec 1 := Scalar.xori v27 v28
  let c0_i32_14 : BitVec 32 := 0#32
  let v26 : BitVec 1 := Scalar.cmpi .ne v25 c0_i32_14
  let v30 : BitVec 1 := Scalar.andi v29 v26
  let v31 : BitVec 32 := Scalar.addi v25 v24
  let v32 : BitVec 32 := Scalar.select v30 v31 v25
  let c2_i32_838 : BitVec 32 := 2#32
  let v8209 : BitVec 32 := Scalar.muli v32 c2_i32_838
  let c0_i32_839 : BitVec 32 := 0#32
  let v8210 : BitVec 32 := Scalar.addi v8209 c0_i32_839
  let c16_i32 : BitVec 32 := 16#32
  let v8211 : BitVec 32 := Scalar.muli v8210 c16_i32
  v8211
def k0_off6 (i : grid0.Coords) (k0_t2 : Fin k0_t2_loop.trips) (c0_i32_839 : BitVec 32) : Fin 4 → Nat :=
  let c0_840 : Index := 0#32
  let arg1 : BitVec 32 := BitVec.ofNat 32 (i 1).val
  let c2_i32_11 : BitVec 32 := 2#32
  let v21 : BitVec 32 := Scalar.muli arg1 c2_i32_11
  let c0_i32_8 : BitVec 32 := 0#32
  let c1_i32 : BitVec 32 := 1#32
  let arg15 : BitVec 32 := Scf.iv c0_i32_8 c1_i32 k0_t2
  let v22 : BitVec 32 := Scalar.addi v21 arg15
  let c0_i32_18 : BitVec 32 := 0#32
  let v34 : BitVec 1 := Scalar.cmpi .sgt v22 c0_i32_18
  let v35 : BitVec 32 := Scalar.extui v34
  let c0_i32_19 : BitVec 32 := 0#32
  let v36 : BitVec 1 := Scalar.cmpi .slt v22 c0_i32_19
  let v37 : BitVec 32 := Scalar.extui v36
  let v38 : BitVec 32 := Scalar.subi v35 v37
  let c4_i32_17 : BitVec 32 := 4#32
  let c0_i32_20 : BitVec 32 := 0#32
  let v39 : BitVec 1 := Scalar.cmpi .sgt c4_i32_17 c0_i32_20
  let v40 : BitVec 32 := Scalar.extui v39
  let c0_i32_21 : BitVec 32 := 0#32
  let v41 : BitVec 1 := Scalar.cmpi .slt c4_i32_17 c0_i32_21
  let v42 : BitVec 32 := Scalar.extui v41
  let v43 : BitVec 32 := Scalar.subi v40 v42
  let v44 : BitVec 1 := Scalar.cmpi .ne v38 v43
  let v45 : BitVec 32 := Scalar.remsi v22 c4_i32_17
  let c0_i32_22 : BitVec 32 := 0#32
  let v46 : BitVec 1 := Scalar.cmpi .ne v45 c0_i32_22
  let v47 : BitVec 1 := Scalar.andi v44 v46
  let v33 : BitVec 32 := Scalar.divsi v22 c4_i32_17
  let c1_i32_23 : BitVec 32 := 1#32
  let v48 : BitVec 32 := Scalar.subi v33 c1_i32_23
  let v49 : BitVec 32 := Scalar.select v47 v48 v33
  let v8213 : Index := Scalar.indexCast v49
  let c4_i32 : BitVec 32 := 4#32
  let c0_i32_12 : BitVec 32 := 0#32
  let v23 : BitVec 1 := Scalar.cmpi .eq c4_i32 c0_i32_12
  let c1_i32_13 : BitVec 32 := 1#32
  let v24 : BitVec 32 := Scalar.select v23 c1_i32_13 c4_i32
  let v25 : BitVec 32 := Scalar.remsi v22 v24
  let c0_i32_15 : BitVec 32 := 0#32
  let v27 : BitVec 1 := Scalar.cmpi .slt v25 c0_i32_15
  let c0_i32_16 : BitVec 32 := 0#32
  let v28 : BitVec 1 := Scalar.cmpi .slt v24 c0_i32_16
  let v29 : BitVec 1 := Scalar.xori v27 v28
  let c0_i32_14 : BitVec 32 := 0#32
  let v26 : BitVec 1 := Scalar.cmpi .ne v25 c0_i32_14
  let v30 : BitVec 1 := Scalar.andi v29 v26
  let v31 : BitVec 32 := Scalar.addi v25 v24
  let v32 : BitVec 32 := Scalar.select v30 v31 v25
  let c2_i32_838 : BitVec 32 := 2#32
  let v8209 : BitVec 32 := Scalar.muli v32 c2_i32_838
  let v8210 : BitVec 32 := Scalar.addi v8209 c0_i32_839
  let c16_i32 : BitVec 32 := 16#32
  let v8211 : BitVec 32 := Scalar.muli v8210 c16_i32
  let v8212 : BitVec 32 := v8211
  let v8214 : Index := Scalar.indexCast v8212
  let c0_841 : Index := 0#32
  ![0, v8213.toNat, v8214.toNat, 0]
def k0_off7 (i : grid0.Coords) (k0_t2 : Fin k0_t2_loop.trips) (c0_i32_839 : BitVec 32) : Fin 4 → Nat :=
  let c1 : Index := 1#32
  let arg1 : BitVec 32 := BitVec.ofNat 32 (i 1).val
  let c2_i32_11 : BitVec 32 := 2#32
  let v21 : BitVec 32 := Scalar.muli arg1 c2_i32_11
  let c0_i32_8 : BitVec 32 := 0#32
  let c1_i32 : BitVec 32 := 1#32
  let arg15 : BitVec 32 := Scf.iv c0_i32_8 c1_i32 k0_t2
  let v22 : BitVec 32 := Scalar.addi v21 arg15
  let c0_i32_18 : BitVec 32 := 0#32
  let v34 : BitVec 1 := Scalar.cmpi .sgt v22 c0_i32_18
  let v35 : BitVec 32 := Scalar.extui v34
  let c0_i32_19 : BitVec 32 := 0#32
  let v36 : BitVec 1 := Scalar.cmpi .slt v22 c0_i32_19
  let v37 : BitVec 32 := Scalar.extui v36
  let v38 : BitVec 32 := Scalar.subi v35 v37
  let c4_i32_17 : BitVec 32 := 4#32
  let c0_i32_20 : BitVec 32 := 0#32
  let v39 : BitVec 1 := Scalar.cmpi .sgt c4_i32_17 c0_i32_20
  let v40 : BitVec 32 := Scalar.extui v39
  let c0_i32_21 : BitVec 32 := 0#32
  let v41 : BitVec 1 := Scalar.cmpi .slt c4_i32_17 c0_i32_21
  let v42 : BitVec 32 := Scalar.extui v41
  let v43 : BitVec 32 := Scalar.subi v40 v42
  let v44 : BitVec 1 := Scalar.cmpi .ne v38 v43
  let v45 : BitVec 32 := Scalar.remsi v22 c4_i32_17
  let c0_i32_22 : BitVec 32 := 0#32
  let v46 : BitVec 1 := Scalar.cmpi .ne v45 c0_i32_22
  let v47 : BitVec 1 := Scalar.andi v44 v46
  let v33 : BitVec 32 := Scalar.divsi v22 c4_i32_17
  let c1_i32_23 : BitVec 32 := 1#32
  let v48 : BitVec 32 := Scalar.subi v33 c1_i32_23
  let v49 : BitVec 32 := Scalar.select v47 v48 v33
  let v8218 : Index := Scalar.indexCast v49
  let c4_i32 : BitVec 32 := 4#32
  let c0_i32_12 : BitVec 32 := 0#32
  let v23 : BitVec 1 := Scalar.cmpi .eq c4_i32 c0_i32_12
  let c1_i32_13 : BitVec 32 := 1#32
  let v24 : BitVec 32 := Scalar.select v23 c1_i32_13 c4_i32
  let v25 : BitVec 32 := Scalar.remsi v22 v24
  let c0_i32_15 : BitVec 32 := 0#32
  let v27 : BitVec 1 := Scalar.cmpi .slt v25 c0_i32_15
  let c0_i32_16 : BitVec 32 := 0#32
  let v28 : BitVec 1 := Scalar.cmpi .slt v24 c0_i32_16
  let v29 : BitVec 1 := Scalar.xori v27 v28
  let c0_i32_14 : BitVec 32 := 0#32
  let v26 : BitVec 1 := Scalar.cmpi .ne v25 c0_i32_14
  let v30 : BitVec 1 := Scalar.andi v29 v26
  let v31 : BitVec 32 := Scalar.addi v25 v24
  let v32 : BitVec 32 := Scalar.select v30 v31 v25
  let c2_i32_838 : BitVec 32 := 2#32
  let v8209 : BitVec 32 := Scalar.muli v32 c2_i32_838
  let v8210 : BitVec 32 := Scalar.addi v8209 c0_i32_839
  let c16_i32 : BitVec 32 := 16#32
  let v8211 : BitVec 32 := Scalar.muli v8210 c16_i32
  let v8212 : BitVec 32 := v8211
  let v8219 : Index := Scalar.indexCast v8212
  let c0_842 : Index := 0#32
  ![1, v8218.toNat, v8219.toNat, 0]
def k0_off8 (i : grid0.Coords) (k0_t2 : Fin k0_t2_loop.trips) (c0_i32_839 : BitVec 32) : Fin 4 → Nat :=
  let c2 : Index := 2#32
  let arg1 : BitVec 32 := BitVec.ofNat 32 (i 1).val
  let c2_i32_11 : BitVec 32 := 2#32
  let v21 : BitVec 32 := Scalar.muli arg1 c2_i32_11
  let c0_i32_8 : BitVec 32 := 0#32
  let c1_i32 : BitVec 32 := 1#32
  let arg15 : BitVec 32 := Scf.iv c0_i32_8 c1_i32 k0_t2
  let v22 : BitVec 32 := Scalar.addi v21 arg15
  let c0_i32_18 : BitVec 32 := 0#32
  let v34 : BitVec 1 := Scalar.cmpi .sgt v22 c0_i32_18
  let v35 : BitVec 32 := Scalar.extui v34
  let c0_i32_19 : BitVec 32 := 0#32
  let v36 : BitVec 1 := Scalar.cmpi .slt v22 c0_i32_19
  let v37 : BitVec 32 := Scalar.extui v36
  let v38 : BitVec 32 := Scalar.subi v35 v37
  let c4_i32_17 : BitVec 32 := 4#32
  let c0_i32_20 : BitVec 32 := 0#32
  let v39 : BitVec 1 := Scalar.cmpi .sgt c4_i32_17 c0_i32_20
  let v40 : BitVec 32 := Scalar.extui v39
  let c0_i32_21 : BitVec 32 := 0#32
  let v41 : BitVec 1 := Scalar.cmpi .slt c4_i32_17 c0_i32_21
  let v42 : BitVec 32 := Scalar.extui v41
  let v43 : BitVec 32 := Scalar.subi v40 v42
  let v44 : BitVec 1 := Scalar.cmpi .ne v38 v43
  let v45 : BitVec 32 := Scalar.remsi v22 c4_i32_17
  let c0_i32_22 : BitVec 32 := 0#32
  let v46 : BitVec 1 := Scalar.cmpi .ne v45 c0_i32_22
  let v47 : BitVec 1 := Scalar.andi v44 v46
  let v33 : BitVec 32 := Scalar.divsi v22 c4_i32_17
  let c1_i32_23 : BitVec 32 := 1#32
  let v48 : BitVec 32 := Scalar.subi v33 c1_i32_23
  let v49 : BitVec 32 := Scalar.select v47 v48 v33
  let v8223 : Index := Scalar.indexCast v49
  let c4_i32 : BitVec 32 := 4#32
  let c0_i32_12 : BitVec 32 := 0#32
  let v23 : BitVec 1 := Scalar.cmpi .eq c4_i32 c0_i32_12
  let c1_i32_13 : BitVec 32 := 1#32
  let v24 : BitVec 32 := Scalar.select v23 c1_i32_13 c4_i32
  let v25 : BitVec 32 := Scalar.remsi v22 v24
  let c0_i32_15 : BitVec 32 := 0#32
  let v27 : BitVec 1 := Scalar.cmpi .slt v25 c0_i32_15
  let c0_i32_16 : BitVec 32 := 0#32
  let v28 : BitVec 1 := Scalar.cmpi .slt v24 c0_i32_16
  let v29 : BitVec 1 := Scalar.xori v27 v28
  let c0_i32_14 : BitVec 32 := 0#32
  let v26 : BitVec 1 := Scalar.cmpi .ne v25 c0_i32_14
  let v30 : BitVec 1 := Scalar.andi v29 v26
  let v31 : BitVec 32 := Scalar.addi v25 v24
  let v32 : BitVec 32 := Scalar.select v30 v31 v25
  let c2_i32_838 : BitVec 32 := 2#32
  let v8209 : BitVec 32 := Scalar.muli v32 c2_i32_838
  let v8210 : BitVec 32 := Scalar.addi v8209 c0_i32_839
  let c16_i32 : BitVec 32 := 16#32
  let v8211 : BitVec 32 := Scalar.muli v8210 c16_i32
  let v8212 : BitVec 32 := v8211
  let v8224 : Index := Scalar.indexCast v8212
  let c0_843 : Index := 0#32
  ![2, v8223.toNat, v8224.toNat, 0]
def k0_mult67 (i : grid0.Coords) (k0_t2 : Fin k0_t2_loop.trips) : BitVec 32 :=
  let arg1 : BitVec 32 := BitVec.ofNat 32 (i 1).val
  let c2_i32_11 : BitVec 32 := 2#32
  let v21 : BitVec 32 := Scalar.muli arg1 c2_i32_11
  let c0_i32_8 : BitVec 32 := 0#32
  let c1_i32 : BitVec 32 := 1#32
  let arg15 : BitVec 32 := Scf.iv c0_i32_8 c1_i32 k0_t2
  let v22 : BitVec 32 := Scalar.addi v21 arg15
  let c4_i32 : BitVec 32 := 4#32
  let c0_i32_12 : BitVec 32 := 0#32
  let v23 : BitVec 1 := Scalar.cmpi .eq c4_i32 c0_i32_12
  let c1_i32_13 : BitVec 32 := 1#32
  let v24 : BitVec 32 := Scalar.select v23 c1_i32_13 c4_i32
  let v25 : BitVec 32 := Scalar.remsi v22 v24
  let c0_i32_15 : BitVec 32 := 0#32
  let v27 : BitVec 1 := Scalar.cmpi .slt v25 c0_i32_15
  let c0_i32_16 : BitVec 32 := 0#32
  let v28 : BitVec 1 := Scalar.cmpi .slt v24 c0_i32_16
  let v29 : BitVec 1 := Scalar.xori v27 v28
  let c0_i32_14 : BitVec 32 := 0#32
  let v26 : BitVec 1 := Scalar.cmpi .ne v25 c0_i32_14
  let v30 : BitVec 1 := Scalar.andi v29 v26
  let v31 : BitVec 32 := Scalar.addi v25 v24
  let v32 : BitVec 32 := Scalar.select v30 v31 v25
  let c2_i32_844 : BitVec 32 := 2#32
  let v8228 : BitVec 32 := Scalar.muli v32 c2_i32_844
  let c1_i32_845 : BitVec 32 := 1#32
  let v8229 : BitVec 32 := Scalar.addi v8228 c1_i32_845
  let c16_i32_846 : BitVec 32 := 16#32
  let v8230 : BitVec 32 := Scalar.muli v8229 c16_i32_846
  v8230
def k0_mult68 (k0_t2 : Fin k0_t2_loop.trips) : BitVec 32 :=
  let c0_i32_8 : BitVec 32 := 0#32
  let c1_i32 : BitVec 32 := 1#32
  let arg15 : BitVec 32 := Scf.iv c0_i32_8 c1_i32 k0_t2
  let c1024_i32 : BitVec 32 := 1024#32
  let v8247 : BitVec 32 := Scalar.muli arg15 c1024_i32
  v8247
def k0_off9 (k0_t2 : Fin k0_t2_loop.trips) : Fin 2 → Nat :=
  let c0_i32_8 : BitVec 32 := 0#32
  let c1_i32 : BitVec 32 := 1#32
  let arg15 : BitVec 32 := Scf.iv c0_i32_8 c1_i32 k0_t2
  let c1024_i32 : BitVec 32 := 1024#32
  let v8247 : BitVec 32 := Scalar.muli arg15 c1024_i32
  let v8248 : BitVec 32 := v8247
  let v8249 : Index := Scalar.indexCast v8248
  let c0_853 : Index := 0#32
  ![v8249.toNat, 0]
def k0_off10 (i : grid0.Coords) (k0_t2 : Fin k0_t2_loop.trips) (c0_i32_857 : BitVec 32) : Fin 2 → Nat :=
  let arg1 : BitVec 32 := BitVec.ofNat 32 (i 1).val
  let c2_i32_11 : BitVec 32 := 2#32
  let v21 : BitVec 32 := Scalar.muli arg1 c2_i32_11
  let c0_i32_8 : BitVec 32 := 0#32
  let c1_i32 : BitVec 32 := 1#32
  let arg15 : BitVec 32 := Scf.iv c0_i32_8 c1_i32 k0_t2
  let v22 : BitVec 32 := Scalar.addi v21 arg15
  let c4_i32_856 : BitVec 32 := 4#32
  let v8259 : BitVec 32 := Scalar.muli v22 c4_i32_856
  let v8260 : BitVec 32 := Scalar.addi v8259 c0_i32_857
  let v8261 : Index := Scalar.indexCast v8260
  let c0_858 : Index := 0#32
  ![v8261.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c1_i32_3 : BitVec 32 := 1#32
  let v10 : BitVec 32 := Scalar.addi arg0 c1_i32_3
  let c31_i32 : BitVec 32 := 31#32
  let v11 : BitVec 32 := Scalar.minsi v10 c31_i32
  let c4_i32 : BitVec 32 := 4#32
  let v12 : BitVec 32 := Scalar.muli v11 c4_i32
  let c2_i32_4 : BitVec 32 := 2#32
  let v13 : BitVec 32 := Scalar.divsi arg1 c2_i32_4
  let c0_i32_5 : BitVec 32 := 0#32
  let v14 : BitVec 1 := Scalar.cmpi .sgt arg1 c0_i32_5
  let v15 : BitVec 32 := Scalar.extui v14
  let c0_i32_6 : BitVec 32 := 0#32
  let v16 : BitVec 1 := Scalar.cmpi .slt arg1 c0_i32_6
  let v17 : BitVec 32 := Scalar.extui v16
  let v18 : BitVec 32 := Scalar.subi v15 v17
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi arg1 c2_i32_4
  let c0_i32_9 : BitVec 32 := 0#32
  let v26 : BitVec 1 := Scalar.cmpi .ne v25 c0_i32_9
  let v27 : BitVec 1 := Scalar.andi v24 v26
  let c1_i32_10 : BitVec 32 := 1#32
  let v28 : BitVec 32 := Scalar.subi v13 c1_i32_10
  let v29 : BitVec 32 := Scalar.select v27 v28 v13
  let v30 : BitVec 32 := Scalar.addi v12 v29
  let c0_i32_11 : BitVec 32 := 0#32
  let c0_i32_12 : BitVec 32 := 0#32
  ![v9.toNat, c0_i32_11.toNat, v30.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== KernelWordsIdeal.lean ====
abbrev S16384x1024 : Shape := ⟨2, ![16384, 1024]⟩
abbrev S1x16384x1024 : Shape := ⟨3, ![1, 16384, 1024]⟩
abbrev S512x128 : Shape := ⟨2, ![512, 128]⟩
abbrev S16x128x16384 : Shape := ⟨3, ![16, 128, 16384]⟩
abbrev S1024 : Shape := ⟨1, ![1024]⟩
abbrev S1x1024 : Shape := ⟨2, ![1, 1024]⟩
abbrev S512x1024 : Shape := ⟨2, ![512, 1024]⟩
abbrev S2048x1024 : Shape := ⟨2, ![2048, 1024]⟩
abbrev S8x128x128 : Shape := ⟨3, ![8, 128, 128]⟩
abbrev S36864x128 : Shape := ⟨2, ![36864, 128]⟩
abbrev S36864x2x128 : Shape := ⟨3, ![36864, 2, 128]⟩
abbrev S36864x1x128 : Shape := ⟨3, ![36864, 1, 128]⟩
abbrev S3x512x128 : Shape := ⟨3, ![3, 512, 128]⟩
abbrev S3x4x128x128 : Shape := ⟨4, ![3, 4, 128, 128]⟩
abbrev S1x512x128 : Shape := ⟨3, ![1, 512, 128]⟩
abbrev S1x1x128x128 : Shape := ⟨4, ![1, 1, 128, 128]⟩
abbrev S128x128 : Shape := ⟨2, ![128, 128]⟩
abbrev S1x128x128 : Shape := ⟨3, ![1, 128, 128]⟩
abbrev S1x64x128 : Shape := ⟨3, ![1, 64, 128]⟩
abbrev S64x128 : Shape := ⟨2, ![64, 128]⟩
abbrev S1x128 : Shape := ⟨2, ![1, 128]⟩
abbrev S16x128 : Shape := ⟨2, ![16, 128]⟩
abbrev S64x2x128 : Shape := ⟨3, ![64, 2, 128]⟩
abbrev S64x1x128 : Shape := ⟨3, ![64, 1, 128]⟩
abbrev S8x128 : Shape := ⟨2, ![8, 128]⟩
abbrev S80x128 : Shape := ⟨2, ![80, 128]⟩
abbrev S128 : Shape := ⟨1, ![128]⟩
abbrev S1x1x16x128 : Shape := ⟨4, ![1, 1, 16, 128]⟩
abbrev S1024x1024 : Shape := ⟨2, ![1024, 1024]⟩
abbrev S512x2x128 : Shape := ⟨3, ![512, 2, 128]⟩
abbrev S512x1x128 : Shape := ⟨3, ![512, 1, 128]⟩
abbrev S1024x128 : Shape := ⟨2, ![1024, 128]⟩
abbrev S512 : Shape := ⟨1, ![512]⟩
abbrev S512x1 : Shape := ⟨2, ![512, 1]⟩

abbrev nBuf : Space → Nat
  | .hbm => 18
  | .vmem => 19
  | .smem => 0
  | _ => 0

abbrev bufTy : (tb : Table) → Fin (tcTables nBuf tb) → BufTy
  | .hbm, ⟨0, _⟩ => ⟨S16384x1024, .bf16⟩
  | .hbm, ⟨1, _⟩ => ⟨S1x16384x1024, .f32⟩
  | .hbm, ⟨2, _⟩ => ⟨S1x16384x1024, .f32⟩
  | .hbm, ⟨3, _⟩ => ⟨S512x128, .i32⟩
  | .hbm, ⟨4, _⟩ => ⟨S512x128, .i32⟩
  | .hbm, ⟨5, _⟩ => ⟨S512x128, .f32⟩
  | .hbm, ⟨6, _⟩ => ⟨S16x128x16384, .f32⟩
  | .hbm, ⟨7, _⟩ => ⟨S16384x1024, .f32⟩
  | .hbm, ⟨8, _⟩ => ⟨S1024, .f32⟩
  | .hbm, ⟨9, _⟩ => ⟨S16384x1024, .f32⟩
  | .hbm, ⟨10, _⟩ => ⟨S16384x1024, .bf16⟩
  | .hbm, ⟨11, _⟩ => ⟨S16384x1024, .f32⟩
  | .hbm, ⟨12, _⟩ => ⟨S16384x1024, .bf16⟩
  | .hbm, ⟨13, _⟩ => ⟨S512x128, .f32⟩
  | .hbm, ⟨14, _⟩ => ⟨S512x128, .f32⟩
  | .hbm, ⟨15, _⟩ => ⟨S1x1024, .f32⟩
  | .hbm, ⟨16, _⟩ => ⟨S16384x1024, .f32⟩
  | .hbm, ⟨17, _⟩ => ⟨S512x1024, .f32⟩
  | .local _ .vmem, ⟨0, _⟩ => ⟨S512x1024, .bf16⟩
  | .local _ .vmem, ⟨1, _⟩ => ⟨S512x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S8x128x128, .f32⟩
  | .local _ .vmem, ⟨10, _⟩ => ⟨S8x128x128, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S36864x2x128, .bf16⟩
  | .local _ .vmem, ⟨17, _⟩ => ⟨S3x512x128, .f32⟩
  | .local _ .vmem, ⟨18, _⟩ => ⟨S3x4x128x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![32, 8], ![false, false]⟩

def k0_cond3 (i : grid0.Coords) : BitVec 1 :=
  let arg1 : BitVec 32 := BitVec.ofNat 32 (i 1).val
  let c0_i32_5 : BitVec 32 := 0#32
  let v10 : BitVec 1 := Scalar.cmpi .eq arg1 c0_i32_5
  let v11 : BitVec 32 := Scalar.extui v10
  let c0_i32_6 : BitVec 32 := 0#32
  let v12 : BitVec 1 := Scalar.cmpi .ne v11 c0_i32_6
  v12

@[reducible] def k0_t1_loop : Scf.Loop 32 :=
  let c0_i32_20 : BitVec 32 := 0#32
  let c8_i32 : BitVec 32 := 8#32
  let v41 : BitVec 32 := Scalar.addi c0_i32_20 c8_i32
  let c1_i32_21 : BitVec 32 := 1#32
  ⟨c0_i32_20, v41, c1_i32_21⟩
def k0_mult1 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  v42
def k0_off1 (k0_t1 : Fin k0_t1_loop.trips) : Fin 3 → Nat :=
  let c0_24 : Index := 0#32
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let v44 : Index := Scalar.indexCast v43
  let c0_25 : Index := 0#32
  ![0, v44.toNat, 0]
def k0_off2 (k0_t1 : Fin k0_t1_loop.trips) : Fin 3 → Nat :=
  let c1 : Index := 1#32
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let v47 : Index := Scalar.indexCast v43
  let c0_26 : Index := 0#32
  ![1, v47.toNat, 0]
def k0_off3 (k0_t1 : Fin k0_t1_loop.trips) : Fin 3 → Nat :=
  let c2 : Index := 2#32
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let v50 : Index := Scalar.indexCast v43
  let c0_27 : Index := 0#32
  ![2, v50.toNat, 0]
def k0_mult2 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c0_i32_30 : BitVec 32 := 0#32
  let v75 : BitVec 32 := Scalar.addi v43 c0_i32_30
  let c72_i32 : BitVec 32 := 72#32
  let v76 : BitVec 32 := Scalar.muli v75 c72_i32
  v76
def k0_off4 (k0_t1 : Fin k0_t1_loop.trips) (c0_i32_30 : BitVec 32) : Fin 3 → Nat :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let v75 : BitVec 32 := Scalar.addi v43 c0_i32_30
  let c72_i32 : BitVec 32 := 72#32
  let v76 : BitVec 32 := Scalar.muli v75 c72_i32
  let v77 : BitVec 32 := v76
  let v81 : Index := Scalar.indexCast v77
  let c0_31 : Index := 0#32
  ![v81.toNat, 0, 0]
def k0_mult3 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c1_i32_33 : BitVec 32 := 1#32
  let v105 : BitVec 32 := Scalar.addi v43 c1_i32_33
  let c72_i32_34 : BitVec 32 := 72#32
  let v106 : BitVec 32 := Scalar.muli v105 c72_i32_34
  v106
def k0_mult4 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c2_i32_37 : BitVec 32 := 2#32
  let v135 : BitVec 32 := Scalar.addi v43 c2_i32_37
  let c72_i32_38 : BitVec 32 := 72#32
  let v136 : BitVec 32 := Scalar.muli v135 c72_i32_38
  v136
def k0_mult5 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c3_i32 : BitVec 32 := 3#32
  let v165 : BitVec 32 := Scalar.addi v43 c3_i32
  let c72_i32_41 : BitVec 32 := 72#32
  let v166 : BitVec 32 := Scalar.muli v165 c72_i32_41
  v166
def k0_mult6 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c4_i32 : BitVec 32 := 4#32
  let v195 : BitVec 32 := Scalar.addi v43 c4_i32
  let c72_i32_44 : BitVec 32 := 72#32
  let v196 : BitVec 32 := Scalar.muli v195 c72_i32_44
  v196
def k0_mult7 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c5_i32 : BitVec 32 := 5#32
  let v225 : BitVec 32 := Scalar.addi v43 c5_i32
  let c72_i32_47 : BitVec 32 := 72#32
  let v226 : BitVec 32 := Scalar.muli v225 c72_i32_47
  v226
def k0_mult8 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c6_i32 : BitVec 32 := 6#32
  let v255 : BitVec 32 := Scalar.addi v43 c6_i32
  let c72_i32_50 : BitVec 32 := 72#32
  let v256 : BitVec 32 := Scalar.muli v255 c72_i32_50
  v256
def k0_mult9 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c7_i32_53 : BitVec 32 := 7#32
  let v285 : BitVec 32 := Scalar.addi v43 c7_i32_53
  let c72_i32_54 : BitVec 32 := 72#32
  let v286 : BitVec 32 := Scalar.muli v285 c72_i32_54
  v286
def k0_mult10 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c8_i32_57 : BitVec 32 := 8#32
  let v315 : BitVec 32 := Scalar.addi v43 c8_i32_57
  let c72_i32_58 : BitVec 32 := 72#32
  let v316 : BitVec 32 := Scalar.muli v315 c72_i32_58
  v316
def k0_mult11 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c9_i32 : BitVec 32 := 9#32
  let v345 : BitVec 32 := Scalar.addi v43 c9_i32
  let c72_i32_61 : BitVec 32 := 72#32
  let v346 : BitVec 32 := Scalar.muli v345 c72_i32_61
  v346
def k0_mult12 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c10_i32 : BitVec 32 := 10#32
  let v375 : BitVec 32 := Scalar.addi v43 c10_i32
  let c72_i32_64 : BitVec 32 := 72#32
  let v376 : BitVec 32 := Scalar.muli v375 c72_i32_64
  v376
def k0_mult13 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c11_i32 : BitVec 32 := 11#32
  let v405 : BitVec 32 := Scalar.addi v43 c11_i32
  let c72_i32_67 : BitVec 32 := 72#32
  let v406 : BitVec 32 := Scalar.muli v405 c72_i32_67
  v406
def k0_mult14 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c12_i32 : BitVec 32 := 12#32
  let v435 : BitVec 32 := Scalar.addi v43 c12_i32
  let c72_i32_70 : BitVec 32 := 72#32
  let v436 : BitVec 32 := Scalar.muli v435 c72_i32_70
  v436
def k0_mult15 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c13_i32 : BitVec 32 := 13#32
  let v465 : BitVec 32 := Scalar.addi v43 c13_i32
  let c72_i32_73 : BitVec 32 := 72#32
  let v466 : BitVec 32 := Scalar.muli v465 c72_i32_73
  v466
def k0_mult16 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c14_i32 : BitVec 32 := 14#32
  let v495 : BitVec 32 := Scalar.addi v43 c14_i32
  let c72_i32_76 : BitVec 32 := 72#32
  let v496 : BitVec 32 := Scalar.muli v495 c72_i32_76
  v496
def k0_mult17 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c15_i32 : BitVec 32 := 15#32
  let v525 : BitVec 32 := Scalar.addi v43 c15_i32
  let c72_i32_79 : BitVec 32 := 72#32
  let v526 : BitVec 32 := Scalar.muli v525 c72_i32_79
  v526
def k0_mult18 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c16_i32 : BitVec 32 := 16#32
  let v555 : BitVec 32 := Scalar.addi v43 c16_i32
  let c72_i32_82 : BitVec 32 := 72#32
  let v556 : BitVec 32 := Scalar.muli v555 c72_i32_82
  v556
def k0_mult19 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c17_i32 : BitVec 32 := 17#32
  let v585 : BitVec 32 := Scalar.addi v43 c17_i32
  let c72_i32_85 : BitVec 32 := 72#32
  let v586 : BitVec 32 := Scalar.muli v585 c72_i32_85
  v586
def k0_mult20 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c18_i32 : BitVec 32 := 18#32
  let v615 : BitVec 32 := Scalar.addi v43 c18_i32
  let c72_i32_88 : BitVec 32 := 72#32
  let v616 : BitVec 32 := Scalar.muli v615 c72_i32_88
  v616
def k0_mult21 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c19_i32 : BitVec 32 := 19#32
  let v645 : BitVec 32 := Scalar.addi v43 c19_i32
  let c72_i32_91 : BitVec 32 := 72#32
  let v646 : BitVec 32 := Scalar.muli v645 c72_i32_91
  v646
def k0_mult22 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c20_i32 : BitVec 32 := 20#32
  let v675 : BitVec 32 := Scalar.addi v43 c20_i32
  let c72_i32_94 : BitVec 32 := 72#32
  let v676 : BitVec 32 := Scalar.muli v675 c72_i32_94
  v676
def k0_mult23 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c21_i32 : BitVec 32 := 21#32
  let v705 : BitVec 32 := Scalar.addi v43 c21_i32
  let c72_i32_97 : BitVec 32 := 72#32
  let v706 : BitVec 32 := Scalar.muli v705 c72_i32_97
  v706
def k0_mult24 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c22_i32 : BitVec 32 := 22#32
  let v735 : BitVec 32 := Scalar.addi v43 c22_i32
  let c72_i32_100 : BitVec 32 := 72#32
  let v736 : BitVec 32 := Scalar.muli v735 c72_i32_100
  v736
def k0_mult25 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c23_i32 : BitVec 32 := 23#32
  let v765 : BitVec 32 := Scalar.addi v43 c23_i32
  let c72_i32_103 : BitVec 32 := 72#32
  let v766 : BitVec 32 := Scalar.muli v765 c72_i32_103
  v766
def k0_mult26 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c24_i32 : BitVec 32 := 24#32
  let v795 : BitVec 32 := Scalar.addi v43 c24_i32
  let c72_i32_106 : BitVec 32 := 72#32
  let v796 : BitVec 32 := Scalar.muli v795 c72_i32_106
  v796
def k0_mult27 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c25_i32 : BitVec 32 := 25#32
  let v825 : BitVec 32 := Scalar.addi v43 c25_i32
  let c72_i32_109 : BitVec 32 := 72#32
  let v826 : BitVec 32 := Scalar.muli v825 c72_i32_109
  v826
def k0_mult28 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c26_i32 : BitVec 32 := 26#32
  let v855 : BitVec 32 := Scalar.addi v43 c26_i32
  let c72_i32_112 : BitVec 32 := 72#32
  let v856 : BitVec 32 := Scalar.muli v855 c72_i32_112
  v856
def k0_mult29 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c27_i32 : BitVec 32 := 27#32
  let v885 : BitVec 32 := Scalar.addi v43 c27_i32
  let c72_i32_115 : BitVec 32 := 72#32
  let v886 : BitVec 32 := Scalar.muli v885 c72_i32_115
  v886
def k0_mult30 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c28_i32 : BitVec 32 := 28#32
  let v915 : BitVec 32 := Scalar.addi v43 c28_i32
  let c72_i32_118 : BitVec 32 := 72#32
  let v916 : BitVec 32 := Scalar.muli v915 c72_i32_118
  v916
def k0_mult31 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c29_i32 : BitVec 32 := 29#32
  let v945 : BitVec 32 := Scalar.addi v43 c29_i32
  let c72_i32_121 : BitVec 32 := 72#32
  let v946 : BitVec 32 := Scalar.muli v945 c72_i32_121
  v946
def k0_mult32 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c30_i32 : BitVec 32 := 30#32
  let v975 : BitVec 32 := Scalar.addi v43 c30_i32
  let c72_i32_124 : BitVec 32 := 72#32
  let v976 : BitVec 32 := Scalar.muli v975 c72_i32_124
  v976
def k0_mult33 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c31_i32 : BitVec 32 := 31#32
  let v1005 : BitVec 32 := Scalar.addi v43 c31_i32
  let c72_i32_127 : BitVec 32 := 72#32
  let v1006 : BitVec 32 := Scalar.muli v1005 c72_i32_127
  v1006
def k0_mult34 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c32_i32 : BitVec 32 := 32#32
  let v1035 : BitVec 32 := Scalar.addi v43 c32_i32
  let c72_i32_130 : BitVec 32 := 72#32
  let v1036 : BitVec 32 := Scalar.muli v1035 c72_i32_130
  v1036
def k0_mult35 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c33_i32 : BitVec 32 := 33#32
  let v1065 : BitVec 32 := Scalar.addi v43 c33_i32
  let c72_i32_133 : BitVec 32 := 72#32
  let v1066 : BitVec 32 := Scalar.muli v1065 c72_i32_133
  v1066
def k0_mult36 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c34_i32 : BitVec 32 := 34#32
  let v1095 : BitVec 32 := Scalar.addi v43 c34_i32
  let c72_i32_136 : BitVec 32 := 72#32
  let v1096 : BitVec 32 := Scalar.muli v1095 c72_i32_136
  v1096
def k0_mult37 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c35_i32 : BitVec 32 := 35#32
  let v1125 : BitVec 32 := Scalar.addi v43 c35_i32
  let c72_i32_139 : BitVec 32 := 72#32
  let v1126 : BitVec 32 := Scalar.muli v1125 c72_i32_139
  v1126
def k0_mult38 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c36_i32 : BitVec 32 := 36#32
  let v1155 : BitVec 32 := Scalar.addi v43 c36_i32
  let c72_i32_142 : BitVec 32 := 72#32
  let v1156 : BitVec 32 := Scalar.muli v1155 c72_i32_142
  v1156
def k0_mult39 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c37_i32 : BitVec 32 := 37#32
  let v1185 : BitVec 32 := Scalar.addi v43 c37_i32
  let c72_i32_145 : BitVec 32 := 72#32
  let v1186 : BitVec 32 := Scalar.muli v1185 c72_i32_145
  v1186
def k0_mult40 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c38_i32 : BitVec 32 := 38#32
  let v1215 : BitVec 32 := Scalar.addi v43 c38_i32
  let c72_i32_148 : BitVec 32 := 72#32
  let v1216 : BitVec 32 := Scalar.muli v1215 c72_i32_148
  v1216
def k0_mult41 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c39_i32 : BitVec 32 := 39#32
  let v1245 : BitVec 32 := Scalar.addi v43 c39_i32
  let c72_i32_151 : BitVec 32 := 72#32
  let v1246 : BitVec 32 := Scalar.muli v1245 c72_i32_151
  v1246
def k0_mult42 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c40_i32 : BitVec 32 := 40#32
  let v1275 : BitVec 32 := Scalar.addi v43 c40_i32
  let c72_i32_154 : BitVec 32 := 72#32
  let v1276 : BitVec 32 := Scalar.muli v1275 c72_i32_154
  v1276
def k0_mult43 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c41_i32 : BitVec 32 := 41#32
  let v1305 : BitVec 32 := Scalar.addi v43 c41_i32
  let c72_i32_157 : BitVec 32 := 72#32
  let v1306 : BitVec 32 := Scalar.muli v1305 c72_i32_157
  v1306
def k0_mult44 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c42_i32 : BitVec 32 := 42#32
  let v1335 : BitVec 32 := Scalar.addi v43 c42_i32
  let c72_i32_160 : BitVec 32 := 72#32
  let v1336 : BitVec 32 := Scalar.muli v1335 c72_i32_160
  v1336
def k0_mult45 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c43_i32 : BitVec 32 := 43#32
  let v1365 : BitVec 32 := Scalar.addi v43 c43_i32
  let c72_i32_163 : BitVec 32 := 72#32
  let v1366 : BitVec 32 := Scalar.muli v1365 c72_i32_163
  v1366
def k0_mult46 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c44_i32 : BitVec 32 := 44#32
  let v1395 : BitVec 32 := Scalar.addi v43 c44_i32
  let c72_i32_166 : BitVec 32 := 72#32
  let v1396 : BitVec 32 := Scalar.muli v1395 c72_i32_166
  v1396
def k0_mult47 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c45_i32 : BitVec 32 := 45#32
  let v1425 : BitVec 32 := Scalar.addi v43 c45_i32
  let c72_i32_169 : BitVec 32 := 72#32
  let v1426 : BitVec 32 := Scalar.muli v1425 c72_i32_169
  v1426
def k0_mult48 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c46_i32 : BitVec 32 := 46#32
  let v1455 : BitVec 32 := Scalar.addi v43 c46_i32
  let c72_i32_172 : BitVec 32 := 72#32
  let v1456 : BitVec 32 := Scalar.muli v1455 c72_i32_172
  v1456
def k0_mult49 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c47_i32 : BitVec 32 := 47#32
  let v1485 : BitVec 32 := Scalar.addi v43 c47_i32
  let c72_i32_175 : BitVec 32 := 72#32
  let v1486 : BitVec 32 := Scalar.muli v1485 c72_i32_175
  v1486
def k0_mult50 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c48_i32 : BitVec 32 := 48#32
  let v1515 : BitVec 32 := Scalar.addi v43 c48_i32
  let c72_i32_178 : BitVec 32 := 72#32
  let v1516 : BitVec 32 := Scalar.muli v1515 c72_i32_178
  v1516
def k0_mult51 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c49_i32 : BitVec 32 := 49#32
  let v1545 : BitVec 32 := Scalar.addi v43 c49_i32
  let c72_i32_181 : BitVec 32 := 72#32
  let v1546 : BitVec 32 := Scalar.muli v1545 c72_i32_181
  v1546
def k0_mult52 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c50_i32 : BitVec 32 := 50#32
  let v1575 : BitVec 32 := Scalar.addi v43 c50_i32
  let c72_i32_184 : BitVec 32 := 72#32
  let v1576 : BitVec 32 := Scalar.muli v1575 c72_i32_184
  v1576
def k0_mult53 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c51_i32 : BitVec 32 := 51#32
  let v1605 : BitVec 32 := Scalar.addi v43 c51_i32
  let c72_i32_187 : BitVec 32 := 72#32
  let v1606 : BitVec 32 := Scalar.muli v1605 c72_i32_187
  v1606
def k0_mult54 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c52_i32 : BitVec 32 := 52#32
  let v1635 : BitVec 32 := Scalar.addi v43 c52_i32
  let c72_i32_190 : BitVec 32 := 72#32
  let v1636 : BitVec 32 := Scalar.muli v1635 c72_i32_190
  v1636
def k0_mult55 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c53_i32 : BitVec 32 := 53#32
  let v1665 : BitVec 32 := Scalar.addi v43 c53_i32
  let c72_i32_193 : BitVec 32 := 72#32
  let v1666 : BitVec 32 := Scalar.muli v1665 c72_i32_193
  v1666
def k0_mult56 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c54_i32 : BitVec 32 := 54#32
  let v1695 : BitVec 32 := Scalar.addi v43 c54_i32
  let c72_i32_196 : BitVec 32 := 72#32
  let v1696 : BitVec 32 := Scalar.muli v1695 c72_i32_196
  v1696
def k0_mult57 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c55_i32 : BitVec 32 := 55#32
  let v1725 : BitVec 32 := Scalar.addi v43 c55_i32
  let c72_i32_199 : BitVec 32 := 72#32
  let v1726 : BitVec 32 := Scalar.muli v1725 c72_i32_199
  v1726
def k0_mult58 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c56_i32 : BitVec 32 := 56#32
  let v1755 : BitVec 32 := Scalar.addi v43 c56_i32
  let c72_i32_202 : BitVec 32 := 72#32
  let v1756 : BitVec 32 := Scalar.muli v1755 c72_i32_202
  v1756
def k0_mult59 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c57_i32 : BitVec 32 := 57#32
  let v1785 : BitVec 32 := Scalar.addi v43 c57_i32
  let c72_i32_205 : BitVec 32 := 72#32
  let v1786 : BitVec 32 := Scalar.muli v1785 c72_i32_205
  v1786
def k0_mult60 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c58_i32 : BitVec 32 := 58#32
  let v1815 : BitVec 32 := Scalar.addi v43 c58_i32
  let c72_i32_208 : BitVec 32 := 72#32
  let v1816 : BitVec 32 := Scalar.muli v1815 c72_i32_208
  v1816
def k0_mult61 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c59_i32 : BitVec 32 := 59#32
  let v1845 : BitVec 32 := Scalar.addi v43 c59_i32
  let c72_i32_211 : BitVec 32 := 72#32
  let v1846 : BitVec 32 := Scalar.muli v1845 c72_i32_211
  v1846
def k0_mult62 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c60_i32 : BitVec 32 := 60#32
  let v1875 : BitVec 32 := Scalar.addi v43 c60_i32
  let c72_i32_214 : BitVec 32 := 72#32
  let v1876 : BitVec 32 := Scalar.muli v1875 c72_i32_214
  v1876
def k0_mult63 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c61_i32 : BitVec 32 := 61#32
  let v1905 : BitVec 32 := Scalar.addi v43 c61_i32
  let c72_i32_217 : BitVec 32 := 72#32
  let v1906 : BitVec 32 := Scalar.muli v1905 c72_i32_217
  v1906
def k0_mult64 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c62_i32 : BitVec 32 := 62#32
  let v1935 : BitVec 32 := Scalar.addi v43 c62_i32
  let c72_i32_220 : BitVec 32 := 72#32
  let v1936 : BitVec 32 := Scalar.muli v1935 c72_i32_220
  v1936
def k0_mult65 (k0_t1 : Fin k0_t1_loop.trips) : BitVec 32 :=
  let c0_i32_20 : BitVec 32 := 0#32
  let c1_i32_21 : BitVec 32 := 1#32
  let arg15 : BitVec 32 := Scf.iv c0_i32_20 c1_i32_21 k0_t1
  let c64_i32_23 : BitVec 32 := 64#32
  let v42 : BitVec 32 := Scalar.muli arg15 c64_i32_23
  let v43 : BitVec 32 := v42
  let c63_i32 : BitVec 32 := 63#32
  let v1965 : BitVec 32 := Scalar.addi v43 c63_i32
  let c72_i32_223 : BitVec 32 := 72#32
  let v1966 : BitVec 32 := Scalar.muli v1965 c72_i32_223
  v1966
@[reducible] def k0_t2_loop : Scf.Loop 32 :=
  let c0_i32_8 : BitVec 32 := 0#32
  let c2_i32 : BitVec 32 := 2#32
  let v17 : BitVec 32 := Scalar.addi c0_i32_8 c2_i32
  let c1_i32 : BitVec 32 := 1#32
  ⟨c0_i32_8, v17, c1_i32⟩
def k0_off5 (k0_t2 : Fin k0_t2_loop.trips) (c0_i32_25 : BitVec 32) : Fin 3 → Nat :=
  let c0_i32_8 : BitVec 32 := 0#32
  let c1_i32 : BitVec 32 := 1#32
  let arg15 : BitVec 32 := Scf.iv c0_i32_8 c1_i32 k0_t2
  let c4_i32_24 : BitVec 32 := 4#32
  let v50 : BitVec 32 := Scalar.muli arg15 c4_i32_24
  let v51 : BitVec 32 := Scalar.addi v50 c0_i32_25
  let v52 : Index := Scalar.indexCast v51
  let c0_26 : Index := 0#32
  let c0_27 : Index := 0#32
  ![v52.toNat, 0, 0]
def k0_mult66 (i : grid0.Coords) (k0_t2 : Fin k0_t2_loop.trips) : BitVec 32 :=
  let arg1 : BitVec 32 := BitVec.ofNat 32 (i 1).val
  let c2_i32_11 : BitVec 32 := 2#32
  let v21 : BitVec 32 := Scalar.muli arg1 c2_i32_11
  let c0_i32_8 : BitVec 32 := 0#32
  let c1_i32 : BitVec 32 := 1#32
  let arg15 : BitVec 32 := Scf.iv c0_i32_8 c1_i32 k0_t2
  let v22 : BitVec 32 := Scalar.addi v21 arg15
  let c4_i32 : BitVec 32 := 4#32
  let c0_i32_12 : BitVec 32 := 0#32
  let v23 : BitVec 1 := Scalar.cmpi .eq c4_i32 c0_i32_12
  let c1_i32_13 : BitVec 32 := 1#32
  let v24 : BitVec 32 := Scalar.select v23 c1_i32_13 c4_i32
  let v25 : BitVec 32 := Scalar.remsi v22 v24
  let c0_i32_15 : BitVec 32 := 0#32
  let v27 : BitVec 1 := Scalar.cmpi .slt v25 c0_i32_15
  let c0_i32_16 : BitVec 32 := 0#32
  let v28 : BitVec 1 := Scalar.cmpi .slt v24 c0_i32_16
  let v29 : BitVec 1 := Scalar.xori v27 v28
  let c0_i32_14 : BitVec 32 := 0#32
  let v26 : BitVec 1 := Scalar.cmpi .ne v25 c0_i32_14
  let v30 : BitVec 1 := Scalar.andi v29 v26
  let v31 : BitVec 32 := Scalar.addi v25 v24
  let v32 : BitVec 32 := Scalar.select v30 v31 v25
  let c2_i32_838 : BitVec 32 := 2#32
  let v8209 : BitVec 32 := Scalar.muli v32 c2_i32_838
  let c0_i32_839 : BitVec 32 := 0#32
  let v8210 : BitVec 32 := Scalar.addi v8209 c0_i32_839
  let c16_i32 : BitVec 32 := 16#32
  let v8211 : BitVec 32 := Scalar.muli v8210 c16_i32
  v8211
def k0_off6 (i : grid0.Coords) (k0_t2 : Fin k0_t2_loop.trips) (c0_i32_839 : BitVec 32) : Fin 4 → Nat :=
  let c0_840 : Index := 0#32
  let arg1 : BitVec 32 := BitVec.ofNat 32 (i 1).val
  let c2_i32_11 : BitVec 32 := 2#32
  let v21 : BitVec 32 := Scalar.muli arg1 c2_i32_11
  let c0_i32_8 : BitVec 32 := 0#32
  let c1_i32 : BitVec 32 := 1#32
  let arg15 : BitVec 32 := Scf.iv c0_i32_8 c1_i32 k0_t2
  let v22 : BitVec 32 := Scalar.addi v21 arg15
  let c0_i32_18 : BitVec 32 := 0#32
  let v34 : BitVec 1 := Scalar.cmpi .sgt v22 c0_i32_18
  let v35 : BitVec 32 := Scalar.extui v34
  let c0_i32_19 : BitVec 32 := 0#32
  let v36 : BitVec 1 := Scalar.cmpi .slt v22 c0_i32_19
  let v37 : BitVec 32 := Scalar.extui v36
  let v38 : BitVec 32 := Scalar.subi v35 v37
  let c4_i32_17 : BitVec 32 := 4#32
  let c0_i32_20 : BitVec 32 := 0#32
  let v39 : BitVec 1 := Scalar.cmpi .sgt c4_i32_17 c0_i32_20
  let v40 : BitVec 32 := Scalar.extui v39
  let c0_i32_21 : BitVec 32 := 0#32
  let v41 : BitVec 1 := Scalar.cmpi .slt c4_i32_17 c0_i32_21
  let v42 : BitVec 32 := Scalar.extui v41
  let v43 : BitVec 32 := Scalar.subi v40 v42
  let v44 : BitVec 1 := Scalar.cmpi .ne v38 v43
  let v45 : BitVec 32 := Scalar.remsi v22 c4_i32_17
  let c0_i32_22 : BitVec 32 := 0#32
  let v46 : BitVec 1 := Scalar.cmpi .ne v45 c0_i32_22
  let v47 : BitVec 1 := Scalar.andi v44 v46
  let v33 : BitVec 32 := Scalar.divsi v22 c4_i32_17
  let c1_i32_23 : BitVec 32 := 1#32
  let v48 : BitVec 32 := Scalar.subi v33 c1_i32_23
  let v49 : BitVec 32 := Scalar.select v47 v48 v33
  let v8213 : Index := Scalar.indexCast v49
  let c4_i32 : BitVec 32 := 4#32
  let c0_i32_12 : BitVec 32 := 0#32
  let v23 : BitVec 1 := Scalar.cmpi .eq c4_i32 c0_i32_12
  let c1_i32_13 : BitVec 32 := 1#32
  let v24 : BitVec 32 := Scalar.select v23 c1_i32_13 c4_i32
  let v25 : BitVec 32 := Scalar.remsi v22 v24
  let c0_i32_15 : BitVec 32 := 0#32
  let v27 : BitVec 1 := Scalar.cmpi .slt v25 c0_i32_15
  let c0_i32_16 : BitVec 32 := 0#32
  let v28 : BitVec 1 := Scalar.cmpi .slt v24 c0_i32_16
  let v29 : BitVec 1 := Scalar.xori v27 v28
  let c0_i32_14 : BitVec 32 := 0#32
  let v26 : BitVec 1 := Scalar.cmpi .ne v25 c0_i32_14
  let v30 : BitVec 1 := Scalar.andi v29 v26
  let v31 : BitVec 32 := Scalar.addi v25 v24
  let v32 : BitVec 32 := Scalar.select v30 v31 v25
  let c2_i32_838 : BitVec 32 := 2#32
  let v8209 : BitVec 32 := Scalar.muli v32 c2_i32_838
  let v8210 : BitVec 32 := Scalar.addi v8209 c0_i32_839
  let c16_i32 : BitVec 32 := 16#32
  let v8211 : BitVec 32 := Scalar.muli v8210 c16_i32
  let v8212 : BitVec 32 := v8211
  let v8214 : Index := Scalar.indexCast v8212
  let c0_841 : Index := 0#32
  ![0, v8213.toNat, v8214.toNat, 0]
def k0_off7 (i : grid0.Coords) (k0_t2 : Fin k0_t2_loop.trips) (c0_i32_839 : BitVec 32) : Fin 4 → Nat :=
  let c1 : Index := 1#32
  let arg1 : BitVec 32 := BitVec.ofNat 32 (i 1).val
  let c2_i32_11 : BitVec 32 := 2#32
  let v21 : BitVec 32 := Scalar.muli arg1 c2_i32_11
  let c0_i32_8 : BitVec 32 := 0#32
  let c1_i32 : BitVec 32 := 1#32
  let arg15 : BitVec 32 := Scf.iv c0_i32_8 c1_i32 k0_t2
  let v22 : BitVec 32 := Scalar.addi v21 arg15
  let c0_i32_18 : BitVec 32 := 0#32
  let v34 : BitVec 1 := Scalar.cmpi .sgt v22 c0_i32_18
  let v35 : BitVec 32 := Scalar.extui v34
  let c0_i32_19 : BitVec 32 := 0#32
  let v36 : BitVec 1 := Scalar.cmpi .slt v22 c0_i32_19
  let v37 : BitVec 32 := Scalar.extui v36
  let v38 : BitVec 32 := Scalar.subi v35 v37
  let c4_i32_17 : BitVec 32 := 4#32
  let c0_i32_20 : BitVec 32 := 0#32
  let v39 : BitVec 1 := Scalar.cmpi .sgt c4_i32_17 c0_i32_20
  let v40 : BitVec 32 := Scalar.extui v39
  let c0_i32_21 : BitVec 32 := 0#32
  let v41 : BitVec 1 := Scalar.cmpi .slt c4_i32_17 c0_i32_21
  let v42 : BitVec 32 := Scalar.extui v41
  let v43 : BitVec 32 := Scalar.subi v40 v42
  let v44 : BitVec 1 := Scalar.cmpi .ne v38 v43
  let v45 : BitVec 32 := Scalar.remsi v22 c4_i32_17
  let c0_i32_22 : BitVec 32 := 0#32
  let v46 : BitVec 1 := Scalar.cmpi .ne v45 c0_i32_22
  let v47 : BitVec 1 := Scalar.andi v44 v46
  let v33 : BitVec 32 := Scalar.divsi v22 c4_i32_17
  let c1_i32_23 : BitVec 32 := 1#32
  let v48 : BitVec 32 := Scalar.subi v33 c1_i32_23
  let v49 : BitVec 32 := Scalar.select v47 v48 v33
  let v8218 : Index := Scalar.indexCast v49
  let c4_i32 : BitVec 32 := 4#32
  let c0_i32_12 : BitVec 32 := 0#32
  let v23 : BitVec 1 := Scalar.cmpi .eq c4_i32 c0_i32_12
  let c1_i32_13 : BitVec 32 := 1#32
  let v24 : BitVec 32 := Scalar.select v23 c1_i32_13 c4_i32
  let v25 : BitVec 32 := Scalar.remsi v22 v24
  let c0_i32_15 : BitVec 32 := 0#32
  let v27 : BitVec 1 := Scalar.cmpi .slt v25 c0_i32_15
  let c0_i32_16 : BitVec 32 := 0#32
  let v28 : BitVec 1 := Scalar.cmpi .slt v24 c0_i32_16
  let v29 : BitVec 1 := Scalar.xori v27 v28
  let c0_i32_14 : BitVec 32 := 0#32
  let v26 : BitVec 1 := Scalar.cmpi .ne v25 c0_i32_14
  let v30 : BitVec 1 := Scalar.andi v29 v26
  let v31 : BitVec 32 := Scalar.addi v25 v24
  let v32 : BitVec 32 := Scalar.select v30 v31 v25
  let c2_i32_838 : BitVec 32 := 2#32
  let v8209 : BitVec 32 := Scalar.muli v32 c2_i32_838
  let v8210 : BitVec 32 := Scalar.addi v8209 c0_i32_839
  let c16_i32 : BitVec 32 := 16#32
  let v8211 : BitVec 32 := Scalar.muli v8210 c16_i32
  let v8212 : BitVec 32 := v8211
  let v8219 : Index := Scalar.indexCast v8212
  let c0_842 : Index := 0#32
  ![1, v8218.toNat, v8219.toNat, 0]
def k0_off8 (i : grid0.Coords) (k0_t2 : Fin k0_t2_loop.trips) (c0_i32_839 : BitVec 32) : Fin 4 → Nat :=
  let c2 : Index := 2#32
  let arg1 : BitVec 32 := BitVec.ofNat 32 (i 1).val
  let c2_i32_11 : BitVec 32 := 2#32
  let v21 : BitVec 32 := Scalar.muli arg1 c2_i32_11
  let c0_i32_8 : BitVec 32 := 0#32
  let c1_i32 : BitVec 32 := 1#32
  let arg15 : BitVec 32 := Scf.iv c0_i32_8 c1_i32 k0_t2
  let v22 : BitVec 32 := Scalar.addi v21 arg15
  let c0_i32_18 : BitVec 32 := 0#32
  let v34 : BitVec 1 := Scalar.cmpi .sgt v22 c0_i32_18
  let v35 : BitVec 32 := Scalar.extui v34
  let c0_i32_19 : BitVec 32 := 0#32
  let v36 : BitVec 1 := Scalar.cmpi .slt v22 c0_i32_19
  let v37 : BitVec 32 := Scalar.extui v36
  let v38 : BitVec 32 := Scalar.subi v35 v37
  let c4_i32_17 : BitVec 32 := 4#32
  let c0_i32_20 : BitVec 32 := 0#32
  let v39 : BitVec 1 := Scalar.cmpi .sgt c4_i32_17 c0_i32_20
  let v40 : BitVec 32 := Scalar.extui v39
  let c0_i32_21 : BitVec 32 := 0#32
  let v41 : BitVec 1 := Scalar.cmpi .slt c4_i32_17 c0_i32_21
  let v42 : BitVec 32 := Scalar.extui v41
  let v43 : BitVec 32 := Scalar.subi v40 v42
  let v44 : BitVec 1 := Scalar.cmpi .ne v38 v43
  let v45 : BitVec 32 := Scalar.remsi v22 c4_i32_17
  let c0_i32_22 : BitVec 32 := 0#32
  let v46 : BitVec 1 := Scalar.cmpi .ne v45 c0_i32_22
  let v47 : BitVec 1 := Scalar.andi v44 v46
  let v33 : BitVec 32 := Scalar.divsi v22 c4_i32_17
  let c1_i32_23 : BitVec 32 := 1#32
  let v48 : BitVec 32 := Scalar.subi v33 c1_i32_23
  let v49 : BitVec 32 := Scalar.select v47 v48 v33
  let v8223 : Index := Scalar.indexCast v49
  let c4_i32 : BitVec 32 := 4#32
  let c0_i32_12 : BitVec 32 := 0#32
  let v23 : BitVec 1 := Scalar.cmpi .eq c4_i32 c0_i32_12
  let c1_i32_13 : BitVec 32 := 1#32
  let v24 : BitVec 32 := Scalar.select v23 c1_i32_13 c4_i32
  let v25 : BitVec 32 := Scalar.remsi v22 v24
  let c0_i32_15 : BitVec 32 := 0#32
  let v27 : BitVec 1 := Scalar.cmpi .slt v25 c0_i32_15
  let c0_i32_16 : BitVec 32 := 0#32
  let v28 : BitVec 1 := Scalar.cmpi .slt v24 c0_i32_16
  let v29 : BitVec 1 := Scalar.xori v27 v28
  let c0_i32_14 : BitVec 32 := 0#32
  let v26 : BitVec 1 := Scalar.cmpi .ne v25 c0_i32_14
  let v30 : BitVec 1 := Scalar.andi v29 v26
  let v31 : BitVec 32 := Scalar.addi v25 v24
  let v32 : BitVec 32 := Scalar.select v30 v31 v25
  let c2_i32_838 : BitVec 32 := 2#32
  let v8209 : BitVec 32 := Scalar.muli v32 c2_i32_838
  let v8210 : BitVec 32 := Scalar.addi v8209 c0_i32_839
  let c16_i32 : BitVec 32 := 16#32
  let v8211 : BitVec 32 := Scalar.muli v8210 c16_i32
  let v8212 : BitVec 32 := v8211
  let v8224 : Index := Scalar.indexCast v8212
  let c0_843 : Index := 0#32
  ![2, v8223.toNat, v8224.toNat, 0]
def k0_mult67 (i : grid0.Coords) (k0_t2 : Fin k0_t2_loop.trips) : BitVec 32 :=
  let arg1 : BitVec 32 := BitVec.ofNat 32 (i 1).val
  let c2_i32_11 : BitVec 32 := 2#32
  let v21 : BitVec 32 := Scalar.muli arg1 c2_i32_11
  let c0_i32_8 : BitVec 32 := 0#32
  let c1_i32 : BitVec 32 := 1#32
  let arg15 : BitVec 32 := Scf.iv c0_i32_8 c1_i32 k0_t2
  let v22 : BitVec 32 := Scalar.addi v21 arg15
  let c4_i32 : BitVec 32 := 4#32
  let c0_i32_12 : BitVec 32 := 0#32
  let v23 : BitVec 1 := Scalar.cmpi .eq c4_i32 c0_i32_12
  let c1_i32_13 : BitVec 32 := 1#32
  let v24 : BitVec 32 := Scalar.select v23 c1_i32_13 c4_i32
  let v25 : BitVec 32 := Scalar.remsi v22 v24
  let c0_i32_15 : BitVec 32 := 0#32
  let v27 : BitVec 1 := Scalar.cmpi .slt v25 c0_i32_15
  let c0_i32_16 : BitVec 32 := 0#32
  let v28 : BitVec 1 := Scalar.cmpi .slt v24 c0_i32_16
  let v29 : BitVec 1 := Scalar.xori v27 v28
  let c0_i32_14 : BitVec 32 := 0#32
  let v26 : BitVec 1 := Scalar.cmpi .ne v25 c0_i32_14
  let v30 : BitVec 1 := Scalar.andi v29 v26
  let v31 : BitVec 32 := Scalar.addi v25 v24
  let v32 : BitVec 32 := Scalar.select v30 v31 v25
  let c2_i32_844 : BitVec 32 := 2#32
  let v8228 : BitVec 32 := Scalar.muli v32 c2_i32_844
  let c1_i32_845 : BitVec 32 := 1#32
  let v8229 : BitVec 32 := Scalar.addi v8228 c1_i32_845
  let c16_i32_846 : BitVec 32 := 16#32
  let v8230 : BitVec 32 := Scalar.muli v8229 c16_i32_846
  v8230
def k0_mult68 (k0_t2 : Fin k0_t2_loop.trips) : BitVec 32 :=
  let c0_i32_8 : BitVec 32 := 0#32
  let c1_i32 : BitVec 32 := 1#32
  let arg15 : BitVec 32 := Scf.iv c0_i32_8 c1_i32 k0_t2
  let c1024_i32 : BitVec 32 := 1024#32
  let v8247 : BitVec 32 := Scalar.muli arg15 c1024_i32
  v8247
def k0_off9 (k0_t2 : Fin k0_t2_loop.trips) : Fin 2 → Nat :=
  let c0_i32_8 : BitVec 32 := 0#32
  let c1_i32 : BitVec 32 := 1#32
  let arg15 : BitVec 32 := Scf.iv c0_i32_8 c1_i32 k0_t2
  let c1024_i32 : BitVec 32 := 1024#32
  let v8247 : BitVec 32 := Scalar.muli arg15 c1024_i32
  let v8248 : BitVec 32 := v8247
  let v8249 : Index := Scalar.indexCast v8248
  let c0_853 : Index := 0#32
  ![v8249.toNat, 0]
def k0_off10 (i : grid0.Coords) (k0_t2 : Fin k0_t2_loop.trips) (c0_i32_857 : BitVec 32) : Fin 3 → Nat :=
  let arg1 : BitVec 32 := BitVec.ofNat 32 (i 1).val
  let c2_i32_11 : BitVec 32 := 2#32
  let v21 : BitVec 32 := Scalar.muli arg1 c2_i32_11
  let c0_i32_8 : BitVec 32 := 0#32
  let c1_i32 : BitVec 32 := 1#32
  let arg15 : BitVec 32 := Scf.iv c0_i32_8 c1_i32 k0_t2
  let v22 : BitVec 32 := Scalar.addi v21 arg15
  let c4_i32_856 : BitVec 32 := 4#32
  let v8259 : BitVec 32 := Scalar.muli v22 c4_i32_856
  let v8260 : BitVec 32 := Scalar.addi v8259 c0_i32_857
  let v8261 : Index := Scalar.indexCast v8260
  let c0_858 : Index := 0#32
  ![v8261.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c1_i32_3 : BitVec 32 := 1#32
  let v10 : BitVec 32 := Scalar.addi arg0 c1_i32_3
  let c31_i32 : BitVec 32 := 31#32
  let v11 : BitVec 32 := Scalar.minsi v10 c31_i32
  let c4_i32 : BitVec 32 := 4#32
  let v12 : BitVec 32 := Scalar.muli v11 c4_i32
  let c2_i32_4 : BitVec 32 := 2#32
  let v13 : BitVec 32 := Scalar.divsi arg1 c2_i32_4
  let c0_i32_5 : BitVec 32 := 0#32
  let v14 : BitVec 1 := Scalar.cmpi .sgt arg1 c0_i32_5
  let v15 : BitVec 32 := Scalar.extui v14
  let c0_i32_6 : BitVec 32 := 0#32
  let v16 : BitVec 1 := Scalar.cmpi .slt arg1 c0_i32_6
  let v17 : BitVec 32 := Scalar.extui v16
  let v18 : BitVec 32 := Scalar.subi v15 v17
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi arg1 c2_i32_4
  let c0_i32_9 : BitVec 32 := 0#32
  let v26 : BitVec 1 := Scalar.cmpi .ne v25 c0_i32_9
  let v27 : BitVec 1 := Scalar.andi v24 v26
  let c1_i32_10 : BitVec 32 := 1#32
  let v28 : BitVec 32 := Scalar.subi v13 c1_i32_10
  let v29 : BitVec 32 := Scalar.select v27 v28 v13
  let v30 : BitVec 32 := Scalar.addi v12 v29
  let c0_i32_11 : BitVec 32 := 0#32
  let c0_i32_12 : BitVec 32 := 0#32
  ![v9.toNat, c0_i32_11.toNat, v30.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S16384x1024 : Shape := ⟨2, ![16384, 1024]⟩
abbrev S1x16384x1024 : Shape := ⟨3, ![1, 16384, 1024]⟩
abbrev S512x128 : Shape := ⟨2, ![512, 128]⟩
abbrev S16x128x16384 : Shape := ⟨3, ![16, 128, 16384]⟩
abbrev S1024 : Shape := ⟨1, ![1024]⟩
abbrev S_ : Shape := ⟨0, ![]⟩
abbrev S512x128x1 : Shape := ⟨3, ![512, 128, 1]⟩
abbrev S512x128x1024 : Shape := ⟨3, ![512, 128, 1024]⟩
abbrev S512x1024 : Shape := ⟨2, ![512, 1024]⟩
abbrev S512 : Shape := ⟨1, ![512]⟩
abbrev S512x1 : Shape := ⟨2, ![512, 1]⟩
abbrev S1x1024 : Shape := ⟨2, ![1, 1024]⟩

abbrev nBuf : Space → Nat
  | .hbm => 69
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1x16384x1024, .f32⟩
  | .hbm, ⟨2, _⟩ => ⟨S1x16384x1024, .f32⟩
  | .hbm, ⟨3, _⟩ => ⟨S512x128, .i32⟩
  | .hbm, ⟨4, _⟩ => ⟨S512x128, .i32⟩
  | .hbm, ⟨5, _⟩ => ⟨S512x128, .f32⟩
  | .hbm, ⟨6, _⟩ => ⟨S16x128x16384, .f32⟩
  | .hbm, ⟨7, _⟩ => ⟨S16384x1024, .f32⟩
  | .hbm, ⟨8, _⟩ => ⟨S1024, .f32⟩
  | .hbm, ⟨9, _⟩ => ⟨S_, .i32⟩
  | .hbm, ⟨10, _⟩ => ⟨S512x128, .i32⟩
  | .hbm, ⟨11, _⟩ => ⟨S512x128, .i32⟩
  | .hbm, ⟨12, _⟩ => ⟨S512x128, .i32⟩
  | .hbm, ⟨13, _⟩ => ⟨S16384x1024, .f32⟩
  | .hbm, ⟨14, _⟩ => ⟨S_, .i32⟩
  | .hbm, ⟨15, _⟩ => ⟨S512x128, .i32⟩
  | .hbm, ⟨16, _⟩ => ⟨S512x128, .i1⟩
  | .hbm, ⟨17, _⟩ => ⟨S_, .i32⟩
  | .hbm, ⟨18, _⟩ => ⟨S512x128, .i32⟩
  | .hbm, ⟨19, _⟩ => ⟨S512x128, .i32⟩
  | .hbm, ⟨20, _⟩ => ⟨S512x128, .i32⟩
  | .hbm, ⟨21, _⟩ => ⟨S512x128x1, .i32⟩
  | .hbm, ⟨22, _⟩ => ⟨S512x128x1024, .f32⟩
  | .hbm, ⟨23, _⟩ => ⟨S512x1024, .bf16⟩
  | .hbm, ⟨24, _⟩ => ⟨S512x1024, .f32⟩
  | .hbm, ⟨25, _⟩ => ⟨S512x128, .f32⟩
  | .hbm, ⟨26, _⟩ => ⟨S_, .f32⟩
  | .hbm, ⟨27, _⟩ => ⟨S512x128, .f32⟩
  | .hbm, ⟨28, _⟩ => ⟨S512x128, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S512x128, .f32⟩
  | .hbm, ⟨33, _⟩ => ⟨S512x128, .f32⟩
  | .hbm, ⟨34, _⟩ => ⟨S512x128, .f32⟩
  | .hbm, ⟨35, _⟩ => ⟨S_, .f32⟩
  | .hbm, ⟨36, _⟩ => ⟨S512x128, .f32⟩
  | .hbm, ⟨37, _⟩ => ⟨S512x128, .f32⟩
  | .hbm, ⟨38, _⟩ => ⟨S512x128, .f32⟩
  | .hbm, ⟨39, _⟩ => ⟨S16384x1024, .f32⟩
  | .hbm, ⟨40, _⟩ => ⟨S_, .i32⟩
  | .hbm, ⟨41, _⟩ => ⟨S512x128, .i32⟩
  | .hbm, ⟨42, _⟩ => ⟨S512x128, .i1⟩
  | .hbm, ⟨43, _⟩ => ⟨S_, .i32⟩
  | .hbm, ⟨44, _⟩ => ⟨S512x128, .i32⟩
  | .hbm, ⟨45, _⟩ => ⟨S512x128, .i32⟩
  | .hbm, ⟨46, _⟩ => ⟨S512x128, .i32⟩
  | .hbm, ⟨47, _⟩ => ⟨S512x128x1, .i32⟩
  | .hbm, ⟨48, _⟩ => ⟨S512x128x1024, .f32⟩
  | .hbm, ⟨49, _⟩ => ⟨S512x1024, .f32⟩
  | .hbm, ⟨50, _⟩ => ⟨S512x128, .f32⟩
  | .hbm, ⟨51, _⟩ => ⟨S512x1024, .f32⟩
  | .hbm, ⟨52, _⟩ => ⟨S512x1024, .f32⟩
  | .hbm, ⟨53, _⟩ => ⟨S512x1024, .f32⟩
  | .hbm, ⟨54, _⟩ => ⟨S_, .f32⟩
  | .hbm, ⟨55, _⟩ => ⟨S512, .f32⟩
  | .hbm, ⟨56, _⟩ => ⟨S512x1, .f32⟩
  | .hbm, ⟨57, _⟩ => ⟨S_, .f32⟩
  | .hbm, ⟨58, _⟩ => ⟨S512x1, .f32⟩
  | .hbm, ⟨59, _⟩ => ⟨S512x1, .f32⟩
  | .hbm, ⟨60, _⟩ => ⟨S_, .f32⟩
  | .hbm, ⟨61, _⟩ => ⟨S512x1, .f32⟩
  | .hbm, ⟨62, _⟩ => ⟨S512x1, .f32⟩
  | .hbm, ⟨63, _⟩ => ⟨S512x1, .f32⟩
  | .hbm, ⟨64, _⟩ => ⟨S512x1024, .f32⟩
  | .hbm, ⟨65, _⟩ => ⟨S512x1024, .f32⟩
  | .hbm, ⟨66, _⟩ => ⟨S1x1024, .f32⟩
  | .hbm, ⟨67, _⟩ => ⟨S512x1024, .f32⟩
  | .hbm, ⟨68, _⟩ => ⟨S512x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩

abbrev nD : Nat := 1
abbrev τ : Topo := Topo.v7x

variable {F : FTy → Type} [FloatOps F]
-- ==== Inproj.lean ====
abbrev S2x8192x1024 : Shape := ⟨3, ![2, 8192, 1024]⟩
abbrev S1x1024 : Shape := ⟨2, ![1, 1024]⟩
abbrev S1x1024x2512 : Shape := ⟨3, ![1, 1024, 2512]⟩
abbrev S16384x1024 : Shape := ⟨2, ![16384, 1024]⟩
abbrev S1024x2512 : Shape := ⟨2, ![1024, 2512]⟩
abbrev S1024x448 : Shape := ⟨2, ![1024, 448]⟩
abbrev S1024x32 : Shape := ⟨2, ![1024, 32]⟩
abbrev S1024x1536 : Shape := ⟨2, ![1024, 1536]⟩
abbrev S1024x512 : Shape := ⟨2, ![1024, 512]⟩
abbrev S1024x16 : Shape := ⟨2, ![1024, 16]⟩
abbrev S_ : Shape := ⟨0, ![]⟩
abbrev S1024x112 : Shape := ⟨2, ![1024, 112]⟩
abbrev S1024x2688 : Shape := ⟨2, ![1024, 2688]⟩
abbrev S16384x512 : Shape := ⟨2, ![16384, 512]⟩
abbrev S16384x1536 : Shape := ⟨2, ![16384, 1536]⟩
abbrev S16384x128 : Shape := ⟨2, ![16384, 128]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 19
  | .vmem => 12
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x2512, .f32⟩
  | .hbm, ⟨3, _⟩ => ⟨S16384x1024, .f32⟩
  | .hbm, ⟨4, _⟩ => ⟨S1024x2512, .f32⟩
  | .hbm, ⟨5, _⟩ => ⟨S1024x448, .f32⟩
  | .hbm, ⟨6, _⟩ => ⟨S1024x32, .f32⟩
  | .hbm, ⟨7, _⟩ => ⟨S1024x32, .f32⟩
  | .hbm, ⟨8, _⟩ => ⟨S1024x1536, .f32⟩
  | .hbm, ⟨9, _⟩ => ⟨S1024x512, .f32⟩
  | .hbm, ⟨10, _⟩ => ⟨S1024x16, .f32⟩
  | .hbm, ⟨11, _⟩ => ⟨S_, .f32⟩
  | .hbm, ⟨12, _⟩ => ⟨S1024x112, .f32⟩
  | .hbm, ⟨13, _⟩ => ⟨S1024x2688, .f32⟩
  | .hbm, ⟨14, _⟩ => ⟨S1024x2688, .bf16⟩
  | .hbm, ⟨15, _⟩ => ⟨S16384x512, .f32⟩
  | .hbm, ⟨16, _⟩ => ⟨S16384x1536, .f32⟩
  | .hbm, ⟨17, _⟩ => ⟨S16384x512, .f32⟩
  | .hbm, ⟨18, _⟩ => ⟨S16384x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2688, .bf16⟩
  | .local _ .vmem, ⟨4, _⟩ => ⟨S1024x512, .f32⟩
  | .local _ .vmem, ⟨5, _⟩ => ⟨S1024x512, .f32⟩
  | .local _ .vmem, ⟨6, _⟩ => ⟨S1024x1536, .f32⟩
  | .local _ .vmem, ⟨7, _⟩ => ⟨S1024x1536, .f32⟩
  | .local _ .vmem, ⟨8, _⟩ => ⟨S1024x512, .f32⟩
  | .local _ .vmem, ⟨9, _⟩ => ⟨S1024x512, .f32⟩
  | .local _ .vmem, ⟨10, _⟩ => ⟨S1024x128, .f32⟩
  | .local _ .vmem, ⟨11, _⟩ => ⟨S1024x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev main_v11_2 : Ref sig .tc := ⟨.hbm, 17, rfl⟩
abbrev main_v11_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InprojReferenceIdeal.lean ====
abbrev S2x8192x1024 : Shape := ⟨3, ![2, 8192, 1024]⟩
abbrev S1x1024 : Shape := ⟨2, ![1, 1024]⟩
abbrev S1x1024x2512 : Shape := ⟨3, ![1, 1024, 2512]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1024x2512 : Shape := ⟨2, ![1024, 2512]⟩
abbrev S16384x2512 : Shape := ⟨2, ![16384, 2512]⟩
abbrev S16384x2064 : Shape := ⟨2, ![16384, 2064]⟩
abbrev S16384x64 : Shape := ⟨2, ![16384, 64]⟩
abbrev S16384x448 : Shape := ⟨2, ![16384, 448]⟩
abbrev S16384x32 : Shape := ⟨2, ![16384, 32]⟩
abbrev S16384x512 : Shape := ⟨2, ![16384, 512]⟩
abbrev S16384x16 : Shape := ⟨2, ![16384, 16]⟩
abbrev S16384x112 : Shape := ⟨2, ![16384, 112]⟩
abbrev S16384x128 : Shape := ⟨2, ![16384, 128]⟩
abbrev S16384x1536 : Shape := ⟨2, ![16384, 1536]⟩

abbrev nBuf : Space → Nat
  | .hbm => 35
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x2512, .f32⟩
  | .hbm, ⟨3, _⟩ => ⟨S16384x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S1024x2512, .f32⟩
  | .hbm, ⟨22, _⟩ => ⟨S16384x2512, .f32⟩
  | .hbm, ⟨23, _⟩ => ⟨S16384x2064, .f32⟩
  | .hbm, ⟨24, _⟩ => ⟨S16384x64, .f32⟩
  | .hbm, ⟨25, _⟩ => ⟨S16384x448, .f32⟩
  | .hbm, ⟨26, _⟩ => ⟨S16384x32, .f32⟩
  | .hbm, ⟨27, _⟩ => ⟨S16384x32, .f32⟩
  | .hbm, ⟨28, _⟩ => ⟨S16384x512, .f32⟩
  | .hbm, ⟨29, _⟩ => ⟨S16384x16, .f32⟩
  | .hbm, ⟨30, _⟩ => ⟨S_, .f32⟩
  | .hbm, ⟨31, _⟩ => ⟨S16384x112, .f32⟩
  | .hbm, ⟨32, _⟩ => ⟨S16384x128, .f32⟩
  | .hbm, ⟨33, _⟩ => ⟨S16384x1536, .f32⟩
  | .hbm, ⟨34, _⟩ => ⟨S16384x512, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Mix.lean ====
abbrev S2x8192x1024 : Shape := ⟨3, ![2, 8192, 1024]⟩
abbrev S16384x512 : Shape := ⟨2, ![16384, 512]⟩
abbrev S1x128 : Shape := ⟨2, ![1, 128]⟩
abbrev S1x1024x1024 : Shape := ⟨3, ![1, 1024, 1024]⟩
abbrev S1x1024 : Shape := ⟨2, ![1, 1024]⟩
abbrev S1x1024x2048 : Shape := ⟨3, ![1, 1024, 2048]⟩
abbrev S1x8x2x128x128 : Shape := ⟨5, ![1, 8, 2, 128, 128]⟩
abbrev S16384x1024 : Shape := ⟨2, ![16384, 1024]⟩
abbrev S8x2x128x128 : Shape := ⟨4, ![8, 2, 128, 128]⟩
abbrev S16x128x128 : Shape := ⟨3, ![16, 128, 128]⟩
abbrev S1024x1024 : Shape := ⟨2, ![1024, 1024]⟩
abbrev S1024x2048 : Shape := ⟨2, ![1024, 2048]⟩
abbrev S16x128x16384 : Shape := ⟨3, ![16, 128, 16384]⟩
abbrev S512x1024 : Shape := ⟨2, ![512, 1024]⟩
abbrev S512x512 : Shape := ⟨2, ![512, 512]⟩
abbrev S16x128x512 : Shape := ⟨3, ![16, 128, 512]⟩
abbrev S512x128 : Shape := ⟨2, ![512, 128]⟩
abbrev S512 : Shape := ⟨1, ![512]⟩
abbrev S512x1 : Shape := ⟨2, ![512, 1]⟩
abbrev S512x2048 : Shape := ⟨2, ![512, 2048]⟩
abbrev S1x128x128 : Shape := ⟨3, ![1, 128, 128]⟩
abbrev S128x128 : Shape := ⟨2, ![128, 128]⟩
abbrev S128x512 : Shape := ⟨2, ![128, 512]⟩
abbrev S1x128x512 : Shape := ⟨3, ![1, 128, 512]⟩

abbrev nBuf : Space → Nat
  | .hbm => 21
  | .vmem => 21
  | .smem => 0
  | _ => 0

abbrev bufTy : (tb : Table) → Fin (tcTables nBuf tb) → BufTy
  | .hbm, ⟨0, _⟩ => ⟨S2x8192x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S1x128, .f32⟩
  | .hbm, ⟨6, _⟩ => ⟨S1x1024x1024, .f32⟩
  | .hbm, ⟨7, _⟩ => ⟨S1x1024, .f32⟩
  | .hbm, ⟨8, _⟩ => ⟨S1x1024x2048, .f32⟩
  | .hbm, ⟨9, _⟩ => ⟨S1x8x2x128x128, .f32⟩
  | .hbm, ⟨10, _⟩ => ⟨S16384x1024, .f32⟩
  | .hbm, ⟨11, _⟩ => ⟨S8x2x128x128, .f32⟩
  | .hbm, ⟨12, _⟩ => ⟨S16x128x128, .f32⟩
  | .hbm, ⟨13, _⟩ => ⟨S16x128x128, .bf16⟩
  | .hbm, ⟨14, _⟩ => ⟨S1024x1024, .f32⟩
  | .hbm, ⟨15, _⟩ => ⟨S1024x1024, .bf16⟩
  | .hbm, ⟨16, _⟩ => ⟨S1024x2048, .f32⟩
  | .hbm, ⟨17, _⟩ => ⟨S1024x2048, .bf16⟩
  | .hbm, ⟨18, _⟩ => ⟨S16384x1024, .f32⟩
  | .hbm, ⟨19, _⟩ => ⟨S16384x1024, .bf16⟩
  | .hbm, ⟨20, _⟩ => ⟨S16x128x16384, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x128, .f32⟩
  | .local _ .vmem, ⟨11, _⟩ => ⟨S1024x1024, .bf16⟩
  | .local _ .vmem, ⟨12, _⟩ => ⟨S1x1024, .f32⟩
  | .local _ .vmem, ⟨13, _⟩ => ⟨S1024x2048, .bf16⟩
  | .local _ .vmem, ⟨14, _⟩ => ⟨S16x128x128, .bf16⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S16x128x512, .f32⟩
  | .local _ .vmem, ⟨20, _⟩ => ⟨S16x128x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MixReferenceIdeal.lean ====
abbrev S2x8192x1024 : Shape := ⟨3, ![2, 8192, 1024]⟩
abbrev S16384x512 : Shape := ⟨2, ![16384, 512]⟩
abbrev S1x128 : Shape := ⟨2, ![1, 128]⟩
abbrev S1x1024x1024 : Shape := ⟨3, ![1, 1024, 1024]⟩
abbrev S1x1024 : Shape := ⟨2, ![1, 1024]⟩
abbrev S1x1024x2048 : Shape := ⟨3, ![1, 1024, 2048]⟩
abbrev S1x8x2x128x128 : Shape := ⟨5, ![1, 8, 2, 128, 128]⟩
abbrev S16384x4x128 : Shape := ⟨3, ![16384, 4, 128]⟩
abbrev S_ : Shape := ⟨0, ![]⟩
abbrev S16384x4 : Shape := ⟨2, ![16384, 4]⟩
abbrev S16384x4x1 : Shape := ⟨3, ![16384, 4, 1]⟩
abbrev S128 : Shape := ⟨1, ![128]⟩
abbrev S1x1x128 : Shape := ⟨3, ![1, 1, 128]⟩
abbrev S16384x1024 : Shape := ⟨2, ![16384, 1024]⟩
abbrev S1024x1024 : Shape := ⟨2, ![1024, 1024]⟩
abbrev S16384 : Shape := ⟨1, ![16384]⟩
abbrev S16384x1 : Shape := ⟨2, ![16384, 1]⟩
abbrev S1024 : Shape := ⟨1, ![1024]⟩
abbrev S1024x2048 : Shape := ⟨2, ![1024, 2048]⟩
abbrev S16384x2048 : Shape := ⟨2, ![16384, 2048]⟩
abbrev S16384x8x2x128 : Shape := ⟨4, ![16384, 8, 2, 128]⟩
abbrev S8x2x128x128 : Shape := ⟨4, ![8, 2, 128, 128]⟩
abbrev S8x2x128x16384 : Shape := ⟨4, ![8, 2, 128, 16384]⟩
abbrev S16x128x16384 : Shape := ⟨3, ![16, 128, 16384]⟩

abbrev nBuf : Space → Nat
  | .hbm => 69
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S1x128, .f32⟩
  | .hbm, ⟨6, _⟩ => ⟨S1x1024x1024, .f32⟩
  | .hbm, ⟨7, _⟩ => ⟨S1x1024, .f32⟩
  | .hbm, ⟨8, _⟩ => ⟨S1x1024x2048, .f32⟩
  | .hbm, ⟨9, _⟩ => ⟨S1x8x2x128x128, .f32⟩
  | .hbm, ⟨10, _⟩ => ⟨S16384x512, .f32⟩
  | .hbm, ⟨11, _⟩ => ⟨S16384x4x128, .f32⟩
  | .hbm, ⟨12, _⟩ => ⟨S16384x4x128, .f32⟩
  | .hbm, ⟨13, _⟩ => ⟨S_, .f32⟩
  | .hbm, ⟨14, _⟩ => ⟨S16384x4, .f32⟩
  | .hbm, ⟨15, _⟩ => ⟨S16384x4x1, .f32⟩
  | .hbm, ⟨16, _⟩ => ⟨S_, .f32⟩
  | .hbm, ⟨17, _⟩ => ⟨S16384x4x1, .f32⟩
  | .hbm, ⟨18, _⟩ => ⟨S16384x4x1, .f32⟩
  | .hbm, ⟨19, _⟩ => ⟨S_, .f32⟩
  | .hbm, ⟨20, _⟩ => ⟨S16384x4x1, .f32⟩
  | .hbm, ⟨21, _⟩ => ⟨S16384x4x1, .f32⟩
  | .hbm, ⟨22, _⟩ => ⟨S16384x4x1, .f32⟩
  | .hbm, ⟨23, _⟩ => ⟨S16384x4x128, .f32⟩
  | .hbm, ⟨24, _⟩ => ⟨S16384x4x128, .f32⟩
  | .hbm, ⟨25, _⟩ => ⟨S128, .f32⟩
  | .hbm, ⟨26, _⟩ => ⟨S1x1x128, .f32⟩
  | .hbm, ⟨27, _⟩ => ⟨S16384x4x128, .f32⟩
  | .hbm, ⟨28, _⟩ => ⟨S16384x4x128, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S_, .f32⟩
  | .hbm, ⟨33, _⟩ => ⟨S16384x512, .f32⟩
  | .hbm, ⟨34, _⟩ => ⟨S16384x512, .f32⟩
  | .hbm, ⟨35, _⟩ => ⟨S_, .f32⟩
  | .hbm, ⟨36, _⟩ => ⟨S16384x512, .f32⟩
  | .hbm, ⟨37, _⟩ => ⟨S16384x512, .f32⟩
  | .hbm, ⟨38, _⟩ => ⟨S16384x512, .f32⟩
  | .hbm, ⟨39, _⟩ => ⟨S16384x512, .f32⟩
  | .hbm, ⟨40, _⟩ => ⟨S16384x1024, .f32⟩
  | .hbm, ⟨41, _⟩ => ⟨S16384x1024, .f32⟩
  | .hbm, ⟨42, _⟩ => ⟨S1024x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S16384x1, .f32⟩
  | .hbm, ⟨56, _⟩ => ⟨S16384x1024, .f32⟩
  | .hbm, ⟨57, _⟩ => ⟨S16384x1024, .f32⟩
  | .hbm, ⟨58, _⟩ => ⟨S1024, .f32⟩
  | .hbm, ⟨59, _⟩ => ⟨S1x1024, .f32⟩
  | .hbm, ⟨60, _⟩ => ⟨S16384x1024, .f32⟩
  | .hbm, ⟨61, _⟩ => ⟨S16384x1024, .f32⟩
  | .hbm, ⟨62, _⟩ => ⟨S1024x2048, .f32⟩
  | .hbm, ⟨63, _⟩ => ⟨S16384x2048, .f32⟩
  | .hbm, ⟨64, _⟩ => ⟨S16384x8x2x128, .f32⟩
  | .hbm, ⟨65, _⟩ => ⟨S8x2x128x128, .f32⟩
  | .hbm, ⟨66, _⟩ => ⟨S8x2x128x16384, .f32⟩
  | .hbm, ⟨67, _⟩ => ⟨S16384x1024, .bf16⟩
  | .hbm, ⟨68, _⟩ => ⟨S16x128x16384, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_2 : Ref sig .tc := ⟨.hbm, 46, rfl⟩
abbrev main_v25 : Ref sig .tc := ⟨.hbm, 47, rfl⟩
abbrev main_v26 : Ref sig .tc := ⟨.hbm, 48, rfl⟩
abbrev main_cst_3 : Ref sig .tc := ⟨.hbm, 49, rfl⟩
abbrev main_v27 : Ref sig .tc := ⟨.hbm, 50, rfl⟩
abbrev main_v28 : Ref sig .tc := ⟨.hbm, 51, rfl⟩
abbrev main_cst_4 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩

abbrev nD : Nat := 1
abbrev τ : Topo := Topo.v7x

variable {F : FTy → Type} [FloatOps F]
-- ==== Attn.lean ====
abbrev S16384x4x192 : Shape := ⟨3, ![16384, 4, 192]⟩
abbrev S16384x128 : Shape := ⟨2, ![16384, 128]⟩
abbrev S16384x64 : Shape := ⟨2, ![16384, 64]⟩
abbrev S1x128x1024 : Shape := ⟨3, ![1, 128, 1024]⟩
abbrev S128x1024 : Shape := ⟨2, ![128, 1024]⟩
abbrev S128x4x256 : Shape := ⟨3, ![128, 4, 256]⟩
abbrev S128x4x128 : Shape := ⟨3, ![128, 4, 128]⟩
abbrev S4x128x128 : Shape := ⟨3, ![4, 128, 128]⟩
abbrev S_ : Shape := ⟨0, ![]⟩
abbrev S1x1x1 : Shape := ⟨3, ![1, 1, 1]⟩
abbrev S16384x4x128 : Shape := ⟨3, ![16384, 4, 128]⟩
abbrev S4x16384x128 : Shape := ⟨3, ![4, 16384, 128]⟩
abbrev S16384x4x64 : Shape := ⟨3, ![16384, 4, 64]⟩
abbrev S4x16384x64 : Shape := ⟨3, ![4, 16384, 64]⟩
abbrev S4x16384x256 : Shape := ⟨3, ![4, 16384, 256]⟩
abbrev S16384x256 : Shape := ⟨2, ![16384, 256]⟩
abbrev S16384x1 : Shape := ⟨2, ![16384, 1]⟩
abbrev S16384x127 : Shape := ⟨2, ![16384, 127]⟩
abbrev S16384x512 : Shape := ⟨2, ![16384, 512]⟩
abbrev S4x512x256 : Shape := ⟨3, ![4, 512, 256]⟩
abbrev S2048x256 : Shape := ⟨2, ![2048, 256]⟩
abbrev S512x512 : Shape := ⟨2, ![512, 512]⟩
abbrev S2048x128 : Shape := ⟨2, ![2048, 128]⟩
abbrev S1x512x256 : Shape := ⟨3, ![1, 512, 256]⟩
abbrev S512x256 : Shape := ⟨2, ![512, 256]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩
abbrev S1x128x128 : Shape := ⟨3, ![1, 128, 128]⟩
abbrev S128x128 : Shape := ⟨2, ![128, 128]⟩

abbrev nBuf : Space → Nat
  | .hbm => 39
  | .vmem => 11
  | .smem => 0
  | _ => 0

abbrev bufTy : (tb : Table) → Fin (tcTables nBuf tb) → BufTy
  | .hbm, ⟨0, _⟩ => ⟨S16384x4x192, .f32⟩
  | .hbm, ⟨1, _⟩ => ⟨S16384x128, .f32⟩
  | .hbm, ⟨2, _⟩ => ⟨S16384x64, .f32⟩
  | .hbm, ⟨3, _⟩ => ⟨S1x128x1024, .f32⟩
  | .hbm, ⟨4, _⟩ => ⟨S128x1024, .f32⟩
  | .hbm, ⟨5, _⟩ => ⟨S128x4x256, .f32⟩
  | .hbm, ⟨6, _⟩ => ⟨S128x4x128, .f32⟩
  | .hbm, ⟨7, _⟩ => ⟨S4x128x128, .f32⟩
  | .hbm, ⟨8, _⟩ => ⟨S128x4x128, .f32⟩
  | .hbm, ⟨9, _⟩ => ⟨S4x128x128, .f32⟩
  | .hbm, ⟨10, _⟩ => ⟨S4x128x128, .bf16⟩
  | .hbm, ⟨11, _⟩ => ⟨S_, .f32⟩
  | .hbm, ⟨12, _⟩ => ⟨S1x1x1, .f32⟩
  | .hbm, ⟨13, _⟩ => ⟨S1x1x1, .f32⟩
  | .hbm, ⟨14, _⟩ => ⟨S_, .f32⟩
  | .hbm, ⟨15, _⟩ => ⟨S1x1x1, .f32⟩
  | .hbm, ⟨16, _⟩ => ⟨S1x1x1, .f32⟩
  | .hbm, ⟨17, _⟩ => ⟨S1x1x1, .f32⟩
  | .hbm, ⟨18, _⟩ => ⟨S16384x4x128, .f32⟩
  | .hbm, ⟨19, _⟩ => ⟨S4x16384x128, .f32⟩
  | .hbm, ⟨20, _⟩ => ⟨S16384x4x64, .f32⟩
  | .hbm, ⟨21, _⟩ => ⟨S4x16384x64, .f32⟩
  | .hbm, ⟨22, _⟩ => ⟨S_, .f32⟩
  | .hbm, ⟨23, _⟩ => ⟨S4x16384x64, .f32⟩
  | .hbm, ⟨24, _⟩ => ⟨S4x16384x256, .f32⟩
  | .hbm, ⟨25, _⟩ => ⟨S4x16384x256, .f32⟩
  | .hbm, ⟨26, _⟩ => ⟨S4x16384x256, .f32⟩
  | .hbm, ⟨27, _⟩ => ⟨S4x16384x256, .bf16⟩
  | .hbm, ⟨28, _⟩ => ⟨S_, .f32⟩
  | .hbm, ⟨29, _⟩ => ⟨S16384x64, .f32⟩
  | .hbm, ⟨30, _⟩ => ⟨S16384x256, .f32⟩
  | .hbm, ⟨31, _⟩ => ⟨S16384x256, .bf16⟩
  | .hbm, ⟨32, _⟩ => ⟨S_, .f32⟩
  | .hbm, ⟨33, _⟩ => ⟨S16384x1, .f32⟩
  | .hbm, ⟨34, _⟩ => ⟨S_, .f32⟩
  | .hbm, ⟨35, _⟩ => ⟨S16384x127, .f32⟩
  | .hbm, ⟨36, _⟩ => ⟨S16384x256, .f32⟩
  | .hbm, ⟨37, _⟩ => ⟨S16384x256, .bf16⟩
  | .hbm, ⟨38, _⟩ => ⟨S16384x512, .f32⟩
  | .local _ .vmem, ⟨0, _⟩ => ⟨S4x512x256, .bf16⟩
  | .local _ .vmem, ⟨1, _⟩ => ⟨S4x512x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S4x128x128, .bf16⟩
  | .local _ .vmem, ⟨7, _⟩ => ⟨S512x512, .f32⟩
  | .local _ .vmem, ⟨8, _⟩ => ⟨S512x512, .f32⟩
  | .local _ .vmem, ⟨9, _⟩ => ⟨S2048x128, .f32⟩
  | .local _ .vmem, ⟨10, _⟩ => ⟨S2048x256, .f32⟩
  | _, _ => ⟨S16384x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 16, 4], ![false, false, false]⟩

def k0_cond2 (i : grid0.Coords) : BitVec 1 :=
  let arg2 : BitVec 32 := BitVec.ofNat 32 (i 2).val
  let c3_i32 : BitVec 32 := 3#32
  let v107 : BitVec 1 := Scalar.cmpi .eq arg2 c3_i32
  let v108 : BitVec 32 := Scalar.extui v107
  let c0_i32_53 : BitVec 32 := 0#32
  let v109 : BitVec 1 := Scalar.cmpi .ne v108 c0_i32_53
  v109

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S4x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 1 → Memref sig .tc .vmem S4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== AttnReferenceIdeal.lean ====
abbrev S16384x4x192 : Shape := ⟨3, ![16384, 4, 192]⟩
abbrev S16384x128 : Shape := ⟨2, ![16384, 128]⟩
abbrev S16384x64 : Shape := ⟨2, ![16384, 64]⟩
abbrev S1x128x1024 : Shape := ⟨3, ![1, 128, 1024]⟩
abbrev S128x1024 : Shape := ⟨2, ![128, 1024]⟩
abbrev S16384x1024 : Shape := ⟨2, ![16384, 1024]⟩
abbrev S2x8192x4x256 : Shape := ⟨4, ![2, 8192, 4, 256]⟩
abbrev S2x8192x1x64 : Shape := ⟨4, ![2, 8192, 1, 64]⟩
abbrev S2x8192x4x64 : Shape := ⟨4, ![2, 8192, 4, 64]⟩
abbrev S2x8192x4x128 : Shape := ⟨4, ![2, 8192, 4, 128]⟩
abbrev S2x8192x4x192 : Shape := ⟨4, ![2, 8192, 4, 192]⟩
abbrev S2x4x8192x8192 : Shape := ⟨4, ![2, 4, 8192, 8192]⟩
abbrev S_ : Shape := ⟨0, ![]⟩
abbrev S2x4x8192 : Shape := ⟨3, ![2, 4, 8192]⟩
abbrev S2x4x8192x1 : Shape := ⟨4, ![2, 4, 8192, 1]⟩
abbrev S2x4x128x8192 : Shape := ⟨4, ![2, 4, 128, 8192]⟩
abbrev S16384x512 : Shape := ⟨2, ![16384, 512]⟩

abbrev nBuf : Space → Nat
  | .hbm => 36
  | .vmem => 0
  | .smem => 0
  | _ => 0

abbrev bufTy : (tb : Table) → Fin (tcTables nBuf tb) → BufTy
  | .hbm, ⟨0, _⟩ => ⟨S16384x4x192, .f32⟩
  | .hbm, ⟨1, _⟩ => ⟨S16384x128, .f32⟩
  | .hbm, ⟨2, _⟩ => ⟨S16384x64, .f32⟩
  | .hbm, ⟨3, _⟩ => ⟨S1x128x1024, .f32⟩
  | .hbm, ⟨4, _⟩ => ⟨S128x1024, .f32⟩
  | .hbm, ⟨5, _⟩ => ⟨S16384x1024, .f32⟩
  | .hbm, ⟨6, _⟩ => ⟨S2x8192x4x256, .f32⟩
  | .hbm, ⟨7, _⟩ => ⟨S2x8192x1x64, .f32⟩
  | .hbm, ⟨8, _⟩ => ⟨S2x8192x4x64, .f32⟩
  | .hbm, ⟨9, _⟩ => ⟨S2x8192x4x128, .f32⟩
  | .hbm, ⟨10, _⟩ => ⟨S2x8192x4x192, .f32⟩
  | .hbm, ⟨11, _⟩ => ⟨S2x8192x4x128, .f32⟩
  | .hbm, ⟨12, _⟩ => ⟨S2x8192x4x192, .f32⟩
  | .hbm, ⟨13, _⟩ => ⟨S2x4x8192x8192, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S2x4x8192x8192, .f32⟩
  | .hbm, ⟨18, _⟩ => ⟨S2x4x8192x8192, .f32⟩
  | .hbm, ⟨19, _⟩ => ⟨S_, .f32⟩
  | .hbm, ⟨20, _⟩ => ⟨S2x4x8192, .f32⟩
  | .hbm, ⟨21, _⟩ => ⟨S_, .f32⟩
  | .hbm, ⟨22, _⟩ => ⟨S2x4x8192, .f32⟩
  | .hbm, ⟨23, _⟩ => ⟨S2x4x8192, .f32⟩
  | .hbm, ⟨24, _⟩ => ⟨S2x4x8192x1, .f32⟩
  | .hbm, ⟨25, _⟩ => ⟨S2x4x8192x8192, .f32⟩
  | .hbm, ⟨26, _⟩ => ⟨S2x4x8192x8192, .f32⟩
  | .hbm, ⟨27, _⟩ => ⟨S2x4x8192x8192, .f32⟩
  | .hbm, ⟨28, _⟩ => ⟨S_, .f32⟩
  | .hbm, ⟨29, _⟩ => ⟨S2x4x8192, .f32⟩
  | .hbm, ⟨30, _⟩ => ⟨S2x4x8192x1, .f32⟩
  | .hbm, ⟨31, _⟩ => ⟨S2x4x8192x8192, .f32⟩
  | .hbm, ⟨32, _⟩ => ⟨S2x4x8192x8192, .f32⟩
  | .hbm, ⟨33, _⟩ => ⟨S2x4x128x8192, .f32⟩
  | .hbm, ⟨34, _⟩ => ⟨S2x8192x4x128, .f32⟩
  | .hbm, ⟨35, _⟩ => ⟨S16384x512, .f32⟩
  | _, _ => ⟨S16384x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Proof.OffsP.lean ====
/-
  Hand-written. The offsets of the top-16 rows that one trip of the sub-block loop of `Kernel` writes into the
  staging scratch, and of the strided rows of the gate words it reads, as closed forms of the grid point and the trip.
-/
module

public import proofs.«01_k».proof.Proof.Gen.Kernel.Frame
public import proofs.«01_k».proof.Proof.Gen.Kernel.Loops

@[expose] public section

noncomputable section

namespace Cert.Kernel.Hand

open Cert.Kernel Cert.Kernel.Gen
open Idealize.ShloMosaic Idealize.ShloMosaic.TcCoe Idealize.ShloMosaic.Tactic

theorem off6_eq : ∀ (i : grid0.Coords) (k : Fin k0_t2_loop.trips) (r : Fin 2), k0_off6 i k (BitVec.ofNat 32 r.val)
    = ![0, (2 * (i 1).val + k.val) / 4, 32 * ((2 * (i 1).val + k.val) % 4) + 16 * r.val, 0] := by
  intro i
  unfold k0_off6
  generalize i 1 = j
  revert j
  decide +kernel

theorem off7_eq : ∀ (i : grid0.Coords) (k : Fin k0_t2_loop.trips) (r : Fin 2), k0_off7 i k (BitVec.ofNat 32 r.val)
    = ![1, (2 * (i 1).val + k.val) / 4, 32 * ((2 * (i 1).val + k.val) % 4) + 16 * r.val, 0] := by
  intro i
  unfold k0_off7
  generalize i 1 = j
  revert j
  decide +kernel

theorem off8_eq : ∀ (i : grid0.Coords) (k : Fin k0_t2_loop.trips) (r : Fin 2), k0_off8 i k (BitVec.ofNat 32 r.val)
    = ![2, (2 * (i 1).val + k.val) / 4, 32 * ((2 * (i 1).val + k.val) % 4) + 16 * r.val, 0] := by
  intro i
  unfold k0_off8
  generalize i 1 = j
  revert j
  decide +kernel

theorem off10_eq : ∀ (i : grid0.Coords) (k : Fin k0_t2_loop.trips) (r : Fin 4), k0_off10 i k (BitVec.ofNat 32 r.val)
    = ![8 * (i 1).val + 4 * k.val + r.val, 0] := by
  intro i
  unfold k0_off10
  generalize i 1 = j
  revert j
  decide +kernel

instance closed_off6_0 (i : grid0.Coords) (k : Fin k0_t2_loop.trips) : ClosedOff (k0_off6 i k 0#32) := ⟨_, off6_eq i k 0⟩
instance closed_off6_1 (i : grid0.Coords) (k : Fin k0_t2_loop.trips) : ClosedOff (k0_off6 i k 1#32) := ⟨_, off6_eq i k 1⟩
instance closed_off7_0 (i : grid0.Coords) (k : Fin k0_t2_loop.trips) : ClosedOff (k0_off7 i k 0#32) := ⟨_, off7_eq i k 0⟩
instance closed_off7_1 (i : grid0.Coords) (k : Fin k0_t2_loop.trips) : ClosedOff (k0_off7 i k 1#32) := ⟨_, off7_eq i k 1⟩
instance closed_off8_0 (i : grid0.Coords) (k : Fin k0_t2_loop.trips) : ClosedOff (k0_off8 i k 0#32) := ⟨_, off8_eq i k 0⟩
instance closed_off8_1 (i : grid0.Coords) (k : Fin k0_t2_loop.trips) : ClosedOff (k0_off8 i k 1#32) := ⟨_, off8_eq i k 1⟩

end Cert.Kernel.Hand

end
-- ==== Proof.Trip2P.lean ====
/-
  Hand-written. One trip of the sub-block loop of `Kernel` (`k0_t2_loop`): the top-16 selection of four rows of
  scores, staged for the next tile of tokens, and one sub-block of experts accumulated into the result. What the trip
  leaves in the staging scratch and in the result is found by the run.
-/
module

public import proofs.«01_k».proof.Proof.OffsP
public import proofs.«01_k».proof.Proof.Gen.Kernel.Skeleton
public import Idealize.ShloMosaic.Lib.Tactic

@[expose] public section

set_option maxRecDepth 8192

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄G" => MT nD τ sig Unit (Elt F) ℕ (UR sig nD τ) ℕ

local notation "𝒱₀" => (Variants.none : Variants)

/-- What one trip of the sub-block loop touches: the two tables, the scores and the gate words at their contents, the
    result and the staging scratch. -/
abbrev Trip2 (c : Dev nD) (arg3 : Memref sig .tc .vmem S2048x1024 .bf16) (arg4 : Memref sig .tc .vmem S2048x1024 .bf16)
    (arg8 : Memref sig .tc .vmem S8x128x128 .f32) (arg11 : Memref sig .tc .vmem S512x1024 .f32)
    (arg12 : Memref sig .tc .vmem S36864x128 .i32) (arg14 : Memref sig .tc .vmem S3x4x128x128 .f32)
    (X3 : BufTy.Contents (Elt F) arg3.view.ty) (X4 : BufTy.Contents (Elt F) arg4.view.ty) (X8 : BufTy.Contents (Elt F) arg8.view.ty)
    (X11 : BufTy.Contents (Elt F) arg11.view.ty) (X12 : BufTy.Contents (Elt F) arg12.view.ty)
    (X14 : BufTy.Contents (Elt F) arg14.view.ty) : sProp 𝕄G :=
  iprop((arg3.view.loc (c : Thread nD τ) ↦[arg3.view.set]{fullShare} X3) ∗ (arg4.view.loc (c : Thread nD τ) ↦[arg4.view.set]{fullShare} X4)
    ∗ (arg8.view.loc (c : Thread nD τ) ↦[arg8.view.set]{fullShare} X8) ∗ (arg11.view.loc (c : Thread nD τ) ↦[arg11.view.set]{fullShare} X11)
    ∗ (arg12.view.loc (c : Thread nD τ) ↦[arg12.view.set]{fullShare} X12) ∗ (arg14.view.loc (c : Thread nD τ) ↦[arg14.view.set]{fullShare} X14))

@[irreducible] def trip2 (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S8x128x128 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S36864x128 .i32) (harg12 : arg12.IsWhole) (arg13 : Memref sig .tc .vmem S3x512x128 .f32) (harg13 : arg13.IsWhole) (arg14 : Memref sig .tc .vmem S3x4x128x128 .f32) (harg14 : arg14.IsWhole) (arg1 : BitVec 32) (v13 : Vec F S512x1024 .bf16) (k : Fin k0_t2_loop.trips)
    (X3 : BufTy.Contents (Elt F) arg3.view.ty) (X4 : BufTy.Contents (Elt F) arg4.view.ty) (X8 : BufTy.Contents (Elt F) arg8.view.ty)
    (X11 : BufTy.Contents (Elt F) arg11.view.ty) (X12 : BufTy.Contents (Elt F) arg12.view.ty) :
    { L : List (View.Piece (Elt F) S512x1024 .f32) × List (View.Piece (Elt F) S3x4x128x128 .f32) //
      ∀ (E : Set ℕ) (f14 : BufTy.Contents (Elt F) arg14.view.ty),
      Trip2 (F := F) c arg3 arg4 arg8 arg11 arg12 arg14 X3 X4 X8 X11 X12 f14
      ⊢ wp frame (wpE (defs₀ (F := F)) 𝒱₀ (c : Thread nD τ) none) E (k0_t2_body (F := F) i arg2 harg2 arg3 harg3 arg4 harg4 arg5 harg5 arg6 harg6 arg7 harg7 arg8 harg8 arg9 harg9 arg10 harg10 arg11 harg11 arg12 harg12 arg13 harg13 arg14 harg14 arg1 v13 k PUnit.unit)
          (fun _ => Trip2 (F := F) c arg3 arg4 arg8 arg11 arg12 arg14 X3 X4 X8 (arg11.view.writes (Elt F) X11 L.1) X12
            (arg14.view.writes (Elt F) f14 L.2)) } := by
  have hk : k.val < 2 := k.isLt
  refine ⟨⟨?_, ?_⟩, fun E f14 => ?run⟩
  case run =>
    unfold k0_t2_body
    iintro ⟨H3, H4, H8, H11, H12, H14⟩
    sl_exec_parts
    sl_step
    sl_close

end Cert.Kernel.Hand

end
-- ==== Proof.BodyP.lean ====
/-
  Hand-written. The body of `Kernel`'s one call, run once for each of the four kinds of grid point (the first
  point of all, the first point of a later tile, a middle point, the last point of a tile): what it leaves in the result
  and in the three scratch buffers is found by the run.
-/
module

public import proofs.«01_k».proof.Proof.Trip2P

@[expose] public section

set_option maxRecDepth 8192

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄G" => MT nD τ sig Unit (Elt F) ℕ (UR sig nD τ) ℕ

local notation "𝒱₀" => (Variants.none : Variants)

/-- A memref's buffer held at contents `X`. -/
abbrev pt (c : Dev nD) {S : Shape} {e : EltTy} (M : Memref sig .tc .vmem S e) (X : BufTy.Contents (Elt F) M.view.ty) : sProp 𝕄G :=
  (M.view.loc (c : Thread nD τ) ↦[M.view.set]{fullShare} X)

/-- The pieces trip `k` of the sub-block loop adds to those before it, of the result (whose contents at loop entry are `G11`) and of
    the staging scratch; past the last trip, none. -/
@[irreducible] def pb2Step (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S8x128x128 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S36864x128 .i32) (harg12 : arg12.IsWhole) (arg13 : Memref sig .tc .vmem S3x512x128 .f32) (harg13 : arg13.IsWhole) (arg14 : Memref sig .tc .vmem S3x4x128x128 .f32) (harg14 : arg14.IsWhole) (arg1 : BitVec 32) (v13 : Vec F S512x1024 .bf16) (X3 : BufTy.Contents (Elt F) arg3.view.ty) (X4 : BufTy.Contents (Elt F) arg4.view.ty)
    (X8 : BufTy.Contents (Elt F) arg8.view.ty) (X12 : BufTy.Contents (Elt F) arg12.view.ty) (G11 : BufTy.Contents (Elt F) arg11.view.ty) (k : ℕ)
    (L : List (View.Piece (Elt F) S512x1024 .f32) × List (View.Piece (Elt F) S3x4x128x128 .f32)) :
    List (View.Piece (Elt F) S512x1024 .f32) × List (View.Piece (Elt F) S3x4x128x128 .f32) :=
  if h : k < k0_t2_loop.trips then
    ((trip2 (F := F) c i arg2 harg2 arg3 harg3 arg4 harg4 arg5 harg5 arg6 harg6 arg7 harg7 arg8 harg8 arg9 harg9 arg10 harg10 arg11 harg11 arg12 harg12 arg13 harg13 arg14 harg14 arg1 v13 ⟨k, h⟩ X3 X4 X8 (arg11.view.writes (Elt F) G11 L.1) X12).1.1 ++ L.1,
      (trip2 (F := F) c i arg2 harg2 arg3 harg3 arg4 harg4 arg5 harg5 arg6 harg6 arg7 harg7 arg8 harg8 arg9 harg9 arg10 harg10 arg11 harg11 arg12 harg12 arg13 harg13 arg14 harg14 arg1 v13 ⟨k, h⟩ X3 X4 X8 (arg11.view.writes (Elt F) G11 L.1) X12).1.2 ++ L.2)
  else L

/-- The pieces of the trips before `k`, last first. -/
def pb2 (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S8x128x128 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S36864x128 .i32) (harg12 : arg12.IsWhole) (arg13 : Memref sig .tc .vmem S3x512x128 .f32) (harg13 : arg13.IsWhole) (arg14 : Memref sig .tc .vmem S3x4x128x128 .f32) (harg14 : arg14.IsWhole) (arg1 : BitVec 32) (v13 : Vec F S512x1024 .bf16) (X3 : BufTy.Contents (Elt F) arg3.view.ty) (X4 : BufTy.Contents (Elt F) arg4.view.ty)
    (X8 : BufTy.Contents (Elt F) arg8.view.ty) (X12 : BufTy.Contents (Elt F) arg12.view.ty) (G11 : BufTy.Contents (Elt F) arg11.view.ty) :
    ℕ → List (View.Piece (Elt F) S512x1024 .f32) × List (View.Piece (Elt F) S3x4x128x128 .f32)
  | 0 => ([], [])
  | k + 1 => pb2Step (F := F) c i arg2 harg2 arg3 harg3 arg4 harg4 arg5 harg5 arg6 harg6 arg7 harg7 arg8 harg8 arg9 harg9 arg10 harg10 arg11 harg11 arg12 harg12 arg13 harg13 arg14 harg14 arg1 v13 X3 X4 X8 X12 G11 k (pb2 c i arg2 harg2 arg3 harg3 arg4 harg4 arg5 harg5 arg6 harg6 arg7 harg7 arg8 harg8 arg9 harg9 arg10 harg10 arg11 harg11 arg12 harg12 arg13 harg13 arg14 harg14 arg1 v13 X3 X4 X8 X12 G11 k)

theorem pb2_succ (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S8x128x128 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S36864x128 .i32) (harg12 : arg12.IsWhole) (arg13 : Memref sig .tc .vmem S3x512x128 .f32) (harg13 : arg13.IsWhole) (arg14 : Memref sig .tc .vmem S3x4x128x128 .f32) (harg14 : arg14.IsWhole) (arg1 : BitVec 32) (v13 : Vec F S512x1024 .bf16) (X3 : BufTy.Contents (Elt F) arg3.view.ty) (X4 : BufTy.Contents (Elt F) arg4.view.ty)
    (X8 : BufTy.Contents (Elt F) arg8.view.ty) (X12 : BufTy.Contents (Elt F) arg12.view.ty) (G11 : BufTy.Contents (Elt F) arg11.view.ty) (k : Fin k0_t2_loop.trips) :
    pb2 (F := F) c i arg2 harg2 arg3 harg3 arg4 harg4 arg5 harg5 arg6 harg6 arg7 harg7 arg8 harg8 arg9 harg9 arg10 harg10 arg11 harg11 arg12 harg12 arg13 harg13 arg14 harg14 arg1 v13 X3 X4 X8 X12 G11 (k.val + 1)
      = ((trip2 (F := F) c i arg2 harg2 arg3 harg3 arg4 harg4 arg5 harg5 arg6 harg6 arg7 harg7 arg8 harg8 arg9 harg9 arg10 harg10 arg11 harg11 arg12 harg12 arg13 harg13 arg14 harg14 arg1 v13 k X3 X4 X8 (arg11.view.writes (Elt F) G11 (pb2 (F := F) c i arg2 harg2 arg3 harg3 arg4 harg4 arg5 harg5 arg6 harg6 arg7 harg7 arg8 harg8 arg9 harg9 arg10 harg10 arg11 harg11 arg12 harg12 arg13 harg13 arg14 harg14 arg1 v13 X3 X4 X8 X12 G11 k.val).1) X12).1.1
            ++ (pb2 (F := F) c i arg2 harg2 arg3 harg3 arg4 harg4 arg5 harg5 arg6 harg6 arg7 harg7 arg8 harg8 arg9 harg9 arg10 harg10 arg11 harg11 arg12 harg12 arg13 harg13 arg14 harg14 arg1 v13 X3 X4 X8 X12 G11 k.val).1,
        (trip2 (F := F) c i arg2 harg2 arg3 harg3 arg4 harg4 arg5 harg5 arg6 harg6 arg7 harg7 arg8 harg8 arg9 harg9 arg10 harg10 arg11 harg11 arg12 harg12 arg13 harg13 arg14 harg14 arg1 v13 k X3 X4 X8 (arg11.view.writes (Elt F) G11 (pb2 (F := F) c i arg2 harg2 arg3 harg3 arg4 harg4 arg5 harg5 arg6 harg6 arg7 harg7 arg8 harg8 arg9 harg9 arg10 harg10 arg11 harg11 arg12 harg12 arg13 harg13 arg14 harg14 arg1 v13 X3 X4 X8 X12 G11 k.val).1) X12).1.2
            ++ (pb2 (F := F) c i arg2 harg2 arg3 harg3 arg4 harg4 arg5 harg5 arg6 harg6 arg7 harg7 arg8 harg8 arg9 harg9 arg10 harg10 arg11 harg11 arg12 harg12 arg13 harg13 arg14 harg14 arg1 v13 X3 X4 X8 X12 G11 k.val).2) := by
  rw [pb2.eq_2]; unfold pb2Step; exact dif_pos k.isLt

/-- The invariant of the sub-block loop: everything read at its contents, the result and the staging scratch as the trips so far
    leave them. -/
abbrev inv2 (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S8x128x128 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S36864x128 .i32) (harg12 : arg12.IsWhole) (arg13 : Memref sig .tc .vmem S3x512x128 .f32) (harg13 : arg13.IsWhole) (arg14 : Memref sig .tc .vmem S3x4x128x128 .f32) (harg14 : arg14.IsWhole) (arg1 : BitVec 32) (v13 : Vec F S512x1024 .bf16) (X3 : BufTy.Contents (Elt F) arg3.view.ty) (X4 : BufTy.Contents (Elt F) arg4.view.ty)
    (X8 : BufTy.Contents (Elt F) arg8.view.ty) (X12 : BufTy.Contents (Elt F) arg12.view.ty)
    (G11 : BufTy.Contents (Elt F) arg11.view.ty) (G14 : BufTy.Contents (Elt F) arg14.view.ty) (k : ℕ) (_u : PUnit) : sProp 𝕄G :=
  iprop(pt c arg3 X3 ∗ pt c arg4 X4 ∗ pt c arg8 X8 ∗ pt c arg12 X12
    ∗ (∃ f, pt c arg11 f ∗ ⌜f = arg11.view.writes (Elt F) G11 (pb2 (F := F) c i arg2 harg2 arg3 harg3 arg4 harg4 arg5 harg5 arg6 harg6 arg7 harg7 arg8 harg8 arg9 harg9 arg10 harg10 arg11 harg11 arg12 harg12 arg13 harg13 arg14 harg14 arg1 v13 X3 X4 X8 X12 G11 k).1⌝)
    ∗ (∃ f, pt c arg14 f ∗ ⌜f = arg14.view.writes (Elt F) G14 (pb2 (F := F) c i arg2 harg2 arg3 harg3 arg4 harg4 arg5 harg5 arg6 harg6 arg7 harg7 arg8 harg8 arg9 harg9 arg10 harg10 arg11 harg11 arg12 harg12 arg13 harg13 arg14 harg14 arg1 v13 X3 X4 X8 X12 G11 k).2⌝))

set_option warn.classDefReducibility false in
@[sl_loop] def loopInv_k0_t2 (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S8x128x128 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S36864x128 .i32) (harg12 : arg12.IsWhole) (arg13 : Memref sig .tc .vmem S3x512x128 .f32) (harg13 : arg13.IsWhole) (arg14 : Memref sig .tc .vmem S3x4x128x128 .f32) (harg14 : arg14.IsWhole) (arg1 : BitVec 32) (v13 : Vec F S512x1024 .bf16) (X3 : BufTy.Contents (Elt F) arg3.view.ty) (X4 : BufTy.Contents (Elt F) arg4.view.ty)
    (X8 : BufTy.Contents (Elt F) arg8.view.ty) (X12 : BufTy.Contents (Elt F) arg12.view.ty)
    (G11 : BufTy.Contents (Elt F) arg11.view.ty) (G14 : BufTy.Contents (Elt F) arg14.view.ty) :
    LoopInvTy_k0_t2 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg1 v13 where
  inv := inv2 (F := F) c i arg2 harg2 arg3 harg3 arg4 harg4 arg5 harg5 arg6 harg6 arg7 harg7 arg8 harg8 arg9 harg9 arg10 harg10 arg11 harg11 arg12 harg12 arg13 harg13 arg14 harg14 arg1 v13 X3 X4 X8 X12 G11 G14
  step k acc := by
    iintro ⟨H3, H4, H8, H12, ⟨%f11, H11, %h11⟩, ⟨%f14, H14, %h14⟩⟩
    iapply (wp_wand_r Idealize.ShloMosaic.frame (wpE (defs₀ (F := F)) 𝒱₀ (c : Thread nD τ) none) Set.univ)
    isplitl [H3 H4 H8 H12 H11 H14]
    · iapply ((trip2 (F := F) c i arg2 harg2 arg3 harg3 arg4 harg4 arg5 harg5 arg6 harg6 arg7 harg7 arg8 harg8 arg9 harg9 arg10 harg10 arg11 harg11 arg12 harg12 arg13 harg13 arg14 harg14 arg1 v13 k X3 X4 X8 f11 X12).2 Set.univ f14)
      isplitl [H3]; · iexact H3
      isplitl [H4]; · iexact H4
      isplitl [H8]; · iexact H8
      isplitl [H11]; · iexact H11
      isplitl [H12]; · iexact H12
      iexact H14
    · iintro %_ ⟨H3, H4, H8, H11, H12, H14⟩
      isplitl [H3]; · iexact H3
      isplitl [H4]; · iexact H4
      isplitl [H8]; · iexact H8
      isplitl [H12]; · iexact H12
      rw [pb2_succ]
      isplitl [H11]
      · iexists _; isplitl [H11]; · iexact H11
        ipureintro; rw [View.writes_append, ← h11]
      iexists _; isplitl [H14]; · iexact H14
      ipureintro; rw [View.writes_append, ← h11, ← h14]

/-- The two guards of the body that the printed text spells out over the grid coordinates. -/
abbrev cond1 (i : grid0.Coords) : BitVec 1 :=
  Scalar.cmpi .ne (Scalar.extui (Scalar.andi (Scalar.cmpi .eq (BitVec.ofNat 32 (i 1).val) 0#32) (Scalar.cmpi .eq (BitVec.ofNat 32 (i 0).val) 0#32)) : BitVec 32) 0#32
abbrev cond2 (i : grid0.Coords) : BitVec 1 :=
  Scalar.cmpi .ne (Scalar.extui (Scalar.andi (Scalar.cmpi .eq (BitVec.ofNat 32 (i 1).val) 0#32) (Scalar.cmpi .sgt (BitVec.ofNat 32 (i 0).val) 0#32)) : BitVec 32) 0#32
abbrev cond4 (i : grid0.Coords) : BitVec 1 :=
  Scalar.cmpi .ne (Scalar.extui (Scalar.cmpi .eq (BitVec.ofNat 32 (i 1).val) 7#32) : BitVec 32) 0#32

/-- What the body is run on: the nine inputs at their contents, the result and the three scratch buffers at theirs. -/
abbrev Body (c : Dev nD) (arg2 : Memref sig .tc .vmem S512x1024 .bf16) (arg3 : Memref sig .tc .vmem S2048x1024 .bf16) (arg4 : Memref sig .tc .vmem S2048x1024 .bf16) (arg5 : Memref sig .tc .vmem S512x128 .f32) (arg6 : Memref sig .tc .vmem S512x128 .f32) (arg7 : Memref sig .tc .vmem S512x128 .f32) (arg8 : Memref sig .tc .vmem S8x128x128 .f32) (arg9 : Memref sig .tc .vmem S512x1024 .f32) (arg10 : Memref sig .tc .vmem S1x1024 .f32) (arg11 : Memref sig .tc .vmem S512x1024 .f32) (arg12 : Memref sig .tc .vmem S36864x128 .i32) (arg13 : Memref sig .tc .vmem S3x512x128 .f32) (arg14 : Memref sig .tc .vmem S3x4x128x128 .f32)
    (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty)
    (X8 : BufTy.Contents (Elt F) arg8.view.ty) (X9 : BufTy.Contents (Elt F) arg9.view.ty) (X10 : BufTy.Contents (Elt F) arg10.view.ty)
    (X11 : BufTy.Contents (Elt F) arg11.view.ty) (X12 : BufTy.Contents (Elt F) arg12.view.ty) (X13 : BufTy.Contents (Elt F) arg13.view.ty)
    (X14 : BufTy.Contents (Elt F) arg14.view.ty) : sProp 𝕄G :=
  iprop(pt c arg2 X2 ∗ pt c arg3 X3 ∗ pt c arg4 X4 ∗ pt c arg5 X5 ∗ pt c arg6 X6 ∗ pt c arg7 X7 ∗ pt c arg8 X8 ∗ pt c arg9 X9 ∗ pt c arg10 X10
    ∗ pt c arg11 X11 ∗ pt c arg12 X12 ∗ pt c arg13 X13 ∗ pt c arg14 X14)

/-- The result and the three scratch buffers. -/
abbrev Left (F : FTy → Type) (arg11 : Memref sig .tc .vmem S512x1024 .f32) (arg12 : Memref sig .tc .vmem S36864x128 .i32) (arg13 : Memref sig .tc .vmem S3x512x128 .f32)
    (arg14 : Memref sig .tc .vmem S3x4x128x128 .f32) : Type :=
  BufTy.Contents (Elt F) arg11.view.ty × BufTy.Contents (Elt F) arg12.view.ty × BufTy.Contents (Elt F) arg13.view.ty × BufTy.Contents (Elt F) arg14.view.ty

/-- The first grid point of all: the selection comes from the inputs. -/
@[irreducible] def runA (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S8x128x128 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S36864x128 .i32) (harg12 : arg12.IsWhole) (arg13 : Memref sig .tc .vmem S3x512x128 .f32) (harg13 : arg13.IsWhole) (arg14 : Memref sig .tc .vmem S3x4x128x128 .f32) (harg14 : arg14.IsWhole)
    (h1 : cond1 i = 1#1) (h2 : ¬ cond2 i = 1#1) (h3 : k0_cond3 i = 1#1) (h4 : ¬ cond4 i = 1#1)
    (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty)
    (X8 : BufTy.Contents (Elt F) arg8.view.ty) (X9 : BufTy.Contents (Elt F) arg9.view.ty) (X10 : BufTy.Contents (Elt F) arg10.view.ty)
    (X11 : BufTy.Contents (Elt F) arg11.view.ty) (X12 : BufTy.Contents (Elt F) arg12.view.ty) (X13 : BufTy.Contents (Elt F) arg13.view.ty)
    (X14 : BufTy.Contents (Elt F) arg14.view.ty) :
    { G : Left F arg11 arg12 arg13 arg14 //
      Body (F := F) c arg2 arg3 arg4 arg5 arg6 arg7 arg8 arg9 arg10 arg11 arg12 arg13 arg14 X2 X3 X4 X5 X6 X7 X8 X9 X10 X11 X12 X13 X14
      ⊢ wp frame (wpE (defs₀ (F := F)) 𝒱₀ (c : Thread nD τ) none) Set.univ (cc0_peer (F := F) i arg2 harg2 arg3 harg3 arg4 harg4 arg5 harg5 arg6 harg6 arg7 harg7 arg8 harg8 arg9 harg9 arg10 harg10 arg11 harg11 arg12 harg12 arg13 harg13 arg14 harg14)
          (fun _ => Body (F := F) c arg2 arg3 arg4 arg5 arg6 arg7 arg8 arg9 arg10 arg11 arg12 arg13 arg14 X2 X3 X4 X5 X6 X7 X8 X9 X10 G.1 G.2.1 G.2.2.1 G.2.2.2) } := by
  refine ⟨⟨?_, ?_, ?_, ?_⟩, ?run⟩
  case run =>
    rw [cc0_peer_eq_skeleton]
    unfold cc0_peer_skel
    iintro ⟨H2, H3, H4, H5, H6, H7, H8, H9, H10, H11, H12, H13, H14⟩
    sl_exec
    sl_step
    sl_close

/-- The first grid point of a later tile: the selection is transposed out of the staging scratch. -/
@[irreducible] def runB (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S8x128x128 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S36864x128 .i32) (harg12 : arg12.IsWhole) (arg13 : Memref sig .tc .vmem S3x512x128 .f32) (harg13 : arg13.IsWhole) (arg14 : Memref sig .tc .vmem S3x4x128x128 .f32) (harg14 : arg14.IsWhole)
    (h1 : ¬ cond1 i = 1#1) (h2 : cond2 i = 1#1) (h3 : k0_cond3 i = 1#1) (h4 : ¬ cond4 i = 1#1)
    (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty)
    (X8 : BufTy.Contents (Elt F) arg8.view.ty) (X9 : BufTy.Contents (Elt F) arg9.view.ty) (X10 : BufTy.Contents (Elt F) arg10.view.ty)
    (X11 : BufTy.Contents (Elt F) arg11.view.ty) (X12 : BufTy.Contents (Elt F) arg12.view.ty) (X13 : BufTy.Contents (Elt F) arg13.view.ty)
    (X14 : BufTy.Contents (Elt F) arg14.view.ty) :
    { G : Left F arg11 arg12 arg13 arg14 //
      Body (F := F) c arg2 arg3 arg4 arg5 arg6 arg7 arg8 arg9 arg10 arg11 arg12 arg13 arg14 X2 X3 X4 X5 X6 X7 X8 X9 X10 X11 X12 X13 X14
      ⊢ wp frame (wpE (defs₀ (F := F)) 𝒱₀ (c : Thread nD τ) none) Set.univ (cc0_peer (F := F) i arg2 harg2 arg3 harg3 arg4 harg4 arg5 harg5 arg6 harg6 arg7 harg7 arg8 harg8 arg9 harg9 arg10 harg10 arg11 harg11 arg12 harg12 arg13 harg13 arg14 harg14)
          (fun _ => Body (F := F) c arg2 arg3 arg4 arg5 arg6 arg7 arg8 arg9 arg10 arg11 arg12 arg13 arg14 X2 X3 X4 X5 X6 X7 X8 X9 X10 G.1 G.2.1 G.2.2.1 G.2.2.2) } := by
  refine ⟨⟨?_, ?_, ?_, ?_⟩, ?run⟩
  case run =>
    rw [cc0_peer_eq_skeleton]
    unfold cc0_peer_skel
    iintro ⟨H2, H3, H4, H5, H6, H7, H8, H9, H10, H11, H12, H13, H14⟩
    sl_exec
    sl_step
    sl_close

/-- A middle grid point of a tile. -/
@[irreducible] def runC (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S8x128x128 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S36864x128 .i32) (harg12 : arg12.IsWhole) (arg13 : Memref sig .tc .vmem S3x512x128 .f32) (harg13 : arg13.IsWhole) (arg14 : Memref sig .tc .vmem S3x4x128x128 .f32) (harg14 : arg14.IsWhole)
    (h1 : ¬ cond1 i = 1#1) (h2 : ¬ cond2 i = 1#1) (h3 : ¬ k0_cond3 i = 1#1) (h4 : ¬ cond4 i = 1#1)
    (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty)
    (X8 : BufTy.Contents (Elt F) arg8.view.ty) (X9 : BufTy.Contents (Elt F) arg9.view.ty) (X10 : BufTy.Contents (Elt F) arg10.view.ty)
    (X11 : BufTy.Contents (Elt F) arg11.view.ty) (X12 : BufTy.Contents (Elt F) arg12.view.ty) (X13 : BufTy.Contents (Elt F) arg13.view.ty)
    (X14 : BufTy.Contents (Elt F) arg14.view.ty) :
    { G : Left F arg11 arg12 arg13 arg14 //
      Body (F := F) c arg2 arg3 arg4 arg5 arg6 arg7 arg8 arg9 arg10 arg11 arg12 arg13 arg14 X2 X3 X4 X5 X6 X7 X8 X9 X10 X11 X12 X13 X14
      ⊢ wp frame (wpE (defs₀ (F := F)) 𝒱₀ (c : Thread nD τ) none) Set.univ (cc0_peer (F := F) i arg2 harg2 arg3 harg3 arg4 harg4 arg5 harg5 arg6 harg6 arg7 harg7 arg8 harg8 arg9 harg9 arg10 harg10 arg11 harg11 arg12 harg12 arg13 harg13 arg14 harg14)
          (fun _ => Body (F := F) c arg2 arg3 arg4 arg5 arg6 arg7 arg8 arg9 arg10 arg11 arg12 arg13 arg14 X2 X3 X4 X5 X6 X7 X8 X9 X10 G.1 G.2.1 G.2.2.1 G.2.2.2) } := by
  refine ⟨⟨?_, ?_, ?_, ?_⟩, ?run⟩
  case run =>
    rw [cc0_peer_eq_skeleton]
    unfold cc0_peer_skel
    iintro ⟨H2, H3, H4, H5, H6, H7, H8, H9, H10, H11, H12, H13, H14⟩
    sl_exec
    sl_step
    sl_close

/-- The last grid point of a tile. -/
@[irreducible] def runD (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S8x128x128 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S36864x128 .i32) (harg12 : arg12.IsWhole) (arg13 : Memref sig .tc .vmem S3x512x128 .f32) (harg13 : arg13.IsWhole) (arg14 : Memref sig .tc .vmem S3x4x128x128 .f32) (harg14 : arg14.IsWhole)
    (h1 : ¬ cond1 i = 1#1) (h2 : ¬ cond2 i = 1#1) (h3 : ¬ k0_cond3 i = 1#1) (h4 : cond4 i = 1#1)
    (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty)
    (X8 : BufTy.Contents (Elt F) arg8.view.ty) (X9 : BufTy.Contents (Elt F) arg9.view.ty) (X10 : BufTy.Contents (Elt F) arg10.view.ty)
    (X11 : BufTy.Contents (Elt F) arg11.view.ty) (X12 : BufTy.Contents (Elt F) arg12.view.ty) (X13 : BufTy.Contents (Elt F) arg13.view.ty)
    (X14 : BufTy.Contents (Elt F) arg14.view.ty) :
    { G : Left F arg11 arg12 arg13 arg14 //
      Body (F := F) c arg2 arg3 arg4 arg5 arg6 arg7 arg8 arg9 arg10 arg11 arg12 arg13 arg14 X2 X3 X4 X5 X6 X7 X8 X9 X10 X11 X12 X13 X14
      ⊢ wp frame (wpE (defs₀ (F := F)) 𝒱₀ (c : Thread nD τ) none) Set.univ (cc0_peer (F := F) i arg2 harg2 arg3 harg3 arg4 harg4 arg5 harg5 arg6 harg6 arg7 harg7 arg8 harg8 arg9 harg9 arg10 harg10 arg11 harg11 arg12 harg12 arg13 harg13 arg14 harg14)
          (fun _ => Body (F := F) c arg2 arg3 arg4 arg5 arg6 arg7 arg8 arg9 arg10 arg11 arg12 arg13 arg14 X2 X3 X4 X5 X6 X7 X8 X9 X10 G.1 G.2.1 G.2.2.1 G.2.2.2) } := by
  refine ⟨⟨?_, ?_, ?_, ?_⟩, ?run⟩
  case run =>
    rw [cc0_peer_eq_skeleton]
    unfold cc0_peer_skel
    iintro ⟨H2, H3, H4, H5, H6, H7, H8, H9, H10, H11, H12, H13, H14⟩
    sl_exec
    sl_step
    sl_close

end Cert.Kernel.Hand

end
-- ==== Proof.FrameP.lean ====
/-
  Hand-written. The frame of `Kernel`'s one call: at every grid point the body runs from any contents of the result's buffer and
  of the three scratch buffers to some contents of them, and leaves the inputs' buffers as they were. What the result is, is not
  said here.
-/
module

public import proofs.«01_k».proof.Proof.BodyP
public import proofs.«01_k».proof.Proof.Gen.Kernel.Frame

@[expose] public section

set_option maxRecDepth 8192

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F]

local notation "𝕄G" => MT nD τ sig Unit (Elt F) ℕ (UR sig nD τ) ℕ

local notation "𝒱₀" => (Variants.none : Variants)

/-- Every grid point is of one of the four kinds. -/
theorem kinds : ∀ i : grid0.Coords,
    (cond1 i = 1#1 ∧ ¬ cond2 i = 1#1 ∧ k0_cond3 i = 1#1 ∧ ¬ cond4 i = 1#1)
    ∨ (¬ cond1 i = 1#1 ∧ cond2 i = 1#1 ∧ k0_cond3 i = 1#1 ∧ ¬ cond4 i = 1#1)
    ∨ (¬ cond1 i = 1#1 ∧ ¬ cond2 i = 1#1 ∧ ¬ k0_cond3 i = 1#1 ∧ ¬ cond4 i = 1#1)
    ∨ (¬ cond1 i = 1#1 ∧ ¬ cond2 i = 1#1 ∧ ¬ k0_cond3 i = 1#1 ∧ cond4 i = 1#1) := by
  intro i
  unfold k0_cond3
  dsimp only [cond1, cond2, cond4]
  generalize i 1 = j
  generalize i 0 = k
  revert j k
  decide +kernel

/-- The body at any grid point, what it leaves in the result and the scratch not named. -/
theorem runAny (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S8x128x128 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S36864x128 .i32) (harg12 : arg12.IsWhole) (arg13 : Memref sig .tc .vmem S3x512x128 .f32) (harg13 : arg13.IsWhole) (arg14 : Memref sig .tc .vmem S3x4x128x128 .f32) (harg14 : arg14.IsWhole)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) :
    Body (F := F) c arg2 arg3 arg4 arg5 arg6 arg7 arg8 arg9 arg10 arg11 arg12 arg13 arg14 X2 X3 X4 X5 X6 X7 X8 X9 X10 X11 X12 X13 X14
      ⊢ wp frame (wpE (defs₀ (F := F)) 𝒱₀ (c : Thread nD τ) none) Set.univ (cc0_peer (F := F) i arg2 harg2 arg3 harg3 arg4 harg4 arg5 harg5 arg6 harg6 arg7 harg7 arg8 harg8 arg9 harg9 arg10 harg10 arg11 harg11 arg12 harg12 arg13 harg13 arg14 harg14)
          (fun _ => iprop(∃ G : Left F arg11 arg12 arg13 arg14, Body (F := F) c arg2 arg3 arg4 arg5 arg6 arg7 arg8 arg9 arg10 arg11 arg12 arg13 arg14 X2 X3 X4 X5 X6 X7 X8 X9 X10 G.1 G.2.1 G.2.2.1 G.2.2.2)) := by
  rcases kinds i with ⟨h1, h2, h3, h4⟩ | ⟨h1, h2, h3, h4⟩ | ⟨h1, h2, h3, h4⟩ | ⟨h1, h2, h3, h4⟩
  · iintro H
    iapply (wp_wand_r Idealize.ShloMosaic.frame (wpE (defs₀ (F := F)) 𝒱₀ (c : Thread nD τ) none) Set.univ)
    isplitl [H]
    · iapply ((runA (F := F) c i arg2 harg2 arg3 harg3 arg4 harg4 arg5 harg5 arg6 harg6 arg7 harg7 arg8 harg8 arg9 harg9 arg10 harg10 arg11 harg11 arg12 harg12 arg13 harg13 arg14 harg14 h1 h2 h3 h4 X2 X3 X4 X5 X6 X7 X8 X9 X10 X11 X12 X13 X14).2); iexact H
    · iintro %_ H; iexists _; iexact H
  · iintro H
    iapply (wp_wand_r Idealize.ShloMosaic.frame (wpE (defs₀ (F := F)) 𝒱₀ (c : Thread nD τ) none) Set.univ)
    isplitl [H]
    · iapply ((runB (F := F) c i arg2 harg2 arg3 harg3 arg4 harg4 arg5 harg5 arg6 harg6 arg7 harg7 arg8 harg8 arg9 harg9 arg10 harg10 arg11 harg11 arg12 harg12 arg13 harg13 arg14 harg14 h1 h2 h3 h4 X2 X3 X4 X5 X6 X7 X8 X9 X10 X11 X12 X13 X14).2); iexact H
    · iintro %_ H; iexists _; iexact H
  · iintro H
    iapply (wp_wand_r Idealize.ShloMosaic.frame (wpE (defs₀ (F := F)) 𝒱₀ (c : Thread nD τ) none) Set.univ)
    isplitl [H]
    · iapply ((runC (F := F) c i arg2 harg2 arg3 harg3 arg4 harg4 arg5 harg5 arg6 harg6 arg7 harg7 arg8 harg8 arg9 harg9 arg10 harg10 arg11 harg11 arg12 harg12 arg13 harg13 arg14 harg14 h1 h2 h3 h4 X2 X3 X4 X5 X6 X7 X8 X9 X10 X11 X12 X13 X14).2); iexact H
    · iintro %_ H; iexists _; iexact H
  · iintro H
    iapply (wp_wand_r Idealize.ShloMosaic.frame (wpE (defs₀ (F := F)) 𝒱₀ (c : Thread nD τ) none) Set.univ)
    isplitl [H]
    · iapply ((runD (F := F) c i arg2 harg2 arg3 harg3 arg4 harg4 arg5 harg5 arg6 harg6 arg7 harg7 arg8 harg8 arg9 harg9 arg10 harg10 arg11 harg11 arg12 harg12 arg13 harg13 arg14 harg14 h1 h2 h3 h4 X2 X3 X4 X5 X6 X7 X8 X9 X10 X11 X12 X13 X14).2); iexact H
    · iintro %_ H; iexists _; iexact H

theorem pt_scratch0 (c : Dev nD) (f : Buf (Elt F) ((c : Thread nD τ).loc cc0_scratch0)) :
    pt (F := F) c (Memref.whole cc0_scratch0) f = iprop(((c : Thread nD τ).loc cc0_scratch0) ↦{fullShare} f) := by
  dsimp only [pt]; rw [show (Memref.whole cc0_scratch0).view.set = Finset.univ from View.set_whole _]

theorem pt_scratch1 (c : Dev nD) (f : Buf (Elt F) ((c : Thread nD τ).loc cc0_scratch1)) :
    pt (F := F) c (Memref.whole cc0_scratch1) f = iprop(((c : Thread nD τ).loc cc0_scratch1) ↦{fullShare} f) := by
  dsimp only [pt]; rw [show (Memref.whole cc0_scratch1).view.set = Finset.univ from View.set_whole _]

theorem pt_scratch2 (c : Dev nD) (f : Buf (Elt F) ((c : Thread nD τ).loc cc0_scratch2)) :
    pt (F := F) c (Memref.whole cc0_scratch2) f = iprop(((c : Thread nD τ).loc cc0_scratch2) ↦{fullShare} f) := by
  dsimp only [pt]; rw [show (Memref.whole cc0_scratch2).view.set = Finset.univ from View.set_whole _]

variable (m : (ℓ : Loc nD τ sig) → Buf (Elt F) ℓ) (ρ : Dev nD → PrngReg)

/-- The result's window is the one whose contents are not named. -/
abbrev forgets0 : Fin 10 → Bool := fun w => decide (w = 9)

/-- The proof data: the nine inputs stay at their blocks, the result's window is not named, and the scratch buffers are held at some
    contents. -/
def dats (_ : Fin 1) (c : Dev nD) : Dat τ (Elt F) Unit ℕ (UR sig nD τ) ℕ cfg0 c where
  A w := V m c (Pipeline.arrRef spec0 w)
  after w t := match w with
    | ⟨9, h⟩ => Pipeline.Dat.unnamed (cfg := cfg0) ⟨9, h⟩ t
    | ⟨0, h⟩ => iblk m c ⟨0, h⟩ t
    | ⟨1, h⟩ => iblk m c ⟨1, h⟩ t
    | ⟨2, h⟩ => iblk m c ⟨2, h⟩ t
    | ⟨3, h⟩ => iblk m c ⟨3, h⟩ t
    | ⟨4, h⟩ => iblk m c ⟨4, h⟩ t
    | ⟨5, h⟩ => iblk m c ⟨5, h⟩ t
    | ⟨6, h⟩ => iblk m c ⟨6, h⟩ t
    | ⟨7, h⟩ => iblk m c ⟨7, h⟩ t
    | ⟨8, h⟩ => iblk m c ⟨8, h⟩ t
  Φ _ := Pipeline.ΦA spec0 c
  q _ := fullShare
  owed _ := 0

theorem A_eq (c : Dev nD) (w : Fin cfg0.W) : (dats m 0 c).A w = V m c (Pipeline.arrRef spec0 w) := by dsimp only [dats]
theorem before0_eq (c : Dev nD) (t : Fin cfg0.N) (d) : (dats m 0 c).before 0 t d = iblk m c 0 t :=
  before0_0_of m (dats m 0 c) (A_eq m c 0) (fun _ => rfl) t d
theorem before1_eq (c : Dev nD) (t : Fin cfg0.N) (d) : (dats m 0 c).before 1 t d = iblk m c 1 t :=
  before0_1_of m (dats m 0 c) (A_eq m c 1) (fun _ => rfl) t d
theorem before2_eq (c : Dev nD) (t : Fin cfg0.N) (d) : (dats m 0 c).before 2 t d = iblk m c 2 t :=
  before0_2_of m (dats m 0 c) (A_eq m c 2) (fun _ => rfl) t d
theorem before3_eq (c : Dev nD) (t : Fin cfg0.N) (d) : (dats m 0 c).before 3 t d = iblk m c 3 t :=
  before0_3_of m (dats m 0 c) (A_eq m c 3) (fun _ => rfl) t d
theorem before4_eq (c : Dev nD) (t : Fin cfg0.N) (d) : (dats m 0 c).before 4 t d = iblk m c 4 t :=
  before0_4_of m (dats m 0 c) (A_eq m c 4) (fun _ => rfl) t d
theorem before5_eq (c : Dev nD) (t : Fin cfg0.N) (d) : (dats m 0 c).before 5 t d = iblk m c 5 t :=
  before0_5_of m (dats m 0 c) (A_eq m c 5) (fun _ => rfl) t d
theorem before6_eq (c : Dev nD) (t : Fin cfg0.N) (d) : (dats m 0 c).before 6 t d = iblk m c 6 t :=
  before0_6_of m (dats m 0 c) (A_eq m c 6) (fun _ => rfl) t d
theorem before7_eq (c : Dev nD) (t : Fin cfg0.N) (d) : (dats m 0 c).before 7 t d = iblk m c 7 t :=
  before0_7_of m (dats m 0 c) (A_eq m c 7) (fun _ => rfl) t d
theorem before8_eq (c : Dev nD) (t : Fin cfg0.N) (d) : (dats m 0 c).before 8 t d = iblk m c 8 t :=
  before0_8_of m (dats m 0 c) (A_eq m c 8) (fun _ => rfl) t d

/-- What the body is called with at point `t`, and what it returns. -/
def bodyPre (c : Dev nD) (t : Fin cfg0.N) : sProp 𝕄G :=
  iprop((dats m 0 c).Φ t.castSucc ∗ (dats m 0 c).owesAt () t.castSucc
    ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d))
    ∗ (∃ X, owns (c : Thread nD τ) (win0_9.stage (cfg0.slots t 9)) fullShare X))
def bodyPost (c : Dev nD) (t : Fin cfg0.N) : sProp 𝕄G :=
  iprop((dats m 0 c).Φ t.succ ∗ (dats m 0 c).owesAt () t.succ
    ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t) ∗ owns (c : Thread nD τ) (win0_7.stage (cfg0.slots t 7)) fullShare ((dats m 0 c).after 7 t) ∗ owns (c : Thread nD τ) (win0_8.stage (cfg0.slots t 8)) fullShare ((dats m 0 c).after 8 t)
    ∗ (∃ X, owns (c : Thread nD τ) (win0_9.stage (cfg0.slots t 9)) fullShare X))

theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before0_eq, before1_eq, before2_eq, before3_eq, before4_eq, before5_eq, before6_eq, before7_eq, before8_eq]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA owns
  rw [scopedRest0_eq]
  iintro ⟨⟨⟨⟨%s0, S0⟩, ⟨%s1, S1⟩, ⟨%s2, S2⟩⟩, Hg⟩, HO, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, -, H9⟩⟩
  iapply (wp_wand_r Idealize.ShloMosaic.frame (wpE (defs₀ (F := F)) 𝒱₀ (c : Thread nD τ) none) Set.univ)
  isplitl [H0 H1 H2 H3 H4 H5 H6 H7 H8 H9 S0 S1 S2]
  · iapply (runAny (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) f0 f1 f2 f3 f4 f5 f6 f7 f8 f9 s0 s1 s2)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · rw [pt_scratch0]; iexact S0
    isplitl [S1]; · rw [pt_scratch1]; iexact S1
    rw [pt_scratch2]; iexact S2
  iintro %_ ⟨%G, H0, H1, H2, H3, H4, H5, H6, H7, H8, H9, S0, S1, S2⟩
  isplitl [S0 S1 S2 Hg]
  · isplitl [S0 S1 S2]
    · isplitl [S0]; · iexists _; rw [← pt_scratch0]; iexact S0
      isplitl [S1]; · iexists _; rw [← pt_scratch1]; iexact S1
      iexists _; rw [← pt_scratch2]; iexact S2
    iexact Hg
  isplitl [HO]; · iexact HO
  isplitl [H0]
  · iexists f0; isplitr
    · ipureintro; exact e0
    iexact H0
  isplitl [H1]
  · iexists f1; isplitr
    · ipureintro; exact e1
    iexact H1
  isplitl [H2]
  · iexists f2; isplitr
    · ipureintro; exact e2
    iexact H2
  isplitl [H3]
  · iexists f3; isplitr
    · ipureintro; exact e3
    iexact H3
  isplitl [H4]
  · iexists f4; isplitr
    · ipureintro; exact e4
    iexact H4
  isplitl [H5]
  · iexists f5; isplitr
    · ipureintro; exact e5
    iexact H5
  isplitl [H6]
  · iexists f6; isplitr
    · ipureintro; exact e6
    iexact H6
  isplitl [H7]
  · iexists f7; isplitr
    · ipureintro; exact e7
    iexact H7
  isplitl [H8]
  · iexists f8; isplitr
    · ipureintro; exact e8
    iexact H8
  iexists _; iexists G.1; isplitr
  · ipureintro; exact rfl
  iexact H9

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) 𝒱₀ () Set.univ forgets0 := fun t => by
  rw [bigSep_W0, bigSep_W0, defs₀_row]
  exact triple_restated (sound_body m c t) rfl .rfl fun _ => .rfl

set_option backward.isDefEq.respectTransparency.types false in
/-- Every weakly fair execution terminates, with the inputs' arrays and every other buffer that is not the result's at its contents,
    and every semaphore counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ 𝒱₀ forgets0 m ρ main
    (hbody := fun c => (body_obligation m c).loose) (hshare := fun c => (dats m 0 c).share_full fun _ => rfl)
    (howed := fun _ _ => rfl) (V := V m) (hmain := hmain m 𝒱₀) (hA := A_eq m) (hΦ := fun _ _ => rfl) (hQ' := fun _ h => h)

/-- The frame. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  (θ_run defs _ _).mono (fun _ h => ⟨fun c => ⟨((congrFun (((dats m 0 c).toRForget forgets0).ArrAt_in 0 rfl _) _).mp ((h.1 c).1 0)).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((congrFun (((dats m 0 c).toRForget forgets0).ArrAt_in 5 rfl _) _).mp ((h.1 c).1 5)).trans (V_main_arg5 m c),
      ((congrFun (((dats m 0 c).toRForget forgets0).ArrAt_in 6 rfl _) _).mp ((h.1 c).1 6)).trans (V_main_arg6 m c),
      ((congrFun (((dats m 0 c).toRForget forgets0).ArrAt_in 7 rfl _) _).mp ((h.1 c).1 7)).trans (V_main_arg7 m c),
      ((h.1 c).2 main_arg8 (Pipeline.mem_restRefs_of main_arg8 (by decide) (by decide))).trans (V_main_arg8 m c)⟩, h.2⟩) (run_main m ρ)

end Cert.Kernel.Hand

end
-- ==== Proof.Trip2Q.lean ====
/-
  Hand-written. One trip of the sub-block loop of `KernelWords` (`k0_t2_loop`): the top-16 selection of four rows of
  scores, staged for the next tile of tokens, and one sub-block of experts accumulated into the result. What the trip
  leaves in the staging scratch and in the result is found by the run.
-/
module

public import proofs.«01_k».proof.Proof.OffsQ
public import proofs.«01_k».proof.Proof.Gen.KernelWords.Skeleton
public import Idealize.ShloMosaic.Lib.Tactic

@[expose] public section

set_option maxRecDepth 8192

noncomputable section

namespace Cert.KernelWords.Hand

open Cert.KernelWords Cert.KernelWords.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄G" => MT nD τ sig Unit (Elt F) ℕ (UR sig nD τ) ℕ

local notation "𝒱₀" => (Variants.none : Variants)

/-- What one trip of the sub-block loop touches: the two tables, the scores and the gate words at their contents, the
    result and the staging scratch. -/
abbrev Trip2 (c : Dev nD) (arg3 : Memref sig .tc .vmem S2048x1024 .bf16) (arg4 : Memref sig .tc .vmem S2048x1024 .bf16)
    (arg8 : Memref sig .tc .vmem S8x128x128 .f32) (arg11 : Memref sig .tc .vmem S512x1024 .f32)
    (arg12 : Memref sig .tc .vmem S36864x128 .i32) (arg14 : Memref sig .tc .vmem S3x4x128x128 .f32)
    (X3 : BufTy.Contents (Elt F) arg3.view.ty) (X4 : BufTy.Contents (Elt F) arg4.view.ty) (X8 : BufTy.Contents (Elt F) arg8.view.ty)
    (X11 : BufTy.Contents (Elt F) arg11.view.ty) (X12 : BufTy.Contents (Elt F) arg12.view.ty)
    (X14 : BufTy.Contents (Elt F) arg14.view.ty) : sProp 𝕄G :=
  iprop((arg3.view.loc (c : Thread nD τ) ↦[arg3.view.set]{fullShare} X3) ∗ (arg4.view.loc (c : Thread nD τ) ↦[arg4.view.set]{fullShare} X4)
    ∗ (arg8.view.loc (c : Thread nD τ) ↦[arg8.view.set]{fullShare} X8) ∗ (arg11.view.loc (c : Thread nD τ) ↦[arg11.view.set]{fullShare} X11)
    ∗ (arg12.view.loc (c : Thread nD τ) ↦[arg12.view.set]{fullShare} X12) ∗ (arg14.view.loc (c : Thread nD τ) ↦[arg14.view.set]{fullShare} X14))

@[irreducible] def trip2 (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S8x128x128 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S36864x128 .i32) (harg12 : arg12.IsWhole) (arg13 : Memref sig .tc .vmem S3x512x128 .f32) (harg13 : arg13.IsWhole) (arg14 : Memref sig .tc .vmem S3x4x128x128 .f32) (harg14 : arg14.IsWhole) (arg1 : BitVec 32) (v13 : Vec F S512x1024 .bf16) (k : Fin k0_t2_loop.trips)
    (X3 : BufTy.Contents (Elt F) arg3.view.ty) (X4 : BufTy.Contents (Elt F) arg4.view.ty) (X8 : BufTy.Contents (Elt F) arg8.view.ty)
    (X11 : BufTy.Contents (Elt F) arg11.view.ty) (X12 : BufTy.Contents (Elt F) arg12.view.ty) :
    { L : List (View.Piece (Elt F) S512x1024 .f32) × List (View.Piece (Elt F) S3x4x128x128 .f32) //
      ∀ (E : Set ℕ) (f14 : BufTy.Contents (Elt F) arg14.view.ty),
      Trip2 (F := F) c arg3 arg4 arg8 arg11 arg12 arg14 X3 X4 X8 X11 X12 f14
      ⊢ wp frame (wpE (defs₀ (F := F)) 𝒱₀ (c : Thread nD τ) none) E (k0_t2_body (F := F) i arg2 harg2 arg3 harg3 arg4 harg4 arg5 harg5 arg6 harg6 arg7 harg7 arg8 harg8 arg9 harg9 arg10 harg10 arg11 harg11 arg12 harg12 arg13 harg13 arg14 harg14 arg1 v13 k PUnit.unit)
          (fun _ => Trip2 (F := F) c arg3 arg4 arg8 arg11 arg12 arg14 X3 X4 X8 (arg11.view.writes (Elt F) X11 L.1) X12
            (arg14.view.writes (Elt F) f14 L.2)) } := by
  have hk : k.val < 2 := k.isLt
  refine ⟨⟨?_, ?_⟩, fun E f14 => ?run⟩
  case run =>
    unfold k0_t2_body
    iintro ⟨H3, H4, H8, H11, H12, H14⟩
    sl_exec_parts
    sl_step
    sl_close

end Cert.KernelWords.Hand

end
-- ==== Proof.BodyQ.lean ====
/-
  Hand-written. The body of `KernelWords`'s one call, run once for each of the four kinds of grid point (the first
  point of all, the first point of a later tile, a middle point, the last point of a tile): what it leaves in the result
  and in the three scratch buffers is found by the run.
-/
module

public import proofs.«01_k».proof.Proof.Trip2Q

@[expose] public section

set_option maxRecDepth 8192

noncomputable section

namespace Cert.KernelWords.Hand

open Cert.KernelWords Cert.KernelWords.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄G" => MT nD τ sig Unit (Elt F) ℕ (UR sig nD τ) ℕ

local notation "𝒱₀" => (Variants.none : Variants)

/-- A memref's buffer held at contents `X`. -/
abbrev pt (c : Dev nD) {S : Shape} {e : EltTy} (M : Memref sig .tc .vmem S e) (X : BufTy.Contents (Elt F) M.view.ty) : sProp 𝕄G :=
  (M.view.loc (c : Thread nD τ) ↦[M.view.set]{fullShare} X)

/-- The pieces trip `k` of the sub-block loop adds to those before it, of the result (whose contents at loop entry are `G11`) and of
    the staging scratch; past the last trip, none. -/
@[irreducible] def pb2Step (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S8x128x128 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S36864x128 .i32) (harg12 : arg12.IsWhole) (arg13 : Memref sig .tc .vmem S3x512x128 .f32) (harg13 : arg13.IsWhole) (arg14 : Memref sig .tc .vmem S3x4x128x128 .f32) (harg14 : arg14.IsWhole) (arg1 : BitVec 32) (v13 : Vec F S512x1024 .bf16) (X3 : BufTy.Contents (Elt F) arg3.view.ty) (X4 : BufTy.Contents (Elt F) arg4.view.ty)
    (X8 : BufTy.Contents (Elt F) arg8.view.ty) (X12 : BufTy.Contents (Elt F) arg12.view.ty) (G11 : BufTy.Contents (Elt F) arg11.view.ty) (k : ℕ)
    (L : List (View.Piece (Elt F) S512x1024 .f32) × List (View.Piece (Elt F) S3x4x128x128 .f32)) :
    List (View.Piece (Elt F) S512x1024 .f32) × List (View.Piece (Elt F) S3x4x128x128 .f32) :=
  if h : k < k0_t2_loop.trips then
    ((trip2 (F := F) c i arg2 harg2 arg3 harg3 arg4 harg4 arg5 harg5 arg6 harg6 arg7 harg7 arg8 harg8 arg9 harg9 arg10 harg10 arg11 harg11 arg12 harg12 arg13 harg13 arg14 harg14 arg1 v13 ⟨k, h⟩ X3 X4 X8 (arg11.view.writes (Elt F) G11 L.1) X12).1.1 ++ L.1,
      (trip2 (F := F) c i arg2 harg2 arg3 harg3 arg4 harg4 arg5 harg5 arg6 harg6 arg7 harg7 arg8 harg8 arg9 harg9 arg10 harg10 arg11 harg11 arg12 harg12 arg13 harg13 arg14 harg14 arg1 v13 ⟨k, h⟩ X3 X4 X8 (arg11.view.writes (Elt F) G11 L.1) X12).1.2 ++ L.2)
  else L

/-- The pieces of the trips before `k`, last first. -/
def pb2 (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S8x128x128 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S36864x128 .i32) (harg12 : arg12.IsWhole) (arg13 : Memref sig .tc .vmem S3x512x128 .f32) (harg13 : arg13.IsWhole) (arg14 : Memref sig .tc .vmem S3x4x128x128 .f32) (harg14 : arg14.IsWhole) (arg1 : BitVec 32) (v13 : Vec F S512x1024 .bf16) (X3 : BufTy.Contents (Elt F) arg3.view.ty) (X4 : BufTy.Contents (Elt F) arg4.view.ty)
    (X8 : BufTy.Contents (Elt F) arg8.view.ty) (X12 : BufTy.Contents (Elt F) arg12.view.ty) (G11 : BufTy.Contents (Elt F) arg11.view.ty) :
    ℕ → List (View.Piece (Elt F) S512x1024 .f32) × List (View.Piece (Elt F) S3x4x128x128 .f32)
  | 0 => ([], [])
  | k + 1 => pb2Step (F := F) c i arg2 harg2 arg3 harg3 arg4 harg4 arg5 harg5 arg6 harg6 arg7 harg7 arg8 harg8 arg9 harg9 arg10 harg10 arg11 harg11 arg12 harg12 arg13 harg13 arg14 harg14 arg1 v13 X3 X4 X8 X12 G11 k (pb2 c i arg2 harg2 arg3 harg3 arg4 harg4 arg5 harg5 arg6 harg6 arg7 harg7 arg8 harg8 arg9 harg9 arg10 harg10 arg11 harg11 arg12 harg12 arg13 harg13 arg14 harg14 arg1 v13 X3 X4 X8 X12 G11 k)

theorem pb2_succ (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S8x128x128 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S36864x128 .i32) (harg12 : arg12.IsWhole) (arg13 : Memref sig .tc .vmem S3x512x128 .f32) (harg13 : arg13.IsWhole) (arg14 : Memref sig .tc .vmem S3x4x128x128 .f32) (harg14 : arg14.IsWhole) (arg1 : BitVec 32) (v13 : Vec F S512x1024 .bf16) (X3 : BufTy.Contents (Elt F) arg3.view.ty) (X4 : BufTy.Contents (Elt F) arg4.view.ty)
    (X8 : BufTy.Contents (Elt F) arg8.view.ty) (X12 : BufTy.Contents (Elt F) arg12.view.ty) (G11 : BufTy.Contents (Elt F) arg11.view.ty) (k : Fin k0_t2_loop.trips) :
    pb2 (F := F) c i arg2 harg2 arg3 harg3 arg4 harg4 arg5 harg5 arg6 harg6 arg7 harg7 arg8 harg8 arg9 harg9 arg10 harg10 arg11 harg11 arg12 harg12 arg13 harg13 arg14 harg14 arg1 v13 X3 X4 X8 X12 G11 (k.val + 1)
      = ((trip2 (F := F) c i arg2 harg2 arg3 harg3 arg4 harg4 arg5 harg5 arg6 harg6 arg7 harg7 arg8 harg8 arg9 harg9 arg10 harg10 arg11 harg11 arg12 harg12 arg13 harg13 arg14 harg14 arg1 v13 k X3 X4 X8 (arg11.view.writes (Elt F) G11 (pb2 (F := F) c i arg2 harg2 arg3 harg3 arg4 harg4 arg5 harg5 arg6 harg6 arg7 harg7 arg8 harg8 arg9 harg9 arg10 harg10 arg11 harg11 arg12 harg12 arg13 harg13 arg14 harg14 arg1 v13 X3 X4 X8 X12 G11 k.val).1) X12).1.1
            ++ (pb2 (F := F) c i arg2 harg2 arg3 harg3 arg4 harg4 arg5 harg5 arg6 harg6 arg7 harg7 arg8 harg8 arg9 harg9 arg10 harg10 arg11 harg11 arg12 harg12 arg13 harg13 arg14 harg14 arg1 v13 X3 X4 X8 X12 G11 k.val).1,
        (trip2 (F := F) c i arg2 harg2 arg3 harg3 arg4 harg4 arg5 harg5 arg6 harg6 arg7 harg7 arg8 harg8 arg9 harg9 arg10 harg10 arg11 harg11 arg12 harg12 arg13 harg13 arg14 harg14 arg1 v13 k X3 X4 X8 (arg11.view.writes (Elt F) G11 (pb2 (F := F) c i arg2 harg2 arg3 harg3 arg4 harg4 arg5 harg5 arg6 harg6 arg7 harg7 arg8 harg8 arg9 harg9 arg10 harg10 arg11 harg11 arg12 harg12 arg13 harg13 arg14 harg14 arg1 v13 X3 X4 X8 X12 G11 k.val).1) X12).1.2
            ++ (pb2 (F := F) c i arg2 harg2 arg3 harg3 arg4 harg4 arg5 harg5 arg6 harg6 arg7 harg7 arg8 harg8 arg9 harg9 arg10 harg10 arg11 harg11 arg12 harg12 arg13 harg13 arg14 harg14 arg1 v13 X3 X4 X8 X12 G11 k.val).2) := by
  rw [pb2.eq_2]; unfold pb2Step; exact dif_pos k.isLt

/-- The invariant of the sub-block loop: everything read at its contents, the result and the staging scratch as the trips so far
    leave them. -/
abbrev inv2 (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S8x128x128 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S36864x128 .i32) (harg12 : arg12.IsWhole) (arg13 : Memref sig .tc .vmem S3x512x128 .f32) (harg13 : arg13.IsWhole) (arg14 : Memref sig .tc .vmem S3x4x128x128 .f32) (harg14 : arg14.IsWhole) (arg1 : BitVec 32) (v13 : Vec F S512x1024 .bf16) (X3 : BufTy.Contents (Elt F) arg3.view.ty) (X4 : BufTy.Contents (Elt F) arg4.view.ty)
    (X8 : BufTy.Contents (Elt F) arg8.view.ty) (X12 : BufTy.Contents (Elt F) arg12.view.ty)
    (G11 : BufTy.Contents (Elt F) arg11.view.ty) (G14 : BufTy.Contents (Elt F) arg14.view.ty) (k : ℕ) (_u : PUnit) : sProp 𝕄G :=
  iprop(pt c arg3 X3 ∗ pt c arg4 X4 ∗ pt c arg8 X8 ∗ pt c arg12 X12
    ∗ (∃ f, pt c arg11 f ∗ ⌜f = arg11.view.writes (Elt F) G11 (pb2 (F := F) c i arg2 harg2 arg3 harg3 arg4 harg4 arg5 harg5 arg6 harg6 arg7 harg7 arg8 harg8 arg9 harg9 arg10 harg10 arg11 harg11 arg12 harg12 arg13 harg13 arg14 harg14 arg1 v13 X3 X4 X8 X12 G11 k).1⌝)
    ∗ (∃ f, pt c arg14 f ∗ ⌜f = arg14.view.writes (Elt F) G14 (pb2 (F := F) c i arg2 harg2 arg3 harg3 arg4 harg4 arg5 harg5 arg6 harg6 arg7 harg7 arg8 harg8 arg9 harg9 arg10 harg10 arg11 harg11 arg12 harg12 arg13 harg13 arg14 harg14 arg1 v13 X3 X4 X8 X12 G11 k).2⌝))

set_option warn.classDefReducibility false in
@[sl_loop] def loopInv_k0_t2 (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S8x128x128 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S36864x128 .i32) (harg12 : arg12.IsWhole) (arg13 : Memref sig .tc .vmem S3x512x128 .f32) (harg13 : arg13.IsWhole) (arg14 : Memref sig .tc .vmem S3x4x128x128 .f32) (harg14 : arg14.IsWhole) (arg1 : BitVec 32) (v13 : Vec F S512x1024 .bf16) (X3 : BufTy.Contents (Elt F) arg3.view.ty) (X4 : BufTy.Contents (Elt F) arg4.view.ty)
    (X8 : BufTy.Contents (Elt F) arg8.view.ty) (X12 : BufTy.Contents (Elt F) arg12.view.ty)
    (G11 : BufTy.Contents (Elt F) arg11.view.ty) (G14 : BufTy.Contents (Elt F) arg14.view.ty) :
    LoopInvTy_k0_t2 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg1 v13 where
  inv := inv2 (F := F) c i arg2 harg2 arg3 harg3 arg4 harg4 arg5 harg5 arg6 harg6 arg7 harg7 arg8 harg8 arg9 harg9 arg10 harg10 arg11 harg11 arg12 harg12 arg13 harg13 arg14 harg14 arg1 v13 X3 X4 X8 X12 G11 G14
  step k acc := by
    iintro ⟨H3, H4, H8, H12, ⟨%f11, H11, %h11⟩, ⟨%f14, H14, %h14⟩⟩
    iapply (wp_wand_r Idealize.ShloMosaic.frame (wpE (defs₀ (F := F)) 𝒱₀ (c : Thread nD τ) none) Set.univ)
    isplitl [H3 H4 H8 H12 H11 H14]
    · iapply ((trip2 (F := F) c i arg2 harg2 arg3 harg3 arg4 harg4 arg5 harg5 arg6 harg6 arg7 harg7 arg8 harg8 arg9 harg9 arg10 harg10 arg11 harg11 arg12 harg12 arg13 harg13 arg14 harg14 arg1 v13 k X3 X4 X8 f11 X12).2 Set.univ f14)
      isplitl [H3]; · iexact H3
      isplitl [H4]; · iexact H4
      isplitl [H8]; · iexact H8
      isplitl [H11]; · iexact H11
      isplitl [H12]; · iexact H12
      iexact H14
    · iintro %_ ⟨H3, H4, H8, H11, H12, H14⟩
      isplitl [H3]; · iexact H3
      isplitl [H4]; · iexact H4
      isplitl [H8]; · iexact H8
      isplitl [H12]; · iexact H12
      rw [pb2_succ]
      isplitl [H11]
      · iexists _; isplitl [H11]; · iexact H11
        ipureintro; rw [View.writes_append, ← h11]
      iexists _; isplitl [H14]; · iexact H14
      ipureintro; rw [View.writes_append, ← h11, ← h14]

/-- The two guards of the body that the printed text spells out over the grid coordinates. -/
abbrev cond1 (i : grid0.Coords) : BitVec 1 :=
  Scalar.cmpi .ne (Scalar.extui (Scalar.andi (Scalar.cmpi .eq (BitVec.ofNat 32 (i 1).val) 0#32) (Scalar.cmpi .eq (BitVec.ofNat 32 (i 0).val) 0#32)) : BitVec 32) 0#32
abbrev cond2 (i : grid0.Coords) : BitVec 1 :=
  Scalar.cmpi .ne (Scalar.extui (Scalar.andi (Scalar.cmpi .eq (BitVec.ofNat 32 (i 1).val) 0#32) (Scalar.cmpi .sgt (BitVec.ofNat 32 (i 0).val) 0#32)) : BitVec 32) 0#32
abbrev cond4 (i : grid0.Coords) : BitVec 1 :=
  Scalar.cmpi .ne (Scalar.extui (Scalar.cmpi .eq (BitVec.ofNat 32 (i 1).val) 7#32) : BitVec 32) 0#32

/-- What the body is run on: the nine inputs at their contents, the result and the three scratch buffers at theirs. -/
abbrev Body (c : Dev nD) (arg2 : Memref sig .tc .vmem S512x1024 .bf16) (arg3 : Memref sig .tc .vmem S2048x1024 .bf16) (arg4 : Memref sig .tc .vmem S2048x1024 .bf16) (arg5 : Memref sig .tc .vmem S512x128 .f32) (arg6 : Memref sig .tc .vmem S512x128 .f32) (arg7 : Memref sig .tc .vmem S512x128 .f32) (arg8 : Memref sig .tc .vmem S8x128x128 .f32) (arg9 : Memref sig .tc .vmem S512x1024 .f32) (arg10 : Memref sig .tc .vmem S1x1024 .f32) (arg11 : Memref sig .tc .vmem S512x1024 .f32) (arg12 : Memref sig .tc .vmem S36864x128 .i32) (arg13 : Memref sig .tc .vmem S3x512x128 .f32) (arg14 : Memref sig .tc .vmem S3x4x128x128 .f32)
    (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty)
    (X8 : BufTy.Contents (Elt F) arg8.view.ty) (X9 : BufTy.Contents (Elt F) arg9.view.ty) (X10 : BufTy.Contents (Elt F) arg10.view.ty)
    (X11 : BufTy.Contents (Elt F) arg11.view.ty) (X12 : BufTy.Contents (Elt F) arg12.view.ty) (X13 : BufTy.Contents (Elt F) arg13.view.ty)
    (X14 : BufTy.Contents (Elt F) arg14.view.ty) : sProp 𝕄G :=
  iprop(pt c arg2 X2 ∗ pt c arg3 X3 ∗ pt c arg4 X4 ∗ pt c arg5 X5 ∗ pt c arg6 X6 ∗ pt c arg7 X7 ∗ pt c arg8 X8 ∗ pt c arg9 X9 ∗ pt c arg10 X10
    ∗ pt c arg11 X11 ∗ pt c arg12 X12 ∗ pt c arg13 X13 ∗ pt c arg14 X14)

/-- The result and the three scratch buffers. -/
abbrev Left (F : FTy → Type) (arg11 : Memref sig .tc .vmem S512x1024 .f32) (arg12 : Memref sig .tc .vmem S36864x128 .i32) (arg13 : Memref sig .tc .vmem S3x512x128 .f32)
    (arg14 : Memref sig .tc .vmem S3x4x128x128 .f32) : Type :=
  BufTy.Contents (Elt F) arg11.view.ty × BufTy.Contents (Elt F) arg12.view.ty × BufTy.Contents (Elt F) arg13.view.ty × BufTy.Contents (Elt F) arg14.view.ty

/-- The first grid point of all: the selection comes from the inputs. -/
@[irreducible] def runA (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S8x128x128 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S36864x128 .i32) (harg12 : arg12.IsWhole) (arg13 : Memref sig .tc .vmem S3x512x128 .f32) (harg13 : arg13.IsWhole) (arg14 : Memref sig .tc .vmem S3x4x128x128 .f32) (harg14 : arg14.IsWhole)
    (h1 : cond1 i = 1#1) (h2 : ¬ cond2 i = 1#1) (h3 : k0_cond3 i = 1#1) (h4 : ¬ cond4 i = 1#1)
    (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty)
    (X8 : BufTy.Contents (Elt F) arg8.view.ty) (X9 : BufTy.Contents (Elt F) arg9.view.ty) (X10 : BufTy.Contents (Elt F) arg10.view.ty)
    (X11 : BufTy.Contents (Elt F) arg11.view.ty) (X12 : BufTy.Contents (Elt F) arg12.view.ty) (X13 : BufTy.Contents (Elt F) arg13.view.ty)
    (X14 : BufTy.Contents (Elt F) arg14.view.ty) :
    { G : Left F arg11 arg12 arg13 arg14 //
      Body (F := F) c arg2 arg3 arg4 arg5 arg6 arg7 arg8 arg9 arg10 arg11 arg12 arg13 arg14 X2 X3 X4 X5 X6 X7 X8 X9 X10 X11 X12 X13 X14
      ⊢ wp frame (wpE (defs₀ (F := F)) 𝒱₀ (c : Thread nD τ) none) Set.univ (cc0_peer (F := F) i arg2 harg2 arg3 harg3 arg4 harg4 arg5 harg5 arg6 harg6 arg7 harg7 arg8 harg8 arg9 harg9 arg10 harg10 arg11 harg11 arg12 harg12 arg13 harg13 arg14 harg14)
          (fun _ => Body (F := F) c arg2 arg3 arg4 arg5 arg6 arg7 arg8 arg9 arg10 arg11 arg12 arg13 arg14 X2 X3 X4 X5 X6 X7 X8 X9 X10 G.1 G.2.1 G.2.2.1 G.2.2.2) } := by
  refine ⟨⟨?_, ?_, ?_, ?_⟩, ?run⟩
  case run =>
    rw [cc0_peer_eq_skeleton]
    unfold cc0_peer_skel
    iintro ⟨H2, H3, H4, H5, H6, H7, H8, H9, H10, H11, H12, H13, H14⟩
    sl_exec
    sl_step
    sl_close

/-- The first grid point of a later tile: the selection is transposed out of the staging scratch. -/
@[irreducible] def runB (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S8x128x128 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S36864x128 .i32) (harg12 : arg12.IsWhole) (arg13 : Memref sig .tc .vmem S3x512x128 .f32) (harg13 : arg13.IsWhole) (arg14 : Memref sig .tc .vmem S3x4x128x128 .f32) (harg14 : arg14.IsWhole)
    (h1 : ¬ cond1 i = 1#1) (h2 : cond2 i = 1#1) (h3 : k0_cond3 i = 1#1) (h4 : ¬ cond4 i = 1#1)
    (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty)
    (X8 : BufTy.Contents (Elt F) arg8.view.ty) (X9 : BufTy.Contents (Elt F) arg9.view.ty) (X10 : BufTy.Contents (Elt F) arg10.view.ty)
    (X11 : BufTy.Contents (Elt F) arg11.view.ty) (X12 : BufTy.Contents (Elt F) arg12.view.ty) (X13 : BufTy.Contents (Elt F) arg13.view.ty)
    (X14 : BufTy.Contents (Elt F) arg14.view.ty) :
    { G : Left F arg11 arg12 arg13 arg14 //
      Body (F := F) c arg2 arg3 arg4 arg5 arg6 arg7 arg8 arg9 arg10 arg11 arg12 arg13 arg14 X2 X3 X4 X5 X6 X7 X8 X9 X10 X11 X12 X13 X14
      ⊢ wp frame (wpE (defs₀ (F := F)) 𝒱₀ (c : Thread nD τ) none) Set.univ (cc0_peer (F := F) i arg2 harg2 arg3 harg3 arg4 harg4 arg5 harg5 arg6 harg6 arg7 harg7 arg8 harg8 arg9 harg9 arg10 harg10 arg11 harg11 arg12 harg12 arg13 harg13 arg14 harg14)
          (fun _ => Body (F := F) c arg2 arg3 arg4 arg5 arg6 arg7 arg8 arg9 arg10 arg11 arg12 arg13 arg14 X2 X3 X4 X5 X6 X7 X8 X9 X10 G.1 G.2.1 G.2.2.1 G.2.2.2) } := by
  refine ⟨⟨?_, ?_, ?_, ?_⟩, ?run⟩
  case run =>
    rw [cc0_peer_eq_skeleton]
    unfold cc0_peer_skel
    iintro ⟨H2, H3, H4, H5, H6, H7, H8, H9, H10, H11, H12, H13, H14⟩
    sl_exec
    sl_step
    sl_close

/-- A middle grid point of a tile. -/
@[irreducible] def runC (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S8x128x128 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S36864x128 .i32) (harg12 : arg12.IsWhole) (arg13 : Memref sig .tc .vmem S3x512x128 .f32) (harg13 : arg13.IsWhole) (arg14 : Memref sig .tc .vmem S3x4x128x128 .f32) (harg14 : arg14.IsWhole)
    (h1 : ¬ cond1 i = 1#1) (h2 : ¬ cond2 i = 1#1) (h3 : ¬ k0_cond3 i = 1#1) (h4 : ¬ cond4 i = 1#1)
    (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty)
    (X8 : BufTy.Contents (Elt F) arg8.view.ty) (X9 : BufTy.Contents (Elt F) arg9.view.ty) (X10 : BufTy.Contents (Elt F) arg10.view.ty)
    (X11 : BufTy.Contents (Elt F) arg11.view.ty) (X12 : BufTy.Contents (Elt F) arg12.view.ty) (X13 : BufTy.Contents (Elt F) arg13.view.ty)
    (X14 : BufTy.Contents (Elt F) arg14.view.ty) :
    { G : Left F arg11 arg12 arg13 arg14 //
      Body (F := F) c arg2 arg3 arg4 arg5 arg6 arg7 arg8 arg9 arg10 arg11 arg12 arg13 arg14 X2 X3 X4 X5 X6 X7 X8 X9 X10 X11 X12 X13 X14
      ⊢ wp frame (wpE (defs₀ (F := F)) 𝒱₀ (c : Thread nD τ) none) Set.univ (cc0_peer (F := F) i arg2 harg2 arg3 harg3 arg4 harg4 arg5 harg5 arg6 harg6 arg7 harg7 arg8 harg8 arg9 harg9 arg10 harg10 arg11 harg11 arg12 harg12 arg13 harg13 arg14 harg14)
          (fun _ => Body (F := F) c arg2 arg3 arg4 arg5 arg6 arg7 arg8 arg9 arg10 arg11 arg12 arg13 arg14 X2 X3 X4 X5 X6 X7 X8 X9 X10 G.1 G.2.1 G.2.2.1 G.2.2.2) } := by
  refine ⟨⟨?_, ?_, ?_, ?_⟩, ?run⟩
  case run =>
    rw [cc0_peer_eq_skeleton]
    unfold cc0_peer_skel
    iintro ⟨H2, H3, H4, H5, H6, H7, H8, H9, H10, H11, H12, H13, H14⟩
    sl_exec
    sl_step
    sl_close

/-- The last grid point of a tile. -/
@[irreducible] def runD (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S8x128x128 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S36864x128 .i32) (harg12 : arg12.IsWhole) (arg13 : Memref sig .tc .vmem S3x512x128 .f32) (harg13 : arg13.IsWhole) (arg14 : Memref sig .tc .vmem S3x4x128x128 .f32) (harg14 : arg14.IsWhole)
    (h1 : ¬ cond1 i = 1#1) (h2 : ¬ cond2 i = 1#1) (h3 : ¬ k0_cond3 i = 1#1) (h4 : cond4 i = 1#1)
    (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty)
    (X8 : BufTy.Contents (Elt F) arg8.view.ty) (X9 : BufTy.Contents (Elt F) arg9.view.ty) (X10 : BufTy.Contents (Elt F) arg10.view.ty)
    (X11 : BufTy.Contents (Elt F) arg11.view.ty) (X12 : BufTy.Contents (Elt F) arg12.view.ty) (X13 : BufTy.Contents (Elt F) arg13.view.ty)
    (X14 : BufTy.Contents (Elt F) arg14.view.ty) :
    { G : Left F arg11 arg12 arg13 arg14 //
      Body (F := F) c arg2 arg3 arg4 arg5 arg6 arg7 arg8 arg9 arg10 arg11 arg12 arg13 arg14 X2 X3 X4 X5 X6 X7 X8 X9 X10 X11 X12 X13 X14
      ⊢ wp frame (wpE (defs₀ (F := F)) 𝒱₀ (c : Thread nD τ) none) Set.univ (cc0_peer (F := F) i arg2 harg2 arg3 harg3 arg4 harg4 arg5 harg5 arg6 harg6 arg7 harg7 arg8 harg8 arg9 harg9 arg10 harg10 arg11 harg11 arg12 harg12 arg13 harg13 arg14 harg14)
          (fun _ => Body (F := F) c arg2 arg3 arg4 arg5 arg6 arg7 arg8 arg9 arg10 arg11 arg12 arg13 arg14 X2 X3 X4 X5 X6 X7 X8 X9 X10 G.1 G.2.1 G.2.2.1 G.2.2.2) } := by
  refine ⟨⟨?_, ?_, ?_, ?_⟩, ?run⟩
  case run =>
    rw [cc0_peer_eq_skeleton]
    unfold cc0_peer_skel
    iintro ⟨H2, H3, H4, H5, H6, H7, H8, H9, H10, H11, H12, H13, H14⟩
    sl_exec
    sl_step
    sl_close

end Cert.KernelWords.Hand

end
-- ==== Proof.OffsQI.lean ====
/-
  Hand-written. The offsets of the top-16 rows that one trip of the sub-block loop of `KernelWordsIdeal` writes into the
  staging scratch, and of the strided rows of the gate words it reads, as closed forms of the grid point and the trip.
-/
module

public import proofs.«01_k».proof.Proof.Gen.KernelWordsIdeal.Frame
public import proofs.«01_k».proof.Proof.Gen.KernelWordsIdeal.Loops

@[expose] public section

noncomputable section

namespace Cert.KernelWordsIdeal.Hand

open Cert.KernelWordsIdeal Cert.KernelWordsIdeal.Gen
open Idealize.ShloMosaic Idealize.ShloMosaic.TcCoe Idealize.ShloMosaic.Tactic

theorem off6_eq : ∀ (i : grid0.Coords) (k : Fin k0_t2_loop.trips) (r : Fin 2), k0_off6 i k (BitVec.ofNat 32 r.val)
    = ![0, (2 * (i 1).val + k.val) / 4, 32 * ((2 * (i 1).val + k.val) % 4) + 16 * r.val, 0] := by
  intro i
  unfold k0_off6
  generalize i 1 = j
  revert j
  decide +kernel

theorem off7_eq : ∀ (i : grid0.Coords) (k : Fin k0_t2_loop.trips) (r : Fin 2), k0_off7 i k (BitVec.ofNat 32 r.val)
    = ![1, (2 * (i 1).val + k.val) / 4, 32 * ((2 * (i 1).val + k.val) % 4) + 16 * r.val, 0] := by
  intro i
  unfold k0_off7
  generalize i 1 = j
  revert j
  decide +kernel

theorem off8_eq : ∀ (i : grid0.Coords) (k : Fin k0_t2_loop.trips) (r : Fin 2), k0_off8 i k (BitVec.ofNat 32 r.val)
    = ![2, (2 * (i 1).val + k.val) / 4, 32 * ((2 * (i 1).val + k.val) % 4) + 16 * r.val, 0] := by
  intro i
  unfold k0_off8
  generalize i 1 = j
  revert j
  decide +kernel

theorem off10_eq : ∀ (i : grid0.Coords) (k : Fin k0_t2_loop.trips) (r : Fin 4), k0_off10 i k (BitVec.ofNat 32 r.val)
    = ![8 * (i 1).val + 4 * k.val + r.val, 0, 0] := by
  intro i
  unfold k0_off10
  generalize i 1 = j
  revert j
  decide +kernel

instance closed_off6_0 (i : grid0.Coords) (k : Fin k0_t2_loop.trips) : ClosedOff (k0_off6 i k 0#32) := ⟨_, off6_eq i k 0⟩
instance closed_off6_1 (i : grid0.Coords) (k : Fin k0_t2_loop.trips) : ClosedOff (k0_off6 i k 1#32) := ⟨_, off6_eq i k 1⟩
instance closed_off7_0 (i : grid0.Coords) (k : Fin k0_t2_loop.trips) : ClosedOff (k0_off7 i k 0#32) := ⟨_, off7_eq i k 0⟩
instance closed_off7_1 (i : grid0.Coords) (k : Fin k0_t2_loop.trips) : ClosedOff (k0_off7 i k 1#32) := ⟨_, off7_eq i k 1⟩
instance closed_off8_0 (i : grid0.Coords) (k : Fin k0_t2_loop.trips) : ClosedOff (k0_off8 i k 0#32) := ⟨_, off8_eq i k 0⟩
instance closed_off8_1 (i : grid0.Coords) (k : Fin k0_t2_loop.trips) : ClosedOff (k0_off8 i k 1#32) := ⟨_, off8_eq i k 1⟩

end Cert.KernelWordsIdeal.Hand

end
-- ==== Proof.Trip2QI.lean ====
/-
  Hand-written. One trip of the sub-block loop of `KernelWordsIdeal` (`k0_t2_loop`): the top-16 selection of four rows of
  scores, staged for the next tile of tokens, and one sub-block of experts accumulated into the result. What the trip
  leaves in the staging scratch and in the result is found by the run.
-/
module

public import proofs.«01_k».proof.Proof.OffsQI
public import proofs.«01_k».proof.Proof.Gen.KernelWordsIdeal.Skeleton
public import Idealize.ShloMosaic.Lib.Tactic

@[expose] public section

set_option maxRecDepth 8192

noncomputable section

namespace Cert.KernelWordsIdeal.Hand

open Cert.KernelWordsIdeal Cert.KernelWordsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

local notation "𝒱₀" => (Variants.none : Variants)

/-- What one trip of the sub-block loop touches: the two tables, the scores and the gate words at their contents, the
    result and the staging scratch. -/
abbrev Trip2 (c : Dev nD) (arg3 : Memref sig .tc .vmem S2048x1024 .bf16) (arg4 : Memref sig .tc .vmem S2048x1024 .bf16)
    (arg8 : Memref sig .tc .vmem S8x128x128 .f32) (arg11 : Memref sig .tc .vmem S512x1024 .f32)
    (arg12 : Memref sig .tc .vmem S36864x2x128 .bf16) (arg14 : Memref sig .tc .vmem S3x4x128x128 .f32)
    (X3 : BufTy.Contents (Elt F) arg3.view.ty) (X4 : BufTy.Contents (Elt F) arg4.view.ty) (X8 : BufTy.Contents (Elt F) arg8.view.ty)
    (X11 : BufTy.Contents (Elt F) arg11.view.ty) (X12 : BufTy.Contents (Elt F) arg12.view.ty)
    (X14 : BufTy.Contents (Elt F) arg14.view.ty) : sProp 𝕄G :=
  iprop((arg3.view.loc (c : Thread nD τ) ↦[arg3.view.set]{fullShare} X3) ∗ (arg4.view.loc (c : Thread nD τ) ↦[arg4.view.set]{fullShare} X4)
    ∗ (arg8.view.loc (c : Thread nD τ) ↦[arg8.view.set]{fullShare} X8) ∗ (arg11.view.loc (c : Thread nD τ) ↦[arg11.view.set]{fullShare} X11)
    ∗ (arg12.view.loc (c : Thread nD τ) ↦[arg12.view.set]{fullShare} X12) ∗ (arg14.view.loc (c : Thread nD τ) ↦[arg14.view.set]{fullShare} X14))

@[irreducible] def trip2 (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S8x128x128 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S36864x2x128 .bf16) (harg12 : arg12.IsWhole) (arg13 : Memref sig .tc .vmem S3x512x128 .f32) (harg13 : arg13.IsWhole) (arg14 : Memref sig .tc .vmem S3x4x128x128 .f32) (harg14 : arg14.IsWhole) (arg1 : BitVec 32) (v13 : Vec F S512x1024 .bf16) (k : Fin k0_t2_loop.trips)
    (X3 : BufTy.Contents (Elt F) arg3.view.ty) (X4 : BufTy.Contents (Elt F) arg4.view.ty) (X8 : BufTy.Contents (Elt F) arg8.view.ty)
    (X11 : BufTy.Contents (Elt F) arg11.view.ty) (X12 : BufTy.Contents (Elt F) arg12.view.ty) :
    { L : List (View.Piece (Elt F) S512x1024 .f32) × List (View.Piece (Elt F) S3x4x128x128 .f32) //
      ∀ (E : Set ℕ) (f14 : BufTy.Contents (Elt F) arg14.view.ty),
      Trip2 (F := F) c arg3 arg4 arg8 arg11 arg12 arg14 X3 X4 X8 X11 X12 f14
      ⊢ wp frame (wpE (defs₀ (F := F)) 𝒱₀ (c : Thread nD τ) none) E (k0_t2_body (F := F) i arg2 harg2 arg3 harg3 arg4 harg4 arg5 harg5 arg6 harg6 arg7 harg7 arg8 harg8 arg9 harg9 arg10 harg10 arg11 harg11 arg12 harg12 arg13 harg13 arg14 harg14 arg1 v13 k PUnit.unit)
          (fun _ => Trip2 (F := F) c arg3 arg4 arg8 arg11 arg12 arg14 X3 X4 X8 (arg11.view.writes (Elt F) X11 L.1) X12
            (arg14.view.writes (Elt F) f14 L.2)) } := by
  have hk : k.val < 2 := k.isLt
  refine ⟨⟨?_, ?_⟩, fun E f14 => ?run⟩
  case run =>
    unfold k0_t2_body
    iintro ⟨H3, H4, H8, H11, H12, H14⟩
    sl_exec_parts
    sl_step
    sl_close

end Cert.KernelWordsIdeal.Hand

end
-- ==== Proof.BodyQI.lean ====
/-
  Hand-written. The body of `KernelWordsIdeal`'s one call, run once for each of the four kinds of grid point (the first
  point of all, the first point of a later tile, a middle point, the last point of a tile): what it leaves in the result
  and in the three scratch buffers is found by the run.
-/
module

public import proofs.«01_k».proof.Proof.Trip2QI

@[expose] public section

set_option maxRecDepth 8192

noncomputable section

namespace Cert.KernelWordsIdeal.Hand

open Cert.KernelWordsIdeal Cert.KernelWordsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

local notation "𝒱₀" => (Variants.none : Variants)

/-- A memref's buffer held at contents `X`. -/
abbrev pt (c : Dev nD) {S : Shape} {e : EltTy} (M : Memref sig .tc .vmem S e) (X : BufTy.Contents (Elt F) M.view.ty) : sProp 𝕄G :=
  (M.view.loc (c : Thread nD τ) ↦[M.view.set]{fullShare} X)

/-- The pieces trip `k` of the sub-block loop adds to those before it, of the result (whose contents at loop entry are `G11`) and of
    the staging scratch; past the last trip, none. -/
@[irreducible] def pb2Step (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S8x128x128 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S36864x2x128 .bf16) (harg12 : arg12.IsWhole) (arg13 : Memref sig .tc .vmem S3x512x128 .f32) (harg13 : arg13.IsWhole) (arg14 : Memref sig .tc .vmem S3x4x128x128 .f32) (harg14 : arg14.IsWhole) (arg1 : BitVec 32) (v13 : Vec F S512x1024 .bf16) (X3 : BufTy.Contents (Elt F) arg3.view.ty) (X4 : BufTy.Contents (Elt F) arg4.view.ty)
    (X8 : BufTy.Contents (Elt F) arg8.view.ty) (X12 : BufTy.Contents (Elt F) arg12.view.ty) (G11 : BufTy.Contents (Elt F) arg11.view.ty) (k : ℕ)
    (L : List (View.Piece (Elt F) S512x1024 .f32) × List (View.Piece (Elt F) S3x4x128x128 .f32)) :
    List (View.Piece (Elt F) S512x1024 .f32) × List (View.Piece (Elt F) S3x4x128x128 .f32) :=
  if h : k < k0_t2_loop.trips then
    ((trip2 (F := F) c i arg2 harg2 arg3 harg3 arg4 harg4 arg5 harg5 arg6 harg6 arg7 harg7 arg8 harg8 arg9 harg9 arg10 harg10 arg11 harg11 arg12 harg12 arg13 harg13 arg14 harg14 arg1 v13 ⟨k, h⟩ X3 X4 X8 (arg11.view.writes (Elt F) G11 L.1) X12).1.1 ++ L.1,
      (trip2 (F := F) c i arg2 harg2 arg3 harg3 arg4 harg4 arg5 harg5 arg6 harg6 arg7 harg7 arg8 harg8 arg9 harg9 arg10 harg10 arg11 harg11 arg12 harg12 arg13 harg13 arg14 harg14 arg1 v13 ⟨k, h⟩ X3 X4 X8 (arg11.view.writes (Elt F) G11 L.1) X12).1.2 ++ L.2)
  else L

/-- The pieces of the trips before `k`, last first. -/
def pb2 (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S8x128x128 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S36864x2x128 .bf16) (harg12 : arg12.IsWhole) (arg13 : Memref sig .tc .vmem S3x512x128 .f32) (harg13 : arg13.IsWhole) (arg14 : Memref sig .tc .vmem S3x4x128x128 .f32) (harg14 : arg14.IsWhole) (arg1 : BitVec 32) (v13 : Vec F S512x1024 .bf16) (X3 : BufTy.Contents (Elt F) arg3.view.ty) (X4 : BufTy.Contents (Elt F) arg4.view.ty)
    (X8 : BufTy.Contents (Elt F) arg8.view.ty) (X12 : BufTy.Contents (Elt F) arg12.view.ty) (G11 : BufTy.Contents (Elt F) arg11.view.ty) :
    ℕ → List (View.Piece (Elt F) S512x1024 .f32) × List (View.Piece (Elt F) S3x4x128x128 .f32)
  | 0 => ([], [])
  | k + 1 => pb2Step (F := F) c i arg2 harg2 arg3 harg3 arg4 harg4 arg5 harg5 arg6 harg6 arg7 harg7 arg8 harg8 arg9 harg9 arg10 harg10 arg11 harg11 arg12 harg12 arg13 harg13 arg14 harg14 arg1 v13 X3 X4 X8 X12 G11 k (pb2 c i arg2 harg2 arg3 harg3 arg4 harg4 arg5 harg5 arg6 harg6 arg7 harg7 arg8 harg8 arg9 harg9 arg10 harg10 arg11 harg11 arg12 harg12 arg13 harg13 arg14 harg14 arg1 v13 X3 X4 X8 X12 G11 k)

theorem pb2_succ (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S8x128x128 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S36864x2x128 .bf16) (harg12 : arg12.IsWhole) (arg13 : Memref sig .tc .vmem S3x512x128 .f32) (harg13 : arg13.IsWhole) (arg14 : Memref sig .tc .vmem S3x4x128x128 .f32) (harg14 : arg14.IsWhole) (arg1 : BitVec 32) (v13 : Vec F S512x1024 .bf16) (X3 : BufTy.Contents (Elt F) arg3.view.ty) (X4 : BufTy.Contents (Elt F) arg4.view.ty)
    (X8 : BufTy.Contents (Elt F) arg8.view.ty) (X12 : BufTy.Contents (Elt F) arg12.view.ty) (G11 : BufTy.Contents (Elt F) arg11.view.ty) (k : Fin k0_t2_loop.trips) :
    pb2 (F := F) c i arg2 harg2 arg3 harg3 arg4 harg4 arg5 harg5 arg6 harg6 arg7 harg7 arg8 harg8 arg9 harg9 arg10 harg10 arg11 harg11 arg12 harg12 arg13 harg13 arg14 harg14 arg1 v13 X3 X4 X8 X12 G11 (k.val + 1)
      = ((trip2 (F := F) c i arg2 harg2 arg3 harg3 arg4 harg4 arg5 harg5 arg6 harg6 arg7 harg7 arg8 harg8 arg9 harg9 arg10 harg10 arg11 harg11 arg12 harg12 arg13 harg13 arg14 harg14 arg1 v13 k X3 X4 X8 (arg11.view.writes (Elt F) G11 (pb2 (F := F) c i arg2 harg2 arg3 harg3 arg4 harg4 arg5 harg5 arg6 harg6 arg7 harg7 arg8 harg8 arg9 harg9 arg10 harg10 arg11 harg11 arg12 harg12 arg13 harg13 arg14 harg14 arg1 v13 X3 X4 X8 X12 G11 k.val).1) X12).1.1
            ++ (pb2 (F := F) c i arg2 harg2 arg3 harg3 arg4 harg4 arg5 harg5 arg6 harg6 arg7 harg7 arg8 harg8 arg9 harg9 arg10 harg10 arg11 harg11 arg12 harg12 arg13 harg13 arg14 harg14 arg1 v13 X3 X4 X8 X12 G11 k.val).1,
        (trip2 (F := F) c i arg2 harg2 arg3 harg3 arg4 harg4 arg5 harg5 arg6 harg6 arg7 harg7 arg8 harg8 arg9 harg9 arg10 harg10 arg11 harg11 arg12 harg12 arg13 harg13 arg14 harg14 arg1 v13 k X3 X4 X8 (arg11.view.writes (Elt F) G11 (pb2 (F := F) c i arg2 harg2 arg3 harg3 arg4 harg4 arg5 harg5 arg6 harg6 arg7 harg7 arg8 harg8 arg9 harg9 arg10 harg10 arg11 harg11 arg12 harg12 arg13 harg13 arg14 harg14 arg1 v13 X3 X4 X8 X12 G11 k.val).1) X12).1.2
            ++ (pb2 (F := F) c i arg2 harg2 arg3 harg3 arg4 harg4 arg5 harg5 arg6 harg6 arg7 harg7 arg8 harg8 arg9 harg9 arg10 harg10 arg11 harg11 arg12 harg12 arg13 harg13 arg14 harg14 arg1 v13 X3 X4 X8 X12 G11 k.val).2) := by
  rw [pb2.eq_2]; unfold pb2Step; exact dif_pos k.isLt

/-- The invariant of the sub-block loop: everything read at its contents, the result and the staging scratch as the trips so far
    leave them. -/
abbrev inv2 (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S8x128x128 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S36864x2x128 .bf16) (harg12 : arg12.IsWhole) (arg13 : Memref sig .tc .vmem S3x512x128 .f32) (harg13 : arg13.IsWhole) (arg14 : Memref sig .tc .vmem S3x4x128x128 .f32) (harg14 : arg14.IsWhole) (arg1 : BitVec 32) (v13 : Vec F S512x1024 .bf16) (X3 : BufTy.Contents (Elt F) arg3.view.ty) (X4 : BufTy.Contents (Elt F) arg4.view.ty)
    (X8 : BufTy.Contents (Elt F) arg8.view.ty) (X12 : BufTy.Contents (Elt F) arg12.view.ty)
    (G11 : BufTy.Contents (Elt F) arg11.view.ty) (G14 : BufTy.Contents (Elt F) arg14.view.ty) (k : ℕ) (_u : PUnit) : sProp 𝕄G :=
  iprop(pt c arg3 X3 ∗ pt c arg4 X4 ∗ pt c arg8 X8 ∗ pt c arg12 X12
    ∗ (∃ f, pt c arg11 f ∗ ⌜f = arg11.view.writes (Elt F) G11 (pb2 (F := F) c i arg2 harg2 arg3 harg3 arg4 harg4 arg5 harg5 arg6 harg6 arg7 harg7 arg8 harg8 arg9 harg9 arg10 harg10 arg11 harg11 arg12 harg12 arg13 harg13 arg14 harg14 arg1 v13 X3 X4 X8 X12 G11 k).1⌝)
    ∗ (∃ f, pt c arg14 f ∗ ⌜f = arg14.view.writes (Elt F) G14 (pb2 (F := F) c i arg2 harg2 arg3 harg3 arg4 harg4 arg5 harg5 arg6 harg6 arg7 harg7 arg8 harg8 arg9 harg9 arg10 harg10 arg11 harg11 arg12 harg12 arg13 harg13 arg14 harg14 arg1 v13 X3 X4 X8 X12 G11 k).2⌝))

set_option warn.classDefReducibility false in
@[sl_loop] def loopInv_k0_t2 (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S8x128x128 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S36864x2x128 .bf16) (harg12 : arg12.IsWhole) (arg13 : Memref sig .tc .vmem S3x512x128 .f32) (harg13 : arg13.IsWhole) (arg14 : Memref sig .tc .vmem S3x4x128x128 .f32) (harg14 : arg14.IsWhole) (arg1 : BitVec 32) (v13 : Vec F S512x1024 .bf16) (X3 : BufTy.Contents (Elt F) arg3.view.ty) (X4 : BufTy.Contents (Elt F) arg4.view.ty)
    (X8 : BufTy.Contents (Elt F) arg8.view.ty) (X12 : BufTy.Contents (Elt F) arg12.view.ty)
    (G11 : BufTy.Contents (Elt F) arg11.view.ty) (G14 : BufTy.Contents (Elt F) arg14.view.ty) :
    LoopInvTy_k0_t2 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg1 v13 where
  inv := inv2 (F := F) c i arg2 harg2 arg3 harg3 arg4 harg4 arg5 harg5 arg6 harg6 arg7 harg7 arg8 harg8 arg9 harg9 arg10 harg10 arg11 harg11 arg12 harg12 arg13 harg13 arg14 harg14 arg1 v13 X3 X4 X8 X12 G11 G14
  step k acc := by
    iintro ⟨H3, H4, H8, H12, ⟨%f11, H11, %h11⟩, ⟨%f14, H14, %h14⟩⟩
    iapply (wp_wand_r Idealize.ShloMosaic.frame (wpE (defs₀ (F := F)) 𝒱₀ (c : Thread nD τ) none) Set.univ)
    isplitl [H3 H4 H8 H12 H11 H14]
    · iapply ((trip2 (F := F) c i arg2 harg2 arg3 harg3 arg4 harg4 arg5 harg5 arg6 harg6 arg7 harg7 arg8 harg8 arg9 harg9 arg10 harg10 arg11 harg11 arg12 harg12 arg13 harg13 arg14 harg14 arg1 v13 k X3 X4 X8 f11 X12).2 Set.univ f14)
      isplitl [H3]; · iexact H3
      isplitl [H4]; · iexact H4
      isplitl [H8]; · iexact H8
      isplitl [H11]; · iexact H11
      isplitl [H12]; · iexact H12
      iexact H14
    · iintro %_ ⟨H3, H4, H8, H11, H12, H14⟩
      isplitl [H3]; · iexact H3
      isplitl [H4]; · iexact H4
      isplitl [H8]; · iexact H8
      isplitl [H12]; · iexact H12
      rw [pb2_succ]
      isplitl [H11]
      · iexists _; isplitl [H11]; · iexact H11
        ipureintro; rw [View.writes_append, ← h11]
      iexists _; isplitl [H14]; · iexact H14
      ipureintro; rw [View.writes_append, ← h11, ← h14]

/-- The two guards of the body that the printed text spells out over the grid coordinates. -/
abbrev cond1 (i : grid0.Coords) : BitVec 1 :=
  Scalar.cmpi .ne (Scalar.extui (Scalar.andi (Scalar.cmpi .eq (BitVec.ofNat 32 (i 1).val) 0#32) (Scalar.cmpi .eq (BitVec.ofNat 32 (i 0).val) 0#32)) : BitVec 32) 0#32
abbrev cond2 (i : grid0.Coords) : BitVec 1 :=
  Scalar.cmpi .ne (Scalar.extui (Scalar.andi (Scalar.cmpi .eq (BitVec.ofNat 32 (i 1).val) 0#32) (Scalar.cmpi .sgt (BitVec.ofNat 32 (i 0).val) 0#32)) : BitVec 32) 0#32
abbrev cond4 (i : grid0.Coords) : BitVec 1 :=
  Scalar.cmpi .ne (Scalar.extui (Scalar.cmpi .eq (BitVec.ofNat 32 (i 1).val) 7#32) : BitVec 32) 0#32

/-- What the body is run on: the nine inputs at their contents, the result and the three scratch buffers at theirs. -/
abbrev Body (c : Dev nD) (arg2 : Memref sig .tc .vmem S512x1024 .bf16) (arg3 : Memref sig .tc .vmem S2048x1024 .bf16) (arg4 : Memref sig .tc .vmem S2048x1024 .bf16) (arg5 : Memref sig .tc .vmem S512x128 .f32) (arg6 : Memref sig .tc .vmem S512x128 .f32) (arg7 : Memref sig .tc .vmem S512x128 .f32) (arg8 : Memref sig .tc .vmem S8x128x128 .f32) (arg9 : Memref sig .tc .vmem S512x1024 .f32) (arg10 : Memref sig .tc .vmem S1x1024 .f32) (arg11 : Memref sig .tc .vmem S512x1024 .f32) (arg12 : Memref sig .tc .vmem S36864x2x128 .bf16) (arg13 : Memref sig .tc .vmem S3x512x128 .f32) (arg14 : Memref sig .tc .vmem S3x4x128x128 .f32)
    (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty)
    (X8 : BufTy.Contents (Elt F) arg8.view.ty) (X9 : BufTy.Contents (Elt F) arg9.view.ty) (X10 : BufTy.Contents (Elt F) arg10.view.ty)
    (X11 : BufTy.Contents (Elt F) arg11.view.ty) (X12 : BufTy.Contents (Elt F) arg12.view.ty) (X13 : BufTy.Contents (Elt F) arg13.view.ty)
    (X14 : BufTy.Contents (Elt F) arg14.view.ty) : sProp 𝕄G :=
  iprop(pt c arg2 X2 ∗ pt c arg3 X3 ∗ pt c arg4 X4 ∗ pt c arg5 X5 ∗ pt c arg6 X6 ∗ pt c arg7 X7 ∗ pt c arg8 X8 ∗ pt c arg9 X9 ∗ pt c arg10 X10
    ∗ pt c arg11 X11 ∗ pt c arg12 X12 ∗ pt c arg13 X13 ∗ pt c arg14 X14)

/-- The result and the three scratch buffers. -/
abbrev Left (F : FTy → Type) (arg11 : Memref sig .tc .vmem S512x1024 .f32) (arg12 : Memref sig .tc .vmem S36864x2x128 .bf16) (arg13 : Memref sig .tc .vmem S3x512x128 .f32)
    (arg14 : Memref sig .tc .vmem S3x4x128x128 .f32) : Type :=
  BufTy.Contents (Elt F) arg11.view.ty × BufTy.Contents (Elt F) arg12.view.ty × BufTy.Contents (Elt F) arg13.view.ty × BufTy.Contents (Elt F) arg14.view.ty

/-- The first grid point of all: the selection comes from the inputs. -/
@[irreducible] def runA (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S8x128x128 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S36864x2x128 .bf16) (harg12 : arg12.IsWhole) (arg13 : Memref sig .tc .vmem S3x512x128 .f32) (harg13 : arg13.IsWhole) (arg14 : Memref sig .tc .vmem S3x4x128x128 .f32) (harg14 : arg14.IsWhole)
    (h1 : cond1 i = 1#1) (h2 : ¬ cond2 i = 1#1) (h3 : k0_cond3 i = 1#1) (h4 : ¬ cond4 i = 1#1)
    (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty)
    (X8 : BufTy.Contents (Elt F) arg8.view.ty) (X9 : BufTy.Contents (Elt F) arg9.view.ty) (X10 : BufTy.Contents (Elt F) arg10.view.ty)
    (X11 : BufTy.Contents (Elt F) arg11.view.ty) (X12 : BufTy.Contents (Elt F) arg12.view.ty) (X13 : BufTy.Contents (Elt F) arg13.view.ty)
    (X14 : BufTy.Contents (Elt F) arg14.view.ty) :
    { G : Left F arg11 arg12 arg13 arg14 //
      Body (F := F) c arg2 arg3 arg4 arg5 arg6 arg7 arg8 arg9 arg10 arg11 arg12 arg13 arg14 X2 X3 X4 X5 X6 X7 X8 X9 X10 X11 X12 X13 X14
      ⊢ wp frame (wpE (defs₀ (F := F)) 𝒱₀ (c : Thread nD τ) none) Set.univ (cc0_peer (F := F) i arg2 harg2 arg3 harg3 arg4 harg4 arg5 harg5 arg6 harg6 arg7 harg7 arg8 harg8 arg9 harg9 arg10 harg10 arg11 harg11 arg12 harg12 arg13 harg13 arg14 harg14)
          (fun _ => Body (F := F) c arg2 arg3 arg4 arg5 arg6 arg7 arg8 arg9 arg10 arg11 arg12 arg13 arg14 X2 X3 X4 X5 X6 X7 X8 X9 X10 G.1 G.2.1 G.2.2.1 G.2.2.2) } := by
  refine ⟨⟨?_, ?_, ?_, ?_⟩, ?run⟩
  case run =>
    rw [cc0_peer_eq_skeleton]
    unfold cc0_peer_skel
    iintro ⟨H2, H3, H4, H5, H6, H7, H8, H9, H10, H11, H12, H13, H14⟩
    sl_exec
    sl_step
    sl_close

/-- The first grid point of a later tile: the selection is transposed out of the staging scratch. -/
@[irreducible] def runB (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S8x128x128 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S36864x2x128 .bf16) (harg12 : arg12.IsWhole) (arg13 : Memref sig .tc .vmem S3x512x128 .f32) (harg13 : arg13.IsWhole) (arg14 : Memref sig .tc .vmem S3x4x128x128 .f32) (harg14 : arg14.IsWhole)
    (h1 : ¬ cond1 i = 1#1) (h2 : cond2 i = 1#1) (h3 : k0_cond3 i = 1#1) (h4 : ¬ cond4 i = 1#1)
    (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty)
    (X8 : BufTy.Contents (Elt F) arg8.view.ty) (X9 : BufTy.Contents (Elt F) arg9.view.ty) (X10 : BufTy.Contents (Elt F) arg10.view.ty)
    (X11 : BufTy.Contents (Elt F) arg11.view.ty) (X12 : BufTy.Contents (Elt F) arg12.view.ty) (X13 : BufTy.Contents (Elt F) arg13.view.ty)
    (X14 : BufTy.Contents (Elt F) arg14.view.ty) :
    { G : Left F arg11 arg12 arg13 arg14 //
      Body (F := F) c arg2 arg3 arg4 arg5 arg6 arg7 arg8 arg9 arg10 arg11 arg12 arg13 arg14 X2 X3 X4 X5 X6 X7 X8 X9 X10 X11 X12 X13 X14
      ⊢ wp frame (wpE (defs₀ (F := F)) 𝒱₀ (c : Thread nD τ) none) Set.univ (cc0_peer (F := F) i arg2 harg2 arg3 harg3 arg4 harg4 arg5 harg5 arg6 harg6 arg7 harg7 arg8 harg8 arg9 harg9 arg10 harg10 arg11 harg11 arg12 harg12 arg13 harg13 arg14 harg14)
          (fun _ => Body (F := F) c arg2 arg3 arg4 arg5 arg6 arg7 arg8 arg9 arg10 arg11 arg12 arg13 arg14 X2 X3 X4 X5 X6 X7 X8 X9 X10 G.1 G.2.1 G.2.2.1 G.2.2.2) } := by
  refine ⟨⟨?_, ?_, ?_, ?_⟩, ?run⟩
  case run =>
    rw [cc0_peer_eq_skeleton]
    unfold cc0_peer_skel
    iintro ⟨H2, H3, H4, H5, H6, H7, H8, H9, H10, H11, H12, H13, H14⟩
    sl_exec
    sl_step
    sl_close

/-- A middle grid point of a tile. -/
@[irreducible] def runC (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S8x128x128 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S36864x2x128 .bf16) (harg12 : arg12.IsWhole) (arg13 : Memref sig .tc .vmem S3x512x128 .f32) (harg13 : arg13.IsWhole) (arg14 : Memref sig .tc .vmem S3x4x128x128 .f32) (harg14 : arg14.IsWhole)
    (h1 : ¬ cond1 i = 1#1) (h2 : ¬ cond2 i = 1#1) (h3 : ¬ k0_cond3 i = 1#1) (h4 : ¬ cond4 i = 1#1)
    (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty)
    (X8 : BufTy.Contents (Elt F) arg8.view.ty) (X9 : BufTy.Contents (Elt F) arg9.view.ty) (X10 : BufTy.Contents (Elt F) arg10.view.ty)
    (X11 : BufTy.Contents (Elt F) arg11.view.ty) (X12 : BufTy.Contents (Elt F) arg12.view.ty) (X13 : BufTy.Contents (Elt F) arg13.view.ty)
    (X14 : BufTy.Contents (Elt F) arg14.view.ty) :
    { G : Left F arg11 arg12 arg13 arg14 //
      Body (F := F) c arg2 arg3 arg4 arg5 arg6 arg7 arg8 arg9 arg10 arg11 arg12 arg13 arg14 X2 X3 X4 X5 X6 X7 X8 X9 X10 X11 X12 X13 X14
      ⊢ wp frame (wpE (defs₀ (F := F)) 𝒱₀ (c : Thread nD τ) none) Set.univ (cc0_peer (F := F) i arg2 harg2 arg3 harg3 arg4 harg4 arg5 harg5 arg6 harg6 arg7 harg7 arg8 harg8 arg9 harg9 arg10 harg10 arg11 harg11 arg12 harg12 arg13 harg13 arg14 harg14)
          (fun _ => Body (F := F) c arg2 arg3 arg4 arg5 arg6 arg7 arg8 arg9 arg10 arg11 arg12 arg13 arg14 X2 X3 X4 X5 X6 X7 X8 X9 X10 G.1 G.2.1 G.2.2.1 G.2.2.2) } := by
  refine ⟨⟨?_, ?_, ?_, ?_⟩, ?run⟩
  case run =>
    rw [cc0_peer_eq_skeleton]
    unfold cc0_peer_skel
    iintro ⟨H2, H3, H4, H5, H6, H7, H8, H9, H10, H11, H12, H13, H14⟩
    sl_exec
    sl_step
    sl_close

/-- The last grid point of a tile. -/
@[irreducible] def runD (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S8x128x128 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S36864x2x128 .bf16) (harg12 : arg12.IsWhole) (arg13 : Memref sig .tc .vmem S3x512x128 .f32) (harg13 : arg13.IsWhole) (arg14 : Memref sig .tc .vmem S3x4x128x128 .f32) (harg14 : arg14.IsWhole)
    (h1 : ¬ cond1 i = 1#1) (h2 : ¬ cond2 i = 1#1) (h3 : ¬ k0_cond3 i = 1#1) (h4 : cond4 i = 1#1)
    (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty)
    (X8 : BufTy.Contents (Elt F) arg8.view.ty) (X9 : BufTy.Contents (Elt F) arg9.view.ty) (X10 : BufTy.Contents (Elt F) arg10.view.ty)
    (X11 : BufTy.Contents (Elt F) arg11.view.ty) (X12 : BufTy.Contents (Elt F) arg12.view.ty) (X13 : BufTy.Contents (Elt F) arg13.view.ty)
    (X14 : BufTy.Contents (Elt F) arg14.view.ty) :
    { G : Left F arg11 arg12 arg13 arg14 //
      Body (F := F) c arg2 arg3 arg4 arg5 arg6 arg7 arg8 arg9 arg10 arg11 arg12 arg13 arg14 X2 X3 X4 X5 X6 X7 X8 X9 X10 X11 X12 X13 X14
      ⊢ wp frame (wpE (defs₀ (F := F)) 𝒱₀ (c : Thread nD τ) none) Set.univ (cc0_peer (F := F) i arg2 harg2 arg3 harg3 arg4 harg4 arg5 harg5 arg6 harg6 arg7 harg7 arg8 harg8 arg9 harg9 arg10 harg10 arg11 harg11 arg12 harg12 arg13 harg13 arg14 harg14)
          (fun _ => Body (F := F) c arg2 arg3 arg4 arg5 arg6 arg7 arg8 arg9 arg10 arg11 arg12 arg13 arg14 X2 X3 X4 X5 X6 X7 X8 X9 X10 G.1 G.2.1 G.2.2.1 G.2.2.2) } := by
  refine ⟨⟨?_, ?_, ?_, ?_⟩, ?run⟩
  case run =>
    rw [cc0_peer_eq_skeleton]
    unfold cc0_peer_skel
    iintro ⟨H2, H3, H4, H5, H6, H7, H8, H9, H10, H11, H12, H13, H14⟩
    sl_exec
    sl_step
    sl_close

end Cert.KernelWordsIdeal.Hand

end
-- ==== Proof.FrameQI.lean ====
/-
  Hand-written. The frame of `KernelWordsIdeal`'s one call: at every grid point the body runs from any contents of the result's buffer and
  of the three scratch buffers to some contents of them, and leaves the inputs' buffers as they were. What the result is, is not
  said here.
-/
module

public import proofs.«01_k».proof.Proof.BodyQI
public import proofs.«01_k».proof.Proof.Gen.KernelWordsIdeal.Frame

@[expose] public section

set_option maxRecDepth 8192

noncomputable section

namespace Cert.KernelWordsIdeal.Hand

open Cert.KernelWordsIdeal Cert.KernelWordsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄G" => MT nD τ sig Unit (Elt F) ℕ (UR sig nD τ) ℕ

local notation "𝒱₀" => (Variants.none : Variants)

/-- Every grid point is of one of the four kinds. -/
theorem kinds : ∀ i : grid0.Coords,
    (cond1 i = 1#1 ∧ ¬ cond2 i = 1#1 ∧ k0_cond3 i = 1#1 ∧ ¬ cond4 i = 1#1)
    ∨ (¬ cond1 i = 1#1 ∧ cond2 i = 1#1 ∧ k0_cond3 i = 1#1 ∧ ¬ cond4 i = 1#1)
    ∨ (¬ cond1 i = 1#1 ∧ ¬ cond2 i = 1#1 ∧ ¬ k0_cond3 i = 1#1 ∧ ¬ cond4 i = 1#1)
    ∨ (¬ cond1 i = 1#1 ∧ ¬ cond2 i = 1#1 ∧ ¬ k0_cond3 i = 1#1 ∧ cond4 i = 1#1) := by
  intro i
  unfold k0_cond3
  dsimp only [cond1, cond2, cond4]
  generalize i 1 = j
  generalize i 0 = k
  revert j k
  decide +kernel

/-- The body at any grid point, what it leaves in the result and the scratch not named. -/
theorem runAny (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S8x128x128 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S36864x2x128 .bf16) (harg12 : arg12.IsWhole) (arg13 : Memref sig .tc .vmem S3x512x128 .f32) (harg13 : arg13.IsWhole) (arg14 : Memref sig .tc .vmem S3x4x128x128 .f32) (harg14 : arg14.IsWhole)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) :
    Body (F := F) c arg2 arg3 arg4 arg5 arg6 arg7 arg8 arg9 arg10 arg11 arg12 arg13 arg14 X2 X3 X4 X5 X6 X7 X8 X9 X10 X11 X12 X13 X14
      ⊢ wp frame (wpE (defs₀ (F := F)) 𝒱₀ (c : Thread nD τ) none) Set.univ (cc0_peer (F := F) i arg2 harg2 arg3 harg3 arg4 harg4 arg5 harg5 arg6 harg6 arg7 harg7 arg8 harg8 arg9 harg9 arg10 harg10 arg11 harg11 arg12 harg12 arg13 harg13 arg14 harg14)
          (fun _ => iprop(∃ G : Left F arg11 arg12 arg13 arg14, Body (F := F) c arg2 arg3 arg4 arg5 arg6 arg7 arg8 arg9 arg10 arg11 arg12 arg13 arg14 X2 X3 X4 X5 X6 X7 X8 X9 X10 G.1 G.2.1 G.2.2.1 G.2.2.2)) := by
  rcases kinds i with ⟨h1, h2, h3, h4⟩ | ⟨h1, h2, h3, h4⟩ | ⟨h1, h2, h3, h4⟩ | ⟨h1, h2, h3, h4⟩
  · iintro H
    iapply (wp_wand_r Idealize.ShloMosaic.frame (wpE (defs₀ (F := F)) 𝒱₀ (c : Thread nD τ) none) Set.univ)
    isplitl [H]
    · iapply ((runA (F := F) c i arg2 harg2 arg3 harg3 arg4 harg4 arg5 harg5 arg6 harg6 arg7 harg7 arg8 harg8 arg9 harg9 arg10 harg10 arg11 harg11 arg12 harg12 arg13 harg13 arg14 harg14 h1 h2 h3 h4 X2 X3 X4 X5 X6 X7 X8 X9 X10 X11 X12 X13 X14).2); iexact H
    · iintro %_ H; iexists _; iexact H
  · iintro H
    iapply (wp_wand_r Idealize.ShloMosaic.frame (wpE (defs₀ (F := F)) 𝒱₀ (c : Thread nD τ) none) Set.univ)
    isplitl [H]
    · iapply ((runB (F := F) c i arg2 harg2 arg3 harg3 arg4 harg4 arg5 harg5 arg6 harg6 arg7 harg7 arg8 harg8 arg9 harg9 arg10 harg10 arg11 harg11 arg12 harg12 arg13 harg13 arg14 harg14 h1 h2 h3 h4 X2 X3 X4 X5 X6 X7 X8 X9 X10 X11 X12 X13 X14).2); iexact H
    · iintro %_ H; iexists _; iexact H
  · iintro H
    iapply (wp_wand_r Idealize.ShloMosaic.frame (wpE (defs₀ (F := F)) 𝒱₀ (c : Thread nD τ) none) Set.univ)
    isplitl [H]
    · iapply ((runC (F := F) c i arg2 harg2 arg3 harg3 arg4 harg4 arg5 harg5 arg6 harg6 arg7 harg7 arg8 harg8 arg9 harg9 arg10 harg10 arg11 harg11 arg12 harg12 arg13 harg13 arg14 harg14 h1 h2 h3 h4 X2 X3 X4 X5 X6 X7 X8 X9 X10 X11 X12 X13 X14).2); iexact H
    · iintro %_ H; iexists _; iexact H
  · iintro H
    iapply (wp_wand_r Idealize.ShloMosaic.frame (wpE (defs₀ (F := F)) 𝒱₀ (c : Thread nD τ) none) Set.univ)
    isplitl [H]
    · iapply ((runD (F := F) c i arg2 harg2 arg3 harg3 arg4 harg4 arg5 harg5 arg6 harg6 arg7 harg7 arg8 harg8 arg9 harg9 arg10 harg10 arg11 harg11 arg12 harg12 arg13 harg13 arg14 harg14 h1 h2 h3 h4 X2 X3 X4 X5 X6 X7 X8 X9 X10 X11 X12 X13 X14).2); iexact H
    · iintro %_ H; iexists _; iexact H

theorem pt_scratch0 (c : Dev nD) (f : Buf (Elt F) ((c : Thread nD τ).loc cc0_scratch0)) :
    pt (F := F) c (Memref.whole cc0_scratch0) f = iprop(((c : Thread nD τ).loc cc0_scratch0) ↦{fullShare} f) := by
  dsimp only [pt]; rw [show (Memref.whole cc0_scratch0).view.set = Finset.univ from View.set_whole _]

theorem pt_scratch1 (c : Dev nD) (f : Buf (Elt F) ((c : Thread nD τ).loc cc0_scratch1)) :
    pt (F := F) c (Memref.whole cc0_scratch1) f = iprop(((c : Thread nD τ).loc cc0_scratch1) ↦{fullShare} f) := by
  dsimp only [pt]; rw [show (Memref.whole cc0_scratch1).view.set = Finset.univ from View.set_whole _]

theorem pt_scratch2 (c : Dev nD) (f : Buf (Elt F) ((c : Thread nD τ).loc cc0_scratch2)) :
    pt (F := F) c (Memref.whole cc0_scratch2) f = iprop(((c : Thread nD τ).loc cc0_scratch2) ↦{fullShare} f) := by
  dsimp only [pt]; rw [show (Memref.whole cc0_scratch2).view.set = Finset.univ from View.set_whole _]

variable (m : (ℓ : Loc nD τ sig) → Buf (Elt F) ℓ) (ρ : Dev nD → PrngReg)

/-- The result's window is the one whose contents are not named. -/
abbrev forgets0 : Fin 10 → Bool := fun w => decide (w = 9)

/-- The proof data: the nine inputs stay at their blocks, the result's window is not named, and the scratch buffers are held at some
    contents. -/
def dats (_ : Fin 1) (c : Dev nD) : Dat τ (Elt F) Unit ℕ (UR sig nD τ) ℕ cfg0 c where
  A w := V m c (Pipeline.arrRef spec0 w)
  after w t := match w with
    | ⟨9, h⟩ => Pipeline.Dat.unnamed (cfg := cfg0) ⟨9, h⟩ t
    | ⟨0, h⟩ => iblk m c ⟨0, h⟩ t
    | ⟨1, h⟩ => iblk m c ⟨1, h⟩ t
    | ⟨2, h⟩ => iblk m c ⟨2, h⟩ t
    | ⟨3, h⟩ => iblk m c ⟨3, h⟩ t
    | ⟨4, h⟩ => iblk m c ⟨4, h⟩ t
    | ⟨5, h⟩ => iblk m c ⟨5, h⟩ t
    | ⟨6, h⟩ => iblk m c ⟨6, h⟩ t
    | ⟨7, h⟩ => iblk m c ⟨7, h⟩ t
    | ⟨8, h⟩ => iblk m c ⟨8, h⟩ t
  Φ _ := Pipeline.ΦA spec0 c
  q _ := fullShare
  owed _ := 0

theorem A_eq (c : Dev nD) (w : Fin cfg0.W) : (dats m 0 c).A w = V m c (Pipeline.arrRef spec0 w) := by dsimp only [dats]
theorem before0_eq (c : Dev nD) (t : Fin cfg0.N) (d) : (dats m 0 c).before 0 t d = iblk m c 0 t :=
  before0_0_of m (dats m 0 c) (A_eq m c 0) (fun _ => rfl) t d
theorem before1_eq (c : Dev nD) (t : Fin cfg0.N) (d) : (dats m 0 c).before 1 t d = iblk m c 1 t :=
  before0_1_of m (dats m 0 c) (A_eq m c 1) (fun _ => rfl) t d
theorem before2_eq (c : Dev nD) (t : Fin cfg0.N) (d) : (dats m 0 c).before 2 t d = iblk m c 2 t :=
  before0_2_of m (dats m 0 c) (A_eq m c 2) (fun _ => rfl) t d
theorem before3_eq (c : Dev nD) (t : Fin cfg0.N) (d) : (dats m 0 c).before 3 t d = iblk m c 3 t :=
  before0_3_of m (dats m 0 c) (A_eq m c 3) (fun _ => rfl) t d
theorem before4_eq (c : Dev nD) (t : Fin cfg0.N) (d) : (dats m 0 c).before 4 t d = iblk m c 4 t :=
  before0_4_of m (dats m 0 c) (A_eq m c 4) (fun _ => rfl) t d
theorem before5_eq (c : Dev nD) (t : Fin cfg0.N) (d) : (dats m 0 c).before 5 t d = iblk m c 5 t :=
  before0_5_of m (dats m 0 c) (A_eq m c 5) (fun _ => rfl) t d
theorem before6_eq (c : Dev nD) (t : Fin cfg0.N) (d) : (dats m 0 c).before 6 t d = iblk m c 6 t :=
  before0_6_of m (dats m 0 c) (A_eq m c 6) (fun _ => rfl) t d
theorem before7_eq (c : Dev nD) (t : Fin cfg0.N) (d) : (dats m 0 c).before 7 t d = iblk m c 7 t :=
  before0_7_of m (dats m 0 c) (A_eq m c 7) (fun _ => rfl) t d
theorem before8_eq (c : Dev nD) (t : Fin cfg0.N) (d) : (dats m 0 c).before 8 t d = iblk m c 8 t :=
  before0_8_of m (dats m 0 c) (A_eq m c 8) (fun _ => rfl) t d

/-- What the body is called with at point `t`, and what it returns. -/
def bodyPre (c : Dev nD) (t : Fin cfg0.N) : sProp 𝕄G :=
  iprop((dats m 0 c).Φ t.castSucc ∗ (dats m 0 c).owesAt () t.castSucc
    ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d))
    ∗ (∃ X, owns (c : Thread nD τ) (win0_9.stage (cfg0.slots t 9)) fullShare X))
def bodyPost (c : Dev nD) (t : Fin cfg0.N) : sProp 𝕄G :=
  iprop((dats m 0 c).Φ t.succ ∗ (dats m 0 c).owesAt () t.succ
    ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t) ∗ owns (c : Thread nD τ) (win0_7.stage (cfg0.slots t 7)) fullShare ((dats m 0 c).after 7 t) ∗ owns (c : Thread nD τ) (win0_8.stage (cfg0.slots t 8)) fullShare ((dats m 0 c).after 8 t)
    ∗ (∃ X, owns (c : Thread nD τ) (win0_9.stage (cfg0.slots t 9)) fullShare X))

theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before0_eq, before1_eq, before2_eq, before3_eq, before4_eq, before5_eq, before6_eq, before7_eq, before8_eq]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA owns
  rw [scopedRest0_eq]
  iintro ⟨⟨⟨⟨%s0, S0⟩, ⟨%s1, S1⟩, ⟨%s2, S2⟩⟩, Hg⟩, HO, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, -, H9⟩⟩
  iapply (wp_wand_r Idealize.ShloMosaic.frame (wpE (defs₀ (F := F)) 𝒱₀ (c : Thread nD τ) none) Set.univ)
  isplitl [H0 H1 H2 H3 H4 H5 H6 H7 H8 H9 S0 S1 S2]
  · iapply (runAny (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) f0 f1 f2 f3 f4 f5 f6 f7 f8 f9 s0 s1 s2)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · rw [pt_scratch0]; iexact S0
    isplitl [S1]; · rw [pt_scratch1]; iexact S1
    rw [pt_scratch2]; iexact S2
  iintro %_ ⟨%G, H0, H1, H2, H3, H4, H5, H6, H7, H8, H9, S0, S1, S2⟩
  isplitl [S0 S1 S2 Hg]
  · isplitl [S0 S1 S2]
    · isplitl [S0]; · iexists _; rw [← pt_scratch0]; iexact S0
      isplitl [S1]; · iexists _; rw [← pt_scratch1]; iexact S1
      iexists _; rw [← pt_scratch2]; iexact S2
    iexact Hg
  isplitl [HO]; · iexact HO
  isplitl [H0]
  · iexists f0; isplitr
    · ipureintro; exact e0
    iexact H0
  isplitl [H1]
  · iexists f1; isplitr
    · ipureintro; exact e1
    iexact H1
  isplitl [H2]
  · iexists f2; isplitr
    · ipureintro; exact e2
    iexact H2
  isplitl [H3]
  · iexists f3; isplitr
    · ipureintro; exact e3
    iexact H3
  isplitl [H4]
  · iexists f4; isplitr
    · ipureintro; exact e4
    iexact H4
  isplitl [H5]
  · iexists f5; isplitr
    · ipureintro; exact e5
    iexact H5
  isplitl [H6]
  · iexists f6; isplitr
    · ipureintro; exact e6
    iexact H6
  isplitl [H7]
  · iexists f7; isplitr
    · ipureintro; exact e7
    iexact H7
  isplitl [H8]
  · iexists f8; isplitr
    · ipureintro; exact e8
    iexact H8
  iexists _; iexists G.1; isplitr
  · ipureintro; exact rfl
  iexact H9

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) 𝒱₀ () Set.univ forgets0 := fun t => by
  rw [bigSep_W0, bigSep_W0, defs₀_row]
  exact triple_restated (sound_body m c t) rfl .rfl fun _ => .rfl

/-- The buffers the host lines after the call write. -/
def tailWritten : Finset (Ref sig .tc) := {main_v8}

set_option backward.isDefEq.respectTransparency.types false in
/-- Every weakly fair execution terminates, with the inputs' arrays and every other buffer that is neither the result's nor written
    after the call at its contents, and every semaphore counter at zero. -/
theorem run_main :
    θ_run defs (onTc (τ := τ) (main (F := F))) (s₀ m ρ)
      (fun r => Pipeline.RDat.FramePostR (cfgs 0) (fun c => (dats m 0 c).toRForget forgets0) tailWritten (V m) r ∧ r.2.sem = fun _ => 0) :=
  Pipeline.θ_run_frame_around_T_forget (Q' := _) cfgs (dats m) (0 : Fin 1) launch0 defs₀ 𝒱₀ forgets0 tailWritten m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := by
      intro ops hops op hop b hb
      simp only [List.mem_singleton] at hops
      subst hops
      simp only [hostOps1, List.mem_cons, List.not_mem_nil, or_false] at hop
      subst hop
      simp only [StableHlo.unary_writes, Finset.mem_singleton] at hb
      have := Proc.devRef_injective (τ := τ) _ hb
      subst this
      unfold tailWritten
      exact Finset.mem_singleton_self _)
    (hmain := hmain m 𝒱₀) (hA := A_eq m) (hΦ := fun _ _ => rfl) (hQ' := fun _ h => h)

/-- The frame. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  (θ_run defs _ _).mono (fun _ h => ⟨fun c => ⟨((congrFun (((dats m 0 c).toRForget forgets0).ArrAt_in 0 rfl _) _).mp ((h.1 c).1 0)).trans (V_main_arg0 m c),
      ((h.1 c).2 main_arg1 (Finset.mem_sdiff.mpr ⟨Pipeline.mem_restRefs_of main_arg1 (by decide) (by decide), by unfold tailWritten; decide⟩)).trans (V_main_arg1 m c),
      ((h.1 c).2 main_arg2 (Finset.mem_sdiff.mpr ⟨Pipeline.mem_restRefs_of main_arg2 (by decide) (by decide), by unfold tailWritten; decide⟩)).trans (V_main_arg2 m c),
      ((h.1 c).2 main_arg3 (Finset.mem_sdiff.mpr ⟨Pipeline.mem_restRefs_of main_arg3 (by decide) (by decide), by unfold tailWritten; decide⟩)).trans (V_main_arg3 m c),
      ((h.1 c).2 main_arg4 (Finset.mem_sdiff.mpr ⟨Pipeline.mem_restRefs_of main_arg4 (by decide) (by decide), by unfold tailWritten; decide⟩)).trans (V_main_arg4 m c),
      ((congrFun (((dats m 0 c).toRForget forgets0).ArrAt_in 5 rfl _) _).mp ((h.1 c).1 5)).trans (V_main_arg5 m c),
      ((congrFun (((dats m 0 c).toRForget forgets0).ArrAt_in 6 rfl _) _).mp ((h.1 c).1 6)).trans (V_main_arg6 m c),
      ((congrFun (((dats m 0 c).toRForget forgets0).ArrAt_in 7 rfl _) _).mp ((h.1 c).1 7)).trans (V_main_arg7 m c),
      ((h.1 c).2 main_arg8 (Finset.mem_sdiff.mpr ⟨Pipeline.mem_restRefs_of main_arg8 (by decide) (by decide), by unfold tailWritten; decide⟩)).trans (V_main_arg8 m c)⟩, h.2⟩) (run_main m ρ)

end Cert.KernelWordsIdeal.Hand

end
-- ==== Proof.TokenQI.lean ====
/-
  Hand-written. The gate words one trip of the token loop of `KernelWordsIdeal` (`k0_t1_loop`) writes: its 64 pieces are one
  function of the token's number, and so the word rows of every token of the tile are one function of the selection.
-/
module
public import Idealize.ShloMosaic.Lib.ValueIdxCore
public import Idealize.ShloMosaic.Lib.Writes
public import proofs.«01_k».proof.Proof.BodyQI
@[expose] public section
set_option maxRecDepth 8192
noncomputable section
namespace Cert.KernelWordsIdeal.Hand
open Cert.KernelWordsIdeal Cert.KernelWordsIdeal.Gen
open Idealize.ShloMosaic Idealize.ShloMosaic.TcCoe Idealize.ShloMosaic.Tactic
open Idealize.SL Idealize.SL.RA Idealize.SL.BI
open scoped Idealize.SL.BI
open Idealize.ShloMosaic.ValueIdx

variable {F : FTy → Type} [FloatOps F]

theorem tok_slices : ∀ q : Fin 64, S64x128.Slices ![q.val, 0] S1x128 := by decide

/-- Row `q` of a block of 64 rows, rounded and repeated down 128 rows. -/
def tokRows (v : FVec F S64x128 .f32) (q : Fin 64) : FVec F S128x128 .bf16 :=
  have r := truncf .bf16 (broadcastTo S16x128 (shapeCast S1x128 (extractStridedSlice S1x128 ![q.val, 0] v (tok_slices q)) shapeCasts_S1x128_S1x128) broadcasts_S1x128_S16x128) bitsLt_bf16_f32
  concatenate S128x128 0 [⟨S16x128, r⟩, ⟨S16x128, r⟩, ⟨S16x128, r⟩, ⟨S16x128, r⟩, ⟨S16x128, r⟩, ⟨S16x128, r⟩, ⟨S16x128, r⟩, ⟨S16x128, r⟩] concatenates_S16x128_S16x128_S16x128_S16x128_S16x128_S16x128_S16x128_S16x128_S128x128_d0

/-- The gates of token `q` by the two halves of an expert's number: the product of the two one-hot tables. -/
def tokGates (av bv gv : FVec F S64x128 .f32) (q : Fin 64) : FVec F S128x128 .f32 :=
  matmul dot_S128x128_S128x128_S128x128_1_1_0_0_n_n none
    (select (cmpf .oeq (k0_pay10 (F := F)) (tokRows av q)) (tokRows gv q) (k0_pay11 (F := F)))
    (select (cmpf .oeq (k0_pay9 (F := F)) (tokRows bv q)) (k0_pay12 (F := F)) (k0_pay11 (F := F)))
    (constant S128x128 .f32 0x00000000#32)

/-- The words of token `q`: the gates' upper rows in the low halves, the lower rows in the high halves. -/
def tokPay (av bv gv : FVec F S64x128 .f32) (q : Fin 64) : Vec F S64x2x128 .bf16 :=
  interleaveRows S64x2x128
    (shapeCast S64x1x128 (truncf .bf16 (extractStridedSlice S64x128 ![0, 0] (tokGates av bv gv q) slices_S128x128_o0_0_S64x128) bitsLt_bf16_f32) shapeCasts_S64x128_S64x1x128)
    (shapeCast S64x1x128 (truncf .bf16 (extractStridedSlice S64x128 ![64, 0] (tokGates av bv gv q) slices_S128x128_o64_0_S64x128) bitsLt_bf16_f32) shapeCasts_S64x128_S64x1x128)
    bitcasts_S64x2x128_w16_S64x1x128_w32

/-- The pieces of the first `n` tokens of a trip, last first. -/
def tokList (i : grid0.Coords) (h3 : k0_cond3 i = 1#1) (k : Fin k0_t1_loop.trips) (av bv gv : FVec F S64x128 .f32) :
    (n : ℕ) → n ≤ 64 → List (View.Piece (Elt F) S36864x2x128 .bf16)
  | 0, _ => []
  | n + 1, h => ⟨Rect.unit (k0_off4 k (BitVec.ofNat 32 n)) ![64, 2, 128] (k0_off4_inb i k h3 ⟨n, h⟩), tokPay av bv gv ⟨n, h⟩⟩ :: tokList i h3 k av bv gv n (Nat.le_of_succ_le h)

theorem tokens (𝒱 : Variants) (c : Dev nD) (bd : Option 𝒱.V) (i : grid0.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S8x128x128 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S36864x2x128 .bf16) (harg12 : arg12.IsWhole) (arg13 : Memref sig .tc .vmem S3x512x128 .f32) (harg13 : arg13.IsWhole) (arg14 : Memref sig .tc .vmem S3x4x128x128 .f32) (harg14 : arg14.IsWhole) (k0_h3 : k0_cond3 i = 1#1) (X_arg13 : BufTy.Contents (Elt F) arg13.view.ty) (k : Fin k0_t1_loop.trips) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 k0_h3 X_arg13 k).1
      = tokList i k0_h3 k (trip_k0_t1.sl.r i arg13 k0_h3 X_arg13 k) (trip_k0_t1.sl.r_1 i arg13 k0_h3 X_arg13 k) (trip_k0_t1.sl.r_2 i arg13 k0_h3 X_arg13 k) 64 (Nat.le_refl 64) := by
  unfold trip_k0_t1; rfl

theorem mem_tokList (i : grid0.Coords) (h3 : k0_cond3 i = 1#1) (k : Fin k0_t1_loop.trips) (av bv gv : FVec F S64x128 .f32) :
    ∀ (n : ℕ) (hn : n ≤ 64) (p : View.Piece (Elt F) S36864x2x128 .bf16), p ∈ tokList i h3 k av bv gv n hn →
      ∃ q : Fin 64, p = ⟨Rect.unit (k0_off4 k (BitVec.ofNat 32 q.val)) ![64, 2, 128] (k0_off4_inb i k h3 q), tokPay av bv gv q⟩
  | 0, _, _, h => absurd h List.not_mem_nil
  | n + 1, hn, p, h => by
    rw [tokList] at h
    rcases List.mem_cons.mp h with h | h
    · exact ⟨⟨n, hn⟩, h⟩
    · exact mem_tokList i h3 k av bv gv n _ p h

theorem tokList_mem (i : grid0.Coords) (h3 : k0_cond3 i = 1#1) (k : Fin k0_t1_loop.trips) (av bv gv : FVec F S64x128 .f32) :
    ∀ (n : ℕ) (hn : n ≤ 64) (q : Fin 64), q.val < n →
      (⟨Rect.unit (k0_off4 k (BitVec.ofNat 32 q.val)) ![64, 2, 128] (k0_off4_inb i k h3 q), tokPay av bv gv q⟩ : View.Piece (Elt F) S36864x2x128 .bf16)
        ∈ tokList i h3 k av bv gv n hn
  | 0, _, _, h => absurd h (Nat.not_lt_zero _)
  | n + 1, hn, q, h => by
    rw [tokList]
    by_cases e : q.val = n
    · obtain ⟨q, hq⟩ := q
      subst e
      exact List.mem_cons_self
    · exact List.mem_cons_of_mem _ (tokList_mem i h3 k av bv gv n _ q (by omega))

/-- The gate words of the whole tile: word row `72 t + r` holds row `r` of token `t`'s words. -/
def gmOf (av bv gv : Fin k0_t1_loop.trips → FVec F S64x128 .f32) : S36864x2x128.Idx → F .bf16 := fun y =>
  have h0 : (y 0).val < 36864 := (y 0).isLt
  tokPay (av ⟨(y 0).val / 4608, show _ < 8 by omega⟩) (bv ⟨(y 0).val / 4608, show _ < 8 by omega⟩) (gv ⟨(y 0).val / 4608, show _ < 8 by omega⟩)
    ⟨(y 0).val % 4608 / 72, by omega⟩ (ix3 ⟨min ((y 0).val % 72) 63, by omega⟩ (y 1) (y 2))

theorem gmOf_at (av bv gv : Fin k0_t1_loop.trips → FVec F S64x128 .f32) (k : Fin k0_t1_loop.trips) (q : Fin 64) (x : S64x2x128.Idx)
    (y : S36864x2x128.Idx) (h0 : (y 0).val = 4608 * k.val + 72 * q.val + (x 0).val) (h1 : (y 1).val = (x 1).val) (h2 : (y 2).val = (x 2).val) :
    gmOf av bv gv y = tokPay (av k) (bv k) (gv k) q x := by
  have hx : (x 0).val < 64 := (x 0).isLt
  have hk : k.val < 8 := k.isLt
  have hq := q.isLt
  unfold gmOf
  have ek : (⟨(y 0).val / 4608, show _ < 8 by omega⟩ : Fin k0_t1_loop.trips) = k := Fin.ext (by show (y 0).val / 4608 = k.val; omega)
  have eq : (⟨(y 0).val % 4608 / 72, by omega⟩ : Fin 64) = q := Fin.ext (by show (y 0).val % 4608 / 72 = q.val; omega)
  have ex : (ix3 ⟨min ((y 0).val % 72) 63, by omega⟩ (y 1) (y 2) : S64x2x128.Idx) = x := by
    funext a
    match a with
    | ⟨0, _⟩ => exact Fin.ext (by show min ((y 0).val % 72) 63 = (x 0).val; omega)
    | ⟨1, _⟩ => exact Fin.ext h1
    | ⟨2, _⟩ => exact Fin.ext h2
  dsimp only
  rw [ek, eq, ex]

section
variable (𝒱 : Variants) (c : Dev nD) (bd : Option 𝒱.V) (i : grid0.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S8x128x128 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S36864x2x128 .bf16) (harg12 : arg12.IsWhole) (arg13 : Memref sig .tc .vmem S3x512x128 .f32) (harg13 : arg13.IsWhole) (arg14 : Memref sig .tc .vmem S3x4x128x128 .f32) (harg14 : arg14.IsWhole) (k0_h3 : k0_cond3 i = 1#1) (X_arg13 : BufTy.Contents (Elt F) arg13.view.ty)

/-- The three rows of the selection trip `k` reads. -/
abbrev avT (i : grid0.Coords) (arg13 : Memref sig .tc .vmem S3x512x128 .f32) (k0_h3 : k0_cond3 i = 1#1) (X_arg13 : BufTy.Contents (Elt F) arg13.view.ty) (k : Fin k0_t1_loop.trips) := trip_k0_t1.sl.r i arg13 k0_h3 X_arg13 k
abbrev bvT (i : grid0.Coords) (arg13 : Memref sig .tc .vmem S3x512x128 .f32) (k0_h3 : k0_cond3 i = 1#1) (X_arg13 : BufTy.Contents (Elt F) arg13.view.ty) (k : Fin k0_t1_loop.trips) := trip_k0_t1.sl.r_1 i arg13 k0_h3 X_arg13 k
abbrev gvT (i : grid0.Coords) (arg13 : Memref sig .tc .vmem S3x512x128 .f32) (k0_h3 : k0_cond3 i = 1#1) (X_arg13 : BufTy.Contents (Elt F) arg13.view.ty) (k : Fin k0_t1_loop.trips) := trip_k0_t1.sl.r_2 i arg13 k0_h3 X_arg13 k

theorem pb_pieces : ∀ (n : ℕ), n ≤ 8 → ∀ p ∈ pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 k0_h3 X_arg13 n, ∀ x : p.1.shape.Idx,
    p.2 x = gmOf (avT i arg13 k0_h3 X_arg13) (bvT i arg13 k0_h3 X_arg13) (gvT i arg13 k0_h3 X_arg13) (p.1.emb x)
  | 0, _, p, hp => absurd hp List.not_mem_nil
  | n + 1, hn, p, hp => by
    rw [show n + 1 = (⟨n, hn⟩ : Fin k0_t1_loop.trips).val + 1 from rfl, pb_k0_t1_succ, tripL_k0_t1, tokens] at hp
    rcases List.mem_append.mp hp with hp | hp
    · obtain ⟨q, rfl⟩ := mem_tokList _ _ _ _ _ _ _ _ _ hp
      intro x
      have e := k0_off4_eq ⟨n, hn⟩ q
      refine (gmOf_at _ _ _ ⟨n, hn⟩ q x _ ?_ ?_ ?_).symm
      · show k0_off4 ⟨n, hn⟩ (BitVec.ofNat 32 q.val) 0 + 1 * (x 0).val = _
        have := congrFun e 0
        change k0_off4 ⟨n, hn⟩ (BitVec.ofNat 32 q.val) 0 = 4608 * n + 72 * q.val at this
        show _ = 4608 * n + 72 * q.val + (x 0).val
        omega
      · show k0_off4 ⟨n, hn⟩ (BitVec.ofNat 32 q.val) 1 + 1 * (x 1).val = _
        have := congrFun e 1
        change k0_off4 ⟨n, hn⟩ (BitVec.ofNat 32 q.val) 1 = 0 at this
        omega
      · show k0_off4 ⟨n, hn⟩ (BitVec.ofNat 32 q.val) 2 + 1 * (x 2).val = _
        have := congrFun e 2
        change k0_off4 ⟨n, hn⟩ (BitVec.ofNat 32 q.val) 2 = 0 at this
        omega
    · exact pb_pieces n (by omega) p hp

theorem pb_cover (y : S36864x2x128.Idx) (hy : (y 0).val % 72 < 64) : ∀ (n : ℕ), n ≤ 8 → (y 0).val < 4608 * n →
    ∃ p ∈ pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 k0_h3 X_arg13 n, y ∈ p.1.set
  | 0, _, h => absurd h (by omega)
  | n + 1, hn, h => by
    rw [show n + 1 = (⟨n, hn⟩ : Fin k0_t1_loop.trips).val + 1 from rfl, pb_k0_t1_succ, tripL_k0_t1, tokens]
    by_cases hlt : (y 0).val < 4608 * n
    · obtain ⟨p, hp, hm⟩ := pb_cover y hy n (by omega) hlt
      exact ⟨p, List.mem_append_right _ hp, hm⟩
    · have hq : ((y 0).val - 4608 * n) / 72 < 64 := by omega
      have h1 : (y 1).val < 2 := (y 1).isLt
      have h2 : (y 2).val < 128 := (y 2).isLt
      refine ⟨_, List.mem_append_left _ (tokList_mem _ _ _ _ _ _ 64 _ ⟨((y 0).val - 4608 * n) / 72, hq⟩ hq), ?_⟩
      rw [Rect.mem_set_unit]
      intro a
      rw [k0_off4_eq ⟨n, hn⟩ ⟨((y 0).val - 4608 * n) / 72, hq⟩]
      match a with
      | ⟨0, _⟩ => show 4608 * n + 72 * (((y 0).val - 4608 * n) / 72) ≤ (y 0).val ∧ (y 0).val < 4608 * n + 72 * (((y 0).val - 4608 * n) / 72) + 64; omega
      | ⟨1, _⟩ => show 0 ≤ (y 1).val ∧ (y 1).val < 0 + 2; omega
      | ⟨2, _⟩ => show 0 ≤ (y 2).val ∧ (y 2).val < 0 + 128; omega

/-- Read at a token's row, the gate words are those of the token, whatever the scratch held before. -/
theorem read_gm (G : BufTy.Contents (Elt F) arg12.view.ty) (y : S36864x2x128.Idx) (hy : (y 0).val % 72 < 64) :
    arg12.view.read (Elt F) (arg12.view.writes (Elt F) G (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 k0_h3 X_arg13 8)) y
      = gmOf (avT i arg13 k0_h3 X_arg13) (bvT i arg13 k0_h3 X_arg13) (gvT i arg13 k0_h3 X_arg13) y :=
  View.read_writes_apply_of_pieces _ _ _ _ (pb_pieces 𝒱 c bd i arg2 harg2 arg3 harg3 arg4 harg4 arg5 harg5 arg6 harg6 arg7 harg7 arg8 harg8 arg9 harg9 arg10 harg10 arg11 harg11 arg12 harg12 arg13 harg13 arg14 harg14 k0_h3 X_arg13 8 (Nat.le_refl 8)) y
    (pb_cover 𝒱 c bd i arg2 harg2 arg3 harg3 arg4 harg4 arg5 harg5 arg6 harg6 arg7 harg7 arg8 harg8 arg9 harg9 arg10 harg10 arg11 harg11 arg12 harg12 arg13 harg13 arg14 harg14 k0_h3 X_arg13 y hy 8 (Nat.le_refl 8) (y 0).isLt)

end

end Cert.KernelWordsIdeal.Hand
end
-- ==== Proof.StepQI.lean ====
/-
  Hand-written. One grid point of `KernelWordsIdeal`'s call as a function of values: what a trip of the sub-block loop leaves
  in the result, what it stages, and what the gate words it reads are.
-/
module
public import Idealize.ShloMosaic.Lib.VecWindow
public import Idealize.ShloMosaic.Lib.WholeRead
public import proofs.«01_k».proof.Proof.TokenQI
@[expose] public section
set_option maxRecDepth 8192
noncomputable section
namespace Cert.KernelWordsIdeal.Hand
open Cert.KernelWordsIdeal Cert.KernelWordsIdeal.Gen
open Idealize.ShloMosaic Idealize.ShloMosaic.TcCoe Idealize.ShloMosaic.Tactic
open Idealize.SL Idealize.SL.RA Idealize.SL.BI
open scoped Idealize.SL.BI
open Idealize.ShloMosaic.ValueIdx

variable {F : FTy → Type} [FloatOps F]

/-- A grid point's two trips. -/
abbrev u0 : Fin k0_t2_loop.trips := ⟨0, show 0 < 2 from Nat.zero_lt_two⟩
abbrev u1 : Fin k0_t2_loop.trips := ⟨1, show 1 < 2 from Nat.one_lt_two⟩

/-- Rows `1024 k …` of a block of weights. -/
def halfRows (k : Fin k0_t2_loop.trips) (X : S2048x1024.Idx → F .bf16) : Vec F S1024x1024 .bf16 := fun x =>
  X (ix2 ⟨1024 * k.val + (x 0).val, by have h : k.val < 2 := k.isLt; have h0 : (x 0).val < 1024 := (x 0).isLt; omega⟩ (x 1))

/-- Word row `4 u + r` of each token's words, `u` the sub-block: what a trip's strided load reads. -/
def wordRows (gm : S36864x2x128.Idx → F .bf16) (i : grid0.Coords) (k : Fin k0_t2_loop.trips) (r : Fin 4) : Vec F S512x2x128 .bf16 := fun x =>
  gm (ix3 ⟨72 * (x 0).val + (8 * (i 1).val + 4 * k.val + r.val), by
    have h : k.val < 2 := k.isLt; have h0 : (x 0).val < 512 := (x 0).isLt; have h1 : (i 1).val < 8 := (i 1).isLt; have := r.isLt; omega⟩ (x 1) (x 2))

/-- The result after a trip that finds `acc` in it. -/
def unitV (v13 : Vec F S512x1024 .bf16) (us vs : Vec F S1024x1024 .bf16) (g : Fin 4 → Vec F S512x2x128 .bf16) (acc : Vec F S512x1024 .f32) : FVec F S512x1024 .f32 :=
  k0_pay15 (k0_pay4930 v13 k0_pay14 us) (k0_pay4932 (g 0)) (k0_pay4933 (k0_pay4931 (g 0))) (k0_pay4934 (g 1)) (k0_pay4935 (g 1))
    (k0_pay4936 (g 2)) (k0_pay4937 (g 2)) (g 3) acc vs

/-- The three lists a trip stages, each in two halves of sixteen rows, from the scores it reads. -/
def stagePieces (i : grid0.Coords) (arg8 : Memref sig .tc .vmem S8x128x128 .f32) (k : Fin k0_t2_loop.trips) (X8 : BufTy.Contents (Elt F) arg8.view.ty) :
    List (View.Piece (Elt F) S3x4x128x128 .f32) :=
  ⟨Rect.unit (k0_off8 i k 1#32) ![1, 1, 16, 128] (k0_off8_inb i k 1), k0_pay4929 (trip2.sl.r_1499 arg8 k X8)⟩ ::
  ⟨Rect.unit (k0_off7 i k 1#32) ![1, 1, 16, 128] (k0_off7_inb i k 1), k0_pay4928 (trip2.sl.r_1527 arg8 k X8)⟩ ::
  ⟨Rect.unit (k0_off6 i k 1#32) ![1, 1, 16, 128] (k0_off6_inb i k 1), k0_pay4927 (trip2.sl.r_1526 arg8 k X8)⟩ ::
  trip2.sl.H14_3 i arg8 k X8

theorem strided_read {arg12 : Memref sig .tc .vmem S36864x2x128 .bf16} (X12 : BufTy.Contents (Elt F) arg12.view.ty) (gm : S36864x2x128.Idx → F .bf16)
    (hgm : ∀ y, (y 0).val % 72 < 64 → arg12.view.read (Elt F) X12 y = gm y) (i : grid0.Coords) (k : Fin k0_t2_loop.trips) (r : Fin 4)
    (B : LoadRect S36864x2x128) (hB : B = { off := k0_off10 i k (BitVec.ofNat 32 r.val), size := S512x2x128.size, stride := ![72, 1, 1], inb := k0_off10_inb i k r }) :
    HEq (View.readAt (Elt F) arg12.view B X12) (wordRows gm i k r) := by
  subst hB
  refine heq_of_eq (funext fun x => ?_)
  have e := off10_eq i k r
  have h : k.val < 2 := k.isLt
  have h1 : (i 1).val < 8 := (i 1).isLt
  have hr := r.isLt
  rw [View.readAt_apply]
  have ex : ({ off := k0_off10 i k (BitVec.ofNat 32 r.val), size := S512x2x128.size, stride := ![72, 1, 1], inb := k0_off10_inb i k r } : LoadRect S36864x2x128).idx x
      = ix3 ⟨72 * (x 0).val + (8 * (i 1).val + 4 * k.val + r.val), by have h0 : (x 0).val < 512 := (x 0).isLt; omega⟩ (x 1) (x 2) := by
    funext a
    match a with
    | ⟨0, _⟩ =>
      have := congrFun e 0
      change k0_off10 i k (BitVec.ofNat 32 r.val) 0 = 8 * (i 1).val + 4 * k.val + r.val at this
      exact Fin.ext (by show k0_off10 i k (BitVec.ofNat 32 r.val) 0 + 72 * (x 0).val = 72 * (x 0).val + (8 * (i 1).val + 4 * k.val + r.val); omega)
    | ⟨1, _⟩ =>
      have := congrFun e 1
      change k0_off10 i k (BitVec.ofNat 32 r.val) 1 = 0 at this
      exact Fin.ext (by show k0_off10 i k (BitVec.ofNat 32 r.val) 1 + 1 * (x 1).val = (x 1).val; omega)
    | ⟨2, _⟩ =>
      have := congrFun e 2
      change k0_off10 i k (BitVec.ofNat 32 r.val) 2 = 0 at this
      exact Fin.ext (by show k0_off10 i k (BitVec.ofNat 32 r.val) 2 + 1 * (x 2).val = (x 2).val; omega)
  refine (congrArg (arg12.view.read (Elt F) X12) ex).trans ((hgm _ (by show (72 * (x 0).val + (8 * (i 1).val + 4 * k.val + r.val)) % 72 < 64; omega)).trans rfl)

theorem half_read {M : Memref sig .tc .vmem S2048x1024 .bf16} (X : BufTy.Contents (Elt F) M.view.ty) (k : Fin k0_t2_loop.trips) :
    View.readAt (Elt F) M.view (Rect.unit (s := S2048x1024) (k0_off9 k) S1024x1024.size (k0_off9_inb k)).toLoadRect X = halfRows k (M.view.read (Elt F) X) := by
  funext x
  rw [View.readAt_apply]
  unfold halfRows
  congr 1
  have e := k0_off9_eq k
  funext a
  match a with
  | ⟨0, _⟩ =>
    have := congrFun e 0
    change k0_off9 k 0 = 1024 * k.val at this
    exact Fin.ext (by show k0_off9 k 0 + 1 * (x 0).val = 1024 * k.val + (x 0).val; omega)
  | ⟨1, _⟩ =>
    have := congrFun e 1
    change k0_off9 k 1 = 0 at this
    exact Fin.ext (by show k0_off9 k 1 + 1 * (x 1).val = (x 1).val; omega)

theorem whole_read {S : Shape} {e : EltTy} {M : Memref sig .tc .vmem S e} (X : BufTy.Contents (Elt F) M.view.ty) {off : Fin S.rank → ℕ} (h0 : ∀ a, off a = 0)
    (inb : ∀ a, off a + S.size a ≤ S.size a) : View.readAt (Elt F) M.view (Rect.unit off S.size inb).toLoadRect X = M.view.read (Elt F) X := by
  funext x
  rw [View.readAt_apply]
  congr 1
  funext a
  exact Fin.ext (by show off a + 1 * (x a).val = (x a).val; have := h0 a; omega)

section
variable (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S8x128x128 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S36864x2x128 .bf16) (harg12 : arg12.IsWhole) (arg13 : Memref sig .tc .vmem S3x512x128 .f32) (harg13 : arg13.IsWhole) (arg14 : Memref sig .tc .vmem S3x4x128x128 .f32) (harg14 : arg14.IsWhole) (arg1 : BitVec 32) (v13 : Vec F S512x1024 .bf16) (X3 : BufTy.Contents (Elt F) arg3.view.ty) (X4 : BufTy.Contents (Elt F) arg4.view.ty) (X8 : BufTy.Contents (Elt F) arg8.view.ty) (X12 : BufTy.Contents (Elt F) arg12.view.ty)

theorem trip2_stage (X11 : BufTy.Contents (Elt F) arg11.view.ty) (k : Fin k0_t2_loop.trips) :
    (trip2 (F := F) c i arg2 harg2 arg3 harg3 arg4 harg4 arg5 harg5 arg6 harg6 arg7 harg7 arg8 harg8 arg9 harg9 arg10 harg10 arg11 harg11 arg12 harg12 arg13 harg13 arg14 harg14 arg1 v13 k X3 X4 X8 X11 X12).1.2 = stagePieces i arg8 k X8 := by
  unfold trip2; rfl

theorem trip2_value (X11 : BufTy.Contents (Elt F) arg11.view.ty) (k : Fin k0_t2_loop.trips) (gm : S36864x2x128.Idx → F .bf16)
    (hgm : ∀ y, (y 0).val % 72 < 64 → arg12.view.read (Elt F) X12 y = gm y) (f : BufTy.Contents (Elt F) arg11.view.ty) (L : List (View.Piece (Elt F) S512x1024 .f32)) :
    arg11.view.read (Elt F) (arg11.view.writes (Elt F) f ((trip2 (F := F) c i arg2 harg2 arg3 harg3 arg4 harg4 arg5 harg5 arg6 harg6 arg7 harg7 arg8 harg8 arg9 harg9 arg10 harg10 arg11 harg11 arg12 harg12 arg13 harg13 arg14 harg14 arg1 v13 k X3 X4 X8 X11 X12).1.1 ++ L))
      = unitV v13 (halfRows k (arg3.view.read (Elt F) X3)) (halfRows k (arg4.view.read (Elt F) X4)) (wordRows gm i k) (arg11.view.read (Elt F) X11) := by
  have s0 := eq_of_heq (strided_read X12 gm hgm i k 0 _ rfl)
  have s1 := eq_of_heq (strided_read X12 gm hgm i k 1 _ rfl)
  have s2 := eq_of_heq (strided_read X12 gm hgm i k 2 _ rfl)
  have s3 := eq_of_heq (strided_read X12 gm hgm i k 3 _ rfl)
  have e : (trip2 (F := F) c i arg2 harg2 arg3 harg3 arg4 harg4 arg5 harg5 arg6 harg6 arg7 harg7 arg8 harg8 arg9 harg9 arg10 harg10 arg11 harg11 arg12 harg12 arg13 harg13 arg14 harg14 arg1 v13 k X3 X4 X8 X11 X12).1.1
      = [⟨Rect.unit ![0, 0] S512x1024.size (fun a => by match a with | ⟨0, _⟩ => exact Nat.le_refl _ | ⟨1, _⟩ => exact Nat.le_refl _),
          unitV v13 (View.readAt (Elt F) arg3.view (Rect.unit (s := S2048x1024) (k0_off9 k) S1024x1024.size (k0_off9_inb k)).toLoadRect X3)
            (View.readAt (Elt F) arg4.view (Rect.unit (s := S2048x1024) (k0_off9 k) S1024x1024.size (k0_off9_inb k)).toLoadRect X4)
            (fun r => View.readAt (Elt F) arg12.view { off := k0_off10 i k (BitVec.ofNat 32 r.val), size := S512x2x128.size, stride := ![72, 1, 1], inb := k0_off10_inb i k r } X12)
            (View.readAt (Elt F) arg11.view (Rect.unit ![0, 0] S512x1024.size (fun a => by match a with | ⟨0, _⟩ => exact Nat.le_refl _ | ⟨1, _⟩ => exact Nat.le_refl _)).toLoadRect X11)⟩] := by
    unfold trip2; rfl
  rw [e, List.singleton_append, View.read_writes_full, half_read, half_read, whole_read X11 (fun a => by match a with | ⟨0, _⟩ => rfl | ⟨1, _⟩ => rfl)]
  congr 1
  funext r
  exact eq_of_heq (strided_read X12 gm hgm i k r _ rfl)

/-- The result after a grid point's two trips, from what they find in it. -/
theorem pb2_value (X11 : BufTy.Contents (Elt F) arg11.view.ty) (gm : S36864x2x128.Idx → F .bf16)
    (hgm : ∀ y, (y 0).val % 72 < 64 → arg12.view.read (Elt F) X12 y = gm y) (f : BufTy.Contents (Elt F) arg11.view.ty) (L : List (View.Piece (Elt F) S512x1024 .f32)) :
    arg11.view.read (Elt F) (arg11.view.writes (Elt F) f ((pb2 (F := F) c i arg2 harg2 arg3 harg3 arg4 harg4 arg5 harg5 arg6 harg6 arg7 harg7 arg8 harg8 arg9 harg9 arg10 harg10 arg11 harg11 arg12 harg12 arg13 harg13 arg14 harg14 arg1 v13 X3 X4 X8 X12 X11 2).1 ++ L))
      = unitV v13 (halfRows u1 (arg3.view.read (Elt F) X3)) (halfRows u1 (arg4.view.read (Elt F) X4)) (wordRows gm i u1)
          (unitV v13 (halfRows u0 (arg3.view.read (Elt F) X3)) (halfRows u0 (arg4.view.read (Elt F) X4)) (wordRows gm i u0) (arg11.view.read (Elt F) X11)) := by
  have e1 : pb2 (F := F) c i arg2 harg2 arg3 harg3 arg4 harg4 arg5 harg5 arg6 harg6 arg7 harg7 arg8 harg8 arg9 harg9 arg10 harg10 arg11 harg11 arg12 harg12 arg13 harg13 arg14 harg14 arg1 v13 X3 X4 X8 X12 X11 2 = _ := pb2_succ (F := F) c i arg2 harg2 arg3 harg3 arg4 harg4 arg5 harg5 arg6 harg6 arg7 harg7 arg8 harg8 arg9 harg9 arg10 harg10 arg11 harg11 arg12 harg12 arg13 harg13 arg14 harg14 arg1 v13 X3 X4 X8 X12 X11 u1
  have e0 : pb2 (F := F) c i arg2 harg2 arg3 harg3 arg4 harg4 arg5 harg5 arg6 harg6 arg7 harg7 arg8 harg8 arg9 harg9 arg10 harg10 arg11 harg11 arg12 harg12 arg13 harg13 arg14 harg14 arg1 v13 X3 X4 X8 X12 X11 u1.val = _ := pb2_succ (F := F) c i arg2 harg2 arg3 harg3 arg4 harg4 arg5 harg5 arg6 harg6 arg7 harg7 arg8 harg8 arg9 harg9 arg10 harg10 arg11 harg11 arg12 harg12 arg13 harg13 arg14 harg14 arg1 v13 X3 X4 X8 X12 X11 u0
  rw [e1]
  dsimp only
  rw [List.append_assoc, trip2_value c i arg2 harg2 arg3 harg3 arg4 harg4 arg5 harg5 arg6 harg6 arg7 harg7 arg8 harg8 arg9 harg9 arg10 harg10 arg11 harg11 arg12 harg12 arg13 harg13 arg14 harg14 arg1 v13 X3 X4 X8 X12 _ u1 gm hgm]
  congr 1
  rw [e0]
  dsimp only
  exact trip2_value c i arg2 harg2 arg3 harg3 arg4 harg4 arg5 harg5 arg6 harg6 arg7 harg7 arg8 harg8 arg9 harg9 arg10 harg10 arg11 harg11 arg12 harg12 arg13 harg13 arg14 harg14 arg1 v13 X3 X4 X8 X12 _ u0 gm hgm _ _

theorem pb2_stage (X11 : BufTy.Contents (Elt F) arg11.view.ty) :
    (pb2 (F := F) c i arg2 harg2 arg3 harg3 arg4 harg4 arg5 harg5 arg6 harg6 arg7 harg7 arg8 harg8 arg9 harg9 arg10 harg10 arg11 harg11 arg12 harg12 arg13 harg13 arg14 harg14 arg1 v13 X3 X4 X8 X12 X11 2).2 = stagePieces i arg8 u1 X8 ++ stagePieces i arg8 u0 X8 := by
  have e1 : pb2 (F := F) c i arg2 harg2 arg3 harg3 arg4 harg4 arg5 harg5 arg6 harg6 arg7 harg7 arg8 harg8 arg9 harg9 arg10 harg10 arg11 harg11 arg12 harg12 arg13 harg13 arg14 harg14 arg1 v13 X3 X4 X8 X12 X11 2 = _ := pb2_succ (F := F) c i arg2 harg2 arg3 harg3 arg4 harg4 arg5 harg5 arg6 harg6 arg7 harg7 arg8 harg8 arg9 harg9 arg10 harg10 arg11 harg11 arg12 harg12 arg13 harg13 arg14 harg14 arg1 v13 X3 X4 X8 X12 X11 u1
  have e0 : pb2 (F := F) c i arg2 harg2 arg3 harg3 arg4 harg4 arg5 harg5 arg6 harg6 arg7 harg7 arg8 harg8 arg9 harg9 arg10 harg10 arg11 harg11 arg12 harg12 arg13 harg13 arg14 harg14 arg1 v13 X3 X4 X8 X12 X11 u1.val = _ := pb2_succ (F := F) c i arg2 harg2 arg3 harg3 arg4 harg4 arg5 harg5 arg6 harg6 arg7 harg7 arg8 harg8 arg9 harg9 arg10 harg10 arg11 harg11 arg12 harg12 arg13 harg13 arg14 harg14 arg1 v13 X3 X4 X8 X12 X11 u0
  rw [e1]
  dsimp only
  rw [trip2_stage, e0]
  dsimp only
  rw [trip2_stage]
  exact congrArg _ (List.append_nil _)

end

/-- Where a trip's six pieces lie. -/
theorem stage_mem (i : grid0.Coords) (arg8 : Memref sig .tc .vmem S8x128x128 .f32) (k : Fin k0_t2_loop.trips) (X8 : BufTy.Contents (Elt F) arg8.view.ty)
    (y : S3x4x128x128.Idx) (h1 : (y 1).val = (2 * (i 1).val + k.val) / 4) (h2 : (y 2).val / 32 = (2 * (i 1).val + k.val) % 4) :
    ∃ p ∈ stagePieces i arg8 k X8, y ∈ p.1.set := by
  have h0 : (y 0).val < 3 := (y 0).isLt
  have h3 : (y 3).val < 128 := (y 3).isLt
  have key : ∀ (o : Fin 4 → ℕ) (inb) (r : Fin 2), o = ![(y 0).val, (2 * (i 1).val + k.val) / 4, 32 * ((2 * (i 1).val + k.val) % 4) + 16 * r.val, 0] →
      (y 2).val / 16 % 2 = r.val → y ∈ (Rect.unit (s := S3x4x128x128) o ![1, 1, 16, 128] inb).set := by
    intro o inb r ho hr
    rw [Rect.mem_set_unit]
    subst ho
    intro a
    match a with
    | ⟨0, _⟩ => show (y 0).val ≤ (y 0).val ∧ (y 0).val < (y 0).val + 1; omega
    | ⟨1, _⟩ => show (2 * (i 1).val + k.val) / 4 ≤ (y 1).val ∧ (y 1).val < (2 * (i 1).val + k.val) / 4 + 1; omega
    | ⟨2, _⟩ => show 32 * ((2 * (i 1).val + k.val) % 4) + 16 * r.val ≤ (y 2).val ∧ (y 2).val < 32 * ((2 * (i 1).val + k.val) % 4) + 16 * r.val + 16; omega
    | ⟨3, _⟩ => show 0 ≤ (y 3).val ∧ (y 3).val < 0 + 128; omega
  unfold stagePieces trip2.sl.H14_3
  rw [List.exists_mem_cons_iff, List.exists_mem_cons_iff, List.exists_mem_cons_iff, List.exists_mem_cons_iff, List.exists_mem_cons_iff, List.exists_mem_cons_iff]
  rcases (by omega : (y 2).val / 16 % 2 = 0 ∨ (y 2).val / 16 % 2 = 1) with hr | hr
  · rcases (by omega : (y 0).val = 0 ∨ (y 0).val = 1 ∨ (y 0).val = 2) with hc | hc | hc
    · refine Or.inr (Or.inr (Or.inr (Or.inr (Or.inr (Or.inl (key _ (k0_off6_inb i k 0) 0 ?_ hr))))))
      rw [hc]; exact off6_eq i k 0
    · refine Or.inr (Or.inr (Or.inr (Or.inr (Or.inl (key _ (k0_off7_inb i k 0) 0 ?_ hr)))))
      rw [hc]; exact off7_eq i k 0
    · refine Or.inr (Or.inr (Or.inr (Or.inl (key _ (k0_off8_inb i k 0) 0 ?_ hr))))
      rw [hc]; exact off8_eq i k 0
  · rcases (by omega : (y 0).val = 0 ∨ (y 0).val = 1 ∨ (y 0).val = 2) with hc | hc | hc
    · refine Or.inr (Or.inr (Or.inl (key _ (k0_off6_inb i k 1) 1 ?_ hr)))
      rw [hc]; exact off6_eq i k 1
    · refine Or.inr (Or.inl (key _ (k0_off7_inb i k 1) 1 ?_ hr))
      rw [hc]; exact off7_eq i k 1
    · refine Or.inl (key _ (k0_off8_inb i k 1) 1 ?_ hr)
      rw [hc]; exact off8_eq i k 1

end Cert.KernelWordsIdeal.Hand
end
-- ==== Proof.RunValQI.lean ====
/-
  Hand-written. What each of the four kinds of grid point of `KernelWordsIdeal`'s call leaves in the result and the scratch,
  as functions of the values read.
-/
module
public import proofs.«01_k».proof.Proof.StepQI
@[expose] public section
set_option maxRecDepth 8192
noncomputable section
namespace Cert.KernelWordsIdeal.Hand
open Cert.KernelWordsIdeal Cert.KernelWordsIdeal.Gen
open Idealize.ShloMosaic Idealize.ShloMosaic.TcCoe Idealize.ShloMosaic.Tactic
open Idealize.SL Idealize.SL.RA Idealize.SL.BI
open scoped Idealize.SL.BI
open Idealize.ShloMosaic.ValueIdx

variable {F : FTy → Type} [FloatOps F]

/-- The result after both trips of a grid point, from what they find in it. -/
def pointV (x : Vec F S512x1024 .bf16) (us vs : S2048x1024.Idx → F .bf16) (gm : S36864x2x128.Idx → F .bf16) (i : grid0.Coords) (acc : Vec F S512x1024 .f32) : FVec F S512x1024 .f32 :=
  unitV x (halfRows u1 us) (halfRows u1 vs) (wordRows gm i u1) (unitV x (halfRows u0 us) (halfRows u0 vs) (wordRows gm i u0) acc)

/-- Sixty-four tokens of one of the three selections. -/
def selRows (sel : S3x512x128.Idx → F .f32) (q : Fin 3) (k : Fin k0_t1_loop.trips) : Vec F S1x64x128 .f32 := fun x =>
  sel (ix3 q ⟨64 * k.val + (x 1).val, by have h : k.val < 8 := k.isLt; have h1 : (x 1).val < 64 := (x 1).isLt; omega⟩ (x 2))

/-- The gate words of a tile, from its selection: first factors, second factors, gates. -/
def gmV (sel : S3x512x128.Idx → F .f32) : S36864x2x128.Idx → F .bf16 :=
  gmOf (fun k => k0_pay26 (selRows sel 0 k)) (fun k => k0_pay27 (selRows sel 1 k)) (fun k => k0_pay28 (selRows sel 2 k))

theorem sel_read {arg13 : Memref sig .tc .vmem S3x512x128 .f32} (X : BufTy.Contents (Elt F) arg13.view.ty) (k : Fin k0_t1_loop.trips) (q : Fin 3)
    (o : Fin 3 → ℕ) (inb) (h0 : o 0 = q.val) (h1 : o 1 = 64 * k.val) (h2 : o 2 = 0) :
    View.readAt (Elt F) arg13.view (Rect.unit (s := S3x512x128) o S1x64x128.size inb).toLoadRect X = selRows (arg13.view.read (Elt F) X) q k := by
  funext x
  rw [View.readAt_apply]
  unfold selRows
  congr 1
  have hx : (x 0).val < 1 := (x 0).isLt
  funext a
  match a with
  | ⟨0, _⟩ => exact Fin.ext (by show o 0 + 1 * (x 0).val = q.val; omega)
  | ⟨1, _⟩ => exact Fin.ext (by show o 1 + 1 * (x 1).val = 64 * k.val + (x 1).val; omega)
  | ⟨2, _⟩ => exact Fin.ext (by show o 2 + 1 * (x 2).val = (x 2).val; omega)

/-- The words the gate loop leaves, from the selection it reads. -/
theorem gm_read (𝒱 : Variants) (c : Dev nD) (bd : Option 𝒱.V) (i : grid0.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S8x128x128 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S36864x2x128 .bf16) (harg12 : arg12.IsWhole) (arg13 : Memref sig .tc .vmem S3x512x128 .f32) (harg13 : arg13.IsWhole) (arg14 : Memref sig .tc .vmem S3x4x128x128 .f32) (harg14 : arg14.IsWhole) (k0_h3 : k0_cond3 i = 1#1) (X_arg13 : BufTy.Contents (Elt F) arg13.view.ty)
    (G : BufTy.Contents (Elt F) arg12.view.ty) (y : S36864x2x128.Idx) (hy : (y 0).val % 72 < 64) :
    arg12.view.read (Elt F) (arg12.view.writes (Elt F) G (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 k0_h3 X_arg13 8)) y
      = gmV (arg13.view.read (Elt F) X_arg13) y := by
  rw [read_gm _ _ _ _ _ _ _ _ _ _ _ _ _ _ _ _ _ _ _ _ _ _ _ _ _ _ _ _ _ _ _ _ _ _ hy]
  unfold gmV
  have e1 : avT i arg13 k0_h3 X_arg13 = fun k => k0_pay26 (selRows (arg13.view.read (Elt F) X_arg13) 0 k) := funext fun k =>
    congrArg k0_pay26 (sel_read X_arg13 k 0 (k0_off1 k) (k0_off1_inb i k k0_h3) (congrFun (k0_off1_eq k) 0) (congrFun (k0_off1_eq k) 1) (congrFun (k0_off1_eq k) 2))
  have e2 : bvT i arg13 k0_h3 X_arg13 = fun k => k0_pay27 (selRows (arg13.view.read (Elt F) X_arg13) 1 k) := funext fun k =>
    congrArg k0_pay27 (sel_read X_arg13 k 1 (k0_off2 k) (k0_off2_inb i k k0_h3) (congrFun (k0_off2_eq k) 0) (congrFun (k0_off2_eq k) 1) (congrFun (k0_off2_eq k) 2))
  have e3 : gvT i arg13 k0_h3 X_arg13 = fun k => k0_pay28 (selRows (arg13.view.read (Elt F) X_arg13) 2 k) := funext fun k =>
    congrArg k0_pay28 (sel_read X_arg13 k 2 (k0_off3 k) (k0_off3_inb i k k0_h3) (congrFun (k0_off3_eq k) 0) (congrFun (k0_off3_eq k) 1) (congrFun (k0_off3_eq k) 2))
  rw [e1, e2, e3]

section
variable  (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S8x128x128 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S36864x2x128 .bf16) (harg12 : arg12.IsWhole) (arg13 : Memref sig .tc .vmem S3x512x128 .f32) (harg13 : arg13.IsWhole) (arg14 : Memref sig .tc .vmem S3x4x128x128 .f32) (harg14 : arg14.IsWhole)
    (h1 : ¬ cond1 i = 1#1) (h2 : ¬ cond2 i = 1#1) (h3 : ¬ k0_cond3 i = 1#1) (h4 : ¬ cond4 i = 1#1)
    (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty)
    (X8 : BufTy.Contents (Elt F) arg8.view.ty) (X9 : BufTy.Contents (Elt F) arg9.view.ty) (X10 : BufTy.Contents (Elt F) arg10.view.ty)
    (X11 : BufTy.Contents (Elt F) arg11.view.ty) (X12 : BufTy.Contents (Elt F) arg12.view.ty) (X13 : BufTy.Contents (Elt F) arg13.view.ty)
    (X14 : BufTy.Contents (Elt F) arg14.view.ty)

theorem runC_words : (runC (F := F) c i arg2 harg2 arg3 harg3 arg4 harg4 arg5 harg5 arg6 harg6 arg7 harg7 arg8 harg8 arg9 harg9 arg10 harg10 arg11 harg11 arg12 harg12 arg13 harg13 arg14 harg14 h1 h2 h3 h4 X2 X3 X4 X5 X6 X7 X8 X9 X10 X11 X12 X13 X14).1.2.1 = X12 := by unfold runC; rfl

theorem runC_stage : (runC (F := F) c i arg2 harg2 arg3 harg3 arg4 harg4 arg5 harg5 arg6 harg6 arg7 harg7 arg8 harg8 arg9 harg9 arg10 harg10 arg11 harg11 arg12 harg12 arg13 harg13 arg14 harg14 h1 h2 h3 h4 X2 X3 X4 X5 X6 X7 X8 X9 X10 X11 X12 X13 X14).1.2.2.2 = arg14.view.writes (Elt F) X14 (stagePieces i arg8 u1 X8 ++ stagePieces i arg8 u0 X8) := by
  unfold runC; exact congrArg _ (pb2_stage ..)

theorem runC_value (gm : S36864x2x128.Idx → F .bf16) (hgm : ∀ y, (y 0).val % 72 < 64 → arg12.view.read (Elt F) X12 y = gm y) :
    arg11.view.read (Elt F) (runC (F := F) c i arg2 harg2 arg3 harg3 arg4 harg4 arg5 harg5 arg6 harg6 arg7 harg7 arg8 harg8 arg9 harg9 arg10 harg10 arg11 harg11 arg12 harg12 arg13 harg13 arg14 harg14 h1 h2 h3 h4 X2 X3 X4 X5 X6 X7 X8 X9 X10 X11 X12 X13 X14).1.1 = pointV (arg2.view.read (Elt F) X2) (arg3.view.read (Elt F) X3) (arg4.view.read (Elt F) X4) gm i (arg11.view.read (Elt F) X11) := by
  unfold runC
  dsimp only
  have e := fun x => pb2_value c i arg2 harg2 arg3 harg3 arg4 harg4 arg5 harg5 arg6 harg6 arg7 harg7 arg8 harg8 arg9 harg9 arg10 harg10 arg11 harg11 arg12 harg12 arg13 harg13 arg14 harg14 x (View.readAt (Elt F) arg2.view (Rect.unit (s := S512x1024) ![0, 0] S512x1024.size inb_S512x1024_S512x1024_0_0).toLoadRect X2) X3 X4 X8 X12 X11 gm hgm X11 []
  simp only [List.append_nil] at e
  rw [whole_read X2 (fun a => by match a with | ⟨0, _⟩ => rfl | ⟨1, _⟩ => rfl)] at e
  rw [show Scf.trips 0#32 (Scalar.addi 0#32 2#32) 1#32 = 2 from by decide]
  have w := whole_read X2 (off := ![0, 0]) (fun a => by match a with | ⟨0, _⟩ => rfl | ⟨1, _⟩ => rfl) inb_S512x1024_S512x1024_0_0
  change View.readAt (Elt F) arg2.view (Rect.unit (s := S512x1024) ![0, 0] ![512, 1024] inb_S512x1024_S512x1024_0_0).toLoadRect X2 = _ at w
  rw [w]
  exact e _

end

section
variable  (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S8x128x128 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S36864x2x128 .bf16) (harg12 : arg12.IsWhole) (arg13 : Memref sig .tc .vmem S3x512x128 .f32) (harg13 : arg13.IsWhole) (arg14 : Memref sig .tc .vmem S3x4x128x128 .f32) (harg14 : arg14.IsWhole)
    (h1 : ¬ cond1 i = 1#1) (h2 : ¬ cond2 i = 1#1) (h3 : ¬ k0_cond3 i = 1#1) (h4 : cond4 i = 1#1)
    (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty)
    (X8 : BufTy.Contents (Elt F) arg8.view.ty) (X9 : BufTy.Contents (Elt F) arg9.view.ty) (X10 : BufTy.Contents (Elt F) arg10.view.ty)
    (X11 : BufTy.Contents (Elt F) arg11.view.ty) (X12 : BufTy.Contents (Elt F) arg12.view.ty) (X13 : BufTy.Contents (Elt F) arg13.view.ty)
    (X14 : BufTy.Contents (Elt F) arg14.view.ty)

theorem runD_words : (runD (F := F) c i arg2 harg2 arg3 harg3 arg4 harg4 arg5 harg5 arg6 harg6 arg7 harg7 arg8 harg8 arg9 harg9 arg10 harg10 arg11 harg11 arg12 harg12 arg13 harg13 arg14 harg14 h1 h2 h3 h4 X2 X3 X4 X5 X6 X7 X8 X9 X10 X11 X12 X13 X14).1.2.1 = X12 := by unfold runD; rfl

theorem runD_stage : (runD (F := F) c i arg2 harg2 arg3 harg3 arg4 harg4 arg5 harg5 arg6 harg6 arg7 harg7 arg8 harg8 arg9 harg9 arg10 harg10 arg11 harg11 arg12 harg12 arg13 harg13 arg14 harg14 h1 h2 h3 h4 X2 X3 X4 X5 X6 X7 X8 X9 X10 X11 X12 X13 X14).1.2.2.2 = arg14.view.writes (Elt F) X14 (stagePieces i arg8 u1 X8 ++ stagePieces i arg8 u0 X8) := by
  unfold runD; exact congrArg _ (pb2_stage ..)

theorem runD_value (gm : S36864x2x128.Idx → F .bf16) (hgm : ∀ y, (y 0).val % 72 < 64 → arg12.view.read (Elt F) X12 y = gm y) :
    arg11.view.read (Elt F) (runD (F := F) c i arg2 harg2 arg3 harg3 arg4 harg4 arg5 harg5 arg6 harg6 arg7 harg7 arg8 harg8 arg9 harg9 arg10 harg10 arg11 harg11 arg12 harg12 arg13 harg13 arg14 harg14 h1 h2 h3 h4 X2 X3 X4 X5 X6 X7 X8 X9 X10 X11 X12 X13 X14).1.1 = k0_pay16 (arg9.view.read (Elt F) X9) (pointV (arg2.view.read (Elt F) X2) (arg3.view.read (Elt F) X3) (arg4.view.read (Elt F) X4) gm i (arg11.view.read (Elt F) X11)) (arg10.view.read (Elt F) X10) := by
  unfold runD
  dsimp only
  have e := fun x => pb2_value c i arg2 harg2 arg3 harg3 arg4 harg4 arg5 harg5 arg6 harg6 arg7 harg7 arg8 harg8 arg9 harg9 arg10 harg10 arg11 harg11 arg12 harg12 arg13 harg13 arg14 harg14 x (View.readAt (Elt F) arg2.view (Rect.unit (s := S512x1024) ![0, 0] S512x1024.size inb_S512x1024_S512x1024_0_0).toLoadRect X2) X3 X4 X8 X12 X11 gm hgm X11 []
  simp only [List.append_nil] at e
  rw [whole_read X2 (fun a => by match a with | ⟨0, _⟩ => rfl | ⟨1, _⟩ => rfl)] at e
  refine (View.read_writes_full ..).trans ?_
  rw [whole_read X9 (fun a => by match a with | ⟨0, _⟩ => rfl | ⟨1, _⟩ => rfl), whole_read X10 (fun a => by match a with | ⟨0, _⟩ => rfl | ⟨1, _⟩ => rfl)]
  congr 1
  unfold runD.sl.v22
  rw [whole_read _ (fun a => by match a with | ⟨0, _⟩ => rfl | ⟨1, _⟩ => rfl)]
  rw [show Scf.trips 0#32 (Scalar.addi 0#32 2#32) 1#32 = 2 from by decide]
  have w := whole_read X2 (off := ![0, 0]) (fun a => by match a with | ⟨0, _⟩ => rfl | ⟨1, _⟩ => rfl) inb_S512x1024_S512x1024_0_0
  change View.readAt (Elt F) arg2.view (Rect.unit (s := S512x1024) ![0, 0] ![512, 1024] inb_S512x1024_S512x1024_0_0).toLoadRect X2 = _ at w
  rw [w]
  exact e _

end

section
variable  (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S8x128x128 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S36864x2x128 .bf16) (harg12 : arg12.IsWhole) (arg13 : Memref sig .tc .vmem S3x512x128 .f32) (harg13 : arg13.IsWhole) (arg14 : Memref sig .tc .vmem S3x4x128x128 .f32) (harg14 : arg14.IsWhole)
    (h1 : cond1 i = 1#1) (h2 : ¬ cond2 i = 1#1) (h3 : k0_cond3 i = 1#1) (h4 : ¬ cond4 i = 1#1)
    (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty)
    (X8 : BufTy.Contents (Elt F) arg8.view.ty) (X9 : BufTy.Contents (Elt F) arg9.view.ty) (X10 : BufTy.Contents (Elt F) arg10.view.ty)
    (X11 : BufTy.Contents (Elt F) arg11.view.ty) (X12 : BufTy.Contents (Elt F) arg12.view.ty) (X13 : BufTy.Contents (Elt F) arg13.view.ty)
    (X14 : BufTy.Contents (Elt F) arg14.view.ty)

theorem runA_words (y : S36864x2x128.Idx) (hy : (y 0).val % 72 < 64) : arg12.view.read (Elt F) (runA (F := F) c i arg2 harg2 arg3 harg3 arg4 harg4 arg5 harg5 arg6 harg6 arg7 harg7 arg8 harg8 arg9 harg9 arg10 harg10 arg11 harg11 arg12 harg12 arg13 harg13 arg14 harg14 h1 h2 h3 h4 X2 X3 X4 X5 X6 X7 X8 X9 X10 X11 X12 X13 X14).1.2.1 y = gmV (arg13.view.read (Elt F) (arg13.view.writes (Elt F) arg13.view.junk (runA.sl.H13_3 arg5 arg6 arg7 X5 X6 X7))) y := by
  unfold runA; exact gm_read Variants.none c none i arg2 harg2 arg3 harg3 arg4 harg4 arg5 harg5 arg6 harg6 arg7 harg7 arg8 harg8 arg9 harg9 arg10 harg10 arg11 harg11 arg12 harg12 arg13 harg13 arg14 harg14 h3 _ _ y hy

theorem runA_stage : (runA (F := F) c i arg2 harg2 arg3 harg3 arg4 harg4 arg5 harg5 arg6 harg6 arg7 harg7 arg8 harg8 arg9 harg9 arg10 harg10 arg11 harg11 arg12 harg12 arg13 harg13 arg14 harg14 h1 h2 h3 h4 X2 X3 X4 X5 X6 X7 X8 X9 X10 X11 X12 X13 X14).1.2.2.2 = arg14.view.writes (Elt F) X14 (stagePieces i arg8 u1 X8 ++ stagePieces i arg8 u0 X8) := by
  unfold runA; exact congrArg _ (pb2_stage ..)

theorem runA_value : arg11.view.read (Elt F) (runA (F := F) c i arg2 harg2 arg3 harg3 arg4 harg4 arg5 harg5 arg6 harg6 arg7 harg7 arg8 harg8 arg9 harg9 arg10 harg10 arg11 harg11 arg12 harg12 arg13 harg13 arg14 harg14 h1 h2 h3 h4 X2 X3 X4 X5 X6 X7 X8 X9 X10 X11 X12 X13 X14).1.1 = pointV (arg2.view.read (Elt F) X2) (arg3.view.read (Elt F) X3) (arg4.view.read (Elt F) X4) (gmV (arg13.view.read (Elt F) (arg13.view.writes (Elt F) arg13.view.junk (runA.sl.H13_3 arg5 arg6 arg7 X5 X6 X7)))) i k0_pay8 := by
  unfold runA
  dsimp only
  have e := fun x => pb2_value c i arg2 harg2 arg3 harg3 arg4 harg4 arg5 harg5 arg6 harg6 arg7 harg7 arg8 harg8 arg9 harg9 arg10 harg10 arg11 harg11 arg12 harg12 arg13 harg13 arg14 harg14 x (View.readAt (Elt F) arg2.view (Rect.unit (s := S512x1024) ![0, 0] S512x1024.size inb_S512x1024_S512x1024_0_0).toLoadRect X2) X3 X4 X8 _
    (arg11.view.writes (Elt F) arg11.view.junk runA.sl.H11_1) _ (fun y hy => gm_read Variants.none c none i arg2 harg2 arg3 harg3 arg4 harg4 arg5 harg5 arg6 harg6 arg7 harg7 arg8 harg8 arg9 harg9 arg10 harg10 arg11 harg11 arg12 harg12 arg13 harg13 arg14 harg14 h3 (arg13.view.writes (Elt F) arg13.view.junk (runA.sl.H13_3 arg5 arg6 arg7 X5 X6 X7)) X12 y hy) arg11.view.junk runA.sl.H11_1
  rw [whole_read X2 (fun a => by match a with | ⟨0, _⟩ => rfl | ⟨1, _⟩ => rfl), show arg11.view.read (Elt F) (arg11.view.writes (Elt F) arg11.view.junk runA.sl.H11_1) = k0_pay8 from by
    unfold runA.sl.H11_1; exact View.read_writes_full ..] at e
  rw [show Scf.trips 0#32 (Scalar.addi 0#32 8#32) 1#32 = 8 from by decide, show Scf.trips 0#32 (Scalar.addi 0#32 2#32) 1#32 = 2 from by decide]
  have w := whole_read X2 (off := ![0, 0]) (fun a => by match a with | ⟨0, _⟩ => rfl | ⟨1, _⟩ => rfl) inb_S512x1024_S512x1024_0_0
  change View.readAt (Elt F) arg2.view (Rect.unit (s := S512x1024) ![0, 0] ![512, 1024] inb_S512x1024_S512x1024_0_0).toLoadRect X2 = _ at w
  rw [w]
  exact e _

end

section
variable  (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S8x128x128 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S36864x2x128 .bf16) (harg12 : arg12.IsWhole) (arg13 : Memref sig .tc .vmem S3x512x128 .f32) (harg13 : arg13.IsWhole) (arg14 : Memref sig .tc .vmem S3x4x128x128 .f32) (harg14 : arg14.IsWhole)
    (h1 : ¬ cond1 i = 1#1) (h2 : cond2 i = 1#1) (h3 : k0_cond3 i = 1#1) (h4 : ¬ cond4 i = 1#1)
    (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty)
    (X8 : BufTy.Contents (Elt F) arg8.view.ty) (X9 : BufTy.Contents (Elt F) arg9.view.ty) (X10 : BufTy.Contents (Elt F) arg10.view.ty)
    (X11 : BufTy.Contents (Elt F) arg11.view.ty) (X12 : BufTy.Contents (Elt F) arg12.view.ty) (X13 : BufTy.Contents (Elt F) arg13.view.ty)
    (X14 : BufTy.Contents (Elt F) arg14.view.ty)

theorem runB_words (y : S36864x2x128.Idx) (hy : (y 0).val % 72 < 64) : arg12.view.read (Elt F) (runB (F := F) c i arg2 harg2 arg3 harg3 arg4 harg4 arg5 harg5 arg6 harg6 arg7 harg7 arg8 harg8 arg9 harg9 arg10 harg10 arg11 harg11 arg12 harg12 arg13 harg13 arg14 harg14 h1 h2 h3 h4 X2 X3 X4 X5 X6 X7 X8 X9 X10 X11 X12 X13 X14).1.2.1 y = gmV (arg13.view.read (Elt F) (arg13.view.writes (Elt F) arg13.view.junk (runB.sl.H13_12 arg14 X14))) y := by
  unfold runB; exact gm_read Variants.none c none i arg2 harg2 arg3 harg3 arg4 harg4 arg5 harg5 arg6 harg6 arg7 harg7 arg8 harg8 arg9 harg9 arg10 harg10 arg11 harg11 arg12 harg12 arg13 harg13 arg14 harg14 h3 _ _ y hy

theorem runB_stage : (runB (F := F) c i arg2 harg2 arg3 harg3 arg4 harg4 arg5 harg5 arg6 harg6 arg7 harg7 arg8 harg8 arg9 harg9 arg10 harg10 arg11 harg11 arg12 harg12 arg13 harg13 arg14 harg14 h1 h2 h3 h4 X2 X3 X4 X5 X6 X7 X8 X9 X10 X11 X12 X13 X14).1.2.2.2 = arg14.view.writes (Elt F) X14 (stagePieces i arg8 u1 X8 ++ stagePieces i arg8 u0 X8) := by
  unfold runB; exact congrArg _ (pb2_stage ..)

theorem runB_value : arg11.view.read (Elt F) (runB (F := F) c i arg2 harg2 arg3 harg3 arg4 harg4 arg5 harg5 arg6 harg6 arg7 harg7 arg8 harg8 arg9 harg9 arg10 harg10 arg11 harg11 arg12 harg12 arg13 harg13 arg14 harg14 h1 h2 h3 h4 X2 X3 X4 X5 X6 X7 X8 X9 X10 X11 X12 X13 X14).1.1 = pointV (arg2.view.read (Elt F) X2) (arg3.view.read (Elt F) X3) (arg4.view.read (Elt F) X4) (gmV (arg13.view.read (Elt F) (arg13.view.writes (Elt F) arg13.view.junk (runB.sl.H13_12 arg14 X14)))) i k0_pay8 := by
  unfold runB
  dsimp only
  have e := fun x => pb2_value c i arg2 harg2 arg3 harg3 arg4 harg4 arg5 harg5 arg6 harg6 arg7 harg7 arg8 harg8 arg9 harg9 arg10 harg10 arg11 harg11 arg12 harg12 arg13 harg13 arg14 harg14 x (View.readAt (Elt F) arg2.view (Rect.unit (s := S512x1024) ![0, 0] S512x1024.size inb_S512x1024_S512x1024_0_0).toLoadRect X2) X3 X4 X8 _
    (arg11.view.writes (Elt F) arg11.view.junk runB.sl.H11_1) _ (fun y hy => gm_read Variants.none c none i arg2 harg2 arg3 harg3 arg4 harg4 arg5 harg5 arg6 harg6 arg7 harg7 arg8 harg8 arg9 harg9 arg10 harg10 arg11 harg11 arg12 harg12 arg13 harg13 arg14 harg14 h3 (arg13.view.writes (Elt F) arg13.view.junk (runB.sl.H13_12 arg14 X14)) X12 y hy) arg11.view.junk runB.sl.H11_1
  rw [whole_read X2 (fun a => by match a with | ⟨0, _⟩ => rfl | ⟨1, _⟩ => rfl), show arg11.view.read (Elt F) (arg11.view.writes (Elt F) arg11.view.junk runB.sl.H11_1) = k0_pay8 from by
    unfold runB.sl.H11_1; exact View.read_writes_full ..] at e
  rw [show Scf.trips 0#32 (Scalar.addi 0#32 8#32) 1#32 = 8 from by decide, show Scf.trips 0#32 (Scalar.addi 0#32 2#32) 1#32 = 2 from by decide]
  have w := whole_read X2 (off := ![0, 0]) (fun a => by match a with | ⟨0, _⟩ => rfl | ⟨1, _⟩ => rfl) inb_S512x1024_S512x1024_0_0
  change View.readAt (Elt F) arg2.view (Rect.unit (s := S512x1024) ![0, 0] ![512, 1024] inb_S512x1024_S512x1024_0_0).toLoadRect X2 = _ at w
  rw [w]
  exact e _

end

end Cert.KernelWordsIdeal.Hand
end
-- ==== Proof.ExactQI.lean ====
/-
  Hand-written. `KernelWordsIdeal`'s one call with its result named: the blocks each grid point finds and leaves in the result,
  as a recursion over the grid, and the run of the whole program with the result's array at those blocks.
-/
module

public import proofs.«01_k».proof.Proof.RunValQI
public import proofs.«01_k».proof.Proof.FrameQI

@[expose] public section

set_option maxRecDepth 8192

noncomputable section

namespace Cert.KernelWordsIdeal.Exact

open Cert.KernelWordsIdeal Cert.KernelWordsIdeal.Gen Cert.KernelWordsIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.ValueIdx

variable {F : FTy → Type} [FloatOps F]

local notation "𝕄G" => MT nD τ sig Unit (Elt F) ℕ (UR sig nD τ) ℕ

local notation "𝒱₀" => (Variants.none : Variants)

/-- The selection of the first tile: first factors, second factors, gates. -/
def selStack (a b g : Vec F S512x128 .f32) : S3x512x128.Idx → F .f32 := fun y =>
  if (y 0).val = 0 then a (ix2 (y 1) (y 2)) else if (y 0).val = 1 then b (ix2 (y 1) (y 2)) else g (ix2 (y 1) (y 2))

theorem slab_cast (v : Vec F S512x128 .f32) (x : S1x512x128.Idx) : shapeCast (α := F .f32) S1x512x128 v shapeCasts_S512x128_S1x512x128 x = v (ix2 (x 1) (x 2)) := by
  refine shapeCast_apply _ _ _ _ ?_
  have hx : (x 0).val < 1 := (x 0).isLt
  rw [Shape.rowMajor_val_two, Shape.rowMajor_val_three]
  show (x 1).val * 128 + (x 2).val = ((x 0).val * 512 + (x 1).val) * 128 + (x 2).val
  omega

theorem slab_self (v : Vec F S512x128 .f32) : shapeCast (α := F .f32) S512x128 v shapeCasts_S512x128_S512x128 = v := by
  funext x; exact shapeCast_apply _ _ _ _ rfl

theorem selA_read {arg13 : Memref sig .tc .vmem S3x512x128 .f32} (arg5 arg6 arg7 : Memref sig .tc .vmem S512x128 .f32) (X5 : BufTy.Contents (Elt F) arg5.view.ty) (X6 : BufTy.Contents (Elt F) arg6.view.ty)
    (X7 : BufTy.Contents (Elt F) arg7.view.ty) : arg13.view.read (Elt F) (arg13.view.writes (Elt F) arg13.view.junk (runA.sl.H13_3 arg5 arg6 arg7 X5 X6 X7))
      = selStack (arg5.view.read (Elt F) X5) (arg6.view.read (Elt F) X6) (arg7.view.read (Elt F) X7) := by
  have w5 : View.readAt (Elt F) arg5.view (Rect.unit (s := S512x128) ![0, 0] S512x128.size inb_S512x128_S512x128_0_0).toLoadRect X5 = arg5.view.read (Elt F) X5 :=
    whole_read X5 (fun a => by match a with | ⟨0, _⟩ => rfl | ⟨1, _⟩ => rfl) _
  have w6 : View.readAt (Elt F) arg6.view (Rect.unit (s := S512x128) ![0, 0] S512x128.size inb_S512x128_S512x128_0_0).toLoadRect X6 = arg6.view.read (Elt F) X6 :=
    whole_read X6 (fun a => by match a with | ⟨0, _⟩ => rfl | ⟨1, _⟩ => rfl) _
  have w7 : View.readAt (Elt F) arg7.view (Rect.unit (s := S512x128) ![0, 0] S512x128.size inb_S512x128_S512x128_0_0).toLoadRect X7 = arg7.view.read (Elt F) X7 :=
    whole_read X7 (fun a => by match a with | ⟨0, _⟩ => rfl | ⟨1, _⟩ => rfl) _
  unfold runA.sl.H13_3
  rw [w5, w6, w7]
  funext y
  have h0 : (y 0).val < 3 := (y 0).isLt
  have h1 : (y 1).val < 512 := (y 1).isLt
  have h2 : (y 2).val < 128 := (y 2).isLt
  refine View.read_writes_apply_of_pieces _ _ _ _ ?_ y ?_
  · intro p hp x
    have key : ∀ (q : Fin 3) (v : Vec F S512x128 .f32) (inb : ∀ a, (![q.val, 0, 0] : Fin 3 → ℕ) a + S1x512x128.size a ≤ S3x512x128.size a) (x : S1x512x128.Idx),
        v = (![arg5.view.read (Elt F) X5, arg6.view.read (Elt F) X6, arg7.view.read (Elt F) X7] : Fin 3 → Vec F S512x128 .f32) q →
        shapeCast (α := F .f32) S1x512x128 v shapeCasts_S512x128_S1x512x128 x
          = selStack (arg5.view.read (Elt F) X5) (arg6.view.read (Elt F) X6) (arg7.view.read (Elt F) X7) ((Rect.unit (s := S3x512x128) ![q.val, 0, 0] S1x512x128.size inb).emb x) := by
      intro q v inb x hv
      have hx : (x 0).val < 1 := (x 0).isLt
      rw [slab_cast, hv]
      unfold selStack
      have e0 : ((Rect.unit (s := S3x512x128) ![q.val, 0, 0] S1x512x128.size inb).emb x 0).val = q.val := by
        show q.val + 1 * (x 0).val = q.val; omega
      have e1 : (Rect.unit (s := S3x512x128) ![q.val, 0, 0] S1x512x128.size inb).emb x 1 = x 1 := Fin.ext (by show 0 + 1 * (x 1).val = (x 1).val; omega)
      have e2 : (Rect.unit (s := S3x512x128) ![q.val, 0, 0] S1x512x128.size inb).emb x 2 = x 2 := Fin.ext (by show 0 + 1 * (x 2).val = (x 2).val; omega)
      rw [e0, e1, e2]
      match q with
      | ⟨0, _⟩ => exact (if_pos rfl).symm
      | ⟨1, _⟩ => exact ((if_neg Nat.one_ne_zero).trans (if_pos rfl)).symm
      | ⟨2, _⟩ => exact ((if_neg (show ¬ (2 : ℕ) = 0 by omega)).trans (if_neg (show ¬ (2 : ℕ) = 1 by omega))).symm
    rcases List.mem_cons.mp hp with rfl | hp
    · exact key 2 _ inb_S3x512x128_S1x512x128_2_0_0 x rfl
    rcases List.mem_cons.mp hp with rfl | hp
    · exact key 1 _ inb_S3x512x128_S1x512x128_1_0_0 x (slab_self _)
    rcases List.mem_cons.mp hp with rfl | hp
    · exact key 0 _ inb_S3x512x128_S1x512x128_0_0_0 x (slab_self _)
    exact absurd hp List.not_mem_nil
  · have cov : ∀ q : Fin 3, (y 0).val = q.val → ∀ inb, y ∈ (Rect.unit (s := S3x512x128) ![q.val, 0, 0] S1x512x128.size inb).set := by
      intro q hq inb
      rw [Rect.mem_set_unit]
      intro a
      match a with
      | ⟨0, _⟩ => show q.val ≤ (y 0).val ∧ (y 0).val < q.val + 1; omega
      | ⟨1, _⟩ => show 0 ≤ (y 1).val ∧ (y 1).val < 0 + 512; omega
      | ⟨2, _⟩ => show 0 ≤ (y 2).val ∧ (y 2).val < 0 + 128; omega
    rcases (by omega : (y 0).val = 0 ∨ (y 0).val = 1 ∨ (y 0).val = 2) with h | h | h
    · exact ⟨_, List.mem_cons_of_mem _ (List.mem_cons_of_mem _ (List.mem_singleton.mpr rfl)), cov 0 h inb_S3x512x128_S1x512x128_0_0_0⟩
    · exact ⟨_, List.mem_cons_of_mem _ List.mem_cons_self, cov 1 h inb_S3x512x128_S1x512x128_1_0_0⟩
    · exact ⟨_, List.mem_cons_self, cov 2 h inb_S3x512x128_S1x512x128_2_0_0⟩

/-- A grid point's number as a point of the grid. -/
abbrev pnt (n : ℕ) (h : n < 256) : Fin cfg0.N := ⟨n, h⟩

theorem coords_one : ∀ t : Fin cfg0.N, (cfg0.grid.coords t 1).val = t.val % 8 := by decide +kernel

/-- Which kind of grid point each is. -/
theorem kindOf : ∀ t : Fin cfg0.N,
    (t.val = 0 ∧ cond1 (grid0.coords t) = 1#1 ∧ ¬ cond2 (grid0.coords t) = 1#1 ∧ k0_cond3 (grid0.coords t) = 1#1 ∧ ¬ cond4 (grid0.coords t) = 1#1)
    ∨ (t.val ≠ 0 ∧ t.val % 8 = 0 ∧ ¬ cond1 (grid0.coords t) = 1#1 ∧ cond2 (grid0.coords t) = 1#1 ∧ k0_cond3 (grid0.coords t) = 1#1 ∧ ¬ cond4 (grid0.coords t) = 1#1)
    ∨ (t.val % 8 ≠ 0 ∧ t.val % 8 ≠ 7 ∧ ¬ cond1 (grid0.coords t) = 1#1 ∧ ¬ cond2 (grid0.coords t) = 1#1 ∧ ¬ k0_cond3 (grid0.coords t) = 1#1 ∧ ¬ cond4 (grid0.coords t) = 1#1)
    ∨ (t.val % 8 = 7 ∧ ¬ cond1 (grid0.coords t) = 1#1 ∧ ¬ cond2 (grid0.coords t) = 1#1 ∧ ¬ k0_cond3 (grid0.coords t) = 1#1 ∧ cond4 (grid0.coords t) = 1#1) := by
  decide +kernel

variable (m : (ℓ : Loc nD τ sig) → Buf (Elt F) ℓ) (ρ : Dev nD → PrngReg)

/-- The pieces a grid point stages. -/
def stgP (c : Dev nD) (t : Fin cfg0.N) : List (View.Piece (Elt F) S3x4x128x128 .f32) :=
  stagePieces (grid0.coords t) (win0_6.stage (cfg0.slots t 6)) u1 (Memref.IsWhole.unread (hstage0_6 ((cfg0.slots t 6).cast nbuf0_6)) (iblk m c 6 t)) ++ stagePieces (grid0.coords t) (win0_6.stage (cfg0.slots t 6)) u0 (Memref.IsWhole.unread (hstage0_6 ((cfg0.slots t 6).cast nbuf0_6)) (iblk m c 6 t))

/-- The pieces a tile's grid points have staged up to and with point `n`. -/
def lst (c : Dev nD) : (n : ℕ) → n < 256 → List (View.Piece (Elt F) S3x4x128x128 .f32)
  | 0, h => stgP m c (pnt 0 h)
  | n + 1, h => if (n + 1) % 8 = 0 then stgP m c (pnt (n + 1) h) else stgP m c (pnt (n + 1) h) ++ lst c n (Nat.lt_of_succ_lt h)

/-- The selection of tile `q`: the first's from the inputs, a later one's from what the tile before it staged. -/
def selT (c : Dev nD) : (q : ℕ) → q < 32 → S3x512x128.Idx → F .f32
  | 0, _ => selStack (iblk m c 3 (pnt 0 (by omega))) (iblk m c 4 (pnt 0 (by omega))) (iblk m c 5 (pnt 0 (by omega)))
  | q + 1, h => (Memref.whole cc0_scratch1).view.read (Elt F) ((Memref.whole cc0_scratch1).view.writes (Elt F) (Memref.whole cc0_scratch1).view.junk
      (runB.sl.H13_12 (Memref.whole cc0_scratch2) ((Memref.whole cc0_scratch2).view.writes (Elt F) (Memref.whole cc0_scratch2).view.junk (lst m c (8 * q + 7) (by omega)))))

/-- The result after point `n`'s two trips, from what it finds. -/
def stepN (c : Dev nD) (n : ℕ) (h : n < 256) (acc : Vec F S512x1024 .f32) : FVec F S512x1024 .f32 :=
  pointV (iblk m c 0 (pnt n h)) (iblk m c 1 (pnt n h)) (iblk m c 2 (pnt n h)) (gmV (selT m c (n / 8) (by omega))) (grid0.coords (pnt n h)) acc

/-- The result's block after point `n`. -/
def outN (c : Dev nD) : (n : ℕ) → n < 256 → FVec F S512x1024 .f32
  | 0, h => stepN m c 0 h k0_pay8
  | n + 1, h => if (n + 1) % 8 = 0 then stepN m c (n + 1) h k0_pay8
      else if (n + 1) % 8 = 7 then k0_pay16 (iblk m c 7 (pnt (n + 1) h)) (stepN m c (n + 1) h (outN c n (Nat.lt_of_succ_lt h))) (iblk m c 8 (pnt (n + 1) h))
      else stepN m c (n + 1) h (outN c n (Nat.lt_of_succ_lt h))

theorem lst_last (c : Dev nD) : ∀ (d n : ℕ) (h : n < 256), d ≤ n % 8 → ∀ p ∈ stgP m c (pnt (n - d) (by omega)), p ∈ lst m c n h
  | 0, 0, _, _, p, hp => hp
  | 0, n + 1, h, _, p, hp => by
    unfold lst
    split
    · exact hp
    · exact List.mem_append_left _ hp
  | d + 1, 0, _, hd, _, _ => absurd hd (by omega)
  | d + 1, n + 1, h, hd, p, hp => by
    unfold lst
    rw [if_neg (by omega)]
    refine List.mem_append_right _ (lst_last c d n _ (by omega) p ?_)
    have e : n + 1 - (d + 1) = n - d := by omega
    simpa only [e] using hp

theorem lst_cover (c : Dev nD) (n : ℕ) (h : n < 256) (h7 : n % 8 = 7) (y : S3x4x128x128.Idx) : ∃ p ∈ lst m c n h, y ∈ p.1.set := by
  have h1 : (y 1).val < 4 := (y 1).isLt
  have h2 : (y 2).val < 128 := (y 2).isLt
  have hj : (4 * (y 1).val + (y 2).val / 32) / 2 ≤ 7 := by omega
  obtain ⟨d, hd⟩ : ∃ d, d = 7 - (4 * (y 1).val + (y 2).val / 32) / 2 := ⟨_, rfl⟩
  obtain ⟨t, ht⟩ : ∃ t, t = pnt (n - d) (by omega) := ⟨_, rfl⟩
  have hc : ((grid0.coords t) 1).val = (4 * (y 1).val + (y 2).val / 32) / 2 :=
    (coords_one t).trans (by rw [ht]; show (n - d) % 8 = _; omega)
  have go : ∀ k : Fin k0_t2_loop.trips, k.val = (4 * (y 1).val + (y 2).val / 32) % 2 →
      (∀ p ∈ stagePieces (grid0.coords t) (win0_6.stage (cfg0.slots t 6)) k (Memref.IsWhole.unread (hstage0_6 ((cfg0.slots t 6).cast nbuf0_6)) (iblk m c 6 t)), p ∈ stgP m c t) →
      ∃ p ∈ lst m c n h, y ∈ p.1.set := by
    intro k hk hsub
    obtain ⟨p, hp, hy⟩ := stage_mem (grid0.coords t) (win0_6.stage (cfg0.slots t 6)) k (Memref.IsWhole.unread (hstage0_6 ((cfg0.slots t 6).cast nbuf0_6)) (iblk m c 6 t)) y
      (by rw [hc, hk]; omega) (by rw [hc, hk]; omega)
    exact ⟨p, lst_last m c d n h (by omega) p (by rw [← ht]; exact hsub p hp), hy⟩
  rcases (by omega : (4 * (y 1).val + (y 2).val / 32) % 2 = 0 ∨ (4 * (y 1).val + (y 2).val / 32) % 2 = 1) with hk | hk
  · exact go u0 hk.symm fun p hp => List.mem_append_right _ hp
  · exact go u1 hk.symm fun p hp => List.mem_append_left _ hp

theorem lst_full (c : Dev nD) (n : ℕ) (h : n < 256) (h7 : n % 8 = 7) (G : BufTy.Contents (Elt F) (Memref.whole cc0_scratch2).view.ty) :
    (Memref.whole cc0_scratch2).view.writes (Elt F) G (lst m c n h)
      = (Memref.whole cc0_scratch2).view.writes (Elt F) (Memref.whole cc0_scratch2).view.junk (lst m c n h) := by
  refine (Memref.isWhole_whole cc0_scratch2).read_bijective.1 (funext fun y => ?_)
  exact View.read_writes_apply_eq _ _ _ _ y _ (lst_cover m c n h h7 y)

/-- What holds of the gate words and of the staging scratch before point `n`. -/
def Inv (c : Dev nD) : (n : ℕ) → n ≤ 256 → BufTy.Contents (Elt F) (Memref.whole cc0_scratch0).view.ty → BufTy.Contents (Elt F) (Memref.whole cc0_scratch2).view.ty → Prop
  | 0, _, _, _ => True
  | n + 1, h, s0, s2 => (∀ y, (y 0).val % 72 < 64 → (Memref.whole cc0_scratch0).view.read (Elt F) s0 y = gmV (selT m c (n / 8) (by omega)) y)
      ∧ ∃ G, s2 = (Memref.whole cc0_scratch2).view.writes (Elt F) G (lst m c n h)

theorem selT_congr (c : Dev nD) {q q' : ℕ} (e : q = q') (h : q < 32) (h' : q' < 32) : selT m c q h = selT m c q' h' := by
  subst e; rfl

theorem lst_congr (c : Dev nD) {n n' : ℕ} (e : n = n') (h : n < 256) (h' : n' < 256) : lst m c n h = lst m c n' h' := by
  subst e; rfl

theorem outN_first (c : Dev nD) (t : Fin cfg0.N) (h : t.val % 8 = 0) : outN m c t.val t.isLt = stepN m c t.val t.isLt k0_pay8 := by
  obtain ⟨n, hn⟩ := t
  cases n with
  | zero => rfl
  | succ n => exact if_pos h

theorem outN_mid (c : Dev nD) (t : Fin cfg0.N) (h : t.val % 8 ≠ 0) (h' : t.val % 8 ≠ 7) :
    outN m c t.val t.isLt = stepN m c t.val t.isLt (outN m c (t.val - 1) (Nat.lt_of_le_of_lt (Nat.sub_le _ _) t.isLt)) := by
  obtain ⟨n, hn⟩ := t
  cases n with
  | zero => exact absurd rfl h
  | succ n => exact (if_neg h).trans (if_neg h')

theorem outN_last (c : Dev nD) (t : Fin cfg0.N) (h : t.val % 8 = 7) :
    outN m c t.val t.isLt = k0_pay16 (iblk m c 7 t) (stepN m c t.val t.isLt (outN m c (t.val - 1) (Nat.lt_of_le_of_lt (Nat.sub_le _ _) t.isLt))) (iblk m c 8 t) := by
  obtain ⟨n, hn⟩ := t
  cases n with
  | zero => exact absurd (show 0 % 8 = 7 from h) (by decide)
  | succ n => exact (if_neg (by have : (n + 1) % 8 = 7 := h; omega)).trans (if_pos h)

theorem lst_first (c : Dev nD) (t : Fin cfg0.N) (h : t.val % 8 = 0) : lst m c t.val t.isLt = stgP m c t := by
  obtain ⟨n, hn⟩ := t
  cases n with
  | zero => rfl
  | succ n => exact if_pos h

theorem lst_next (c : Dev nD) (t : Fin cfg0.N) (h : t.val % 8 ≠ 0) :
    lst m c t.val t.isLt = stgP m c t ++ lst m c (t.val - 1) (Nat.lt_of_le_of_lt (Nat.sub_le _ _) t.isLt) := by
  obtain ⟨n, hn⟩ := t
  cases n with
  | zero => exact absurd rfl h
  | succ n => exact if_neg h

theorem inv_prev (c : Dev nD) (t : Fin cfg0.N) (h : t.val ≠ 0) (s0 : BufTy.Contents (Elt F) (Memref.whole cc0_scratch0).view.ty) (s2 : BufTy.Contents (Elt F) (Memref.whole cc0_scratch2).view.ty)
    (hI : Inv m c t.val (Nat.le_of_lt t.isLt) s0 s2) :
    (t.val % 8 ≠ 0 → ∀ y, (y 0).val % 72 < 64 → (Memref.whole cc0_scratch0).view.read (Elt F) s0 y = gmV (selT m c (t.val / 8) (Nat.div_lt_of_lt_mul t.isLt)) y)
      ∧ (∃ G, s2 = (Memref.whole cc0_scratch2).view.writes (Elt F) G (lst m c (t.val - 1) (Nat.lt_of_le_of_lt (Nat.sub_le _ _) t.isLt)))
      ∧ (t.val % 8 = 0 → (Memref.whole cc0_scratch1).view.read (Elt F) ((Memref.whole cc0_scratch1).view.writes (Elt F) (Memref.whole cc0_scratch1).view.junk
        (runB.sl.H13_12 (Memref.whole cc0_scratch2) s2)) = selT m c (t.val / 8) (Nat.div_lt_of_lt_mul t.isLt)) := by
  obtain ⟨n, hn⟩ := t
  cases n with
  | zero => exact absurd rfl h
  | succ n =>
    have hn' : n + 1 < 256 := hn
    obtain ⟨hg, G, hG⟩ := hI
    refine ⟨fun h8 => ?_, ⟨G, hG⟩, fun h8 => ?_⟩
    · change (n + 1) % 8 ≠ 0 at h8
      have hq : (n + 1) / 8 = n / 8 := by omega
      rw [selT_congr m c hq _ (by omega)]; exact hg
    · change (n + 1) % 8 = 0 at h8
      have hq : (n + 1) / 8 = n / 8 + 1 := by omega
      have hn7 : 8 * (n / 8) + 7 = n := by omega
      rw [hG, lst_full m c n _ (by omega), selT_congr m c hq _ (by omega), lst_congr m c hn7.symm _ (by omega)]
      rfl

/-- The recursion's invariant at the next point, from what holds after this one. -/
theorem inv_next (c : Dev nD) (t : Fin cfg0.N) (s0 : BufTy.Contents (Elt F) (Memref.whole cc0_scratch0).view.ty) (s2 : BufTy.Contents (Elt F) (Memref.whole cc0_scratch2).view.ty)
    (hg : ∀ y, (y 0).val % 72 < 64 → (Memref.whole cc0_scratch0).view.read (Elt F) s0 y = gmV (selT m c (t.val / 8) (Nat.div_lt_of_lt_mul t.isLt)) y)
    (h2 : ∃ G, s2 = (Memref.whole cc0_scratch2).view.writes (Elt F) G (lst m c t.val t.isLt)) : Inv m c (t.val + 1) t.isLt s0 s2 := ⟨hg, h2⟩

/-- What the body leaves at a grid point of this kind. -/
theorem leftA (c : Dev nD) (t : Fin cfg0.N) (f0 : BufTy.Contents (Elt F) (win0_0.stage (cfg0.slots t 0)).view.ty) (f1 : BufTy.Contents (Elt F) (win0_1.stage (cfg0.slots t 1)).view.ty) (f2 : BufTy.Contents (Elt F) (win0_2.stage (cfg0.slots t 2)).view.ty) (f3 : BufTy.Contents (Elt F) (win0_3.stage (cfg0.slots t 3)).view.ty) (f4 : BufTy.Contents (Elt F) (win0_4.stage (cfg0.slots t 4)).view.ty) (f5 : BufTy.Contents (Elt F) (win0_5.stage (cfg0.slots t 5)).view.ty) (f6 : BufTy.Contents (Elt F) (win0_6.stage (cfg0.slots t 6)).view.ty) (f7 : BufTy.Contents (Elt F) (win0_7.stage (cfg0.slots t 7)).view.ty) (f8 : BufTy.Contents (Elt F) (win0_8.stage (cfg0.slots t 8)).view.ty) (f9 : BufTy.Contents (Elt F) (win0_9.stage (cfg0.slots t 9)).view.ty) (s0 : BufTy.Contents (Elt F) (Memref.whole cc0_scratch0).view.ty) (s1 : BufTy.Contents (Elt F) (Memref.whole cc0_scratch1).view.ty)
    (s2 : BufTy.Contents (Elt F) (Memref.whole cc0_scratch2).view.ty) (e0 : (win0_0.stage (cfg0.slots t 0)).view.read (Elt F) f0 = iblk m c 0 t) (e1 : (win0_1.stage (cfg0.slots t 1)).view.read (Elt F) f1 = iblk m c 1 t) (e2 : (win0_2.stage (cfg0.slots t 2)).view.read (Elt F) f2 = iblk m c 2 t) (e3 : (win0_3.stage (cfg0.slots t 3)).view.read (Elt F) f3 = iblk m c 3 t) (e4 : (win0_4.stage (cfg0.slots t 4)).view.read (Elt F) f4 = iblk m c 4 t) (e5 : (win0_5.stage (cfg0.slots t 5)).view.read (Elt F) f5 = iblk m c 5 t) (e6 : (win0_6.stage (cfg0.slots t 6)).view.read (Elt F) f6 = iblk m c 6 t) (e7 : (win0_7.stage (cfg0.slots t 7)).view.read (Elt F) f7 = iblk m c 7 t) (e8 : (win0_8.stage (cfg0.slots t 8)).view.read (Elt F) f8 = iblk m c 8 t)
    (e9 : ∀ h : t.val % 8 ≠ 0, (win0_9.stage (cfg0.slots t 9)).view.read (Elt F) f9 = outN m c (t.val - 1) (Nat.lt_of_le_of_lt (Nat.sub_le _ _) t.isLt)) (hI : Inv m c t.val (Nat.le_of_lt t.isLt) s0 s2) (ht : t.val = 0) (h1 : cond1 (grid0.coords t) = 1#1) (h2 : ¬ cond2 (grid0.coords t) = 1#1) (h3 : k0_cond3 (grid0.coords t) = 1#1) (h4 : ¬ cond4 (grid0.coords t) = 1#1) :
    (win0_9.stage (cfg0.slots t 9)).view.read (Elt F) ((runA (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) h1 h2 h3 h4 f0 f1 f2 f3 f4 f5 f6 f7 f8 f9 s0 s1 s2).1).1 = outN m c t.val t.isLt ∧ Inv m c (t.val + 1) t.isLt ((runA (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) h1 h2 h3 h4 f0 f1 f2 f3 f4 f5 f6 f7 f8 f9 s0 s1 s2).1).2.1 ((runA (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) h1 h2 h3 h4 f0 f1 f2 f3 f4 f5 f6 f7 f8 f9 s0 s1 s2).1).2.2.2 := by
  have e6' := Memref.IsWhole.eq_unread (hstage0_6 ((cfg0.slots t 6).cast nbuf0_6)) e6
  have hsel := (selA_read (arg13 := Memref.whole cc0_scratch1) (win0_3.stage (cfg0.slots t 3)) (win0_4.stage (cfg0.slots t 4)) (win0_5.stage (cfg0.slots t 5)) f3 f4 f5).trans (by rw [e3, e4, e5] : _ = selStack (iblk m c 3 t) (iblk m c 4 t) (iblk m c 5 t))
  have ht8 : t.val % 8 = 0 := by omega
  have hT : selStack (iblk m c 3 t) (iblk m c 4 t) (iblk m c 5 t) = selT m c (t.val / 8) (Nat.div_lt_of_lt_mul t.isLt) := by
    clear * - ht
    obtain ⟨n, hn⟩ := t
    obtain rfl : n = 0 := ht
    exact (selT_congr m c (show 0 / 8 = 0 from rfl) _ (by omega)).symm
  refine ⟨(runA_value c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) h1 h2 h3 h4 f0 f1 f2 f3 f4 f5 f6 f7 f8 f9 s0 s1 s2).trans ?_, inv_next m c t _ _ (fun y hy => (runA_words c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) h1 h2 h3 h4 f0 f1 f2 f3 f4 f5 f6 f7 f8 f9 s0 s1 s2 y hy).trans ?_) ⟨s2, (runA_stage c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) h1 h2 h3 h4 f0 f1 f2 f3 f4 f5 f6 f7 f8 f9 s0 s1 s2).trans ?_⟩⟩
  · rw [hsel, e0, e1, e2, hT, outN_first m c t ht8]; rfl
  · rw [hsel, hT]
  · rw [e6', lst_first m c t ht8]; rfl
/-- What the body leaves at a grid point of this kind. -/
theorem leftB (c : Dev nD) (t : Fin cfg0.N) (f0 : BufTy.Contents (Elt F) (win0_0.stage (cfg0.slots t 0)).view.ty) (f1 : BufTy.Contents (Elt F) (win0_1.stage (cfg0.slots t 1)).view.ty) (f2 : BufTy.Contents (Elt F) (win0_2.stage (cfg0.slots t 2)).view.ty) (f3 : BufTy.Contents (Elt F) (win0_3.stage (cfg0.slots t 3)).view.ty) (f4 : BufTy.Contents (Elt F) (win0_4.stage (cfg0.slots t 4)).view.ty) (f5 : BufTy.Contents (Elt F) (win0_5.stage (cfg0.slots t 5)).view.ty) (f6 : BufTy.Contents (Elt F) (win0_6.stage (cfg0.slots t 6)).view.ty) (f7 : BufTy.Contents (Elt F) (win0_7.stage (cfg0.slots t 7)).view.ty) (f8 : BufTy.Contents (Elt F) (win0_8.stage (cfg0.slots t 8)).view.ty) (f9 : BufTy.Contents (Elt F) (win0_9.stage (cfg0.slots t 9)).view.ty) (s0 : BufTy.Contents (Elt F) (Memref.whole cc0_scratch0).view.ty) (s1 : BufTy.Contents (Elt F) (Memref.whole cc0_scratch1).view.ty)
    (s2 : BufTy.Contents (Elt F) (Memref.whole cc0_scratch2).view.ty) (e0 : (win0_0.stage (cfg0.slots t 0)).view.read (Elt F) f0 = iblk m c 0 t) (e1 : (win0_1.stage (cfg0.slots t 1)).view.read (Elt F) f1 = iblk m c 1 t) (e2 : (win0_2.stage (cfg0.slots t 2)).view.read (Elt F) f2 = iblk m c 2 t) (e3 : (win0_3.stage (cfg0.slots t 3)).view.read (Elt F) f3 = iblk m c 3 t) (e4 : (win0_4.stage (cfg0.slots t 4)).view.read (Elt F) f4 = iblk m c 4 t) (e5 : (win0_5.stage (cfg0.slots t 5)).view.read (Elt F) f5 = iblk m c 5 t) (e6 : (win0_6.stage (cfg0.slots t 6)).view.read (Elt F) f6 = iblk m c 6 t) (e7 : (win0_7.stage (cfg0.slots t 7)).view.read (Elt F) f7 = iblk m c 7 t) (e8 : (win0_8.stage (cfg0.slots t 8)).view.read (Elt F) f8 = iblk m c 8 t)
    (e9 : ∀ h : t.val % 8 ≠ 0, (win0_9.stage (cfg0.slots t 9)).view.read (Elt F) f9 = outN m c (t.val - 1) (Nat.lt_of_le_of_lt (Nat.sub_le _ _) t.isLt)) (hI : Inv m c t.val (Nat.le_of_lt t.isLt) s0 s2) (ht : t.val ≠ 0) (ht8 : t.val % 8 = 0) (h1 : ¬ cond1 (grid0.coords t) = 1#1) (h2 : cond2 (grid0.coords t) = 1#1) (h3 : k0_cond3 (grid0.coords t) = 1#1) (h4 : ¬ cond4 (grid0.coords t) = 1#1) :
    (win0_9.stage (cfg0.slots t 9)).view.read (Elt F) ((runB (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) h1 h2 h3 h4 f0 f1 f2 f3 f4 f5 f6 f7 f8 f9 s0 s1 s2).1).1 = outN m c t.val t.isLt ∧ Inv m c (t.val + 1) t.isLt ((runB (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) h1 h2 h3 h4 f0 f1 f2 f3 f4 f5 f6 f7 f8 f9 s0 s1 s2).1).2.1 ((runB (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) h1 h2 h3 h4 f0 f1 f2 f3 f4 f5 f6 f7 f8 f9 s0 s1 s2).1).2.2.2 := by
  have e6' := Memref.IsWhole.eq_unread (hstage0_6 ((cfg0.slots t 6).cast nbuf0_6)) e6
  have hsel := (inv_prev m c t ht s0 s2 hI).2.2 ht8
  refine ⟨(runB_value c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) h1 h2 h3 h4 f0 f1 f2 f3 f4 f5 f6 f7 f8 f9 s0 s1 s2).trans ?_, inv_next m c t _ _ (fun y hy => (runB_words c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) h1 h2 h3 h4 f0 f1 f2 f3 f4 f5 f6 f7 f8 f9 s0 s1 s2 y hy).trans ?_) ⟨s2, (runB_stage c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) h1 h2 h3 h4 f0 f1 f2 f3 f4 f5 f6 f7 f8 f9 s0 s1 s2).trans ?_⟩⟩
  · rw [hsel, e0, e1, e2, outN_first m c t ht8]; rfl
  · rw [hsel]
  · rw [e6', lst_first m c t ht8]; rfl
/-- What the body leaves at a grid point of this kind. -/
theorem leftC (c : Dev nD) (t : Fin cfg0.N) (f0 : BufTy.Contents (Elt F) (win0_0.stage (cfg0.slots t 0)).view.ty) (f1 : BufTy.Contents (Elt F) (win0_1.stage (cfg0.slots t 1)).view.ty) (f2 : BufTy.Contents (Elt F) (win0_2.stage (cfg0.slots t 2)).view.ty) (f3 : BufTy.Contents (Elt F) (win0_3.stage (cfg0.slots t 3)).view.ty) (f4 : BufTy.Contents (Elt F) (win0_4.stage (cfg0.slots t 4)).view.ty) (f5 : BufTy.Contents (Elt F) (win0_5.stage (cfg0.slots t 5)).view.ty) (f6 : BufTy.Contents (Elt F) (win0_6.stage (cfg0.slots t 6)).view.ty) (f7 : BufTy.Contents (Elt F) (win0_7.stage (cfg0.slots t 7)).view.ty) (f8 : BufTy.Contents (Elt F) (win0_8.stage (cfg0.slots t 8)).view.ty) (f9 : BufTy.Contents (Elt F) (win0_9.stage (cfg0.slots t 9)).view.ty) (s0 : BufTy.Contents (Elt F) (Memref.whole cc0_scratch0).view.ty) (s1 : BufTy.Contents (Elt F) (Memref.whole cc0_scratch1).view.ty)
    (s2 : BufTy.Contents (Elt F) (Memref.whole cc0_scratch2).view.ty) (e0 : (win0_0.stage (cfg0.slots t 0)).view.read (Elt F) f0 = iblk m c 0 t) (e1 : (win0_1.stage (cfg0.slots t 1)).view.read (Elt F) f1 = iblk m c 1 t) (e2 : (win0_2.stage (cfg0.slots t 2)).view.read (Elt F) f2 = iblk m c 2 t) (e3 : (win0_3.stage (cfg0.slots t 3)).view.read (Elt F) f3 = iblk m c 3 t) (e4 : (win0_4.stage (cfg0.slots t 4)).view.read (Elt F) f4 = iblk m c 4 t) (e5 : (win0_5.stage (cfg0.slots t 5)).view.read (Elt F) f5 = iblk m c 5 t) (e6 : (win0_6.stage (cfg0.slots t 6)).view.read (Elt F) f6 = iblk m c 6 t) (e7 : (win0_7.stage (cfg0.slots t 7)).view.read (Elt F) f7 = iblk m c 7 t) (e8 : (win0_8.stage (cfg0.slots t 8)).view.read (Elt F) f8 = iblk m c 8 t)
    (e9 : ∀ h : t.val % 8 ≠ 0, (win0_9.stage (cfg0.slots t 9)).view.read (Elt F) f9 = outN m c (t.val - 1) (Nat.lt_of_le_of_lt (Nat.sub_le _ _) t.isLt)) (hI : Inv m c t.val (Nat.le_of_lt t.isLt) s0 s2) (ht0 : t.val % 8 ≠ 0) (ht7 : t.val % 8 ≠ 7) (h1 : ¬ cond1 (grid0.coords t) = 1#1) (h2 : ¬ cond2 (grid0.coords t) = 1#1) (h3 : ¬ k0_cond3 (grid0.coords t) = 1#1) (h4 : ¬ cond4 (grid0.coords t) = 1#1) :
    (win0_9.stage (cfg0.slots t 9)).view.read (Elt F) ((runC (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) h1 h2 h3 h4 f0 f1 f2 f3 f4 f5 f6 f7 f8 f9 s0 s1 s2).1).1 = outN m c t.val t.isLt ∧ Inv m c (t.val + 1) t.isLt ((runC (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) h1 h2 h3 h4 f0 f1 f2 f3 f4 f5 f6 f7 f8 f9 s0 s1 s2).1).2.1 ((runC (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) h1 h2 h3 h4 f0 f1 f2 f3 f4 f5 f6 f7 f8 f9 s0 s1 s2).1).2.2.2 := by
  have e6' := Memref.IsWhole.eq_unread (hstage0_6 ((cfg0.slots t 6).cast nbuf0_6)) e6
  have e9' := e9 ht0
  obtain ⟨hg, ⟨G, hG⟩, -⟩ := inv_prev m c t (by omega) s0 s2 hI
  refine ⟨(runC_value c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) h1 h2 h3 h4 f0 f1 f2 f3 f4 f5 f6 f7 f8 f9 s0 s1 s2 _ (hg ht0)).trans ?_, inv_next m c t _ _ (fun y hy => (congrArg (fun X => (Memref.whole cc0_scratch0).view.read (Elt F) X y) (runC_words c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) h1 h2 h3 h4 f0 f1 f2 f3 f4 f5 f6 f7 f8 f9 s0 s1 s2)).trans (hg ht0 y hy)) ⟨G, (runC_stage c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) h1 h2 h3 h4 f0 f1 f2 f3 f4 f5 f6 f7 f8 f9 s0 s1 s2).trans ?_⟩⟩
  · rw [e0, e1, e2, e9', outN_mid m c t ht0 ht7]; rfl
  · rw [hG, e6', lst_next m c t ht0]; exact (View.writes_append _ _ _ _).symm
/-- What the body leaves at a grid point of this kind. -/
theorem leftD (c : Dev nD) (t : Fin cfg0.N) (f0 : BufTy.Contents (Elt F) (win0_0.stage (cfg0.slots t 0)).view.ty) (f1 : BufTy.Contents (Elt F) (win0_1.stage (cfg0.slots t 1)).view.ty) (f2 : BufTy.Contents (Elt F) (win0_2.stage (cfg0.slots t 2)).view.ty) (f3 : BufTy.Contents (Elt F) (win0_3.stage (cfg0.slots t 3)).view.ty) (f4 : BufTy.Contents (Elt F) (win0_4.stage (cfg0.slots t 4)).view.ty) (f5 : BufTy.Contents (Elt F) (win0_5.stage (cfg0.slots t 5)).view.ty) (f6 : BufTy.Contents (Elt F) (win0_6.stage (cfg0.slots t 6)).view.ty) (f7 : BufTy.Contents (Elt F) (win0_7.stage (cfg0.slots t 7)).view.ty) (f8 : BufTy.Contents (Elt F) (win0_8.stage (cfg0.slots t 8)).view.ty) (f9 : BufTy.Contents (Elt F) (win0_9.stage (cfg0.slots t 9)).view.ty) (s0 : BufTy.Contents (Elt F) (Memref.whole cc0_scratch0).view.ty) (s1 : BufTy.Contents (Elt F) (Memref.whole cc0_scratch1).view.ty)
    (s2 : BufTy.Contents (Elt F) (Memref.whole cc0_scratch2).view.ty) (e0 : (win0_0.stage (cfg0.slots t 0)).view.read (Elt F) f0 = iblk m c 0 t) (e1 : (win0_1.stage (cfg0.slots t 1)).view.read (Elt F) f1 = iblk m c 1 t) (e2 : (win0_2.stage (cfg0.slots t 2)).view.read (Elt F) f2 = iblk m c 2 t) (e3 : (win0_3.stage (cfg0.slots t 3)).view.read (Elt F) f3 = iblk m c 3 t) (e4 : (win0_4.stage (cfg0.slots t 4)).view.read (Elt F) f4 = iblk m c 4 t) (e5 : (win0_5.stage (cfg0.slots t 5)).view.read (Elt F) f5 = iblk m c 5 t) (e6 : (win0_6.stage (cfg0.slots t 6)).view.read (Elt F) f6 = iblk m c 6 t) (e7 : (win0_7.stage (cfg0.slots t 7)).view.read (Elt F) f7 = iblk m c 7 t) (e8 : (win0_8.stage (cfg0.slots t 8)).view.read (Elt F) f8 = iblk m c 8 t)
    (e9 : ∀ h : t.val % 8 ≠ 0, (win0_9.stage (cfg0.slots t 9)).view.read (Elt F) f9 = outN m c (t.val - 1) (Nat.lt_of_le_of_lt (Nat.sub_le _ _) t.isLt)) (hI : Inv m c t.val (Nat.le_of_lt t.isLt) s0 s2) (ht7 : t.val % 8 = 7) (h1 : ¬ cond1 (grid0.coords t) = 1#1) (h2 : ¬ cond2 (grid0.coords t) = 1#1) (h3 : ¬ k0_cond3 (grid0.coords t) = 1#1) (h4 : cond4 (grid0.coords t) = 1#1) :
    (win0_9.stage (cfg0.slots t 9)).view.read (Elt F) ((runD (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) h1 h2 h3 h4 f0 f1 f2 f3 f4 f5 f6 f7 f8 f9 s0 s1 s2).1).1 = outN m c t.val t.isLt ∧ Inv m c (t.val + 1) t.isLt ((runD (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) h1 h2 h3 h4 f0 f1 f2 f3 f4 f5 f6 f7 f8 f9 s0 s1 s2).1).2.1 ((runD (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) h1 h2 h3 h4 f0 f1 f2 f3 f4 f5 f6 f7 f8 f9 s0 s1 s2).1).2.2.2 := by
  have e6' := Memref.IsWhole.eq_unread (hstage0_6 ((cfg0.slots t 6).cast nbuf0_6)) e6
  have ht0 : t.val % 8 ≠ 0 := by omega
  have e9' := e9 ht0
  obtain ⟨hg, ⟨G, hG⟩, -⟩ := inv_prev m c t (by omega) s0 s2 hI
  refine ⟨(runD_value c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) h1 h2 h3 h4 f0 f1 f2 f3 f4 f5 f6 f7 f8 f9 s0 s1 s2 _ (hg ht0)).trans ?_, inv_next m c t _ _ (fun y hy => (congrArg (fun X => (Memref.whole cc0_scratch0).view.read (Elt F) X y) (runD_words c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) h1 h2 h3 h4 f0 f1 f2 f3 f4 f5 f6 f7 f8 f9 s0 s1 s2)).trans (hg ht0 y hy)) ⟨G, (runD_stage c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) h1 h2 h3 h4 f0 f1 f2 f3 f4 f5 f6 f7 f8 f9 s0 s1 s2).trans ?_⟩⟩
  · rw [e0, e1, e2, e9', e7, e8, outN_last m c t ht7]; rfl
  · rw [hG, e6', lst_next m c t ht0]; exact (View.writes_append _ _ _ _).symm
/-- The body at point `t`, on what the recursion says it finds, leaves what the recursion says. -/
theorem run_point (c : Dev nD) (t : Fin cfg0.N) (f0 : BufTy.Contents (Elt F) (win0_0.stage (cfg0.slots t 0)).view.ty) (f1 : BufTy.Contents (Elt F) (win0_1.stage (cfg0.slots t 1)).view.ty) (f2 : BufTy.Contents (Elt F) (win0_2.stage (cfg0.slots t 2)).view.ty) (f3 : BufTy.Contents (Elt F) (win0_3.stage (cfg0.slots t 3)).view.ty) (f4 : BufTy.Contents (Elt F) (win0_4.stage (cfg0.slots t 4)).view.ty) (f5 : BufTy.Contents (Elt F) (win0_5.stage (cfg0.slots t 5)).view.ty) (f6 : BufTy.Contents (Elt F) (win0_6.stage (cfg0.slots t 6)).view.ty) (f7 : BufTy.Contents (Elt F) (win0_7.stage (cfg0.slots t 7)).view.ty) (f8 : BufTy.Contents (Elt F) (win0_8.stage (cfg0.slots t 8)).view.ty) (f9 : BufTy.Contents (Elt F) (win0_9.stage (cfg0.slots t 9)).view.ty) (s0 : BufTy.Contents (Elt F) (Memref.whole cc0_scratch0).view.ty) (s1 : BufTy.Contents (Elt F) (Memref.whole cc0_scratch1).view.ty)
    (s2 : BufTy.Contents (Elt F) (Memref.whole cc0_scratch2).view.ty) (e0 : (win0_0.stage (cfg0.slots t 0)).view.read (Elt F) f0 = iblk m c 0 t) (e1 : (win0_1.stage (cfg0.slots t 1)).view.read (Elt F) f1 = iblk m c 1 t) (e2 : (win0_2.stage (cfg0.slots t 2)).view.read (Elt F) f2 = iblk m c 2 t) (e3 : (win0_3.stage (cfg0.slots t 3)).view.read (Elt F) f3 = iblk m c 3 t) (e4 : (win0_4.stage (cfg0.slots t 4)).view.read (Elt F) f4 = iblk m c 4 t) (e5 : (win0_5.stage (cfg0.slots t 5)).view.read (Elt F) f5 = iblk m c 5 t) (e6 : (win0_6.stage (cfg0.slots t 6)).view.read (Elt F) f6 = iblk m c 6 t) (e7 : (win0_7.stage (cfg0.slots t 7)).view.read (Elt F) f7 = iblk m c 7 t) (e8 : (win0_8.stage (cfg0.slots t 8)).view.read (Elt F) f8 = iblk m c 8 t)
    (e9 : ∀ h : t.val % 8 ≠ 0, (win0_9.stage (cfg0.slots t 9)).view.read (Elt F) f9 = outN m c (t.val - 1) (Nat.lt_of_le_of_lt (Nat.sub_le _ _) t.isLt)) (hI : Inv m c t.val (Nat.le_of_lt t.isLt) s0 s2) :
    Body (F := F) c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (Memref.whole cc0_scratch0) (Memref.whole cc0_scratch1) (Memref.whole cc0_scratch2) f0 f1 f2 f3 f4 f5 f6 f7 f8 f9 s0 s1 s2
      ⊢ wp frame (wpE (defs₀ (F := F)) 𝒱₀ (c : Thread nD τ) none) Set.univ (cc0_peer (F := F) (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _))
          (fun _ => iprop(∃ G : Left F (win0_9.stage (cfg0.slots t 9)) (Memref.whole cc0_scratch0) (Memref.whole cc0_scratch1) (Memref.whole cc0_scratch2), ⌜(win0_9.stage (cfg0.slots t 9)).view.read (Elt F) (G).1 = outN m c t.val t.isLt ∧ Inv m c (t.val + 1) t.isLt (G).2.1 (G).2.2.2⌝ ∗ Body (F := F) c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (Memref.whole cc0_scratch0) (Memref.whole cc0_scratch1) (Memref.whole cc0_scratch2) f0 f1 f2 f3 f4 f5 f6 f7 f8 G.1 G.2.1 G.2.2.1 G.2.2.2)) := by
  rcases kindOf t with ⟨ht, h1, h2, h3, h4⟩ | ⟨ht, ht8, h1, h2, h3, h4⟩ | ⟨ht0, ht7, h1, h2, h3, h4⟩ | ⟨ht7, h1, h2, h3, h4⟩
  · have this := leftA m c t f0 f1 f2 f3 f4 f5 f6 f7 f8 f9 s0 s1 s2 e0 e1 e2 e3 e4 e5 e6 e7 e8 e9 hI ht h1 h2 h3 h4
    iintro H
    iapply (wp_wand_r Idealize.ShloMosaic.frame (wpE (defs₀ (F := F)) 𝒱₀ (c : Thread nD τ) none) Set.univ)
    isplitl [H]
    · iapply ((runA (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) h1 h2 h3 h4 f0 f1 f2 f3 f4 f5 f6 f7 f8 f9 s0 s1 s2).2); iexact H
    · iintro %_ H; iexists _; isplitr
      · ipureintro; exact this
      · iexact H
  · have this := leftB m c t f0 f1 f2 f3 f4 f5 f6 f7 f8 f9 s0 s1 s2 e0 e1 e2 e3 e4 e5 e6 e7 e8 e9 hI ht ht8 h1 h2 h3 h4
    iintro H
    iapply (wp_wand_r Idealize.ShloMosaic.frame (wpE (defs₀ (F := F)) 𝒱₀ (c : Thread nD τ) none) Set.univ)
    isplitl [H]
    · iapply ((runB (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) h1 h2 h3 h4 f0 f1 f2 f3 f4 f5 f6 f7 f8 f9 s0 s1 s2).2); iexact H
    · iintro %_ H; iexists _; isplitr
      · ipureintro; exact this
      · iexact H
  · have this := leftC m c t f0 f1 f2 f3 f4 f5 f6 f7 f8 f9 s0 s1 s2 e0 e1 e2 e3 e4 e5 e6 e7 e8 e9 hI ht0 ht7 h1 h2 h3 h4
    iintro H
    iapply (wp_wand_r Idealize.ShloMosaic.frame (wpE (defs₀ (F := F)) 𝒱₀ (c : Thread nD τ) none) Set.univ)
    isplitl [H]
    · iapply ((runC (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) h1 h2 h3 h4 f0 f1 f2 f3 f4 f5 f6 f7 f8 f9 s0 s1 s2).2); iexact H
    · iintro %_ H; iexists _; isplitr
      · ipureintro; exact this
      · iexact H
  · have this := leftD m c t f0 f1 f2 f3 f4 f5 f6 f7 f8 f9 s0 s1 s2 e0 e1 e2 e3 e4 e5 e6 e7 e8 e9 hI ht7 h1 h2 h3 h4
    iintro H
    iapply (wp_wand_r Idealize.ShloMosaic.frame (wpE (defs₀ (F := F)) 𝒱₀ (c : Thread nD τ) none) Set.univ)
    isplitl [H]
    · iapply ((runD (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) h1 h2 h3 h4 f0 f1 f2 f3 f4 f5 f6 f7 f8 f9 s0 s1 s2).2); iexact H
    · iintro %_ H; iexists _; isplitr
      · ipureintro; exact this
      · iexact H

end Cert.KernelWordsIdeal.Exact

end
-- ==== Proof.ExactRunQI.lean ====
/-
  Hand-written. The run of `KernelWordsIdeal` with the result's blocks named, and the first tile's rows of the result read off.
-/
module

public import proofs.«01_k».proof.Proof.ExactQI

@[expose] public section

set_option maxRecDepth 8192

noncomputable section

namespace Cert.KernelWordsIdeal.Exact

open Cert.KernelWordsIdeal Cert.KernelWordsIdeal.Gen Cert.KernelWordsIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.ValueIdx

variable {F : FTy → Type} [FloatOps F]

local notation "𝕄G" => MT nD τ sig Unit (Elt F) ℕ (UR sig nD τ) ℕ

local notation "𝒱₀" => (Variants.none : Variants)

variable (m : (ℓ : Loc nD τ sig) → Buf (Elt F) ℓ) (ρ : Dev nD → PrngReg)

/-- The call's data: the result's window at the recursion's blocks, the scratch at the recursion's invariant. -/
def xdats (_ : Fin 1) (c : Dev nD) : Dat τ (Elt F) Unit ℕ (UR sig nD τ) ℕ cfg0 c where
  A w := V m c (Pipeline.arrRef spec0 w)
  after w t := match w with
    | ⟨9, _⟩ => outN m c t.val t.isLt
    | ⟨0, h⟩ => iblk m c ⟨0, h⟩ t
    | ⟨1, h⟩ => iblk m c ⟨1, h⟩ t
    | ⟨2, h⟩ => iblk m c ⟨2, h⟩ t
    | ⟨3, h⟩ => iblk m c ⟨3, h⟩ t
    | ⟨4, h⟩ => iblk m c ⟨4, h⟩ t
    | ⟨5, h⟩ => iblk m c ⟨5, h⟩ t
    | ⟨6, h⟩ => iblk m c ⟨6, h⟩ t
    | ⟨7, h⟩ => iblk m c ⟨7, h⟩ t
    | ⟨8, h⟩ => iblk m c ⟨8, h⟩ t
  Φ n := iprop((∃ (s0 : Buf (Elt F) ((c : Thread nD τ).loc cc0_scratch0)) (s1 : Buf (Elt F) ((c : Thread nD τ).loc cc0_scratch1)) (s2 : Buf (Elt F) ((c : Thread nD τ).loc cc0_scratch2)),
    ⌜Inv m c n.val (Nat.le_of_lt_succ n.isLt) s0 s2⌝ ∗ (((c : Thread nD τ).loc cc0_scratch0) ↦{fullShare} s0) ∗ (((c : Thread nD τ).loc cc0_scratch1) ↦{fullShare} s1) ∗ (((c : Thread nD τ).loc cc0_scratch2) ↦{fullShare} s2))
    ∗ ∃ r, prngReg c r)
  q _ := fullShare
  owed _ := 0

theorem xA_eq (c : Dev nD) (w : Fin cfg0.W) : (xdats m 0 c).A w = V m c (Pipeline.arrRef spec0 w) := by dsimp only [xdats]
theorem xbefore0 (c : Dev nD) (t : Fin cfg0.N) (d) : (xdats m 0 c).before 0 t d = iblk m c 0 t :=
  before0_0_of m (xdats m 0 c) (xA_eq m c 0) (fun _ => rfl) t d
theorem xbefore1 (c : Dev nD) (t : Fin cfg0.N) (d) : (xdats m 0 c).before 1 t d = iblk m c 1 t :=
  before0_1_of m (xdats m 0 c) (xA_eq m c 1) (fun _ => rfl) t d
theorem xbefore2 (c : Dev nD) (t : Fin cfg0.N) (d) : (xdats m 0 c).before 2 t d = iblk m c 2 t :=
  before0_2_of m (xdats m 0 c) (xA_eq m c 2) (fun _ => rfl) t d
theorem xbefore3 (c : Dev nD) (t : Fin cfg0.N) (d) : (xdats m 0 c).before 3 t d = iblk m c 3 t :=
  before0_3_of m (xdats m 0 c) (xA_eq m c 3) (fun _ => rfl) t d
theorem xbefore4 (c : Dev nD) (t : Fin cfg0.N) (d) : (xdats m 0 c).before 4 t d = iblk m c 4 t :=
  before0_4_of m (xdats m 0 c) (xA_eq m c 4) (fun _ => rfl) t d
theorem xbefore5 (c : Dev nD) (t : Fin cfg0.N) (d) : (xdats m 0 c).before 5 t d = iblk m c 5 t :=
  before0_5_of m (xdats m 0 c) (xA_eq m c 5) (fun _ => rfl) t d
theorem xbefore6 (c : Dev nD) (t : Fin cfg0.N) (d) : (xdats m 0 c).before 6 t d = iblk m c 6 t :=
  before0_6_of m (xdats m 0 c) (xA_eq m c 6) (fun _ => rfl) t d
theorem xbefore7 (c : Dev nD) (t : Fin cfg0.N) (d) : (xdats m 0 c).before 7 t d = iblk m c 7 t :=
  before0_7_of m (xdats m 0 c) (xA_eq m c 7) (fun _ => rfl) t d
theorem xbefore8 (c : Dev nD) (t : Fin cfg0.N) (d) : (xdats m 0 c).before 8 t d = iblk m c 8 t :=
  before0_8_of m (xdats m 0 c) (xA_eq m c 8) (fun _ => rfl) t d
theorem xbefore9 (c : Dev nD) (t : Fin cfg0.N) (h : t.val % 8 ≠ 0) (d) :
    (xdats m 0 c).before 9 t d = outN m c (t.val - 1) (Nat.lt_of_le_of_lt (Nat.sub_le _ _) t.isLt) := by
  refine ((xdats m 0 c).before_out_kept 9 rfl t (by omega) ?_ (fun _ => rfl) (fun _ _ => rfl) d).trans rfl
  rw [Bool.eq_false_iff]
  intro hf
  have h7 := (flush0_9 _).mp hf
  change (t.val - 1) % 8 = 7 at h7
  omega

/-- What the body is called with at point `t`, and what it returns. -/
def xPre (c : Dev nD) (t : Fin cfg0.N) : sProp 𝕄G :=
  iprop((xdats m 0 c).Φ t.castSucc ∗ (xdats m 0 c).owesAt () t.castSucc
    ∗ (∃ d, owns (c : Thread nD τ) (win0_0.stage (cfg0.slots t 0)) fullShare ((xdats m 0 c).before 0 t d)) ∗ (∃ d, owns (c : Thread nD τ) (win0_1.stage (cfg0.slots t 1)) fullShare ((xdats m 0 c).before 1 t d)) ∗ (∃ d, owns (c : Thread nD τ) (win0_2.stage (cfg0.slots t 2)) fullShare ((xdats m 0 c).before 2 t d)) ∗ (∃ d, owns (c : Thread nD τ) (win0_3.stage (cfg0.slots t 3)) fullShare ((xdats m 0 c).before 3 t d)) ∗ (∃ d, owns (c : Thread nD τ) (win0_4.stage (cfg0.slots t 4)) fullShare ((xdats m 0 c).before 4 t d)) ∗ (∃ d, owns (c : Thread nD τ) (win0_5.stage (cfg0.slots t 5)) fullShare ((xdats m 0 c).before 5 t d)) ∗ (∃ d, owns (c : Thread nD τ) (win0_6.stage (cfg0.slots t 6)) fullShare ((xdats m 0 c).before 6 t d)) ∗ (∃ d, owns (c : Thread nD τ) (win0_7.stage (cfg0.slots t 7)) fullShare ((xdats m 0 c).before 7 t d)) ∗ (∃ d, owns (c : Thread nD τ) (win0_8.stage (cfg0.slots t 8)) fullShare ((xdats m 0 c).before 8 t d)) ∗ (∃ d, owns (c : Thread nD τ) (win0_9.stage (cfg0.slots t 9)) fullShare ((xdats m 0 c).before 9 t d)))
def xPost (c : Dev nD) (t : Fin cfg0.N) : sProp 𝕄G :=
  iprop((xdats m 0 c).Φ t.succ ∗ (xdats m 0 c).owesAt () t.succ
    ∗ owns (c : Thread nD τ) (win0_0.stage (cfg0.slots t 0)) fullShare ((xdats m 0 c).after 0 t) ∗ owns (c : Thread nD τ) (win0_1.stage (cfg0.slots t 1)) fullShare ((xdats m 0 c).after 1 t) ∗ owns (c : Thread nD τ) (win0_2.stage (cfg0.slots t 2)) fullShare ((xdats m 0 c).after 2 t) ∗ owns (c : Thread nD τ) (win0_3.stage (cfg0.slots t 3)) fullShare ((xdats m 0 c).after 3 t) ∗ owns (c : Thread nD τ) (win0_4.stage (cfg0.slots t 4)) fullShare ((xdats m 0 c).after 4 t) ∗ owns (c : Thread nD τ) (win0_5.stage (cfg0.slots t 5)) fullShare ((xdats m 0 c).after 5 t) ∗ owns (c : Thread nD τ) (win0_6.stage (cfg0.slots t 6)) fullShare ((xdats m 0 c).after 6 t) ∗ owns (c : Thread nD τ) (win0_7.stage (cfg0.slots t 7)) fullShare ((xdats m 0 c).after 7 t) ∗ owns (c : Thread nD τ) (win0_8.stage (cfg0.slots t 8)) fullShare ((xdats m 0 c).after 8 t) ∗ owns (c : Thread nD τ) (win0_9.stage (cfg0.slots t 9)) fullShare ((xdats m 0 c).after 9 t))

theorem xsound_body (c : Dev nD) (t : Fin cfg0.N) :
    xPre m c t ⊢ wp frame (wpE (defs₀ (F := F)) 𝒱₀ c none) Set.univ (bodyAt0 t) (fun _ => xPost m c t) := by
  unfold xPre xPost bodyAt0
  simp only [xbefore0, xbefore1, xbefore2, xbefore3, xbefore4, xbefore5, xbefore6, xbefore7, xbefore8]
  rw [show (xdats m 0 c).owesAt () t.succ = (xdats m 0 c).owesAt () t.castSucc from rfl]
  dsimp only [xdats]
  unfold owns
  iintro ⟨⟨⟨%s0, %s1, %s2, %hI, S0, S1, S2⟩, Hg⟩, HO, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩⟩
  have e9' : ∀ h : t.val % 8 ≠ 0, (win0_9.stage (cfg0.slots t 9)).view.read (Elt F) f9 = outN m c (t.val - 1) (Nat.lt_of_le_of_lt (Nat.sub_le _ _) t.isLt) :=
    fun h => e9.trans (xbefore9 m c t h d9)
  iapply (wp_wand_r Idealize.ShloMosaic.frame (wpE (defs₀ (F := F)) 𝒱₀ (c : Thread nD τ) none) Set.univ)
  isplitl [H0 H1 H2 H3 H4 H5 H6 H7 H8 H9 S0 S1 S2]
  · iapply (run_point (F := F) m c t f0 f1 f2 f3 f4 f5 f6 f7 f8 f9 s0 s1 s2 e0 e1 e2 e3 e4 e5 e6 e7 e8 e9' hI)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · rw [pt_scratch0]; iexact S0
    isplitl [S1]; · rw [pt_scratch1]; iexact S1
    rw [pt_scratch2]; iexact S2
  iintro %_ ⟨%G, %hG, H0, H1, H2, H3, H4, H5, H6, H7, H8, H9, S0, S1, S2⟩
  isplitl [S0 S1 S2 Hg]
  · isplitl [S0 S1 S2]
    · iexists G.2.1; iexists G.2.2.1; iexists G.2.2.2
      isplitr
      · ipureintro; exact hG.2
      isplitl [S0]; · rw [← pt_scratch0]; iexact S0
      isplitl [S1]; · rw [← pt_scratch1]; iexact S1
      rw [← pt_scratch2]; iexact S2
    iexact Hg
  isplitl [HO]; · iexact HO
  isplitl [H0]
  · iexists f0; isplitr
    · ipureintro; exact e0
    iexact H0
  isplitl [H1]
  · iexists f1; isplitr
    · ipureintro; exact e1
    iexact H1
  isplitl [H2]
  · iexists f2; isplitr
    · ipureintro; exact e2
    iexact H2
  isplitl [H3]
  · iexists f3; isplitr
    · ipureintro; exact e3
    iexact H3
  isplitl [H4]
  · iexists f4; isplitr
    · ipureintro; exact e4
    iexact H4
  isplitl [H5]
  · iexists f5; isplitr
    · ipureintro; exact e5
    iexact H5
  isplitl [H6]
  · iexists f6; isplitr
    · ipureintro; exact e6
    iexact H6
  isplitl [H7]
  · iexists f7; isplitr
    · ipureintro; exact e7
    iexact H7
  isplitl [H8]
  · iexists f8; isplitr
    · ipureintro; exact e8
    iexact H8
  iexists G.1; isplitr
  · ipureintro; exact hG.1
  iexact H9

theorem xbody_obligation (c : Dev nD) : BodyObligation (xdats (F := F) m 0 c) (defs₀ (F := F)) 𝒱₀ () Set.univ := fun t => by
  rw [bigSep_W0, bigSep_W0, defs₀_row]
  exact triple_restated (xsound_body m c t) rfl .rfl fun _ => .rfl

theorem xin (c : Dev nD) : Pipeline.ΦA spec0 c ⊢ (xdats (F := F) m 0 c).Φ 0 := by
  unfold Pipeline.ΦA
  rw [scopedRest0_eq]
  dsimp only [xdats]
  iintro ⟨⟨⟨%s0, S0⟩, ⟨%s1, S1⟩, ⟨%s2, S2⟩⟩, Hg⟩
  isplitl [S0 S1 S2]
  · iexists s0; iexists s1; iexists s2
    isplitr
    · ipureintro; exact trivial
    isplitl [S0]; · iexact S0
    isplitl [S1]; · iexact S1
    iexact S2
  iexact Hg

theorem xout (c : Dev nD) : (xdats (F := F) m 0 c).Φ (Fin.last cfg0.N) ⊢ Pipeline.ΦA spec0 c := by
  unfold Pipeline.ΦA
  rw [scopedRest0_eq]
  dsimp only [xdats]
  iintro ⟨⟨%s0, %s1, %s2, -, S0, S1, S2⟩, Hg⟩
  isplitl [S0 S1 S2]
  · isplitl [S0]; · iexists s0; iexact S0
    isplitl [S1]; · iexists s1; iexact S1
    iexists s2; iexact S2
  iexact Hg

set_option backward.isDefEq.respectTransparency.types false in
/-- Every weakly fair execution terminates with every array at the recursion's contents and every other buffer at what the host
    lines after the call leave. -/
theorem xrun_main :
    θ_run defs (onTc (τ := τ) (main (F := F))) (s₀ m ρ)
      (fun r => Pipeline.FramePost cfgs (xdats m) 0 (Pipeline.afterTail₀ cfgs (xdats m) 0 (V0 m) [hostOps1]) r ∧ r.2.sem = fun _ => 0) :=
  Pipeline.θ_run_frame_around_track (Q' := _) cfgs (xdats m) (0 : Fin 1) launch0 defs₀ 𝒱₀ m ρ main
    (hbody := fun c => (xbody_obligation m c).loose) (hshare := fun c => (xdats m 0 c).share_full fun _ => rfl)
    (howed := fun _ _ => rfl) (V₀ := V0 m) (opss := [hostOps1]) (hsub := sfx_sub) (hfresh := sfx_fresh) (hkeep := sfx_keeps)
    (hmain := hmain m 𝒱₀) (hA := xA_eq m) (hin := xin m) (hout := xout m) (hQ' := fun _ h => h)

end Cert.KernelWordsIdeal.Exact

end
-- ==== Proof.TileQI.lean ====
/-
  Hand-written. What the blocks the call reads hold, as entries of the arguments, and the program's result as the first tile's block.
-/
module

public import proofs.«01_k».proof.Proof.ExactRunQI

@[expose] public section

set_option maxRecDepth 8192

noncomputable section

namespace Cert.KernelWordsIdeal.Exact

open Cert.KernelWordsIdeal Cert.KernelWordsIdeal.Gen Cert.KernelWordsIdeal.Hand
open Idealize.ShloMosaic Idealize.ShloMosaic.TcCoe Idealize.ShloMosaic.Tactic
open Idealize.ShloMosaic.ValueIdx

variable {F : FTy → Type} [FloatOps F]
variable (m : (ℓ : Loc nD τ sig) → Buf (Elt F) ℓ) (ρ : Dev nD → PrngReg)

theorem idx0 : ∀ t : Fin cfg0.N, win0_0.index t 0 = t.val / 8 ∧ win0_0.index t 1 = 0 := by decide +kernel
theorem idx1 : ∀ t : Fin cfg0.N, win0_1.index t 0 = t.val % 8 ∧ win0_1.index t 1 = 0 := by decide +kernel
theorem idx2 : ∀ t : Fin cfg0.N, win0_2.index t 0 = t.val % 8 ∧ win0_2.index t 1 = 0 := by decide +kernel
theorem idx3 : ∀ t : Fin cfg0.N, win0_3.index t 0 = 0 ∧ win0_3.index t 1 = 0 := by decide +kernel
theorem idx4 : ∀ t : Fin cfg0.N, win0_4.index t 0 = 0 ∧ win0_4.index t 1 = 0 := by decide +kernel
theorem idx5 : ∀ t : Fin cfg0.N, win0_5.index t 0 = 0 ∧ win0_5.index t 1 = 0 := by decide +kernel
theorem idx7 : ∀ t : Fin cfg0.N, win0_7.index t 0 = t.val / 8 ∧ win0_7.index t 1 = 0 := by decide +kernel
theorem idx8 : ∀ t : Fin cfg0.N, win0_8.index t 0 = 0 ∧ win0_8.index t 1 = 0 := by decide +kernel
theorem idx9 : ∀ t : Fin cfg0.N, win0_9.index t 0 = t.val / 8 ∧ win0_9.index t 1 = 0 := by decide +kernel

theorem iblk0_apply (c : Dev nD) (t : Fin cfg0.N) (y : S512x1024.Idx) (z : S16384x1024.Idx) (h0 : (z 0).val = t.val / 8 * 512 + (y 0).val) (h1 : (z 1).val = (y 1).val) :
    iblk m c 0 t y = V m c main_arg0 z := by
  show V m c main_arg0 ((win0_0.rect t).emb y) = V m c main_arg0 z
  congr 1
  funext a
  apply Fin.ext
  match a with
  | ⟨0, _⟩ => exact (Pipeline.Window.rect_emb_val win0_0 t y 0).trans (by rw [(idx0 t).1]; exact h0.symm)
  | ⟨1, _⟩ => exact (Pipeline.Window.rect_emb_val win0_0 t y 1).trans (by rw [(idx0 t).2, Nat.zero_mul, Nat.zero_add]; exact h1.symm)

theorem iblk1_apply (c : Dev nD) (t : Fin cfg0.N) (y : S2048x1024.Idx) (z : S16384x1024.Idx) (h0 : (z 0).val = t.val % 8 * 2048 + (y 0).val) (h1 : (z 1).val = (y 1).val) :
    iblk m c 1 t y = V m c main_v1 z := by
  show V m c main_v1 ((win0_1.rect t).emb y) = V m c main_v1 z
  congr 1
  funext a
  apply Fin.ext
  match a with
  | ⟨0, _⟩ => exact (Pipeline.Window.rect_emb_val win0_1 t y 0).trans (by rw [(idx1 t).1]; exact h0.symm)
  | ⟨1, _⟩ => exact (Pipeline.Window.rect_emb_val win0_1 t y 1).trans (by rw [(idx1 t).2, Nat.zero_mul, Nat.zero_add]; exact h1.symm)

theorem iblk2_apply (c : Dev nD) (t : Fin cfg0.N) (y : S2048x1024.Idx) (z : S16384x1024.Idx) (h0 : (z 0).val = t.val % 8 * 2048 + (y 0).val) (h1 : (z 1).val = (y 1).val) :
    iblk m c 2 t y = V m c main_v3 z := by
  show V m c main_v3 ((win0_2.rect t).emb y) = V m c main_v3 z
  congr 1
  funext a
  apply Fin.ext
  match a with
  | ⟨0, _⟩ => exact (Pipeline.Window.rect_emb_val win0_2 t y 0).trans (by rw [(idx2 t).1]; exact h0.symm)
  | ⟨1, _⟩ => exact (Pipeline.Window.rect_emb_val win0_2 t y 1).trans (by rw [(idx2 t).2, Nat.zero_mul, Nat.zero_add]; exact h1.symm)

theorem iblk3_apply (c : Dev nD) (t : Fin cfg0.N) (y : S512x128.Idx) (z : S512x128.Idx) (h0 : (z 0).val = (y 0).val) (h1 : (z 1).val = (y 1).val) :
    iblk m c 3 t y = V m c main_v4 z := by
  show V m c main_v4 ((win0_3.rect t).emb y) = V m c main_v4 z
  congr 1
  funext a
  apply Fin.ext
  match a with
  | ⟨0, _⟩ => exact (Pipeline.Window.rect_emb_val win0_3 t y 0).trans (by rw [(idx3 t).1]; rw [Nat.zero_mul, Nat.zero_add]; exact h0.symm)
  | ⟨1, _⟩ => exact (Pipeline.Window.rect_emb_val win0_3 t y 1).trans (by rw [(idx3 t).2, Nat.zero_mul, Nat.zero_add]; exact h1.symm)

theorem iblk4_apply (c : Dev nD) (t : Fin cfg0.N) (y : S512x128.Idx) (z : S512x128.Idx) (h0 : (z 0).val = (y 0).val) (h1 : (z 1).val = (y 1).val) :
    iblk m c 4 t y = V m c main_v5 z := by
  show V m c main_v5 ((win0_4.rect t).emb y) = V m c main_v5 z
  congr 1
  funext a
  apply Fin.ext
  match a with
  | ⟨0, _⟩ => exact (Pipeline.Window.rect_emb_val win0_4 t y 0).trans (by rw [(idx4 t).1]; rw [Nat.zero_mul, Nat.zero_add]; exact h0.symm)
  | ⟨1, _⟩ => exact (Pipeline.Window.rect_emb_val win0_4 t y 1).trans (by rw [(idx4 t).2, Nat.zero_mul, Nat.zero_add]; exact h1.symm)

theorem iblk5_apply (c : Dev nD) (t : Fin cfg0.N) (y : S512x128.Idx) (z : S512x128.Idx) (h0 : (z 0).val = (y 0).val) (h1 : (z 1).val = (y 1).val) :
    iblk m c 5 t y = V m c main_arg5 z := by
  show V m c main_arg5 ((win0_5.rect t).emb y) = V m c main_arg5 z
  congr 1
  funext a
  apply Fin.ext
  match a with
  | ⟨0, _⟩ => exact (Pipeline.Window.rect_emb_val win0_5 t y 0).trans (by rw [(idx5 t).1]; rw [Nat.zero_mul, Nat.zero_add]; exact h0.symm)
  | ⟨1, _⟩ => exact (Pipeline.Window.rect_emb_val win0_5 t y 1).trans (by rw [(idx5 t).2, Nat.zero_mul, Nat.zero_add]; exact h1.symm)

theorem iblk7_apply (c : Dev nD) (t : Fin cfg0.N) (y : S512x1024.Idx) (z : S16384x1024.Idx) (h0 : (z 0).val = t.val / 8 * 512 + (y 0).val) (h1 : (z 1).val = (y 1).val) :
    iblk m c 7 t y = V m c main_arg7 z := by
  show V m c main_arg7 ((win0_7.rect t).emb y) = V m c main_arg7 z
  congr 1
  funext a
  apply Fin.ext
  match a with
  | ⟨0, _⟩ => exact (Pipeline.Window.rect_emb_val win0_7 t y 0).trans (by rw [(idx7 t).1]; exact h0.symm)
  | ⟨1, _⟩ => exact (Pipeline.Window.rect_emb_val win0_7 t y 1).trans (by rw [(idx7 t).2, Nat.zero_mul, Nat.zero_add]; exact h1.symm)

theorem iblk8_apply (c : Dev nD) (t : Fin cfg0.N) (y : S1x1024.Idx) (z : S1x1024.Idx) (h0 : (z 0).val = (y 0).val) (h1 : (z 1).val = (y 1).val) :
    iblk m c 8 t y = V m c main_v6 z := by
  show V m c main_v6 ((win0_8.rect t).emb y) = V m c main_v6 z
  congr 1
  funext a
  apply Fin.ext
  match a with
  | ⟨0, _⟩ => exact (Pipeline.Window.rect_emb_val win0_8 t y 0).trans (by rw [(idx8 t).1]; rw [Nat.zero_mul, Nat.zero_add]; exact h0.symm)
  | ⟨1, _⟩ => exact (Pipeline.Window.rect_emb_val win0_8 t y 1).trans (by rw [(idx8 t).2, Nat.zero_mul, Nat.zero_add]; exact h1.symm)

theorem V_main_v1 (c : Dev nD) : V m c main_v1 = truncf .bf16 (shapeCast S16384x1024 (m ((c : Thread nD τ).loc main_arg1)) shapeCasts_S1x16384x1024_S16384x1024 : Vec F S16384x1024 .f32) bitsLt_bf16_f32 := by
  show StableHlo.after hostOps0 _ _ = _
  simp only [hostOps0, StableHlo.after_cons, StableHlo.after_nil]
  rw [StableHlo.reshape_result_ne, StableHlo.unary_result_ne, StableHlo.unary_result_ne, StableHlo.unary_result_ne, StableHlo.reshape_result_ne, StableHlo.unary_result, StableHlo.reshape_result]
  rfl
  all_goals decide

theorem V_main_v3 (c : Dev nD) : V m c main_v3 = truncf .bf16 (shapeCast S16384x1024 (m ((c : Thread nD τ).loc main_arg2)) shapeCasts_S1x16384x1024_S16384x1024 : Vec F S16384x1024 .f32) bitsLt_bf16_f32 := by
  show StableHlo.after hostOps0 _ _ = _
  simp only [hostOps0, StableHlo.after_cons, StableHlo.after_nil]
  rw [StableHlo.reshape_result_ne, StableHlo.unary_result_ne, StableHlo.unary_result_ne, StableHlo.unary_result, StableHlo.reshape_result, StableHlo.unary_result_ne, StableHlo.reshape_result_ne]
  rfl
  all_goals decide

theorem V_main_v4 (c : Dev nD) : V m c main_v4 = sitofp (F := F) .f32 (m ((c : Thread nD τ).loc main_arg3) : Vec F S512x128 .i32) := by
  show StableHlo.after hostOps0 _ _ = _
  simp only [hostOps0, StableHlo.after_cons, StableHlo.after_nil]
  rw [StableHlo.reshape_result_ne, StableHlo.unary_result_ne, StableHlo.unary_result, StableHlo.unary_result_ne, StableHlo.reshape_result_ne, StableHlo.unary_result_ne, StableHlo.reshape_result_ne]
  all_goals decide

theorem V_main_v5 (c : Dev nD) : V m c main_v5 = sitofp (F := F) .f32 (m ((c : Thread nD τ).loc main_arg4) : Vec F S512x128 .i32) := by
  show StableHlo.after hostOps0 _ _ = _
  simp only [hostOps0, StableHlo.after_cons, StableHlo.after_nil]
  rw [StableHlo.reshape_result_ne, StableHlo.unary_result, StableHlo.unary_result_ne, StableHlo.unary_result_ne, StableHlo.reshape_result_ne, StableHlo.unary_result_ne, StableHlo.reshape_result_ne]
  all_goals decide

theorem V_main_v6 (c : Dev nD) : V m c main_v6 = (shapeCast S1x1024 (m ((c : Thread nD τ).loc main_arg8)) shapeCasts_S1024_S1x1024 : Vec F S1x1024 .f32) := by
  show StableHlo.after hostOps0 _ _ = _
  simp only [hostOps0, StableHlo.after_cons, StableHlo.after_nil]
  rw [StableHlo.reshape_result, StableHlo.unary_result_ne, StableHlo.unary_result_ne, StableHlo.unary_result_ne, StableHlo.reshape_result_ne, StableHlo.unary_result_ne, StableHlo.reshape_result_ne]
  rfl
  all_goals decide

theorem out_disj (t t' : Fin cfg0.N) (hf : (cfg0.win 9).flush t = true) (hf' : (cfg0.win 9).flush t' = true) (hne : t ≠ t') :
    Disjoint ((cfg0.win 9).blk t).view.set ((cfg0.win 9).blk t').view.set := by
  refine Pipeline.Window.disjoint_blk win0_9 (fun e => hne (Fin.ext ?_))
  have e0 := congrFun e 0
  rw [(idx9 t).1, (idx9 t').1] at e0
  have h := (flush0_9 t).mp hf
  have h' := (flush0_9 t').mp hf'
  omega

/-- The result is the first tile's block. -/
theorem result_eq (c : Dev nD) : Pipeline.afterTail₀ cfgs (xdats m) 0 (V0 m) [hostOps1] c main_v8 = outN m c 7 (by omega) := by
  unfold Pipeline.afterTail₀
  simp only [hostOps1, List.flatten_cons, List.flatten_nil, List.append_nil, StableHlo.after_cons, StableHlo.after_nil]
  rw [StableHlo.unary_result]
  funext y
  have h0 : (y 0).val < 512 := (y 0).isLt
  have h1 : (y 1).val < 1024 := (y 1).isLt
  refine (extractStridedSlice_apply ![0, 0] _ slices_S16384x1024_S512x1024_0_0 y (ix2 ⟨(y 0).val, by omega⟩ ⟨(y 1).val, h1⟩) ?_).trans ?_
  · intro a
    match a with
    | ⟨0, _⟩ => exact (Nat.zero_add _).symm
    | ⟨1, _⟩ => exact (Nat.zero_add _).symm
  have hw := Pipeline.withArrays_arr (cfgs 0).spec (by decide) c (V0 m c) (fun w => (xdats m 0 c).arrAt w (cfgs 0).N) 9
  refine (congrFun hw _).trans ?_
  have := (xdats m 0 c).arrAt_emb_eq_flushed 9 out_disj (pnt 7 (by omega)) ((flush0_9 _).mpr rfl) y
  refine Eq.trans ?_ (this.trans rfl)
  refine congrArg ((xdats m 0 c).arrAt 9 cfg0.N) (funext fun a => Fin.ext ?_)
  match a with
  | ⟨0, _⟩ => exact ((Pipeline.Window.rect_emb_val win0_9 (pnt 7 (by omega)) y 0).trans (by rw [(idx9 _).1]; show 7 / 8 * 512 + (y 0).val = (y 0).val; omega)).symm
  | ⟨1, _⟩ => exact ((Pipeline.Window.rect_emb_val win0_9 (pnt 7 (by omega)) y 1).trans (by rw [(idx9 _).2, Nat.zero_mul]; exact Nat.zero_add _)).symm

end Cert.KernelWordsIdeal.Exact

end
-- ==== Proof.ValueQI.lean ====
/-
  Hand-written. `KernelWordsIdeal`'s values over the extended reals: a token's gates by experts, and a sub-block's step.
-/
module

public import proofs.«01_k».proof.Proof.TileQI
public import Idealize.ShloMosaic.Lib.MatmulPlain
public import Idealize.ShloMosaic.Lib.IdealHost
public import Idealize.ShloMosaic.Lib.Pointwise.ShapeOpsCore
public import Idealize.ShloMosaic.PureOps.Ideal.Laws

@[expose] public section

set_option maxRecDepth 8192

noncomputable section

namespace Cert.KernelWordsIdeal.Exact

open Cert.KernelWordsIdeal Cert.KernelWordsIdeal.Gen Cert.KernelWordsIdeal.Hand
open Idealize.ShloMosaic hiding ix1 ix2 ix3 ix4
open Idealize.ShloMosaic.ValueIdx

/-- Eight blocks of one shape end to end, read in block `k`. -/
theorem concat8 {α : Type} {s t : Shape} (a : Fin t.rank) (p : Fin 8 → s.Idx → α)
    (h : Shape.Concatenates ([⟨s, p 0⟩, ⟨s, p 1⟩, ⟨s, p 2⟩, ⟨s, p 3⟩, ⟨s, p 4⟩, ⟨s, p 5⟩, ⟨s, p 6⟩, ⟨s, p 7⟩].map fun x : ((s : Shape) × (s.Idx → α)) => x.1) t a) (hr : s.rank = t.rank)
    (n : ℕ) (hn : s.size (a.cast hr.symm) = n) (j : t.Idx) (k : Fin 8) (i : s.Idx)
    (hi : ∀ b : Fin s.rank, b.cast hr ≠ a → (i b).val = (j (b.cast hr)).val) (ha : n * k.val + (i (a.cast hr.symm)).val = (j a).val) :
    concatenate t a [⟨s, p 0⟩, ⟨s, p 1⟩, ⟨s, p 2⟩, ⟨s, p 3⟩, ⟨s, p 4⟩, ⟨s, p 5⟩, ⟨s, p 6⟩, ⟨s, p 7⟩] h j = p k i := by
  refine concatenate_apply_piece a _ h j k.val k.isLt s (p k) ?_ hr (n * k.val) ?_ i hi ha
  · match k with
    | 0 => rfl
    | 1 => rfl
    | 2 => rfl
    | 3 => rfl
    | 4 => rfl
    | 5 => rfl
    | 6 => rfl
    | 7 => rfl
  · fin_cases k <;> simp [hr, hn] <;> omega

theorem tokRows_apply (v : FVec Ideal S64x128 .f32) (q : Fin 64) (i k : Fin 128) : tokRows v q (ix2 i k) = v (ix2 q k) := by
  unfold tokRows
  have hi := i.isLt
  refine (concat8 (s := S16x128) (t := S128x128) 0 (fun _ => truncf .bf16 (broadcastTo S16x128 (shapeCast S1x128 (extractStridedSlice S1x128 ![q.val, 0] v (tok_slices q)) shapeCasts_S1x128_S1x128) broadcasts_S1x128_S16x128) bitsLt_bf16_f32)
    _ rfl 16 rfl (ix2 i k) ⟨i.val / 16, by omega⟩ (ix2 ⟨i.val % 16, by omega⟩ k) ?_ ?_).trans ?_
  · intro b hb
    match b with
    | ⟨0, _⟩ => exact absurd rfl hb
    | ⟨1, _⟩ => rfl
  · show 16 * (i.val / 16) + i.val % 16 = i.val; omega
  rw [truncf_apply]
  refine (broadcastTo_apply _ _ _ (ix2 0 k) ?_).trans ((shapeCast_apply _ _ _ (ix2 0 k) rfl).trans (extractStridedSlice_apply _ _ _ _ _ ?_))
  · intro a
    match a with
    | ⟨0, _⟩ => rfl
    | ⟨1, _⟩ => rfl
  · intro a
    match a with
    | ⟨0, _⟩ => rfl
    | ⟨1, _⟩ => exact (Nat.zero_add _).symm

theorem dotT_eq : dot_S128x128_S128x128_S128x128_1_1_0_0_n_n = DotDims.transposedRhs 128 128 128 := rfl
theorem dotU_eq : dot_S512x1024_S1024x1024_S512x1024_1_1_0_0_n_n = DotDims.transposedRhs 512 1024 1024 := rfl
theorem dotV_eq : dot_S512x1024_S1024x1024_S512x1024_1_0_0_1_n_n = DotDims.plain 512 1024 1024 := rfl

theorem pay9_apply (i k : Fin 128) : k0_pay9 (F := Ideal) (ix2 i k) = ((i.val : ℝ) : EReal) := by
  show (((iota .tc S128x128 32 [0] iota_S128x128_d0_w32 (ix2 i k)).toInt : ℝ) : EReal) = _
  rw [iota_single_apply]
  show (((BitVec.ofNat 32 i.val).toInt : ℝ) : EReal) = _
  rw [show (BitVec.ofNat 32 i.val).toInt = (i.val : ℤ) from (by decide +kernel : ∀ i : Fin 128, (BitVec.ofNat 32 i.val).toInt = (i.val : ℤ)) i]
  norm_cast

/-- The first factor a row of the table stands for: the even ones in the upper half, the odd ones in the lower. -/
def rowFactor (i : Fin 128) : ℕ := if i.val < 64 then 2 * i.val else 2 * (i.val - 64) + 1

theorem pay10_apply (i k : Fin 128) : k0_pay10 (F := Ideal) (ix2 i k) = ((rowFactor i : ℝ) : EReal) := by
  show (((Scalar.select (Scalar.cmpi .slt (iota .tc S128x128 32 [0] iota_S128x128_d0_w32 (ix2 i k)) 64#32)
    (Scalar.muli 2#32 (iota .tc S128x128 32 [0] iota_S128x128_d0_w32 (ix2 i k)))
    (Scalar.addi (Scalar.muli 2#32 (Scalar.subi (iota .tc S128x128 32 [0] iota_S128x128_d0_w32 (ix2 i k)) 64#32)) 1#32)).toInt : ℝ) : EReal) = _
  rw [iota_single_apply]
  show (((Scalar.select (Scalar.cmpi .slt (BitVec.ofNat 32 i.val) 64#32) (Scalar.muli 2#32 (BitVec.ofNat 32 i.val))
    (Scalar.addi (Scalar.muli 2#32 (Scalar.subi (BitVec.ofNat 32 i.val) 64#32)) 1#32)).toInt : ℝ) : EReal) = _
  rw [(by decide +kernel : ∀ i : Fin 128, (Scalar.select (Scalar.cmpi .slt (BitVec.ofNat 32 i.val) 64#32) (Scalar.muli 2#32 (BitVec.ofNat 32 i.val))
    (Scalar.addi (Scalar.muli 2#32 (Scalar.subi (BitVec.ofNat 32 i.val) 64#32)) 1#32)).toInt = (rowFactor i : ℤ)) i]
  norm_cast

theorem pay11_apply (i k : Fin 128) : k0_pay11 (F := Ideal) (ix2 i k) = 0 := Ideal.ofBits_zero_bf16
theorem pay12_apply (i k : Fin 128) : k0_pay12 (F := Ideal) (ix2 i k) = 1 := Ideal.ofBits_one_bf16

theorem select_oeq (x y u v : EReal) : Scalar.select (Ideal.cmp .oeq x y) u v = if x = y then u else v := by
  by_cases h : x = y <;> simp [Ideal.cmp, Scalar.select, h]

/-- A token's gate at row `i`, column `b`. -/
theorem tokGates_apply (av bv gv : FVec Ideal S64x128 .f32) (q : Fin 64) (i b : Fin 128) :
    tokGates av bv gv q (ix2 i b) = ∑ k : Fin 128, (if ((rowFactor i : ℝ) : EReal) = av (ix2 q k) then gv (ix2 q k) else 0) * (if ((b.val : ℝ) : EReal) = bv (ix2 q k) then 1 else 0) := by
  unfold tokGates
  rw [dotT_eq]
  refine (Ideal.matmul_transposedRhs_apply none _ _ _ i b).trans ?_
  rw [constant_apply, Ideal.ofBits_zero_f32, zero_add]
  refine Finset.sum_congr rfl fun k _ => ?_
  show Scalar.select (Ideal.cmp .oeq (k0_pay10 (F := Ideal) (ix2 i k)) (tokRows av q (ix2 i k))) (tokRows gv q (ix2 i k)) (k0_pay11 (F := Ideal) (ix2 i k))
    * Scalar.select (Ideal.cmp .oeq (k0_pay9 (F := Ideal) (ix2 b k)) (tokRows bv q (ix2 b k))) (k0_pay12 (F := Ideal) (ix2 b k)) (k0_pay11 (F := Ideal) (ix2 b k)) = _
  rw [tokRows_apply, tokRows_apply, tokRows_apply, pay9_apply, pay10_apply, pay11_apply, pay11_apply, pay12_apply, select_oeq, select_oeq]

/-- The words' halves: row `r`'s low half is the gates of the even factor `2 r`, its high half those of the odd one. -/
theorem tokPay_apply (av bv gv : FVec Ideal S64x128 .f32) (q : Fin 64) (r : Fin 64) (h : Fin 2) (b : Fin 128) :
    tokPay av bv gv q (ix3 r h b) = tokGates av bv gv q (ix2 ⟨64 * h.val + r.val, by omega⟩ b) := by
  have hb := b.isLt
  have hr := r.isLt
  unfold tokPay
  rw [interleaveRows_apply]
  have hrow : S64x2x128.row (ix3 r h b) = h.val := rfl
  rw [hrow]
  match h with
  | ⟨0, _⟩ =>
    refine (if_pos rfl).trans ?_
    refine (shapeCast_apply _ _ _ (ix2 r b) ?_).trans ((truncf_apply (s := S64x128) (φ := .f32) (ψ := .bf16) _ bitsLt_bf16_f32 _).trans (extractStridedSlice_apply _ _ _ _ _ ?_))
    · rw [Shape.rowMajor_val_two, Shape.rowMajor_val_three]
      show r.val * 128 + b.val = (r.val * 1 + 0 / 2) * 128 + b.val
      omega
    · intro a
      match a with
      | ⟨0, _⟩ => rfl
      | ⟨1, _⟩ => exact (Nat.zero_add _).symm
  | ⟨1, _⟩ =>
    refine (if_neg (show ¬ 1 % 2 = 0 by omega)).trans ?_
    refine (shapeCast_apply _ _ _ (ix2 r b) ?_).trans ((truncf_apply (s := S64x128) (φ := .f32) (ψ := .bf16) _ bitsLt_bf16_f32 _).trans (extractStridedSlice_apply _ _ _ _ _ ?_))
    · rw [Shape.rowMajor_val_two, Shape.rowMajor_val_three]
      show r.val * 128 + b.val = (r.val * 1 + 1 / 2) * 128 + b.val
      omega
    · intro a
      match a with
      | ⟨0, _⟩ => rfl
      | ⟨1, _⟩ => exact (Nat.zero_add _).symm

theorem pay26_apply (sel : S3x512x128.Idx → EReal) (j : Fin 3) (k : Fin k0_t1_loop.trips) (q : Fin 64) (x : Fin 128) (t : Fin 512) (ht : t.val = 64 * k.val + q.val) :
    shapeCast (α := EReal) S64x128 (selRows (F := Ideal) sel j k) shapeCasts_S1x64x128_S64x128 (ix2 q x) = sel (ix3 j t x) := by
  refine (shapeCast_apply _ _ _ (ix3 (0 : Fin 1) q x) ?_).trans ?_
  · rw [Shape.rowMajor_val_two, Shape.rowMajor_val_three]
    show (0 * 64 + q.val) * 128 + x.val = q.val * 128 + x.val
    omega
  · unfold selRows
    exact congrArg (fun z => sel (ix3 j z x)) (Fin.ext ht.symm)

/-- The gate of a token for the expert of factors `a`, `b`, from the token's selection: the halves of the gates of the entries that
    name it. -/
def gateAt (sel : S3x512x128.Idx → EReal) (t : Fin 512) (a b : ℕ) : EReal :=
  ∑ k : Fin 128, (if ((a : ℝ) : EReal) = sel (ix3 0 t k) then sel (ix3 2 t k) * Ideal.ofBits .f32 0x3F000000#32 else 0) * (if ((b : ℝ) : EReal) = sel (ix3 1 t k) then 1 else 0)

theorem gmV_apply (sel : S3x512x128.Idx → EReal) (t : Fin 512) (r : Fin 64) (h : Fin 2) (b : Fin 128) (y : Fin 36864) (hy : y.val = 72 * t.val + r.val) :
    gmV (F := Ideal) sel (ix3 y h b) = gateAt sel t (2 * r.val + h.val) b.val := by
  have ht := t.isLt
  have hr := r.isLt
  have hh := h.isLt
  unfold gmV
  refine (gmOf_at _ _ _ ⟨t.val / 64, show _ < 8 by omega⟩ ⟨t.val % 64, by omega⟩ (ix3 r h b) _ ?_ rfl rfl).trans ?_
  · show y.val = 4608 * (t.val / 64) + 72 * (t.val % 64) + r.val
    omega
  rw [tokPay_apply, tokGates_apply]
  unfold gateAt
  refine Finset.sum_congr rfl fun k _ => ?_
  have e : rowFactor ⟨64 * h.val + r.val, by omega⟩ = 2 * r.val + h.val := by
    unfold rowFactor
    match h with
    | ⟨0, _⟩ => exact (if_pos (by show 64 * 0 + r.val < 64; omega)).trans (by show 2 * (64 * 0 + r.val) = 2 * r.val + 0; omega)
    | ⟨1, _⟩ => exact (if_neg (by show ¬ 64 * 1 + r.val < 64; omega)).trans (by show 2 * (64 * 1 + r.val - 64) + 1 = 2 * r.val + 1; omega)
  have ht' : t.val = 64 * (t.val / 64) + t.val % 64 := by omega
  rw [e]
  refine congrArg₂ (· * ·) ?_ ?_
  · refine if_congr (Eq.congr_right (pay26_apply sel 0 _ _ k t ht')) ?_ rfl
    show shapeCast (α := EReal) S64x128 (selRows (F := Ideal) sel 2 _) shapeCasts_S1x64x128_S64x128 (ix2 _ k) * Ideal.ofBits .f32 0x3F000000#32 = _
    rw [pay26_apply sel 2 _ _ k t ht']
  · exact if_congr (Eq.congr_right (pay26_apply sel 1 _ _ k t ht')) rfl rfl

theorem lo_apply (w : Vec Ideal S512x2x128 .bf16) (t : Fin 512) (b : Fin 128) : k0_pay4932 w (ix2 t b) = w (ix3 t 0 b) := by
  show shapeCast (α := EReal) S512x128 (rowsOfParity 0 S512x1x128 w bitcasts_S512x2x128_w16_S512x1x128_w32) shapeCasts_S512x1x128_S512x128 (ix2 t b) = _
  refine (shapeCast_apply _ _ _ (ix3 t (0 : Fin 1) b) ?_).trans ?_
  · rw [Shape.rowMajor_val_two, Shape.rowMajor_val_three]
    show (t.val * 1 + 0) * 128 + b.val = t.val * 128 + b.val
    omega
  · rw [rowsOfParity_apply]
    congr 1
    funext a
    match a with
    | ⟨0, _⟩ => rfl
    | ⟨1, _⟩ => rfl
    | ⟨2, _⟩ => rfl

theorem hi_apply (w : Vec Ideal S512x2x128 .bf16) (t : Fin 512) (b : Fin 128) : k0_pay4933 (k0_pay4931 w) (ix2 t b) = w (ix3 t 1 b) := by
  show shapeCast (α := EReal) S512x128 (rowsOfParity 1 S512x1x128 w bitcasts_S512x2x128_w16_S512x1x128_w32) shapeCasts_S512x1x128_S512x128 (ix2 t b) = _
  refine (shapeCast_apply _ _ _ (ix3 t (0 : Fin 1) b) ?_).trans ?_
  · rw [Shape.rowMajor_val_two, Shape.rowMajor_val_three]
    show (t.val * 1 + 0) * 128 + b.val = t.val * 128 + b.val
    omega
  · rw [rowsOfParity_apply]
    congr 1
    funext a
    match a with
    | ⟨0, _⟩ => rfl
    | ⟨1, _⟩ => rfl
    | ⟨2, _⟩ => rfl

/-- The gates of a sub-block of 1024 experts as its step puts them together from four rows of words. -/
def laneGate (g : Fin 4 → Vec Ideal S512x2x128 .bf16) (t : Fin 512) (e : Fin 1024) : EReal :=
  g ⟨e.val / 256, by omega⟩ (ix3 t ⟨e.val / 128 % 2, by omega⟩ ⟨e.val % 128, by omega⟩)

/-- A hidden value's activation but for its half, which is in the gates. -/
def act (x : EReal) : EReal := x * (Ideal.ofBits .f32 0x3F800000#32 + Ideal.erf (x * Ideal.rsqrt (Ideal.ofBits .f32 0x40000000#32)))

theorem pay14_apply (e : Fin 1024) : k0_pay14 (F := Ideal) (ix2 0 e) = Ideal.rsqrt (Ideal.ofBits .f32 0x40000000#32) := by
  unfold k0_pay14
  have he := e.isLt
  refine (concat8 (s := S1x128) (t := S1x1024) (1 : Fin 2) (fun _ => rsqrt (broadcast S1x128 (Scalar.ofBits (F := Ideal) .f32 0x40000000#32))) _ rfl 128 rfl (ix2 0 e) ⟨e.val / 128, by omega⟩ (ix2 0 ⟨e.val % 128, by omega⟩) ?_ ?_).trans rfl
  · intro b hb
    match b with
    | ⟨0, _⟩ => rfl
    | ⟨1, _⟩ => exact absurd rfl hb
  · show 128 * (e.val / 128) + e.val % 128 = e.val; omega

theorem act_apply (x : Vec Ideal S512x1024 .bf16) (us : Vec Ideal S1024x1024 .bf16) (t : Fin 512) (e : Fin 1024) :
    k0_pay4930 x k0_pay14 us (ix2 t e) = act (∑ k : Fin 1024, x (ix2 t k) * us (ix2 e k)) := by
  have hm : (matmul (φ₁ := .bf16) (φ₂ := .bf16) dot_S512x1024_S1024x1024_S512x1024_1_1_0_0_n_n none (x : FVec Ideal S512x1024 .bf16) (shapeCast (α := EReal) S1024x1024 us shapeCasts_S1024x1024_S1024x1024 : FVec Ideal S1024x1024 .bf16)
      (constant S512x1024 .f32 0x00000000#32) : FVec Ideal S512x1024 .f32) (ix2 t e) = ∑ k : Fin 1024, x (ix2 t k) * us (ix2 e k) := by
    rw [dotU_eq]
    refine (Ideal.matmul_transposedRhs_apply none _ _ _ t e).trans ?_
    rw [constant_apply, Ideal.ofBits_zero_f32, zero_add]
    exact Finset.sum_congr rfl fun k _ => congrArg (x (ix2 t k) * ·) (shapeCast_apply _ _ _ _ rfl)
  have hb : broadcastTo (α := EReal) S512x1024 (k0_pay14 (F := Ideal)) broadcasts_S1x1024_S512x1024 (ix2 t e) = Ideal.rsqrt (Ideal.ofBits .f32 0x40000000#32) := by
    refine (broadcastTo_apply _ _ _ (ix2 0 e) ?_).trans (pay14_apply e)
    intro a
    match a with
    | ⟨0, _⟩ => rfl
    | ⟨1, _⟩ => rfl
  unfold k0_pay4930 act
  rw [← hm, ← hb]
  rfl

/-- A sub-block's step, entry by entry: what was there, plus its experts' activations times gates times rows of `v`. -/
theorem unitV_apply (x : Vec Ideal S512x1024 .bf16) (us vs : Vec Ideal S1024x1024 .bf16) (g : Fin 4 → Vec Ideal S512x2x128 .bf16) (acc : Vec Ideal S512x1024 .f32)
    (t : Fin 512) (d : Fin 1024) :
    unitV x us vs g acc (ix2 t d) = acc (ix2 t d) + ∑ e : Fin 1024, act (∑ k : Fin 1024, x (ix2 t k) * us (ix2 e k)) * laneGate g t e * vs (ix2 e d) := by
  have hc : ∀ e : Fin 1024, concatenate S512x1024 1 [⟨S512x128, k0_pay4932 (g 0)⟩, ⟨S512x128, k0_pay4933 (k0_pay4931 (g 0))⟩, ⟨S512x128, k0_pay4934 (g 1)⟩, ⟨S512x128, k0_pay4935 (g 1)⟩,
      ⟨S512x128, k0_pay4936 (g 2)⟩, ⟨S512x128, k0_pay4937 (g 2)⟩, ⟨S512x128, k0_pay4932 (g 3)⟩, ⟨S512x128, k0_pay4933 (k0_pay4931 (g 3))⟩]
      concatenates_S512x128_S512x128_S512x128_S512x128_S512x128_S512x128_S512x128_S512x128_S512x1024_d1 (ix2 t e) = laneGate g t e := by
    intro e
    have he := e.isLt
    refine (concat8 (s := S512x128) (t := S512x1024) (1 : Fin 2) (fun q => if q.val % 2 = 0 then k0_pay4932 (g ⟨q.val / 2, by omega⟩) else k0_pay4933 (k0_pay4931 (g ⟨q.val / 2, by omega⟩))) _ rfl 128 rfl (ix2 t e)
      ⟨e.val / 128, by omega⟩ (ix2 t ⟨e.val % 128, by omega⟩) ?_ ?_).trans ?_
    · intro b hb
      match b with
      | ⟨0, _⟩ => rfl
      | ⟨1, _⟩ => exact absurd rfl hb
    · show 128 * (e.val / 128) + e.val % 128 = e.val; omega
    · have eg : (⟨e.val / 128 / 2, by omega⟩ : Fin 4) = ⟨e.val / 256, by omega⟩ := Fin.ext (by show e.val / 128 / 2 = e.val / 256; omega)
      unfold laneGate
      by_cases hp : e.val / 128 % 2 = 0
      · refine (congrFun (if_pos hp) _).trans ((lo_apply _ _ _).trans ?_)
        rw [eg]
        exact congrArg (fun z => g ⟨e.val / 256, by omega⟩ (ix3 t z ⟨e.val % 128, by omega⟩)) (Fin.ext hp.symm)
      · refine (congrFun (if_neg hp) _).trans ((hi_apply _ _ _).trans ?_)
        rw [eg]
        exact congrArg (fun z => g ⟨e.val / 256, by omega⟩ (ix3 t z ⟨e.val % 128, by omega⟩)) (Fin.ext (by show 1 = e.val / 128 % 2; omega))
  unfold unitV k0_pay15
  refine congrArg₂ (· + ·) (shapeCast_apply _ _ _ _ rfl) ?_
  rw [dotV_eq]
  refine (Ideal.matmul_plain_apply none _ _ _ t d).trans ?_
  rw [constant_apply, Ideal.ofBits_zero_f32, zero_add]
  refine Finset.sum_congr rfl fun e _ => ?_
  refine congrArg₂ (· * ·) ?_ (shapeCast_apply _ _ _ _ rfl)
  exact congrArg₂ (· * ·) (act_apply x us t e) (hc e)

end Cert.KernelWordsIdeal.Exact

end
-- ==== Proof.SumQI.lean ====
/-
  Hand-written. `KernelWordsIdeal`'s first tile over the extended reals, entry by entry: a sum over the 16384 experts.
-/
module

public import proofs.«01_k».proof.Proof.ValueQI

@[expose] public section

set_option maxRecDepth 1460

noncomputable section

namespace Cert.KernelWordsIdeal.Exact

open Cert.KernelWordsIdeal Cert.KernelWordsIdeal.Gen Cert.KernelWordsIdeal.Hand
open Idealize.ShloMosaic hiding ix1 ix2 ix3 ix4
open Idealize.ShloMosaic.ValueIdx
open Idealize.ShloMosaic.TcCoe
open Idealize.SL
open scoped BigOperators

/-- Row `n` of a table of experts. -/
def row (X : S16384x1024.Idx → EReal) (n : ℕ) (k : Fin 1024) : EReal := X (ix2 ⟨n % 16384, by omega⟩ k)

/-- What expert `n` adds to entry `d` of a token. -/
def expertTerm (x : S512x1024.Idx → EReal) (U V : S16384x1024.Idx → EReal) (sel : S3x512x128.Idx → EReal) (t : Fin 512) (d : Fin 1024) (n : ℕ) : EReal :=
  act (∑ k : Fin 1024, x (ix2 t k) * row U n k) * gateAt sel t (n / 128) (n % 128) * row V n d

theorem halfTerm (x : Vec Ideal S512x1024 .bf16) (us vs : S2048x1024.Idx → EReal) (U V : S16384x1024.Idx → EReal) (sel : S3x512x128.Idx → EReal) (i : grid0.Coords) (j : ℕ) (hj : (i 1).val = j)
    (k : Fin k0_t2_loop.trips) (hu : ∀ (y : Fin 2048) (d : Fin 1024), us (ix2 y d) = row U (2048 * j + y.val) d) (hv : ∀ (y : Fin 2048) (d : Fin 1024), vs (ix2 y d) = row V (2048 * j + y.val) d)
    (acc : Vec Ideal S512x1024 .f32) (t : Fin 512) (d : Fin 1024) :
    unitV x (halfRows (F := Ideal) k us) (halfRows (F := Ideal) k vs) (wordRows (F := Ideal) (gmV (F := Ideal) sel) i k) acc (ix2 t d)
      = acc (ix2 t d) + ∑ e ∈ Finset.range 1024, expertTerm x U V sel t d (2048 * j + 1024 * k.val + e) := by
  have hk : k.val < 2 := k.isLt
  have hj8 : (i 1).val < 8 := (i 1).isLt
  have ht := t.isLt
  rw [unitV_apply, Finset.sum_range]
  refine congrArg (acc (ix2 t d) + ·) (Finset.sum_congr rfl fun e _ => ?_)
  have he := e.isLt
  unfold expertTerm
  have e1 : ∀ (X : S2048x1024.Idx → EReal) (W : S16384x1024.Idx → EReal) (_ : ∀ (y : Fin 2048) (d : Fin 1024), X (ix2 y d) = row W (2048 * j + y.val) d) (d : Fin 1024),
      halfRows (F := Ideal) k X (ix2 e d) = row W (2048 * j + 1024 * k.val + e.val) d := fun X W h d =>
    (h ⟨1024 * k.val + e.val, by omega⟩ d).trans (congrArg (row W · d) (by show 2048 * j + (1024 * k.val + e.val) = _; omega))
  refine congrArg₂ (· * ·) (congrArg₂ (· * ·) ?_ ?_) (e1 vs V hv d)
  · exact congrArg act (Finset.sum_congr rfl fun q _ => congrArg (x (ix2 t q) * ·) (e1 us U hu q))
  · unfold laneGate wordRows
    refine (gmV_apply sel t ⟨8 * (i 1).val + 4 * k.val + e.val / 256, by omega⟩ ⟨e.val / 128 % 2, by omega⟩ ⟨e.val % 128, by omega⟩ _ rfl).trans ?_
    refine congrArg₂ (gateAt sel t) ?_ ?_
    · show 2 * (8 * (i 1).val + 4 * k.val + e.val / 256) + e.val / 128 % 2 = (2048 * j + 1024 * k.val + e.val) / 128
      omega
    · show e.val % 128 = (2048 * j + 1024 * k.val + e.val) % 128
      omega

theorem point_apply (x : Vec Ideal S512x1024 .bf16) (us vs : S2048x1024.Idx → EReal) (U V : S16384x1024.Idx → EReal) (sel : S3x512x128.Idx → EReal) (i : grid0.Coords) (j : ℕ) (hj : (i 1).val = j)
    (hu : ∀ (y : Fin 2048) (d : Fin 1024), us (ix2 y d) = row U (2048 * j + y.val) d) (hv : ∀ (y : Fin 2048) (d : Fin 1024), vs (ix2 y d) = row V (2048 * j + y.val) d)
    (acc : Vec Ideal S512x1024 .f32) (t : Fin 512) (d : Fin 1024) :
    pointV x us vs (gmV (F := Ideal) sel) i acc (ix2 t d) = acc (ix2 t d) + ∑ e ∈ Finset.range 2048, expertTerm x U V sel t d (2048 * j + e) := by
  unfold pointV
  rw [halfTerm x us vs U V sel i j hj u1 hu hv, halfTerm x us vs U V sel i j hj u0 hu hv, add_assoc]
  refine congrArg (acc (ix2 t d) + ·) ((Finset.sum_range_add (fun e => expertTerm x U V sel t d (2048 * j + e)) 1024 1024).trans ?_).symm
  refine congrArg₂ (· + ·) (Finset.sum_congr rfl fun e _ => ?_) (Finset.sum_congr rfl fun e _ => ?_)
  · exact congrArg (expertTerm x U V sel t d) (by show 2048 * j + e = 2048 * j + 1024 * 0 + e; omega)
  · exact congrArg (expertTerm x U V sel t d) (by show 2048 * j + (1024 + e) = 2048 * j + 1024 * 1 + e; omega)

variable (m : (ℓ : Loc nD τ sig) → Buf (Elt Ideal) ℓ)

/-- The first tile of the layer's input, its tables and its selection, as the kernel's run finds them. -/
def tileX (c : Dev nD) : S512x1024.Idx → EReal := fun y => m ((c : Thread nD τ).loc main_arg0) (ix2 ⟨(y 0).val, by have h : (y 0).val < 512 := (y 0).isLt; omega⟩ (y 1))
def tabU (c : Dev nD) : S16384x1024.Idx → EReal := fun y => m ((c : Thread nD τ).loc main_arg1) (ix3 (0 : Fin 1) (y 0) (y 1))
def tabV (c : Dev nD) : S16384x1024.Idx → EReal := fun y => m ((c : Thread nD τ).loc main_arg2) (ix3 (0 : Fin 1) (y 0) (y 1))

theorem cast_tab (X : S1x16384x1024.Idx → EReal) (y : S16384x1024.Idx) : shapeCast (α := EReal) S16384x1024 X shapeCasts_S1x16384x1024_S16384x1024 y = X (ix3 (0 : Fin 1) (y 0) (y 1)) := by
  refine shapeCast_apply _ _ _ _ ?_
  rw [Shape.rowMajor_val_two, Shape.rowMajor_val_three]
  show (0 * 16384 + (y 0).val) * 1024 + (y 1).val = (y 0).val * 1024 + (y 1).val
  omega

theorem V1_apply (c : Dev nD) (y : S16384x1024.Idx) : V m c main_v1 y = tabU m c y := by
  rw [V_main_v1]
  exact cast_tab _ y

theorem V3_apply (c : Dev nD) (y : S16384x1024.Idx) : V m c main_v3 y = tabV m c y := by
  rw [V_main_v3]
  exact cast_tab _ y

theorem iblk0_eq (c : Dev nD) (n : ℕ) (h : n < 8) : iblk m c 0 (pnt n (by omega)) = tileX m c := by
  funext y
  refine iblk0_apply m c _ y (ix2 ⟨(y 0).val, by have h : (y 0).val < 512 := (y 0).isLt; omega⟩ (y 1)) ?_ rfl
  show (y 0).val = n / 8 * 512 + (y 0).val
  omega

theorem iblk1_eq (c : Dev nD) (n : ℕ) (h : n < 8) (y : Fin 2048) (d : Fin 1024) : iblk m c 1 (pnt n (by omega)) (ix2 y d) = row (tabU m c) (2048 * n + y.val) d := by
  have hy := y.isLt
  refine (iblk1_apply m c _ _ (ix2 ⟨(2048 * n + y.val) % 16384, by omega⟩ d) ?_ rfl).trans (V1_apply m c _)
  show (2048 * n + y.val) % 16384 = n % 8 * 2048 + y.val
  omega

theorem iblk2_eq (c : Dev nD) (n : ℕ) (h : n < 8) (y : Fin 2048) (d : Fin 1024) : iblk m c 2 (pnt n (by omega)) (ix2 y d) = row (tabV m c) (2048 * n + y.val) d := by
  have hy := y.isLt
  refine (iblk2_apply m c _ _ (ix2 ⟨(2048 * n + y.val) % 16384, by omega⟩ d) ?_ rfl).trans (V3_apply m c _)
  show (2048 * n + y.val) % 16384 = n % 8 * 2048 + y.val
  omega

/-- The first tile's selection. -/
def sel0 (c : Dev nD) : S3x512x128.Idx → EReal := selT m c 0 (by omega)

theorem stepN_apply (c : Dev nD) (n : ℕ) (h : n < 8) (acc : Vec Ideal S512x1024 .f32) (t : Fin 512) (d : Fin 1024) :
    stepN m c n (by omega) acc (ix2 t d)
      = acc (ix2 t d) + ∑ e ∈ Finset.range 2048, expertTerm (tileX m c) (tabU m c) (tabV m c) (sel0 m c) t d (2048 * n + e) := by
  have hs : selT m c (n / 8) (by omega) = sel0 m c := selT_congr m c (by omega) _ _
  unfold stepN
  rw [hs, iblk0_eq m c n h]
  exact point_apply (tileX m c) _ _ (tabU m c) (tabV m c) (sel0 m c) _ n ((coords_one _).trans (by show n % 8 = n; omega)) (iblk1_eq m c n h) (iblk2_eq m c n h) acc t d

theorem pay8_apply (y : S512x1024.Idx) : k0_pay8 (F := Ideal) y = 0 := Ideal.ofBits_zero_f32

theorem outN_apply (c : Dev nD) (t : Fin 512) (d : Fin 1024) : ∀ (n : ℕ) (h : n < 7),
    outN m c n (by omega) (ix2 t d) = ∑ e ∈ Finset.range (2048 * (n + 1)), expertTerm (tileX m c) (tabU m c) (tabV m c) (sel0 m c) t d e
  | 0, h => by
    refine (congrFun (outN_first m c (pnt 0 (by omega)) rfl) _).trans ((stepN_apply m c 0 (by omega) _ t d).trans ?_)
    rw [pay8_apply, zero_add]
    exact Finset.sum_congr rfl fun e _ => congrArg _ (by omega)
  | n + 1, h => by
    refine (congrFun (outN_mid m c (pnt (n + 1) (by omega)) (by show (n + 1) % 8 ≠ 0; omega) (by show (n + 1) % 8 ≠ 7; omega)) _).trans ((stepN_apply m c (n + 1) (by omega) _ t d).trans ?_)
    rw [show 2048 * (n + 1 + 1) = 2048 * (n + 1) + 2048 by omega, Finset.sum_range_add]
    exact congrArg (· + _) (outN_apply c t d n (by omega))

/-- A token's entry of the result, from the token's row of sums: the residual added, the row scaled to unit mean square, and the
    norm's weight. -/
def normed (y : Fin 1024 → EReal) (w : EReal) (d : Fin 1024) : EReal :=
  y d * Ideal.rsqrt (Ideal.div (∑ k : Fin 1024, y k * y k) (Ideal.ofBits .f32 0x44800000#32) + Ideal.ofBits .f32 0x358637BD#32) * w

theorem pay16_apply (hb o : Vec Ideal S512x1024 .f32) (w : Vec Ideal S1x1024 .f32) (t : Fin 512) (d : Fin 1024) :
    k0_pay16 hb o w (ix2 t d) = normed (fun k => hb (ix2 t k) + o (ix2 t k)) (w (ix2 (0 : Fin 1) d)) d := by
  have hsum : shapeCast (α := EReal) S512x1 (multiReduction (F := Ideal) (φ := .f32) .add [1] S512 (mulf (addf hb o) (addf hb o)) 0x00000000#32 reduces_S512x1024_S512 (.inl rfl) rfl) shapeCasts_S512_S512x1 (ix2 t (0 : Fin 1))
      = ∑ k : Fin 1024, (hb (ix2 t k) + o (ix2 t k)) * (hb (ix2 t k) + o (ix2 t k)) := by
    refine (shapeCast_apply _ _ _ (ix1 t) ?_).trans ?_
    · rw [Shape.rowMajor_val_two, Shape.rowMajor_val_one]
      show t.val = t.val * 1 + 0
      omega
    · refine (Ideal.multiReduction_add_single _ _ _ _ _ _).trans ?_
      refine Finset.sum_congr rfl fun k _ => ?_
      have e : reduces_S512x1024_S512.lift (ix1 t) k = ix2 t k := by
        funext a
        match a with
        | ⟨0, _⟩ => rfl
        | ⟨1, _⟩ => rfl
      exact congrArg (mulf (F := Ideal) (φ := .f32) (addf hb o) (addf hb o)) e
  have hc : (shapeCast S512x1024 o shapeCasts_S512x1024_S512x1024 : FVec Ideal S512x1024 .f32) = o := funext fun z => shapeCast_apply _ _ _ _ rfl
  unfold k0_pay16
  rw [hc]
  unfold normed
  refine congrArg₂ (· * ·) (congrArg₂ (· * ·) rfl ?_) ?_
  · refine (broadcastTo_apply _ _ _ (ix2 t (0 : Fin 1)) ?_).trans ?_
    · intro a
      match a with
      | ⟨0, _⟩ => rfl
      | ⟨1, _⟩ => rfl
    · rw [← hsum]
      rfl
  · refine (broadcastTo_apply _ _ _ (ix2 (0 : Fin 1) d) ?_).trans (shapeCast_apply _ _ _ _ rfl)
    intro a
    match a with
    | ⟨0, _⟩ => rfl
    | ⟨1, _⟩ => rfl

/-- The first tile of the residual, and the norm's weights. -/
def tileH (c : Dev nD) : S512x1024.Idx → EReal := fun y => m ((c : Thread nD τ).loc main_arg7) (ix2 ⟨(y 0).val, by have h : (y 0).val < 512 := (y 0).isLt; omega⟩ (y 1))
def normW (c : Dev nD) : S1024.Idx → EReal := m ((c : Thread nD τ).loc main_arg8)

theorem iblk7_eq (c : Dev nD) (n : ℕ) (h : n < 8) : iblk m c 7 (pnt n (by omega)) = tileH m c := by
  funext y
  refine iblk7_apply m c _ y (ix2 ⟨(y 0).val, by have h : (y 0).val < 512 := (y 0).isLt; omega⟩ (y 1)) ?_ rfl
  show (y 0).val = n / 8 * 512 + (y 0).val
  omega

theorem iblk8_eq (c : Dev nD) (t : Fin cfg0.N) (d : Fin 1024) : iblk m c 8 t (ix2 (0 : Fin 1) d) = normW m c (ix1 d) := by
  refine (iblk8_apply m c _ _ (ix2 (0 : Fin 1) d) rfl rfl).trans ?_
  rw [V_main_v6]
  refine shapeCast_apply _ _ _ (ix1 d) ?_
  rw [Shape.rowMajor_val_two, Shape.rowMajor_val_one]
  show d.val = 0 * 1024 + d.val
  omega

/-- The sums the last point finds the tile's tokens at. -/
theorem sums_apply (c : Dev nD) (t : Fin 512) (d : Fin 1024) :
    stepN m c 7 (by omega) (outN m c 6 (by omega)) (ix2 t d) = ∑ e ∈ Finset.range 16384, expertTerm (tileX m c) (tabU m c) (tabV m c) (sel0 m c) t d e := by
  refine (stepN_apply m c 7 (by omega) _ t d).trans ?_
  rw [show (16384 : ℕ) = 2048 * (6 + 1) + 2048 from rfl, Finset.sum_range_add]
  exact congrArg (· + _) (outN_apply m c t d 6 (by omega))

/-- The kernel's result, entry by entry. -/
theorem kernel_value (c : Dev nD) (t : Fin 512) (d : Fin 1024) :
    outN m c 7 (by omega) (ix2 t d)
      = normed (fun k => tileH m c (ix2 t k) + ∑ e ∈ Finset.range 16384, expertTerm (tileX m c) (tabU m c) (tabV m c) (sel0 m c) t k e) (normW m c (ix1 d)) d := by
  have e := congrFun (outN_last m c (pnt 7 (by omega)) rfl) (ix2 t d)
  refine e.trans ?_
  have e7 : iblk m c 7 (pnt 7 (by omega)) = tileH m c := iblk7_eq m c 7 (by omega)
  rw [e7]
  refine (pay16_apply (tileH m c) _ _ t d).trans ?_
  rw [iblk8_eq]
  refine congrArg (fun f => normed f (normW m c (ix1 d)) d) (funext fun k => ?_)
  exact congrArg (tileH m c (ix2 t k) + ·) (sums_apply m c t k)

end Cert.KernelWordsIdeal.Exact

end
-- ==== Proof.RefVal.lean ====
/-
  Hand-written. The reference's result over the extended reals, entry by entry: a sum over a token's 128 selected experts.
-/
module

public import proofs.«01_k».proof.Proof.Gen.ReferenceIdeal.Run
public import proofs.«01_k».proof.Proof.SumQI
public import Idealize.ShloMosaic.Lib.Pointwise
public import Idealize.ShloMosaic.Lib.StableHlo.Predicate

@[expose] public section

set_option maxRecDepth 8192

noncomputable section

namespace Cert.ReferenceIdeal.Value

open Cert.ReferenceIdeal Cert.ReferenceIdeal.Gen
open Idealize.ShloMosaic hiding ix1 ix2 ix3 ix4
open Idealize.ShloMosaic.ValueIdx
open Idealize.ShloMosaic.TcCoe

/-- The selected experts' numbers, in the form the rows are taken by. -/
def idxT (a b : IVec S512x128 32) : IVec S512x128x1 32 :=
  broadcastInDim S512x128x1 ![0, 1] bcast_S512x128_S512x128x1_0_1
    (select (cmpi .slt (addi (muli a (broadcastInDim S512x128 ![] bcast_S_S512x128 (constantI S_ 32 128#32))) b) (broadcastInDim S512x128 ![] bcast_S_S512x128 (constantI S_ 32 0#32)))
      (addi (addi (muli a (broadcastInDim S512x128 ![] bcast_S_S512x128 (constantI S_ 32 128#32))) b) (broadcastInDim S512x128 ![] bcast_S_S512x128 (constantI S_ 32 16384#32)))
      (addi (muli a (broadcastInDim S512x128 ![] bcast_S_S512x128 (constantI S_ 32 128#32))) b))

/-- A table's rows for the selected experts. -/
def rowsT (X : FVec Ideal S1x16384x1024 .f32) (a b : IVec S512x128 32) : FVec Ideal S512x128x1024 .f32 :=
  Host.gather gather_S16384x1024_S512x128x1_S512x128x1024_2_0_n_n_0_2_11024 (shapeCast S16384x1024 X shapeCasts_S1x16384x1024_S16384x1024) (idxT a b)

/-- The selected experts' hidden values. -/
def hidT (n : FVec Ideal S16384x1024 .bf16) (U : FVec Ideal S1x16384x1024 .f32) (a b : IVec S512x128 32) : FVec Ideal S512x128 .f32 :=
  Host.dotGeneral dot_S512x1024_S512x128x1024_S512x128_1_2_n_1_0_0 none (extf .f32 (extractStridedSlice S512x1024 ![0, 0] n slices_S16384x1024_S512x1024_0_0) bitsLt_bf16_f32) (rowsT U a b)

/-- Their activations. -/
def actT (x : FVec Ideal S512x128 .f32) : FVec Ideal S512x128 .f32 :=
  mulf (mulf (broadcastInDim S512x128 ![] bcast_S_S512x128 (constant S_ .f32 0x3F000000#32)) x)
    (addf (broadcastInDim S512x128 ![] bcast_S_S512x128 (constant S_ .f32 0x3F800000#32))
      (Host.erf (Host.divf x (broadcastInDim S512x128 ![] bcast_S_S512x128 (id (Host.sqrt (constant S_ .f32 0x40000000#32)))))))

/-- The residual plus the experts' sum. -/
def sumT (h : FVec Ideal S16384x1024 .f32) (g act : FVec Ideal S512x128 .f32) (rows : FVec Ideal S512x128x1024 .f32) : FVec Ideal S512x1024 .f32 :=
  addf (extractStridedSlice S512x1024 ![0, 0] h slices_S16384x1024_S512x1024_0_0) (Host.dotGeneral dot_S512x128_S512x128x1024_S512x1024_1_1_n_2_0_0 none (mulf g act) rows)

/-- The final norm. -/
def normT (y : FVec Ideal S512x1024 .f32) (w : FVec Ideal S1024 .f32) : FVec Ideal S512x1024 .f32 :=
  mulf (mulf y (broadcastInDim S512x1024 ![0, 1] bcast_S512x1_S512x1024_0_1 (Host.rsqrt (addf (Host.divf (broadcastInDim S512x1 ![0] bcast_S512_S512x1_0
      (Host.reduceAdd (mulf y y) (constant S_ .f32 0x00000000#32) reducesTo_S512x1024_S512_d1 h_S_)) (broadcastInDim S512x1 ![] bcast_S_S512x1 (constant S_ .f32 0x44800000#32)))
      (broadcastInDim S512x1 ![] bcast_S_S512x1 (constant S_ .f32 0x358637BD#32))))))
    (broadcastInDim S512x1024 ![0, 1] bcast_S1x1024_S512x1024_0_1 (broadcastInDim S1x1024 ![1] bcast_S1024_S1x1024_1 w))

/-- The reference's result from its arguments. -/
def refT (n : FVec Ideal S16384x1024 .bf16) (U V : FVec Ideal S1x16384x1024 .f32) (a b : IVec S512x128 32) (g : FVec Ideal S512x128 .f32) (h : FVec Ideal S16384x1024 .f32)
    (w : FVec Ideal S1024 .f32) : FVec Ideal S512x1024 .f32 :=
  normT (sumT h g (actT (hidT n U a b)) (rowsT V a b)) w

theorem res_eq (m : (ℓ : Loc nD τ sig) → Buf (Elt Ideal) ℓ) (c : Dev nD) :
    res_main_v48 m c = refT (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg7)) (m ((c.tc : Thread nD τ).loc main_arg8)) := by
  unfold res_main_v48 refT normT sumT actT hidT rowsT idxT
  rfl

theorem gather_rows (x : S16384x1024.Idx → EReal) (i : IVec S512x128x1 32) (t : Fin 512) (e : Fin 128) (d : Fin 1024) :
    Host.gather gather_S16384x1024_S512x128x1_S512x128x1024_2_0_n_n_0_2_11024 x i (ix3 t e d) = x (ix2 ⟨min (i (ix3 t e (0 : Fin 1))).toInt.toNat (16384 - 1), by omega⟩ d) := by
  unfold Host.gather
  congr 1
  funext a
  refine Fin.ext ?_
  match a with
  | ⟨0, _⟩ =>
    show gather_S16384x1024_S512x128x1_S512x128x1024_2_0_n_n_0_2_11024.start (ix3 t e d) i 0 + gather_S16384x1024_S512x128x1_S512x128x1024_2_0_n_n_0_2_11024.batchCoord (ix3 t e d) 0
      + gather_S16384x1024_S512x128x1_S512x128x1024_2_0_n_n_0_2_11024.offCoord (ix3 t e d) 0 = _
    rw [GatherDims.batchCoord_eq_zero _ _ _ List.not_mem_nil, GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S16384x1024_S512x128x1_S512x128x1024_2_0_n_n_0_2_11024.startIndexMap from List.mem_singleton.mpr rfl)]
    have hs : gather_S16384x1024_S512x128x1_S512x128x1024_2_0_n_n_0_2_11024.siIdx (ix3 t e d) ⟨List.idxOf (0 : Fin 2) gather_S16384x1024_S512x128x1_S512x128x1024_2_0_n_n_0_2_11024.startIndexMap,
        List.idxOf_lt_length_iff.2 (List.mem_singleton.mpr rfl)⟩ = ix3 t e (0 : Fin 1) := by
      funext b
      refine Fin.ext ?_
      match b with
      | ⟨0, _⟩ => rfl
      | ⟨1, _⟩ => rfl
      | ⟨2, _⟩ => rfl
    rw [hs]
    rfl
  | ⟨1, _⟩ =>
    show gather_S16384x1024_S512x128x1_S512x128x1024_2_0_n_n_0_2_11024.start (ix3 t e d) i 1 + gather_S16384x1024_S512x128x1_S512x128x1024_2_0_n_n_0_2_11024.batchCoord (ix3 t e d) 1
      + gather_S16384x1024_S512x128x1_S512x128x1024_2_0_n_n_0_2_11024.offCoord (ix3 t e d) 1 = d.val
    rw [GatherDims.batchCoord_eq_zero _ _ _ List.not_mem_nil]
    unfold GatherDims.start GatherDims.offCoord
    rw [dif_neg (show (1 : Fin 2) ∉ gather_S16384x1024_S512x128x1_S512x128x1024_2_0_n_n_0_2_11024.startIndexMap by decide),
      dif_pos (show (1 : Fin 2) ∈ gather_S16384x1024_S512x128x1_S512x128x1024_2_0_n_n_0_2_11024.sKept by decide)]
    simp only [Nat.zero_add]
    rfl

theorem dot1 (x : FVec Ideal S512x1024 .f32) (u : FVec Ideal S512x128x1024 .f32) (t : Fin 512) (e : Fin 128) :
    Host.dotGeneral dot_S512x1024_S512x128x1024_S512x128_1_2_n_1_0_0 none x u (ix2 t e) = ∑ k : Fin 1024, x (ix2 t k) * u (ix3 t e k) := by
  pointwise
  rfl

theorem dot2 (x : FVec Ideal S512x128 .f32) (u : FVec Ideal S512x128x1024 .f32) (t : Fin 512) (d : Fin 1024) :
    Host.dotGeneral dot_S512x128_S512x128x1024_S512x1024_1_1_n_2_0_0 none x u (ix2 t d) = ∑ k : Fin 128, x (ix2 t k) * u (ix3 t k d) := by
  pointwise
  rfl

theorem normT_apply (y : FVec Ideal S512x1024 .f32) (w : FVec Ideal S1024 .f32) (t : Fin 512) (d : Fin 1024) :
    normT y w (ix2 t d) = Cert.KernelWordsIdeal.Exact.normed (fun k => y (ix2 t k)) (w (ix1 d)) d := by
  unfold normT Cert.KernelWordsIdeal.Exact.normed
  pointwise
  rfl

/-- The number of a token's `e`-th expert. -/
def expertNo (a b : IVec S512x128 32) (t : Fin 512) (e : Fin 128) : ℕ := 128 * (a (ix2 t e)).toNat + (b (ix2 t e)).toNat

theorem word_expert (a b : BitVec 32) (ha : a.toNat < 128) (hb : b.toNat < 128) :
    (Scalar.select (Scalar.cmpi .slt (a * 128#32 + b) 0#32) (a * 128#32 + b + 16384#32) (a * 128#32 + b)).toInt.toNat = 128 * a.toNat + b.toNat := by
  have e : a * 128#32 + b = BitVec.ofNat 32 (128 * a.toNat + b.toNat) := by
    apply BitVec.eq_of_toNat_eq
    simp only [BitVec.toNat_add, BitVec.toNat_mul, BitVec.toNat_ofNat]
    omega
  rw [e]
  generalize hn : 128 * a.toNat + b.toNat = n
  have hn' : n < 16384 := by omega
  clear hn e
  have hi : (BitVec.ofNat 32 n).toInt = (n : ℤ) := StableHlo.Predicate.toInt_ofNat_small n (by omega)
  have hc : Scalar.cmpi .slt (BitVec.ofNat 32 n) 0#32 = 0#1 := by
    show BitVec.ofBool (BitVec.slt (BitVec.ofNat 32 n) 0#32) = 0#1
    rw [BitVec.slt_eq_decide, hi]
    have : ¬ (n : ℤ) < (0#32).toInt := by
      show ¬ (n : ℤ) < 0
      omega
    rw [decide_eq_false this]
    rfl
  rw [hc]
  show (BitVec.ofNat 32 n).toInt.toNat = n
  rw [hi]
  rfl

theorem rowsT_apply (X : FVec Ideal S1x16384x1024 .f32) (a b : IVec S512x128 32) (t : Fin 512) (e : Fin 128) (d : Fin 1024) (ha : (a (ix2 t e)).toNat < 128) (hb : (b (ix2 t e)).toNat < 128) :
    rowsT X a b (ix3 t e d) = X (ix3 (0 : Fin 1) ⟨expertNo a b t e, by unfold expertNo; omega⟩ d) := by
  unfold rowsT
  rw [gather_rows]
  have hi : (idxT a b (ix3 t e (0 : Fin 1))).toInt.toNat = expertNo a b t e := by
    refine Eq.trans (congrArg (fun z : BitVec 32 => z.toInt.toNat) ?_) (word_expert _ _ ha hb)
    unfold idxT
    pointwise
    rfl
  refine (shapeCast_apply _ _ _ (ix3 (0 : Fin 1) ⟨expertNo a b t e, by unfold expertNo; omega⟩ d) ?_)
  rw [Shape.rowMajor_val_two, Shape.rowMajor_val_three]
  show (0 * 16384 + expertNo a b t e) * 1024 + d.val = min _ _ * 1024 + d.val
  rw [hi]
  unfold expertNo
  omega

/-- The reference's activation. -/
def actR (x : EReal) : EReal := Ideal.ofBits .f32 0x3F000000#32 * x * (Ideal.ofBits .f32 0x3F800000#32 + Ideal.erf (Ideal.div x (Ideal.sqrt (Ideal.ofBits .f32 0x40000000#32))))

theorem actT_apply (x : FVec Ideal S512x128 .f32) (y : S512x128.Idx) : actT x y = actR (x y) := rfl

theorem refT_apply (n : FVec Ideal S16384x1024 .bf16) (U V : FVec Ideal S1x16384x1024 .f32) (a b : IVec S512x128 32) (g : FVec Ideal S512x128 .f32) (h : FVec Ideal S16384x1024 .f32)
    (w : FVec Ideal S1024 .f32) (ha : ∀ y, (a y).toNat < 128) (hb : ∀ y, (b y).toNat < 128) (t : Fin 512) (d : Fin 1024) :
    refT n U V a b g h w (ix2 t d) = Cert.KernelWordsIdeal.Exact.normed (fun k => h (ix2 ⟨t.val, by omega⟩ k)
      + ∑ e : Fin 128, g (ix2 t e) * actR (∑ q : Fin 1024, n (ix2 ⟨t.val, by omega⟩ q) * U (ix3 (0 : Fin 1) ⟨expertNo a b t e, by have := ha (ix2 t e); have := hb (ix2 t e); unfold expertNo; omega⟩ q))
        * V (ix3 (0 : Fin 1) ⟨expertNo a b t e, by have := ha (ix2 t e); have := hb (ix2 t e); unfold expertNo; omega⟩ k)) (w (ix1 d)) d := by
  unfold refT
  rw [normT_apply]
  refine congrArg (fun f => Cert.KernelWordsIdeal.Exact.normed f (w (ix1 d)) d) (funext fun k => ?_)
  refine congrArg₂ (· + ·) ?_ ?_
  · refine extractStridedSlice_apply _ _ _ _ _ ?_
    intro x
    match x with
    | ⟨0, _⟩ => exact (Nat.zero_add _).symm
    | ⟨1, _⟩ => exact (Nat.zero_add _).symm
  · refine (dot2 _ _ t k).trans (Finset.sum_congr rfl fun e _ => ?_)
    refine congrArg₂ (· * ·) ?_ (rowsT_apply V a b t e k (ha _) (hb _))
    refine congrArg (g (ix2 t e) * ·) ?_
    rw [actT_apply]
    refine congrArg actR ((dot1 _ _ t e).trans (Finset.sum_congr rfl fun q _ => ?_))
    refine congrArg₂ (· * ·) ?_ (rowsT_apply U a b t e q (ha _) (hb _))
    refine (extf_apply _ bitsLt_bf16_f32 _).trans (extractStridedSlice_apply _ _ _ _ _ ?_)
    intro x
    match x with
    | ⟨0, _⟩ => exact (Nat.zero_add _).symm
    | ⟨1, _⟩ => exact (Nat.zero_add _).symm

end Cert.ReferenceIdeal.Value

end
-- ==== Proof.AlgQI.lean ====
/-
  Hand-written. The sum over all experts of a token's gated activations is the sum over the token's selected experts.
-/
module

public import proofs.«01_k».proof.Proof.RefVal

@[expose] public section

set_option maxRecDepth 8192

noncomputable section

namespace Cert.KernelWordsIdeal.Exact

open Idealize.ShloMosaic hiding ix1 ix2 ix3 ix4
open Idealize.ShloMosaic.ValueIdx
open Cert.ReferenceIdeal.Value (actR)

theorem two_f32 : Ideal.ofBits .f32 0x40000000#32 = ((2 : ℝ) : EReal) := by
  simp [Ideal.ofBits, Ideal.ieee, -EReal.coe_mul]; norm_num

theorem half_f32 : Ideal.ofBits .f32 0x3F000000#32 = ((1 / 2 : ℝ) : EReal) := by
  simp [Ideal.ofBits, Ideal.ieee, -EReal.coe_mul]; norm_num

/-- Dividing by the root of two is multiplying by its reciprocal. -/
theorem div_sqrt_two (x : EReal) : Ideal.div x (Ideal.sqrt (Ideal.ofBits .f32 0x40000000#32)) = x * Ideal.rsqrt (Ideal.ofBits .f32 0x40000000#32) := by
  have h2 : Real.sqrt 2 ≠ 0 := by positivity
  rw [two_f32, Ideal.sqrt_coe, Ideal.rsqrt_coe, if_neg (by norm_num), if_neg (by norm_num), if_neg (by norm_num), Ideal.div_coe h2, one_div]

/-- The half in the gates is the reference's activation's. -/
theorem act_half (x g v : EReal) : act x * v * (g * Ideal.ofBits .f32 0x3F000000#32) = g * actR x * v := by
  unfold act actR
  rw [div_sqrt_two]
  generalize Ideal.ofBits .f32 0x3F800000#32 + Ideal.erf (x * Ideal.rsqrt (Ideal.ofBits .f32 0x40000000#32)) = y
  generalize Ideal.ofBits .f32 0x3F000000#32 = z
  ac_rfl

/-- A product with a sum of entries none of which is negative, entry by entry. -/
theorem mul_sum_nonneg {ι : Type} (S : Finset ι) (f : ι → EReal) (hf : ∀ i, 0 ≤ f i) (x : EReal) : x * ∑ i ∈ S, f i = ∑ i ∈ S, x * f i := by
  classical
  induction S using Finset.induction_on with
  | empty => simp
  | insert a S ha ih => rw [Finset.sum_insert ha, Finset.sum_insert ha, EReal.left_distrib_of_nonneg (hf a) (Finset.sum_nonneg fun i _ => hf i), ih]

theorem coe_nat_eq (p q : ℕ) : (((p : ℝ) : EReal) = ((q : ℝ) : EReal)) ↔ p = q := by
  rw [EReal.coe_eq_coe_iff, Nat.cast_inj]

/-- A gate of a token's selection, from the numbers of the experts selected. -/
theorem gateAt_eq (sel : S3x512x128.Idx → EReal) (t : Fin 512) (a b : Fin 128 → ℕ) (g : Fin 128 → EReal) (h0 : ∀ k, sel (ix3 (0 : Fin 3) t k) = ((a k : ℝ) : EReal))
    (h1 : ∀ k, sel (ix3 (1 : Fin 3) t k) = ((b k : ℝ) : EReal)) (h2 : ∀ k, sel (ix3 (2 : Fin 3) t k) = g k) (hb : ∀ k, b k < 128) (n : ℕ) :
    gateAt sel t (n / 128) (n % 128) = ∑ k : Fin 128, if n = 128 * a k + b k then g k * Ideal.ofBits .f32 0x3F000000#32 else 0 := by
  unfold gateAt
  refine Finset.sum_congr rfl fun k _ => ?_
  have := hb k
  rw [h0, h1, h2]
  by_cases ha : n / 128 = a k
  · rw [if_pos ((coe_nat_eq _ _).mpr ha)]
    by_cases hbk : n % 128 = b k
    · rw [if_pos ((coe_nat_eq _ _).mpr hbk), if_pos (by omega), mul_one]
    · rw [if_neg (fun h => hbk ((coe_nat_eq _ _).mp h)), if_neg (by omega), mul_zero]
  · rw [if_neg (fun h => ha ((coe_nat_eq _ _).mp h)), zero_mul, if_neg (by omega)]

/-- All experts' terms add up to the selected experts'. -/
theorem experts_sum (H : ℕ → EReal) (W : ℕ → EReal) (E : Fin 128 → ℕ) (hE : ∀ k, E k < 16384) (g : Fin 128 → EReal) (hg : ∀ k, 0 ≤ g k) :
    ∑ n ∈ Finset.range 16384, act (H n) * (∑ k : Fin 128, if n = E k then g k * Ideal.ofBits .f32 0x3F000000#32 else 0) * W n = ∑ k : Fin 128, g k * actR (H (E k)) * W (E k) := by
  have hh : (0 : EReal) ≤ Ideal.ofBits .f32 0x3F000000#32 := by
    rw [half_f32]
    exact_mod_cast (by norm_num : (0 : ℝ) ≤ 1 / 2)
  have e1 : ∀ n, act (H n) * (∑ k : Fin 128, if n = E k then g k * Ideal.ofBits .f32 0x3F000000#32 else 0) * W n
      = ∑ k : Fin 128, if n = E k then g k * actR (H (E k)) * W (E k) else 0 := by
    intro n
    rw [mul_right_comm, mul_sum_nonneg]
    · refine Finset.sum_congr rfl fun k _ => ?_
      by_cases h : n = E k
      · rw [if_pos h, if_pos h, act_half, h]
      · rw [if_neg h, if_neg h, mul_zero]
    · intro k
      split
      · exact mul_nonneg (hg k) hh
      · exact le_rfl
  rw [Finset.sum_congr rfl fun n _ => e1 n, Finset.sum_comm]
  refine Finset.sum_congr rfl fun k _ => ?_
  rw [Finset.sum_ite_eq', if_pos (Finset.mem_range.mpr (hE k))]

open Cert.KernelWordsIdeal Cert.KernelWordsIdeal.Gen
open Idealize.ShloMosaic.TcCoe

variable (m : (ℓ : Loc nD τ sig) → Buf (Elt Ideal) ℓ)

/-- The selection given with the first tile: its factors and its gates. -/
def selA (c : Dev nD) : IVec S512x128 32 := m ((c : Thread nD τ).loc main_arg3)
def selB (c : Dev nD) : IVec S512x128 32 := m ((c : Thread nD τ).loc main_arg4)
def selG (c : Dev nD) : S512x128.Idx → EReal := m ((c : Thread nD τ).loc main_arg5)

theorem word_real (a : BitVec 32) (h : a.toNat < 128) : (((a.toInt : ℤ) : ℝ) : EReal) = ((a.toNat : ℝ) : EReal) := by
  rw [StableHlo.Predicate.toInt_eq_toNat_of_lt (by omega)]
  norm_cast

theorem sel0_apply (c : Dev nD) (q : Fin 3) (t : Fin 512) (k : Fin 128) :
    sel0 m c (ix3 q t k) = if q.val = 0 then ((((selA m c (ix2 t k)).toInt : ℤ) : ℝ) : EReal) else if q.val = 1 then ((((selB m c (ix2 t k)).toInt : ℤ) : ℝ) : EReal) else selG m c (ix2 t k) := by
  have e3 : iblk m c 3 (pnt 0 (by omega)) (ix2 t k) = ((((selA m c (ix2 t k)).toInt : ℤ) : ℝ) : EReal) := by
    refine (iblk3_apply m c _ _ (ix2 t k) rfl rfl).trans ?_
    rw [V_main_v4]
    rfl
  have e4 : iblk m c 4 (pnt 0 (by omega)) (ix2 t k) = ((((selB m c (ix2 t k)).toInt : ℤ) : ℝ) : EReal) := by
    refine (iblk4_apply m c _ _ (ix2 t k) rfl rfl).trans ?_
    rw [V_main_v5]
    rfl
  have e5 : iblk m c 5 (pnt 0 (by omega)) (ix2 t k) = selG m c (ix2 t k) := iblk5_apply m c _ _ (ix2 t k) rfl rfl
  rw [← e3, ← e4, ← e5]
  rfl

/-- The kernel's result is the reference's function of the arguments. -/
theorem kernel_eq_ref (c : Dev nD) (ha : ∀ y, (selA m c y).toNat < 128) (hb : ∀ y, (selB m c y).toNat < 128) (hg : ∀ y, 0 ≤ selG m c y) :
    outN m c 7 (by omega) = Cert.ReferenceIdeal.Value.refT (m ((c : Thread nD τ).loc main_arg0)) (m ((c : Thread nD τ).loc main_arg1)) (m ((c : Thread nD τ).loc main_arg2)) (selA m c) (selB m c) (selG m c)
      (m ((c : Thread nD τ).loc main_arg7)) (m ((c : Thread nD τ).loc main_arg8)) := by
  funext y
  obtain ⟨t, d, rfl⟩ : ∃ (t : Fin 512) (d : Fin 1024), y = ix2 t d := ⟨y 0, y 1, by
    funext a
    match a with
    | ⟨0, _⟩ => rfl
    | ⟨1, _⟩ => rfl⟩
  refine (kernel_value m c t d).trans (Eq.trans ?_ (Cert.ReferenceIdeal.Value.refT_apply _ _ _ _ _ _ _ _ ha hb t d).symm)
  refine congrArg (fun f => normed f (normW m c (ix1 d)) d) (funext fun k => ?_)
  refine congrArg (tileH m c (ix2 t k) + ·) ?_
  have hE : ∀ e, Cert.ReferenceIdeal.Value.expertNo (selA m c) (selB m c) t e < 16384 := by
    intro e
    have := ha (ix2 t e)
    have := hb (ix2 t e)
    unfold Cert.ReferenceIdeal.Value.expertNo
    omega
  have hr : ∀ (X : S16384x1024.Idx → EReal) (e : Fin 128) (q : Fin 1024), row X (Cert.ReferenceIdeal.Value.expertNo (selA m c) (selB m c) t e) q
      = X (ix2 ⟨Cert.ReferenceIdeal.Value.expertNo (selA m c) (selB m c) t e, hE e⟩ q) := fun X e q => congrArg (fun z => X (ix2 z q)) (Fin.ext (Nat.mod_eq_of_lt (hE e)))
  refine Eq.trans (Finset.sum_congr rfl fun n _ => ?_) ((experts_sum (fun n => ∑ q : Fin 1024, tileX m c (ix2 t q) * row (tabU m c) n q) (fun n => row (tabV m c) n k)
    (Cert.ReferenceIdeal.Value.expertNo (selA m c) (selB m c) t) hE (fun e => selG m c (ix2 t e)) (fun e => hg _)).trans (Finset.sum_congr rfl fun e _ => ?_))
  · unfold expertTerm
    rw [gateAt_eq (sel0 m c) t (fun e => (selA m c (ix2 t e)).toNat) (fun e => (selB m c (ix2 t e)).toNat) (fun e => selG m c (ix2 t e))
      (fun e => (sel0_apply m c 0 t e).trans (word_real _ (ha _))) (fun e => (sel0_apply m c 1 t e).trans (word_real _ (hb _))) (fun e => sel0_apply m c 2 t e) (fun e => hb _)]
    rfl
  · simp only [hr]
    rfl

end Cert.KernelWordsIdeal.Exact

end
-- ==== Proof.ValidPre.lean ====
/-
  Hand-written. What the precondition says of the selection: factors below 128, no gate negative.
-/
module

public import proofs.«01_k».proof.Pre_valid
public import Idealize.ShloMosaic.Lib.ReduceAll
public import Idealize.ShloMosaic.Lib.StableHlo.Predicate
public import Idealize.ShloMosaic.PureOps.Ideal.Laws

@[expose] public section

noncomputable section

namespace Cert.Pre_valid.Hand

open Cert.Pre_valid Idealize.ShloMosaic

theorem facts : Cert.Pre_valid.Facts where
  bcast_S_S512x128 := by decide
  reducesTo_S512x128_S_d0_1 := by decide
  h_S_ := by decide

theorem andi_one (p q : BitVec 1) (h : IntOp.andi p q = 1#1) : p = 1#1 ∧ q = 1#1 := by
  revert p q
  decide

/-- A word between 0 and 127, both signed comparisons answered yes. -/
theorem word_range (a : BitVec 32) (h0 : IntOp.cmpi .sge a 0#32 = 1#1) (h1 : IntOp.cmpi .slt a 128#32 = 1#1) : a.toNat < 128 := by
  have h0' : BitVec.ofBool (BitVec.sle 0#32 a) = 1#1 := h0
  have h1' : BitVec.ofBool (BitVec.slt a 128#32) = 1#1 := h1
  rw [StableHlo.Predicate.ofBool_eq_one_iff, BitVec.sle_eq_decide, decide_eq_true_eq] at h0'
  rw [StableHlo.Predicate.ofBool_eq_one_iff, BitVec.slt_eq_decide, decide_eq_true_eq] at h1'
  have e0 : (0#32).toInt = 0 := rfl
  have e1 : (128#32).toInt = 128 := rfl
  rw [e0] at h0'
  rw [e1] at h1'
  have hc := BitVec.toInt_eq_toNat_cond a
  have := a.isLt
  split at hc <;> omega

theorem range_of [Cert.Pre_valid.Facts] (x : IVec S512x128 32) (h : Host.reduce IntOp.andi (andi (cmpi .sge x (broadcastInDim S512x128 ![] Facts.bcast_S_S512x128 (constantI S_ 32 0#32)))
      (cmpi .slt x (broadcastInDim S512x128 ![] Facts.bcast_S_S512x128 (constantI S_ 32 128#32)))) (constantI S_ 1 1#1) Facts.reducesTo_S512x128_S_d0_1 Facts.h_S_ (Shape.Idx.first Facts.h_S_) = 1#1)
    (y : S512x128.Idx) : (x y).toNat < 128 := by
  haveI : Subsingleton S_.Idx := ⟨fun a b => funext fun k => k.elim0⟩
  have e := andi_one _ _ (Host.reduce_andi_all _ _ _ _ _ h y)
  exact word_range _ e.1 e.2

/-- The precondition, taken apart. -/
theorem of_valid [Cert.Pre_valid.Facts] (n : FVec Ideal S16384x1024 .bf16) (u v : FVec Ideal S1x16384x1024 .f32) (a b : IVec S512x128 32) (g : FVec Ideal S512x128 .f32) (s : FVec Ideal S16x128x16384 .f32)
    (h : FVec Ideal S16384x1024 .f32) (w : FVec Ideal S1024 .f32) (e : fn (F := Ideal) n u v a b g s h w = fun _ => 1#1) :
    (∀ y, (a y).toNat < 128) ∧ (∀ y, (b y).toNat < 128) ∧ ∀ y, (0 : EReal) ≤ g y := by
  haveI : Subsingleton S_.Idx := ⟨fun a b => funext fun k => k.elim0⟩
  have e1 := andi_one _ _ (congrFun e (Shape.Idx.first Facts.h_S_))
  have e2 := andi_one _ _ e1.1
  refine ⟨range_of a e2.1, range_of b e2.2, fun y => ?_⟩
  have e3 : Ideal.cmp .oge (g y) (Ideal.ofBits .f32 0x00000000#32) = 1#1 := Host.reduce_andi_all _ _ _ _ _ e1.2 y
  have e4 : BitVec.ofBool (decide (Ideal.ofBits .f32 0x00000000#32 ≤ g y)) = 1#1 := e3
  rw [StableHlo.Predicate.ofBool_eq_one_iff, decide_eq_true_eq, Ideal.ofBits_zero_f32] at e4
  exact e4

end Cert.Pre_valid.Hand

end
-- ==== Proof.InprojVal.lean ====
/-
  Hand-written. The input projection's call over the extended reals, entry by entry: each of its four results is a stretch of
  columns of the normed rows times the rearranged weights.
-/
module

public import proofs.«01_k».proof.Proof.Gen.InprojIdeal.Value
public import Idealize.ShloMosaic.Lib.Pipeline.ValueKit.Geometry
public import Idealize.ShloMosaic.Lib.Pointwise
public import Idealize.ShloMosaic.Lib.StableHlo.Predicate

@[expose] public section

set_option maxRecDepth 8192

noncomputable section

namespace Cert.InprojIdeal.Exact

open Cert.InprojIdeal Cert.InprojIdeal.Gen
open Idealize.ShloMosaic hiding ix1 ix2 ix3 ix4
open Idealize.ShloMosaic.ValueIdx
open Idealize.ShloMosaic.TcCoe
open Idealize.ShloMosaic.Pipeline (Dat)

/-- A row over its root mean square, scaled by a weight. -/
def normed (y : Fin 1024 → EReal) (w : Fin 1024 → EReal) (d : Fin 1024) : EReal :=
  y d * Ideal.rsqrt (Ideal.div (∑ k : Fin 1024, y k * y k) (Ideal.ofBits .f32 0x44800000#32) + Ideal.ofBits .f32 0x358637BD#32) * w d

/-- A normed row times a column. -/
def projRow (y w : Fin 1024 → EReal) (b : Fin 1024 → EReal) : EReal := ∑ k : Fin 1024, normed y w k * b k

/-- The block product at an entry. -/
theorem pay1_at (a : FVec Ideal S1024x1024 .f32) (w : FVec Ideal S1x1024 .f32) (b : FVec Ideal S1024x2688 .bf16) (r : Fin 1024) (n : Fin 2688) :
    k0_pay1 (F := Ideal) a w b (ix2 r n) = projRow (fun k => a (ix2 r k)) (fun k => w (ix2 0 k)) (fun k => b (ix2 k n)) := by
  unfold k0_pay1 projRow normed
  pointwise
  rfl

variable (m : (ℓ : Loc nD τ sig) → Buf (Elt Ideal) ℓ)

theorem idx0 : ∀ t : Fin cfg0.N, win0_0.index t 0 = t.val ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = 0 ∧ win0_2.index t 1 = 0 := by decide +kernel
theorem idx3 : ∀ t : Fin cfg0.N, win0_3.index t 0 = t.val ∧ win0_3.index t 1 = 0 := by decide +kernel
theorem idx4 : ∀ t : Fin cfg0.N, win0_4.index t 0 = t.val ∧ win0_4.index t 1 = 0 := by decide +kernel
theorem idx5 : ∀ t : Fin cfg0.N, win0_5.index t 0 = t.val ∧ win0_5.index t 1 = 0 := by decide +kernel
theorem idx6 : ∀ t : Fin cfg0.N, win0_6.index t 0 = t.val ∧ win0_6.index t 1 = 0 := by decide +kernel

/-- Point `t`'s block of the tokens: rows `1024 t` on. -/
theorem blk0 (c : Dev nD) (t : Fin cfg0.N) (r k : Fin 1024) (z : Fin 16384) (hz : z.val = t.val * 1024 + r.val) :
    iblk m c 0 t (ix2 r k) = V m c main_v0 (ix2 z k) := by
  show V m c main_v0 ((win0_0.rect t).emb (ix2 r k)) = V m c main_v0 (ix2 z k)
  congr 1
  funext a
  apply Fin.ext
  match a with
  | ⟨0, _⟩ => exact (Pipeline.Window.rect_emb_val win0_0 t (ix2 r k) 0).trans (by rw [(idx0 t).1]; exact hz.symm)
  | ⟨1, _⟩ => exact (Pipeline.Window.rect_emb_val win0_0 t (ix2 r k) 1).trans (by rw [(idx0 t).2, Nat.zero_mul, Nat.zero_add]; rfl)

theorem blk1 (c : Dev nD) (t : Fin cfg0.N) (k : Fin 1024) :
    iblk m c 1 t (ix2 0 k) = V m c main_arg1 (ix2 0 k) := by
  show V m c main_arg1 ((win0_1.rect t).emb (ix2 0 k)) = V m c main_arg1 (ix2 0 k)
  congr 1
  funext a
  apply Fin.ext
  match a with
  | ⟨0, _⟩ => exact (Pipeline.Window.rect_emb_val win0_1 t (ix2 0 k) 0).trans (by rw [(idx1 t).1, Nat.zero_mul, Nat.zero_add]; rfl)
  | ⟨1, _⟩ => exact (Pipeline.Window.rect_emb_val win0_1 t (ix2 0 k) 1).trans (by rw [(idx1 t).2, Nat.zero_mul, Nat.zero_add]; rfl)

theorem blk2 (c : Dev nD) (t : Fin cfg0.N) (k : Fin 1024) (n : Fin 2688) :
    iblk m c 2 t (ix2 k n) = V m c main_v10 (ix2 k n) := by
  show V m c main_v10 ((win0_2.rect t).emb (ix2 k n)) = V m c main_v10 (ix2 k n)
  congr 1
  funext a
  apply Fin.ext
  match a with
  | ⟨0, _⟩ => exact (Pipeline.Window.rect_emb_val win0_2 t (ix2 k n) 0).trans (by rw [(idx2 t).1, Nat.zero_mul, Nat.zero_add]; rfl)
  | ⟨1, _⟩ => exact (Pipeline.Window.rect_emb_val win0_2 t (ix2 k n) 1).trans (by rw [(idx2 t).2, Nat.zero_mul, Nat.zero_add]; rfl)

/-- An entry of the whole product: a normed token row times a column of the rearranged weights. -/
def G (c : Dev nD) (z : Fin 16384) (n : Fin 2688) : EReal :=
  projRow (fun k => V m c main_v0 (ix2 z k)) (fun k => V m c main_arg1 (ix2 0 k)) (fun k => V m c main_v10 (ix2 k n))

theorem pay1_of (a : FVec Ideal S1024x1024 .f32) (w : FVec Ideal S1x1024 .f32) (b : FVec Ideal S1024x2688 .bf16) (r : Fin 1024) (n : Fin 2688) (A W B : Fin 1024 → EReal)
    (ha : ∀ k, a (ix2 r k) = A k) (hw : ∀ k, w (ix2 0 k) = W k) (hb : ∀ k, b (ix2 k n) = B k) : k0_pay1 (F := Ideal) a w b (ix2 r n) = projRow A W B := by
  rw [pay1_at, funext ha, funext hw, funext hb]

theorem pay1_blk (c : Dev nD) (t : Fin cfg0.N) (r : Fin 1024) (n : Fin 2688) (z : Fin 16384) (hz : z.val = t.val * 1024 + r.val) :
    k0_pay1 (iblk m c 0 t) (iblk m c 1 t) (iblk m c 2 t) (ix2 r n) = G m c z n :=
  pay1_of (iblk m c 0 t) (iblk m c 1 t) (iblk m c 2 t) r n _ _ _ (fun k => blk0 m c t r k z hz) (fun k => blk1 m c t k) (fun k => blk2 m c t k n)

theorem hz : (![0, 0] : Fin 2 → Nat) = fun _ => 0 := funext fun a => by fin_cases a <;> rfl

theorem out3_at (x0 : Vec Ideal S1024x1024 .f32) (x1 : Vec Ideal S1x1024 .f32) (x2 : Vec Ideal S1024x2688 .bf16) (r : Fin 1024) (j : Fin 512) (n : Fin 2688) (hn : n.val = 0 + j.val) :
    out0_3 x0 x1 x2 (ix2 r j) = k0_pay1 x0 x1 x2 (ix2 r n) := by
  unfold out0_3
  rw [View.ld_unit_zero hz, View.ld_unit_zero hz, View.ld_unit_zero hz]
  refine (Value.canon3_eq x0 x1 x2 (ix2 r j)).trans ?_
  show k0_pay1 x0 x1 x2 _ = _
  congr 1
  funext a
  apply Fin.ext
  match a with
  | ⟨0, _⟩ => rfl
  | ⟨1, _⟩ =>
    show _ = n.val
    rw [hn]
    first | rfl | exact (Nat.zero_add _).symm | exact Nat.add_comm _ _

/-- The first result: columns 0 to 511. -/
def R3 (c : Dev nD) : Vec Ideal S16384x512 .f32 := fun i => G m c (i 0) ⟨0 + (i 1).val, Nat.lt_of_lt_of_le (Nat.add_lt_add_left (show (i 1).val < 512 from (i 1).isLt) 0) (by decide)⟩

theorem point3 (c : Dev nD) (t : Fin cfg0.N) (y : S1024x512.Idx) (i : S16384x512.Idx) (h0 : (i 0).val = t.val * 1024 + (y 0).val) (h1 : (i 1).val = (y 1).val) :
    out0_3 (iblk m c 0 t) (iblk m c 1 t) (iblk m c 2 t) y = R3 m c i := by
  have hy : y = ix2 (y 0) (y 1) := ValueIdx.eq_ix2 y
  rw [hy]
  refine (out3_at _ _ _ (y 0) (y 1) ⟨0 + (i 1).val, Nat.lt_of_lt_of_le (Nat.add_lt_add_left (show (i 1).val < 512 from (i 1).isLt) 0) (by decide)⟩ (congrArg (0 + ·) h1)).trans ?_
  exact pay1_blk m c t (y 0) _ (i 0) h0

theorem final3 (c : Dev nD) : (dats m 0 c).arrAt 3 cfg0.N = R3 m c := by
  refine (dats m 0 c).arrAt_eq_of_covers 3 (R3 m c) (by decide +kernel) ?_
  intro t _ y
  refine (congrFun (after0_3 m c t) _).trans ?_
  refine point3 m c t _ _ ?_ ?_
  · exact (Pipeline.Window.rect_emb_val win0_3 t y 0).trans (by rw [(idx3 t).1]; rfl)
  · exact (Pipeline.Window.rect_emb_val win0_3 t y 1).trans (by rw [(idx3 t).2, Nat.zero_mul, Nat.zero_add])

theorem out4_at (x0 : Vec Ideal S1024x1024 .f32) (x1 : Vec Ideal S1x1024 .f32) (x2 : Vec Ideal S1024x2688 .bf16) (r : Fin 1024) (j : Fin 1536) (n : Fin 2688) (hn : n.val = 512 + j.val) :
    out0_4 x0 x1 x2 (ix2 r j) = k0_pay1 x0 x1 x2 (ix2 r n) := by
  unfold out0_4
  rw [View.ld_unit_zero hz, View.ld_unit_zero hz, View.ld_unit_zero hz]
  refine (Value.canon4_eq x0 x1 x2 (ix2 r j)).trans ?_
  show k0_pay1 x0 x1 x2 _ = _
  congr 1
  funext a
  apply Fin.ext
  match a with
  | ⟨0, _⟩ => rfl
  | ⟨1, _⟩ =>
    show _ = n.val
    rw [hn]
    first | rfl | exact (Nat.zero_add _).symm | exact Nat.add_comm _ _

/-- The second result: columns 512 to 2047. -/
def R4 (c : Dev nD) : Vec Ideal S16384x1536 .f32 := fun i => G m c (i 0) ⟨512 + (i 1).val, Nat.lt_of_lt_of_le (Nat.add_lt_add_left (show (i 1).val < 1536 from (i 1).isLt) 512) (by decide)⟩

theorem point4 (c : Dev nD) (t : Fin cfg0.N) (y : S1024x1536.Idx) (i : S16384x1536.Idx) (h0 : (i 0).val = t.val * 1024 + (y 0).val) (h1 : (i 1).val = (y 1).val) :
    out0_4 (iblk m c 0 t) (iblk m c 1 t) (iblk m c 2 t) y = R4 m c i := by
  have hy : y = ix2 (y 0) (y 1) := ValueIdx.eq_ix2 y
  rw [hy]
  refine (out4_at _ _ _ (y 0) (y 1) ⟨512 + (i 1).val, Nat.lt_of_lt_of_le (Nat.add_lt_add_left (show (i 1).val < 1536 from (i 1).isLt) 512) (by decide)⟩ (congrArg (512 + ·) h1)).trans ?_
  exact pay1_blk m c t (y 0) _ (i 0) h0

theorem final4 (c : Dev nD) : (dats m 0 c).arrAt 4 cfg0.N = R4 m c := by
  refine (dats m 0 c).arrAt_eq_of_covers 4 (R4 m c) (by decide +kernel) ?_
  intro t _ y
  refine (congrFun (after0_4 m c t) _).trans ?_
  refine point4 m c t _ _ ?_ ?_
  · exact (Pipeline.Window.rect_emb_val win0_4 t y 0).trans (by rw [(idx4 t).1]; rfl)
  · exact (Pipeline.Window.rect_emb_val win0_4 t y 1).trans (by rw [(idx4 t).2, Nat.zero_mul, Nat.zero_add])

theorem out5_at (x0 : Vec Ideal S1024x1024 .f32) (x1 : Vec Ideal S1x1024 .f32) (x2 : Vec Ideal S1024x2688 .bf16) (r : Fin 1024) (j : Fin 512) (n : Fin 2688) (hn : n.val = 2048 + j.val) :
    out0_5 x0 x1 x2 (ix2 r j) = k0_pay1 x0 x1 x2 (ix2 r n) := by
  unfold out0_5
  rw [View.ld_unit_zero hz, View.ld_unit_zero hz, View.ld_unit_zero hz]
  refine (Value.canon5_eq x0 x1 x2 (ix2 r j)).trans ?_
  show k0_pay1 x0 x1 x2 _ = _
  congr 1
  funext a
  apply Fin.ext
  match a with
  | ⟨0, _⟩ => rfl
  | ⟨1, _⟩ =>
    show _ = n.val
    rw [hn]
    first | rfl | exact (Nat.zero_add _).symm | exact Nat.add_comm _ _

/-- The third result: columns 2048 to 2559. -/
def R5 (c : Dev nD) : Vec Ideal S16384x512 .f32 := fun i => G m c (i 0) ⟨2048 + (i 1).val, Nat.lt_of_lt_of_le (Nat.add_lt_add_left (show (i 1).val < 512 from (i 1).isLt) 2048) (by decide)⟩

theorem point5 (c : Dev nD) (t : Fin cfg0.N) (y : S1024x512.Idx) (i : S16384x512.Idx) (h0 : (i 0).val = t.val * 1024 + (y 0).val) (h1 : (i 1).val = (y 1).val) :
    out0_5 (iblk m c 0 t) (iblk m c 1 t) (iblk m c 2 t) y = R5 m c i := by
  have hy : y = ix2 (y 0) (y 1) := ValueIdx.eq_ix2 y
  rw [hy]
  refine (out5_at _ _ _ (y 0) (y 1) ⟨2048 + (i 1).val, Nat.lt_of_lt_of_le (Nat.add_lt_add_left (show (i 1).val < 512 from (i 1).isLt) 2048) (by decide)⟩ (congrArg (2048 + ·) h1)).trans ?_
  exact pay1_blk m c t (y 0) _ (i 0) h0

theorem final5 (c : Dev nD) : (dats m 0 c).arrAt 5 cfg0.N = R5 m c := by
  refine (dats m 0 c).arrAt_eq_of_covers 5 (R5 m c) (by decide +kernel) ?_
  intro t _ y
  refine (congrFun (after0_5 m c t) _).trans ?_
  refine point5 m c t _ _ ?_ ?_
  · exact (Pipeline.Window.rect_emb_val win0_5 t y 0).trans (by rw [(idx5 t).1]; rfl)
  · exact (Pipeline.Window.rect_emb_val win0_5 t y 1).trans (by rw [(idx5 t).2, Nat.zero_mul, Nat.zero_add])

theorem out6_at (x0 : Vec Ideal S1024x1024 .f32) (x1 : Vec Ideal S1x1024 .f32) (x2 : Vec Ideal S1024x2688 .bf16) (r : Fin 1024) (j : Fin 128) (n : Fin 2688) (hn : n.val = 2560 + j.val) :
    out0_6 x0 x1 x2 (ix2 r j) = k0_pay1 x0 x1 x2 (ix2 r n) := by
  unfold out0_6
  rw [View.ld_unit_zero hz, View.ld_unit_zero hz, View.ld_unit_zero hz]
  refine (Value.canon6_eq x0 x1 x2 (ix2 r j)).trans ?_
  show k0_pay1 x0 x1 x2 _ = _
  congr 1
  funext a
  apply Fin.ext
  match a with
  | ⟨0, _⟩ => rfl
  | ⟨1, _⟩ =>
    show _ = n.val
    rw [hn]
    first | rfl | exact (Nat.zero_add _).symm | exact Nat.add_comm _ _

/-- The fourth result: columns 2560 to 2687. -/
def R6 (c : Dev nD) : Vec Ideal S16384x128 .f32 := fun i => G m c (i 0) ⟨2560 + (i 1).val, Nat.lt_of_lt_of_le (Nat.add_lt_add_left (show (i 1).val < 128 from (i 1).isLt) 2560) (by decide)⟩

theorem point6 (c : Dev nD) (t : Fin cfg0.N) (y : S1024x128.Idx) (i : S16384x128.Idx) (h0 : (i 0).val = t.val * 1024 + (y 0).val) (h1 : (i 1).val = (y 1).val) :
    out0_6 (iblk m c 0 t) (iblk m c 1 t) (iblk m c 2 t) y = R6 m c i := by
  have hy : y = ix2 (y 0) (y 1) := ValueIdx.eq_ix2 y
  rw [hy]
  refine (out6_at _ _ _ (y 0) (y 1) ⟨2560 + (i 1).val, Nat.lt_of_lt_of_le (Nat.add_lt_add_left (show (i 1).val < 128 from (i 1).isLt) 2560) (by decide)⟩ (congrArg (2560 + ·) h1)).trans ?_
  exact pay1_blk m c t (y 0) _ (i 0) h0

theorem final6 (c : Dev nD) : (dats m 0 c).arrAt 6 cfg0.N = R6 m c := by
  refine (dats m 0 c).arrAt_eq_of_covers 6 (R6 m c) (by decide +kernel) ?_
  intro t _ y
  refine (congrFun (after0_6 m c t) _).trans ?_
  refine point6 m c t _ _ ?_ ?_
  · exact (Pipeline.Window.rect_emb_val win0_6 t y 0).trans (by rw [(idx6 t).1]; rfl)
  · exact (Pipeline.Window.rect_emb_val win0_6 t y 1).trans (by rw [(idx6 t).2, Nat.zero_mul, Nat.zero_add])

end Cert.InprojIdeal.Exact
-- ==== Proof.InprojHost.lean ====
/-
  Hand-written. What the input projection's call is given: the tokens as rows, and the weights' columns rearranged.
-/
module

public import proofs.«01_k».proof.Proof.InprojVal

@[expose] public section

set_option maxRecDepth 8192

noncomputable section

namespace Cert.InprojIdeal.Exact

open Cert.InprojIdeal Cert.InprojIdeal.Gen
open Idealize.ShloMosaic hiding ix1 ix2 ix3 ix4
open Idealize.ShloMosaic.ValueIdx
open Idealize.ShloMosaic.TcCoe

variable (m : (ℓ : Loc nD τ sig) → Buf (Elt Ideal) ℓ)

theorem V_main_v0 (c : Dev nD) : V m c main_v0 = (shapeCast S16384x1024 (m ((c : Thread nD τ).loc main_arg0)) shapeCasts_S2x8192x1024_S16384x1024 : Vec Ideal S16384x1024 .f32) := by
  show StableHlo.after hostOps0 _ _ = _
  after_results_simp <;> rfl

/-- The weights' columns as the call is given them. -/
def wallT (W : FVec Ideal S1024x2512 .f32) : FVec Ideal S1024x2688 .bf16 :=
  truncf .bf16 (concatenate S1024x2688 1 [⟨S1024x448, (extractStridedSlice S1024x448 ![0, 0] W slices_S1024x2512_S1024x448_0_0 : FVec Ideal S1024x448 .f32)⟩,
    ⟨S1024x32, (extractStridedSlice S1024x32 ![0, 416] W slices_S1024x2512_S1024x32_0_416 : FVec Ideal S1024x32 .f32)⟩,
    ⟨S1024x32, (extractStridedSlice S1024x32 ![0, 384] W slices_S1024x2512_S1024x32_0_384 : FVec Ideal S1024x32 .f32)⟩,
    ⟨S1024x1536, (extractStridedSlice S1024x1536 ![0, 448] W slices_S1024x2512_S1024x1536_0_448 : FVec Ideal S1024x1536 .f32)⟩,
    ⟨S1024x512, (extractStridedSlice S1024x512 ![0, 1984] W slices_S1024x2512_S1024x512_0_1984 : FVec Ideal S1024x512 .f32)⟩,
    ⟨S1024x16, (extractStridedSlice S1024x16 ![0, 2496] W slices_S1024x2512_S1024x16_0_2496 : FVec Ideal S1024x16 .f32)⟩,
    ⟨S1024x112, (broadcastInDim S1024x112 ![] bcast_S_S1024x112 (constant S_ .f32 0x00000000#32) : FVec Ideal S1024x112 .f32)⟩] concatenates_S1024x448_S1024x32_S1024x32_S1024x1536_S1024x512_S1024x16_S1024x112_S1024x2688_d1) bitsLt_bf16_f32

theorem V_main_v10 (c : Dev nD) : V m c main_v10 = wallT (shapeCast S1024x2512 (m ((c : Thread nD τ).loc main_arg2)) shapeCasts_S1x1024x2512_S1024x2512) := by
  show StableHlo.after hostOps0 _ _ = _
  after_results_simp <;> (try dsimp only [Matrix.cons_val]) <;> (try after_results_simp) <;> rfl

/-- A column of the rearranged weights is a column of the weights: … -/
theorem wall_col (W : FVec Ideal S1024x2512 .f32) (k : Fin 1024) (n : Fin 2688) (n' : Fin 2512)
    (h : (n.val < 448 ∧ n'.val = n.val) ∨ (448 ≤ n.val ∧ n.val < 480 ∧ n'.val + 32 = n.val) ∨ (480 ≤ n.val ∧ n.val < 512 ∧ n'.val + 96 = n.val) ∨ (512 ≤ n.val ∧ n.val < 2576 ∧ n'.val + 64 = n.val)) :
    wallT W (ix2 k n) = W (ix2 k n') := by
  unfold wallT
  pointwise
  have e1 : (ix2 k n 1).val = n.val := rfl
  split_ifs <;> first | (exfalso; omega) | exact congrArg (fun z => W (ix2 k z)) (Fin.ext (by simp only []; omega))

/-- … or, past the gates, zero. -/
theorem wall_zero (W : FVec Ideal S1024x2512 .f32) (k : Fin 1024) (n : Fin 2688) (h : 2576 ≤ n.val) : wallT W (ix2 k n) = 0 := by
  unfold wallT
  pointwise
  have e1 : (ix2 k n 1).val = n.val := rfl
  split_ifs <;> first | (exfalso; omega) | rfl

end Cert.InprojIdeal.Exact
-- ==== Proof.InprojRef.lean ====
/-
  Hand-written. The input projection of the reference over the extended reals, entry by entry.
-/
module

public import proofs.«01_k».proof.Proof.Gen.InprojReferenceIdeal.Run
public import proofs.«01_k».proof.Proof.InprojHost

@[expose] public section

set_option maxRecDepth 8192

noncomputable section

namespace Cert.InprojReferenceIdeal.Entry

open Cert.InprojReferenceIdeal Cert.InprojReferenceIdeal.Gen
open Idealize.ShloMosaic hiding ix1 ix2 ix3 ix4
open Idealize.ShloMosaic.ValueIdx
open Idealize.ShloMosaic.TcCoe
open Cert.InprojIdeal.Exact (projRow normed)

/-- The normed tokens. -/
def n1T (X : FVec Ideal S16384x1024 .f32) (w : FVec Ideal S1024 .f32) : FVec Ideal S16384x1024 .f32 :=
  mulf (mulf X (broadcastInDim S16384x1024 ![0, 1] bcast_S16384x1_S16384x1024_0_1 (Host.rsqrt (addf (Host.divf (broadcastInDim S16384x1 ![0] bcast_S16384_S16384x1_0
      (Host.reduceAdd (mulf X X) (constant S_ .f32 0x00000000#32) reducesTo_S16384x1024_S16384_d1 h_S_)) (broadcastInDim S16384x1 ![] bcast_S_S16384x1 (constant S_ .f32 0x44800000#32)))
      (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 w))

/-- Their projection. -/
def projT (X : FVec Ideal S16384x1024 .f32) (w : FVec Ideal S1024 .f32) (W : FVec Ideal S1024x2512 .f32) : FVec Ideal S16384x2512 .f32 :=
  Host.dotGeneral dot_S16384x1024_S1024x2512_S16384x2512_1_0_0_1_n_n none (n1T X w) W

theorem projT_at (X : FVec Ideal S16384x1024 .f32) (w : FVec Ideal S1024 .f32) (W : FVec Ideal S1024x2512 .f32) (z : Fin 16384) (n : Fin 2512) :
    projT X w W (ix2 z n) = projRow (fun k => X (ix2 z k)) (fun k => w (ix1 k)) (fun k => W (ix2 k n)) := by
  unfold projT n1T projRow normed
  pointwise
  rfl

variable (P : FVec Ideal S16384x2512 .f32)

/-- The latent columns, the rotary columns' second half and their first half. -/
def mlaT : FVec Ideal S16384x512 .f32 :=
  concatenate S16384x512 1 [⟨S16384x448, (extractStridedSlice S16384x448 ![0, 0] P slices_S16384x2512_S16384x448_0_0 : FVec Ideal S16384x448 .f32)⟩,
    ⟨S16384x32, (extractStridedSlice S16384x32 ![0, 32] (extractStridedSlice S16384x64 ![0, 384] P slices_S16384x2512_S16384x64_0_384) slices_S16384x64_S16384x32_0_32 : FVec Ideal S16384x32 .f32)⟩,
    ⟨S16384x32, (extractStridedSlice S16384x32 ![0, 0] (extractStridedSlice S16384x64 ![0, 384] P slices_S16384x2512_S16384x64_0_384) slices_S16384x64_S16384x32_0_0 : FVec Ideal S16384x32 .f32)⟩]
    concatenates_S16384x448_S16384x32_S16384x32_S16384x512_d1

/-- The second mixer's columns. -/
def gdnT : FVec Ideal S16384x2064 .f32 := extractStridedSlice S16384x2064 ![0, 448] P slices_S16384x2512_S16384x2064_0_448
def qkvT : FVec Ideal S16384x1536 .f32 := extractStridedSlice S16384x1536 ![0, 0] (gdnT P) slices_S16384x2064_S16384x1536_0_0
def zT : FVec Ideal S16384x512 .f32 := extractStridedSlice S16384x512 ![0, 1536] (gdnT P) slices_S16384x2064_S16384x512_0_1536
/-- The gates, the lanes past them zero. -/
def gatesT : FVec Ideal S16384x128 .f32 :=
  concatenate S16384x128 1 [⟨S16384x16, (extractStridedSlice S16384x16 ![0, 2048] (gdnT P) slices_S16384x2064_S16384x16_0_2048 : FVec Ideal S16384x16 .f32)⟩,
    ⟨S16384x112, (broadcastInDim S16384x112 ![] bcast_S_S16384x112 (constant S_ .f32 0x00000000#32) : FVec Ideal S16384x112 .f32)⟩] concatenates_S16384x16_S16384x112_S16384x128_d1

variable (G : Fin 16384 → Fin 2688 → EReal)

theorem mla_eq (hG : ∀ (z : Fin 16384) (n : Fin 2688) (n' : Fin 2512), ((n.val < 448 ∧ n'.val = n.val) ∨ (448 ≤ n.val ∧ n.val < 480 ∧ n'.val + 32 = n.val) ∨ (480 ≤ n.val ∧ n.val < 512 ∧ n'.val + 96 = n.val) ∨ (512 ≤ n.val ∧ n.val < 2576 ∧ n'.val + 64 = n.val)) → G z n = P (ix2 z n'))
    (z : Fin 16384) (j : Fin 512) (n : Fin 2688) (hn : n.val = 0 + j.val) : G z n = mlaT P (ix2 z j) := by
  unfold mlaT
  pointwise
  have e1 : (ix2 z j 1).val = j.val := rfl
  have := j.isLt
  split_ifs <;> exact hG z n _ (by simp only []; omega)

theorem qkv_eq (hG : ∀ (z : Fin 16384) (n : Fin 2688) (n' : Fin 2512), ((n.val < 448 ∧ n'.val = n.val) ∨ (448 ≤ n.val ∧ n.val < 480 ∧ n'.val + 32 = n.val) ∨ (480 ≤ n.val ∧ n.val < 512 ∧ n'.val + 96 = n.val) ∨ (512 ≤ n.val ∧ n.val < 2576 ∧ n'.val + 64 = n.val)) → G z n = P (ix2 z n'))
    (z : Fin 16384) (j : Fin 1536) (n : Fin 2688) (hn : n.val = 512 + j.val) : G z n = qkvT P (ix2 z j) := by
  unfold qkvT gdnT
  pointwise
  have e1 : (ix2 z j 1).val = j.val := rfl
  have := j.isLt
  exact hG z n _ (by simp only []; omega)

theorem z_eq (hG : ∀ (z : Fin 16384) (n : Fin 2688) (n' : Fin 2512), ((n.val < 448 ∧ n'.val = n.val) ∨ (448 ≤ n.val ∧ n.val < 480 ∧ n'.val + 32 = n.val) ∨ (480 ≤ n.val ∧ n.val < 512 ∧ n'.val + 96 = n.val) ∨ (512 ≤ n.val ∧ n.val < 2576 ∧ n'.val + 64 = n.val)) → G z n = P (ix2 z n'))
    (z : Fin 16384) (j : Fin 512) (n : Fin 2688) (hn : n.val = 2048 + j.val) : G z n = zT P (ix2 z j) := by
  unfold zT gdnT
  pointwise
  have e1 : (ix2 z j 1).val = j.val := rfl
  have := j.isLt
  exact hG z n _ (by simp only []; omega)

theorem gates_eq (hG : ∀ (z : Fin 16384) (n : Fin 2688) (n' : Fin 2512), ((n.val < 448 ∧ n'.val = n.val) ∨ (448 ≤ n.val ∧ n.val < 480 ∧ n'.val + 32 = n.val) ∨ (480 ≤ n.val ∧ n.val < 512 ∧ n'.val + 96 = n.val) ∨ (512 ≤ n.val ∧ n.val < 2576 ∧ n'.val + 64 = n.val)) → G z n = P (ix2 z n'))
    (h0 : ∀ (z : Fin 16384) (n : Fin 2688), 2576 ≤ n.val → G z n = 0)
    (z : Fin 16384) (j : Fin 128) (n : Fin 2688) (hn : n.val = 2560 + j.val) : G z n = gatesT P (ix2 z j) := by
  unfold gatesT gdnT
  pointwise
  have e1 : (ix2 z j 1).val = j.val := rfl
  have := j.isLt
  split_ifs
  · exact hG z n _ (by simp only []; omega)
  · exact h0 z n (by omega)

variable (m : (ℓ : Loc nD τ sig) → Buf (Elt Ideal) ℓ) (ρ : Dev nD → PrngReg)

/-- The projection of the arguments. -/
def P0 (c : Dev nD) : FVec Ideal S16384x2512 .f32 :=
  projT (shapeCast S16384x1024 (m ((c : Thread nD τ).loc main_arg0)) shapeCasts_S2x8192x1024_S16384x1024) (shapeCast S1024 (m ((c : Thread nD τ).loc main_arg1)) shapeCasts_S1x1024_S1024)
    (shapeCast S1024x2512 (m ((c : Thread nD τ).loc main_arg2)) shapeCasts_S1x1024x2512_S1024x2512)

theorem run_entry : θ_run defs (onTc (τ := τ) (main (F := Ideal))) ⟨m, fun _ => 0, ρ⟩ fun r => ∀ c : Dev nD,
      r.2.mem ((c : Thread nD τ).loc main_v22) = mlaT (P0 m c) ∧ r.2.mem ((c : Thread nD τ).loc main_v26) = qkvT (P0 m c)
      ∧ r.2.mem ((c : Thread nD τ).loc main_v27) = zT (P0 m c) ∧ r.2.mem ((c : Thread nD τ).loc main_v25) = gatesT (P0 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  Value.run (F := Ideal) m ρ

end Cert.InprojReferenceIdeal.Entry
-- ==== Proof.InprojAlg.lean ====
/-
  Hand-written. The input projection's call and the reference's lines give the same four arrays over the extended reals.
-/
module

public import proofs.«01_k».proof.Defs
public import proofs.«01_k».proof.Proof.InprojRef

@[expose] public section

set_option maxRecDepth 8192

noncomputable section

namespace Cert.Proof

open Idealize.ShloMosaic hiding ix1 ix2 ix3 ix4
open Idealize.ShloMosaic.ValueIdx
open Idealize.ShloMosaic.TcCoe
open Idealize.SL.Sem
open Cert.InprojReferenceIdeal.Entry Cert.InprojIdeal.Exact

/-- The projection of three arrays. -/
abbrev inprojOf (X : FVec Ideal Cert.InprojIdeal.S2x8192x1024 .f32) (w : FVec Ideal Cert.InprojIdeal.S1x1024 .f32) (W : FVec Ideal Cert.InprojIdeal.S1x1024x2512 .f32) : FVec Ideal Cert.InprojReferenceIdeal.S16384x2512 .f32 :=
  projT (shapeCast Cert.InprojReferenceIdeal.S16384x1024 X Cert.InprojReferenceIdeal.Gen.shapeCasts_S2x8192x1024_S16384x1024) (shapeCast Cert.InprojReferenceIdeal.S1024 w Cert.InprojReferenceIdeal.Gen.shapeCasts_S1x1024_S1024)
    (shapeCast Cert.InprojReferenceIdeal.S1024x2512 W Cert.InprojReferenceIdeal.Gen.shapeCasts_S1x1024x2512_S1024x2512)

theorem row_weight (w : FVec Ideal Cert.InprojIdeal.S1x1024 .f32) (k : Fin 1024) :
    (shapeCast Cert.InprojReferenceIdeal.S1024 w Cert.InprojReferenceIdeal.Gen.shapeCasts_S1x1024_S1024 : FVec Ideal Cert.InprojReferenceIdeal.S1024 .f32) (ix1 k) = w (ix2 0 k) := by
  pointwise
  rfl

variable (m : (ℓ : Loc Cert.InprojIdeal.nD Cert.InprojIdeal.τ Cert.InprojIdeal.sig) → Buf (Elt Ideal) ℓ) (c : Dev Cert.InprojIdeal.nD)

/-- The arguments as launched. -/
def argX : FVec Ideal Cert.InprojIdeal.S2x8192x1024 .f32 := m ((c : Thread Cert.InprojIdeal.nD Cert.InprojIdeal.τ).loc Cert.InprojIdeal.main_arg0)
def argL : FVec Ideal Cert.InprojIdeal.S1x1024 .f32 := m ((c : Thread Cert.InprojIdeal.nD Cert.InprojIdeal.τ).loc Cert.InprojIdeal.main_arg1)
def argW : FVec Ideal Cert.InprojIdeal.S1x1024x2512 .f32 := m ((c : Thread Cert.InprojIdeal.nD Cert.InprojIdeal.τ).loc Cert.InprojIdeal.main_arg2)

theorem G_eq (z : Fin 16384) (n : Fin 2688) : G m c z n
    = projRow (fun k => shapeCast Cert.InprojIdeal.S16384x1024 (argX m c) Cert.InprojIdeal.Gen.shapeCasts_S2x8192x1024_S16384x1024 (ix2 z k)) (fun k => argL m c (ix2 0 k))
      (fun k => wallT (shapeCast Cert.InprojIdeal.S1024x2512 (argW m c) Cert.InprojIdeal.Gen.shapeCasts_S1x1024x2512_S1024x2512) (ix2 k n)) := by
  unfold G
  rw [V_main_v0, V_main_v10, Cert.InprojIdeal.Gen.V_main_arg1]
  rfl

theorem G_col (z : Fin 16384) (n : Fin 2688) (n' : Fin 2512)
    (h : (n.val < 448 ∧ n'.val = n.val) ∨ (448 ≤ n.val ∧ n.val < 480 ∧ n'.val + 32 = n.val) ∨ (480 ≤ n.val ∧ n.val < 512 ∧ n'.val + 96 = n.val) ∨ (512 ≤ n.val ∧ n.val < 2576 ∧ n'.val + 64 = n.val)) :
    G m c z n = inprojOf (argX m c) (argL m c) (argW m c) (ix2 z n') := by
  refine (G_eq m c z n).trans (Eq.trans ?_ (projT_at _ _ _ z n').symm)
  rw [funext fun k => wall_col _ k n n' h, funext fun k => row_weight (argL m c) k]

theorem G_zero (z : Fin 16384) (n : Fin 2688) (h : 2576 ≤ n.val) : G m c z n = 0 := by
  refine (G_eq m c z n).trans ?_
  rw [funext fun k => wall_zero _ k n h]
  unfold projRow
  simp only [mul_zero, Finset.sum_const_zero]

theorem R3_eq : R3 m c = mlaT (inprojOf (argX m c) (argL m c) (argW m c)) := by
  funext i
  rw [ValueIdx.eq_ix2 i]
  exact mla_eq _ (G m c) (G_col m c) (i 0) (i 1) _ rfl

theorem R4_eq : R4 m c = qkvT (inprojOf (argX m c) (argL m c) (argW m c)) := by
  funext i
  rw [ValueIdx.eq_ix2 i]
  exact qkv_eq _ (G m c) (G_col m c) (i 0) (i 1) _ rfl

theorem R5_eq : R5 m c = zT (inprojOf (argX m c) (argL m c) (argW m c)) := by
  funext i
  rw [ValueIdx.eq_ix2 i]
  exact z_eq _ (G m c) (G_col m c) (i 0) (i 1) _ rfl

theorem R6_eq : R6 m c = gatesT (inprojOf (argX m c) (argL m c) (argW m c)) := by
  funext i
  rw [ValueIdx.eq_ix2 i]
  exact gates_eq _ (G m c) (G_col m c) (G_zero m c) (i 0) (i 1) _ rfl

/-- The four results are equal. -/
theorem algebraic_inproj : Cert.algebraic_InprojIdeal_InprojReferenceIdeal := by
  intro m ρ m' ρ' _ hargs
  refine ⟨fun c => R3 m c, fun c => R4 m c, fun c => R5 m c, fun c => R6 m c, ?_, ?_⟩
  · refine (θ_run _ _ _).mono (fun r h c => ?_) (Cert.InprojIdeal.Value.run_blocks (F := Ideal) m ρ)
    obtain ⟨h3, h4, h5, h6, ha⟩ := h c
    exact ⟨h3.trans (final3 m c), h4.trans (final4 m c), h5.trans (final5 m c), h6.trans (final6 m c), ha⟩
  · refine (θ_run _ _ _).mono (fun r h c => ?_) (run_entry m' ρ')
    obtain ⟨h3, h4, h5, h6, ha⟩ := h c
    obtain ⟨e0, e1, e2⟩ := hargs c
    have hP : P0 m' c = inprojOf (argX m c) (argL m c) (argW m c) := by
      unfold P0 argX argL argW
      rw [e0, e1, e2]
    rw [hP] at h3 h4 h5 h6
    exact ⟨h3.trans (R3_eq m c).symm, h4.trans (R4_eq m c).symm, h5.trans (R5_eq m c).symm, h6.trans (R6_eq m c).symm, ha⟩

end Cert.Proof

end
-- ==== Proof.MixVal.lean ====
/-
  Hand-written. One block of the output projection's call over the extended reals, entry by entry: the gated heads, the
  residual stream, its norm, and the scores of every sub-key.
-/
module

public import proofs.«01_k».proof.Proof.Gen.MixIdeal.Value
public import proofs.«01_k».proof.Proof.InprojVal

@[expose] public section

set_option maxRecDepth 8192

noncomputable section

namespace Cert.MixIdeal.Exact

open Cert.MixIdeal Cert.MixIdeal.Gen
open Idealize.ShloMosaic hiding ix1 ix2 ix3 ix4
open Idealize.ShloMosaic.ValueIdx
open Idealize.ShloMosaic.TcCoe
open Cert.InprojIdeal.Exact (normed)

/-- A head's row over its root mean square, scaled. -/
def headNorm (v : Fin 128 → EReal) (w : Fin 128 → EReal) (k : Fin 128) : EReal :=
  v k * Ideal.rsqrt (Ideal.div (∑ q : Fin 128, v q * v q) (Ideal.ofBits .f32 0x43000000#32) + Ideal.ofBits .f32 0x358637BD#32) * w k

/-- Lane `k` of head `j / 128`. -/
def headOf (o : Fin 512 → EReal) (j : Fin 512) (k : Fin 128) : EReal := o ⟨j.val / 128 * 128 + k.val, by omega⟩

/-- A gated entry of the second mixer's output. -/
def gated (o : Fin 512 → EReal) (w : Fin 128 → EReal) (z : Fin 512 → EReal) (j : Fin 512) : EReal :=
  headNorm (headOf o j) w ⟨j.val % 128, Nat.mod_lt _ (by decide)⟩ * (z j * Ideal.logistic (z j))

/-- An entry of the residual stream. -/
def hEntry (x : EReal) (om g : Fin 512 → EReal) (W : Fin 1024 → EReal) : EReal :=
  x + (∑ j : Fin 512, om j * W ⟨j.val, by omega⟩ + ∑ j : Fin 512, g j * W ⟨512 + j.val, by omega⟩)

/-- One head's part of a block, normed. -/
def partT (v : FVec Ideal S512x128 .f32) (w : FVec Ideal S1x128 .f32) : FVec Ideal S512x128 .f32 :=
  mulf (mulf v (broadcastTo S512x128 (rsqrt (addf (divf (shapeCast S512x1 (multiReduction .add [1] S512 (mulf v v) 0x00000000#32 reduces_S512x128_S512 (.inl rfl) rfl) shapeCasts_S512_S512x1)
    (broadcast S512x1 (Scalar.ofBits .f32 0x43000000#32))) (broadcast S512x1 (Scalar.ofBits .f32 0x358637BD#32)))) broadcasts_S512x1_S512x128))
    (broadcastTo S512x128 w broadcasts_S1x128_S512x128)

theorem partT_at (v : FVec Ideal S512x128 .f32) (w : FVec Ideal S1x128 .f32) (r : Fin 512) (k : Fin 128) :
    partT v w (ix2 r k) = headNorm (fun q => v (ix2 r q)) (fun q => w (ix2 0 q)) k := by
  unfold partT headNorm
  pointwise
  rfl

/-- The gated block. -/
def gatedT (o : FVec Ideal S512x512 .f32) (w : FVec Ideal S1x128 .f32) (z : FVec Ideal S512x512 .f32) : FVec Ideal S512x512 .f32 :=
  mulf (concatenate S512x512 1 [⟨S512x128, partT (extractStridedSlice S512x128 ![0, 0] o slices_S512x512_o0_0_S512x128) w⟩, ⟨S512x128, partT (extractStridedSlice S512x128 ![0, 128] o slices_S512x512_o0_128_S512x128) w⟩,
    ⟨S512x128, partT (extractStridedSlice S512x128 ![0, 256] o slices_S512x512_o0_256_S512x128) w⟩, ⟨S512x128, partT (extractStridedSlice S512x128 ![0, 384] o slices_S512x512_o0_384_S512x128) w⟩]
    concatenates_S512x128_S512x128_S512x128_S512x128_S512x512_d1) (mulf z (logistic z))

theorem headNorm_congr {v v' w w' : Fin 128 → EReal} {k k' : Fin 128} (hv : ∀ q, v q = v' q) (hw : ∀ q, w q = w' q) (hk : k = k') : headNorm v w k = headNorm v' w' k' := by
  rw [funext hv, funext hw, hk]

theorem slice_row (o : FVec Ideal S512x512 .f32) (c : Nat) (h : S512x512.Slices ![0, c] S512x128) (r : Fin 512) (q : Fin 128) (n : Fin 512) (hn : n.val = c + q.val) :
    extractStridedSlice S512x128 ![0, c] o h (ix2 r q) = o (ix2 r n) := by
  pointwise
  exact congrArg (fun z => o (ix2 r z)) (Fin.ext hn.symm)

theorem part_at (o : FVec Ideal S512x512 .f32) (w : FVec Ideal S1x128 .f32) (c : Nat) (h : S512x512.Slices ![0, c] S512x128) (r j r' : Fin 512) (k : Fin 128)
    (hr : r' = r) (hk : c + k.val = j.val) (hc : c % 128 = 0) :
    partT (extractStridedSlice S512x128 ![0, c] o h) w (ix2 r' k) = headNorm (headOf (fun j => o (ix2 r j)) j) (fun q => w (ix2 0 q)) ⟨j.val % 128, Nat.mod_lt _ (by decide)⟩ := by
  subst hr
  refine (partT_at _ _ _ _).trans (headNorm_congr (fun q => slice_row o c h r' q _ ?_) (fun _ => rfl) (Fin.ext ?_))
  · show j.val / 128 * 128 + q.val = c + q.val
    omega
  · show k.val = j.val % 128
    omega

theorem gatedT_at (o : FVec Ideal S512x512 .f32) (w : FVec Ideal S1x128 .f32) (z : FVec Ideal S512x512 .f32) (r j : Fin 512) :
    gatedT o w z (ix2 r j) = gated (fun j => o (ix2 r j)) (fun q => w (ix2 0 q)) (fun j => z (ix2 r j)) j := by
  unfold gatedT gated
  simp only [pointwise]
  have e1 : (ix2 r j 1).val = j.val := rfl
  have e2 : (![512, 128] : Fin 2 → Nat) 1 = 128 := rfl
  refine congrArg (· * (z (ix2 r j) * Ideal.logistic (z (ix2 r j)))) ?_
  split_ifs
  all_goals first
    | (rename_i hf; exact absurd hf (by decide))
    | (refine part_at o w _ _ r j _ _ (Fin.ext rfl) ?_ (by decide)
       simp only [if_true]
       omega)

/-- The residual block. -/
def hT (x : FVec Ideal S512x1024 .f32) (om : FVec Ideal S512x512 .f32) (g : FVec Ideal S512x512 .f32) (w0 w1 : FVec Ideal S512x1024 .bf16) : FVec Ideal S512x1024 .f32 :=
  addf (shapeCast S512x1024 x shapeCasts_S512x1024_S512x1024)
    (addf (matmul dot_S512x512_S512x1024_S512x1024_1_0_0_1_n_n none (truncf .bf16 om bitsLt_bf16_f32) (shapeCast S512x1024 w0 shapeCasts_S512x1024_S512x1024) (constant S512x1024 .f32 0x00000000#32))
      (matmul dot_S512x512_S512x1024_S512x1024_1_0_0_1_n_n none (truncf .bf16 g bitsLt_bf16_f32) (shapeCast S512x1024 w1 shapeCasts_S512x1024_S512x1024) (constant S512x1024 .f32 0x00000000#32)))

theorem hT_at (x : FVec Ideal S512x1024 .f32) (om : FVec Ideal S512x512 .f32) (g : FVec Ideal S512x512 .f32) (w0 w1 : FVec Ideal S512x1024 .bf16) (r : Fin 512) (d : Fin 1024) :
    hT x om g w0 w1 (ix2 r d) = x (ix2 r d) + (∑ j : Fin 512, om (ix2 r j) * w0 (ix2 j d) + ∑ j : Fin 512, g (ix2 r j) * w1 (ix2 j d)) := by
  unfold hT
  pointwise
  rfl

theorem pay8_eq (o0 o1 z om : FVec Ideal S512x512 .f32) (w : FVec Ideal S1x128 .f32) (w0 w1 : FVec Ideal S512x1024 .bf16) (x : FVec Ideal S512x1024 .f32) :
    k0_pay8 (k0_pay3 o0 o1) z (k0_pay4 o0 o1 w) (k0_pay5 o0 o1 w) (k0_pay6 o0 o1) (k0_pay7 o0 o1) w w om w0 w1 x = hT x om (gatedT (addf o0 o1) w z) w0 w1 := rfl

theorem pay10_at (v : FVec Ideal S512x1024 .f32) (w : FVec Ideal S1x1024 .f32) (r : Fin 512) (d : Fin 1024) :
    k0_pay10 (F := Ideal) v (mulf v v) w (ix2 r d) = normed (fun k => v (ix2 r k)) (fun k => w (ix2 0 k)) d := by
  unfold k0_pay10 normed
  pointwise
  rfl

theorem pay11_at (v : FVec Ideal S512x1024 .f32) (w : FVec Ideal S1x1024 .f32) (b : FVec Ideal S1024x2048 .bf16) (r : Fin 512) (n : Fin 2048) :
    k0_pay11 (F := Ideal) v (mulf v v) w b (ix2 r n) = ∑ k : Fin 1024, k0_pay10 (F := Ideal) v (mulf v v) w (ix2 r k) * b (ix2 k n) := by
  unfold k0_pay11
  pointwise
  rfl

/-- One table's scores on a block. -/
def scoreT (q : FVec Ideal S512x2048 .bf16) (s : FVec Ideal S1x128x128 .bf16) (c : Nat) (h : S512x2048.Slices ![0, c] S512x128) : FVec Ideal S1x128x512 .f32 :=
  shapeCast S1x128x512 (matmul dot_S128x128_S512x128_S128x512_1_1_0_0_n_n none (shapeCast S128x128 s shapeCasts_S1x128x128_S128x128) (extractStridedSlice S512x128 ![0, c] q h) (constant S128x512 .f32 0x00000000#32)) shapeCasts_S128x512_S1x128x512

theorem scoreT_at (q : FVec Ideal S512x2048 .bf16) (s : FVec Ideal S1x128x128 .bf16) (c : Nat) (h : S512x2048.Slices ![0, c] S512x128) (n : Fin 128) (r : Fin 512) (C : Fin 128 → Fin 2048)
    (hC : ∀ d, (C d).val = c + d.val) : scoreT q s c h (ix3 0 n r) = ∑ d : Fin 128, s (ix3 0 n d) * q (ix2 r (C d)) := by
  unfold scoreT
  pointwise
  refine Finset.sum_congr rfl fun d _ => ?_
  refine congrArg (fun a => s (ix3 0 n d) * q (ix2 r a)) (Fin.ext (hC d).symm)

/-- All tables' scores on a block. -/
def scoresOf (q : FVec Ideal S512x2048 .bf16) (s : FVec Ideal S16x128x128 .bf16) : FVec Ideal S16x128x512 .f32 := fun i =>
  ∑ d : Fin 128, s (ix3 (i 0) (i 1) d) * q (ix2 (i 2) ⟨128 * (i 0).val + d.val, by have := (i 0).isLt; have h16 : (i 0).val < 16 := this; omega⟩)

theorem piece (q : FVec Ideal S512x2048 .bf16) (s : Vec Ideal S16x128x128 .bf16) (a : Nat) (hl : ∀ i, ((![a, 0, 0] : Fin 3 → Nat) i) + S1x128x128.size i ≤ S16x128x128.size i)
    (hs : ∀ i, ((![a, 0, 0] : Fin 3 → Nat) i) + S1x128x512.size i ≤ S16x128x512.size i) (h : S512x2048.Slices ![0, 128 * a] S512x128) (x : S1x128x512.Idx) :
    scoreT q (View.ld s (Rect.unit (s := S16x128x128) ![a, 0, 0] S1x128x128.size hl)) (128 * a) h x = scoresOf q s ((Rect.unit (s := S16x128x512) ![a, 0, 0] S1x128x512.size hs).emb x) := by
  have ha : a < 16 := hs 0
  have hx : x = ix3 0 (x 1) (x 2) := (ValueIdx.eq_ix3 x).trans (congrArg (fun z => ix3 z (x 1) (x 2)) (Fin.ext (by have : (x 0).val < 1 := (x 0).isLt; show (x 0).val = 0; omega)))
  rw [hx]
  refine (scoreT_at q _ (128 * a) h (x 1) (x 2) (fun d => ⟨128 * a + d.val, by omega⟩) (fun _ => rfl)).trans ?_
  unfold scoresOf
  refine Finset.sum_congr rfl fun d _ => congrArg₂ (· * ·) (congrArg s (funext fun i => Fin.ext ?_)) (congrArg q (funext fun i => Fin.ext ?_))
  · match i with
    | ⟨0, _⟩ => rfl
    | ⟨1, _⟩ => rfl
    | ⟨2, _⟩ => show 0 + 1 * d.val = d.val; omega
  · match i with
    | ⟨0, _⟩ => show (x 2).val = 0 + 1 * (x 2).val; omega
    | ⟨1, _⟩ => show 128 * a + d.val = 128 * (a + 1 * 0) + d.val; omega

end Cert.MixIdeal.Exact
-- ==== Proof.MixBlk.lean ====
/-
  Hand-written. The output projection's call over the extended reals: what its blocks leave, and its three arrays.
-/
module

public import Idealize.ShloMosaic.Lib.Pipeline.ValueKit.Geometry
public import proofs.«01_k».proof.Proof.MixVal

@[expose] public section

set_option maxRecDepth 8192

noncomputable section

namespace Cert.MixIdeal.Exact

open Cert.MixIdeal Cert.MixIdeal.Gen
open Idealize.ShloMosaic hiding ix1 ix2 ix3 ix4
open Idealize.ShloMosaic.ValueIdx
open Idealize.ShloMosaic.TcCoe
open Idealize.ShloMosaic.Pipeline
open Cert.InprojIdeal.Exact (normed hz)

section Block

variable (x0 : Vec Ideal S512x1024 .f32) (x1 x2 x3 x4 : Vec Ideal S512x512 .f32) (x5 : Vec Ideal S1x128 .f32) (x6 : Vec Ideal S1024x1024 .bf16) (x7 : Vec Ideal S1x1024 .f32) (x8 : Vec Ideal S1024x2048 .bf16) (x9 : Vec Ideal S16x128x128 .bf16)

/-- The residual block of ten blocks. -/
def blockH : FVec Ideal S512x1024 .f32 := hT x0 x1 (gatedT (addf (F := Ideal) (φ := .f32) x2 x3) x5 x4) (View.ld x6 r0_2) (View.ld x6 r0_3)

theorem blockH_eq : k0_pay31 (F := Ideal) x0 x1 x2 x3 x4 x5 x6 x7 x8 x9 = blockH x0 x1 x2 x3 x4 x5 x6 := by
  unfold k0_pay31 k0_pay30 k0_pay29 k0_pay28 k0_pay27 k0_pay26
  repeat rw [View.ld_unit_zero hz]
  exact pay8_eq _ _ _ _ _ _ _ _

theorem blockH_sq : k0_pay32 (F := Ideal) x0 x1 x2 x3 x4 x5 x6 x7 x8 x9 = mulf (blockH x0 x1 x2 x3 x4 x5 x6) (blockH x0 x1 x2 x3 x4 x5 x6) :=
  (show k0_pay32 (F := Ideal) x0 x1 x2 x3 x4 x5 x6 x7 x8 x9 = mulf (k0_pay31 (F := Ideal) x0 x1 x2 x3 x4 x5 x6 x7 x8 x9) (k0_pay31 (F := Ideal) x0 x1 x2 x3 x4 x5 x6 x7 x8 x9) from rfl).trans (by rw [blockH_eq])

theorem out10_eq : out0_10 (F := Ideal) x0 x1 x2 x3 x4 x5 x6 x7 x8 x9 = blockH x0 x1 x2 x3 x4 x5 x6 := by
  refine Eq.trans ?_ (blockH_eq x0 x1 x2 x3 x4 x5 x6 x7 x8 x9)
  exact View.canon_unit_zero hz _ _

theorem out11_eq : out0_11 (F := Ideal) x0 x1 x2 x3 x4 x5 x6 x7 x8 x9 = k0_pay10 (blockH x0 x1 x2 x3 x4 x5 x6) (mulf (blockH x0 x1 x2 x3 x4 x5 x6) (blockH x0 x1 x2 x3 x4 x5 x6)) x7 := by
  unfold out0_11
  rw [View.canon_unit_zero hz, View.ld_unit_zero hz, blockH_eq, blockH_sq]

theorem queries_eq : k0_pay33 (F := Ideal) x0 x1 x2 x3 x4 x5 x6 x7 x8 x9 = k0_pay11 (blockH x0 x1 x2 x3 x4 x5 x6) (mulf (blockH x0 x1 x2 x3 x4 x5 x6) (blockH x0 x1 x2 x3 x4 x5 x6)) x7 x8 := by
  unfold k0_pay33
  rw [View.ld_unit_zero hz, View.ld_unit_zero hz, blockH_eq, blockH_sq]

theorem out12_eq : out0_12 (F := Ideal) x0 x1 x2 x3 x4 x5 x6 x7 x8 x9 = scoresOf (k0_pay33 (F := Ideal) x0 x1 x2 x3 x4 x5 x6 x7 x8 x9) x9 := by
  funext y
  unfold out0_12
  refine View.canon_apply_of_pieces (Val := Elt Ideal) (scoresOf (k0_pay33 (F := Ideal) x0 x1 x2 x3 x4 x5 x6 x7 x8 x9) x9) _ ?_ y (cover0_12 _ _ _ _ _ _ _ _ _ _ _ _ _ _ _ _ y)
  simp only [List.forall_mem_cons]
  exact ⟨piece _ x9 15 _ _ _, piece _ x9 14 _ _ _, piece _ x9 13 _ _ _, piece _ x9 12 _ _ _, piece _ x9 11 _ _ _, piece _ x9 10 _ _ _, piece _ x9 9 _ _ _, piece _ x9 8 _ _ _,
    piece _ x9 7 _ _ _, piece _ x9 6 _ _ _, piece _ x9 5 _ _ _, piece _ x9 4 _ _ _, piece _ x9 3 _ _ _, piece _ x9 2 _ _ _, piece _ x9 1 _ _ _, piece _ x9 0 _ _ _, fun _ h => nomatch h⟩

theorem blockH_at (r : Fin 512) (d : Fin 1024) : blockH x0 x1 x2 x3 x4 x5 x6 (ix2 r d)
    = hEntry (x0 (ix2 r d)) (fun j => x1 (ix2 r j)) (gated (fun j => x2 (ix2 r j) + x3 (ix2 r j)) (fun q => x5 (ix2 0 q)) (fun j => x4 (ix2 r j))) (fun k => x6 (ix2 k d)) := by
  unfold blockH
  refine (hT_at _ _ _ _ _ r d).trans ?_
  unfold hEntry
  refine congrArg (x0 (ix2 r d) + ·) (congrArg₂ (· + ·) (Finset.sum_congr rfl fun j _ => congrArg₂ (· * ·) rfl (congrArg x6 (funext fun i => Fin.ext ?_)))
    (Finset.sum_congr rfl fun j _ => congrArg₂ (· * ·) (gatedT_at _ _ _ r j) (congrArg x6 (funext fun i => Fin.ext ?_))))
  · match i with
    | ⟨0, _⟩ => show 0 + 1 * j.val = j.val; omega
    | ⟨1, _⟩ => show 0 + 1 * d.val = d.val; omega
  · match i with
    | ⟨0, _⟩ => show 512 + 1 * j.val = 512 + j.val; omega
    | ⟨1, _⟩ => show 0 + 1 * d.val = d.val; omega

theorem blockH_of (r : Fin 512) (d : Fin 1024) (X : EReal) (O F B Z : Fin 512 → EReal) (w : Fin 128 → EReal) (W : Fin 1024 → EReal) (h0 : x0 (ix2 r d) = X) (h1 : ∀ j, x1 (ix2 r j) = O j)
    (h2 : ∀ j, x2 (ix2 r j) = F j) (h3 : ∀ j, x3 (ix2 r j) = B j) (h4 : ∀ j, x4 (ix2 r j) = Z j) (h5 : ∀ q, x5 (ix2 0 q) = w q) (h6 : ∀ k, x6 (ix2 k d) = W k) :
    blockH x0 x1 x2 x3 x4 x5 x6 (ix2 r d) = hEntry X O (gated (fun j => F j + B j) w Z) W := by
  rw [blockH_at]
  simp only [h0, h1, h2, h3, h4, h5, h6]

theorem out11_of (r : Fin 512) (d : Fin 1024) (H w : Fin 1024 → EReal) (hH : ∀ k, blockH x0 x1 x2 x3 x4 x5 x6 (ix2 r k) = H k) (h7 : ∀ k, x7 (ix2 0 k) = w k) :
    k0_pay10 (F := Ideal) (blockH x0 x1 x2 x3 x4 x5 x6) (mulf (blockH x0 x1 x2 x3 x4 x5 x6) (blockH x0 x1 x2 x3 x4 x5 x6)) x7 (ix2 r d) = normed H w d := by
  rw [pay10_at, funext hH, funext h7]

theorem out12_of (a : Fin 16) (n : Fin 128) (r : Fin 512) (N : Fin 1024 → EReal) (W : Fin 1024 → Fin 2048 → EReal) (K : Fin 128 → EReal)
    (hN : ∀ k, k0_pay10 (F := Ideal) (blockH x0 x1 x2 x3 x4 x5 x6) (mulf (blockH x0 x1 x2 x3 x4 x5 x6) (blockH x0 x1 x2 x3 x4 x5 x6)) x7 (ix2 r k) = N k)
    (h8 : ∀ k q, x8 (ix2 k q) = W k q) (h9 : ∀ d, x9 (ix3 a n d) = K d) :
    out0_12 (F := Ideal) x0 x1 x2 x3 x4 x5 x6 x7 x8 x9 (ix3 a n r) = ∑ d : Fin 128, K d * ∑ k : Fin 1024, N k * W k ⟨128 * a.val + d.val, by omega⟩ := by
  rw [out12_eq, queries_eq]
  unfold scoresOf
  refine Finset.sum_congr rfl fun d _ => congrArg₂ (· * ·) (h9 d) ((pay11_at _ _ _ r _).trans (Finset.sum_congr rfl fun k _ => congrArg₂ (· * ·) (hN k) (h8 k _)))

end Block

variable (m : (ℓ : Loc nD τ sig) → Buf (Elt Ideal) ℓ) (c : Dev nD)

/-- The arrays the call is given. -/
def A0 : FVec Ideal S16384x1024 .f32 := V m c main_v0
def A1 : FVec Ideal S16384x512 .f32 := V m c main_arg1
def A2 : FVec Ideal S16384x512 .f32 := V m c main_arg2
def A3 : FVec Ideal S16384x512 .f32 := V m c main_arg3
def A4 : FVec Ideal S16384x512 .f32 := V m c main_arg4
def A5 : FVec Ideal S1x128 .f32 := V m c main_arg5
def A6 : FVec Ideal S1024x1024 .bf16 := V m c main_v5
def A7 : FVec Ideal S1x1024 .f32 := V m c main_arg7
def A8 : FVec Ideal S1024x2048 .bf16 := V m c main_v7
def A9 : FVec Ideal S16x128x128 .bf16 := V m c main_v3

/-- The whole arrays it leaves, entry by entry. -/
def HH (t : Fin 16384) (d : Fin 1024) : EReal :=
  hEntry (A0 m c (ix2 t d)) (fun j => A1 m c (ix2 t j)) (gated (fun j => A2 m c (ix2 t j) + A3 m c (ix2 t j)) (fun q => A5 m c (ix2 0 q)) (fun j => A4 m c (ix2 t j)))
    (fun k => A6 m c (ix2 k d))
def NN (t : Fin 16384) (d : Fin 1024) : EReal := normed (HH m c t) (fun k => A7 m c (ix2 0 k)) d
def SS (a : Fin 16) (n : Fin 128) (t : Fin 16384) : EReal :=
  ∑ d : Fin 128, A9 m c (ix3 a n d) * ∑ k : Fin 1024, NN m c t k * A8 m c (ix2 k ⟨128 * a.val + d.val, by omega⟩)

theorem ext2 {s : Shape} (hs : s.rank = 2) {i j : s.Idx} (h0 : (i ⟨0, by omega⟩).val = (j ⟨0, by omega⟩).val) (h1 : (i ⟨1, by omega⟩).val = (j ⟨1, by omega⟩).val) : i = j := by
  funext a
  apply Fin.ext
  obtain ⟨a, ha⟩ := a
  rcases a with _ | _ | a
  · exact h0
  · exact h1
  · omega

theorem rows0 : ∀ t : Fin cfg0.N, (win0_0.index t 0 = t.val ∧ win0_0.index t 1 = 0) ∧ (win0_1.index t 0 = t.val ∧ win0_1.index t 1 = 0) ∧ (win0_2.index t 0 = t.val ∧ win0_2.index t 1 = 0)
    ∧ (win0_3.index t 0 = t.val ∧ win0_3.index t 1 = 0) ∧ (win0_4.index t 0 = t.val ∧ win0_4.index t 1 = 0) := by decide +kernel
theorem whole0 : ∀ t : Fin cfg0.N, (win0_5.index t 0 = 0 ∧ win0_5.index t 1 = 0) ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = 0 ∧ win0_9.index t 1 = 0 ∧ win0_9.index t 2 = 0) := by decide +kernel
theorem outs0 : ∀ t : Fin cfg0.N, (win0_10.index t 0 = t.val ∧ win0_10.index t 1 = 0) ∧ (win0_11.index t 0 = t.val ∧ win0_11.index t 1 = 0)
    ∧ (win0_12.index t 0 = 0 ∧ win0_12.index t 1 = 0 ∧ win0_12.index t 2 = t.val) := by decide +kernel

/-- Where a block of 512 rows puts an entry. -/
theorem row_val {G : Grid} (w : Window sig G) (t : Fin G.N) (y : (w.xblock (G.coords t)).Idx) (a : Fin w.shape.rank) (hk : w.kind = .blocked) (n z : Nat) (hi : w.index t a = n) (hw : w.size a = 512) (hzz : z = n * 512 + (y a).val) :
    ((w.rect t).emb y a : Nat) = z := by
  rw [w.rect_emb_val t y a hk, hi, hw, hzz]

section At

variable (t : Fin cfg0.N) (r : Fin 512) (z : Fin 16384) (hzr : z.val = t.val * 512 + r.val)
include hzr

theorem blk0 (k : Fin 1024) : iblk m c 0 t (ix2 r k) = A0 m c (ix2 z k) :=
  congrArg (A0 m c) (ext2 rfl (row_val win0_0 t (ix2 r k) 0 rfl _ _ (rows0 t).1.1 rfl hzr) (win0_0.rect_emb_val_of_index_zero t 1 (rows0 t).1.2 (ix2 r k)))
theorem blk1 (k : Fin 512) : iblk m c 1 t (ix2 r k) = A1 m c (ix2 z k) :=
  congrArg (A1 m c) (ext2 rfl (row_val win0_1 t (ix2 r k) 0 rfl _ _ (rows0 t).2.1.1 rfl hzr) (win0_1.rect_emb_val_of_index_zero t 1 (rows0 t).2.1.2 (ix2 r k)))
theorem blk2 (k : Fin 512) : iblk m c 2 t (ix2 r k) = A2 m c (ix2 z k) :=
  congrArg (A2 m c) (ext2 rfl (row_val win0_2 t (ix2 r k) 0 rfl _ _ (rows0 t).2.2.1.1 rfl hzr) (win0_2.rect_emb_val_of_index_zero t 1 (rows0 t).2.2.1.2 (ix2 r k)))
theorem blk3 (k : Fin 512) : iblk m c 3 t (ix2 r k) = A3 m c (ix2 z k) :=
  congrArg (A3 m c) (ext2 rfl (row_val win0_3 t (ix2 r k) 0 rfl _ _ (rows0 t).2.2.2.1.1 rfl hzr) (win0_3.rect_emb_val_of_index_zero t 1 (rows0 t).2.2.2.1.2 (ix2 r k)))
theorem blk4 (k : Fin 512) : iblk m c 4 t (ix2 r k) = A4 m c (ix2 z k) :=
  congrArg (A4 m c) (ext2 rfl (row_val win0_4 t (ix2 r k) 0 rfl _ _ (rows0 t).2.2.2.2.1 rfl hzr) (win0_4.rect_emb_val_of_index_zero t 1 (rows0 t).2.2.2.2.2 (ix2 r k)))

end At

section Whole

variable (t : Fin cfg0.N)

theorem blk5 (y : S1x128.Idx) : iblk m c 5 t y = A5 m c y :=
  congrArg (A5 m c) (ext2 rfl (win0_5.rect_emb_val_of_index_zero t 0 (whole0 t).1.1 y) (win0_5.rect_emb_val_of_index_zero t 1 (whole0 t).1.2 y))
theorem blk6 (y : S1024x1024.Idx) : iblk m c 6 t y = A6 m c y :=
  congrArg (A6 m c) (ext2 rfl (win0_6.rect_emb_val_of_index_zero t 0 (whole0 t).2.1.1 y) (win0_6.rect_emb_val_of_index_zero t 1 (whole0 t).2.1.2 y))
theorem blk7 (y : S1x1024.Idx) : iblk m c 7 t y = A7 m c y :=
  congrArg (A7 m c) (ext2 rfl (win0_7.rect_emb_val_of_index_zero t 0 (whole0 t).2.2.1.1 y) (win0_7.rect_emb_val_of_index_zero t 1 (whole0 t).2.2.1.2 y))
theorem blk8 (y : S1024x2048.Idx) : iblk m c 8 t y = A8 m c y :=
  congrArg (A8 m c) (ext2 rfl (win0_8.rect_emb_val_of_index_zero t 0 (whole0 t).2.2.2.1.1 y) (win0_8.rect_emb_val_of_index_zero t 1 (whole0 t).2.2.2.1.2 y))
theorem blk9 (y : S16x128x128.Idx) : iblk m c 9 t y = A9 m c y :=
  congrArg (A9 m c) (funext fun a => Fin.ext (match a with
    | ⟨0, _⟩ => win0_9.rect_emb_val_of_index_zero t 0 (whole0 t).2.2.2.2.1 y
    | ⟨1, _⟩ => win0_9.rect_emb_val_of_index_zero t 1 (whole0 t).2.2.2.2.2.1 y
    | ⟨2, _⟩ => win0_9.rect_emb_val_of_index_zero t 2 (whole0 t).2.2.2.2.2.2 y))

end Whole

section Point

variable (t : Fin cfg0.N) (r : Fin 512) (z : Fin 16384) (hzr : z.val = t.val * 512 + r.val)
include hzr

theorem pointH (d : Fin 1024) : blockH (iblk m c 0 t) (iblk m c 1 t) (iblk m c 2 t) (iblk m c 3 t) (iblk m c 4 t) (iblk m c 5 t) (iblk m c 6 t) (ix2 r d) = HH m c z d :=
  blockH_of (iblk m c 0 t) (iblk m c 1 t) (iblk m c 2 t) (iblk m c 3 t) (iblk m c 4 t) (iblk m c 5 t) (iblk m c 6 t) r d _ _ _ _ _ _ _ (blk0 m c t r z hzr d) (blk1 m c t r z hzr) (blk2 m c t r z hzr) (blk3 m c t r z hzr) (blk4 m c t r z hzr) (fun q => blk5 m c t (ix2 0 q)) (fun k => blk6 m c t (ix2 k d))

theorem pointN (d : Fin 1024) : k0_pay10 (F := Ideal) (blockH (iblk m c 0 t) (iblk m c 1 t) (iblk m c 2 t) (iblk m c 3 t) (iblk m c 4 t) (iblk m c 5 t) (iblk m c 6 t))
    (mulf (blockH (iblk m c 0 t) (iblk m c 1 t) (iblk m c 2 t) (iblk m c 3 t) (iblk m c 4 t) (iblk m c 5 t) (iblk m c 6 t)) (blockH (iblk m c 0 t) (iblk m c 1 t) (iblk m c 2 t) (iblk m c 3 t) (iblk m c 4 t) (iblk m c 5 t) (iblk m c 6 t)))
    (iblk m c 7 t) (ix2 r d) = NN m c z d :=
  out11_of (iblk m c 0 t) (iblk m c 1 t) (iblk m c 2 t) (iblk m c 3 t) (iblk m c 4 t) (iblk m c 5 t) (iblk m c 6 t) (iblk m c 7 t) r d (HH m c z) (fun k => A7 m c (ix2 0 k)) (pointH m c t r z hzr) (fun k => blk7 m c t (ix2 0 k))

theorem pointS (a : Fin 16) (n : Fin 128) : out0_12 (F := Ideal) (iblk m c 0 t) (iblk m c 1 t) (iblk m c 2 t) (iblk m c 3 t) (iblk m c 4 t) (iblk m c 5 t) (iblk m c 6 t) (iblk m c 7 t) (iblk m c 8 t) (iblk m c 9 t) (ix3 a n r) = SS m c a n z :=
  out12_of (iblk m c 0 t) (iblk m c 1 t) (iblk m c 2 t) (iblk m c 3 t) (iblk m c 4 t) (iblk m c 5 t) (iblk m c 6 t) (iblk m c 7 t) (iblk m c 8 t) (iblk m c 9 t) a n r (NN m c z) (fun k q => A8 m c (ix2 k q)) (fun d => A9 m c (ix3 a n d)) (pointN m c t r z hzr) (fun k q => blk8 m c t (ix2 k q)) (fun d => blk9 m c t (ix3 a n d))

end Point

/-- The three arrays. -/
def RH : Vec Ideal S16384x1024 .f32 := fun i => HH m c (i 0) (i 1)
def RN : Vec Ideal S16384x1024 .bf16 := fun i => NN m c (i 0) (i 1)
def RS : Vec Ideal S16x128x16384 .f32 := fun i => SS m c (i 0) (i 1) (i 2)

theorem point10 (t : Fin cfg0.N) (y : S512x1024.Idx) (i : S16384x1024.Idx) (h0 : (i 0).val = t.val * 512 + (y 0).val) (h1 : (i 1).val = (y 1).val) :
    out0_10 (iblk m c 0 t) (iblk m c 1 t) (iblk m c 2 t) (iblk m c 3 t) (iblk m c 4 t) (iblk m c 5 t) (iblk m c 6 t) (iblk m c 7 t) (iblk m c 8 t) (iblk m c 9 t) y = RH m c i := by
  have hy : y = ix2 (y 0) (i 1) := (ValueIdx.eq_ix2 y).trans (congrArg (ix2 (y 0)) (Fin.ext h1.symm))
  rw [hy, out10_eq]
  exact pointH m c t _ (i 0) h0 (i 1)

theorem point11 (t : Fin cfg0.N) (y : S512x1024.Idx) (i : S16384x1024.Idx) (h0 : (i 0).val = t.val * 512 + (y 0).val) (h1 : (i 1).val = (y 1).val) :
    out0_11 (iblk m c 0 t) (iblk m c 1 t) (iblk m c 2 t) (iblk m c 3 t) (iblk m c 4 t) (iblk m c 5 t) (iblk m c 6 t) (iblk m c 7 t) (iblk m c 8 t) (iblk m c 9 t) y = RN m c i := by
  have hy : y = ix2 (y 0) (i 1) := (ValueIdx.eq_ix2 y).trans (congrArg (ix2 (y 0)) (Fin.ext h1.symm))
  rw [hy, out11_eq]
  exact pointN m c t _ (i 0) h0 (i 1)

theorem point12 (t : Fin cfg0.N) (y : S16x128x512.Idx) (i : S16x128x16384.Idx) (h0 : (i 0).val = (y 0).val) (h1 : (i 1).val = (y 1).val) (h2 : (i 2).val = t.val * 512 + (y 2).val) :
    out0_12 (iblk m c 0 t) (iblk m c 1 t) (iblk m c 2 t) (iblk m c 3 t) (iblk m c 4 t) (iblk m c 5 t) (iblk m c 6 t) (iblk m c 7 t) (iblk m c 8 t) (iblk m c 9 t) y = RS m c i := by
  have hy : y = ix3 (i 0) (i 1) (y 2) := (ValueIdx.eq_ix3 y).trans (congrArg₂ (fun a b => ix3 a b (y 2)) (Fin.ext h0.symm) (Fin.ext h1.symm))
  rw [hy]
  exact pointS m c t _ (i 2) h2 (i 0) (i 1)

theorem final10 : (dats m 0 c).arrAt 10 cfg0.N = RH m c := by
  refine (dats m 0 c).arrAt_eq_of_covers 10 (RH m c) (by decide +kernel) ?_
  intro t _ y
  refine (congrFun (after0_10 m c t) _).trans ?_
  exact point10 m c t _ _ (row_val win0_10 t y 0 rfl _ _ (outs0 t).1.1 rfl rfl) (win0_10.rect_emb_val_of_index_zero t 1 (outs0 t).1.2 y)

theorem final11 : (dats m 0 c).arrAt 11 cfg0.N = RN m c := by
  refine (dats m 0 c).arrAt_eq_of_covers 11 (RN m c) (by decide +kernel) ?_
  intro t _ y
  refine (congrFun (after0_11 m c t) _).trans ?_
  exact point11 m c t _ _ (row_val win0_11 t y 0 rfl _ _ (outs0 t).2.1.1 rfl rfl) (win0_11.rect_emb_val_of_index_zero t 1 (outs0 t).2.1.2 y)

theorem final12 : (dats m 0 c).arrAt 12 cfg0.N = RS m c := by
  refine (dats m 0 c).arrAt_eq_of_covers 12 (RS m c) (by decide +kernel) ?_
  intro t _ y
  refine (congrFun (after0_12 m c t) _).trans ?_
  exact point12 m c t _ _ (win0_12.rect_emb_val_of_index_zero t 0 (outs0 t).2.2.1 y) (win0_12.rect_emb_val_of_index_zero t 1 (outs0 t).2.2.2.1 y) (row_val win0_12 t y 2 rfl _ _ (outs0 t).2.2.2.2 rfl rfl)

end Cert.MixIdeal.Exact
-- ==== Proof.MixRef.lean ====
/-
  Hand-written. The reference's lines around the output projection over the extended reals, entry by entry.
-/
module

public import proofs.«01_k».proof.Proof.Gen.MixReferenceIdeal.Run
public import proofs.«01_k».proof.Proof.MixVal

@[expose] public section

set_option maxRecDepth 8192

noncomputable section

namespace Cert.MixReferenceIdeal.Entry

open Cert.MixReferenceIdeal Cert.MixReferenceIdeal.Gen
open Idealize.ShloMosaic hiding ix1 ix2 ix3 ix4
open Idealize.ShloMosaic.ValueIdx
open Idealize.ShloMosaic.TcCoe
open Cert.InprojIdeal.Exact (normed)
open Cert.MixIdeal.Exact (headNorm headOf gated hEntry headNorm_congr)

/-- The heads of the two directions' sum, normed. -/
def headsT (o : FVec Ideal S16384x4x128 .f32) (w : FVec Ideal S128 .f32) : FVec Ideal S16384x4x128 .f32 :=
  mulf (mulf o (broadcastInDim S16384x4x128 ![0, 1, 2] bcast_S16384x4x1_S16384x4x128_0_1_2 (Host.rsqrt (addf (Host.divf (broadcastInDim S16384x4x1 ![0, 1] bcast_S16384x4_S16384x4x1_0_1
    (Host.reduceAdd (mulf o o) (constant S_ .f32 0x00000000#32) reducesTo_S16384x4x128_S16384x4_d2 h_S_)) (broadcastInDim S16384x4x1 ![] bcast_S_S16384x4x1 (constant S_ .f32 0x43000000#32)))
    (broadcastInDim S16384x4x1 ![] bcast_S_S16384x4x1 (constant S_ .f32 0x358637BD#32))))))
    (broadcastInDim S16384x4x128 ![0, 1, 2] bcast_S1x1x128_S16384x4x128_0_1_2 (broadcastInDim S1x1x128 ![2] bcast_S128_S1x1x128_2 w))

theorem headsT_at (o : FVec Ideal S16384x4x128 .f32) (w : FVec Ideal S128 .f32) (z : Fin 16384) (a : Fin 4) (k : Fin 128) :
    headsT o w (ix3 z a k) = headNorm (fun q => o (ix3 z a q)) (fun q => w (ix1 q)) k := by
  unfold headsT headNorm
  pointwise
  rfl

/-- Their gating. -/
def gateT (f b z : FVec Ideal S16384x512 .f32) (w : FVec Ideal S128 .f32) : FVec Ideal S16384x512 .f32 :=
  mulf (shapeCast S16384x512 (headsT (shapeCast S16384x4x128 (addf f b) shapeCasts_S16384x512_S16384x4x128) w) shapeCasts_S16384x4x128_S16384x512)
    (mulf z (Host.divf (broadcastInDim S16384x512 ![] bcast_S_S16384x512 (constant S_ .f32 0x3F800000#32)) (addf (broadcastInDim S16384x512 ![] bcast_S_S16384x512 (constant S_ .f32 0x3F800000#32)) (Host.exp (Host.negf z)))))

theorem sumT_at (f b : FVec Ideal S16384x512 .f32) (t : Fin 16384) (a : Fin 4) (q : Fin 128) (n : Fin 512) (hn : n.val = a.val * 128 + q.val) :
    (shapeCast S16384x4x128 (addf f b) shapeCasts_S16384x512_S16384x4x128 : FVec Ideal S16384x4x128 .f32) (ix3 t a q) = f (ix2 t n) + b (ix2 t n) := by
  pointwise
  refine congrArg (fun i => f (ix2 t i) + b (ix2 t i)) (Fin.ext ?_)
  exact hn.symm

theorem gateT_at (f b z : FVec Ideal S16384x512 .f32) (w : FVec Ideal S128 .f32) (t : Fin 16384) (j : Fin 512) :
    gateT f b z w (ix2 t j) = gated (fun j => f (ix2 t j) + b (ix2 t j)) (fun q => w (ix1 q)) (fun j => z (ix2 t j)) j := by
  unfold gateT gated
  pointwise
  refine congrArg (· * (z (ix2 t j) * Ideal.logistic (z (ix2 t j)))) ((headsT_at _ w t _ _).trans (headNorm_congr (fun q => ?_) (fun _ => rfl) rfl))
  exact sumT_at f b t _ q _ rfl

/-- The residual stream. -/
def hR (x : FVec Ideal S16384x1024 .f32) (om g : FVec Ideal S16384x512 .f32) (W : FVec Ideal S1024x1024 .f32) : FVec Ideal S16384x1024 .f32 :=
  addf x (Host.dotGeneral dot_S16384x1024_S1024x1024_S16384x1024_1_0_0_1_n_n none (concatenate S16384x1024 1 [⟨S16384x512, om⟩, ⟨S16384x512, g⟩] concatenates_S16384x512_S16384x512_S16384x1024_d1) W)

theorem hR_at (x : FVec Ideal S16384x1024 .f32) (om g : FVec Ideal S16384x512 .f32) (W : FVec Ideal S1024x1024 .f32) (t : Fin 16384) (d : Fin 1024) :
    hR x om g W (ix2 t d) = hEntry (x (ix2 t d)) (fun j => om (ix2 t j)) (fun j => g (ix2 t j)) (fun k => W (ix2 k d)) := by
  unfold hR hEntry
  pointwise
  rfl

/-- Its norm. -/
def nT (X : FVec Ideal S16384x1024 .f32) (w : FVec Ideal S1024 .f32) : FVec Ideal S16384x1024 .f32 :=
  mulf (mulf X (broadcastInDim S16384x1024 ![0, 1] bcast_S16384x1_S16384x1024_0_1 (Host.rsqrt (addf (Host.divf (broadcastInDim S16384x1 ![0] bcast_S16384_S16384x1_0
      (Host.reduceAdd (mulf X X) (constant S_ .f32 0x00000000#32) reducesTo_S16384x1024_S16384_d1 h_S_)) (broadcastInDim S16384x1 ![] bcast_S_S16384x1 (constant S_ .f32 0x44800000#32)))
      (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 w))

theorem nT_at (X : FVec Ideal S16384x1024 .f32) (w : FVec Ideal S1024 .f32) (z : Fin 16384) (d : Fin 1024) :
    nT X w (ix2 z d) = normed (fun k => X (ix2 z k)) (fun k => w (ix1 k)) d := by
  unfold nT normed
  pointwise
  rfl

/-- The scores of every sub-key. -/
def sR (n : FVec Ideal S16384x1024 .f32) (W : FVec Ideal S1024x2048 .f32) (K : FVec Ideal S8x2x128x128 .f32) : FVec Ideal S16x128x16384 .f32 :=
  shapeCast S16x128x16384 (Host.dotGeneral dot_S8x2x128x128_S16384x8x2x128_S8x2x128x16384_3_3_2_0_01_12 none K
    (shapeCast S16384x8x2x128 (Host.dotGeneral dot_S16384x1024_S1024x2048_S16384x2048_1_0_0_1_n_n none n W) shapeCasts_S16384x2048_S16384x8x2x128)) shapeCasts_S8x2x128x16384_S16x128x16384

theorem sR_at (n : FVec Ideal S16384x1024 .f32) (W : FVec Ideal S1024x2048 .f32) (K : FVec Ideal S8x2x128x128 .f32) (a : Fin 16) (q : Fin 128) (t : Fin 16384) (C : Fin 128 → Fin 2048) (hC : ∀ e, (C e).val = 128 * a.val + e.val) :
    sR n W K (ix3 a q t) = ∑ e : Fin 128, K (ix4 ⟨a.val / 2, by omega⟩ ⟨a.val % 2, Nat.mod_lt _ (by decide)⟩ q e) * ∑ k : Fin 1024, n (ix2 t k) * W (ix2 k (C e)) := by
  unfold sR
  pointwise
  refine Finset.sum_congr rfl fun e _ => congrArg (K (ix4 ⟨a.val / 2, by omega⟩ ⟨a.val % 2, Nat.mod_lt _ (by decide)⟩ q e) * ·) ?_
  refine Finset.sum_congr rfl fun k _ => congrArg (fun i => n (ix2 t k) * W (ix2 k i)) (Fin.ext ?_)
  show a.val / 2 * 256 + a.val % 2 * 128 + e.val = (C e).val
  rw [hC e]
  omega

variable (m : (ℓ : Loc nD τ sig) → Buf (Elt Ideal) ℓ) (ρ : Dev nD → PrngReg)

/-- The three results of the arguments. -/
def H0 (c : Dev nD) : FVec Ideal S16384x1024 .f32 :=
  hR (shapeCast S16384x1024 (m ((c : Thread nD τ).loc main_arg0)) shapeCasts_S2x8192x1024_S16384x1024) (m ((c : Thread nD τ).loc main_arg1))
    (gateT (m ((c : Thread nD τ).loc main_arg2)) (m ((c : Thread nD τ).loc main_arg3)) (m ((c : Thread nD τ).loc main_arg4)) (shapeCast S128 (m ((c : Thread nD τ).loc main_arg5)) shapeCasts_S1x128_S128))
    (shapeCast S1024x1024 (m ((c : Thread nD τ).loc main_arg6)) shapeCasts_S1x1024x1024_S1024x1024)
def N0 (c : Dev nD) : FVec Ideal S16384x1024 .f32 := nT (H0 m c) (shapeCast S1024 (m ((c : Thread nD τ).loc main_arg7)) shapeCasts_S1x1024_S1024)
def S0 (c : Dev nD) : FVec Ideal S16x128x16384 .f32 :=
  sR (N0 m c) (shapeCast S1024x2048 (m ((c : Thread nD τ).loc main_arg8)) shapeCasts_S1x1024x2048_S1024x2048) (shapeCast S8x2x128x128 (m ((c : Thread nD τ).loc main_arg9)) shapeCasts_S1x8x2x128x128_S8x2x128x128)

theorem run_entry : θ_run defs (onTc (τ := τ) (main (F := Ideal))) ⟨m, fun _ => 0, ρ⟩ fun r => ∀ c : Dev nD,
      r.2.mem ((c : Thread nD τ).loc main_v23) = H0 m c ∧ r.2.mem ((c : Thread nD τ).loc main_v43) = (truncf .bf16 (N0 m c) bitsLt_bf16_f32 : FVec Ideal S16384x1024 .bf16)
      ∧ r.2.mem ((c : Thread nD τ).loc main_v44) = S0 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  Value.run (F := Ideal) m ρ

end Cert.MixReferenceIdeal.Entry
-- ==== Proof.MixAlg.lean ====
/-
  Hand-written. The output projection's call and the reference's lines give the same three arrays over the extended reals.
-/
module

public import proofs.«01_k».proof.Defs
public import proofs.«01_k».proof.Proof.MixBlk
public import proofs.«01_k».proof.Proof.MixRef

@[expose] public section

set_option maxRecDepth 8192

noncomputable section

namespace Cert.MixIdeal.Exact

open Cert.MixIdeal Cert.MixIdeal.Gen
open Idealize.ShloMosaic hiding ix1 ix2 ix3 ix4
open Idealize.ShloMosaic.ValueIdx
open Idealize.ShloMosaic.TcCoe

variable (m : (ℓ : Loc nD τ sig) → Buf (Elt Ideal) ℓ) (c : Dev nD)

theorem V_main_v0 : V m c main_v0 = (shapeCast S16384x1024 (m ((c : Thread nD τ).loc main_arg0)) shapeCasts_S2x8192x1024_S16384x1024 : Vec Ideal S16384x1024 .f32) := by
  show StableHlo.after hostOps0 _ _ = _
  after_results_simp <;> rfl

theorem V_main_v3 : V m c main_v3 = (truncf (F := Ideal) (φ := .f32) .bf16 (shapeCast S16x128x128 (shapeCast S8x2x128x128 (m ((c : Thread nD τ).loc main_arg9)) shapeCasts_S1x8x2x128x128_S8x2x128x128) shapeCasts_S8x2x128x128_S16x128x128) bitsLt_bf16_f32) := by
  show StableHlo.after hostOps0 _ _ = _
  after_results_simp <;> rfl

theorem V_main_v5 : V m c main_v5 = (truncf (F := Ideal) (φ := .f32) .bf16 (shapeCast S1024x1024 (m ((c : Thread nD τ).loc main_arg6)) shapeCasts_S1x1024x1024_S1024x1024) bitsLt_bf16_f32) := by
  show StableHlo.after hostOps0 _ _ = _
  after_results_simp <;> rfl

theorem V_main_v7 : V m c main_v7 = (truncf (F := Ideal) (φ := .f32) .bf16 (shapeCast S1024x2048 (m ((c : Thread nD τ).loc main_arg8)) shapeCasts_S1x1024x2048_S1024x2048) bitsLt_bf16_f32) := by
  show StableHlo.after hostOps0 _ _ = _
  after_results_simp <;> rfl

end Cert.MixIdeal.Exact

namespace Cert.Proof

open Idealize.ShloMosaic hiding ix1 ix2 ix3 ix4
open Idealize.ShloMosaic.ValueIdx
open Idealize.ShloMosaic.TcCoe
open Idealize.SL.Sem
open Cert.MixReferenceIdeal.Entry Cert.MixIdeal.Exact
open Cert.InprojIdeal.Exact (normed)

open Cert.MixReferenceIdeal Cert.MixReferenceIdeal.Gen in
/-- A flat table is a pair's. -/
theorem key_at (K : FVec Ideal S8x2x128x128 .f32) (h : S8x2x128x128.ShapeCasts Cert.MixIdeal.S16x128x128) (a : Fin 16) (n d : Fin 128) :
    (shapeCast Cert.MixIdeal.S16x128x128 K h : FVec Ideal Cert.MixIdeal.S16x128x128 .f32) (ix3 a n d) = K (ix4 ⟨a.val / 2, by omega⟩ ⟨a.val % 2, Nat.mod_lt _ (by decide)⟩ n d) := by
  pointwise
  rfl

open Cert.MixReferenceIdeal Cert.MixReferenceIdeal.Gen in
theorem vec128 (w : FVec Ideal S1x128 .f32) (k : Fin 128) : (shapeCast S128 w shapeCasts_S1x128_S128 : FVec Ideal S128 .f32) (ix1 k) = w (ix2 0 k) := by
  pointwise
  rfl

open Cert.MixReferenceIdeal Cert.MixReferenceIdeal.Gen in
theorem vec1024 (w : FVec Ideal S1x1024 .f32) (k : Fin 1024) : (shapeCast S1024 w shapeCasts_S1x1024_S1024 : FVec Ideal S1024 .f32) (ix1 k) = w (ix2 0 k) := by
  pointwise
  rfl

variable (m : (ℓ : Loc Cert.MixIdeal.nD Cert.MixIdeal.τ Cert.MixIdeal.sig) → Buf (Elt Ideal) ℓ)
  (m' : (ℓ : Loc Cert.MixReferenceIdeal.nD Cert.MixReferenceIdeal.τ Cert.MixReferenceIdeal.sig) → Buf (Elt Ideal) ℓ) (c : Dev Cert.MixIdeal.nD)

/-- The two launches have the same arguments. -/
def SameArgs : Prop :=
  m' ((c : Thread Cert.MixReferenceIdeal.nD Cert.MixReferenceIdeal.τ).loc Cert.MixReferenceIdeal.main_arg0) = m ((c : Thread Cert.MixIdeal.nD Cert.MixIdeal.τ).loc Cert.MixIdeal.main_arg0)
  ∧ m' ((c : Thread Cert.MixReferenceIdeal.nD Cert.MixReferenceIdeal.τ).loc Cert.MixReferenceIdeal.main_arg1) = m ((c : Thread Cert.MixIdeal.nD Cert.MixIdeal.τ).loc Cert.MixIdeal.main_arg1)
  ∧ m' ((c : Thread Cert.MixReferenceIdeal.nD Cert.MixReferenceIdeal.τ).loc Cert.MixReferenceIdeal.main_arg2) = m ((c : Thread Cert.MixIdeal.nD Cert.MixIdeal.τ).loc Cert.MixIdeal.main_arg2)
  ∧ m' ((c : Thread Cert.MixReferenceIdeal.nD Cert.MixReferenceIdeal.τ).loc Cert.MixReferenceIdeal.main_arg3) = m ((c : Thread Cert.MixIdeal.nD Cert.MixIdeal.τ).loc Cert.MixIdeal.main_arg3)
  ∧ m' ((c : Thread Cert.MixReferenceIdeal.nD Cert.MixReferenceIdeal.τ).loc Cert.MixReferenceIdeal.main_arg4) = m ((c : Thread Cert.MixIdeal.nD Cert.MixIdeal.τ).loc Cert.MixIdeal.main_arg4)
  ∧ m' ((c : Thread Cert.MixReferenceIdeal.nD Cert.MixReferenceIdeal.τ).loc Cert.MixReferenceIdeal.main_arg5) = m ((c : Thread Cert.MixIdeal.nD Cert.MixIdeal.τ).loc Cert.MixIdeal.main_arg5)
  ∧ m' ((c : Thread Cert.MixReferenceIdeal.nD Cert.MixReferenceIdeal.τ).loc Cert.MixReferenceIdeal.main_arg6) = m ((c : Thread Cert.MixIdeal.nD Cert.MixIdeal.τ).loc Cert.MixIdeal.main_arg6)
  ∧ m' ((c : Thread Cert.MixReferenceIdeal.nD Cert.MixReferenceIdeal.τ).loc Cert.MixReferenceIdeal.main_arg7) = m ((c : Thread Cert.MixIdeal.nD Cert.MixIdeal.τ).loc Cert.MixIdeal.main_arg7)
  ∧ m' ((c : Thread Cert.MixReferenceIdeal.nD Cert.MixReferenceIdeal.τ).loc Cert.MixReferenceIdeal.main_arg8) = m ((c : Thread Cert.MixIdeal.nD Cert.MixIdeal.τ).loc Cert.MixIdeal.main_arg8)
  ∧ m' ((c : Thread Cert.MixReferenceIdeal.nD Cert.MixReferenceIdeal.τ).loc Cert.MixReferenceIdeal.main_arg9) = m ((c : Thread Cert.MixIdeal.nD Cert.MixIdeal.τ).loc Cert.MixIdeal.main_arg9)

variable {m m' c}

theorem H_eq (h : SameArgs m m' c) (t : Fin 16384) (d : Fin 1024) : H0 m' c (ix2 t d) = HH m c t d := by
  obtain ⟨e0, e1, e2, e3, e4, e5, e6, e7, e8, e9⟩ := h
  unfold H0 HH A0 A1 A2 A3 A4 A5 A6
  rw [V_main_v0, V_main_v5, Cert.MixIdeal.Gen.V_main_arg1, Cert.MixIdeal.Gen.V_main_arg2, Cert.MixIdeal.Gen.V_main_arg3, Cert.MixIdeal.Gen.V_main_arg4, Cert.MixIdeal.Gen.V_main_arg5, e0, e1, e2, e3, e4, e5, e6]
  refine (hR_at _ _ _ _ t d).trans ?_
  rw [funext fun j => gateT_at _ _ _ _ t j, funext fun q => vec128 _ q]
  rfl

theorem N_eq (h : SameArgs m m' c) (t : Fin 16384) (d : Fin 1024) : N0 m' c (ix2 t d) = NN m c t d := by
  have hH := H_eq h t
  obtain ⟨e0, e1, e2, e3, e4, e5, e6, e7, e8, e9⟩ := h
  unfold N0 NN A7
  rw [nT_at, funext hH, funext fun q => vec1024 _ q, Cert.MixIdeal.Gen.V_main_arg7, e7]

theorem A9_at (K : FVec Ideal Cert.MixReferenceIdeal.S1x8x2x128x128 .f32) (hK : m ((c : Thread Cert.MixIdeal.nD Cert.MixIdeal.τ).loc Cert.MixIdeal.main_arg9) = K) (a : Fin 16) (n d : Fin 128) : A9 m c (ix3 a n d)
    = (shapeCast Cert.MixReferenceIdeal.S8x2x128x128 K Cert.MixReferenceIdeal.Gen.shapeCasts_S1x8x2x128x128_S8x2x128x128 : FVec Ideal Cert.MixReferenceIdeal.S8x2x128x128 .f32)
      (ix4 ⟨a.val / 2, by omega⟩ ⟨a.val % 2, Nat.mod_lt _ (by decide)⟩ n d) := by
  refine (congrFun (V_main_v3 m c) (ix3 a n d)).trans ?_
  rw [hK]
  exact key_at (shapeCast Cert.MixReferenceIdeal.S8x2x128x128 K Cert.MixReferenceIdeal.Gen.shapeCasts_S1x8x2x128x128_S8x2x128x128) Cert.MixIdeal.Gen.shapeCasts_S8x2x128x128_S16x128x128 a n d

theorem A8_at (W : FVec Ideal Cert.MixReferenceIdeal.S1x1024x2048 .f32) (hW : m ((c : Thread Cert.MixIdeal.nD Cert.MixIdeal.τ).loc Cert.MixIdeal.main_arg8) = W) (k : Fin 1024) (n : Fin 2048) : A8 m c (ix2 k n)
    = (shapeCast Cert.MixReferenceIdeal.S1024x2048 W Cert.MixReferenceIdeal.Gen.shapeCasts_S1x1024x2048_S1024x2048 : FVec Ideal Cert.MixReferenceIdeal.S1024x2048 .f32) (ix2 k n) := by
  subst hW
  exact congrFun (V_main_v7 m c) (ix2 k n)

theorem S_eq (h : SameArgs m m' c) (a : Fin 16) (n : Fin 128) (t : Fin 16384) : S0 m' c (ix3 a n t) = SS m c a n t := by
  have hN := N_eq h t
  obtain ⟨-, -, -, -, -, -, -, -, e8, e9⟩ := h
  unfold S0 SS
  refine (sR_at _ _ _ a n t (fun d => ⟨128 * a.val + d.val, by omega⟩) (fun _ => rfl)).trans ?_
  refine Finset.sum_congr rfl fun d _ => congrArg₂ (· * ·) (A9_at _ e9.symm a n d).symm (Finset.sum_congr rfl fun k _ => congrArg₂ (· * ·) (hN k) (A8_at _ e8.symm k _).symm)

/-- The three results are equal. -/
theorem algebraic_mix : Cert.algebraic_MixIdeal_MixReferenceIdeal := by
  intro m ρ m' ρ' _ hargs
  refine ⟨fun c => RH m c, fun c => RN m c, fun c => RS m c, ?_, ?_⟩
  · refine (θ_run _ _ _).mono (fun r h c => ?_) (Cert.MixIdeal.Value.run_blocks (F := Ideal) m ρ)
    obtain ⟨h1, h2, h3, ha⟩ := h c
    exact ⟨h1.trans (final10 m c), h2.trans (final11 m c), h3.trans (final12 m c), ha⟩
  · refine (θ_run _ _ _).mono (fun r h c => ?_) (run_entry m' ρ')
    obtain ⟨h1, h2, h3, ha⟩ := h c
    have hs : SameArgs m m' c := hargs c
    refine ⟨h1.trans (funext fun i => ?_), h2.trans (funext fun i => ?_), h3.trans (funext fun i => ?_), ha⟩
    · rw [ValueIdx.eq_ix2 i]
      exact H_eq hs (i 0) (i 1)
    · rw [ValueIdx.eq_ix2 i]
      exact N_eq hs (i 0) (i 1)
    · rw [ValueIdx.eq_ix3 i]
      exact S_eq hs (i 0) (i 1) (i 2)

end Cert.Proof

end
-- ==== Proof.AttnVal.lean ====
/-
  Hand-written. One step of the attention's call over the extended reals, entry by entry: a block of scores, the running
  maximum, the running sums, and the heads' outputs.
-/
module

public import proofs.«01_k».proof.Proof.Gen.AttnIdeal.Value
public import proofs.«01_k».proof.Proof.InprojVal

@[expose] public section

set_option maxRecDepth 8192

noncomputable section

namespace Cert.AttnIdeal.Exact

open Cert.AttnIdeal Cert.AttnIdeal.Gen
open Idealize.ShloMosaic hiding ix1 ix2 ix3 ix4
open Idealize.ShloMosaic.ValueIdx
open Idealize.ShloMosaic.TcCoe

/-- A key's lane among 128. -/
def lane {n : Nat} (k : Fin n) : Fin 128 := ⟨k.val % 128, Nat.mod_lt _ (by decide)⟩

/-- A query row's score with a key row. -/
def score (q k : Fin 256 → EReal) : EReal := ∑ d : Fin 256, q d * k d

/-- The running maximum after a block of scores. -/
def newMax (μ : EReal) (s : Fin 2048 → EReal) : EReal := max μ (Finset.univ.fold max (Ideal.ofBits .f32 0xFF800000#32) s)

/-- The running sum after a block: the old one scaled, and the block's weights times the values. -/
def newAcc (μ : Fin 128 → EReal) (s : Fin 2048 → EReal) (l : Fin 128) (a : EReal) (v : Fin 2048 → EReal) : EReal :=
  Ideal.exp2 (μ l - newMax (μ l) s) * a + ∑ k : Fin 2048, Ideal.exp2 (s k - newMax (μ (lane k)) s) * v k

theorem pay10_at (x : FVec Ideal S2048x256 .bf16) (q : FVec Ideal S1x512x256 .bf16) (r : Fin 512) (k : Fin 2048) :
    k0_pay10 (F := Ideal) x q (ix2 r k) = score (fun d => q (ix3 0 r d)) (fun d => x (ix2 k d)) := by
  unfold k0_pay10 k0_pay8 score
  pointwise
  rfl

theorem pay16_at (s : FVec Ideal S512x2048 .f32) (μ : FVec Ideal S512x128 .f32) (r : Fin 512) (l : Fin 128) :
    k0_pay16 (F := Ideal) s μ (ix2 r l) = newMax (μ (ix2 r l)) (fun k => s (ix2 r k)) := by
  unfold k0_pay16 newMax
  pointwise
  rfl

/-- Sixteen copies side by side, and two. -/
def wide (M : FVec Ideal S512x128 .f32) : FVec Ideal S512x2048 .f32 :=
  concatenate S512x2048 1 [⟨S512x128, M⟩, ⟨S512x128, M⟩, ⟨S512x128, M⟩, ⟨S512x128, M⟩, ⟨S512x128, M⟩, ⟨S512x128, M⟩, ⟨S512x128, M⟩, ⟨S512x128, M⟩, ⟨S512x128, M⟩, ⟨S512x128, M⟩, ⟨S512x128, M⟩,
    ⟨S512x128, M⟩, ⟨S512x128, M⟩, ⟨S512x128, M⟩, ⟨S512x128, M⟩, ⟨S512x128, M⟩] concatenates_S512x128_S512x128_S512x128_S512x128_S512x128_S512x128_S512x128_S512x128_S512x128_S512x128_S512x128_S512x128_S512x128_S512x128_S512x128_S512x128_S512x2048_d1

def twice (M : FVec Ideal S512x128 .f32) : FVec Ideal S512x256 .f32 :=
  concatenate S512x256 1 [⟨S512x128, M⟩, ⟨S512x128, M⟩] concatenates_S512x128_S512x128_S512x256_d1

theorem wide_at (M : FVec Ideal S512x128 .f32) (r : Fin 512) (k : Fin 2048) : wide M (ix2 r k) = M (ix2 r (lane k)) :=
  concatenate_replicate_apply (1 : Fin S512x2048.rank) 16 M _ rfl (ix2 r k) (ix2 r (lane k)) rfl (fun b hb => by
    match b with
    | ⟨0, _⟩ => rfl
    | ⟨1, _⟩ => exact absurd rfl hb)

theorem twice_at (M : FVec Ideal S512x128 .f32) (r : Fin 512) (d : Fin 256) : twice M (ix2 r d) = M (ix2 r (lane d)) :=
  concatenate_replicate_apply (1 : Fin S512x256.rank) 2 M _ rfl (ix2 r d) (ix2 r (lane d)) rfl (fun b hb => by
    match b with
    | ⟨0, _⟩ => rfl
    | ⟨1, _⟩ => exact absurd rfl hb)

/-- The weights of a block times its values. -/
def weighted (v : FVec Ideal S2048x256 .bf16) (s W : FVec Ideal S512x2048 .f32) : FVec Ideal S512x256 .f32 :=
  matmul dot_S512x2048_S2048x256_S512x256_1_0_0_1_n_n none (exp2 (truncf .bf16 (subf s W) bitsLt_bf16_f32)) v (constant S512x256 .f32 0x00000000#32)

theorem weighted_at (v : FVec Ideal S2048x256 .bf16) (s W : FVec Ideal S512x2048 .f32) (r : Fin 512) (d : Fin 256) :
    weighted v s W (ix2 r d) = ∑ k : Fin 2048, Ideal.exp2 (s (ix2 r k) - W (ix2 r k)) * v (ix2 k d) := by
  unfold weighted
  pointwise
  rfl

theorem pay22_at (v : FVec Ideal S2048x256 .bf16) (s : FVec Ideal S512x2048 .f32) (μ : FVec Ideal S512x128 .f32) (r : Fin 512) (d : Fin 256) :
    k0_pay22 (F := Ideal) v s μ (ix2 r d) = ∑ k : Fin 2048, Ideal.exp2 (s (ix2 r k) - newMax (μ (ix2 r (lane k))) (fun k => s (ix2 r k))) * v (ix2 k d) := by
  refine Eq.trans (b := weighted v s (wide (k0_pay16 s μ)) (ix2 r d)) rfl ?_
  rw [weighted_at]
  simp only [wide_at, pay16_at]

theorem pay27_at (al : FVec Ideal S512x128 .f32) (pv a : FVec Ideal S512x256 .f32) (r : Fin 512) (d : Fin 256) :
    k0_pay27 (F := Ideal) al pv a (ix2 r d) = al (ix2 r (lane d)) * a (ix2 r d) + pv (ix2 r d) := by
  refine Eq.trans (b := (shapeCast S512x256 (addf (mulf (twice al) a) pv) shapeCasts_S512x256_S512x256 : FVec Ideal S512x256 .f32) (ix2 r d)) rfl ?_
  pointwise
  exact congrArg (· * a (ix2 r d) + pv (ix2 r d)) (twice_at al r d)

/-- A head's sums after a block. -/
def sums (v : FVec Ideal S2048x256 .bf16) (s : FVec Ideal S512x2048 .f32) (μ : FVec Ideal S512x128 .f32) (a : FVec Ideal S512x256 .f32) : FVec Ideal S512x256 .f32 :=
  k0_pay27 (k0_pay19 s μ) (k0_pay22 v s μ) a

theorem sums_at (v : FVec Ideal S2048x256 .bf16) (s : FVec Ideal S512x2048 .f32) (μ : FVec Ideal S512x128 .f32) (a : FVec Ideal S512x256 .f32) (r : Fin 512) (d : Fin 256) :
    sums v s μ a (ix2 r d) = newAcc (fun l => μ (ix2 r l)) (fun k => s (ix2 r k)) (lane d) (a (ix2 r d)) (fun k => v (ix2 k d)) := by
  unfold sums newAcc
  rw [pay27_at, pay22_at]
  refine congrArg₂ (· + ·) (congrArg (· * a (ix2 r d)) ?_) rfl
  refine Eq.trans (b := Ideal.exp2 (μ (ix2 r (lane d)) - k0_pay16 (F := Ideal) s μ (ix2 r (lane d)))) rfl ?_
  rw [pay16_at]

theorem pay2_at (a : FVec Ideal S512x128 .f32) (l : FVec Ideal S512x1 .f32) (w : FVec Ideal S1x128x128 .bf16) (r : Fin 512) (v : Fin 128) :
    k0_pay2 (F := Ideal) a l w (ix2 r v) = ∑ c : Fin 128, Ideal.div (a (ix2 r c)) (l (ix2 r 0)) * w (ix3 0 c v) := by
  unfold k0_pay2
  pointwise
  rfl

theorem pay1_at (o0 o1 o2 : FVec Ideal S512x128 .f32) (a : FVec Ideal S512x128 .bf16) (w : FVec Ideal S1x128x128 .bf16) (o : Fin 4 → FVec Ideal S512x128 .f32)
    (h0 : o0 = o 0) (h1 : o1 = o 1) (h2 : o2 = o 2)
    (h3 : (matmul dot_S512x128_S128x128_S512x128_1_0_0_1_n_n none a (shapeCast S128x128 w shapeCasts_S1x128x128_S128x128) (constant S512x128 .f32 0x00000000#32) : FVec Ideal S512x128 .f32) = o 3) (r j : Fin 512) :
    k0_pay1 (F := Ideal) o0 o1 o2 a w (ix2 r j) = o ⟨j.val / 128, by omega⟩ (ix2 r (lane j)) := by
  subst h0 h1 h2
  unfold k0_pay1
  rw [h3]
  exact concatenate_ofFn_apply (1 : Fin S512x512.rank) (N := 4) o _ rfl 128 rfl (ix2 r j) ⟨j.val / 128, by omega⟩ rfl (ix2 r (lane j)) rfl (fun b hb => by
    match b with
    | ⟨0, _⟩ => rfl
    | ⟨1, _⟩ => exact absurd rfl hb)

end Cert.AttnIdeal.Exact

end
-- ==== Proof.AttnRun.lean ====
/-
  Hand-written. What the attention's body leaves at a point: the running maxima and sums of four heads' rows, and the heads'
  outputs side by side.
-/
module

public import Idealize.ShloMosaic.Lib.WritesUnit
public import Idealize.ShloMosaic.Lib.WholeRead
public import proofs.«01_k».proof.Proof.AttnVal

@[expose] public section

set_option maxRecDepth 8192

noncomputable section

namespace Cert.AttnIdeal.Exact

open Cert.AttnIdeal Cert.AttnIdeal.Gen
open Idealize.ShloMosaic hiding ix1 ix2 ix3 ix4
open Idealize.ShloMosaic.ValueIdx
open Idealize.ShloMosaic.TcCoe

/-- A row's head and its row in the head's block. -/
def hd (R : Fin 2048) : Fin 4 := ⟨R.val / 512, by omega⟩
def rw' (R : Fin 2048) : Fin 512 := ⟨R.val % 512, Nat.mod_lt _ (by decide)⟩

section Four

variable {sig' : RefSig} {κ : Kind} {sp : Space} {e : EltTy} {n : Nat}

/-- Four blocks of rows written one after another over anything. -/
theorem four_rows (v : View sig' κ sp (⟨2, ![2048, n]⟩ : Shape) e) (f : v.ty.Contents (Elt Ideal)) (E : Fin 2048 → Fin n → Elt Ideal e)
    (w : Fin 4 → (⟨2, ![512, n]⟩ : Shape).Idx → Elt Ideal e) (L : List (View.Piece (Elt Ideal) (⟨2, ![2048, n]⟩ : Shape) e))
    (i0 i1 i2 i3) (h : ∀ (q : Fin 4) (r : Fin 512) (l : Fin n), w q (ix2 r l) = E ⟨512 * q.val + r.val, by omega⟩ l) (R : Fin 2048) (l : Fin n) :
    v.read (Elt Ideal) (v.writes (Elt Ideal) f (⟨Rect.unit (s := ⟨2, ![2048, n]⟩) ![1536, 0] ![512, n] i3, w 3⟩ :: ⟨Rect.unit (s := ⟨2, ![2048, n]⟩) ![1024, 0] ![512, n] i2, w 2⟩
      :: ⟨Rect.unit (s := ⟨2, ![2048, n]⟩) ![512, 0] ![512, n] i1, w 1⟩ :: ⟨Rect.unit (s := ⟨2, ![2048, n]⟩) ![0, 0] ![512, n] i0, w 0⟩ :: L)) (ix2 R l) = E R l := by
  have key : ∀ (q : Fin 4) (hq : R.val / 512 = q.val), w q (ix2 (rw' R) l) = E R l := fun q hq => by
    rw [h q (rw' R) l]
    congr 1
    apply Fin.ext
    show 512 * q.val + R.val % 512 = R.val
    omega
  have hR := R.isLt
  by_cases h3 : 1536 ≤ R.val
  · refine (View.read_writes_cons_rows_of_mem v f i3 (w 3) _ (ix2 R l) (ix2 (rw' R) l) (o := 1536) rfl ?_ rfl).trans (key 3 ?_)
    · show R.val = 1536 + R.val % 512
      omega
    · show R.val / 512 = 3
      omega
  refine (View.read_writes_cons_rows_of_not_mem v f i3 (w 3) _ (ix2 R l) (o := 1536) (W := 512) rfl rfl (Or.inl (by show R.val < 1536; omega))).trans ?_
  by_cases h2 : 1024 ≤ R.val
  · refine (View.read_writes_cons_rows_of_mem v f i2 (w 2) _ (ix2 R l) (ix2 (rw' R) l) (o := 1024) rfl ?_ rfl).trans (key 2 ?_)
    · show R.val = 1024 + R.val % 512
      omega
    · show R.val / 512 = 2
      omega
  refine (View.read_writes_cons_rows_of_not_mem v f i2 (w 2) _ (ix2 R l) (o := 1024) (W := 512) rfl rfl (Or.inl (by show R.val < 1024; omega))).trans ?_
  by_cases h1 : 512 ≤ R.val
  · refine (View.read_writes_cons_rows_of_mem v f i1 (w 1) _ (ix2 R l) (ix2 (rw' R) l) (o := 512) rfl ?_ rfl).trans (key 1 ?_)
    · show R.val = 512 + R.val % 512
      omega
    · show R.val / 512 = 1
      omega
  refine (View.read_writes_cons_rows_of_not_mem v f i1 (w 1) _ (ix2 R l) (o := 512) (W := 512) rfl rfl (Or.inl (by show R.val < 512; omega))).trans ?_
  refine (View.read_writes_cons_rows_of_mem v f i0 (w 0) _ (ix2 R l) (ix2 (rw' R) l) (o := 0) rfl ?_ rfl).trans (key 0 ?_)
  · show R.val = 0 + R.val % 512
    omega
  · show R.val / 512 = 0
    omega

/-- Rows that the newest block does not hold are read from the ones before. -/
theorem skip_rows (v : View sig' κ sp (⟨2, ![2048, n]⟩ : Shape) e) (o p : Nat) (ho : o + 512 ≤ 2048) (hp : p + 512 ≤ 2048) (hop : o < p) (io ip) (w : (⟨2, ![512, n]⟩ : Shape).Idx → Elt Ideal e)
    (L : List (View.Piece (Elt Ideal) (⟨2, ![2048, n]⟩ : Shape) e)) (h5 : o + 512 ≤ p) :
    v.readCov (⟨Rect.unit (s := ⟨2, ![2048, n]⟩) ![o, 0] ![512, n] io, w⟩ :: L) (Rect.unit (s := ⟨2, ![2048, n]⟩) ![p, 0] ![512, n] ip).toLoadRect
      = v.readCov L (Rect.unit (s := ⟨2, ![2048, n]⟩) ![p, 0] ![512, n] ip).toLoadRect := by
  funext j
  refine View.read_writes_cons_rows_of_not_mem v v.junk io w L _ (o := o) (W := 512) rfl rfl (Or.inr ?_)
  show o + 512 ≤ p + 1 * (j 0).val
  omega

/-- Any rows of a buffer filled whole. -/
theorem whole_rows (v : View sig' κ sp (⟨2, ![2048, n]⟩ : Shape) e) (w : (⟨2, ![2048, n]⟩ : Shape).Idx → Elt Ideal e) (i) (B : LoadRect (⟨2, ![2048, n]⟩ : Shape)) (j : B.shape.Idx) :
    v.readCov [⟨Rect.unit (s := ⟨2, ![2048, n]⟩) ![0, 0] ![2048, n] i, w⟩] B j = w (B.idx j) :=
  View.read_writes_cons_rows_of_mem v v.junk i w [] (B.idx j) (B.idx j) (o := 0) rfl (Nat.zero_add _).symm rfl

end Four

/-- The scores of row `R` of the four heads' query rows with a block of keys. -/
def scores (x0 : FVec Ideal S4x512x256 .bf16) (x1 : FVec Ideal S2048x256 .bf16) (R : Fin 2048) (k : Fin 2048) : EReal :=
  score (fun d => x0 (ix3 (hd R) (rw' R) d)) (fun d => x1 (ix2 k d))

/-- The maxima and the sums after a block, from those before. -/
def stepM (x0 : FVec Ideal S4x512x256 .bf16) (x1 : FVec Ideal S2048x256 .bf16) (m : Fin 2048 → Fin 128 → EReal) (R : Fin 2048) (l : Fin 128) : EReal :=
  newMax (m R l) (scores x0 x1 R)

def stepA (x0 : FVec Ideal S4x512x256 .bf16) (x1 x2 : FVec Ideal S2048x256 .bf16) (m : Fin 2048 → Fin 128 → EReal) (a : Fin 2048 → Fin 256 → EReal) (R : Fin 2048) (d : Fin 256) : EReal :=
  newAcc (m R) (scores x0 x1 R) (lane d) (a R d) (fun k => x2 (ix2 k d))

theorem hd_row (q : Fin 4) (r : Fin 512) (h : 512 * q.val + r.val < 2048) : hd ⟨512 * q.val + r.val, h⟩ = q :=
  Fin.ext (show (512 * q.val + r.val) / 512 = q.val by omega)

theorem rw_row (q : Fin 4) (r : Fin 512) (h : 512 * q.val + r.val < 2048) : rw' ⟨512 * q.val + r.val, h⟩ = r :=
  Fin.ext (show (512 * q.val + r.val) % 512 = r.val by omega)

theorem scores_row (x0 : FVec Ideal S4x512x256 .bf16) (x1 : FVec Ideal S2048x256 .bf16) (q : Fin 4) (r : Fin 512) (h : 512 * q.val + r.val < 2048) :
    scores x0 x1 ⟨512 * q.val + r.val, h⟩ = fun k => score (fun d => x0 (ix3 q r d)) (fun d => x1 (ix2 k d)) := by
  unfold scores
  rw [hd_row, rw_row]

theorem pay28_at (M : FVec Ideal S512x128 .f32) (r : Fin 512) (l : Fin 128) : k0_pay28 (F := Ideal) M (ix2 r l) = M (ix2 r l) := by
  unfold k0_pay28
  pointwise

theorem pay9_at (x : FVec Ideal S2048x256 .bf16) (k : Fin 2048) (d : Fin 256) : k0_pay9 (F := Ideal) x (ix2 k d) = x (ix2 k d) := by
  unfold k0_pay9
  pointwise

theorem inb3 {n a : Nat} (q : Fin 4) (ha : a = 512) : ∀ b : Fin 3, (![q.val, 0, 0] : Fin 3 → Nat) b + (![1, a, n] : Fin 3 → Nat) b ≤ (![4, a, n] : Fin 3 → Nat) b := fun b => by
  match b with
  | ⟨0, _⟩ => exact q.isLt
  | ⟨1, _⟩ => exact (Nat.zero_add _).le
  | ⟨2, _⟩ => exact (Nat.zero_add _).le

theorem inb2 {n : Nat} (q : Fin 4) : ∀ b : Fin 2, (![512 * q.val, 0] : Fin 2 → Nat) b + (![512, n] : Fin 2 → Nat) b ≤ (![2048, n] : Fin 2 → Nat) b := fun b => by
  match b with
  | ⟨0, _⟩ => show 512 * q.val + 512 ≤ 2048; omega
  | ⟨1, _⟩ => exact (Nat.zero_add _).le

/-- A head's rows of the queries, as the body reads them. -/
def headQ (arg3 : Memref sig .tc .vmem S4x512x256 .bf16) (harg3 : arg3.IsWhole) (x0 : FVec Ideal S4x512x256 .bf16) (q : Fin 4) : FVec Ideal S1x512x256 .bf16 :=
  View.readAt (Elt Ideal) arg3.view (Rect.unit (s := S4x512x256) ![q.val, 0, 0] S1x512x256.size (inb3 q rfl)).toLoadRect (harg3.unread x0)

theorem headQ_at (arg3 : Memref sig .tc .vmem S4x512x256 .bf16) (harg3 : arg3.IsWhole) (x0 : FVec Ideal S4x512x256 .bf16) (q : Fin 4) (r : Fin 512) (d : Fin 256) :
    headQ arg3 harg3 x0 q (ix3 0 r d) = x0 (ix3 q r d) := by
  unfold headQ
  refine (Memref.IsWhole.readAt_unread (Val := Elt Ideal) harg3 x0 _ _).trans ?_
  refine congrArg x0 (funext fun b => Fin.ext ?_)
  match b with
  | ⟨0, _⟩ => exact Nat.add_zero _
  | ⟨1, _⟩ => show 0 + 1 * r.val = r.val; omega
  | ⟨2, _⟩ => show 0 + 1 * d.val = d.val; omega

/-- A whole buffer of keys or values, as the body reads it. -/
def wholeX (arg4 : Memref sig .tc .vmem S2048x256 .bf16) (harg4 : arg4.IsWhole) (x1 : FVec Ideal S2048x256 .bf16) : FVec Ideal S2048x256 .bf16 :=
  View.readAt (Elt Ideal) arg4.view (Rect.unit (s := S2048x256) ![0, 0] S2048x256.size (fun b => by match b with | ⟨0, _⟩ => exact le_refl 2048 | ⟨1, _⟩ => exact le_refl 256)).toLoadRect (harg4.unread x1)

theorem wholeX_at (arg4 : Memref sig .tc .vmem S2048x256 .bf16) (harg4 : arg4.IsWhole) (x1 : FVec Ideal S2048x256 .bf16) (k : Fin 2048) (d : Fin 256) :
    wholeX arg4 harg4 x1 (ix2 k d) = x1 (ix2 k d) := by
  unfold wholeX
  refine (Memref.IsWhole.readAt_unread (Val := Elt Ideal) harg4 x1 _ _).trans ?_
  refine congrArg x1 (funext fun b => Fin.ext ?_)
  match b with
  | ⟨0, _⟩ => show 0 + 1 * k.val = k.val; omega
  | ⟨1, _⟩ => show 0 + 1 * d.val = d.val; omega

/-- A head's rows of a scratch carried between points. -/
theorem rows_at {n : Nat} (arg : Memref sig .tc .vmem (⟨2, ![2048, n]⟩ : Shape) .f32) (harg : arg.IsWhole) (x : FVec Ideal (⟨2, ![2048, n]⟩ : Shape) .f32) (q : Fin 4) (r : Fin 512) (l : Fin n) (h : 512 * q.val + r.val < 2048) :
    View.readAt (Elt Ideal) arg.view (Rect.unit (s := ⟨2, ![2048, n]⟩) ![512 * q.val, 0] ![512, n] (inb2 q)).toLoadRect (harg.unread x) (ix2 r l) = x (ix2 ⟨512 * q.val + r.val, h⟩ l) := by
  refine (Memref.IsWhole.readAt_unread (Val := Elt Ideal) harg x _ _).trans ?_
  refine congrArg x (funext fun b => Fin.ext ?_)
  match b with
  | ⟨0, _⟩ => show 512 * q.val + 1 * r.val = 512 * q.val + r.val; omega
  | ⟨1, _⟩ => show 0 + 1 * l.val = l.val; omega

/-- A head's new maxima and sums from what the body reads. -/
def partM (k : FVec Ideal S2048x256 .bf16) (q : FVec Ideal S1x512x256 .bf16) (μ : FVec Ideal S512x128 .f32) : FVec Ideal S512x128 .f32 := k0_pay28 (k0_pay16 (k0_pay10 k q) μ)

def partA (k v : FVec Ideal S2048x256 .bf16) (q : FVec Ideal S1x512x256 .bf16) (μ : FVec Ideal S512x128 .f32) (a : FVec Ideal S512x256 .f32) : FVec Ideal S512x256 .f32 :=
  sums (k0_pay9 v) (k0_pay10 k q) μ a

theorem partM_at (arg3 : Memref sig .tc .vmem S4x512x256 .bf16) (harg3 : arg3.IsWhole) (arg4 : Memref sig .tc .vmem S2048x256 .bf16) (harg4 : arg4.IsWhole) (x0 : FVec Ideal S4x512x256 .bf16) (x1 : FVec Ideal S2048x256 .bf16)
    (q : Fin 4) (μ : FVec Ideal S512x128 .f32) (m : Fin 2048 → Fin 128 → EReal) (r : Fin 512) (l : Fin 128) (h : 512 * q.val + r.val < 2048) (hμ : μ (ix2 r l) = m ⟨512 * q.val + r.val, h⟩ l) :
    partM (wholeX arg4 harg4 x1) (headQ arg3 harg3 x0 q) μ (ix2 r l) = stepM x0 x1 m ⟨512 * q.val + r.val, h⟩ l := by
  unfold partM stepM
  rw [pay28_at, pay16_at, scores_row, hμ]
  simp only [pay10_at, headQ_at, wholeX_at]

theorem partA_at (arg3 : Memref sig .tc .vmem S4x512x256 .bf16) (harg3 : arg3.IsWhole) (arg4 : Memref sig .tc .vmem S2048x256 .bf16) (harg4 : arg4.IsWhole) (arg5 : Memref sig .tc .vmem S2048x256 .bf16) (harg5 : arg5.IsWhole)
    (x0 : FVec Ideal S4x512x256 .bf16) (x1 x2 : FVec Ideal S2048x256 .bf16) (q : Fin 4) (μ : FVec Ideal S512x128 .f32) (a : FVec Ideal S512x256 .f32) (m : Fin 2048 → Fin 128 → EReal) (A : Fin 2048 → Fin 256 → EReal)
    (r : Fin 512) (d : Fin 256) (h : 512 * q.val + r.val < 2048) (hμ : ∀ l, μ (ix2 r l) = m ⟨512 * q.val + r.val, h⟩ l) (ha : a (ix2 r d) = A ⟨512 * q.val + r.val, h⟩ d) :
    partA (wholeX arg4 harg4 x1) (wholeX arg5 harg5 x2) (headQ arg3 harg3 x0 q) μ a (ix2 r d) = stepA x0 x1 x2 m A ⟨512 * q.val + r.val, h⟩ d := by
  unfold partA stepA
  rw [sums_at, scores_row, ha]
  simp only [pay10_at, headQ_at, wholeX_at, pay9_at, hμ]

/-- A head's new maxima and sums over what the point before left. -/
def maxW (arg3 : Memref sig .tc .vmem S4x512x256 .bf16) (harg3 : arg3.IsWhole) (arg4 : Memref sig .tc .vmem S2048x256 .bf16) (harg4 : arg4.IsWhole) (arg8 : Memref sig .tc .vmem S2048x128 .f32) (harg8 : arg8.IsWhole)
    (x0 : FVec Ideal S4x512x256 .bf16) (x1 : FVec Ideal S2048x256 .bf16) (xs0 : FVec Ideal S2048x128 .f32) (q : Fin 4) : FVec Ideal S512x128 .f32 :=
  partM (wholeX arg4 harg4 x1) (headQ arg3 harg3 x0 q) (View.readAt (Elt Ideal) arg8.view (Rect.unit (s := S2048x128) ![512 * q.val, 0] ![512, 128] (inb2 q)).toLoadRect (harg8.unread xs0))

def accW (arg3 : Memref sig .tc .vmem S4x512x256 .bf16) (harg3 : arg3.IsWhole) (arg4 : Memref sig .tc .vmem S2048x256 .bf16) (harg4 : arg4.IsWhole) (arg5 : Memref sig .tc .vmem S2048x256 .bf16) (harg5 : arg5.IsWhole)
    (arg8 : Memref sig .tc .vmem S2048x128 .f32) (harg8 : arg8.IsWhole) (arg9 : Memref sig .tc .vmem S2048x256 .f32) (harg9 : arg9.IsWhole)
    (x0 : FVec Ideal S4x512x256 .bf16) (x1 x2 : FVec Ideal S2048x256 .bf16) (xs0 : FVec Ideal S2048x128 .f32) (xs1 : FVec Ideal S2048x256 .f32) (q : Fin 4) : FVec Ideal S512x256 .f32 :=
  partA (wholeX arg4 harg4 x1) (wholeX arg5 harg5 x2) (headQ arg3 harg3 x0 q) (View.readAt (Elt Ideal) arg8.view (Rect.unit (s := S2048x128) ![512 * q.val, 0] ![512, 128] (inb2 q)).toLoadRect (harg8.unread xs0))
    (View.readAt (Elt Ideal) arg9.view (Rect.unit (s := S2048x256) ![512 * q.val, 0] ![512, 256] (inb2 q)).toLoadRect (harg9.unread xs1))

/-- The four heads' rows, newest first. -/
def blocks {n : Nat} (w : Fin 4 → FVec Ideal (⟨2, ![512, n]⟩ : Shape) .f32) : List (View.Piece (Elt Ideal) (⟨2, ![2048, n]⟩ : Shape) .f32) :=
  [⟨Rect.unit (s := ⟨2, ![2048, n]⟩) ![1536, 0] ![512, n] (inb2 3), w 3⟩, ⟨Rect.unit (s := ⟨2, ![2048, n]⟩) ![1024, 0] ![512, n] (inb2 2), w 2⟩,
    ⟨Rect.unit (s := ⟨2, ![2048, n]⟩) ![512, 0] ![512, n] (inb2 1), w 1⟩, ⟨Rect.unit (s := ⟨2, ![2048, n]⟩) ![0, 0] ![512, n] (inb2 0), w 0⟩]

theorem blocks_maxW (v : View sig .tc .vmem S2048x128 .f32) (f : v.ty.Contents (Elt Ideal)) (arg3 : Memref sig .tc .vmem S4x512x256 .bf16) (harg3 : arg3.IsWhole) (arg4 : Memref sig .tc .vmem S2048x256 .bf16) (harg4 : arg4.IsWhole) (arg8 : Memref sig .tc .vmem S2048x128 .f32) (harg8 : arg8.IsWhole)
    (x0 : FVec Ideal S4x512x256 .bf16) (x1 : FVec Ideal S2048x256 .bf16) (xs0 : FVec Ideal S2048x128 .f32) (R : Fin 2048) (l : Fin 128) :
    v.read (Elt Ideal) (v.writes (Elt Ideal) f (blocks (maxW arg3 harg3 arg4 harg4 arg8 harg8 x0 x1 xs0))) (ix2 R l) = stepM x0 x1 (fun R l => xs0 (ix2 R l)) R l :=
  four_rows (e := .f32) v f (stepM x0 x1 (fun R l => xs0 (ix2 R l))) (maxW arg3 harg3 arg4 harg4 arg8 harg8 x0 x1 xs0) [] _ _ _ _
    (fun q r l => partM_at arg3 harg3 arg4 harg4 x0 x1 q _ _ r l _ (rows_at arg8 harg8 xs0 q r l _)) R l

theorem blocks_accW (v : View sig .tc .vmem S2048x256 .f32) (f : v.ty.Contents (Elt Ideal)) (arg3 : Memref sig .tc .vmem S4x512x256 .bf16) (harg3 : arg3.IsWhole) (arg4 : Memref sig .tc .vmem S2048x256 .bf16) (harg4 : arg4.IsWhole) (arg5 : Memref sig .tc .vmem S2048x256 .bf16) (harg5 : arg5.IsWhole)
    (arg8 : Memref sig .tc .vmem S2048x128 .f32) (harg8 : arg8.IsWhole) (arg9 : Memref sig .tc .vmem S2048x256 .f32) (harg9 : arg9.IsWhole)
    (x0 : FVec Ideal S4x512x256 .bf16) (x1 x2 : FVec Ideal S2048x256 .bf16) (xs0 : FVec Ideal S2048x128 .f32) (xs1 : FVec Ideal S2048x256 .f32) (R : Fin 2048) (d : Fin 256) :
    v.read (Elt Ideal) (v.writes (Elt Ideal) f (blocks (accW arg3 harg3 arg4 harg4 arg5 harg5 arg8 harg8 arg9 harg9 x0 x1 x2 xs0 xs1))) (ix2 R d) = stepA x0 x1 x2 (fun R l => xs0 (ix2 R l)) (fun R d => xs1 (ix2 R d)) R d :=
  four_rows (e := .f32) v f (stepA x0 x1 x2 (fun R l => xs0 (ix2 R l)) (fun R d => xs1 (ix2 R d))) (accW arg3 harg3 arg4 harg4 arg5 harg5 arg8 harg8 arg9 harg9 x0 x1 x2 xs0 xs1) [] _ _ _ _
    (fun q r d => partA_at arg3 harg3 arg4 harg4 arg5 harg5 x0 x1 x2 q _ _ _ _ r d _ (fun l => rows_at arg8 harg8 xs0 q r l _) (rows_at arg9 harg9 xs1 q r d _)) R d

theorem sout_B_0 (c : Dev nD) (i : grid0.Coords) (arg3 : Memref sig .tc .vmem S4x512x256 .bf16) (harg3 : arg3.IsWhole) (arg4 : Memref sig .tc .vmem S2048x256 .bf16) (harg4 : arg4.IsWhole) (arg5 : Memref sig .tc .vmem S2048x256 .bf16) (harg5 : arg5.IsWhole)
    (arg6 : Memref sig .tc .vmem S4x128x128 .bf16) (harg6 : arg6.IsWhole) (arg7 : Memref sig .tc .vmem S512x512 .f32) (harg7 : arg7.IsWhole) (arg8 : Memref sig .tc .vmem S2048x128 .f32) (harg8 : arg8.IsWhole) (arg9 : Memref sig .tc .vmem S2048x256 .f32) (harg9 : arg9.IsWhole) (hc0 : ¬cond0_0 i) (hc1 : ¬cond0_1 i) (x0 : FVec Ideal S4x512x256 .bf16) (x1 x2 : FVec Ideal S2048x256 .bf16) (x3 : FVec Ideal S4x128x128 .bf16)
    (xs0 : FVec Ideal S2048x128 .f32) (xs1 : FVec Ideal S2048x256 .f32) (R : Fin 2048) (l : Fin 128) :
    sout0_B_0 (F := Ideal) c i arg3 harg3 arg4 harg4 arg5 harg5 arg6 harg6 arg7 harg7 arg8 harg8 arg9 harg9 hc0 hc1 x0 x1 x2 x3 xs0 xs1 (ix2 R l) = stepM x0 x1 (fun R l => xs0 (ix2 R l)) R l := by
  unfold sout0_B_0 kernelRun0_B
  exact blocks_maxW VS0_0 VS0_0.junk arg3 harg3 arg4 harg4 arg8 harg8 x0 x1 xs0 R l

theorem sout_B_1 (c : Dev nD) (i : grid0.Coords) (arg3 : Memref sig .tc .vmem S4x512x256 .bf16) (harg3 : arg3.IsWhole) (arg4 : Memref sig .tc .vmem S2048x256 .bf16) (harg4 : arg4.IsWhole) (arg5 : Memref sig .tc .vmem S2048x256 .bf16) (harg5 : arg5.IsWhole)
    (arg6 : Memref sig .tc .vmem S4x128x128 .bf16) (harg6 : arg6.IsWhole) (arg7 : Memref sig .tc .vmem S512x512 .f32) (harg7 : arg7.IsWhole) (arg8 : Memref sig .tc .vmem S2048x128 .f32) (harg8 : arg8.IsWhole) (arg9 : Memref sig .tc .vmem S2048x256 .f32) (harg9 : arg9.IsWhole) (hc0 : ¬cond0_0 i) (hc1 : ¬cond0_1 i) (x0 : FVec Ideal S4x512x256 .bf16) (x1 x2 : FVec Ideal S2048x256 .bf16) (x3 : FVec Ideal S4x128x128 .bf16)
    (xs0 : FVec Ideal S2048x128 .f32) (xs1 : FVec Ideal S2048x256 .f32) (R : Fin 2048) (d : Fin 256) :
    sout0_B_1 (F := Ideal) c i arg3 harg3 arg4 harg4 arg5 harg5 arg6 harg6 arg7 harg7 arg8 harg8 arg9 harg9 hc0 hc1 x0 x1 x2 x3 xs0 xs1 (ix2 R d) = stepA x0 x1 x2 (fun R l => xs0 (ix2 R l)) (fun R d => xs1 (ix2 R d)) R d := by
  unfold sout0_B_1 kernelRun0_B
  exact blocks_accW VS0_1 VS0_1.junk arg3 harg3 arg4 harg4 arg5 harg5 arg8 harg8 arg9 harg9 x0 x1 x2 xs0 xs1 R d

theorem sout_C_0 (c : Dev nD) (i : grid0.Coords) (arg3 : Memref sig .tc .vmem S4x512x256 .bf16) (harg3 : arg3.IsWhole) (arg4 : Memref sig .tc .vmem S2048x256 .bf16) (harg4 : arg4.IsWhole) (arg5 : Memref sig .tc .vmem S2048x256 .bf16) (harg5 : arg5.IsWhole)
    (arg6 : Memref sig .tc .vmem S4x128x128 .bf16) (harg6 : arg6.IsWhole) (arg7 : Memref sig .tc .vmem S512x512 .f32) (harg7 : arg7.IsWhole) (arg8 : Memref sig .tc .vmem S2048x128 .f32) (harg8 : arg8.IsWhole) (arg9 : Memref sig .tc .vmem S2048x256 .f32) (harg9 : arg9.IsWhole) (hc0 : ¬cond0_0 i) (hc1 : cond0_1 i) (x0 : FVec Ideal S4x512x256 .bf16) (x1 x2 : FVec Ideal S2048x256 .bf16) (x3 : FVec Ideal S4x128x128 .bf16)
    (xs0 : FVec Ideal S2048x128 .f32) (xs1 : FVec Ideal S2048x256 .f32) (R : Fin 2048) (l : Fin 128) :
    sout0_C_0 (F := Ideal) c i arg3 harg3 arg4 harg4 arg5 harg5 arg6 harg6 arg7 harg7 arg8 harg8 arg9 harg9 hc0 hc1 x0 x1 x2 x3 xs0 xs1 (ix2 R l) = stepM x0 x1 (fun R l => xs0 (ix2 R l)) R l := by
  unfold sout0_C_0 kernelRun0_C
  exact blocks_maxW VS0_0 VS0_0.junk arg3 harg3 arg4 harg4 arg8 harg8 x0 x1 xs0 R l

theorem sout_C_1 (c : Dev nD) (i : grid0.Coords) (arg3 : Memref sig .tc .vmem S4x512x256 .bf16) (harg3 : arg3.IsWhole) (arg4 : Memref sig .tc .vmem S2048x256 .bf16) (harg4 : arg4.IsWhole) (arg5 : Memref sig .tc .vmem S2048x256 .bf16) (harg5 : arg5.IsWhole)
    (arg6 : Memref sig .tc .vmem S4x128x128 .bf16) (harg6 : arg6.IsWhole) (arg7 : Memref sig .tc .vmem S512x512 .f32) (harg7 : arg7.IsWhole) (arg8 : Memref sig .tc .vmem S2048x128 .f32) (harg8 : arg8.IsWhole) (arg9 : Memref sig .tc .vmem S2048x256 .f32) (harg9 : arg9.IsWhole) (hc0 : ¬cond0_0 i) (hc1 : cond0_1 i) (x0 : FVec Ideal S4x512x256 .bf16) (x1 x2 : FVec Ideal S2048x256 .bf16) (x3 : FVec Ideal S4x128x128 .bf16)
    (xs0 : FVec Ideal S2048x128 .f32) (xs1 : FVec Ideal S2048x256 .f32) (R : Fin 2048) (d : Fin 256) :
    sout0_C_1 (F := Ideal) c i arg3 harg3 arg4 harg4 arg5 harg5 arg6 harg6 arg7 harg7 arg8 harg8 arg9 harg9 hc0 hc1 x0 x1 x2 x3 xs0 xs1 (ix2 R d) = stepA x0 x1 x2 (fun R l => xs0 (ix2 R l)) (fun R d => xs1 (ix2 R d)) R d := by
  unfold sout0_C_1 kernelRun0_C
  exact blocks_accW VS0_1 VS0_1.junk arg3 harg3 arg4 harg4 arg5 harg5 arg8 harg8 arg9 harg9 x0 x1 x2 xs0 xs1 R d

/-- A head's part of the up-projection, as the body reads it. -/
def headW (arg6 : Memref sig .tc .vmem S4x128x128 .bf16) (harg6 : arg6.IsWhole) (x3 : FVec Ideal S4x128x128 .bf16) (q : Fin 4) : FVec Ideal S1x128x128 .bf16 :=
  View.readAt (Elt Ideal) arg6.view (Rect.unit (s := S4x128x128) ![q.val, 0, 0] S1x128x128.size (fun b => by
    match b with
    | ⟨0, _⟩ => exact q.isLt
    | ⟨1, _⟩ => exact le_refl 128
    | ⟨2, _⟩ => exact le_refl 128)).toLoadRect (harg6.unread x3)

theorem headW_at (arg6 : Memref sig .tc .vmem S4x128x128 .bf16) (harg6 : arg6.IsWhole) (x3 : FVec Ideal S4x128x128 .bf16) (q : Fin 4) (a d : Fin 128) :
    headW arg6 harg6 x3 q (ix3 0 a d) = x3 (ix3 q a d) := by
  unfold headW
  refine (Memref.IsWhole.readAt_unread (Val := Elt Ideal) harg6 x3 _ _).trans ?_
  refine congrArg x3 (funext fun b => Fin.ext ?_)
  match b with
  | ⟨0, _⟩ => exact Nat.add_zero _
  | ⟨1, _⟩ => show 0 + 1 * a.val = a.val; omega
  | ⟨2, _⟩ => show 0 + 1 * d.val = d.val; omega

theorem inb2c {o n m : Nat} (q : Fin 4) (h : o + n ≤ m) : ∀ b : Fin 2, (![512 * q.val, o] : Fin 2 → Nat) b + (![512, n] : Fin 2 → Nat) b ≤ (![2048, m] : Fin 2 → Nat) b := fun b => by
  match b with
  | ⟨0, _⟩ => show 512 * q.val + 512 ≤ 2048; omega
  | ⟨1, _⟩ => exact h

theorem out_C (c : Dev nD) (i : grid0.Coords) (arg3 : Memref sig .tc .vmem S4x512x256 .bf16) (harg3 : arg3.IsWhole) (arg4 : Memref sig .tc .vmem S2048x256 .bf16) (harg4 : arg4.IsWhole) (arg5 : Memref sig .tc .vmem S2048x256 .bf16) (harg5 : arg5.IsWhole)
    (arg6 : Memref sig .tc .vmem S4x128x128 .bf16) (harg6 : arg6.IsWhole) (arg7 : Memref sig .tc .vmem S512x512 .f32) (harg7 : arg7.IsWhole) (arg8 : Memref sig .tc .vmem S2048x128 .f32) (harg8 : arg8.IsWhole) (arg9 : Memref sig .tc .vmem S2048x256 .f32) (harg9 : arg9.IsWhole) (hc0 : ¬cond0_0 i) (hc1 : cond0_1 i) (x0 : FVec Ideal S4x512x256 .bf16) (x1 x2 : FVec Ideal S2048x256 .bf16) (x3 : FVec Ideal S4x128x128 .bf16)
    (xs0 : FVec Ideal S2048x128 .f32) (xs1 : FVec Ideal S2048x256 .f32) (E : Fin 2048 → Fin 256 → EReal) (hE : E = stepA x0 x1 x2 (fun R l => xs0 (ix2 R l)) (fun R d => xs1 (ix2 R d))) (r j : Fin 512) :
    out0_C_4 (F := Ideal) c i arg3 harg3 arg4 harg4 arg5 harg5 arg6 harg6 arg7 harg7 arg8 harg8 arg9 harg9 hc0 hc1 x0 x1 x2 x3 xs0 xs1 (ix2 r j)
      = ∑ a : Fin 128, Ideal.div (E ⟨512 * (j.val / 128) + r.val, by omega⟩ ⟨a.val, by omega⟩) (E ⟨512 * (j.val / 128) + r.val, by omega⟩ 128) * x3 (ix3 ⟨j.val / 128, by omega⟩ a (lane j)) := by
  have hj := j.isLt
  unfold out0_C_4 kernelRun0_C
  refine (View.read_writes_cons_rows_of_mem (d := ![512, 512]) VO0_4 VO0_4.junk _ _ [] (ix2 r j) (ix2 r j) (o := 0) rfl (Nat.zero_add _).symm rfl).trans ?_
  refine (pay1_at _ _ _ _ _ (fun q => k0_pay2
    (arg9.view.readCov (blocks (accW arg3 harg3 arg4 harg4 arg5 harg5 arg8 harg8 arg9 harg9 x0 x1 x2 xs0 xs1)) (Rect.unit (s := S2048x256) ![512 * q.val, 0] S512x128.size (inb2c q (by decide))).toLoadRect)
    (arg9.view.readCov (blocks (accW arg3 harg3 arg4 harg4 arg5 harg5 arg8 harg8 arg9 harg9 x0 x1 x2 xs0 xs1)) (Rect.unit (s := S2048x256) ![512 * q.val, 128] S512x1.size (inb2c q (by decide))).toLoadRect)
    (headW arg6 harg6 x3 q)) rfl rfl rfl rfl r j).trans ?_
  refine (pay2_at _ _ _ r (lane j)).trans (Finset.sum_congr rfl fun a _ => congrArg₂ (· * ·) (congrArg₂ Ideal.div ?_ ?_) (headW_at arg6 harg6 x3 _ a (lane j)))
  · rw [hE]
    refine Eq.trans ?_ (blocks_accW arg9.view arg9.view.junk arg3 harg3 arg4 harg4 arg5 harg5 arg8 harg8 arg9 harg9 x0 x1 x2 xs0 xs1 _ _)
    refine congrArg (View.read (Elt Ideal) _ _) (funext fun b => Fin.ext ?_)
    match b with
    | ⟨0, _⟩ => show 512 * (j.val / 128) + 1 * r.val = 512 * (j.val / 128) + r.val; omega
    | ⟨1, _⟩ => show 0 + 1 * a.val = a.val; omega
  · rw [hE]
    refine Eq.trans ?_ (blocks_accW arg9.view arg9.view.junk arg3 harg3 arg4 harg4 arg5 harg5 arg8 harg8 arg9 harg9 x0 x1 x2 xs0 xs1 _ _)
    refine congrArg (View.read (Elt Ideal) _ _) (funext fun b => Fin.ext ?_)
    match b with
    | ⟨0, _⟩ => show 512 * (j.val / 128) + 1 * r.val = 512 * (j.val / 128) + r.val; omega
    | ⟨1, _⟩ => rfl

theorem inbW {n : Nat} : ∀ b : Fin 2, (![0, 0] : Fin 2 → Nat) b + (![2048, n] : Fin 2 → Nat) b ≤ (![2048, n] : Fin 2 → Nat) b := fun b => by
  match b with
  | ⟨0, _⟩ => exact le_refl 2048
  | ⟨1, _⟩ => exact (Nat.zero_add _).le

/-- A scratch filled whole. -/
def filled {n : Nat} (w : FVec Ideal (⟨2, ![2048, n]⟩ : Shape) .f32) : List (View.Piece (Elt Ideal) (⟨2, ![2048, n]⟩ : Shape) .f32) := [⟨Rect.unit (s := ⟨2, ![2048, n]⟩) ![0, 0] ![2048, n] inbW, w⟩]

theorem filled_rows {n : Nat} (v : View sig .tc .vmem (⟨2, ![2048, n]⟩ : Shape) .f32) (w : FVec Ideal (⟨2, ![2048, n]⟩ : Shape) .f32) (q : Fin 4) (r : Fin 512) (l : Fin n) (h : 512 * q.val + r.val < 2048) :
    v.readCov (filled w) (Rect.unit (s := ⟨2, ![2048, n]⟩) ![512 * q.val, 0] ![512, n] (inb2 q)).toLoadRect (ix2 r l) = w (ix2 ⟨512 * q.val + r.val, h⟩ l) := by
  refine (whole_rows v w _ _ _).trans (congrArg w (funext fun b => Fin.ext ?_))
  match b with
  | ⟨0, _⟩ => show 512 * q.val + 1 * r.val = 512 * q.val + r.val; omega
  | ⟨1, _⟩ => show 0 + 1 * l.val = l.val; omega

/-- A head's new maxima and sums over a scratch just filled. -/
def maxF (arg3 : Memref sig .tc .vmem S4x512x256 .bf16) (harg3 : arg3.IsWhole) (arg4 : Memref sig .tc .vmem S2048x256 .bf16) (harg4 : arg4.IsWhole) (arg8 : Memref sig .tc .vmem S2048x128 .f32)
    (x0 : FVec Ideal S4x512x256 .bf16) (x1 : FVec Ideal S2048x256 .bf16) (q : Fin 4) : FVec Ideal S512x128 .f32 :=
  partM (wholeX arg4 harg4 x1) (headQ arg3 harg3 x0 q) (arg8.view.readCov (filled k0_pay6) (Rect.unit (s := S2048x128) ![512 * q.val, 0] ![512, 128] (inb2 q)).toLoadRect)

def accF (L : List (View.Piece (Elt Ideal) S2048x256 .f32)) (arg3 : Memref sig .tc .vmem S4x512x256 .bf16) (harg3 : arg3.IsWhole) (arg4 : Memref sig .tc .vmem S2048x256 .bf16) (harg4 : arg4.IsWhole) (arg5 : Memref sig .tc .vmem S2048x256 .bf16) (harg5 : arg5.IsWhole)
    (arg8 : Memref sig .tc .vmem S2048x128 .f32) (arg9 : Memref sig .tc .vmem S2048x256 .f32) (x0 : FVec Ideal S4x512x256 .bf16) (x1 x2 : FVec Ideal S2048x256 .bf16) (q : Fin 4) : FVec Ideal S512x256 .f32 :=
  partA (wholeX arg4 harg4 x1) (wholeX arg5 harg5 x2) (headQ arg3 harg3 x0 q) (arg8.view.readCov (filled k0_pay6) (Rect.unit (s := S2048x128) ![512 * q.val, 0] ![512, 128] (inb2 q)).toLoadRect)
    (arg9.view.readCov L (Rect.unit (s := S2048x256) ![512 * q.val, 0] ![512, 256] (inb2 q)).toLoadRect)

theorem sout_A_0 (c : Dev nD) (i : grid0.Coords) (arg3 : Memref sig .tc .vmem S4x512x256 .bf16) (harg3 : arg3.IsWhole) (arg4 : Memref sig .tc .vmem S2048x256 .bf16) (harg4 : arg4.IsWhole) (arg5 : Memref sig .tc .vmem S2048x256 .bf16) (harg5 : arg5.IsWhole)
    (arg6 : Memref sig .tc .vmem S4x128x128 .bf16) (harg6 : arg6.IsWhole) (arg7 : Memref sig .tc .vmem S512x512 .f32) (harg7 : arg7.IsWhole) (arg8 : Memref sig .tc .vmem S2048x128 .f32) (harg8 : arg8.IsWhole) (arg9 : Memref sig .tc .vmem S2048x256 .f32) (harg9 : arg9.IsWhole) (hc0 : cond0_0 i) (hc1 : ¬cond0_1 i) (x0 : FVec Ideal S4x512x256 .bf16) (x1 x2 : FVec Ideal S2048x256 .bf16) (x3 : FVec Ideal S4x128x128 .bf16) (R : Fin 2048) (l : Fin 128) :
    sout0_A_0 (F := Ideal) c i arg3 harg3 arg4 harg4 arg5 harg5 arg6 harg6 arg7 harg7 arg8 harg8 arg9 harg9 hc0 hc1 x0 x1 x2 x3 (ix2 R l) = stepM x0 x1 (fun R l => k0_pay6 (F := Ideal) (ix2 R l)) R l := by
  exact four_rows (e := .f32) VS0_0 VS0_0.junk (stepM x0 x1 (fun R l => k0_pay6 (F := Ideal) (ix2 R l)))
    (maxF arg3 harg3 arg4 harg4 arg8 x0 x1) (filled k0_pay6) (inb2 0) (inb2 1) (inb2 2) (inb2 3)
    (fun q r l => partM_at arg3 harg3 arg4 harg4 x0 x1 q _ _ r l _ (filled_rows arg8.view k0_pay6 q r l _)) R l

/-- The rows of the later heads are still what the scratch was filled with. -/
def pieceF (L : List (View.Piece (Elt Ideal) S2048x256 .f32)) (arg3 : Memref sig .tc .vmem S4x512x256 .bf16) (harg3 : arg3.IsWhole) (arg4 : Memref sig .tc .vmem S2048x256 .bf16) (harg4 : arg4.IsWhole) (arg5 : Memref sig .tc .vmem S2048x256 .bf16) (harg5 : arg5.IsWhole)
    (arg8 : Memref sig .tc .vmem S2048x128 .f32) (arg9 : Memref sig .tc .vmem S2048x256 .f32) (x0 : FVec Ideal S4x512x256 .bf16) (x1 x2 : FVec Ideal S2048x256 .bf16) (q : Fin 4) : List (View.Piece (Elt Ideal) S2048x256 .f32) :=
  ⟨Rect.unit (s := S2048x256) ![512 * q.val, 0] ![512, 256] (inb2 q), accF L arg3 harg3 arg4 harg4 arg5 harg5 arg8 arg9 x0 x1 x2 q⟩ :: L

theorem pieceF_skip (v : View sig .tc .vmem S2048x256 .f32) (L : List (View.Piece (Elt Ideal) S2048x256 .f32)) (arg3 : Memref sig .tc .vmem S4x512x256 .bf16) (harg3 : arg3.IsWhole) (arg4 : Memref sig .tc .vmem S2048x256 .bf16) (harg4 : arg4.IsWhole) (arg5 : Memref sig .tc .vmem S2048x256 .bf16) (harg5 : arg5.IsWhole)
    (arg8 : Memref sig .tc .vmem S2048x128 .f32) (arg9 : Memref sig .tc .vmem S2048x256 .f32) (x0 : FVec Ideal S4x512x256 .bf16) (x1 x2 : FVec Ideal S2048x256 .bf16) (q p : Fin 4) (h : q.val < p.val) :
    v.readCov (pieceF L arg3 harg3 arg4 harg4 arg5 harg5 arg8 arg9 x0 x1 x2 q) (Rect.unit (s := S2048x256) ![512 * p.val, 0] ![512, 256] (inb2 p)).toLoadRect
      = v.readCov L (Rect.unit (s := S2048x256) ![512 * p.val, 0] ![512, 256] (inb2 p)).toLoadRect :=
  skip_rows v (512 * q.val) (512 * p.val) (by omega) (by omega) (by omega) _ _ _ L (by omega)

theorem sout_A_1 (c : Dev nD) (i : grid0.Coords) (arg3 : Memref sig .tc .vmem S4x512x256 .bf16) (harg3 : arg3.IsWhole) (arg4 : Memref sig .tc .vmem S2048x256 .bf16) (harg4 : arg4.IsWhole) (arg5 : Memref sig .tc .vmem S2048x256 .bf16) (harg5 : arg5.IsWhole)
    (arg6 : Memref sig .tc .vmem S4x128x128 .bf16) (harg6 : arg6.IsWhole) (arg7 : Memref sig .tc .vmem S512x512 .f32) (harg7 : arg7.IsWhole) (arg8 : Memref sig .tc .vmem S2048x128 .f32) (harg8 : arg8.IsWhole) (arg9 : Memref sig .tc .vmem S2048x256 .f32) (harg9 : arg9.IsWhole) (hc0 : cond0_0 i) (hc1 : ¬cond0_1 i) (x0 : FVec Ideal S4x512x256 .bf16) (x1 x2 : FVec Ideal S2048x256 .bf16) (x3 : FVec Ideal S4x128x128 .bf16) (R : Fin 2048) (d : Fin 256) :
    sout0_A_1 (F := Ideal) c i arg3 harg3 arg4 harg4 arg5 harg5 arg6 harg6 arg7 harg7 arg8 harg8 arg9 harg9 hc0 hc1 x0 x1 x2 x3 (ix2 R d)
      = stepA x0 x1 x2 (fun R l => k0_pay6 (F := Ideal) (ix2 R l)) (fun R d => k0_pay7 (F := Ideal) (ix2 R d)) R d := by
  let P := fun (L : List (View.Piece (Elt Ideal) S2048x256 .f32)) (q : Fin 4) => pieceF L arg3 harg3 arg4 harg4 arg5 harg5 arg8 arg9 x0 x1 x2 q
  let L0 : List (View.Piece (Elt Ideal) S2048x256 .f32) := filled k0_pay7
  let L : Fin 4 → List (View.Piece (Elt Ideal) S2048x256 .f32) := ![L0, P L0 0, P (P L0 0) 1, P (P (P L0 0) 1) 2]
  have hL : ∀ q : Fin 4, arg9.view.readCov (L q) (Rect.unit (s := S2048x256) ![512 * q.val, 0] ![512, 256] (inb2 q)).toLoadRect = arg9.view.readCov L0 (Rect.unit (s := S2048x256) ![512 * q.val, 0] ![512, 256] (inb2 q)).toLoadRect := fun q => by
    match q with
    | ⟨0, _⟩ => rfl
    | ⟨1, _⟩ => exact pieceF_skip arg9.view _ arg3 harg3 arg4 harg4 arg5 harg5 arg8 arg9 x0 x1 x2 0 1 (by decide)
    | ⟨2, _⟩ => exact (pieceF_skip arg9.view _ arg3 harg3 arg4 harg4 arg5 harg5 arg8 arg9 x0 x1 x2 1 2 (by decide)).trans (pieceF_skip arg9.view _ arg3 harg3 arg4 harg4 arg5 harg5 arg8 arg9 x0 x1 x2 0 2 (by decide))
    | ⟨3, _⟩ => exact ((pieceF_skip arg9.view _ arg3 harg3 arg4 harg4 arg5 harg5 arg8 arg9 x0 x1 x2 2 3 (by decide)).trans (pieceF_skip arg9.view _ arg3 harg3 arg4 harg4 arg5 harg5 arg8 arg9 x0 x1 x2 1 3 (by decide))).trans (pieceF_skip arg9.view _ arg3 harg3 arg4 harg4 arg5 harg5 arg8 arg9 x0 x1 x2 0 3 (by decide))
  exact four_rows (e := .f32) VS0_1 VS0_1.junk (stepA x0 x1 x2 (fun R l => k0_pay6 (F := Ideal) (ix2 R l)) (fun R d => k0_pay7 (F := Ideal) (ix2 R d)))
    (fun q => accF (L q) arg3 harg3 arg4 harg4 arg5 harg5 arg8 arg9 x0 x1 x2 q) L0 (inb2 0) (inb2 1) (inb2 2) (inb2 3)
    (fun q r d => partA_at arg3 harg3 arg4 harg4 arg5 harg5 x0 x1 x2 q _ _ _ _ r d _ (fun l => filled_rows arg8.view k0_pay6 q r l _) ((congrFun (hL q) (ix2 r d)).trans (filled_rows arg9.view k0_pay7 q r d _))) R d

theorem pay6_at (R : Fin 2048) (l : Fin 128) : k0_pay6 (F := Ideal) (ix2 R l) = Ideal.ofBits .f32 0xF149F2CA#32 := by
  unfold k0_pay6
  pointwise

theorem pay7_at (R : Fin 2048) (d : Fin 256) : k0_pay7 (F := Ideal) (ix2 R d) = Ideal.ofBits .f32 0x00000000#32 := by
  unfold k0_pay7
  pointwise

end Cert.AttnIdeal.Exact

end
-- ==== Proof.AttnReal.lean ====
/-
  Hand-written. Softmax over the reals inside the extended reals: the running maximum and sums of a block-wise softmax
  hold the weighted sums of all the keys so far, and their quotients are the softmax's, whatever the maximum.
-/
module

public import proofs.«01_k».proof.Proof.AttnVal
public import Idealize.ShloMosaic.PureOps.Ideal.Laws

@[expose] public section

noncomputable section

namespace Cert.AttnIdeal.Exact

open Idealize.ShloMosaic hiding ix1 ix2 ix3 ix4

theorem ofBits_192 : Ideal.ofBits .f32 0x43400000#32 = ((192 : ℝ) : EReal) := by
  simp [Ideal.ofBits, Ideal.ieee]
  rw [← EReal.coe_mul]
  norm_num

theorem ofBits_2 : Ideal.ofBits .f32 0x40000000#32 = ((2 : ℝ) : EReal) := by
  simp [Ideal.ofBits, Ideal.ieee]
  rw [← EReal.coe_mul]
  norm_num

theorem ofBits_1 : Ideal.ofBits .f32 0x3F800000#32 = ((1 : ℝ) : EReal) := by
  simp [Ideal.ofBits, Ideal.ieee]
  rw [← EReal.coe_mul]
  norm_num

theorem ofBits_bot : Ideal.ofBits .f32 0xFF800000#32 = ⊥ := by
  simp [Ideal.ofBits, Ideal.ieee]

theorem ofBits_top : Ideal.ofBits .f32 0x7F800000#32 = ⊤ := by
  simp [Ideal.ofBits, Ideal.ieee]

theorem ofBits_low : ∃ x : ℝ, Ideal.ofBits .f32 0xF149F2CA#32 = (x : EReal) := by
  simp [Ideal.ofBits, Ideal.ieee]
  exact ⟨_, rfl⟩

theorem coe_sum {ι : Type} [Fintype ι] (f : ι → ℝ) : (∑ i, ((f i : ℝ) : EReal)) = ((∑ i, f i : ℝ) : EReal) := by
  classical
  refine Finset.induction_on (Finset.univ : Finset ι) ?_ ?_
  · simp
  · intro a s ha ih
    rw [Finset.sum_insert ha, Finset.sum_insert ha, ih, EReal.coe_add]

theorem div_real (a b : ℝ) (h : b ≠ 0) : Ideal.div (a : EReal) (b : EReal) = ((a / b : ℝ) : EReal) := by
  rw [Ideal.div_coe h, ← EReal.coe_mul]
  exact congrArg _ (by ring)

/-- The maximum of finitely many reals from `-∞`. -/
theorem fold_real {ι : Type} (s : ι → ℝ) (t : Finset ι) : (t = ∅ ∧ t.fold max ⊥ (fun k => ((s k : ℝ) : EReal)) = ⊥) ∨ ∃ M : ℝ, t.fold max ⊥ (fun k => ((s k : ℝ) : EReal)) = (M : EReal) := by
  classical
  refine Finset.induction_on t (Or.inl ⟨rfl, rfl⟩) ?_
  intro a t ha ih
  right
  rw [Finset.fold_insert ha]
  rcases ih with ⟨-, h⟩ | ⟨M, h⟩
  · exact ⟨s a, by rw [h]; exact max_bot_right _⟩
  · exact ⟨max (s a) M, by rw [h]; exact (EReal.coe_strictMono.monotone.map_max).symm⟩

theorem newMax_real (x : ℝ) (s : Fin 2048 → ℝ) : ∃ y : ℝ, newMax (x : EReal) (fun k => ((s k : ℝ) : EReal)) = (y : EReal) := by
  unfold newMax
  rw [ofBits_bot]
  rcases fold_real s Finset.univ with ⟨-, h⟩ | ⟨M, h⟩
  · exact ⟨x, by rw [h]; exact max_bot_right _⟩
  · exact ⟨max x M, by rw [h]; exact (EReal.coe_strictMono.monotone.map_max).symm⟩

theorem exp2_real (a b : ℝ) : Ideal.exp2 ((a : EReal) - (b : EReal)) = (((2 : ℝ) ^ (a - b) : ℝ) : EReal) := by
  rw [← EReal.coe_sub]
  rfl

theorem exp_real (a b : ℝ) : Ideal.exp ((a : EReal) - (b : EReal)) = ((Real.exp (a - b) : ℝ) : EReal) := by
  rw [← EReal.coe_sub]
  rfl

/-- The row's state after `n` keys: one real maximum on all lanes, and the sums of the weights times the values below it. -/
def Holds (s : ℕ → ℝ) (v : ℕ → Fin 256 → ℝ) (n : ℕ) (μ : Fin 128 → EReal) (a : Fin 256 → EReal) : Prop :=
  ∃ x : ℝ, (∀ l, μ l = (x : EReal)) ∧ ∀ d, a d = ((∑ k ∈ Finset.range n, (2 : ℝ) ^ (s k - x) * v k d : ℝ) : EReal)

theorem holds_zero (s : ℕ → ℝ) (v : ℕ → Fin 256 → ℝ) : Holds s v 0 (fun _ => Ideal.ofBits .f32 0xF149F2CA#32) (fun _ => Ideal.ofBits .f32 0x00000000#32) := by
  obtain ⟨x, hx⟩ := ofBits_low
  exact ⟨x, fun _ => hx, fun d => by simp⟩

/-- One block more. -/
theorem holds_step (s : ℕ → ℝ) (v : ℕ → Fin 256 → ℝ) (n : ℕ) (μ : Fin 128 → EReal) (a : Fin 256 → EReal) (h : Holds s v n μ a)
    (S : Fin 2048 → EReal) (V : Fin 2048 → Fin 256 → EReal) (hS : ∀ k, S k = ((s (n + k.val) : ℝ) : EReal)) (hV : ∀ k d, V k d = ((v (n + k.val) d : ℝ) : EReal)) :
    Holds s v (n + 2048) (fun l => newMax (μ l) S) (fun d => newAcc μ S (lane d) (a d) (fun k => V k d)) := by
  obtain ⟨x, hμ, ha⟩ := h
  obtain ⟨y, hy⟩ := newMax_real x fun k => s (n + k.val)
  have hy' : ∀ l, newMax (μ l) S = (y : EReal) := fun l => by rw [hμ l, funext hS]; exact hy
  refine ⟨y, hy', fun d => ?_⟩
  have hy2 : newMax (x : EReal) S = (y : EReal) := (congrArg (newMax · S) (hμ 0)).symm.trans (hy' 0)
  unfold newAcc
  simp only [hμ, hy2, ha, hS, hV, exp2_real, ← EReal.coe_mul]
  rw [coe_sum, ← EReal.coe_add, Finset.sum_range_add, Finset.mul_sum, Finset.sum_range (fun k => (2 : ℝ) ^ (s (n + k) - y) * v (n + k) d)]
  refine congrArg (fun z : ℝ => (z : EReal)) (congrArg₂ (· + ·) (Finset.sum_congr rfl fun k _ => ?_) rfl)
  rw [← mul_assoc, ← Real.rpow_add (by norm_num)]
  exact congrArg (fun z : ℝ => (2 : ℝ) ^ z * v k d) (by ring)

/-- The quotient of a head's sums, times the value projection: the softmax of the scores times the projected values. -/
theorem out_real (S : Fin 8192 → ℝ) (c : Fin 8192 → Fin 128 → ℝ) (w : Fin 128 → ℝ) (x M : ℝ) :
    ∑ i : Fin 128, (∑ k : Fin 8192, (2 : ℝ) ^ (S k / Real.log 2 - x) * c k i) / (∑ k : Fin 8192, (2 : ℝ) ^ (S k / Real.log 2 - x) * 1) * w i
      = ∑ k : Fin 8192, (∑ i : Fin 128, c k i * w i) * (Real.exp (S k - M) / ∑ k : Fin 8192, Real.exp (S k - M)) := by
  have h2 : Real.log 2 ≠ 0 := (Real.log_pos (by norm_num)).ne'
  have e1 : ∀ k, (2 : ℝ) ^ (S k / Real.log 2 - x) = (2 : ℝ) ^ (-x) * Real.exp (S k) := fun k => by
    rw [sub_eq_add_neg, Real.rpow_add (by norm_num), mul_comm, Real.rpow_def_of_pos (by norm_num : (0 : ℝ) < 2) (S k / Real.log 2), mul_div_cancel₀ _ h2]
  have e2 : ∀ k, Real.exp (S k - M) = Real.exp (-M) * Real.exp (S k) := fun k => by rw [← Real.exp_add]; congr 1; ring
  have p1 : (2 : ℝ) ^ (-x) ≠ 0 := (Real.rpow_pos_of_pos (by norm_num) _).ne'
  have p2 : Real.exp (-M) ≠ 0 := (Real.exp_pos _).ne'
  simp only [e1, e2, mul_assoc, ← Finset.mul_sum, mul_one]
  simp only [mul_div_mul_left _ _ p1, mul_div_mul_left _ _ p2]
  simp only [Finset.sum_div, Finset.sum_mul]
  rw [Finset.sum_comm]
  refine Finset.sum_congr rfl fun k _ => Finset.sum_congr rfl fun i _ => ?_
  ring

theorem weights_pos (S : Fin 8192 → ℝ) (x : ℝ) : (∑ k : Fin 8192, (2 : ℝ) ^ (S k / Real.log 2 - x) * 1) ≠ 0 :=
  (Finset.sum_pos (fun k _ => by rw [mul_one]; exact Real.rpow_pos_of_pos (by norm_num) _) ⟨0, Finset.mem_univ _⟩).ne'

theorem exps_pos (S : Fin 8192 → ℝ) (M : ℝ) : (∑ k : Fin 8192, Real.exp (S k - M)) ≠ 0 :=
  (Finset.sum_pos (fun k _ => Real.exp_pos _) ⟨0, Finset.mem_univ _⟩).ne'

end Cert.AttnIdeal.Exact

end
-- ==== Proof.AttnBlk.lean ====
/-
  Hand-written. The attention's call over the extended reals, point after point: while its scores and values are real numbers,
  each query row's scratch holds the weighted sums of the keys seen so far, and the array it leaves holds their quotients.
-/
module

public import Idealize.ShloMosaic.Lib.Pipeline.ValueKit.Geometry
public import proofs.«01_k».proof.Proof.AttnRun
public import proofs.«01_k».proof.Proof.AttnReal

@[expose] public section

set_option maxRecDepth 8192

noncomputable section

namespace Cert.AttnIdeal.Exact

open Cert.AttnIdeal Cert.AttnIdeal.Gen
open Idealize.ShloMosaic hiding ix1 ix2 ix3 ix4
open Idealize.ShloMosaic.ValueIdx
open Idealize.ShloMosaic.TcCoe
open Idealize.ShloMosaic.Pipeline

variable (m : (ℓ : Loc nD τ sig) → Buf (Elt Ideal) ℓ) (c : Dev nD)

/-- The arrays the call is given: queries, keys, values and the up-projection. -/
def AQ : FVec Ideal S4x16384x256 .bf16 := V m c main_v20
def AK : FVec Ideal S16384x256 .bf16 := V m c main_v23
def AV : FVec Ideal S16384x256 .bf16 := V m c main_v27
def AW : FVec Ideal S4x128x128 .bf16 := V m c main_v6

theorem idxQ : ∀ t : Fin cfg0.N, win0_0.index t 0 = 0 ∧ win0_0.index t 1 = t.val / 4 ∧ win0_0.index t 2 = 0 := by decide +kernel
theorem idxK : ∀ t : Fin cfg0.N, win0_1.index t 0 = t.val / 64 * 4 + t.val % 4 ∧ win0_1.index t 1 = 0 := by decide +kernel
theorem idxV : ∀ t : Fin cfg0.N, win0_2.index t 0 = t.val / 64 * 4 + t.val % 4 ∧ win0_2.index t 1 = 0 := by decide +kernel
theorem idxW : ∀ t : Fin cfg0.N, win0_3.index t 0 = 0 ∧ win0_3.index t 1 = 0 ∧ win0_3.index t 2 = 0 := by decide +kernel
theorem idxO : ∀ t : Fin cfg0.N, win0_4.index t 0 = t.val / 4 ∧ win0_4.index t 1 = 0 := by decide +kernel

/-- Where a block puts an entry. -/
theorem blk_val {G : Grid} (w : Window sig G) (t : Fin G.N) (y : (w.xblock (G.coords t)).Idx) (a : Fin w.shape.rank) (hk : w.kind = .blocked) (n s z : Nat) (hi : w.index t a = n) (hw : w.size a = s) (hzz : z = n * s + (y a).val) :
    ((w.rect t).emb y a : Nat) = z := by
  rw [w.rect_emb_val t y a hk, hi, hw, hzz]

theorem blkQ (t : Fin cfg0.N) (h : Fin 4) (r : Fin 512) (d : Fin 256) (z : Fin 16384) (hz : z.val = t.val / 4 * 512 + r.val) : iblk m c 0 t (ix3 h r d) = AQ m c (ix3 h z d) :=
  congrArg (AQ m c) (funext fun a => Fin.ext (match a with
    | ⟨0, _⟩ => win0_0.rect_emb_val_of_index_zero t 0 (idxQ t).1 (ix3 h r d)
    | ⟨1, _⟩ => blk_val win0_0 t (ix3 h r d) 1 rfl _ 512 _ (idxQ t).2.1 rfl hz
    | ⟨2, _⟩ => win0_0.rect_emb_val_of_index_zero t 2 (idxQ t).2.2 (ix3 h r d)))
theorem blkK (t : Fin cfg0.N) (k : Fin 2048) (d : Fin 256) (z : Fin 16384) (hz : z.val = (t.val / 64 * 4 + t.val % 4) * 2048 + k.val) : iblk m c 1 t (ix2 k d) = AK m c (ix2 z d) :=
  congrArg (AK m c) (funext fun a => Fin.ext (match a with
    | ⟨0, _⟩ => blk_val win0_1 t (ix2 k d) 0 rfl _ 2048 _ (idxK t).1 rfl hz
    | ⟨1, _⟩ => win0_1.rect_emb_val_of_index_zero t 1 (idxK t).2 (ix2 k d)))
theorem blkV (t : Fin cfg0.N) (k : Fin 2048) (d : Fin 256) (z : Fin 16384) (hz : z.val = (t.val / 64 * 4 + t.val % 4) * 2048 + k.val) : iblk m c 2 t (ix2 k d) = AV m c (ix2 z d) :=
  congrArg (AV m c) (funext fun a => Fin.ext (match a with
    | ⟨0, _⟩ => blk_val win0_2 t (ix2 k d) 0 rfl _ 2048 _ (idxV t).1 rfl hz
    | ⟨1, _⟩ => win0_2.rect_emb_val_of_index_zero t 1 (idxV t).2 (ix2 k d)))
theorem blkW (t : Fin cfg0.N) (y : S4x128x128.Idx) : iblk m c 3 t y = AW m c y :=
  congrArg (AW m c) (funext fun a => Fin.ext (match a with
    | ⟨0, _⟩ => win0_3.rect_emb_val_of_index_zero t 0 (idxW t).1 y
    | ⟨1, _⟩ => win0_3.rect_emb_val_of_index_zero t 1 (idxW t).2.1 y
    | ⟨2, _⟩ => win0_3.rect_emb_val_of_index_zero t 2 (idxW t).2.2 y))

/-- The row of the call's arrays that a point's row is, and a batch's key. -/
def zOf (t : Fin cfg0.N) (r : Fin 512) : Fin 16384 := ⟨t.val / 4 * 512 + r.val, by have := lt_of_lt_of_eq t.isLt (show cfg0.N = 128 from N_0); omega⟩
def keyOf (b : Fin 2) (n : Fin 8192) : Fin 16384 := ⟨8192 * b.val + n.val, by omega⟩
def batch (z : Fin 16384) : Fin 2 := ⟨z.val / 8192, by omega⟩

/-- What the point before a point left in the two scratches. -/
def prevM (t : Fin cfg0.N) : FVec Ideal S2048x128 .f32 := (outsAt0 m c (t.val - 1) (Nat.lt_of_le_of_lt (Nat.sub_le _ _) t.isLt)).2.1
def prevA (t : Fin cfg0.N) : FVec Ideal S2048x256 .f32 := (outsAt0 m c (t.val - 1) (Nat.lt_of_le_of_lt (Nat.sub_le _ _) t.isLt)).2.2

theorem atA_0 (t : Fin cfg0.N) (h0 : t.val % 4 = 0) (h1 : ¬t.val % 4 = 3) (R : Fin 2048) (l : Fin 128) : (outsAt0 m c t.val t.isLt).2.1 (ix2 R l) = stepM (iblk m c 0 t) (iblk m c 1 t) (fun R l => k0_pay6 (F := Ideal) (ix2 R l)) R l :=
  (congrFun (congrArg (fun p => p.2.1) (outsAt0_A m c t h0 h1)) (ix2 R l)).trans (sout_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) R l)

theorem atA_1 (t : Fin cfg0.N) (h0 : t.val % 4 = 0) (h1 : ¬t.val % 4 = 3) (R : Fin 2048) (d : Fin 256) : (outsAt0 m c t.val t.isLt).2.2 (ix2 R d) = stepA (iblk m c 0 t) (iblk m c 1 t) (iblk m c 2 t) (fun R l => k0_pay6 (F := Ideal) (ix2 R l)) (fun R d => k0_pay7 (F := Ideal) (ix2 R d)) R d :=
  (congrFun (congrArg (fun p => p.2.2) (outsAt0_A m c t h0 h1)) (ix2 R d)).trans (sout_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) R d)

theorem atB_0 (t : Fin cfg0.N) (h0 : ¬t.val % 4 = 0) (h1 : ¬t.val % 4 = 3) (R : Fin 2048) (l : Fin 128) : (outsAt0 m c t.val t.isLt).2.1 (ix2 R l) = stepM (iblk m c 0 t) (iblk m c 1 t) (fun R l => prevM m c t (ix2 R l)) R l :=
  (congrFun (congrArg (fun p => p.2.1) (outsAt0_B m c t h0 h1)) (ix2 R l)).trans (sout_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (prevM m c t) (prevA m c t) R l)

theorem atB_1 (t : Fin cfg0.N) (h0 : ¬t.val % 4 = 0) (h1 : ¬t.val % 4 = 3) (R : Fin 2048) (d : Fin 256) : (outsAt0 m c t.val t.isLt).2.2 (ix2 R d) = stepA (iblk m c 0 t) (iblk m c 1 t) (iblk m c 2 t) (fun R l => prevM m c t (ix2 R l)) (fun R d => prevA m c t (ix2 R d)) R d :=
  (congrFun (congrArg (fun p => p.2.2) (outsAt0_B m c t h0 h1)) (ix2 R d)).trans (sout_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (prevM m c t) (prevA m c t) R d)

theorem atC_0 (t : Fin cfg0.N) (h0 : ¬t.val % 4 = 0) (h1 : t.val % 4 = 3) (R : Fin 2048) (l : Fin 128) : (outsAt0 m c t.val t.isLt).2.1 (ix2 R l) = stepM (iblk m c 0 t) (iblk m c 1 t) (fun R l => prevM m c t (ix2 R l)) R l :=
  (congrFun (congrArg (fun p => p.2.1) (outsAt0_C m c t h0 h1)) (ix2 R l)).trans (sout_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (prevM m c t) (prevA m c t) R l)

theorem atC_1 (t : Fin cfg0.N) (h0 : ¬t.val % 4 = 0) (h1 : t.val % 4 = 3) (R : Fin 2048) (d : Fin 256) : (outsAt0 m c t.val t.isLt).2.2 (ix2 R d) = stepA (iblk m c 0 t) (iblk m c 1 t) (iblk m c 2 t) (fun R l => prevM m c t (ix2 R l)) (fun R d => prevA m c t (ix2 R d)) R d :=
  (congrFun (congrArg (fun p => p.2.2) (outsAt0_C m c t h0 h1)) (ix2 R d)).trans (sout_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (prevM m c t) (prevA m c t) R d)

/-- The block of the up-projection, which is all of it. -/
def blockW (t : Fin cfg0.N) : FVec Ideal S4x128x128 .bf16 := iblk m c 3 t

theorem atC_out (t : Fin cfg0.N) (h0 : ¬t.val % 4 = 0) (h1 : t.val % 4 = 3) (E : Fin 2048 → Fin 256 → EReal) (hE : E = stepA (iblk m c 0 t) (iblk m c 1 t) (iblk m c 2 t) (fun R l => prevM m c t (ix2 R l)) (fun R d => prevA m c t (ix2 R d))) (r j : Fin 512) :
    (outsAt0 m c t.val t.isLt).1 (ix2 r j) = ∑ a : Fin 128, Ideal.div (E ⟨512 * (j.val / 128) + r.val, by omega⟩ ⟨a.val, by omega⟩) (E ⟨512 * (j.val / 128) + r.val, by omega⟩ 128) * blockW m c t (ix3 ⟨j.val / 128, by omega⟩ a (lane j)) := by
  have o := out_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (prevM m c t) (prevA m c t) E hE r j
  rw [outsAt0_C m c t h0 h1]
  unfold prevM prevA at o
  dsimp only
  unfold blockW
  refine Eq.trans ?_ (o.trans ?_)
  · with_reducible rfl
  · with_reducible rfl

theorem head_lt (j : Fin 512) : j.val / 128 < 4 := by omega

theorem low_lt (a : Fin 128) : a.val < 256 := by omega

section Sweep

variable (s : Fin 4 → Fin 16384 → ℕ → ℝ) (v : Fin 2 → ℕ → Fin 256 → ℝ)
  (hS : ∀ h z (n : Fin 8192), score (fun d => AQ m c (ix3 h z d)) (fun d => AK m c (ix2 (keyOf (batch z) n) d)) = ((s h z n.val : ℝ) : EReal))
  (hV : ∀ b (n : Fin 8192) d, AV m c (ix2 (keyOf b n) d) = ((v b n.val d : ℝ) : EReal))

include hS hV in
theorem step_holds (t : Fin cfg0.N) (R : Fin 2048) (μ : Fin 2048 → Fin 128 → EReal) (a : Fin 2048 → Fin 256 → EReal)
    (H : Holds (s (hd R) (zOf t (rw' R))) (v (batch (zOf t (rw' R)))) (2048 * (t.val % 4)) (μ R) (a R)) :
    Holds (s (hd R) (zOf t (rw' R))) (v (batch (zOf t (rw' R)))) (2048 * (t.val % 4 + 1)) (stepM (iblk m c 0 t) (iblk m c 1 t) μ R) (stepA (iblk m c 0 t) (iblk m c 1 t) (iblk m c 2 t) μ a R) := by
  have hN := lt_of_lt_of_eq t.isLt (show cfg0.N = 128 from N_0)
  have hk : ∀ k : Fin 2048, 2048 * (t.val % 4) + k.val < 8192 := fun k => by omega
  have hkey : ∀ k : Fin 2048, (keyOf (batch (zOf t (rw' R))) ⟨2048 * (t.val % 4) + k.val, hk k⟩).val = (t.val / 64 * 4 + t.val % 4) * 2048 + k.val := fun k => by
    show 8192 * ((t.val / 4 * 512 + R.val % 512) / 8192) + (2048 * (t.val % 4) + k.val) = (t.val / 64 * 4 + t.val % 4) * 2048 + k.val
    omega
  refine (show 2048 * (t.val % 4 + 1) = 2048 * (t.val % 4) + 2048 by ring) ▸ holds_step _ _ _ (μ R) (a R) H (scores (iblk m c 0 t) (iblk m c 1 t) R) (fun k d => iblk m c 2 t (ix2 k d)) (fun k => ?_) (fun k d => ?_)
  · refine Eq.trans ?_ (hS (hd R) (zOf t (rw' R)) ⟨2048 * (t.val % 4) + k.val, hk k⟩)
    unfold scores
    exact congrArg₂ score (funext fun d => blkQ m c t (hd R) (rw' R) d _ rfl) (funext fun d => blkK m c t k d _ (hkey k))
  · exact (blkV m c t k d _ (hkey k)).trans (hV _ ⟨2048 * (t.val % 4) + k.val, hk k⟩ d)

/-- What a point's scratch holds, row by row. -/
def Inv (t : Fin cfg0.N) : Prop := ∀ R : Fin 2048,
  Holds (s (hd R) (zOf t (rw' R))) (v (batch (zOf t (rw' R)))) (2048 * (t.val % 4 + 1)) (fun l => (outsAt0 m c t.val t.isLt).2.1 (ix2 R l)) (fun d => (outsAt0 m c t.val t.isLt).2.2 (ix2 R d))

theorem Holds.congr {s : ℕ → ℝ} {v : ℕ → Fin 256 → ℝ} {n : ℕ} {μ μ' : Fin 128 → EReal} {a a' : Fin 256 → EReal} (H : Holds s v n μ a) (hμ : ∀ l, μ' l = μ l) (ha : ∀ d, a' d = a d) : Holds s v n μ' a' := by
  rw [funext hμ, funext ha]
  exact H

include hS hV in
theorem inv_first (t : Fin cfg0.N) (h0 : t.val % 4 = 0) : Inv m c s v t := fun R => by
  have h1 : ¬t.val % 4 = 3 := by omega
  have H : Holds (s (hd R) (zOf t (rw' R))) (v (batch (zOf t (rw' R)))) (2048 * (t.val % 4)) (fun l => k0_pay6 (F := Ideal) (ix2 R l)) (fun d => k0_pay7 (F := Ideal) (ix2 R d)) := by
    rw [h0]
    exact (holds_zero _ _).congr (fun l => pay6_at R l) (fun d => pay7_at R d)
  exact (step_holds m c s v hS hV t R (fun R l => k0_pay6 (F := Ideal) (ix2 R l)) (fun R d => k0_pay7 (F := Ideal) (ix2 R d)) H).congr (fun l => atA_0 m c t h0 h1 R l) (fun d => atA_1 m c t h0 h1 R d)

include hS hV in
/-- The scratch after a point's step, from the point before. -/
theorem inv_step (t p : Fin cfg0.N) (hp : p.val = t.val - 1) (h0 : ¬t.val % 4 = 0) (hI : Inv m c s v p) (R : Fin 2048) :
    Holds (s (hd R) (zOf t (rw' R))) (v (batch (zOf t (rw' R)))) (2048 * (t.val % 4 + 1))
      (stepM (iblk m c 0 t) (iblk m c 1 t) (fun R l => prevM m c t (ix2 R l)) R)
      (stepA (iblk m c 0 t) (iblk m c 1 t) (iblk m c 2 t) (fun R l => prevM m c t (ix2 R l)) (fun R d => prevA m c t (ix2 R d)) R) := by
  refine step_holds m c s v hS hV t R (fun R l => prevM m c t (ix2 R l)) (fun R d => prevA m c t (ix2 R d)) ?_
  obtain ⟨n, hn⟩ := p
  have hp' : n = t.val - 1 := hp
  subst hp'
  have e1 : zOf ⟨t.val - 1, hn⟩ (rw' R) = zOf t (rw' R) := Fin.ext (show (t.val - 1) / 4 * 512 + _ = t.val / 4 * 512 + _ by rw [show (t.val - 1) / 4 = t.val / 4 by omega])
  have e2 : (t.val - 1) % 4 + 1 = t.val % 4 := by omega
  have := hI R
  rw [e1] at this
  exact e2 ▸ this

include hS hV in
theorem inv_all (n : ℕ) : ∀ hn : n < cfg0.N, Inv m c s v ⟨n, hn⟩ := by
  induction n with
  | zero => exact fun hn => inv_first m c s v hS hV ⟨0, hn⟩ rfl
  | succ n ih =>
    intro hn
    by_cases h0 : (n + 1) % 4 = 0
    · exact inv_first m c s v hS hV ⟨n + 1, hn⟩ h0
    intro R
    have H := inv_step m c s v hS hV ⟨n + 1, hn⟩ ⟨n, Nat.lt_of_succ_lt hn⟩ rfl h0 (ih (Nat.lt_of_succ_lt hn)) R
    by_cases h1 : (n + 1) % 4 = 3
    · exact H.congr (fun l => atC_0 m c ⟨n + 1, hn⟩ h0 h1 R l) (fun d => atC_1 m c ⟨n + 1, hn⟩ h0 h1 R d)
    · exact H.congr (fun l => atB_0 m c ⟨n + 1, hn⟩ h0 h1 R l) (fun d => atB_1 m c ⟨n + 1, hn⟩ h0 h1 R d)

variable (T : S16384x512.Idx → EReal)
  (hT : ∀ (z : Fin 16384) (j : Fin 512) (x : ℝ), (∑ a : Fin 128, Ideal.div ((∑ n ∈ Finset.range 8192, (2 : ℝ) ^ (s ⟨j.val / 128, head_lt j⟩ z n - x) * v (batch z) n ⟨a.val, low_lt a⟩ : ℝ) : EReal)
      ((∑ n ∈ Finset.range 8192, (2 : ℝ) ^ (s ⟨j.val / 128, head_lt j⟩ z n - x) * v (batch z) n 128 : ℝ) : EReal) * AW m c (ix3 ⟨j.val / 128, head_lt j⟩ a (lane j))) = T (ix2 z j))

include hS hV hT in
theorem out_at (t : Fin cfg0.N) (h1 : t.val % 4 = 3) (r j : Fin 512) : (outsAt0 m c t.val t.isLt).1 (ix2 r j) = T (ix2 (zOf t r) j) := by
  have h0 : ¬t.val % 4 = 0 := by omega
  have hlt : t.val - 1 < cfg0.N := Nat.lt_of_le_of_lt (Nat.sub_le _ _) t.isLt
  refine (atC_out m c t h0 h1 _ rfl r j).trans ?_
  have hR : 512 * (j.val / 128) + r.val < 2048 := by omega
  obtain ⟨x, -, hx⟩ := inv_step m c s v hS hV t ⟨t.val - 1, hlt⟩ rfl h0 (inv_all m c s v hS hV _ hlt) ⟨512 * (j.val / 128) + r.val, hR⟩
  rw [← hT (zOf t r) j x]
  have e1 : hd ⟨512 * (j.val / 128) + r.val, hR⟩ = ⟨j.val / 128, by omega⟩ := hd_row ⟨j.val / 128, by omega⟩ r hR
  have e2 : rw' ⟨512 * (j.val / 128) + r.val, hR⟩ = r := rw_row ⟨j.val / 128, by omega⟩ r hR
  rw [e1, e2, h1] at hx
  exact Finset.sum_congr rfl fun a _ => congrArg₂ (· * ·) (congrArg₂ Ideal.div (hx _) (hx _)) (blkW m c t _)

include hS hV hT in
theorem final : (dats m 0 c).arrAt 4 cfg0.N = T := by
  refine (dats m 0 c).arrAt_eq_of_covers 4 T (by decide +kernel) ?_
  intro t hf y
  refine (congrFun (after0_4 m c t) _).trans ?_
  refine (congrArg (outsAt0 m c t.val t.isLt).1 (ValueIdx.eq_ix2 (n0 := 512) (n1 := 512) y)).trans ?_
  refine (out_at m c s v hS hV T hT t ((flush0_4 t).mp hf) (y 0) (y 1)).trans (congrArg T (funext fun a => Fin.ext ?_))
  match a with
  | ⟨0, _⟩ => exact (blk_val win0_4 t y 0 rfl _ 512 _ (idxO t).1 rfl rfl).symm
  | ⟨1, _⟩ => exact (win0_4.rect_emb_val_of_index_zero t 1 (idxO t).2 y).symm

end Sweep

end Cert.AttnIdeal.Exact

end
-- ==== Proof.AttnHost.lean ====
/-
  Hand-written. What the latent attention's call is given: the absorbed queries, the keys, the values and the value projection.
-/
module

public import proofs.«01_k».proof.Proof.AttnBlk

@[expose] public section

set_option maxRecDepth 8192

noncomputable section

namespace Cert.AttnIdeal.Exact

open Cert.AttnIdeal Cert.AttnIdeal.Gen
open Idealize.ShloMosaic hiding ix1 ix2 ix3 ix4
open Idealize.ShloMosaic.ValueIdx
open Idealize.ShloMosaic.TcCoe

variable (m : (ℓ : Loc nD τ sig) → Buf (Elt Ideal) ℓ) (c : Dev nD)

/-- The up-projection's weights, by head. -/
def wkvT (w : FVec Ideal S1x128x1024 .f32) : FVec Ideal S128x4x256 .f32 :=
  shapeCast S128x4x256 (shapeCast S128x1024 w shapeCasts_S1x128x1024_S128x1024) shapeCasts_S128x1024_S128x4x256

/-- The key part of them, head by head. -/
def wukT (w : FVec Ideal S1x128x1024 .f32) : FVec Ideal S4x128x128 .f32 :=
  transpose S4x128x128 [1, 2, 0] (extractStridedSlice S128x4x128 ![0, 0, 0] (wkvT w) slices_S128x4x256_S128x4x128_0_0_0) transposes_S128x4x128_S4x128x128_1_2_0

/-- The value part of them, head by head. -/
def wuvT (w : FVec Ideal S1x128x1024 .f32) : FVec Ideal S4x128x128 .bf16 :=
  truncf .bf16 (transpose S4x128x128 [1, 0, 2] (extractStridedSlice S128x4x128 ![0, 0, 128] (wkvT w) slices_S128x4x256_S128x4x128_0_0_128) transposes_S128x4x128_S4x128x128_1_0_2) bitsLt_bf16_f32

/-- The scores' factor. -/
def facT : FVec Ideal S1x1x1 .f32 :=
  Host.divf (Host.rsqrt (broadcastInDim S1x1x1 ![] bcast_S_S1x1x1 (constant S_ .f32 0x43400000#32))) (Host.log (broadcastInDim S1x1x1 ![] bcast_S_S1x1x1 (constant S_ .f32 0x40000000#32)))

/-- The first part of the queries, absorbed. -/
def qaT (q : FVec Ideal S16384x4x192 .f32) (w : FVec Ideal S1x128x1024 .f32) : FVec Ideal S4x16384x128 .f32 :=
  Host.dotGeneral dot_S16384x4x128_S4x128x128_S4x16384x128_2_1_0_2_1_0 none (extractStridedSlice S16384x4x128 ![0, 0, 0] q slices_S16384x4x192_S16384x4x128_0_0_0) (wukT w)

/-- The second part of the queries. -/
def qrT (q : FVec Ideal S16384x4x192 .f32) : FVec Ideal S4x16384x64 .f32 :=
  transpose S4x16384x64 [1, 0, 2] (extractStridedSlice S16384x4x64 ![0, 0, 128] q slices_S16384x4x192_S16384x4x64_0_0_128) transposes_S16384x4x64_S4x16384x64_1_0_2

/-- The queries. -/
def qqT (a : FVec Ideal S4x16384x128 .f32) (b : FVec Ideal S4x16384x64 .f32) (f : FVec Ideal S1x1x1 .f32) : FVec Ideal S4x16384x256 .bf16 :=
  truncf .bf16 (mulf (concatenate S4x16384x256 2 [⟨S4x16384x128, a⟩, ⟨S4x16384x64, b⟩, ⟨S4x16384x64, (broadcastInDim S4x16384x64 ![] bcast_S_S4x16384x64 (constant S_ .f32 0x00000000#32) : FVec Ideal S4x16384x64 .f32)⟩] concatenates_S4x16384x128_S4x16384x64_S4x16384x64_S4x16384x256_d2)
    (broadcastInDim S4x16384x256 ![0, 1, 2] bcast_S1x1x1_S4x16384x256_0_1_2 f)) bitsLt_bf16_f32

/-- The keys. -/
def kkT (x : FVec Ideal S16384x128 .f32) (p : FVec Ideal S16384x64 .f32) : FVec Ideal S16384x256 .bf16 :=
  truncf .bf16 (concatenate S16384x256 1 [⟨S16384x128, x⟩, ⟨S16384x64, p⟩, ⟨S16384x64, (broadcastInDim S16384x64 ![] bcast_S_S16384x64 (constant S_ .f32 0x00000000#32) : FVec Ideal S16384x64 .f32)⟩] concatenates_S16384x128_S16384x64_S16384x64_S16384x256_d1) bitsLt_bf16_f32

/-- The values. -/
def vvT (x : FVec Ideal S16384x128 .f32) : FVec Ideal S16384x256 .bf16 :=
  truncf .bf16 (concatenate S16384x256 1 [⟨S16384x128, x⟩, ⟨S16384x1, (broadcastInDim S16384x1 ![] bcast_S_S16384x1 (constant S_ .f32 0x3F800000#32) : FVec Ideal S16384x1 .f32)⟩, ⟨S16384x127, (broadcastInDim S16384x127 ![] bcast_S_S16384x127 (constant S_ .f32 0x00000000#32) : FVec Ideal S16384x127 .f32)⟩] concatenates_S16384x128_S16384x1_S16384x127_S16384x256_d1) bitsLt_bf16_f32

theorem AQ_eq : AQ m c = qqT (qaT (m ((c : Thread nD τ).loc main_arg0)) (m ((c : Thread nD τ).loc main_arg3))) (qrT (m ((c : Thread nD τ).loc main_arg0))) facT := by
  show StableHlo.after hostOps0 _ _ = _
  after_results_simp <;> (try dsimp only [Matrix.cons_val]) <;> (try after_results_simp) <;> rfl

theorem AK_eq : AK m c = kkT (m ((c : Thread nD τ).loc main_arg1)) (m ((c : Thread nD τ).loc main_arg2)) := by
  show StableHlo.after hostOps0 _ _ = _
  after_results_simp <;> (try dsimp only [Matrix.cons_val]) <;> (try after_results_simp) <;> rfl

theorem AV_eq : AV m c = vvT (m ((c : Thread nD τ).loc main_arg1)) := by
  show StableHlo.after hostOps0 _ _ = _
  after_results_simp <;> (try dsimp only [Matrix.cons_val]) <;> (try after_results_simp) <;> rfl

theorem AW_eq : AW m c = wuvT (m ((c : Thread nD τ).loc main_arg3)) := by
  show StableHlo.after hostOps0 _ _ = _
  after_results_simp <;> rfl

theorem wukT_at (w : FVec Ideal S1x128x1024 .f32) (h : Fin 4) (d i : Fin 128) : wukT w (ix3 h d i) = w (ix3 0 i ⟨256 * h.val + d.val, by omega⟩) := by
  unfold wukT wkvT
  pointwise
  refine congrArg (fun z => w (ix3 0 i z)) (Fin.ext ?_)
  show h.val * 256 + d.val = 256 * h.val + d.val
  omega

theorem wuvT_at (w : FVec Ideal S1x128x1024 .f32) (h : Fin 4) (i l : Fin 128) : wuvT w (ix3 h i l) = w (ix3 0 i ⟨256 * h.val + (128 + l.val), by omega⟩) := by
  unfold wuvT wkvT
  pointwise
  refine congrArg (fun z => w (ix3 0 i z)) (Fin.ext ?_)
  show h.val * 256 + (128 + l.val) = 256 * h.val + (128 + l.val)
  omega

theorem facT_at (y : S1x1x1.Idx) : facT y = Ideal.div (Ideal.rsqrt (Ideal.ofBits .f32 0x43400000#32)) (Ideal.log (Ideal.ofBits .f32 0x40000000#32)) := rfl

theorem qaT_at (q : FVec Ideal S16384x4x192 .f32) (w : FVec Ideal S1x128x1024 .f32) (h : Fin 4) (z : Fin 16384) (i : Fin 128) :
    qaT q w (ix3 h z i) = ∑ d : Fin 128, q (ix3 z h ⟨d.val, by omega⟩) * wukT w (ix3 h d i) := by
  unfold qaT
  pointwise
  rfl

theorem qrT_at (q : FVec Ideal S16384x4x192 .f32) (h : Fin 4) (z : Fin 16384) (e : Fin 64) : qrT q (ix3 h z e) = q (ix3 z h ⟨128 + e.val, by omega⟩) := by
  unfold qrT
  pointwise
  rfl

theorem qqT_at (a : FVec Ideal S4x16384x128 .f32) (b : FVec Ideal S4x16384x64 .f32) (f : FVec Ideal S1x1x1 .f32) (h : Fin 4) (z : Fin 16384) (d : Fin 256) :
    qqT a b f (ix3 h z d) = (if hd : d.val < 128 then a (ix3 h z ⟨d.val, hd⟩) else if hd : d.val - 128 < 64 then b (ix3 h z ⟨d.val - 128, hd⟩) else 0) * f (ix3 0 0 0) := by
  unfold qqT
  pointwise
  rfl

theorem kkT_at (x : FVec Ideal S16384x128 .f32) (p : FVec Ideal S16384x64 .f32) (z : Fin 16384) (d : Fin 256) :
    kkT x p (ix2 z d) = if hd : d.val < 128 then x (ix2 z ⟨d.val, hd⟩) else if hd : d.val - 128 < 64 then p (ix2 z ⟨d.val - 128, hd⟩) else 0 := by
  unfold kkT
  pointwise
  rfl

theorem vvT_at (x : FVec Ideal S16384x128 .f32) (z : Fin 16384) (d : Fin 256) :
    vvT x (ix2 z d) = if hd : d.val < 128 then x (ix2 z ⟨d.val, hd⟩) else if d.val - 128 < 1 then 1 else 0 := by
  unfold vvT
  pointwise
  rfl

/-- A sum over 256 in its three pieces. -/
theorem sum_pieces (f : Fin 256 → EReal) : ∑ d : Fin 256, f d = ∑ d : Fin 128, f ⟨d.val, by omega⟩ + (∑ d : Fin 64, f ⟨128 + d.val, by omega⟩ + ∑ d : Fin 64, f ⟨192 + d.val, by omega⟩) := by
  have e1 := Fin.sum_univ_add (a := 128) (b := 128) f
  have e2 := Fin.sum_univ_add (a := 64) (b := 64) fun d => f (Fin.natAdd 128 d)
  rw [e1, e2]
  refine congrArg₂ (· + ·) rfl (congrArg₂ (· + ·) rfl (Finset.sum_congr rfl fun d _ => congrArg f (Fin.ext ?_)))
  show 128 + (64 + d.val) = 192 + d.val
  omega

end Cert.AttnIdeal.Exact

end
-- ==== Proof.AttnMax.lean ====
/-
  Hand-written. The maximum over one axis of an array of reals is a real.
-/
module

public import proofs.«01_k».proof.Proof.Gen.AttnReferenceIdeal.Run
public import proofs.«01_k».proof.Proof.AttnReal

@[expose] public section

noncomputable section

namespace Cert.AttnReferenceIdeal.Entry

open Cert.AttnReferenceIdeal Cert.AttnReferenceIdeal.Gen
open Idealize.ShloMosaic
open Cert.AttnIdeal.Exact (fold_real ofBits_bot)

/-- The two maxima, of the axis and with the first value again, at any shapes. -/
theorem max_real {s t u : Shape} {a : Fin s.rank} (x : FVec Ideal s .f32) (y : FVec Ideal t .f32) (init : FVec Ideal u .f32) (h' : s.ReducesTo [a] t) (h : s.Reduces [a] t) (hu : 0 < u.numel) (h0 : 0 < s.size a)
    (hi : ∀ k, init k = ⊥) (hy : ∀ k, y k = ⊥) (hx : ∀ k, ∃ r : ℝ, x k = (r : EReal)) (j : t.Idx) :
    ∃ M : ℝ, maximumf y (Host.reduce FloatOps.maximumf x init h' hu) j = (M : EReal) := by
  choose f hf using hx
  have e : Host.reduce (FloatOps.maximumf (F := Ideal) (φ := .f32)) x init h' hu j = (Finset.univ : Finset (Fin (s.size a))).fold max ⊥ (fun k => ((f (h.lift j k) : ℝ) : EReal)) := by
    refine (Host.reduce_eq_fold_single (FloatOps.maximumf (F := Ideal) (φ := .f32)) x init h' h hu j).trans ?_
    rw [hi]
    exact congrArg (fun g => Finset.fold max (⊥ : EReal) g Finset.univ) (funext fun k => hf (h.lift j k))
  have e2 : maximumf y (Host.reduce FloatOps.maximumf x init h' hu) j = max (y j) (Host.reduce (FloatOps.maximumf (F := Ideal) (φ := .f32)) x init h' hu j) := rfl
  rw [e2, e, hy]
  rcases fold_real (fun k => f (h.lift j k)) Finset.univ with ⟨h1, -⟩ | ⟨M, h1⟩
  · exact absurd (Finset.mem_univ (⟨0, h0⟩ : Fin (s.size a))) (h1 ▸ Finset.notMem_empty _)
  · exact ⟨M, by rw [h1]; exact max_eq_right bot_le⟩

/-- The softmax's maxima. -/
def maxT (s : FVec Ideal S2x4x8192x8192 .f32) : FVec Ideal S2x4x8192 .f32 :=
  maximumf (broadcastInDim S2x4x8192 ![] bcast_S_S2x4x8192 (constant S_ .f32 0xFF800000#32)) (Host.reduce FloatOps.maximumf s (constant S_ .f32 0xFF800000#32) reducesTo_S2x4x8192x8192_S2x4x8192_d3 h_S_)

theorem reduces_last : Shape.Reduces S2x4x8192x8192 [3] S2x4x8192 :=
  ⟨rfl, Nat.succ_pos 2, reducesTo_S2x4x8192x8192_S2x4x8192_d3.2⟩

theorem maxT_real (s : FVec Ideal S2x4x8192x8192 .f32) (hs : ∀ y, ∃ x : ℝ, s y = (x : EReal)) (j : S2x4x8192.Idx) : ∃ M : ℝ, maxT s j = (M : EReal) := by
  unfold maxT
  exact max_real s _ _ _ reduces_last _ (show 0 < 8192 by omega) (fun _ => ofBits_bot) (fun _ => ofBits_bot) hs j

end Cert.AttnReferenceIdeal.Entry
-- ==== Proof.AttnRef.lean ====
/-
  Hand-written. The reference's lines of the latent attention over the extended reals, entry by entry.
-/
module

public import proofs.«01_k».proof.Proof.Gen.AttnReferenceIdeal.Run
public import proofs.«01_k».proof.Proof.AttnBlk
public import proofs.«01_k».proof.Proof.AttnMax

@[expose] public section

set_option maxRecDepth 8192

noncomputable section

namespace Cert.AttnReferenceIdeal.Entry

open Cert.AttnReferenceIdeal Cert.AttnReferenceIdeal.Gen
open Idealize.ShloMosaic hiding ix1 ix2 ix3 ix4
open Idealize.ShloMosaic.ValueIdx
open Idealize.ShloMosaic.TcCoe
open Cert.AttnIdeal.Exact (keyOf)

/-- The up-projected keys and values of a batch. -/
def kvT (x : FVec Ideal S16384x128 .f32) (w : FVec Ideal S1x128x1024 .f32) : FVec Ideal S2x8192x4x256 .f32 :=
  shapeCast S2x8192x4x256 (Host.dotGeneral dot_S16384x128_S128x1024_S16384x1024_1_0_0_1_n_n none x (shapeCast S128x1024 w shapeCasts_S1x128x1024_S128x1024)) shapeCasts_S16384x1024_S2x8192x4x256

theorem kvT_at (x : FVec Ideal S16384x128 .f32) (w : FVec Ideal S1x128x1024 .f32) (b : Fin 2) (n : Fin 8192) (h : Fin 4) (e : Fin 256) :
    kvT x w (ix4 b n h e) = ∑ i : Fin 128, x (ix2 (keyOf b n) i) * w (ix3 0 i ⟨256 * h.val + e.val, by omega⟩) := by
  unfold kvT
  pointwise
  refine Finset.sum_congr rfl fun i _ => congrArg₂ (· * ·) (congrArg (fun z => x (ix2 z i)) (Fin.ext ?_)) (congrArg (fun z => w (ix3 0 i z)) (Fin.ext ?_))
  · show b.val * 8192 + n.val = 8192 * b.val + n.val; omega
  · show h.val * 256 + e.val = 256 * h.val + e.val; omega

/-- The scores. -/
def scoreT (q : FVec Ideal S16384x4x192 .f32) (kv : FVec Ideal S2x8192x4x256 .f32) (p : FVec Ideal S16384x64 .f32) : FVec Ideal S2x4x8192x8192 .f32 :=
  mulf (Host.dotGeneral dot_S2x8192x4x192_S2x8192x4x192_S2x4x8192x8192_3_3_1_1_02_02 none (shapeCast S2x8192x4x192 q shapeCasts_S16384x4x192_S2x8192x4x192)
    (concatenate S2x8192x4x192 3 [⟨S2x8192x4x128, extractStridedSlice S2x8192x4x128 ![0, 0, 0, 0] kv slices_S2x8192x4x256_S2x8192x4x128_0_0_0_0⟩,
      ⟨S2x8192x4x64, broadcastInDim S2x8192x4x64 ![0, 1, 2, 3] bcast_S2x8192x1x64_S2x8192x4x64_0_1_2_3 (shapeCast S2x8192x1x64 p shapeCasts_S16384x64_S2x8192x1x64)⟩] concatenates_S2x8192x4x128_S2x8192x4x64_S2x8192x4x192_d3))
    (broadcastInDim S2x4x8192x8192 ![] bcast_S_S2x4x8192x8192 (Host.rsqrt (constant S_ .f32 0x43400000#32)))

theorem scoreT_at (q : FVec Ideal S16384x4x192 .f32) (kv : FVec Ideal S2x8192x4x256 .f32) (p : FVec Ideal S16384x64 .f32) (b : Fin 2) (h : Fin 4) (i n : Fin 8192) :
    scoreT q kv p (ix4 b h i n) = (∑ d : Fin 128, q (ix3 (keyOf b i) h ⟨d.val, by omega⟩) * kv (ix4 b n h ⟨d.val, by omega⟩)
      + ∑ d : Fin 64, q (ix3 (keyOf b i) h ⟨128 + d.val, by omega⟩) * p (ix2 (keyOf b n) d)) * Ideal.rsqrt (Ideal.ofBits .f32 0x43400000#32) := by
  unfold scoreT
  pointwise
  have hz : ∀ (k : Fin 8192) (hk : b.val * 8192 + k.val < 16384), (⟨b.val * 8192 + k.val, hk⟩ : Fin 16384) = keyOf b k := fun k hk => Fin.ext (show b.val * 8192 + k.val = 8192 * b.val + k.val by omega)
  refine congrArg (· * Ideal.rsqrt (Ideal.ofBits .f32 0x43400000#32)) (congrArg₂ (· + ·) (Finset.sum_congr rfl fun d _ => ?_) (Finset.sum_congr rfl fun d _ => ?_))
  · exact congrArg (fun z => q (ix3 z h ⟨d.val, by omega⟩) * kv (ix4 b n h ⟨d.val, by omega⟩)) (hz i (by omega))
  · exact congrArg₂ (fun z z' => q (ix3 z h ⟨128 + d.val, by omega⟩) * p (ix2 z' d)) (hz i (by omega)) (hz n (by omega))

/-- Its exponentials. -/
def expT (s : FVec Ideal S2x4x8192x8192 .f32) (M : FVec Ideal S2x4x8192 .f32) : FVec Ideal S2x4x8192x8192 .f32 :=
  Host.exp (subf s (broadcastInDim S2x4x8192x8192 ![0, 1, 2, 3] bcast_S2x4x8192x1_S2x4x8192x8192_0_1_2_3 (broadcastInDim S2x4x8192x1 ![0, 1, 2] bcast_S2x4x8192_S2x4x8192x1_0_1_2 M)))

theorem expT_at (s : FVec Ideal S2x4x8192x8192 .f32) (M : FVec Ideal S2x4x8192 .f32) (b : Fin 2) (h : Fin 4) (i n : Fin 8192) :
    expT s M (ix4 b h i n) = Ideal.exp (s (ix4 b h i n) - M (ix3 b h i)) := by
  unfold expT
  pointwise
  rfl

/-- Its quotients. -/
def divT (e : FVec Ideal S2x4x8192x8192 .f32) : FVec Ideal S2x4x8192x8192 .f32 :=
  Host.divf e (broadcastInDim S2x4x8192x8192 ![0, 1, 2, 3] bcast_S2x4x8192x1_S2x4x8192x8192_0_1_2_3 (broadcastInDim S2x4x8192x1 ![0, 1, 2] bcast_S2x4x8192_S2x4x8192x1_0_1_2
    (Host.reduceAdd e (constant S_ .f32 0x00000000#32) reducesTo_S2x4x8192x8192_S2x4x8192_d3 h_S_)))

theorem divT_at (e : FVec Ideal S2x4x8192x8192 .f32) (b : Fin 2) (h : Fin 4) (i n : Fin 8192) :
    divT e (ix4 b h i n) = Ideal.div (e (ix4 b h i n)) (∑ k : Fin 8192, e (ix4 b h i k)) := by
  unfold divT
  pointwise
  rfl

/-- The heads' outputs, side by side. -/
def outT (kv : FVec Ideal S2x8192x4x256 .f32) (p : FVec Ideal S2x4x8192x8192 .f32) : FVec Ideal S16384x512 .f32 :=
  shapeCast S16384x512 (transpose S2x8192x4x128 [0, 3, 1, 2] (Host.dotGeneral dot_S2x8192x4x128_S2x4x8192x8192_S2x4x128x8192_1_3_3_2_02_01 none
    (extractStridedSlice S2x8192x4x128 ![0, 0, 0, 128] kv slices_S2x8192x4x256_S2x8192x4x128_0_0_0_128) p) transposes_S2x4x128x8192_S2x8192x4x128_0_3_1_2) shapeCasts_S2x8192x4x128_S16384x512

theorem outT_at (kv : FVec Ideal S2x8192x4x256 .f32) (p : FVec Ideal S2x4x8192x8192 .f32) (b : Fin 2) (i : Fin 8192) (h : Fin 4) (l : Fin 128) (j : Fin 512) (hj : j.val = 128 * h.val + l.val) :
    outT kv p (ix2 (keyOf b i) j) = ∑ n : Fin 8192, kv (ix4 b n h ⟨128 + l.val, by omega⟩) * p (ix4 b h i n) := by
  unfold outT
  pointwise
  have e0 : (keyOf b i).val / 8192 = b.val := by show (8192 * b.val + i.val) / 8192 = b.val; omega
  have e1 : (keyOf b i).val % 8192 = i.val := by show (8192 * b.val + i.val) % 8192 = i.val; omega
  refine Finset.sum_congr rfl fun n _ => congrArg₂ (· * ·) (congrArg kv (funext fun a => Fin.ext ?_)) (congrArg p (funext fun a => Fin.ext ?_))
  · match a with
    | ⟨0, _⟩ => exact e0
    | ⟨1, _⟩ => rfl
    | ⟨2, _⟩ => show j.val / 128 = h.val; omega
    | ⟨3, _⟩ => show 128 + j.val % 128 = 128 + l.val; omega
  · match a with
    | ⟨0, _⟩ => exact e0
    | ⟨1, _⟩ => show j.val / 128 = h.val; omega
    | ⟨2, _⟩ => exact e1
    | ⟨3, _⟩ => rfl

theorem res_eq (m : (ℓ : Loc nD τ sig) → Buf (Elt Ideal) ℓ) (c : Dev nD) (q : FVec Ideal S16384x4x192 .f32) (x : FVec Ideal S16384x128 .f32) (p : FVec Ideal S16384x64 .f32) (w : FVec Ideal S1x128x1024 .f32)
    (h0 : m ((c.tc : Thread nD τ).loc main_arg0) = q) (h1 : m ((c.tc : Thread nD τ).loc main_arg1) = x) (h2 : m ((c.tc : Thread nD τ).loc main_arg2) = p) (h3 : m ((c.tc : Thread nD τ).loc main_arg3) = w) :
    Value.res_main_v27 (F := Ideal) m c = outT (kvT x w) (divT (expT (scoreT q (kvT x w) p) (maxT (scoreT q (kvT x w) p)))) := by
  unfold Value.res_main_v27
  rw [h0, h1, h2, h3]
  rfl

end Cert.AttnReferenceIdeal.Entry

end
-- ==== Proof.AttnScore.lean ====
/-
  Hand-written. Over real arguments: the call's scores are the reference's over the logarithm of two, and the reference's entries as one real sum.
-/
module

public import proofs.«01_k».proof.Proof.AttnHost
public import proofs.«01_k».proof.Proof.AttnRef

@[expose] public section

set_option maxRecDepth 8192

noncomputable section

namespace Cert.AttnIdeal.Exact

open Cert.AttnIdeal Cert.AttnIdeal.Gen
open Idealize.ShloMosaic hiding ix1 ix2 ix3 ix4
open Idealize.ShloMosaic.ValueIdx
open Cert.AttnReferenceIdeal.Entry

/-- The real numbers of an array, as an array over the extended reals. -/
def up {s : Shape} (f : s.Idx → ℝ) : FVec Ideal s .f32 := fun y => ((f y : ℝ) : EReal)

theorem up_apply {s : Shape} (f : s.Idx → ℝ) (y : s.Idx) : up f y = ((f y : ℝ) : EReal) := rfl

theorem exists_up {s : Shape} (X : FVec Ideal s .f32) (h : ∀ y, ∃ r : ℝ, X y = (r : EReal)) : ∃ f : s.Idx → ℝ, X = up f := by
  choose f hf using h
  exact ⟨f, funext hf⟩

variable (q : S16384x4x192.Idx → ℝ) (x : S16384x128.Idx → ℝ) (p : S16384x64.Idx → ℝ) (w : S1x128x1024.Idx → ℝ)

/-- A key's up-projection. -/
def kvr (b : Fin 2) (n : Fin 8192) (h : Fin 4) (e : Fin 256) : ℝ := ∑ i : Fin 128, x (ix2 (keyOf b n) i) * w (ix3 0 i ⟨256 * h.val + e.val, by omega⟩)

/-- A score. -/
def scr (b : Fin 2) (h : Fin 4) (z : Fin 16384) (n : Fin 8192) : ℝ :=
  (∑ d : Fin 128, q (ix3 z h ⟨d.val, by omega⟩) * kvr x w b n h ⟨d.val, by omega⟩ + ∑ d : Fin 64, q (ix3 z h ⟨128 + d.val, by omega⟩) * p (ix2 (keyOf b n) d)) * (Real.sqrt 192)⁻¹

theorem rsqrt_192 : Ideal.rsqrt (Ideal.ofBits .f32 0x43400000#32) = (((Real.sqrt 192)⁻¹ : ℝ) : EReal) := by
  rw [ofBits_192, Ideal.rsqrt_coe, if_neg (by norm_num), if_neg (by norm_num)]

theorem log_two : Ideal.log (Ideal.ofBits .f32 0x40000000#32) = ((Real.log 2 : ℝ) : EReal) := by
  rw [ofBits_2, Ideal.log_coe, if_neg (by norm_num)]

theorem log_two_ne : Real.log 2 ≠ 0 := (Real.log_pos (by norm_num)).ne'

theorem fac_real (y : S1x1x1.Idx) : facT y = (((Real.sqrt 192)⁻¹ / Real.log 2 : ℝ) : EReal) := by
  rw [facT_at, rsqrt_192, log_two, div_real _ _ log_two_ne]

theorem qq_low (h : Fin 4) (z : Fin 16384) (d : Fin 128) (hd : d.val < 256) :
    qqT (qaT (up q) (up w)) (qrT (up q)) facT (ix3 h z ⟨d.val, hd⟩) = (((∑ n : Fin 128, q (ix3 z h ⟨n.val, by omega⟩) * w (ix3 0 d ⟨256 * h.val + n.val, by omega⟩)) * ((Real.sqrt 192)⁻¹ / Real.log 2) : ℝ) : EReal) := by
  rw [qqT_at, dif_pos (show d.val < 128 from d.isLt), fac_real]
  refine (congrArg (· * _) (qaT_at (up q) (up w) h z d)).trans ?_
  simp only [wukT_at, up_apply, ← EReal.coe_mul, coe_sum]

theorem qq_mid (h : Fin 4) (z : Fin 16384) (d : Fin 64) (hd : 128 + d.val < 256) :
    qqT (qaT (up q) (up w)) (qrT (up q)) facT (ix3 h z ⟨128 + d.val, hd⟩) = ((q (ix3 z h ⟨128 + d.val, by omega⟩) * ((Real.sqrt 192)⁻¹ / Real.log 2) : ℝ) : EReal) := by
  have e : 128 + d.val - 128 = d.val := by omega
  rw [qqT_at, dif_neg (show ¬ 128 + d.val < 128 by omega), dif_pos (show 128 + d.val - 128 < 64 by omega), fac_real, EReal.coe_mul]
  refine congrArg (· * _) ((qrT_at (up q) h z _).trans ?_)
  exact congrArg (fun y => ((q (ix3 z h y) : ℝ) : EReal)) (Fin.ext (congrArg (128 + ·) e))

theorem kk_low (z : Fin 16384) (d : Fin 128) (hd : d.val < 256) : kkT (up x) (up p) (ix2 z ⟨d.val, hd⟩) = ((x (ix2 z d) : ℝ) : EReal) := by
  rw [kkT_at, dif_pos (show d.val < 128 from d.isLt)]
  rfl

theorem kk_mid (z : Fin 16384) (d : Fin 64) (hd : 128 + d.val < 256) : kkT (up x) (up p) (ix2 z ⟨128 + d.val, hd⟩) = ((p (ix2 z d) : ℝ) : EReal) := by
  rw [kkT_at, dif_neg (show ¬ 128 + d.val < 128 by omega), dif_pos (show 128 + d.val - 128 < 64 by omega)]
  exact congrArg (fun y => ((p (ix2 z y) : ℝ) : EReal)) (Fin.ext (show 128 + d.val - 128 = d.val by omega))

theorem kk_high (z : Fin 16384) (d : Fin 64) (hd : 192 + d.val < 256) : kkT (up x) (up p) (ix2 z ⟨192 + d.val, hd⟩) = 0 := by
  rw [kkT_at, dif_neg (show ¬ 192 + d.val < 128 by omega), dif_neg (show ¬ 192 + d.val - 128 < 64 by omega)]

/-- The absorbed queries against the keys: the weights move from one side of the product to the other. -/
theorem absorb (a : Fin 128 → ℝ) (W : Fin 128 → Fin 128 → ℝ) (y : Fin 128 → ℝ) (f : ℝ) :
    ∑ i : Fin 128, (∑ d : Fin 128, a d * W i d) * f * y i = (∑ d : Fin 128, a d * ∑ i : Fin 128, y i * W i d) * f := by
  simp only [Finset.sum_mul, Finset.mul_sum]
  rw [Finset.sum_comm]
  exact Finset.sum_congr rfl fun d _ => Finset.sum_congr rfl fun i _ => by ring

theorem score_real (b : Fin 2) (h : Fin 4) (z : Fin 16384) (n : Fin 8192) :
    score (fun d => qqT (qaT (up q) (up w)) (qrT (up q)) facT (ix3 h z d)) (fun d => kkT (up x) (up p) (ix2 (keyOf b n) d)) = ((scr q x p w b h z n / Real.log 2 : ℝ) : EReal) := by
  unfold score
  rw [sum_pieces]
  simp only [qq_low, qq_mid, kk_low, kk_mid, kk_high, mul_zero, Finset.sum_const_zero, add_zero, ← EReal.coe_mul, coe_sum, ← EReal.coe_add]
  refine congrArg (fun r : ℝ => (r : EReal)) ?_
  refine (congrArg (· + _) (absorb (fun d => q (ix3 z h ⟨d.val, by omega⟩)) (fun i d => w (ix3 0 i ⟨256 * h.val + d.val, by omega⟩)) (fun i => x (ix2 (keyOf b n) i)) _)).trans ?_
  unfold scr kvr
  have e : ∀ d : Fin 64, q (ix3 z h ⟨128 + d.val, by omega⟩) * ((Real.sqrt 192)⁻¹ / Real.log 2) * p (ix2 (keyOf b n) d)
      = q (ix3 z h ⟨128 + d.val, by omega⟩) * p (ix2 (keyOf b n) d) * ((Real.sqrt 192)⁻¹ / Real.log 2) := fun d => by ring
  simp only [e]
  rw [← Finset.sum_mul]
  ring

theorem kv_real (b : Fin 2) (n : Fin 8192) (h : Fin 4) (e : Fin 256) : kvT (up x) (up w) (ix4 b n h e) = ((kvr x w b n h e : ℝ) : EReal) := by
  rw [kvT_at]
  simp only [up_apply, ← EReal.coe_mul, coe_sum]
  rfl

theorem sc_real (b : Fin 2) (h : Fin 4) (i n : Fin 8192) : scoreT (up q) (kvT (up x) (up w)) (up p) (ix4 b h i n) = ((scr q x p w b h (keyOf b i) n : ℝ) : EReal) := by
  rw [scoreT_at, rsqrt_192]
  simp only [kv_real, up_apply, ← EReal.coe_mul, coe_sum, ← EReal.coe_add]
  rfl

/-- An entry of the reference. -/
theorem ref_real (b : Fin 2) (i : Fin 8192) (h : Fin 4) (l : Fin 128) (j : Fin 512) (hj : j.val = 128 * h.val + l.val) : ∃ M : ℝ,
    outT (kvT (up x) (up w)) (divT (expT (scoreT (up q) (kvT (up x) (up w)) (up p)) (maxT (scoreT (up q) (kvT (up x) (up w)) (up p))))) (ix2 (keyOf b i) j)
      = ((∑ n : Fin 8192, kvr x w b n h ⟨128 + l.val, by omega⟩ * (Real.exp (scr q x p w b h (keyOf b i) n - M) / ∑ k : Fin 8192, Real.exp (scr q x p w b h (keyOf b i) k - M)) : ℝ) : EReal) := by
  obtain ⟨M, hM⟩ := maxT_real (scoreT (up q) (kvT (up x) (up w)) (up p)) (fun y => ⟨_, (congrArg _ (ValueIdx.eq_ix4 (n0 := 2) (n1 := 4) (n2 := 8192) (n3 := 8192) y)).trans (sc_real q x p w (y 0) (y 1) (y 2) (y 3))⟩) (ix3 b h i)
  refine ⟨M, ?_⟩
  rw [outT_at _ _ b i h l j hj]
  simp only [divT_at, expT_at, hM, sc_real, exp_real, kv_real, coe_sum, div_real _ _ (exps_pos _ _), ← EReal.coe_mul]

end Cert.AttnIdeal.Exact

end
-- ==== Proof.ValidAttn.lean ====
/-
  Hand-written. What the precondition says of the latent attention's arguments: every entry is a real number.
-/
module

public import proofs.«01_k».proof.Pre_valid_attn
public import Idealize.ShloMosaic.Lib.ReduceAll
public import Idealize.ShloMosaic.Lib.StableHlo.Predicate
public import Idealize.ShloMosaic.PureOps.Ideal.Laws

@[expose] public section

noncomputable section

namespace Cert.Pre_valid_attn.Hand

open Cert.Pre_valid_attn Idealize.ShloMosaic

theorem facts : Cert.Pre_valid_attn.Facts where
  bcast_S_S16384x4x192 := by decide
  reducesTo_S16384x4x192_S_d0_1_2 := by decide
  h_S_ := by decide
  bcast_S_S16384x128 := by decide
  reducesTo_S16384x128_S_d0_1 := by decide
  bcast_S_S16384x64 := by decide
  reducesTo_S16384x64_S_d0_1 := by decide
  bcast_S_S1x128x1024 := by decide
  reducesTo_S1x128x1024_S_d0_1_2 := by decide

theorem andi_one (p q : BitVec 1) (h : IntOp.andi p q = 1#1) : p = 1#1 ∧ q = 1#1 := by
  revert p q
  decide

theorem ofBits_top : Ideal.ofBits .f32 0x7F800000#32 = ⊤ := by
  simp [Ideal.ofBits, Ideal.ieee]

/-- A number whose size is below infinity is a real. -/
theorem real_of (a : EReal) (h : Ideal.cmp .olt (max a (-a)) (Ideal.ofBits .f32 0x7F800000#32) = 1#1) : ∃ r : ℝ, a = (r : EReal) := by
  have h1 : BitVec.ofBool (decide (max a (-a) < Ideal.ofBits .f32 0x7F800000#32)) = 1#1 := h
  rw [StableHlo.Predicate.ofBool_eq_one_iff, decide_eq_true_eq, ofBits_top, max_lt_iff] at h1
  refine ⟨a.toReal, (EReal.coe_toReal h1.1.ne ?_).symm⟩
  rintro rfl
  exact absurd h1.2 (by simp)

/-- The same of an array, of which every answer is yes. -/
theorem reals_of {s u : Shape} {dims : List (Fin s.rank)} (x : FVec Ideal s .f32) (b : FVec Ideal s .f32) (hb : ∀ y, b y = Ideal.ofBits .f32 0x7F800000#32) (init : IVec u 1) (hr : s.ReducesTo dims S_) (hu : 0 < u.numel)
    (j : S_.Idx) (h : Host.reduce IntOp.andi (cmpf .olt (Host.absf x) b) init hr hu j = 1#1) (y : s.Idx) : ∃ r : ℝ, x y = (r : EReal) := by
  haveI : Subsingleton S_.Idx := ⟨fun a b => funext fun k => k.elim0⟩
  have e : Ideal.cmp .olt (max (x y) (-(x y))) (b y) = 1#1 := Host.reduce_andi_all _ _ _ _ _ h y
  rw [hb] at e
  exact real_of _ e

/-- The precondition, taken apart. -/
theorem of_valid [Cert.Pre_valid_attn.Facts] (q : FVec Ideal S16384x4x192 .f32) (x : FVec Ideal S16384x128 .f32) (p : FVec Ideal S16384x64 .f32) (w : FVec Ideal S1x128x1024 .f32) (e : fn (F := Ideal) q x p w = fun _ => 1#1) :
    ((∀ y, ∃ r : ℝ, q y = (r : EReal)) ∧ ∀ y, ∃ r : ℝ, x y = (r : EReal)) ∧ (∀ y, ∃ r : ℝ, p y = (r : EReal)) ∧ ∀ y, ∃ r : ℝ, w y = (r : EReal) := by
  have e1 := andi_one _ _ (congrFun e (Shape.Idx.first Facts.h_S_))
  have e2 := andi_one _ _ e1.1
  have e3 := andi_one _ _ e2.1
  exact ⟨⟨reals_of q _ (fun _ => rfl) _ _ _ _ e3.1, reals_of x _ (fun _ => rfl) _ _ _ _ e3.2⟩, reals_of p _ (fun _ => rfl) _ _ _ _ e2.2, reals_of w _ (fun _ => rfl) _ _ _ _ e1.2⟩

end Cert.Pre_valid_attn.Hand

end
-- ==== Proof.AttnAlg.lean ====
/-
  Hand-written. The latent attention's call and the reference's lines give the same array over the extended reals, where the arguments are real.
-/
module

public import proofs.«01_k».proof.Defs
public import proofs.«01_k».proof.Proof.AttnScore
public import proofs.«01_k».proof.Proof.ValidAttn

@[expose] public section

set_option maxRecDepth 8192

noncomputable section

namespace Cert.AttnIdeal.Exact

open Cert.AttnIdeal Cert.AttnIdeal.Gen
open Idealize.ShloMosaic hiding ix1 ix2 ix3 ix4
open Idealize.ShloMosaic.ValueIdx
open Idealize.ShloMosaic.TcCoe
open Cert.AttnReferenceIdeal.Entry

/-- The key a number names. -/
def nth (n : ℕ) : Fin 8192 := ⟨n % 8192, Nat.mod_lt _ (by decide)⟩

theorem nth_val (k : Fin 8192) : nth k.val = k := Fin.ext (Nat.mod_eq_of_lt k.isLt)

/-- The values' entries. -/
def vr (x : S16384x128.Idx → ℝ) (b : Fin 2) (n : ℕ) (d : Fin 256) : ℝ :=
  if hd : d.val < 128 then x (ix2 (keyOf b (nth n)) ⟨d.val, hd⟩) else if d.val - 128 < 1 then 1 else 0

theorem vr_real (x : S16384x128.Idx → ℝ) (b : Fin 2) (n : Fin 8192) (d : Fin 256) : vvT (up x) (ix2 (keyOf b n) d) = ((vr x b n.val d : ℝ) : EReal) := by
  rw [vvT_at]
  unfold vr
  rw [nth_val]
  split_ifs <;> rfl

theorem vr_low (x : S16384x128.Idx → ℝ) (b : Fin 2) (k : Fin 8192) (a : Fin 128) (h : a.val < 256) : vr x b k.val ⟨a.val, h⟩ = x (ix2 (keyOf b k) a) := by
  unfold vr
  rw [dif_pos (show a.val < 128 from a.isLt), nth_val]

theorem vr_one (x : S16384x128.Idx → ℝ) (b : Fin 2) (n : ℕ) : vr x b n 128 = 1 := by
  unfold vr
  rw [dif_neg (show ¬ (128 : Fin 256).val < 128 by decide), if_pos (by decide)]

theorem key_batch (z : Fin 16384) : keyOf (batch z) ⟨z.val % 8192, Nat.mod_lt _ (by decide)⟩ = z :=
  Fin.ext (show 8192 * (z.val / 8192) + z.val % 8192 = z.val by omega)

variable (m : (ℓ : Loc nD τ sig) → Buf (Elt Ideal) ℓ) (c : Dev nD)
variable (q : S16384x4x192.Idx → ℝ) (x : S16384x128.Idx → ℝ) (p : S16384x64.Idx → ℝ) (w : S1x128x1024.Idx → ℝ)

/-- The reference's result. -/
def refT (q : FVec Ideal S16384x4x192 .f32) (x : FVec Ideal S16384x128 .f32) (p : FVec Ideal S16384x64 .f32) (w : FVec Ideal S1x128x1024 .f32) : FVec Ideal S16384x512 .f32 :=
  outT (kvT x w) (divT (expT (scoreT q (kvT x w) p) (maxT (scoreT q (kvT x w) p))))

/-- The call's entry, where its sums are real, is the reference's. -/
theorem entry_eq (z : Fin 16384) (j : Fin 512) (y : ℝ) :
    (∑ a : Fin 128, Ideal.div ((∑ n ∈ Finset.range 8192, (2 : ℝ) ^ (scr q x p w (batch z) ⟨j.val / 128, by omega⟩ z (nth n) / Real.log 2 - y) * vr x (batch z) n ⟨a.val, by omega⟩ : ℝ) : EReal)
      ((∑ n ∈ Finset.range 8192, (2 : ℝ) ^ (scr q x p w (batch z) ⟨j.val / 128, by omega⟩ z (nth n) / Real.log 2 - y) * vr x (batch z) n 128 : ℝ) : EReal) * wuvT (up w) (ix3 ⟨j.val / 128, by omega⟩ a (lane j)))
    = refT (up q) (up x) (up p) (up w) (ix2 z j) := by
  obtain ⟨M, hM⟩ := ref_real q x p w (batch z) ⟨z.val % 8192, Nat.mod_lt _ (by decide)⟩ ⟨j.val / 128, by omega⟩ (lane j) j (show j.val = 128 * (j.val / 128) + j.val % 128 by omega)
  rw [key_batch] at hM
  refine Eq.trans ?_ hM.symm
  simp only [Finset.sum_range, nth_val, vr_low, vr_one, div_real _ _ (weights_pos _ _), wuvT_at, up_apply, ← EReal.coe_mul, coe_sum]
  exact congrArg (fun r : ℝ => (r : EReal)) (out_real (fun k => scr q x p w (batch z) ⟨j.val / 128, by omega⟩ z k) (fun k i => x (ix2 (keyOf (batch z) k) i))
    (fun i => w (ix3 0 i ⟨256 * (j.val / 128) + (128 + (lane j).val), by have := (lane j).isLt; omega⟩)) y M)

theorem final_ref (h0 : m ((c : Thread nD τ).loc main_arg0) = up q) (h1 : m ((c : Thread nD τ).loc main_arg1) = up x) (h2 : m ((c : Thread nD τ).loc main_arg2) = up p) (h3 : m ((c : Thread nD τ).loc main_arg3) = up w) :
    (dats m 0 c).arrAt 4 cfg0.N = refT (up q) (up x) (up p) (up w) := by
  have eQ := AQ_eq m c
  have eK := AK_eq m c
  have eV := AV_eq m c
  have eW := AW_eq m c
  rw [h0, h3] at eQ
  rw [h1, h2] at eK
  rw [h1] at eV
  rw [h3] at eW
  refine final m c (fun h z n => scr q x p w (batch z) h z (nth n) / Real.log 2) (vr x) (fun h z n => ?_) (fun b n d => ?_) _ (fun z j y => ?_)
  · rw [eQ, eK, nth_val]
    exact score_real q x p w (batch z) h z n
  · rw [eV]
    exact vr_real x b n d
  · rw [eW]
    exact entry_eq q x p w z j y

end Cert.AttnIdeal.Exact

namespace Cert.Proof

open Idealize.ShloMosaic hiding ix1 ix2 ix3 ix4
open Idealize.ShloMosaic.TcCoe
open Idealize.SL.Sem
open Cert.AttnIdeal.Exact

/-- The call's array is the reference's of the same arguments. -/
theorem attn_final [Cert.Pre_valid_attn.Facts] (m : (ℓ : Loc Cert.AttnIdeal.nD Cert.AttnIdeal.τ Cert.AttnIdeal.sig) → Buf (Elt Ideal) ℓ) (hp : Cert.Pre_AttnIdeal_valid_attn m) (c : Dev Cert.AttnIdeal.nD) :
    (Cert.AttnIdeal.Gen.dats m 0 c).arrAt 4 Cert.AttnIdeal.cfg0.N
      = refT (m ((c : Thread Cert.AttnIdeal.nD Cert.AttnIdeal.τ).loc Cert.AttnIdeal.main_arg0)) (m ((c : Thread Cert.AttnIdeal.nD Cert.AttnIdeal.τ).loc Cert.AttnIdeal.main_arg1))
        (m ((c : Thread Cert.AttnIdeal.nD Cert.AttnIdeal.τ).loc Cert.AttnIdeal.main_arg2)) (m ((c : Thread Cert.AttnIdeal.nD Cert.AttnIdeal.τ).loc Cert.AttnIdeal.main_arg3)) := by
  obtain ⟨⟨r0, r1⟩, r2, r3⟩ := Cert.Pre_valid_attn.Hand.of_valid _ _ _ _ (hp c)
  obtain ⟨q, hq⟩ := exists_up _ r0
  obtain ⟨x, hx⟩ := exists_up _ r1
  obtain ⟨p, hpe⟩ := exists_up _ r2
  obtain ⟨w, hw⟩ := exists_up _ r3
  refine (final_ref m c q x p w hq hx hpe hw).trans ?_
  rw [hq, hx, hpe, hw]

theorem algebraic_attn [Cert.Pre_valid_attn.Facts] : Cert.algebraic_AttnIdeal_AttnReferenceIdeal_pre_valid_attn := by
  intro m ρ m' ρ' hp hargs
  refine ⟨fun c => refT (m ((c : Thread Cert.AttnIdeal.nD Cert.AttnIdeal.τ).loc Cert.AttnIdeal.main_arg0)) (m ((c : Thread Cert.AttnIdeal.nD Cert.AttnIdeal.τ).loc Cert.AttnIdeal.main_arg1))
        (m ((c : Thread Cert.AttnIdeal.nD Cert.AttnIdeal.τ).loc Cert.AttnIdeal.main_arg2)) (m ((c : Thread Cert.AttnIdeal.nD Cert.AttnIdeal.τ).loc Cert.AttnIdeal.main_arg3)), ?_, ?_⟩
  · refine (θ_run _ _ _).mono (fun r h c => ?_) (Cert.AttnIdeal.Value.run_blocks (F := Ideal) m ρ)
    obtain ⟨h1, ha⟩ := h c
    exact ⟨h1.trans (attn_final m hp c), ha⟩
  · refine (θ_run _ _ _).mono (fun r h c => ?_) (Cert.AttnReferenceIdeal.Value.run (F := Ideal) m' ρ')
    obtain ⟨h1, ha⟩ := h c
    obtain ⟨e0, e1, e2, e3⟩ := hargs c
    exact ⟨h1.trans (Cert.AttnReferenceIdeal.Entry.res_eq m' c _ _ _ _ e0 e1 e2 e3), ha⟩

end Cert.Proof

end
-- ==== Proof.lean ====
module

public import proofs.«01_k».proof.Defs
public import proofs.«01_k».proof.Proof.FrameP
public import proofs.«01_k».proof.Proof.FrameQ
public import proofs.«01_k».proof.Proof.FrameQI
public import proofs.«01_k».proof.Proof.Gen.Kernel
public import proofs.«01_k».proof.Proof.Gen.KernelWords
public import proofs.«01_k».proof.Proof.Gen.KernelWordsIdeal
public import proofs.«01_k».proof.Proof.Gen.ReferenceIdeal
public import proofs.«01_k».proof.Proof.Gen.ReferenceIdeal.Run
public import proofs.«01_k».proof.Proof.ExactRunQI
public import proofs.«01_k».proof.Proof.TileQI
public import proofs.«01_k».proof.Proof.AlgQI
public import proofs.«01_k».proof.Proof.ValidPre
public import proofs.«01_k».proof.Proof.Gen.Inproj
public import proofs.«01_k».proof.Proof.Gen.Inproj.Frame
public import proofs.«01_k».proof.Proof.Gen.InprojIdeal
public import proofs.«01_k».proof.Proof.Gen.InprojIdeal.Frame
public import proofs.«01_k».proof.Proof.Gen.InprojIdeal.Value
public import proofs.«01_k».proof.Proof.Gen.InprojReferenceIdeal
public import proofs.«01_k».proof.Proof.Gen.InprojReferenceIdeal.Run
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixIdeal.Value
public import proofs.«01_k».proof.Proof.Gen.MixReferenceIdeal
public import proofs.«01_k».proof.Proof.Gen.MixReferenceIdeal.Run
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.AttnIdeal.Value
public import proofs.«01_k».proof.Proof.Gen.AttnReferenceIdeal
public import proofs.«01_k».proof.Proof.Gen.AttnReferenceIdeal.Run
public import proofs.«01_k».proof.Proof.InprojAlg
public import proofs.«01_k».proof.Proof.MixAlg
public import proofs.«01_k».proof.Proof.AttnAlg
public import Idealize.ShloMosaic.Lib.Claim
public import Idealize.ShloMosaic.Lib.Bf16Pair
public import Idealize.ShloMosaic.Lib.Bf16PairInverse
public import Idealize.ShloMosaic.Adequacy
public import Idealize.ShloMosaic.Init

@[expose] public section

noncomputable section

namespace Cert.Proof

open Idealize.ShloMosaic Idealize.SL.Sem

/-- The printed kernel's frame. -/
theorem frame_kernel : Cert.quiescent_Kernel := fun m ρ _ => Cert.Kernel.Hand.frame m ρ

/-- The frame of the kernel whose words are read by shifts. -/
theorem frame_words : Cert.quiescent_KernelWords := fun m ρ _ => Cert.KernelWords.Hand.frame m ρ

/-- The ideal program's frame. -/
theorem frame_ideal : Cert.quiescent_KernelWordsIdeal := fun m ρ _ => Cert.KernelWordsIdeal.Hand.frame m ρ

/-- The reference's frame: its run, its results apart; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The rules' statements: packed pairs of rows in one buffer, their packing, and their rows read back. -/
theorem preserves : Cert.preserves_KernelWords_KernelWordsIdeal :=
  open Cert.KernelWordsIdeal IdealRules.bf16_pair in
  ⟨bufferStatement S36864x2x128 S36864x1x128, packStatement S64x128, statement S64x2x128 S64x1x128, statement S512x2x128 S512x1x128,
    statement S1024x128 S512x128⟩

/-- The ideal program's frame and the reference's under the precondition: they hold without it. -/
theorem frame_ideal_valid : Cert.quiescent_KernelWordsIdeal_pre_valid (hPre_valid := Cert.Pre_valid.Hand.facts) := fun m ρ _ => Cert.KernelWordsIdeal.Hand.frame m ρ
theorem frame_reference_valid : Cert.quiescent_ReferenceIdeal_pre_valid (hPre_valid := Cert.Pre_valid.Hand.facts) := fun m ρ _ => frame_reference m ρ trivial

/-- The ideal program's result: what the first tile's last point leaves in its block. -/
theorem result_ideal (m : (ℓ : Loc Cert.KernelWordsIdeal.nD Cert.KernelWordsIdeal.τ Cert.KernelWordsIdeal.sig) → Buf (Elt Ideal) ℓ) (ρ : Dev Cert.KernelWordsIdeal.nD → PrngReg) :
    θ_run (Cert.KernelWordsIdeal.defs (F := Ideal)) (onTc (τ := Cert.KernelWordsIdeal.τ) (Cert.KernelWordsIdeal.main (F := Ideal))) ⟨m, fun _ => 0, ρ⟩ (fun r => ∀ c : Dev Cert.KernelWordsIdeal.nD,
      r.2.mem ((c.tc : Thread Cert.KernelWordsIdeal.nD Cert.KernelWordsIdeal.τ).loc Cert.KernelWordsIdeal.main_v8) = Cert.KernelWordsIdeal.Exact.outN m c 7 (by omega)) :=
  (θ_run _ _ _).mono (fun r h c => ((h.1 c).2 Cert.KernelWordsIdeal.main_v8 (Pipeline.mem_restRefs_of Cert.KernelWordsIdeal.main_v8 (by decide) (by decide))).trans
    (Cert.KernelWordsIdeal.Exact.result_eq m c)) (Cert.KernelWordsIdeal.Exact.xrun_main m ρ)

/-- The two results are equal: both are the reference's function of the arguments. -/
theorem algebraic : Cert.algebraic_KernelWordsIdeal_ReferenceIdeal_pre_valid (hPre_valid := Cert.Pre_valid.Hand.facts) := by
  intro m ρ m' ρ' hpre hargs
  refine ⟨fun c => Cert.KernelWordsIdeal.Exact.outN m c 7 (by omega), ?_, ?_⟩
  · exact (θ_run _ _ _).mono (fun r h c => ⟨h.1 c, h.2.1 c⟩) (θ_run_and (result_ideal m ρ) (Cert.KernelWordsIdeal.Hand.frame m ρ))
  · refine (θ_run _ _ _).mono (fun r h c => ⟨(h c).1.trans ?_, (h c).2⟩) (Cert.ReferenceIdeal.Value.run (F := Ideal) m' ρ')
    obtain ⟨e0, e1, e2, e3, e4, e5, _, e7, e8⟩ := hargs c
    letI := Cert.Pre_valid.Hand.facts
    obtain ⟨ha, hb, hg⟩ := Cert.Pre_valid.Hand.of_valid _ _ _ _ _ _ _ _ _ (hpre c)
    refine (Cert.ReferenceIdeal.Value.res_eq m' c).trans ?_
    rw [e0, e1, e2, e3, e4, e5, e7, e8]
    exact (Cert.KernelWordsIdeal.Exact.kernel_eq_ref m c ha hb hg).symm

/-! ## The other calls: their frames, and the casts' statements -/

/-- The frames of the input projection's call, of its ideal program and of its reference. -/
theorem frame_inproj : Cert.quiescent_Inproj := fun m ρ _ => Cert.Inproj.Gen.frame m ρ
theorem frame_inproj_ideal : Cert.quiescent_InprojIdeal := fun m ρ _ => Cert.InprojIdeal.Gen.frame m ρ
theorem frame_inproj_reference : Cert.quiescent_InprojReferenceIdeal := fun m ρ _ =>
  (θ_run Cert.InprojReferenceIdeal.defs _ _).mono (fun r h => ⟨fun c => (h c).2.2.2.2, sem_eq_zero_of_no_sems (by decide) r.2⟩)
    (Cert.InprojReferenceIdeal.Value.run (F := Ideal) m ρ)

/-- The frames of the output projection's call, of its ideal program and of its reference. -/
theorem frame_mix : Cert.quiescent_Mix := fun m ρ _ => Cert.Mix.Gen.frame m ρ
theorem frame_mix_ideal : Cert.quiescent_MixIdeal := fun m ρ _ => Cert.MixIdeal.Gen.frame m ρ
theorem frame_mix_reference : Cert.quiescent_MixReferenceIdeal := fun m ρ _ =>
  (θ_run Cert.MixReferenceIdeal.defs _ _).mono (fun r h => ⟨fun c => (h c).2.2.2, sem_eq_zero_of_no_sems (by decide) r.2⟩)
    (Cert.MixReferenceIdeal.Value.run (F := Ideal) m ρ)

/-- The frames of the attention call, of its ideal program and of its reference. -/
theorem frame_attn : Cert.quiescent_Attn := fun m ρ _ => Cert.Attn.Gen.frame m ρ
theorem frame_attn_ideal : Cert.quiescent_AttnIdeal := fun m ρ _ => Cert.AttnIdeal.Gen.frame m ρ
theorem frame_attn_reference : Cert.quiescent_AttnReferenceIdeal := fun m ρ _ =>
  (θ_run Cert.AttnReferenceIdeal.defs _ _).mono (fun r h => ⟨fun c => (h c).2, sem_eq_zero_of_no_sems (by decide) r.2⟩)
    (Cert.AttnReferenceIdeal.Value.run (F := Ideal) m ρ)

/-- The attention's frames under the precondition: they hold without it. -/
theorem frame_attn_ideal_valid : Cert.quiescent_AttnIdeal_pre_valid_attn (hPre_valid_attn := Cert.Pre_valid_attn.Hand.facts) := fun m ρ _ => Cert.AttnIdeal.Gen.frame m ρ
theorem frame_attn_reference_valid : Cert.quiescent_AttnReferenceIdeal_pre_valid_attn (hPre_valid_attn := Cert.Pre_valid_attn.Hand.facts) := fun m ρ _ => frame_attn_reference m ρ trivial

theorem claim : Cert.Claim := ⟨Cert.Kernel.Gen.facts, Cert.KernelWords.Gen.facts, Cert.KernelWordsIdeal.Gen.facts, Cert.ReferenceIdeal.Gen.facts, Cert.Inproj.Gen.facts, Cert.InprojIdeal.Gen.facts, Cert.InprojReferenceIdeal.Gen.facts, Cert.Mix.Gen.facts, Cert.MixIdeal.Gen.facts, Cert.MixReferenceIdeal.Gen.facts, Cert.Attn.Gen.facts, Cert.AttnIdeal.Gen.facts, Cert.AttnReferenceIdeal.Gen.facts, Cert.Pre_valid.Hand.facts, Cert.Pre_valid_attn.Hand.facts,
  frame_kernel, frame_words, frame_ideal, frame_ideal_valid, frame_reference, frame_reference_valid, frame_inproj, frame_inproj_ideal, frame_inproj_reference, frame_mix, frame_mix_ideal, frame_mix_reference, frame_attn, frame_attn_ideal, frame_attn_ideal_valid, frame_attn_reference, frame_attn_reference_valid, preserves, algebraic, trivial, algebraic_inproj, trivial, algebraic_mix, trivial,
  letI := Cert.Pre_valid_attn.Hand.facts; algebraic_attn⟩

end Cert.Proof

end
